-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss [hPre_finite_loss : Cert.Pre_finite_loss.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))) = (fun _ => 1#1)

def Pre_FlashBwd (m : (ℓ : Loc Cert.FlashBwd.nD Cert.FlashBwd.τ Cert.FlashBwd.sig) → Buf (Elt Bits) ℓ) : Prop :=
  True

def Pre_FlashBwdIdeal (m : (ℓ : Loc Cert.FlashBwdIdeal.nD Cert.FlashBwdIdeal.τ Cert.FlashBwdIdeal.sig) → Buf (Elt Ideal) ℓ) : Prop :=
  True

def Pre_FlashBwdIdeal_finite_flash [hPre_finite_flash : Cert.Pre_finite_flash.Facts] (m : (ℓ : Loc Cert.FlashBwdIdeal.nD Cert.FlashBwdIdeal.τ Cert.FlashBwdIdeal.sig) → Buf (Elt Ideal) ℓ) : Prop :=
  ∀ c : Dev Cert.FlashBwdIdeal.nD,
    (Cert.Pre_finite_flash.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3)) (m ((c.tc : Thread Cert.FlashBwdIdeal.nD Cert.FlashBwdIdeal.τ).loc Cert.FlashBwdIdeal.main_arg4))) = (fun _ => 1#1)

def Pre_FlashBwdRefIdeal (m : (ℓ : Loc Cert.FlashBwdRefIdeal.nD Cert.FlashBwdRefIdeal.τ Cert.FlashBwdRefIdeal.sig) → Buf (Elt Ideal) ℓ) : Prop :=
  True

def Pre_FlashBwdRefIdeal_finite_flash [hPre_finite_flash : Cert.Pre_finite_flash.Facts] (m : (ℓ : Loc Cert.FlashBwdRefIdeal.nD Cert.FlashBwdRefIdeal.τ Cert.FlashBwdRefIdeal.sig) → Buf (Elt Ideal) ℓ) : Prop :=
  ∀ c : Dev Cert.FlashBwdRefIdeal.nD,
    (Cert.Pre_finite_flash.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3)) (m ((c.tc : Thread Cert.FlashBwdRefIdeal.nD Cert.FlashBwdRefIdeal.τ).loc Cert.FlashBwdRefIdeal.main_arg4))) = (fun _ => 1#1)

def Pre_QBwd (m : (ℓ : Loc Cert.QBwd.nD Cert.QBwd.τ Cert.QBwd.sig) → Buf (Elt Bits) ℓ) : Prop :=
  True

def Pre_QBwdIdeal (m : (ℓ : Loc Cert.QBwdIdeal.nD Cert.QBwdIdeal.τ Cert.QBwdIdeal.sig) → Buf (Elt Ideal) ℓ) : Prop :=
  True

def Pre_QBwdIdeal_finite_q [hPre_finite_q : Cert.Pre_finite_q.Facts] (m : (ℓ : Loc Cert.QBwdIdeal.nD Cert.QBwdIdeal.τ Cert.QBwdIdeal.sig) → Buf (Elt Ideal) ℓ) : Prop :=
  ∀ c : Dev Cert.QBwdIdeal.nD,
    (Cert.Pre_finite_q.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4))) = (fun _ => 1#1)

def Pre_QBwdRefIdeal (m : (ℓ : Loc Cert.QBwdRefIdeal.nD Cert.QBwdRefIdeal.τ Cert.QBwdRefIdeal.sig) → Buf (Elt Ideal) ℓ) : Prop :=
  True

def Pre_QBwdRefIdeal_finite_q [hPre_finite_q : Cert.Pre_finite_q.Facts] (m : (ℓ : Loc Cert.QBwdRefIdeal.nD Cert.QBwdRefIdeal.τ Cert.QBwdRefIdeal.sig) → Buf (Elt Ideal) ℓ) : Prop :=
  ∀ c : Dev Cert.QBwdRefIdeal.nD,
    (Cert.Pre_finite_q.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))) = (fun _ => 1#1)

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdIdeal_finite_ple [hPre_finite_ple : Cert.Pre_finite_ple.Facts] (m : (ℓ : Loc Cert.PleBwdIdeal.nD Cert.PleBwdIdeal.τ Cert.PleBwdIdeal.sig) → Buf (Elt Ideal) ℓ) : Prop :=
  ∀ c : Dev Cert.PleBwdIdeal.nD,
    (Cert.Pre_finite_ple.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5))) = (fun _ => 1#1)

def Pre_PleBwdRefIdeal (m : (ℓ : Loc Cert.PleBwdRefIdeal.nD Cert.PleBwdRefIdeal.τ Cert.PleBwdRefIdeal.sig) → Buf (Elt Ideal) ℓ) : Prop :=
  True

def Pre_PleBwdRefIdeal_finite_ple [hPre_finite_ple : Cert.Pre_finite_ple.Facts] (m : (ℓ : Loc Cert.PleBwdRefIdeal.nD Cert.PleBwdRefIdeal.τ Cert.PleBwdRefIdeal.sig) → Buf (Elt Ideal) ℓ) : Prop :=
  ∀ c : Dev Cert.PleBwdRefIdeal.nD,
    (Cert.Pre_finite_ple.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5))) = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite_out [hPre_finite_out : Cert.Pre_finite_out.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2))) = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_finite_out [hPre_finite_out : Cert.Pre_finite_out.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_finite_out.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2))) = (fun _ => 1#1)

def Pre_QFwd (m : (ℓ : Loc Cert.QFwd.nD Cert.QFwd.τ Cert.QFwd.sig) → Buf (Elt Bits) ℓ) : Prop :=
  True

def Pre_QFwdIdeal (m : (ℓ : Loc Cert.QFwdIdeal.nD Cert.QFwdIdeal.τ Cert.QFwdIdeal.sig) → Buf (Elt Ideal) ℓ) : Prop :=
  True

def Pre_QFwdRefIdeal (m : (ℓ : Loc Cert.QFwdRefIdeal.nD Cert.QFwdRefIdeal.τ Cert.QFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def Pre_KvFwd (m : (ℓ : Loc Cert.KvFwd.nD Cert.KvFwd.τ Cert.KvFwd.sig) → Buf (Elt Bits) ℓ) : Prop :=
  True

def Pre_KvFwdIdeal (m : (ℓ : Loc Cert.KvFwdIdeal.nD Cert.KvFwdIdeal.τ Cert.KvFwdIdeal.sig) → Buf (Elt Ideal) ℓ) : Prop :=
  True

def Pre_KvFwdIdeal_finite_cache [hPre_finite_cache : Cert.Pre_finite_cache.Facts] (m : (ℓ : Loc Cert.KvFwdIdeal.nD Cert.KvFwdIdeal.τ Cert.KvFwdIdeal.sig) → Buf (Elt Ideal) ℓ) : Prop :=
  ∀ c : Dev Cert.KvFwdIdeal.nD,
    (Cert.Pre_finite_cache.fn (F := Ideal) (m ((c.tc : Thread Cert.KvFwdIdeal.nD Cert.KvFwdIdeal.τ).loc Cert.KvFwdIdeal.main_arg0)) (m ((c.tc : Thread Cert.KvFwdIdeal.nD Cert.KvFwdIdeal.τ).loc Cert.KvFwdIdeal.main_arg1)) (m ((c.tc : Thread Cert.KvFwdIdeal.nD Cert.KvFwdIdeal.τ).loc Cert.KvFwdIdeal.main_arg2)) (m ((c.tc : Thread Cert.KvFwdIdeal.nD Cert.KvFwdIdeal.τ).loc Cert.KvFwdIdeal.main_arg3))) = (fun _ => 1#1)

def Pre_KvFwdRefIdeal (m : (ℓ : Loc Cert.KvFwdRefIdeal.nD Cert.KvFwdRefIdeal.τ Cert.KvFwdRefIdeal.sig) → Buf (Elt Ideal) ℓ) : Prop :=
  True

def Pre_KvFwdRefIdeal_finite_cache [hPre_finite_cache : Cert.Pre_finite_cache.Facts] (m : (ℓ : Loc Cert.KvFwdRefIdeal.nD Cert.KvFwdRefIdeal.τ Cert.KvFwdRefIdeal.sig) → Buf (Elt Ideal) ℓ) : Prop :=
  ∀ c : Dev Cert.KvFwdRefIdeal.nD,
    (Cert.Pre_finite_cache.fn (F := Ideal) (m ((c.tc : Thread Cert.KvFwdRefIdeal.nD Cert.KvFwdRefIdeal.τ).loc Cert.KvFwdRefIdeal.main_arg0)) (m ((c.tc : Thread Cert.KvFwdRefIdeal.nD Cert.KvFwdRefIdeal.τ).loc Cert.KvFwdRefIdeal.main_arg1)) (m ((c.tc : Thread Cert.KvFwdRefIdeal.nD Cert.KvFwdRefIdeal.τ).loc Cert.KvFwdRefIdeal.main_arg2)) (m ((c.tc : Thread Cert.KvFwdRefIdeal.nD Cert.KvFwdRefIdeal.τ).loc Cert.KvFwdRefIdeal.main_arg3))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_QGrad (m : (ℓ : Loc Cert.QGrad.nD Cert.QGrad.τ Cert.QGrad.sig) → Buf (Elt Bits) ℓ) : Prop :=
  True

def Pre_QGradIdeal (m : (ℓ : Loc Cert.QGradIdeal.nD Cert.QGradIdeal.τ Cert.QGradIdeal.sig) → Buf (Elt Ideal) ℓ) : Prop :=
  True

def Pre_QGradRefIdeal (m : (ℓ : Loc Cert.QGradRefIdeal.nD Cert.QGradRefIdeal.τ Cert.QGradRefIdeal.sig) → Buf (Elt Ideal) ℓ) : Prop :=
  True

def Pre_W2Grad (m : (ℓ : Loc Cert.W2Grad.nD Cert.W2Grad.τ Cert.W2Grad.sig) → Buf (Elt Bits) ℓ) : Prop :=
  True

def Pre_W2GradIdeal (m : (ℓ : Loc Cert.W2GradIdeal.nD Cert.W2GradIdeal.τ Cert.W2GradIdeal.sig) → Buf (Elt Ideal) ℓ) : Prop :=
  True

def Pre_W2GradRefIdeal (m : (ℓ : Loc Cert.W2GradRefIdeal.nD Cert.W2GradRefIdeal.τ Cert.W2GradRefIdeal.sig) → Buf (Elt Ideal) ℓ) : Prop :=
  True

def Pre_CacheGrad (m : (ℓ : Loc Cert.CacheGrad.nD Cert.CacheGrad.τ Cert.CacheGrad.sig) → Buf (Elt Bits) ℓ) : Prop :=
  True

def Pre_CacheGradIdeal (m : (ℓ : Loc Cert.CacheGradIdeal.nD Cert.CacheGradIdeal.τ Cert.CacheGradIdeal.sig) → Buf (Elt Ideal) ℓ) : Prop :=
  True

def Pre_CacheGradRefIdeal (m : (ℓ : Loc Cert.CacheGradRefIdeal.nD Cert.CacheGradRefIdeal.τ Cert.CacheGradRefIdeal.sig) → Buf (Elt Ideal) ℓ) : Prop :=
  True

def Pre_ForgetGrad (m : (ℓ : Loc Cert.ForgetGrad.nD Cert.ForgetGrad.τ Cert.ForgetGrad.sig) → Buf (Elt Bits) ℓ) : Prop :=
  True

def Pre_ForgetGradIdeal (m : (ℓ : Loc Cert.ForgetGradIdeal.nD Cert.ForgetGradIdeal.τ Cert.ForgetGradIdeal.sig) → Buf (Elt Ideal) ℓ) : Prop :=
  True

def Pre_ForgetGradRefIdeal (m : (ℓ : Loc Cert.ForgetGradRefIdeal.nD Cert.ForgetGradRefIdeal.τ Cert.ForgetGradRefIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradRefIdeal (m : (ℓ : Loc Cert.GateGradRefIdeal.nD Cert.GateGradRefIdeal.τ Cert.GateGradRefIdeal.sig) → Buf (Elt Ideal) ℓ) : Prop :=
  True

def Pre_W1Grad (m : (ℓ : Loc Cert.W1Grad.nD Cert.W1Grad.τ Cert.W1Grad.sig) → Buf (Elt Bits) ℓ) : Prop :=
  True

def Pre_W1GradIdeal (m : (ℓ : Loc Cert.W1GradIdeal.nD Cert.W1GradIdeal.τ Cert.W1GradIdeal.sig) → Buf (Elt Ideal) ℓ) : Prop :=
  True

def Pre_W1GradRefIdeal (m : (ℓ : Loc Cert.W1GradRefIdeal.nD Cert.W1GradRefIdeal.τ Cert.W1GradRefIdeal.sig) → Buf (Elt Ideal) ℓ) : Prop :=
  True

def Pre_ConvGrad (m : (ℓ : Loc Cert.ConvGrad.nD Cert.ConvGrad.τ Cert.ConvGrad.sig) → Buf (Elt Bits) ℓ) : Prop :=
  True

def Pre_ConvGradIdeal (m : (ℓ : Loc Cert.ConvGradIdeal.nD Cert.ConvGradIdeal.τ Cert.ConvGradIdeal.sig) → Buf (Elt Ideal) ℓ) : Prop :=
  True

def Pre_ConvGradRefIdeal (m : (ℓ : Loc Cert.ConvGradRefIdeal.nD Cert.ConvGradRefIdeal.τ Cert.ConvGradRefIdeal.sig) → Buf (Elt Ideal) ℓ) : Prop :=
  True

def Pre_ProjGrad (m : (ℓ : Loc Cert.ProjGrad.nD Cert.ProjGrad.τ Cert.ProjGrad.sig) → Buf (Elt Bits) ℓ) : Prop :=
  True

def Pre_ProjGradIdeal (m : (ℓ : Loc Cert.ProjGradIdeal.nD Cert.ProjGradIdeal.τ Cert.ProjGradIdeal.sig) → Buf (Elt Ideal) ℓ) : Prop :=
  True

def Pre_ProjGradRefIdeal (m : (ℓ : Loc Cert.ProjGradRefIdeal.nD Cert.ProjGradRefIdeal.τ Cert.ProjGradRefIdeal.sig) → Buf (Elt Ideal) ℓ) : Prop :=
  True

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_finite_loss [hLossHeadRefIdeal : Cert.LossHeadRefIdeal.Facts] [hPre_finite_loss : Cert.Pre_finite_loss.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_FlashBwd [hFlashBwd : Cert.FlashBwd.Facts] : Prop :=
  ∀ (m : (ℓ : Loc Cert.FlashBwd.nD Cert.FlashBwd.τ Cert.FlashBwd.sig) → Buf (Elt Bits) ℓ) (g : Dev Cert.FlashBwd.nD → PrngReg), Pre_FlashBwd m →
    θ_run (Cert.FlashBwd.defs (F := Bits)) (onTc (τ := Cert.FlashBwd.τ) (Cert.FlashBwd.main (F := Bits))) ⟨m, fun _ => 0, g⟩ (fun r => (∀ c : Dev Cert.FlashBwd.nD,
      r.2.mem ((c.tc : Thread Cert.FlashBwd.nD Cert.FlashBwd.τ).loc Cert.FlashBwd.main_arg0) = m ((c.tc : Thread Cert.FlashBwd.nD Cert.FlashBwd.τ).loc Cert.FlashBwd.main_arg0)
      ∧ r.2.mem ((c.tc : Thread Cert.FlashBwd.nD Cert.FlashBwd.τ).loc Cert.FlashBwd.main_arg1) = m ((c.tc : Thread Cert.FlashBwd.nD Cert.FlashBwd.τ).loc Cert.FlashBwd.main_arg1)
      ∧ r.2.mem ((c.tc : Thread Cert.FlashBwd.nD Cert.FlashBwd.τ).loc Cert.FlashBwd.main_arg2) = m ((c.tc : Thread Cert.FlashBwd.nD Cert.FlashBwd.τ).loc Cert.FlashBwd.main_arg2)
      ∧ r.2.mem ((c.tc : Thread Cert.FlashBwd.nD Cert.FlashBwd.τ).loc Cert.FlashBwd.main_arg3) = m ((c.tc : Thread Cert.FlashBwd.nD Cert.FlashBwd.τ).loc Cert.FlashBwd.main_arg3)
      ∧ r.2.mem ((c.tc : Thread Cert.FlashBwd.nD Cert.FlashBwd.τ).loc Cert.FlashBwd.main_arg4) = m ((c.tc : Thread Cert.FlashBwd.nD Cert.FlashBwd.τ).loc Cert.FlashBwd.main_arg4))
      ∧ r.2.sem = fun _ => 0)

def quiescent_FlashBwdIdeal [hFlashBwdIdeal : Cert.FlashBwdIdeal.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3)
      ∧ r.2.mem ((c.tc : Thread Cert.FlashBwdIdeal.nD Cert.FlashBwdIdeal.τ).loc Cert.FlashBwdIdeal.main_arg4) = m ((c.tc : Thread Cert.FlashBwdIdeal.nD Cert.FlashBwdIdeal.τ).loc Cert.FlashBwdIdeal.main_arg4))
      ∧ r.2.sem = fun _ => 0)

def quiescent_FlashBwdIdeal_pre_finite_flash [hFlashBwdIdeal : Cert.FlashBwdIdeal.Facts] [hPre_finite_flash : Cert.Pre_finite_flash.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal_finite_flash m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3)
      ∧ r.2.mem ((c.tc : Thread Cert.FlashBwdIdeal.nD Cert.FlashBwdIdeal.τ).loc Cert.FlashBwdIdeal.main_arg4) = m ((c.tc : Thread Cert.FlashBwdIdeal.nD Cert.FlashBwdIdeal.τ).loc Cert.FlashBwdIdeal.main_arg4))
      ∧ r.2.sem = fun _ => 0)

def quiescent_FlashBwdRefIdeal [hFlashBwdRefIdeal : Cert.FlashBwdRefIdeal.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3)
      ∧ r.2.mem ((c.tc : Thread Cert.FlashBwdRefIdeal.nD Cert.FlashBwdRefIdeal.τ).loc Cert.FlashBwdRefIdeal.main_arg4) = m ((c.tc : Thread Cert.FlashBwdRefIdeal.nD Cert.FlashBwdRefIdeal.τ).loc Cert.FlashBwdRefIdeal.main_arg4))
      ∧ r.2.sem = fun _ => 0)

def quiescent_FlashBwdRefIdeal_pre_finite_flash [hFlashBwdRefIdeal : Cert.FlashBwdRefIdeal.Facts] [hPre_finite_flash : Cert.Pre_finite_flash.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal_finite_flash m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3)
      ∧ r.2.mem ((c.tc : Thread Cert.FlashBwdRefIdeal.nD Cert.FlashBwdRefIdeal.τ).loc Cert.FlashBwdRefIdeal.main_arg4) = m ((c.tc : Thread Cert.FlashBwdRefIdeal.nD Cert.FlashBwdRefIdeal.τ).loc Cert.FlashBwdRefIdeal.main_arg4))
      ∧ r.2.sem = fun _ => 0)

def quiescent_QBwd [hQBwd : Cert.QBwd.Facts] : Prop :=
  ∀ (m : (ℓ : Loc Cert.QBwd.nD Cert.QBwd.τ Cert.QBwd.sig) → Buf (Elt Bits) ℓ) (g : Dev Cert.QBwd.nD → PrngReg), Pre_QBwd m →
    θ_run (Cert.QBwd.defs (F := Bits)) (onTc (τ := Cert.QBwd.τ) (Cert.QBwd.main (F := Bits))) ⟨m, fun _ => 0, g⟩ (fun r => (∀ c : Dev Cert.QBwd.nD,
      r.2.mem ((c.tc : Thread Cert.QBwd.nD Cert.QBwd.τ).loc Cert.QBwd.main_arg0) = m ((c.tc : Thread Cert.QBwd.nD Cert.QBwd.τ).loc Cert.QBwd.main_arg0)
      ∧ r.2.mem ((c.tc : Thread Cert.QBwd.nD Cert.QBwd.τ).loc Cert.QBwd.main_arg1) = m ((c.tc : Thread Cert.QBwd.nD Cert.QBwd.τ).loc Cert.QBwd.main_arg1)
      ∧ r.2.mem ((c.tc : Thread Cert.QBwd.nD Cert.QBwd.τ).loc Cert.QBwd.main_arg2) = m ((c.tc : Thread Cert.QBwd.nD Cert.QBwd.τ).loc Cert.QBwd.main_arg2)
      ∧ r.2.mem ((c.tc : Thread Cert.QBwd.nD Cert.QBwd.τ).loc Cert.QBwd.main_arg3) = m ((c.tc : Thread Cert.QBwd.nD Cert.QBwd.τ).loc Cert.QBwd.main_arg3)
      ∧ r.2.mem ((c.tc : Thread Cert.QBwd.nD Cert.QBwd.τ).loc Cert.QBwd.main_arg4) = m ((c.tc : Thread Cert.QBwd.nD Cert.QBwd.τ).loc Cert.QBwd.main_arg4))
      ∧ r.2.sem = fun _ => 0)

def quiescent_QBwdIdeal [hQBwdIdeal : Cert.QBwdIdeal.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
      ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
      ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
      ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4))
      ∧ r.2.sem = fun _ => 0)

def quiescent_QBwdIdeal_pre_finite_q [hQBwdIdeal : Cert.QBwdIdeal.Facts] [hPre_finite_q : Cert.Pre_finite_q.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal_finite_q m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
      ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
      ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
      ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4))
      ∧ r.2.sem = fun _ => 0)

def quiescent_QBwdRefIdeal [hQBwdRefIdeal : Cert.QBwdRefIdeal.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1)
      ∧ r.2.mem ((c.tc : Thread Cert.QBwdRefIdeal.nD Cert.QBwdRefIdeal.τ).loc Cert.QBwdRefIdeal.main_arg2) = m ((c.tc : Thread Cert.QBwdRefIdeal.nD Cert.QBwdRefIdeal.τ).loc Cert.QBwdRefIdeal.main_arg2)
      ∧ r.2.mem ((c.tc : Thread Cert.QBwdRefIdeal.nD Cert.QBwdRefIdeal.τ).loc Cert.QBwdRefIdeal.main_arg3) = m ((c.tc : Thread Cert.QBwdRefIdeal.nD Cert.QBwdRefIdeal.τ).loc Cert.QBwdRefIdeal.main_arg3)
      ∧ r.2.mem ((c.tc : Thread Cert.QBwdRefIdeal.nD Cert.QBwdRefIdeal.τ).loc Cert.QBwdRefIdeal.main_arg4) = m ((c.tc : Thread Cert.QBwdRefIdeal.nD Cert.QBwdRefIdeal.τ).loc Cert.QBwdRefIdeal.main_arg4))
      ∧ r.2.sem = fun _ => 0)

def quiescent_QBwdRefIdeal_pre_finite_q [hQBwdRefIdeal : Cert.QBwdRefIdeal.Facts] [hPre_finite_q : Cert.Pre_finite_q.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal_finite_q m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1)
      ∧ r.2.mem ((c.tc : Thread Cert.QBwdRefIdeal.nD Cert.QBwdRefIdeal.τ).loc Cert.QBwdRefIdeal.main_arg2) = m ((c.tc : Thread Cert.QBwdRefIdeal.nD Cert.QBwdRefIdeal.τ).loc Cert.QBwdRefIdeal.main_arg2)
      ∧ r.2.mem ((c.tc : Thread Cert.QBwdRefIdeal.nD Cert.QBwdRefIdeal.τ).loc Cert.QBwdRefIdeal.main_arg3) = m ((c.tc : Thread Cert.QBwdRefIdeal.nD Cert.QBwdRefIdeal.τ).loc Cert.QBwdRefIdeal.main_arg3)
      ∧ r.2.mem ((c.tc : Thread Cert.QBwdRefIdeal.nD Cert.QBwdRefIdeal.τ).loc Cert.QBwdRefIdeal.main_arg4) = m ((c.tc : Thread Cert.QBwdRefIdeal.nD Cert.QBwdRefIdeal.τ).loc Cert.QBwdRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4)
      ∧ r.2.mem ((c.tc : Thread Cert.PleBwd.nD Cert.PleBwd.τ).loc Cert.PleBwd.main_arg5) = m ((c.tc : Thread Cert.PleBwd.nD Cert.PleBwd.τ).loc Cert.PleBwd.main_arg5))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ r.2.sem = fun _ => 0)

def quiescent_PleBwdIdeal_pre_finite_ple [hPleBwdIdeal : Cert.PleBwdIdeal.Facts] [hPre_finite_ple : Cert.Pre_finite_ple.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal_finite_ple m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ r.2.sem = fun _ => 0)

def quiescent_PleBwdRefIdeal [hPleBwdRefIdeal : Cert.PleBwdRefIdeal.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2)
      ∧ r.2.mem ((c.tc : Thread Cert.PleBwdRefIdeal.nD Cert.PleBwdRefIdeal.τ).loc Cert.PleBwdRefIdeal.main_arg3) = m ((c.tc : Thread Cert.PleBwdRefIdeal.nD Cert.PleBwdRefIdeal.τ).loc Cert.PleBwdRefIdeal.main_arg3)
      ∧ r.2.mem ((c.tc : Thread Cert.PleBwdRefIdeal.nD Cert.PleBwdRefIdeal.τ).loc Cert.PleBwdRefIdeal.main_arg4) = m ((c.tc : Thread Cert.PleBwdRefIdeal.nD Cert.PleBwdRefIdeal.τ).loc Cert.PleBwdRefIdeal.main_arg4)
      ∧ r.2.mem ((c.tc : Thread Cert.PleBwdRefIdeal.nD Cert.PleBwdRefIdeal.τ).loc Cert.PleBwdRefIdeal.main_arg5) = m ((c.tc : Thread Cert.PleBwdRefIdeal.nD Cert.PleBwdRefIdeal.τ).loc Cert.PleBwdRefIdeal.main_arg5))
      ∧ r.2.sem = fun _ => 0)

def quiescent_PleBwdRefIdeal_pre_finite_ple [hPleBwdRefIdeal : Cert.PleBwdRefIdeal.Facts] [hPre_finite_ple : Cert.Pre_finite_ple.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal_finite_ple m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2)
      ∧ r.2.mem ((c.tc : Thread Cert.PleBwdRefIdeal.nD Cert.PleBwdRefIdeal.τ).loc Cert.PleBwdRefIdeal.main_arg3) = m ((c.tc : Thread Cert.PleBwdRefIdeal.nD Cert.PleBwdRefIdeal.τ).loc Cert.PleBwdRefIdeal.main_arg3)
      ∧ r.2.mem ((c.tc : Thread Cert.PleBwdRefIdeal.nD Cert.PleBwdRefIdeal.τ).loc Cert.PleBwdRefIdeal.main_arg4) = m ((c.tc : Thread Cert.PleBwdRefIdeal.nD Cert.PleBwdRefIdeal.τ).loc Cert.PleBwdRefIdeal.main_arg4)
      ∧ r.2.mem ((c.tc : Thread Cert.PleBwdRefIdeal.nD Cert.PleBwdRefIdeal.τ).loc Cert.PleBwdRefIdeal.main_arg5) = m ((c.tc : Thread Cert.PleBwdRefIdeal.nD Cert.PleBwdRefIdeal.τ).loc Cert.PleBwdRefIdeal.main_arg5))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ r.2.sem = fun _ => 0)

def quiescent_OutBwdIdeal_pre_finite_out [hOutBwdIdeal : Cert.OutBwdIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite_out m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2))
      ∧ r.2.sem = fun _ => 0)

def quiescent_OutBwdRefIdeal_pre_finite_out [hOutBwdRefIdeal : Cert.OutBwdRefIdeal.Facts] [hPre_finite_out : Cert.Pre_finite_out.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_finite_out m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2))
      ∧ r.2.sem = fun _ => 0)

def quiescent_QFwd [hQFwd : Cert.QFwd.Facts] : Prop :=
  ∀ (m : (ℓ : Loc Cert.QFwd.nD Cert.QFwd.τ Cert.QFwd.sig) → Buf (Elt Bits) ℓ) (g : Dev Cert.QFwd.nD → PrngReg), Pre_QFwd m →
    θ_run (Cert.QFwd.defs (F := Bits)) (onTc (τ := Cert.QFwd.τ) (Cert.QFwd.main (F := Bits))) ⟨m, fun _ => 0, g⟩ (fun r => (∀ c : Dev Cert.QFwd.nD,
      r.2.mem ((c.tc : Thread Cert.QFwd.nD Cert.QFwd.τ).loc Cert.QFwd.main_arg0) = m ((c.tc : Thread Cert.QFwd.nD Cert.QFwd.τ).loc Cert.QFwd.main_arg0)
      ∧ r.2.mem ((c.tc : Thread Cert.QFwd.nD Cert.QFwd.τ).loc Cert.QFwd.main_arg1) = m ((c.tc : Thread Cert.QFwd.nD Cert.QFwd.τ).loc Cert.QFwd.main_arg1)
      ∧ r.2.mem ((c.tc : Thread Cert.QFwd.nD Cert.QFwd.τ).loc Cert.QFwd.main_arg2) = m ((c.tc : Thread Cert.QFwd.nD Cert.QFwd.τ).loc Cert.QFwd.main_arg2))
      ∧ r.2.sem = fun _ => 0)

def quiescent_QFwdIdeal [hQFwdIdeal : Cert.QFwdIdeal.Facts] : Prop :=
  ∀ (m : (ℓ : Loc Cert.QFwdIdeal.nD Cert.QFwdIdeal.τ Cert.QFwdIdeal.sig) → Buf (Elt Ideal) ℓ) (g : Dev Cert.QFwdIdeal.nD → PrngReg), Pre_QFwdIdeal m →
    θ_run (Cert.QFwdIdeal.defs (F := Ideal)) (onTc (τ := Cert.QFwdIdeal.τ) (Cert.QFwdIdeal.main (F := Ideal))) ⟨m, fun _ => 0, g⟩ (fun r => (∀ c : Dev Cert.QFwdIdeal.nD,
      r.2.mem ((c.tc : Thread Cert.QFwdIdeal.nD Cert.QFwdIdeal.τ).loc Cert.QFwdIdeal.main_arg0) = m ((c.tc : Thread Cert.QFwdIdeal.nD Cert.QFwdIdeal.τ).loc Cert.QFwdIdeal.main_arg0)
      ∧ r.2.mem ((c.tc : Thread Cert.QFwdIdeal.nD Cert.QFwdIdeal.τ).loc Cert.QFwdIdeal.main_arg1) = m ((c.tc : Thread Cert.QFwdIdeal.nD Cert.QFwdIdeal.τ).loc Cert.QFwdIdeal.main_arg1)
      ∧ r.2.mem ((c.tc : Thread Cert.QFwdIdeal.nD Cert.QFwdIdeal.τ).loc Cert.QFwdIdeal.main_arg2) = m ((c.tc : Thread Cert.QFwdIdeal.nD Cert.QFwdIdeal.τ).loc Cert.QFwdIdeal.main_arg2))
      ∧ r.2.sem = fun _ => 0)

def quiescent_QFwdRefIdeal [hQFwdRefIdeal : Cert.QFwdRefIdeal.Facts] : Prop :=
  ∀ (m : (ℓ : Loc Cert.QFwdRefIdeal.nD Cert.QFwdRefIdeal.τ Cert.QFwdRefIdeal.sig) → Buf (Elt Ideal) ℓ) (g : Dev Cert.QFwdRefIdeal.nD → PrngReg), Pre_QFwdRefIdeal m →
    θ_run (Cert.QFwdRefIdeal.defs (F := Ideal)) (onTc (τ := Cert.QFwdRefIdeal.τ) (Cert.QFwdRefIdeal.main (F := Ideal))) ⟨m, fun _ => 0, g⟩ (fun r => (∀ c : Dev Cert.QFwdRefIdeal.nD,
      r.2.mem ((c.tc : Thread Cert.QFwdRefIdeal.nD Cert.QFwdRefIdeal.τ).loc Cert.QFwdRefIdeal.main_arg0) = m ((c.tc : Thread Cert.QFwdRefIdeal.nD Cert.QFwdRefIdeal.τ).loc Cert.QFwdRefIdeal.main_arg0)
      ∧ r.2.mem ((c.tc : Thread Cert.QFwdRefIdeal.nD Cert.QFwdRefIdeal.τ).loc Cert.QFwdRefIdeal.main_arg1) = m ((c.tc : Thread Cert.QFwdRefIdeal.nD Cert.QFwdRefIdeal.τ).loc Cert.QFwdRefIdeal.main_arg1)
      ∧ r.2.mem ((c.tc : Thread Cert.QFwdRefIdeal.nD Cert.QFwdRefIdeal.τ).loc Cert.QFwdRefIdeal.main_arg2) = m ((c.tc : Thread Cert.QFwdRefIdeal.nD Cert.QFwdRefIdeal.τ).loc Cert.QFwdRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3)
      ∧ r.2.mem ((c.tc : Thread Cert.PleFwd.nD Cert.PleFwd.τ).loc Cert.PleFwd.main_arg4) = m ((c.tc : Thread Cert.PleFwd.nD Cert.PleFwd.τ).loc Cert.PleFwd.main_arg4))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3)
      ∧ r.2.mem ((c.tc : Thread Cert.PleFwdRefIdeal.nD Cert.PleFwdRefIdeal.τ).loc Cert.PleFwdRefIdeal.main_arg4) = m ((c.tc : Thread Cert.PleFwdRefIdeal.nD Cert.PleFwdRefIdeal.τ).loc Cert.PleFwdRefIdeal.main_arg4))
      ∧ r.2.sem = fun _ => 0)

def quiescent_KvFwd [hKvFwd : Cert.KvFwd.Facts] : Prop :=
  ∀ (m : (ℓ : Loc Cert.KvFwd.nD Cert.KvFwd.τ Cert.KvFwd.sig) → Buf (Elt Bits) ℓ) (g : Dev Cert.KvFwd.nD → PrngReg), Pre_KvFwd m →
    θ_run (Cert.KvFwd.defs (F := Bits)) (onTc (τ := Cert.KvFwd.τ) (Cert.KvFwd.main (F := Bits))) ⟨m, fun _ => 0, g⟩ (fun r => (∀ c : Dev Cert.KvFwd.nD,
      r.2.mem ((c.tc : Thread Cert.KvFwd.nD Cert.KvFwd.τ).loc Cert.KvFwd.main_arg0) = m ((c.tc : Thread Cert.KvFwd.nD Cert.KvFwd.τ).loc Cert.KvFwd.main_arg0)
      ∧ r.2.mem ((c.tc : Thread Cert.KvFwd.nD Cert.KvFwd.τ).loc Cert.KvFwd.main_arg1) = m ((c.tc : Thread Cert.KvFwd.nD Cert.KvFwd.τ).loc Cert.KvFwd.main_arg1)
      ∧ r.2.mem ((c.tc : Thread Cert.KvFwd.nD Cert.KvFwd.τ).loc Cert.KvFwd.main_arg2) = m ((c.tc : Thread Cert.KvFwd.nD Cert.KvFwd.τ).loc Cert.KvFwd.main_arg2)
      ∧ r.2.mem ((c.tc : Thread Cert.KvFwd.nD Cert.KvFwd.τ).loc Cert.KvFwd.main_arg3) = m ((c.tc : Thread Cert.KvFwd.nD Cert.KvFwd.τ).loc Cert.KvFwd.main_arg3))
      ∧ r.2.sem = fun _ => 0)

def quiescent_KvFwdIdeal [hKvFwdIdeal : Cert.KvFwdIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg), Pre_KvFwdIdeal m →
    θ_run (Cert.KvFwdIdeal.defs (F := Ideal)) (onTc (τ := Cert.KvFwdIdeal.τ) (Cert.KvFwdIdeal.main (F := Ideal))) ⟨m, fun _ => 0, g⟩ (fun r => (∀ c : Dev Cert.KvFwdIdeal.nD,
      r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
      ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
      ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2)
      ∧ r.2.mem ((c.tc : Thread Cert.KvFwdIdeal.nD Cert.KvFwdIdeal.τ).loc Cert.KvFwdIdeal.main_arg3) = m ((c.tc : Thread Cert.KvFwdIdeal.nD Cert.KvFwdIdeal.τ).loc Cert.KvFwdIdeal.main_arg3))
      ∧ r.2.sem = fun _ => 0)

def quiescent_KvFwdIdeal_pre_finite_cache [hKvFwdIdeal : Cert.KvFwdIdeal.Facts] [hPre_finite_cache : Cert.Pre_finite_cache.Facts] : Prop :=
  ∀ (m : (ℓ : Loc Cert.KvFwdIdeal.nD Cert.KvFwdIdeal.τ Cert.KvFwdIdeal.sig) → Buf (Elt Ideal) ℓ) (g : Dev Cert.KvFwdIdeal.nD → PrngReg), Pre_KvFwdIdeal_finite_cache m →
    θ_run (Cert.KvFwdIdeal.defs (F := Ideal)) (onTc (τ := Cert.KvFwdIdeal.τ) (Cert.KvFwdIdeal.main (F := Ideal))) ⟨m, fun _ => 0, g⟩ (fun r => (∀ c : Dev Cert.KvFwdIdeal.nD,
      r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
      ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
      ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2)
      ∧ r.2.mem ((c.tc : Thread Cert.KvFwdIdeal.nD Cert.KvFwdIdeal.τ).loc Cert.KvFwdIdeal.main_arg3) = m ((c.tc : Thread Cert.KvFwdIdeal.nD Cert.KvFwdIdeal.τ).loc Cert.KvFwdIdeal.main_arg3))
      ∧ r.2.sem = fun _ => 0)

def quiescent_KvFwdRefIdeal [hKvFwdRefIdeal : Cert.KvFwdRefIdeal.Facts] : Prop :=
  ∀ (m : (ℓ : Loc Cert.KvFwdRefIdeal.nD Cert.KvFwdRefIdeal.τ Cert.KvFwdRefIdeal.sig) → Buf (Elt Ideal) ℓ) (g : Dev Cert.KvFwdRefIdeal.nD → PrngReg), Pre_KvFwdRefIdeal m →
    θ_run (Cert.KvFwdRefIdeal.defs (F := Ideal)) (onTc (τ := Cert.KvFwdRefIdeal.τ) (Cert.KvFwdRefIdeal.main (F := Ideal))) ⟨m, fun _ => 0, g⟩ (fun r => (∀ c : Dev Cert.KvFwdRefIdeal.nD,
      r.2.mem ((c.tc : Thread Cert.KvFwdRefIdeal.nD Cert.KvFwdRefIdeal.τ).loc Cert.KvFwdRefIdeal.main_arg0) = m ((c.tc : Thread Cert.KvFwdRefIdeal.nD Cert.KvFwdRefIdeal.τ).loc Cert.KvFwdRefIdeal.main_arg0)
      ∧ r.2.mem ((c.tc : Thread Cert.KvFwdRefIdeal.nD Cert.KvFwdRefIdeal.τ).loc Cert.KvFwdRefIdeal.main_arg1) = m ((c.tc : Thread Cert.KvFwdRefIdeal.nD Cert.KvFwdRefIdeal.τ).loc Cert.KvFwdRefIdeal.main_arg1)
      ∧ r.2.mem ((c.tc : Thread Cert.KvFwdRefIdeal.nD Cert.KvFwdRefIdeal.τ).loc Cert.KvFwdRefIdeal.main_arg2) = m ((c.tc : Thread Cert.KvFwdRefIdeal.nD Cert.KvFwdRefIdeal.τ).loc Cert.KvFwdRefIdeal.main_arg2)
      ∧ r.2.mem ((c.tc : Thread Cert.KvFwdRefIdeal.nD Cert.KvFwdRefIdeal.τ).loc Cert.KvFwdRefIdeal.main_arg3) = m ((c.tc : Thread Cert.KvFwdRefIdeal.nD Cert.KvFwdRefIdeal.τ).loc Cert.KvFwdRefIdeal.main_arg3))
      ∧ r.2.sem = fun _ => 0)

def quiescent_KvFwdRefIdeal_pre_finite_cache [hKvFwdRefIdeal : Cert.KvFwdRefIdeal.Facts] [hPre_finite_cache : Cert.Pre_finite_cache.Facts] : Prop :=
  ∀ (m : (ℓ : Loc Cert.KvFwdRefIdeal.nD Cert.KvFwdRefIdeal.τ Cert.KvFwdRefIdeal.sig) → Buf (Elt Ideal) ℓ) (g : Dev Cert.KvFwdRefIdeal.nD → PrngReg), Pre_KvFwdRefIdeal_finite_cache m →
    θ_run (Cert.KvFwdRefIdeal.defs (F := Ideal)) (onTc (τ := Cert.KvFwdRefIdeal.τ) (Cert.KvFwdRefIdeal.main (F := Ideal))) ⟨m, fun _ => 0, g⟩ (fun r => (∀ c : Dev Cert.KvFwdRefIdeal.nD,
      r.2.mem ((c.tc : Thread Cert.KvFwdRefIdeal.nD Cert.KvFwdRefIdeal.τ).loc Cert.KvFwdRefIdeal.main_arg0) = m ((c.tc : Thread Cert.KvFwdRefIdeal.nD Cert.KvFwdRefIdeal.τ).loc Cert.KvFwdRefIdeal.main_arg0)
      ∧ r.2.mem ((c.tc : Thread Cert.KvFwdRefIdeal.nD Cert.KvFwdRefIdeal.τ).loc Cert.KvFwdRefIdeal.main_arg1) = m ((c.tc : Thread Cert.KvFwdRefIdeal.nD Cert.KvFwdRefIdeal.τ).loc Cert.KvFwdRefIdeal.main_arg1)
      ∧ r.2.mem ((c.tc : Thread Cert.KvFwdRefIdeal.nD Cert.KvFwdRefIdeal.τ).loc Cert.KvFwdRefIdeal.main_arg2) = m ((c.tc : Thread Cert.KvFwdRefIdeal.nD Cert.KvFwdRefIdeal.τ).loc Cert.KvFwdRefIdeal.main_arg2)
      ∧ r.2.mem ((c.tc : Thread Cert.KvFwdRefIdeal.nD Cert.KvFwdRefIdeal.τ).loc Cert.KvFwdRefIdeal.main_arg3) = m ((c.tc : Thread Cert.KvFwdRefIdeal.nD Cert.KvFwdRefIdeal.τ).loc Cert.KvFwdRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4)
      ∧ r.2.mem ((c.tc : Thread Cert.ConvFwd.nD Cert.ConvFwd.τ).loc Cert.ConvFwd.main_arg5) = m ((c.tc : Thread Cert.ConvFwd.nD Cert.ConvFwd.τ).loc Cert.ConvFwd.main_arg5)
      ∧ r.2.mem ((c.tc : Thread Cert.ConvFwd.nD Cert.ConvFwd.τ).loc Cert.ConvFwd.main_arg6) = m ((c.tc : Thread Cert.ConvFwd.nD Cert.ConvFwd.τ).loc Cert.ConvFwd.main_arg6)
      ∧ r.2.mem ((c.tc : Thread Cert.ConvFwd.nD Cert.ConvFwd.τ).loc Cert.ConvFwd.main_arg7) = m ((c.tc : Thread Cert.ConvFwd.nD Cert.ConvFwd.τ).loc Cert.ConvFwd.main_arg7)
      ∧ r.2.mem ((c.tc : Thread Cert.ConvFwd.nD Cert.ConvFwd.τ).loc Cert.ConvFwd.main_arg8) = m ((c.tc : Thread Cert.ConvFwd.nD Cert.ConvFwd.τ).loc Cert.ConvFwd.main_arg8)
      ∧ r.2.mem ((c.tc : Thread Cert.ConvFwd.nD Cert.ConvFwd.τ).loc Cert.ConvFwd.main_arg9) = m ((c.tc : Thread Cert.ConvFwd.nD Cert.ConvFwd.τ).loc Cert.ConvFwd.main_arg9))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
      ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5)
      ∧ r.2.mem ((c.tc : Thread Cert.ConvFwdIdeal.nD Cert.ConvFwdIdeal.τ).loc Cert.ConvFwdIdeal.main_arg6) = m ((c.tc : Thread Cert.ConvFwdIdeal.nD Cert.ConvFwdIdeal.τ).loc Cert.ConvFwdIdeal.main_arg6)
      ∧ r.2.mem ((c.tc : Thread Cert.ConvFwdIdeal.nD Cert.ConvFwdIdeal.τ).loc Cert.ConvFwdIdeal.main_arg7) = m ((c.tc : Thread Cert.ConvFwdIdeal.nD Cert.ConvFwdIdeal.τ).loc Cert.ConvFwdIdeal.main_arg7)
      ∧ r.2.mem ((c.tc : Thread Cert.ConvFwdIdeal.nD Cert.ConvFwdIdeal.τ).loc Cert.ConvFwdIdeal.main_arg8) = m ((c.tc : Thread Cert.ConvFwdIdeal.nD Cert.ConvFwdIdeal.τ).loc Cert.ConvFwdIdeal.main_arg8)
      ∧ r.2.mem ((c.tc : Thread Cert.ConvFwdIdeal.nD Cert.ConvFwdIdeal.τ).loc Cert.ConvFwdIdeal.main_arg9) = m ((c.tc : Thread Cert.ConvFwdIdeal.nD Cert.ConvFwdIdeal.τ).loc Cert.ConvFwdIdeal.main_arg9))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4)
      ∧ r.2.mem ((c.tc : Thread Cert.ConvFwdRefIdeal.nD Cert.ConvFwdRefIdeal.τ).loc Cert.ConvFwdRefIdeal.main_arg5) = m ((c.tc : Thread Cert.ConvFwdRefIdeal.nD Cert.ConvFwdRefIdeal.τ).loc Cert.ConvFwdRefIdeal.main_arg5)
      ∧ r.2.mem ((c.tc : Thread Cert.ConvFwdRefIdeal.nD Cert.ConvFwdRefIdeal.τ).loc Cert.ConvFwdRefIdeal.main_arg6) = m ((c.tc : Thread Cert.ConvFwdRefIdeal.nD Cert.ConvFwdRefIdeal.τ).loc Cert.ConvFwdRefIdeal.main_arg6)
      ∧ r.2.mem ((c.tc : Thread Cert.ConvFwdRefIdeal.nD Cert.ConvFwdRefIdeal.τ).loc Cert.ConvFwdRefIdeal.main_arg7) = m ((c.tc : Thread Cert.ConvFwdRefIdeal.nD Cert.ConvFwdRefIdeal.τ).loc Cert.ConvFwdRefIdeal.main_arg7)
      ∧ r.2.mem ((c.tc : Thread Cert.ConvFwdRefIdeal.nD Cert.ConvFwdRefIdeal.τ).loc Cert.ConvFwdRefIdeal.main_arg8) = m ((c.tc : Thread Cert.ConvFwdRefIdeal.nD Cert.ConvFwdRefIdeal.τ).loc Cert.ConvFwdRefIdeal.main_arg8)
      ∧ r.2.mem ((c.tc : Thread Cert.ConvFwdRefIdeal.nD Cert.ConvFwdRefIdeal.τ).loc Cert.ConvFwdRefIdeal.main_arg9) = m ((c.tc : Thread Cert.ConvFwdRefIdeal.nD Cert.ConvFwdRefIdeal.τ).loc Cert.ConvFwdRefIdeal.main_arg9))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1)
      ∧ r.2.mem ((c.tc : Thread Cert.OutGrad.nD Cert.OutGrad.τ).loc Cert.OutGrad.main_arg2) = m ((c.tc : Thread Cert.OutGrad.nD Cert.OutGrad.τ).loc Cert.OutGrad.main_arg2))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1)
      ∧ r.2.mem ((c.tc : Thread Cert.OutGradRefIdeal.nD Cert.OutGradRefIdeal.τ).loc Cert.OutGradRefIdeal.main_arg2) = m ((c.tc : Thread Cert.OutGradRefIdeal.nD Cert.OutGradRefIdeal.τ).loc Cert.OutGradRefIdeal.main_arg2))
      ∧ r.2.sem = fun _ => 0)

def quiescent_QGrad [hQGrad : Cert.QGrad.Facts] : Prop :=
  ∀ (m : (ℓ : Loc Cert.QGrad.nD Cert.QGrad.τ Cert.QGrad.sig) → Buf (Elt Bits) ℓ) (g : Dev Cert.QGrad.nD → PrngReg), Pre_QGrad m →
    θ_run (Cert.QGrad.defs (F := Bits)) (onTc (τ := Cert.QGrad.τ) (Cert.QGrad.main (F := Bits))) ⟨m, fun _ => 0, g⟩ (fun r => (∀ c : Dev Cert.QGrad.nD,
      r.2.mem ((c.tc : Thread Cert.QGrad.nD Cert.QGrad.τ).loc Cert.QGrad.main_arg0) = m ((c.tc : Thread Cert.QGrad.nD Cert.QGrad.τ).loc Cert.QGrad.main_arg0)
      ∧ r.2.mem ((c.tc : Thread Cert.QGrad.nD Cert.QGrad.τ).loc Cert.QGrad.main_arg1) = m ((c.tc : Thread Cert.QGrad.nD Cert.QGrad.τ).loc Cert.QGrad.main_arg1)
      ∧ r.2.mem ((c.tc : Thread Cert.QGrad.nD Cert.QGrad.τ).loc Cert.QGrad.main_arg2) = m ((c.tc : Thread Cert.QGrad.nD Cert.QGrad.τ).loc Cert.QGrad.main_arg2)
      ∧ r.2.mem ((c.tc : Thread Cert.QGrad.nD Cert.QGrad.τ).loc Cert.QGrad.main_arg3) = m ((c.tc : Thread Cert.QGrad.nD Cert.QGrad.τ).loc Cert.QGrad.main_arg3))
      ∧ r.2.sem = fun _ => 0)

def quiescent_QGradIdeal [hQGradIdeal : Cert.QGradIdeal.Facts] : Prop :=
  ∀ (m : (ℓ : Loc Cert.QGradIdeal.nD Cert.QGradIdeal.τ Cert.QGradIdeal.sig) → Buf (Elt Ideal) ℓ) (g : Dev Cert.QGradIdeal.nD → PrngReg), Pre_QGradIdeal m →
    θ_run (Cert.QGradIdeal.defs (F := Ideal)) (onTc (τ := Cert.QGradIdeal.τ) (Cert.QGradIdeal.main (F := Ideal))) ⟨m, fun _ => 0, g⟩ (fun r => (∀ c : Dev Cert.QGradIdeal.nD,
      r.2.mem ((c.tc : Thread Cert.QGradIdeal.nD Cert.QGradIdeal.τ).loc Cert.QGradIdeal.main_arg0) = m ((c.tc : Thread Cert.QGradIdeal.nD Cert.QGradIdeal.τ).loc Cert.QGradIdeal.main_arg0)
      ∧ r.2.mem ((c.tc : Thread Cert.QGradIdeal.nD Cert.QGradIdeal.τ).loc Cert.QGradIdeal.main_arg1) = m ((c.tc : Thread Cert.QGradIdeal.nD Cert.QGradIdeal.τ).loc Cert.QGradIdeal.main_arg1)
      ∧ r.2.mem ((c.tc : Thread Cert.QGradIdeal.nD Cert.QGradIdeal.τ).loc Cert.QGradIdeal.main_arg2) = m ((c.tc : Thread Cert.QGradIdeal.nD Cert.QGradIdeal.τ).loc Cert.QGradIdeal.main_arg2)
      ∧ r.2.mem ((c.tc : Thread Cert.QGradIdeal.nD Cert.QGradIdeal.τ).loc Cert.QGradIdeal.main_arg3) = m ((c.tc : Thread Cert.QGradIdeal.nD Cert.QGradIdeal.τ).loc Cert.QGradIdeal.main_arg3))
      ∧ r.2.sem = fun _ => 0)

def quiescent_QGradRefIdeal [hQGradRefIdeal : Cert.QGradRefIdeal.Facts] : Prop :=
  ∀ (m : (ℓ : Loc Cert.QGradRefIdeal.nD Cert.QGradRefIdeal.τ Cert.QGradRefIdeal.sig) → Buf (Elt Ideal) ℓ) (g : Dev Cert.QGradRefIdeal.nD → PrngReg), Pre_QGradRefIdeal m →
    θ_run (Cert.QGradRefIdeal.defs (F := Ideal)) (onTc (τ := Cert.QGradRefIdeal.τ) (Cert.QGradRefIdeal.main (F := Ideal))) ⟨m, fun _ => 0, g⟩ (fun r => (∀ c : Dev Cert.QGradRefIdeal.nD,
      r.2.mem ((c.tc : Thread Cert.QGradRefIdeal.nD Cert.QGradRefIdeal.τ).loc Cert.QGradRefIdeal.main_arg0) = m ((c.tc : Thread Cert.QGradRefIdeal.nD Cert.QGradRefIdeal.τ).loc Cert.QGradRefIdeal.main_arg0)
      ∧ r.2.mem ((c.tc : Thread Cert.QGradRefIdeal.nD Cert.QGradRefIdeal.τ).loc Cert.QGradRefIdeal.main_arg1) = m ((c.tc : Thread Cert.QGradRefIdeal.nD Cert.QGradRefIdeal.τ).loc Cert.QGradRefIdeal.main_arg1)
      ∧ r.2.mem ((c.tc : Thread Cert.QGradRefIdeal.nD Cert.QGradRefIdeal.τ).loc Cert.QGradRefIdeal.main_arg2) = m ((c.tc : Thread Cert.QGradRefIdeal.nD Cert.QGradRefIdeal.τ).loc Cert.QGradRefIdeal.main_arg2)
      ∧ r.2.mem ((c.tc : Thread Cert.QGradRefIdeal.nD Cert.QGradRefIdeal.τ).loc Cert.QGradRefIdeal.main_arg3) = m ((c.tc : Thread Cert.QGradRefIdeal.nD Cert.QGradRefIdeal.τ).loc Cert.QGradRefIdeal.main_arg3))
      ∧ r.2.sem = fun _ => 0)

def quiescent_W2Grad [hW2Grad : Cert.W2Grad.Facts] : Prop :=
  ∀ (m : (ℓ : Loc Cert.W2Grad.nD Cert.W2Grad.τ Cert.W2Grad.sig) → Buf (Elt Bits) ℓ) (g : Dev Cert.W2Grad.nD → PrngReg), Pre_W2Grad m →
    θ_run (Cert.W2Grad.defs (F := Bits)) (onTc (τ := Cert.W2Grad.τ) (Cert.W2Grad.main (F := Bits))) ⟨m, fun _ => 0, g⟩ (fun r => (∀ c : Dev Cert.W2Grad.nD,
      r.2.mem ((c.tc : Thread Cert.W2Grad.nD Cert.W2Grad.τ).loc Cert.W2Grad.main_arg0) = m ((c.tc : Thread Cert.W2Grad.nD Cert.W2Grad.τ).loc Cert.W2Grad.main_arg0)
      ∧ r.2.mem ((c.tc : Thread Cert.W2Grad.nD Cert.W2Grad.τ).loc Cert.W2Grad.main_arg1) = m ((c.tc : Thread Cert.W2Grad.nD Cert.W2Grad.τ).loc Cert.W2Grad.main_arg1)
      ∧ r.2.mem ((c.tc : Thread Cert.W2Grad.nD Cert.W2Grad.τ).loc Cert.W2Grad.main_arg2) = m ((c.tc : Thread Cert.W2Grad.nD Cert.W2Grad.τ).loc Cert.W2Grad.main_arg2)
      ∧ r.2.mem ((c.tc : Thread Cert.W2Grad.nD Cert.W2Grad.τ).loc Cert.W2Grad.main_arg3) = m ((c.tc : Thread Cert.W2Grad.nD Cert.W2Grad.τ).loc Cert.W2Grad.main_arg3)
      ∧ r.2.mem ((c.tc : Thread Cert.W2Grad.nD Cert.W2Grad.τ).loc Cert.W2Grad.main_arg4) = m ((c.tc : Thread Cert.W2Grad.nD Cert.W2Grad.τ).loc Cert.W2Grad.main_arg4))
      ∧ r.2.sem = fun _ => 0)

def quiescent_W2GradIdeal [hW2GradIdeal : Cert.W2GradIdeal.Facts] : Prop :=
  ∀ (m : (ℓ : Loc Cert.W2GradIdeal.nD Cert.W2GradIdeal.τ Cert.W2GradIdeal.sig) → Buf (Elt Ideal) ℓ) (g : Dev Cert.W2GradIdeal.nD → PrngReg), Pre_W2GradIdeal m →
    θ_run (Cert.W2GradIdeal.defs (F := Ideal)) (onTc (τ := Cert.W2GradIdeal.τ) (Cert.W2GradIdeal.main (F := Ideal))) ⟨m, fun _ => 0, g⟩ (fun r => (∀ c : Dev Cert.W2GradIdeal.nD,
      r.2.mem ((c.tc : Thread Cert.W2GradIdeal.nD Cert.W2GradIdeal.τ).loc Cert.W2GradIdeal.main_arg0) = m ((c.tc : Thread Cert.W2GradIdeal.nD Cert.W2GradIdeal.τ).loc Cert.W2GradIdeal.main_arg0)
      ∧ r.2.mem ((c.tc : Thread Cert.W2GradIdeal.nD Cert.W2GradIdeal.τ).loc Cert.W2GradIdeal.main_arg1) = m ((c.tc : Thread Cert.W2GradIdeal.nD Cert.W2GradIdeal.τ).loc Cert.W2GradIdeal.main_arg1)
      ∧ r.2.mem ((c.tc : Thread Cert.W2GradIdeal.nD Cert.W2GradIdeal.τ).loc Cert.W2GradIdeal.main_arg2) = m ((c.tc : Thread Cert.W2GradIdeal.nD Cert.W2GradIdeal.τ).loc Cert.W2GradIdeal.main_arg2)
      ∧ r.2.mem ((c.tc : Thread Cert.W2GradIdeal.nD Cert.W2GradIdeal.τ).loc Cert.W2GradIdeal.main_arg3) = m ((c.tc : Thread Cert.W2GradIdeal.nD Cert.W2GradIdeal.τ).loc Cert.W2GradIdeal.main_arg3)
      ∧ r.2.mem ((c.tc : Thread Cert.W2GradIdeal.nD Cert.W2GradIdeal.τ).loc Cert.W2GradIdeal.main_arg4) = m ((c.tc : Thread Cert.W2GradIdeal.nD Cert.W2GradIdeal.τ).loc Cert.W2GradIdeal.main_arg4))
      ∧ r.2.sem = fun _ => 0)

def quiescent_W2GradRefIdeal [hW2GradRefIdeal : Cert.W2GradRefIdeal.Facts] : Prop :=
  ∀ (m : (ℓ : Loc Cert.W2GradRefIdeal.nD Cert.W2GradRefIdeal.τ Cert.W2GradRefIdeal.sig) → Buf (Elt Ideal) ℓ) (g : Dev Cert.W2GradRefIdeal.nD → PrngReg), Pre_W2GradRefIdeal m →
    θ_run (Cert.W2GradRefIdeal.defs (F := Ideal)) (onTc (τ := Cert.W2GradRefIdeal.τ) (Cert.W2GradRefIdeal.main (F := Ideal))) ⟨m, fun _ => 0, g⟩ (fun r => (∀ c : Dev Cert.W2GradRefIdeal.nD,
      r.2.mem ((c.tc : Thread Cert.W2GradRefIdeal.nD Cert.W2GradRefIdeal.τ).loc Cert.W2GradRefIdeal.main_arg0) = m ((c.tc : Thread Cert.W2GradRefIdeal.nD Cert.W2GradRefIdeal.τ).loc Cert.W2GradRefIdeal.main_arg0)
      ∧ r.2.mem ((c.tc : Thread Cert.W2GradRefIdeal.nD Cert.W2GradRefIdeal.τ).loc Cert.W2GradRefIdeal.main_arg1) = m ((c.tc : Thread Cert.W2GradRefIdeal.nD Cert.W2GradRefIdeal.τ).loc Cert.W2GradRefIdeal.main_arg1)
      ∧ r.2.mem ((c.tc : Thread Cert.W2GradRefIdeal.nD Cert.W2GradRefIdeal.τ).loc Cert.W2GradRefIdeal.main_arg2) = m ((c.tc : Thread Cert.W2GradRefIdeal.nD Cert.W2GradRefIdeal.τ).loc Cert.W2GradRefIdeal.main_arg2)
      ∧ r.2.mem ((c.tc : Thread Cert.W2GradRefIdeal.nD Cert.W2GradRefIdeal.τ).loc Cert.W2GradRefIdeal.main_arg3) = m ((c.tc : Thread Cert.W2GradRefIdeal.nD Cert.W2GradRefIdeal.τ).loc Cert.W2GradRefIdeal.main_arg3)
      ∧ r.2.mem ((c.tc : Thread Cert.W2GradRefIdeal.nD Cert.W2GradRefIdeal.τ).loc Cert.W2GradRefIdeal.main_arg4) = m ((c.tc : Thread Cert.W2GradRefIdeal.nD Cert.W2GradRefIdeal.τ).loc Cert.W2GradRefIdeal.main_arg4))
      ∧ r.2.sem = fun _ => 0)

def quiescent_CacheGrad [hCacheGrad : Cert.CacheGrad.Facts] : Prop :=
  ∀ (m : (ℓ : Loc Cert.CacheGrad.nD Cert.CacheGrad.τ Cert.CacheGrad.sig) → Buf (Elt Bits) ℓ) (g : Dev Cert.CacheGrad.nD → PrngReg), Pre_CacheGrad m →
    θ_run (Cert.CacheGrad.defs (F := Bits)) (onTc (τ := Cert.CacheGrad.τ) (Cert.CacheGrad.main (F := Bits))) ⟨m, fun _ => 0, g⟩ (fun r => (∀ c : Dev Cert.CacheGrad.nD,
      r.2.mem ((c.tc : Thread Cert.CacheGrad.nD Cert.CacheGrad.τ).loc Cert.CacheGrad.main_arg0) = m ((c.tc : Thread Cert.CacheGrad.nD Cert.CacheGrad.τ).loc Cert.CacheGrad.main_arg0)
      ∧ r.2.mem ((c.tc : Thread Cert.CacheGrad.nD Cert.CacheGrad.τ).loc Cert.CacheGrad.main_arg1) = m ((c.tc : Thread Cert.CacheGrad.nD Cert.CacheGrad.τ).loc Cert.CacheGrad.main_arg1)
      ∧ r.2.mem ((c.tc : Thread Cert.CacheGrad.nD Cert.CacheGrad.τ).loc Cert.CacheGrad.main_arg2) = m ((c.tc : Thread Cert.CacheGrad.nD Cert.CacheGrad.τ).loc Cert.CacheGrad.main_arg2)
      ∧ r.2.mem ((c.tc : Thread Cert.CacheGrad.nD Cert.CacheGrad.τ).loc Cert.CacheGrad.main_arg3) = m ((c.tc : Thread Cert.CacheGrad.nD Cert.CacheGrad.τ).loc Cert.CacheGrad.main_arg3))
      ∧ r.2.sem = fun _ => 0)

def quiescent_CacheGradIdeal [hCacheGradIdeal : Cert.CacheGradIdeal.Facts] : Prop :=
  ∀ (m : (ℓ : Loc Cert.CacheGradIdeal.nD Cert.CacheGradIdeal.τ Cert.CacheGradIdeal.sig) → Buf (Elt Ideal) ℓ) (g : Dev Cert.CacheGradIdeal.nD → PrngReg), Pre_CacheGradIdeal m →
    θ_run (Cert.CacheGradIdeal.defs (F := Ideal)) (onTc (τ := Cert.CacheGradIdeal.τ) (Cert.CacheGradIdeal.main (F := Ideal))) ⟨m, fun _ => 0, g⟩ (fun r => (∀ c : Dev Cert.CacheGradIdeal.nD,
      r.2.mem ((c.tc : Thread Cert.CacheGradIdeal.nD Cert.CacheGradIdeal.τ).loc Cert.CacheGradIdeal.main_arg0) = m ((c.tc : Thread Cert.CacheGradIdeal.nD Cert.CacheGradIdeal.τ).loc Cert.CacheGradIdeal.main_arg0)
      ∧ r.2.mem ((c.tc : Thread Cert.CacheGradIdeal.nD Cert.CacheGradIdeal.τ).loc Cert.CacheGradIdeal.main_arg1) = m ((c.tc : Thread Cert.CacheGradIdeal.nD Cert.CacheGradIdeal.τ).loc Cert.CacheGradIdeal.main_arg1)
      ∧ r.2.mem ((c.tc : Thread Cert.CacheGradIdeal.nD Cert.CacheGradIdeal.τ).loc Cert.CacheGradIdeal.main_arg2) = m ((c.tc : Thread Cert.CacheGradIdeal.nD Cert.CacheGradIdeal.τ).loc Cert.CacheGradIdeal.main_arg2)
      ∧ r.2.mem ((c.tc : Thread Cert.CacheGradIdeal.nD Cert.CacheGradIdeal.τ).loc Cert.CacheGradIdeal.main_arg3) = m ((c.tc : Thread Cert.CacheGradIdeal.nD Cert.CacheGradIdeal.τ).loc Cert.CacheGradIdeal.main_arg3))
      ∧ r.2.sem = fun _ => 0)

def quiescent_CacheGradRefIdeal [hCacheGradRefIdeal : Cert.CacheGradRefIdeal.Facts] : Prop :=
  ∀ (m : (ℓ : Loc Cert.CacheGradRefIdeal.nD Cert.CacheGradRefIdeal.τ Cert.CacheGradRefIdeal.sig) → Buf (Elt Ideal) ℓ) (g : Dev Cert.CacheGradRefIdeal.nD → PrngReg), Pre_CacheGradRefIdeal m →
    θ_run (Cert.CacheGradRefIdeal.defs (F := Ideal)) (onTc (τ := Cert.CacheGradRefIdeal.τ) (Cert.CacheGradRefIdeal.main (F := Ideal))) ⟨m, fun _ => 0, g⟩ (fun r => (∀ c : Dev Cert.CacheGradRefIdeal.nD,
      r.2.mem ((c.tc : Thread Cert.CacheGradRefIdeal.nD Cert.CacheGradRefIdeal.τ).loc Cert.CacheGradRefIdeal.main_arg0) = m ((c.tc : Thread Cert.CacheGradRefIdeal.nD Cert.CacheGradRefIdeal.τ).loc Cert.CacheGradRefIdeal.main_arg0)
      ∧ r.2.mem ((c.tc : Thread Cert.CacheGradRefIdeal.nD Cert.CacheGradRefIdeal.τ).loc Cert.CacheGradRefIdeal.main_arg1) = m ((c.tc : Thread Cert.CacheGradRefIdeal.nD Cert.CacheGradRefIdeal.τ).loc Cert.CacheGradRefIdeal.main_arg1)
      ∧ r.2.mem ((c.tc : Thread Cert.CacheGradRefIdeal.nD Cert.CacheGradRefIdeal.τ).loc Cert.CacheGradRefIdeal.main_arg2) = m ((c.tc : Thread Cert.CacheGradRefIdeal.nD Cert.CacheGradRefIdeal.τ).loc Cert.CacheGradRefIdeal.main_arg2)
      ∧ r.2.mem ((c.tc : Thread Cert.CacheGradRefIdeal.nD Cert.CacheGradRefIdeal.τ).loc Cert.CacheGradRefIdeal.main_arg3) = m ((c.tc : Thread Cert.CacheGradRefIdeal.nD Cert.CacheGradRefIdeal.τ).loc Cert.CacheGradRefIdeal.main_arg3))
      ∧ r.2.sem = fun _ => 0)

def quiescent_ForgetGrad [hForgetGrad : Cert.ForgetGrad.Facts] : Prop :=
  ∀ (m : (ℓ : Loc Cert.ForgetGrad.nD Cert.ForgetGrad.τ Cert.ForgetGrad.sig) → Buf (Elt Bits) ℓ) (g : Dev Cert.ForgetGrad.nD → PrngReg), Pre_ForgetGrad m →
    θ_run (Cert.ForgetGrad.defs (F := Bits)) (onTc (τ := Cert.ForgetGrad.τ) (Cert.ForgetGrad.main (F := Bits))) ⟨m, fun _ => 0, g⟩ (fun r => (∀ c : Dev Cert.ForgetGrad.nD,
      r.2.mem ((c.tc : Thread Cert.ForgetGrad.nD Cert.ForgetGrad.τ).loc Cert.ForgetGrad.main_arg0) = m ((c.tc : Thread Cert.ForgetGrad.nD Cert.ForgetGrad.τ).loc Cert.ForgetGrad.main_arg0)
      ∧ r.2.mem ((c.tc : Thread Cert.ForgetGrad.nD Cert.ForgetGrad.τ).loc Cert.ForgetGrad.main_arg1) = m ((c.tc : Thread Cert.ForgetGrad.nD Cert.ForgetGrad.τ).loc Cert.ForgetGrad.main_arg1)
      ∧ r.2.mem ((c.tc : Thread Cert.ForgetGrad.nD Cert.ForgetGrad.τ).loc Cert.ForgetGrad.main_arg2) = m ((c.tc : Thread Cert.ForgetGrad.nD Cert.ForgetGrad.τ).loc Cert.ForgetGrad.main_arg2)
      ∧ r.2.mem ((c.tc : Thread Cert.ForgetGrad.nD Cert.ForgetGrad.τ).loc Cert.ForgetGrad.main_arg3) = m ((c.tc : Thread Cert.ForgetGrad.nD Cert.ForgetGrad.τ).loc Cert.ForgetGrad.main_arg3))
      ∧ r.2.sem = fun _ => 0)

def quiescent_ForgetGradIdeal [hForgetGradIdeal : Cert.ForgetGradIdeal.Facts] : Prop :=
  ∀ (m : (ℓ : Loc Cert.ForgetGradIdeal.nD Cert.ForgetGradIdeal.τ Cert.ForgetGradIdeal.sig) → Buf (Elt Ideal) ℓ) (g : Dev Cert.ForgetGradIdeal.nD → PrngReg), Pre_ForgetGradIdeal m →
    θ_run (Cert.ForgetGradIdeal.defs (F := Ideal)) (onTc (τ := Cert.ForgetGradIdeal.τ) (Cert.ForgetGradIdeal.main (F := Ideal))) ⟨m, fun _ => 0, g⟩ (fun r => (∀ c : Dev Cert.ForgetGradIdeal.nD,
      r.2.mem ((c.tc : Thread Cert.ForgetGradIdeal.nD Cert.ForgetGradIdeal.τ).loc Cert.ForgetGradIdeal.main_arg0) = m ((c.tc : Thread Cert.ForgetGradIdeal.nD Cert.ForgetGradIdeal.τ).loc Cert.ForgetGradIdeal.main_arg0)
      ∧ r.2.mem ((c.tc : Thread Cert.ForgetGradIdeal.nD Cert.ForgetGradIdeal.τ).loc Cert.ForgetGradIdeal.main_arg1) = m ((c.tc : Thread Cert.ForgetGradIdeal.nD Cert.ForgetGradIdeal.τ).loc Cert.ForgetGradIdeal.main_arg1)
      ∧ r.2.mem ((c.tc : Thread Cert.ForgetGradIdeal.nD Cert.ForgetGradIdeal.τ).loc Cert.ForgetGradIdeal.main_arg2) = m ((c.tc : Thread Cert.ForgetGradIdeal.nD Cert.ForgetGradIdeal.τ).loc Cert.ForgetGradIdeal.main_arg2)
      ∧ r.2.mem ((c.tc : Thread Cert.ForgetGradIdeal.nD Cert.ForgetGradIdeal.τ).loc Cert.ForgetGradIdeal.main_arg3) = m ((c.tc : Thread Cert.ForgetGradIdeal.nD Cert.ForgetGradIdeal.τ).loc Cert.ForgetGradIdeal.main_arg3))
      ∧ r.2.sem = fun _ => 0)

def quiescent_ForgetGradRefIdeal [hForgetGradRefIdeal : Cert.ForgetGradRefIdeal.Facts] : Prop :=
  ∀ (m : (ℓ : Loc Cert.ForgetGradRefIdeal.nD Cert.ForgetGradRefIdeal.τ Cert.ForgetGradRefIdeal.sig) → Buf (Elt Ideal) ℓ) (g : Dev Cert.ForgetGradRefIdeal.nD → PrngReg), Pre_ForgetGradRefIdeal m →
    θ_run (Cert.ForgetGradRefIdeal.defs (F := Ideal)) (onTc (τ := Cert.ForgetGradRefIdeal.τ) (Cert.ForgetGradRefIdeal.main (F := Ideal))) ⟨m, fun _ => 0, g⟩ (fun r => (∀ c : Dev Cert.ForgetGradRefIdeal.nD,
      r.2.mem ((c.tc : Thread Cert.ForgetGradRefIdeal.nD Cert.ForgetGradRefIdeal.τ).loc Cert.ForgetGradRefIdeal.main_arg0) = m ((c.tc : Thread Cert.ForgetGradRefIdeal.nD Cert.ForgetGradRefIdeal.τ).loc Cert.ForgetGradRefIdeal.main_arg0)
      ∧ r.2.mem ((c.tc : Thread Cert.ForgetGradRefIdeal.nD Cert.ForgetGradRefIdeal.τ).loc Cert.ForgetGradRefIdeal.main_arg1) = m ((c.tc : Thread Cert.ForgetGradRefIdeal.nD Cert.ForgetGradRefIdeal.τ).loc Cert.ForgetGradRefIdeal.main_arg1)
      ∧ r.2.mem ((c.tc : Thread Cert.ForgetGradRefIdeal.nD Cert.ForgetGradRefIdeal.τ).loc Cert.ForgetGradRefIdeal.main_arg2) = m ((c.tc : Thread Cert.ForgetGradRefIdeal.nD Cert.ForgetGradRefIdeal.τ).loc Cert.ForgetGradRefIdeal.main_arg2)
      ∧ r.2.mem ((c.tc : Thread Cert.ForgetGradRefIdeal.nD Cert.ForgetGradRefIdeal.τ).loc Cert.ForgetGradRefIdeal.main_arg3) = m ((c.tc : Thread Cert.ForgetGradRefIdeal.nD Cert.ForgetGradRefIdeal.τ).loc Cert.ForgetGradRefIdeal.main_arg3))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2)
      ∧ r.2.mem ((c.tc : Thread Cert.GateGrad.nD Cert.GateGrad.τ).loc Cert.GateGrad.main_arg3) = m ((c.tc : Thread Cert.GateGrad.nD Cert.GateGrad.τ).loc Cert.GateGrad.main_arg3)
      ∧ r.2.mem ((c.tc : Thread Cert.GateGrad.nD Cert.GateGrad.τ).loc Cert.GateGrad.main_arg4) = m ((c.tc : Thread Cert.GateGrad.nD Cert.GateGrad.τ).loc Cert.GateGrad.main_arg4)
      ∧ r.2.mem ((c.tc : Thread Cert.GateGrad.nD Cert.GateGrad.τ).loc Cert.GateGrad.main_arg5) = m ((c.tc : Thread Cert.GateGrad.nD Cert.GateGrad.τ).loc Cert.GateGrad.main_arg5))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
      ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4)
      ∧ r.2.mem ((c.tc : Thread Cert.GateGradIdeal.nD Cert.GateGradIdeal.τ).loc Cert.GateGradIdeal.main_arg5) = m ((c.tc : Thread Cert.GateGradIdeal.nD Cert.GateGradIdeal.τ).loc Cert.GateGradIdeal.main_arg5))
      ∧ r.2.sem = fun _ => 0)

def quiescent_GateGradRefIdeal [hGateGradRefIdeal : Cert.GateGradRefIdeal.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1)
      ∧ r.2.mem ((c.tc : Thread Cert.GateGradRefIdeal.nD Cert.GateGradRefIdeal.τ).loc Cert.GateGradRefIdeal.main_arg2) = m ((c.tc : Thread Cert.GateGradRefIdeal.nD Cert.GateGradRefIdeal.τ).loc Cert.GateGradRefIdeal.main_arg2)
      ∧ r.2.mem ((c.tc : Thread Cert.GateGradRefIdeal.nD Cert.GateGradRefIdeal.τ).loc Cert.GateGradRefIdeal.main_arg3) = m ((c.tc : Thread Cert.GateGradRefIdeal.nD Cert.GateGradRefIdeal.τ).loc Cert.GateGradRefIdeal.main_arg3)
      ∧ r.2.mem ((c.tc : Thread Cert.GateGradRefIdeal.nD Cert.GateGradRefIdeal.τ).loc Cert.GateGradRefIdeal.main_arg4) = m ((c.tc : Thread Cert.GateGradRefIdeal.nD Cert.GateGradRefIdeal.τ).loc Cert.GateGradRefIdeal.main_arg4)
      ∧ r.2.mem ((c.tc : Thread Cert.GateGradRefIdeal.nD Cert.GateGradRefIdeal.τ).loc Cert.GateGradRefIdeal.main_arg5) = m ((c.tc : Thread Cert.GateGradRefIdeal.nD Cert.GateGradRefIdeal.τ).loc Cert.GateGradRefIdeal.main_arg5))
      ∧ r.2.sem = fun _ => 0)

def quiescent_W1Grad [hW1Grad : Cert.W1Grad.Facts] : Prop :=
  ∀ (m : (ℓ : Loc Cert.W1Grad.nD Cert.W1Grad.τ Cert.W1Grad.sig) → Buf (Elt Bits) ℓ) (g : Dev Cert.W1Grad.nD → PrngReg), Pre_W1Grad m →
    θ_run (Cert.W1Grad.defs (F := Bits)) (onTc (τ := Cert.W1Grad.τ) (Cert.W1Grad.main (F := Bits))) ⟨m, fun _ => 0, g⟩ (fun r => (∀ c : Dev Cert.W1Grad.nD,
      r.2.mem ((c.tc : Thread Cert.W1Grad.nD Cert.W1Grad.τ).loc Cert.W1Grad.main_arg0) = m ((c.tc : Thread Cert.W1Grad.nD Cert.W1Grad.τ).loc Cert.W1Grad.main_arg0)
      ∧ r.2.mem ((c.tc : Thread Cert.W1Grad.nD Cert.W1Grad.τ).loc Cert.W1Grad.main_arg1) = m ((c.tc : Thread Cert.W1Grad.nD Cert.W1Grad.τ).loc Cert.W1Grad.main_arg1)
      ∧ r.2.mem ((c.tc : Thread Cert.W1Grad.nD Cert.W1Grad.τ).loc Cert.W1Grad.main_arg2) = m ((c.tc : Thread Cert.W1Grad.nD Cert.W1Grad.τ).loc Cert.W1Grad.main_arg2)
      ∧ r.2.mem ((c.tc : Thread Cert.W1Grad.nD Cert.W1Grad.τ).loc Cert.W1Grad.main_arg3) = m ((c.tc : Thread Cert.W1Grad.nD Cert.W1Grad.τ).loc Cert.W1Grad.main_arg3))
      ∧ r.2.sem = fun _ => 0)

def quiescent_W1GradIdeal [hW1GradIdeal : Cert.W1GradIdeal.Facts] : Prop :=
  ∀ (m : (ℓ : Loc Cert.W1GradIdeal.nD Cert.W1GradIdeal.τ Cert.W1GradIdeal.sig) → Buf (Elt Ideal) ℓ) (g : Dev Cert.W1GradIdeal.nD → PrngReg), Pre_W1GradIdeal m →
    θ_run (Cert.W1GradIdeal.defs (F := Ideal)) (onTc (τ := Cert.W1GradIdeal.τ) (Cert.W1GradIdeal.main (F := Ideal))) ⟨m, fun _ => 0, g⟩ (fun r => (∀ c : Dev Cert.W1GradIdeal.nD,
      r.2.mem ((c.tc : Thread Cert.W1GradIdeal.nD Cert.W1GradIdeal.τ).loc Cert.W1GradIdeal.main_arg0) = m ((c.tc : Thread Cert.W1GradIdeal.nD Cert.W1GradIdeal.τ).loc Cert.W1GradIdeal.main_arg0)
      ∧ r.2.mem ((c.tc : Thread Cert.W1GradIdeal.nD Cert.W1GradIdeal.τ).loc Cert.W1GradIdeal.main_arg1) = m ((c.tc : Thread Cert.W1GradIdeal.nD Cert.W1GradIdeal.τ).loc Cert.W1GradIdeal.main_arg1)
      ∧ r.2.mem ((c.tc : Thread Cert.W1GradIdeal.nD Cert.W1GradIdeal.τ).loc Cert.W1GradIdeal.main_arg2) = m ((c.tc : Thread Cert.W1GradIdeal.nD Cert.W1GradIdeal.τ).loc Cert.W1GradIdeal.main_arg2)
      ∧ r.2.mem ((c.tc : Thread Cert.W1GradIdeal.nD Cert.W1GradIdeal.τ).loc Cert.W1GradIdeal.main_arg3) = m ((c.tc : Thread Cert.W1GradIdeal.nD Cert.W1GradIdeal.τ).loc Cert.W1GradIdeal.main_arg3))
      ∧ r.2.sem = fun _ => 0)

def quiescent_W1GradRefIdeal [hW1GradRefIdeal : Cert.W1GradRefIdeal.Facts] : Prop :=
  ∀ (m : (ℓ : Loc Cert.W1GradRefIdeal.nD Cert.W1GradRefIdeal.τ Cert.W1GradRefIdeal.sig) → Buf (Elt Ideal) ℓ) (g : Dev Cert.W1GradRefIdeal.nD → PrngReg), Pre_W1GradRefIdeal m →
    θ_run (Cert.W1GradRefIdeal.defs (F := Ideal)) (onTc (τ := Cert.W1GradRefIdeal.τ) (Cert.W1GradRefIdeal.main (F := Ideal))) ⟨m, fun _ => 0, g⟩ (fun r => (∀ c : Dev Cert.W1GradRefIdeal.nD,
      r.2.mem ((c.tc : Thread Cert.W1GradRefIdeal.nD Cert.W1GradRefIdeal.τ).loc Cert.W1GradRefIdeal.main_arg0) = m ((c.tc : Thread Cert.W1GradRefIdeal.nD Cert.W1GradRefIdeal.τ).loc Cert.W1GradRefIdeal.main_arg0)
      ∧ r.2.mem ((c.tc : Thread Cert.W1GradRefIdeal.nD Cert.W1GradRefIdeal.τ).loc Cert.W1GradRefIdeal.main_arg1) = m ((c.tc : Thread Cert.W1GradRefIdeal.nD Cert.W1GradRefIdeal.τ).loc Cert.W1GradRefIdeal.main_arg1)
      ∧ r.2.mem ((c.tc : Thread Cert.W1GradRefIdeal.nD Cert.W1GradRefIdeal.τ).loc Cert.W1GradRefIdeal.main_arg2) = m ((c.tc : Thread Cert.W1GradRefIdeal.nD Cert.W1GradRefIdeal.τ).loc Cert.W1GradRefIdeal.main_arg2)
      ∧ r.2.mem ((c.tc : Thread Cert.W1GradRefIdeal.nD Cert.W1GradRefIdeal.τ).loc Cert.W1GradRefIdeal.main_arg3) = m ((c.tc : Thread Cert.W1GradRefIdeal.nD Cert.W1GradRefIdeal.τ).loc Cert.W1GradRefIdeal.main_arg3))
      ∧ r.2.sem = fun _ => 0)

def quiescent_ConvGrad [hConvGrad : Cert.ConvGrad.Facts] : Prop :=
  ∀ (m : (ℓ : Loc Cert.ConvGrad.nD Cert.ConvGrad.τ Cert.ConvGrad.sig) → Buf (Elt Bits) ℓ) (g : Dev Cert.ConvGrad.nD → PrngReg), Pre_ConvGrad m →
    θ_run (Cert.ConvGrad.defs (F := Bits)) (onTc (τ := Cert.ConvGrad.τ) (Cert.ConvGrad.main (F := Bits))) ⟨m, fun _ => 0, g⟩ (fun r => (∀ c : Dev Cert.ConvGrad.nD,
      r.2.mem ((c.tc : Thread Cert.ConvGrad.nD Cert.ConvGrad.τ).loc Cert.ConvGrad.main_arg0) = m ((c.tc : Thread Cert.ConvGrad.nD Cert.ConvGrad.τ).loc Cert.ConvGrad.main_arg0)
      ∧ r.2.mem ((c.tc : Thread Cert.ConvGrad.nD Cert.ConvGrad.τ).loc Cert.ConvGrad.main_arg1) = m ((c.tc : Thread Cert.ConvGrad.nD Cert.ConvGrad.τ).loc Cert.ConvGrad.main_arg1)
      ∧ r.2.mem ((c.tc : Thread Cert.ConvGrad.nD Cert.ConvGrad.τ).loc Cert.ConvGrad.main_arg2) = m ((c.tc : Thread Cert.ConvGrad.nD Cert.ConvGrad.τ).loc Cert.ConvGrad.main_arg2)
      ∧ r.2.mem ((c.tc : Thread Cert.ConvGrad.nD Cert.ConvGrad.τ).loc Cert.ConvGrad.main_arg3) = m ((c.tc : Thread Cert.ConvGrad.nD Cert.ConvGrad.τ).loc Cert.ConvGrad.main_arg3)
      ∧ r.2.mem ((c.tc : Thread Cert.ConvGrad.nD Cert.ConvGrad.τ).loc Cert.ConvGrad.main_arg4) = m ((c.tc : Thread Cert.ConvGrad.nD Cert.ConvGrad.τ).loc Cert.ConvGrad.main_arg4))
      ∧ r.2.sem = fun _ => 0)

def quiescent_ConvGradIdeal [hConvGradIdeal : Cert.ConvGradIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
      ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3)
      ∧ r.2.mem ((c.tc : Thread Cert.ConvGradIdeal.nD Cert.ConvGradIdeal.τ).loc Cert.ConvGradIdeal.main_arg4) = m ((c.tc : Thread Cert.ConvGradIdeal.nD Cert.ConvGradIdeal.τ).loc Cert.ConvGradIdeal.main_arg4))
      ∧ r.2.sem = fun _ => 0)

def quiescent_ConvGradRefIdeal [hConvGradRefIdeal : Cert.ConvGradRefIdeal.Facts] : Prop :=
  ∀ (m : (ℓ : Loc Cert.ConvGradRefIdeal.nD Cert.ConvGradRefIdeal.τ Cert.ConvGradRefIdeal.sig) → Buf (Elt Ideal) ℓ) (g : Dev Cert.ConvGradRefIdeal.nD → PrngReg), Pre_ConvGradRefIdeal m →
    θ_run (Cert.ConvGradRefIdeal.defs (F := Ideal)) (onTc (τ := Cert.ConvGradRefIdeal.τ) (Cert.ConvGradRefIdeal.main (F := Ideal))) ⟨m, fun _ => 0, g⟩ (fun r => (∀ c : Dev Cert.ConvGradRefIdeal.nD,
      r.2.mem ((c.tc : Thread Cert.ConvGradRefIdeal.nD Cert.ConvGradRefIdeal.τ).loc Cert.ConvGradRefIdeal.main_arg0) = m ((c.tc : Thread Cert.ConvGradRefIdeal.nD Cert.ConvGradRefIdeal.τ).loc Cert.ConvGradRefIdeal.main_arg0)
      ∧ r.2.mem ((c.tc : Thread Cert.ConvGradRefIdeal.nD Cert.ConvGradRefIdeal.τ).loc Cert.ConvGradRefIdeal.main_arg1) = m ((c.tc : Thread Cert.ConvGradRefIdeal.nD Cert.ConvGradRefIdeal.τ).loc Cert.ConvGradRefIdeal.main_arg1)
      ∧ r.2.mem ((c.tc : Thread Cert.ConvGradRefIdeal.nD Cert.ConvGradRefIdeal.τ).loc Cert.ConvGradRefIdeal.main_arg2) = m ((c.tc : Thread Cert.ConvGradRefIdeal.nD Cert.ConvGradRefIdeal.τ).loc Cert.ConvGradRefIdeal.main_arg2)
      ∧ r.2.mem ((c.tc : Thread Cert.ConvGradRefIdeal.nD Cert.ConvGradRefIdeal.τ).loc Cert.ConvGradRefIdeal.main_arg3) = m ((c.tc : Thread Cert.ConvGradRefIdeal.nD Cert.ConvGradRefIdeal.τ).loc Cert.ConvGradRefIdeal.main_arg3)
      ∧ r.2.mem ((c.tc : Thread Cert.ConvGradRefIdeal.nD Cert.ConvGradRefIdeal.τ).loc Cert.ConvGradRefIdeal.main_arg4) = m ((c.tc : Thread Cert.ConvGradRefIdeal.nD Cert.ConvGradRefIdeal.τ).loc Cert.ConvGradRefIdeal.main_arg4))
      ∧ r.2.sem = fun _ => 0)

def quiescent_ProjGrad [hProjGrad : Cert.ProjGrad.Facts] : Prop :=
  ∀ (m : (ℓ : Loc Cert.ProjGrad.nD Cert.ProjGrad.τ Cert.ProjGrad.sig) → Buf (Elt Bits) ℓ) (g : Dev Cert.ProjGrad.nD → PrngReg), Pre_ProjGrad m →
    θ_run (Cert.ProjGrad.defs (F := Bits)) (onTc (τ := Cert.ProjGrad.τ) (Cert.ProjGrad.main (F := Bits))) ⟨m, fun _ => 0, g⟩ (fun r => (∀ c : Dev Cert.ProjGrad.nD,
      r.2.mem ((c.tc : Thread Cert.ProjGrad.nD Cert.ProjGrad.τ).loc Cert.ProjGrad.main_arg0) = m ((c.tc : Thread Cert.ProjGrad.nD Cert.ProjGrad.τ).loc Cert.ProjGrad.main_arg0)
      ∧ r.2.mem ((c.tc : Thread Cert.ProjGrad.nD Cert.ProjGrad.τ).loc Cert.ProjGrad.main_arg1) = m ((c.tc : Thread Cert.ProjGrad.nD Cert.ProjGrad.τ).loc Cert.ProjGrad.main_arg1)
      ∧ r.2.mem ((c.tc : Thread Cert.ProjGrad.nD Cert.ProjGrad.τ).loc Cert.ProjGrad.main_arg2) = m ((c.tc : Thread Cert.ProjGrad.nD Cert.ProjGrad.τ).loc Cert.ProjGrad.main_arg2)
      ∧ r.2.mem ((c.tc : Thread Cert.ProjGrad.nD Cert.ProjGrad.τ).loc Cert.ProjGrad.main_arg3) = m ((c.tc : Thread Cert.ProjGrad.nD Cert.ProjGrad.τ).loc Cert.ProjGrad.main_arg3)
      ∧ r.2.mem ((c.tc : Thread Cert.ProjGrad.nD Cert.ProjGrad.τ).loc Cert.ProjGrad.main_arg4) = m ((c.tc : Thread Cert.ProjGrad.nD Cert.ProjGrad.τ).loc Cert.ProjGrad.main_arg4)
      ∧ r.2.mem ((c.tc : Thread Cert.ProjGrad.nD Cert.ProjGrad.τ).loc Cert.ProjGrad.main_arg5) = m ((c.tc : Thread Cert.ProjGrad.nD Cert.ProjGrad.τ).loc Cert.ProjGrad.main_arg5))
      ∧ r.2.sem = fun _ => 0)

def quiescent_ProjGradIdeal [hProjGradIdeal : Cert.ProjGradIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg), Pre_ProjGradIdeal m →
    θ_run (Cert.ProjGradIdeal.defs (F := Ideal)) (onTc (τ := Cert.ProjGradIdeal.τ) (Cert.ProjGradIdeal.main (F := Ideal))) ⟨m, fun _ => 0, g⟩ (fun r => (∀ c : Dev Cert.ProjGradIdeal.nD,
      r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
      ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1)
      ∧ r.2.mem ((c.tc : Thread Cert.ProjGradIdeal.nD Cert.ProjGradIdeal.τ).loc Cert.ProjGradIdeal.main_arg2) = m ((c.tc : Thread Cert.ProjGradIdeal.nD Cert.ProjGradIdeal.τ).loc Cert.ProjGradIdeal.main_arg2)
      ∧ r.2.mem ((c.tc : Thread Cert.ProjGradIdeal.nD Cert.ProjGradIdeal.τ).loc Cert.ProjGradIdeal.main_arg3) = m ((c.tc : Thread Cert.ProjGradIdeal.nD Cert.ProjGradIdeal.τ).loc Cert.ProjGradIdeal.main_arg3)
      ∧ r.2.mem ((c.tc : Thread Cert.ProjGradIdeal.nD Cert.ProjGradIdeal.τ).loc Cert.ProjGradIdeal.main_arg4) = m ((c.tc : Thread Cert.ProjGradIdeal.nD Cert.ProjGradIdeal.τ).loc Cert.ProjGradIdeal.main_arg4)
      ∧ r.2.mem ((c.tc : Thread Cert.ProjGradIdeal.nD Cert.ProjGradIdeal.τ).loc Cert.ProjGradIdeal.main_arg5) = m ((c.tc : Thread Cert.ProjGradIdeal.nD Cert.ProjGradIdeal.τ).loc Cert.ProjGradIdeal.main_arg5))
      ∧ r.2.sem = fun _ => 0)

def quiescent_ProjGradRefIdeal [hProjGradRefIdeal : Cert.ProjGradRefIdeal.Facts] : Prop :=
  ∀ (m : (ℓ : Loc Cert.ProjGradRefIdeal.nD Cert.ProjGradRefIdeal.τ Cert.ProjGradRefIdeal.sig) → Buf (Elt Ideal) ℓ) (g : Dev Cert.ProjGradRefIdeal.nD → PrngReg), Pre_ProjGradRefIdeal m →
    θ_run (Cert.ProjGradRefIdeal.defs (F := Ideal)) (onTc (τ := Cert.ProjGradRefIdeal.τ) (Cert.ProjGradRefIdeal.main (F := Ideal))) ⟨m, fun _ => 0, g⟩ (fun r => (∀ c : Dev Cert.ProjGradRefIdeal.nD,
      r.2.mem ((c.tc : Thread Cert.ProjGradRefIdeal.nD Cert.ProjGradRefIdeal.τ).loc Cert.ProjGradRefIdeal.main_arg0) = m ((c.tc : Thread Cert.ProjGradRefIdeal.nD Cert.ProjGradRefIdeal.τ).loc Cert.ProjGradRefIdeal.main_arg0)
      ∧ r.2.mem ((c.tc : Thread Cert.ProjGradRefIdeal.nD Cert.ProjGradRefIdeal.τ).loc Cert.ProjGradRefIdeal.main_arg1) = m ((c.tc : Thread Cert.ProjGradRefIdeal.nD Cert.ProjGradRefIdeal.τ).loc Cert.ProjGradRefIdeal.main_arg1)
      ∧ r.2.mem ((c.tc : Thread Cert.ProjGradRefIdeal.nD Cert.ProjGradRefIdeal.τ).loc Cert.ProjGradRefIdeal.main_arg2) = m ((c.tc : Thread Cert.ProjGradRefIdeal.nD Cert.ProjGradRefIdeal.τ).loc Cert.ProjGradRefIdeal.main_arg2)
      ∧ r.2.mem ((c.tc : Thread Cert.ProjGradRefIdeal.nD Cert.ProjGradRefIdeal.τ).loc Cert.ProjGradRefIdeal.main_arg3) = m ((c.tc : Thread Cert.ProjGradRefIdeal.nD Cert.ProjGradRefIdeal.τ).loc Cert.ProjGradRefIdeal.main_arg3)
      ∧ r.2.mem ((c.tc : Thread Cert.ProjGradRefIdeal.nD Cert.ProjGradRefIdeal.τ).loc Cert.ProjGradRefIdeal.main_arg4) = m ((c.tc : Thread Cert.ProjGradRefIdeal.nD Cert.ProjGradRefIdeal.τ).loc Cert.ProjGradRefIdeal.main_arg4)
      ∧ r.2.mem ((c.tc : Thread Cert.ProjGradRefIdeal.nD Cert.ProjGradRefIdeal.τ).loc Cert.ProjGradRefIdeal.main_arg5) = m ((c.tc : Thread Cert.ProjGradRefIdeal.nD Cert.ProjGradRefIdeal.τ).loc Cert.ProjGradRefIdeal.main_arg5))
      ∧ r.2.sem = fun _ => 0)

def preserves_LossHead_LossHeadIdeal : Prop :=
  True

def algebraic_LossHeadIdeal_LossHeadRefIdeal_pre_finite_loss [hLossHeadIdeal : Cert.LossHeadIdeal.Facts] [hLossHeadRefIdeal : Cert.LossHeadRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v52) = v0 c
          ∧ r.2.mem ((c.tc : Thread Cert.LossHeadRefIdeal.nD Cert.LossHeadRefIdeal.τ).loc Cert.LossHeadRefIdeal.main_v53) = v1 c
          ∧ r.2.mem ((c.tc : Thread Cert.LossHeadRefIdeal.nD Cert.LossHeadRefIdeal.τ).loc Cert.LossHeadRefIdeal.main_v54) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_FlashBwd_FlashBwdIdeal : Prop :=
  IdealRules.named_const.Statement Cert.FlashBwdIdeal.κ "mask" .f32 0xF149F2CA#32 ⊥

def algebraic_FlashBwdIdeal_FlashBwdRefIdeal_pre_finite_flash [hFlashBwdIdeal : Cert.FlashBwdIdeal.Facts] [hFlashBwdRefIdeal : Cert.FlashBwdRefIdeal.Facts] [hPre_finite_flash : Cert.Pre_finite_flash.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg)
    (m' : (ℓ : Loc Cert.FlashBwdRefIdeal.nD Cert.FlashBwdRefIdeal.τ Cert.FlashBwdRefIdeal.sig) → Buf (Elt Ideal) ℓ) (g' : Dev Cert.FlashBwdRefIdeal.nD → PrngReg), Pre_FlashBwdIdeal_finite_flash m →
    (∀ c : Dev Cert.FlashBwdIdeal.nD,
      m' ((c.tc : Thread Cert.FlashBwdRefIdeal.nD Cert.FlashBwdRefIdeal.τ).loc Cert.FlashBwdRefIdeal.main_arg0) = m ((c.tc : Thread Cert.FlashBwdIdeal.nD Cert.FlashBwdIdeal.τ).loc Cert.FlashBwdIdeal.main_arg0)
      ∧ m' ((c.tc : Thread Cert.FlashBwdRefIdeal.nD Cert.FlashBwdRefIdeal.τ).loc Cert.FlashBwdRefIdeal.main_arg1) = m ((c.tc : Thread Cert.FlashBwdIdeal.nD Cert.FlashBwdIdeal.τ).loc Cert.FlashBwdIdeal.main_arg1)
      ∧ m' ((c.tc : Thread Cert.FlashBwdRefIdeal.nD Cert.FlashBwdRefIdeal.τ).loc Cert.FlashBwdRefIdeal.main_arg2) = m ((c.tc : Thread Cert.FlashBwdIdeal.nD Cert.FlashBwdIdeal.τ).loc Cert.FlashBwdIdeal.main_arg2)
      ∧ m' ((c.tc : Thread Cert.FlashBwdRefIdeal.nD Cert.FlashBwdRefIdeal.τ).loc Cert.FlashBwdRefIdeal.main_arg3) = m ((c.tc : Thread Cert.FlashBwdIdeal.nD Cert.FlashBwdIdeal.τ).loc Cert.FlashBwdIdeal.main_arg3)
      ∧ m' ((c.tc : Thread Cert.FlashBwdRefIdeal.nD Cert.FlashBwdRefIdeal.τ).loc Cert.FlashBwdRefIdeal.main_arg4) = m ((c.tc : Thread Cert.FlashBwdIdeal.nD Cert.FlashBwdIdeal.τ).loc Cert.FlashBwdIdeal.main_arg4)) →
    ∃ (v0 : (c : Dev Cert.FlashBwdIdeal.nD) → Buf (Elt Ideal) ((c.tc : Thread Cert.FlashBwdIdeal.nD Cert.FlashBwdIdeal.τ).loc Cert.FlashBwdIdeal.main_v62_0)) (v1 : (c : Dev Cert.FlashBwdIdeal.nD) → Buf (Elt Ideal) ((c.tc : Thread Cert.FlashBwdIdeal.nD Cert.FlashBwdIdeal.τ).loc Cert.FlashBwdIdeal.main_v62_1)) (v2 : (c : Dev Cert.FlashBwdIdeal.nD) → Buf (Elt Ideal) ((c.tc : Thread Cert.FlashBwdIdeal.nD Cert.FlashBwdIdeal.τ).loc Cert.FlashBwdIdeal.main_v62_2)) (v3 : (c : Dev Cert.FlashBwdIdeal.nD) → Buf (Elt Ideal) ((c.tc : Thread Cert.FlashBwdIdeal.nD Cert.FlashBwdIdeal.τ).loc Cert.FlashBwdIdeal.main_v62_3)) (v4 : (c : Dev Cert.FlashBwdIdeal.nD) → Buf (Elt Ideal) ((c.tc : Thread Cert.FlashBwdIdeal.nD Cert.FlashBwdIdeal.τ).loc Cert.FlashBwdIdeal.main_v62_4)),
      θ_run (Cert.FlashBwdIdeal.defs (F := Ideal)) (onTc (τ := Cert.FlashBwdIdeal.τ) (Cert.FlashBwdIdeal.main (F := Ideal))) ⟨m, fun _ => 0, g⟩ (fun r => ∀ c : Dev Cert.FlashBwdIdeal.nD,
          r.2.mem ((c.tc : Thread Cert.FlashBwdIdeal.nD Cert.FlashBwdIdeal.τ).loc Cert.FlashBwdIdeal.main_v62_0) = v0 c
          ∧ r.2.mem ((c.tc : Thread Cert.FlashBwdIdeal.nD Cert.FlashBwdIdeal.τ).loc Cert.FlashBwdIdeal.main_v62_1) = v1 c
          ∧ r.2.mem ((c.tc : Thread Cert.FlashBwdIdeal.nD Cert.FlashBwdIdeal.τ).loc Cert.FlashBwdIdeal.main_v62_2) = v2 c
          ∧ r.2.mem ((c.tc : Thread Cert.FlashBwdIdeal.nD Cert.FlashBwdIdeal.τ).loc Cert.FlashBwdIdeal.main_v62_3) = v3 c
          ∧ r.2.mem ((c.tc : Thread Cert.FlashBwdIdeal.nD Cert.FlashBwdIdeal.τ).loc Cert.FlashBwdIdeal.main_v62_4) = v4 c
          ∧ r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
          ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
          ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
          ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3)
          ∧ r.2.mem ((c.tc : Thread Cert.FlashBwdIdeal.nD Cert.FlashBwdIdeal.τ).loc Cert.FlashBwdIdeal.main_arg4) = m ((c.tc : Thread Cert.FlashBwdIdeal.nD Cert.FlashBwdIdeal.τ).loc Cert.FlashBwdIdeal.main_arg4))
      ∧ θ_run (Cert.FlashBwdRefIdeal.defs (F := Ideal)) (onTc (τ := Cert.FlashBwdRefIdeal.τ) (Cert.FlashBwdRefIdeal.main (F := Ideal))) ⟨m', fun _ => 0, g'⟩ (fun r => ∀ c : Dev Cert.FlashBwdRefIdeal.nD,
          r.2.mem ((c.tc : Thread Cert.FlashBwdRefIdeal.nD Cert.FlashBwdRefIdeal.τ).loc Cert.FlashBwdRefIdeal.main_v80) = v0 c
          ∧ r.2.mem ((c.tc : Thread Cert.FlashBwdRefIdeal.nD Cert.FlashBwdRefIdeal.τ).loc Cert.FlashBwdRefIdeal.main_v83) = v1 c
          ∧ r.2.mem ((c.tc : Thread Cert.FlashBwdRefIdeal.nD Cert.FlashBwdRefIdeal.τ).loc Cert.FlashBwdRefIdeal.main_v84) = v2 c
          ∧ r.2.mem ((c.tc : Thread Cert.FlashBwdRefIdeal.nD Cert.FlashBwdRefIdeal.τ).loc Cert.FlashBwdRefIdeal.main_v82) = v3 c
          ∧ r.2.mem ((c.tc : Thread Cert.FlashBwdRefIdeal.nD Cert.FlashBwdRefIdeal.τ).loc Cert.FlashBwdRefIdeal.main_v86) = v4 c
          ∧ r.2.mem ((c.tc : Thread Cert.FlashBwdRefIdeal.nD Cert.FlashBwdRefIdeal.τ).loc Cert.FlashBwdRefIdeal.main_arg0) = m' ((c.tc : Thread Cert.FlashBwdRefIdeal.nD Cert.FlashBwdRefIdeal.τ).loc Cert.FlashBwdRefIdeal.main_arg0)
          ∧ r.2.mem ((c.tc : Thread Cert.FlashBwdRefIdeal.nD Cert.FlashBwdRefIdeal.τ).loc Cert.FlashBwdRefIdeal.main_arg1) = m' ((c.tc : Thread Cert.FlashBwdRefIdeal.nD Cert.FlashBwdRefIdeal.τ).loc Cert.FlashBwdRefIdeal.main_arg1)
          ∧ r.2.mem ((c.tc : Thread Cert.FlashBwdRefIdeal.nD Cert.FlashBwdRefIdeal.τ).loc Cert.FlashBwdRefIdeal.main_arg2) = m' ((c.tc : Thread Cert.FlashBwdRefIdeal.nD Cert.FlashBwdRefIdeal.τ).loc Cert.FlashBwdRefIdeal.main_arg2)
          ∧ r.2.mem ((c.tc : Thread Cert.FlashBwdRefIdeal.nD Cert.FlashBwdRefIdeal.τ).loc Cert.FlashBwdRefIdeal.main_arg3) = m' ((c.tc : Thread Cert.FlashBwdRefIdeal.nD Cert.FlashBwdRefIdeal.τ).loc Cert.FlashBwdRefIdeal.main_arg3)
          ∧ r.2.mem ((c.tc : Thread Cert.FlashBwdRefIdeal.nD Cert.FlashBwdRefIdeal.τ).loc Cert.FlashBwdRefIdeal.main_arg4) = m' ((c.tc : Thread Cert.FlashBwdRefIdeal.nD Cert.FlashBwdRefIdeal.τ).loc Cert.FlashBwdRefIdeal.main_arg4))

def preserves_QBwd_QBwdIdeal : Prop :=
  True

def algebraic_QBwdIdeal_QBwdRefIdeal_pre_finite_q [hQBwdIdeal : Cert.QBwdIdeal.Facts] [hQBwdRefIdeal : Cert.QBwdRefIdeal.Facts] [hPre_finite_q : Cert.Pre_finite_q.Facts] : Prop :=
  ∀ (m : (ℓ : Loc Cert.QBwdIdeal.nD Cert.QBwdIdeal.τ Cert.QBwdIdeal.sig) → Buf (Elt Ideal) ℓ) (g : Dev Cert.QBwdIdeal.nD → PrngReg)
    (m' : (ℓ : Loc Cert.QBwdRefIdeal.nD Cert.QBwdRefIdeal.τ Cert.QBwdRefIdeal.sig) → Buf (Elt Ideal) ℓ) (g' : Dev Cert.QBwdRefIdeal.nD → PrngReg), Pre_QBwdIdeal_finite_q m →
    (∀ c : Dev Cert.QBwdIdeal.nD,
      m' ((c.tc : Thread Cert.QBwdRefIdeal.nD Cert.QBwdRefIdeal.τ).loc Cert.QBwdRefIdeal.main_arg0) = m ((c.tc : Thread Cert.QBwdIdeal.nD Cert.QBwdIdeal.τ).loc Cert.QBwdIdeal.main_arg0)
      ∧ m' ((c.tc : Thread Cert.QBwdRefIdeal.nD Cert.QBwdRefIdeal.τ).loc Cert.QBwdRefIdeal.main_arg1) = m ((c.tc : Thread Cert.QBwdIdeal.nD Cert.QBwdIdeal.τ).loc Cert.QBwdIdeal.main_arg1)
      ∧ m' ((c.tc : Thread Cert.QBwdRefIdeal.nD Cert.QBwdRefIdeal.τ).loc Cert.QBwdRefIdeal.main_arg2) = m ((c.tc : Thread Cert.QBwdIdeal.nD Cert.QBwdIdeal.τ).loc Cert.QBwdIdeal.main_arg2)
      ∧ m' ((c.tc : Thread Cert.QBwdRefIdeal.nD Cert.QBwdRefIdeal.τ).loc Cert.QBwdRefIdeal.main_arg3) = m ((c.tc : Thread Cert.QBwdIdeal.nD Cert.QBwdIdeal.τ).loc Cert.QBwdIdeal.main_arg3)
      ∧ m' ((c.tc : Thread Cert.QBwdRefIdeal.nD Cert.QBwdRefIdeal.τ).loc Cert.QBwdRefIdeal.main_arg4) = m ((c.tc : Thread Cert.QBwdIdeal.nD Cert.QBwdIdeal.τ).loc Cert.QBwdIdeal.main_arg4)) →
    ∃ (v0 : (c : Dev Cert.QBwdIdeal.nD) → Buf (Elt Ideal) ((c.tc : Thread Cert.QBwdIdeal.nD Cert.QBwdIdeal.τ).loc Cert.QBwdIdeal.main_v2_0)) (v1 : (c : Dev Cert.QBwdIdeal.nD) → Buf (Elt Ideal) ((c.tc : Thread Cert.QBwdIdeal.nD Cert.QBwdIdeal.τ).loc Cert.QBwdIdeal.main_v2_1)) (v2 : (c : Dev Cert.QBwdIdeal.nD) → Buf (Elt Ideal) ((c.tc : Thread Cert.QBwdIdeal.nD Cert.QBwdIdeal.τ).loc Cert.QBwdIdeal.main_v2_2)),
      θ_run (Cert.QBwdIdeal.defs (F := Ideal)) (onTc (τ := Cert.QBwdIdeal.τ) (Cert.QBwdIdeal.main (F := Ideal))) ⟨m, fun _ => 0, g⟩ (fun r => ∀ c : Dev Cert.QBwdIdeal.nD,
          r.2.mem ((c.tc : Thread Cert.QBwdIdeal.nD Cert.QBwdIdeal.τ).loc Cert.QBwdIdeal.main_v2_0) = v0 c
          ∧ r.2.mem ((c.tc : Thread Cert.QBwdIdeal.nD Cert.QBwdIdeal.τ).loc Cert.QBwdIdeal.main_v2_1) = v1 c
          ∧ r.2.mem ((c.tc : Thread Cert.QBwdIdeal.nD Cert.QBwdIdeal.τ).loc Cert.QBwdIdeal.main_v2_2) = v2 c
          ∧ r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
          ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
          ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
          ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
          ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4))
      ∧ θ_run (Cert.QBwdRefIdeal.defs (F := Ideal)) (onTc (τ := Cert.QBwdRefIdeal.τ) (Cert.QBwdRefIdeal.main (F := Ideal))) ⟨m', fun _ => 0, g'⟩ (fun r => ∀ c : Dev Cert.QBwdRefIdeal.nD,
          r.2.mem ((c.tc : Thread Cert.QBwdRefIdeal.nD Cert.QBwdRefIdeal.τ).loc Cert.QBwdRefIdeal.main_v44) = v0 c
          ∧ r.2.mem ((c.tc : Thread Cert.QBwdRefIdeal.nD Cert.QBwdRefIdeal.τ).loc Cert.QBwdRefIdeal.main_v45) = v1 c
          ∧ r.2.mem ((c.tc : Thread Cert.QBwdRefIdeal.nD Cert.QBwdRefIdeal.τ).loc Cert.QBwdRefIdeal.main_v46) = v2 c
          ∧ r.2.mem ((c.tc : Thread Cert.QBwdRefIdeal.nD Cert.QBwdRefIdeal.τ).loc Cert.QBwdRefIdeal.main_arg0) = m' ((c.tc : Thread Cert.QBwdRefIdeal.nD Cert.QBwdRefIdeal.τ).loc Cert.QBwdRefIdeal.main_arg0)
          ∧ r.2.mem ((c.tc : Thread Cert.QBwdRefIdeal.nD Cert.QBwdRefIdeal.τ).loc Cert.QBwdRefIdeal.main_arg1) = m' ((c.tc : Thread Cert.QBwdRefIdeal.nD Cert.QBwdRefIdeal.τ).loc Cert.QBwdRefIdeal.main_arg1)
          ∧ r.2.mem ((c.tc : Thread Cert.QBwdRefIdeal.nD Cert.QBwdRefIdeal.τ).loc Cert.QBwdRefIdeal.main_arg2) = m' ((c.tc : Thread Cert.QBwdRefIdeal.nD Cert.QBwdRefIdeal.τ).loc Cert.QBwdRefIdeal.main_arg2)
          ∧ r.2.mem ((c.tc : Thread Cert.QBwdRefIdeal.nD Cert.QBwdRefIdeal.τ).loc Cert.QBwdRefIdeal.main_arg3) = m' ((c.tc : Thread Cert.QBwdRefIdeal.nD Cert.QBwdRefIdeal.τ).loc Cert.QBwdRefIdeal.main_arg3)
          ∧ r.2.mem ((c.tc : Thread Cert.QBwdRefIdeal.nD Cert.QBwdRefIdeal.τ).loc Cert.QBwdRefIdeal.main_arg4) = m' ((c.tc : Thread Cert.QBwdRefIdeal.nD Cert.QBwdRefIdeal.τ).loc Cert.QBwdRefIdeal.main_arg4))

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v17_0)) (v1 : (c : Dev Cert.FfnBwdIdeal.nD) → Buf (Elt Ideal) ((c.tc : Thread Cert.FfnBwdIdeal.nD Cert.FfnBwdIdeal.τ).loc Cert.FfnBwdIdeal.main_v17_1)) (v2 : (c : Dev Cert.FfnBwdIdeal.nD) → Buf (Elt Ideal) ((c.tc : Thread Cert.FfnBwdIdeal.nD Cert.FfnBwdIdeal.τ).loc Cert.FfnBwdIdeal.main_v17_2)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v17_0) = v0 c
          ∧ r.2.mem ((c.tc : Thread Cert.FfnBwdIdeal.nD Cert.FfnBwdIdeal.τ).loc Cert.FfnBwdIdeal.main_v17_1) = v1 c
          ∧ r.2.mem ((c.tc : Thread Cert.FfnBwdIdeal.nD Cert.FfnBwdIdeal.τ).loc Cert.FfnBwdIdeal.main_v17_2) = v2 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v54) = v0 c
          ∧ r.2.mem ((c.tc : Thread Cert.FfnBwdRefIdeal.nD Cert.FfnBwdRefIdeal.τ).loc Cert.FfnBwdRefIdeal.main_v55) = v1 c
          ∧ r.2.mem ((c.tc : Thread Cert.FfnBwdRefIdeal.nD Cert.FfnBwdRefIdeal.τ).loc Cert.FfnBwdRefIdeal.main_v56) = v2 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_PleBwd_PleBwdIdeal : Prop :=
  True

def algebraic_PleBwdIdeal_PleBwdRefIdeal_pre_finite_ple [hPleBwdIdeal : Cert.PleBwdIdeal.Facts] [hPleBwdRefIdeal : Cert.PleBwdRefIdeal.Facts] [hPre_finite_ple : Cert.Pre_finite_ple.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdRefIdeal.nD Cert.PleBwdRefIdeal.τ Cert.PleBwdRefIdeal.sig) → Buf (Elt Ideal) ℓ) (g' : Dev Cert.PleBwdRefIdeal.nD → PrngReg), Pre_PleBwdIdeal_finite_ple m →
    (∀ c : Dev Cert.PleBwdIdeal.nD,
      m' ((c.tc : Thread Cert.PleBwdRefIdeal.nD Cert.PleBwdRefIdeal.τ).loc Cert.PleBwdRefIdeal.main_arg0) = m ((c.tc : Thread Cert.PleBwdIdeal.nD Cert.PleBwdIdeal.τ).loc Cert.PleBwdIdeal.main_arg0)
      ∧ m' ((c.tc : Thread Cert.PleBwdRefIdeal.nD Cert.PleBwdRefIdeal.τ).loc Cert.PleBwdRefIdeal.main_arg1) = m ((c.tc : Thread Cert.PleBwdIdeal.nD Cert.PleBwdIdeal.τ).loc Cert.PleBwdIdeal.main_arg1)
      ∧ m' ((c.tc : Thread Cert.PleBwdRefIdeal.nD Cert.PleBwdRefIdeal.τ).loc Cert.PleBwdRefIdeal.main_arg2) = m ((c.tc : Thread Cert.PleBwdIdeal.nD Cert.PleBwdIdeal.τ).loc Cert.PleBwdIdeal.main_arg2)
      ∧ m' ((c.tc : Thread Cert.PleBwdRefIdeal.nD Cert.PleBwdRefIdeal.τ).loc Cert.PleBwdRefIdeal.main_arg3) = m ((c.tc : Thread Cert.PleBwdIdeal.nD Cert.PleBwdIdeal.τ).loc Cert.PleBwdIdeal.main_arg3)
      ∧ m' ((c.tc : Thread Cert.PleBwdRefIdeal.nD Cert.PleBwdRefIdeal.τ).loc Cert.PleBwdRefIdeal.main_arg4) = m ((c.tc : Thread Cert.PleBwdIdeal.nD Cert.PleBwdIdeal.τ).loc Cert.PleBwdIdeal.main_arg4)
      ∧ m' ((c.tc : Thread Cert.PleBwdRefIdeal.nD Cert.PleBwdRefIdeal.τ).loc Cert.PleBwdRefIdeal.main_arg5) = m ((c.tc : Thread Cert.PleBwdIdeal.nD Cert.PleBwdIdeal.τ).loc Cert.PleBwdIdeal.main_arg5)) →
    ∃ (v0 : (c : Dev Cert.PleBwdIdeal.nD) → Buf (Elt Ideal) ((c.tc : Thread Cert.PleBwdIdeal.nD Cert.PleBwdIdeal.τ).loc Cert.PleBwdIdeal.main_v23_0)) (v1 : (c : Dev Cert.PleBwdIdeal.nD) → Buf (Elt Ideal) ((c.tc : Thread Cert.PleBwdIdeal.nD Cert.PleBwdIdeal.τ).loc Cert.PleBwdIdeal.main_v23_1)) (v2 : (c : Dev Cert.PleBwdIdeal.nD) → Buf (Elt Ideal) ((c.tc : Thread Cert.PleBwdIdeal.nD Cert.PleBwdIdeal.τ).loc Cert.PleBwdIdeal.main_v23_2)) (v3 : (c : Dev Cert.PleBwdIdeal.nD) → Buf (Elt Ideal) ((c.tc : Thread Cert.PleBwdIdeal.nD Cert.PleBwdIdeal.τ).loc Cert.PleBwdIdeal.main_v23_3)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v23_0) = v0 c
          ∧ r.2.mem ((c.tc : Thread Cert.PleBwdIdeal.nD Cert.PleBwdIdeal.τ).loc Cert.PleBwdIdeal.main_v23_1) = v1 c
          ∧ r.2.mem ((c.tc : Thread Cert.PleBwdIdeal.nD Cert.PleBwdIdeal.τ).loc Cert.PleBwdIdeal.main_v23_2) = v2 c
          ∧ r.2.mem ((c.tc : Thread Cert.PleBwdIdeal.nD Cert.PleBwdIdeal.τ).loc Cert.PleBwdIdeal.main_v23_3) = v3 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
          ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ θ_run (Cert.PleBwdRefIdeal.defs (F := Ideal)) (onTc (τ := Cert.PleBwdRefIdeal.τ) (Cert.PleBwdRefIdeal.main (F := Ideal))) ⟨m', fun _ => 0, g'⟩ (fun r => ∀ c : Dev Cert.PleBwdRefIdeal.nD,
          r.2.mem ((c.tc : Thread Cert.PleBwdRefIdeal.nD Cert.PleBwdRefIdeal.τ).loc Cert.PleBwdRefIdeal.main_v57) = v0 c
          ∧ r.2.mem ((c.tc : Thread Cert.PleBwdRefIdeal.nD Cert.PleBwdRefIdeal.τ).loc Cert.PleBwdRefIdeal.main_v58) = v1 c
          ∧ r.2.mem ((c.tc : Thread Cert.PleBwdRefIdeal.nD Cert.PleBwdRefIdeal.τ).loc Cert.PleBwdRefIdeal.main_v59) = v2 c
          ∧ r.2.mem ((c.tc : Thread Cert.PleBwdRefIdeal.nD Cert.PleBwdRefIdeal.τ).loc Cert.PleBwdRefIdeal.main_v60) = v3 c
          ∧ r.2.mem ((c.tc : Thread Cert.PleBwdRefIdeal.nD Cert.PleBwdRefIdeal.τ).loc Cert.PleBwdRefIdeal.main_arg0) = m' ((c.tc : Thread Cert.PleBwdRefIdeal.nD Cert.PleBwdRefIdeal.τ).loc Cert.PleBwdRefIdeal.main_arg0)
          ∧ r.2.mem ((c.tc : Thread Cert.PleBwdRefIdeal.nD Cert.PleBwdRefIdeal.τ).loc Cert.PleBwdRefIdeal.main_arg1) = m' ((c.tc : Thread Cert.PleBwdRefIdeal.nD Cert.PleBwdRefIdeal.τ).loc Cert.PleBwdRefIdeal.main_arg1)
          ∧ r.2.mem ((c.tc : Thread Cert.PleBwdRefIdeal.nD Cert.PleBwdRefIdeal.τ).loc Cert.PleBwdRefIdeal.main_arg2) = m' ((c.tc : Thread Cert.PleBwdRefIdeal.nD Cert.PleBwdRefIdeal.τ).loc Cert.PleBwdRefIdeal.main_arg2)
          ∧ r.2.mem ((c.tc : Thread Cert.PleBwdRefIdeal.nD Cert.PleBwdRefIdeal.τ).loc Cert.PleBwdRefIdeal.main_arg3) = m' ((c.tc : Thread Cert.PleBwdRefIdeal.nD Cert.PleBwdRefIdeal.τ).loc Cert.PleBwdRefIdeal.main_arg3)
          ∧ r.2.mem ((c.tc : Thread Cert.PleBwdRefIdeal.nD Cert.PleBwdRefIdeal.τ).loc Cert.PleBwdRefIdeal.main_arg4) = m' ((c.tc : Thread Cert.PleBwdRefIdeal.nD Cert.PleBwdRefIdeal.τ).loc Cert.PleBwdRefIdeal.main_arg4)
          ∧ r.2.mem ((c.tc : Thread Cert.PleBwdRefIdeal.nD Cert.PleBwdRefIdeal.τ).loc Cert.PleBwdRefIdeal.main_arg5) = m' ((c.tc : Thread Cert.PleBwdRefIdeal.nD Cert.PleBwdRefIdeal.τ).loc Cert.PleBwdRefIdeal.main_arg5))

def preserves_OutBwd_OutBwdIdeal : Prop :=
  True

def algebraic_OutBwdIdeal_OutBwdRefIdeal_pre_finite_out [hOutBwdIdeal : Cert.OutBwdIdeal.Facts] [hOutBwdRefIdeal : Cert.OutBwdRefIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_finite_out m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)) →
    ∃ (v0 : (c : Dev Cert.OutBwdIdeal.nD) → Buf (Elt Ideal) ((c.tc : Thread Cert.OutBwdIdeal.nD Cert.OutBwdIdeal.τ).loc Cert.OutBwdIdeal.main_v1_0)) (v1 : (c : Dev Cert.OutBwdIdeal.nD) → Buf (Elt Ideal) ((c.tc : Thread Cert.OutBwdIdeal.nD Cert.OutBwdIdeal.τ).loc Cert.OutBwdIdeal.main_v1_1)) (v2 : (c : Dev Cert.OutBwdIdeal.nD) → Buf (Elt Ideal) ((c.tc : Thread Cert.OutBwdIdeal.nD Cert.OutBwdIdeal.τ).loc Cert.OutBwdIdeal.main_v1_2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v1_0) = v0 c
          ∧ r.2.mem ((c.tc : Thread Cert.OutBwdIdeal.nD Cert.OutBwdIdeal.τ).loc Cert.OutBwdIdeal.main_v1_1) = v1 c
          ∧ r.2.mem ((c.tc : Thread Cert.OutBwdIdeal.nD Cert.OutBwdIdeal.τ).loc Cert.OutBwdIdeal.main_v1_2) = v2 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v5) = v0 c
          ∧ r.2.mem ((c.tc : Thread Cert.OutBwdRefIdeal.nD Cert.OutBwdRefIdeal.τ).loc Cert.OutBwdRefIdeal.main_v7) = v1 c
          ∧ r.2.mem ((c.tc : Thread Cert.OutBwdRefIdeal.nD Cert.OutBwdRefIdeal.τ).loc Cert.OutBwdRefIdeal.main_v4) = v2 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2))

def preserves_QFwd_QFwdIdeal : Prop :=
  True

def algebraic_QFwdIdeal_QFwdRefIdeal [hQFwdIdeal : Cert.QFwdIdeal.Facts] [hQFwdRefIdeal : Cert.QFwdRefIdeal.Facts] : Prop :=
  ∀ (m : (ℓ : Loc Cert.QFwdIdeal.nD Cert.QFwdIdeal.τ Cert.QFwdIdeal.sig) → Buf (Elt Ideal) ℓ) (g : Dev Cert.QFwdIdeal.nD → PrngReg)
    (m' : (ℓ : Loc Cert.QFwdRefIdeal.nD Cert.QFwdRefIdeal.τ Cert.QFwdRefIdeal.sig) → Buf (Elt Ideal) ℓ) (g' : Dev Cert.QFwdRefIdeal.nD → PrngReg), Pre_QFwdIdeal m →
    (∀ c : Dev Cert.QFwdIdeal.nD,
      m' ((c.tc : Thread Cert.QFwdRefIdeal.nD Cert.QFwdRefIdeal.τ).loc Cert.QFwdRefIdeal.main_arg0) = m ((c.tc : Thread Cert.QFwdIdeal.nD Cert.QFwdIdeal.τ).loc Cert.QFwdIdeal.main_arg0)
      ∧ m' ((c.tc : Thread Cert.QFwdRefIdeal.nD Cert.QFwdRefIdeal.τ).loc Cert.QFwdRefIdeal.main_arg1) = m ((c.tc : Thread Cert.QFwdIdeal.nD Cert.QFwdIdeal.τ).loc Cert.QFwdIdeal.main_arg1)
      ∧ m' ((c.tc : Thread Cert.QFwdRefIdeal.nD Cert.QFwdRefIdeal.τ).loc Cert.QFwdRefIdeal.main_arg2) = m ((c.tc : Thread Cert.QFwdIdeal.nD Cert.QFwdIdeal.τ).loc Cert.QFwdIdeal.main_arg2)) →
    ∃ (v0 : (c : Dev Cert.QFwdIdeal.nD) → Buf (Elt Ideal) ((c.tc : Thread Cert.QFwdIdeal.nD Cert.QFwdIdeal.τ).loc Cert.QFwdIdeal.main_v2_0)) (v1 : (c : Dev Cert.QFwdIdeal.nD) → Buf (Elt Ideal) ((c.tc : Thread Cert.QFwdIdeal.nD Cert.QFwdIdeal.τ).loc Cert.QFwdIdeal.main_v2_1)) (v2 : (c : Dev Cert.QFwdIdeal.nD) → Buf (Elt Ideal) ((c.tc : Thread Cert.QFwdIdeal.nD Cert.QFwdIdeal.τ).loc Cert.QFwdIdeal.main_v2_2)),
      θ_run (Cert.QFwdIdeal.defs (F := Ideal)) (onTc (τ := Cert.QFwdIdeal.τ) (Cert.QFwdIdeal.main (F := Ideal))) ⟨m, fun _ => 0, g⟩ (fun r => ∀ c : Dev Cert.QFwdIdeal.nD,
          r.2.mem ((c.tc : Thread Cert.QFwdIdeal.nD Cert.QFwdIdeal.τ).loc Cert.QFwdIdeal.main_v2_0) = v0 c
          ∧ r.2.mem ((c.tc : Thread Cert.QFwdIdeal.nD Cert.QFwdIdeal.τ).loc Cert.QFwdIdeal.main_v2_1) = v1 c
          ∧ r.2.mem ((c.tc : Thread Cert.QFwdIdeal.nD Cert.QFwdIdeal.τ).loc Cert.QFwdIdeal.main_v2_2) = v2 c
          ∧ r.2.mem ((c.tc : Thread Cert.QFwdIdeal.nD Cert.QFwdIdeal.τ).loc Cert.QFwdIdeal.main_arg0) = m ((c.tc : Thread Cert.QFwdIdeal.nD Cert.QFwdIdeal.τ).loc Cert.QFwdIdeal.main_arg0)
          ∧ r.2.mem ((c.tc : Thread Cert.QFwdIdeal.nD Cert.QFwdIdeal.τ).loc Cert.QFwdIdeal.main_arg1) = m ((c.tc : Thread Cert.QFwdIdeal.nD Cert.QFwdIdeal.τ).loc Cert.QFwdIdeal.main_arg1)
          ∧ r.2.mem ((c.tc : Thread Cert.QFwdIdeal.nD Cert.QFwdIdeal.τ).loc Cert.QFwdIdeal.main_arg2) = m ((c.tc : Thread Cert.QFwdIdeal.nD Cert.QFwdIdeal.τ).loc Cert.QFwdIdeal.main_arg2))
      ∧ θ_run (Cert.QFwdRefIdeal.defs (F := Ideal)) (onTc (τ := Cert.QFwdRefIdeal.τ) (Cert.QFwdRefIdeal.main (F := Ideal))) ⟨m', fun _ => 0, g'⟩ (fun r => ∀ c : Dev Cert.QFwdRefIdeal.nD,
          r.2.mem ((c.tc : Thread Cert.QFwdRefIdeal.nD Cert.QFwdRefIdeal.τ).loc Cert.QFwdRefIdeal.main_v16) = v0 c
          ∧ r.2.mem ((c.tc : Thread Cert.QFwdRefIdeal.nD Cert.QFwdRefIdeal.τ).loc Cert.QFwdRefIdeal.main_v17) = v1 c
          ∧ r.2.mem ((c.tc : Thread Cert.QFwdRefIdeal.nD Cert.QFwdRefIdeal.τ).loc Cert.QFwdRefIdeal.main_v19) = v2 c
          ∧ r.2.mem ((c.tc : Thread Cert.QFwdRefIdeal.nD Cert.QFwdRefIdeal.τ).loc Cert.QFwdRefIdeal.main_arg0) = m' ((c.tc : Thread Cert.QFwdRefIdeal.nD Cert.QFwdRefIdeal.τ).loc Cert.QFwdRefIdeal.main_arg0)
          ∧ r.2.mem ((c.tc : Thread Cert.QFwdRefIdeal.nD Cert.QFwdRefIdeal.τ).loc Cert.QFwdRefIdeal.main_arg1) = m' ((c.tc : Thread Cert.QFwdRefIdeal.nD Cert.QFwdRefIdeal.τ).loc Cert.QFwdRefIdeal.main_arg1)
          ∧ r.2.mem ((c.tc : Thread Cert.QFwdRefIdeal.nD Cert.QFwdRefIdeal.τ).loc Cert.QFwdRefIdeal.main_arg2) = m' ((c.tc : Thread Cert.QFwdRefIdeal.nD Cert.QFwdRefIdeal.τ).loc Cert.QFwdRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v3_0)) (v1 : (c : Dev Cert.FfnFwdIdeal.nD) → Buf (Elt Ideal) ((c.tc : Thread Cert.FfnFwdIdeal.nD Cert.FfnFwdIdeal.τ).loc Cert.FfnFwdIdeal.main_v3_1)) (v2 : (c : Dev Cert.FfnFwdIdeal.nD) → Buf (Elt Ideal) ((c.tc : Thread Cert.FfnFwdIdeal.nD Cert.FfnFwdIdeal.τ).loc Cert.FfnFwdIdeal.main_v3_2)) (v3 : (c : Dev Cert.FfnFwdIdeal.nD) → Buf (Elt Ideal) ((c.tc : Thread Cert.FfnFwdIdeal.nD Cert.FfnFwdIdeal.τ).loc Cert.FfnFwdIdeal.main_v3_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v3_0) = v0 c
          ∧ r.2.mem ((c.tc : Thread Cert.FfnFwdIdeal.nD Cert.FfnFwdIdeal.τ).loc Cert.FfnFwdIdeal.main_v3_1) = v1 c
          ∧ r.2.mem ((c.tc : Thread Cert.FfnFwdIdeal.nD Cert.FfnFwdIdeal.τ).loc Cert.FfnFwdIdeal.main_v3_2) = v2 c
          ∧ r.2.mem ((c.tc : Thread Cert.FfnFwdIdeal.nD Cert.FfnFwdIdeal.τ).loc Cert.FfnFwdIdeal.main_v3_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v17) = v0 c
          ∧ r.2.mem ((c.tc : Thread Cert.FfnFwdRefIdeal.nD Cert.FfnFwdRefIdeal.τ).loc Cert.FfnFwdRefIdeal.main_v18) = v1 c
          ∧ r.2.mem ((c.tc : Thread Cert.FfnFwdRefIdeal.nD Cert.FfnFwdRefIdeal.τ).loc Cert.FfnFwdRefIdeal.main_v13) = v2 c
          ∧ r.2.mem ((c.tc : Thread Cert.FfnFwdRefIdeal.nD Cert.FfnFwdRefIdeal.τ).loc Cert.FfnFwdRefIdeal.main_v19) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)
      ∧ m' ((c.tc : Thread Cert.PleFwdRefIdeal.nD Cert.PleFwdRefIdeal.τ).loc Cert.PleFwdRefIdeal.main_arg3) = m ((c.tc : Thread Cert.PleFwdIdeal.nD Cert.PleFwdIdeal.τ).loc Cert.PleFwdIdeal.main_arg3)
      ∧ m' ((c.tc : Thread Cert.PleFwdRefIdeal.nD Cert.PleFwdRefIdeal.τ).loc Cert.PleFwdRefIdeal.main_arg4) = m ((c.tc : Thread Cert.PleFwdIdeal.nD Cert.PleFwdIdeal.τ).loc Cert.PleFwdIdeal.main_arg4)) →
    ∃ (v0 : (c : Dev Cert.PleFwdIdeal.nD) → Buf (Elt Ideal) ((c.tc : Thread Cert.PleFwdIdeal.nD Cert.PleFwdIdeal.τ).loc Cert.PleFwdIdeal.main_v3_0)) (v1 : (c : Dev Cert.PleFwdIdeal.nD) → Buf (Elt Ideal) ((c.tc : Thread Cert.PleFwdIdeal.nD Cert.PleFwdIdeal.τ).loc Cert.PleFwdIdeal.main_v3_1)) (v2 : (c : Dev Cert.PleFwdIdeal.nD) → Buf (Elt Ideal) ((c.tc : Thread Cert.PleFwdIdeal.nD Cert.PleFwdIdeal.τ).loc Cert.PleFwdIdeal.main_v3_2)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v3_0) = v0 c
          ∧ r.2.mem ((c.tc : Thread Cert.PleFwdIdeal.nD Cert.PleFwdIdeal.τ).loc Cert.PleFwdIdeal.main_v3_1) = v1 c
          ∧ r.2.mem ((c.tc : Thread Cert.PleFwdIdeal.nD Cert.PleFwdIdeal.τ).loc Cert.PleFwdIdeal.main_v3_2) = v2 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
          ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v22) = v0 c
          ∧ r.2.mem ((c.tc : Thread Cert.PleFwdRefIdeal.nD Cert.PleFwdRefIdeal.τ).loc Cert.PleFwdRefIdeal.main_v23) = v1 c
          ∧ r.2.mem ((c.tc : Thread Cert.PleFwdRefIdeal.nD Cert.PleFwdRefIdeal.τ).loc Cert.PleFwdRefIdeal.main_v19) = v2 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2)
          ∧ r.2.mem ((c.tc : Thread Cert.PleFwdRefIdeal.nD Cert.PleFwdRefIdeal.τ).loc Cert.PleFwdRefIdeal.main_arg3) = m' ((c.tc : Thread Cert.PleFwdRefIdeal.nD Cert.PleFwdRefIdeal.τ).loc Cert.PleFwdRefIdeal.main_arg3)
          ∧ r.2.mem ((c.tc : Thread Cert.PleFwdRefIdeal.nD Cert.PleFwdRefIdeal.τ).loc Cert.PleFwdRefIdeal.main_arg4) = m' ((c.tc : Thread Cert.PleFwdRefIdeal.nD Cert.PleFwdRefIdeal.τ).loc Cert.PleFwdRefIdeal.main_arg4))

def preserves_KvFwd_KvFwdIdeal : Prop :=
  True

def algebraic_KvFwdIdeal_KvFwdRefIdeal_pre_finite_cache [hKvFwdIdeal : Cert.KvFwdIdeal.Facts] [hKvFwdRefIdeal : Cert.KvFwdRefIdeal.Facts] [hPre_finite_cache : Cert.Pre_finite_cache.Facts] : Prop :=
  ∀ (m : (ℓ : Loc Cert.KvFwdIdeal.nD Cert.KvFwdIdeal.τ Cert.KvFwdIdeal.sig) → Buf (Elt Ideal) ℓ) (g : Dev Cert.KvFwdIdeal.nD → PrngReg)
    (m' : (ℓ : Loc Cert.KvFwdRefIdeal.nD Cert.KvFwdRefIdeal.τ Cert.KvFwdRefIdeal.sig) → Buf (Elt Ideal) ℓ) (g' : Dev Cert.KvFwdRefIdeal.nD → PrngReg), Pre_KvFwdIdeal_finite_cache m →
    (∀ c : Dev Cert.KvFwdIdeal.nD,
      m' ((c.tc : Thread Cert.KvFwdRefIdeal.nD Cert.KvFwdRefIdeal.τ).loc Cert.KvFwdRefIdeal.main_arg0) = m ((c.tc : Thread Cert.KvFwdIdeal.nD Cert.KvFwdIdeal.τ).loc Cert.KvFwdIdeal.main_arg0)
      ∧ m' ((c.tc : Thread Cert.KvFwdRefIdeal.nD Cert.KvFwdRefIdeal.τ).loc Cert.KvFwdRefIdeal.main_arg1) = m ((c.tc : Thread Cert.KvFwdIdeal.nD Cert.KvFwdIdeal.τ).loc Cert.KvFwdIdeal.main_arg1)
      ∧ m' ((c.tc : Thread Cert.KvFwdRefIdeal.nD Cert.KvFwdRefIdeal.τ).loc Cert.KvFwdRefIdeal.main_arg2) = m ((c.tc : Thread Cert.KvFwdIdeal.nD Cert.KvFwdIdeal.τ).loc Cert.KvFwdIdeal.main_arg2)
      ∧ m' ((c.tc : Thread Cert.KvFwdRefIdeal.nD Cert.KvFwdRefIdeal.τ).loc Cert.KvFwdRefIdeal.main_arg3) = m ((c.tc : Thread Cert.KvFwdIdeal.nD Cert.KvFwdIdeal.τ).loc Cert.KvFwdIdeal.main_arg3)) →
    ∃ (v0 : (c : Dev Cert.KvFwdIdeal.nD) → Buf (Elt Ideal) ((c.tc : Thread Cert.KvFwdIdeal.nD Cert.KvFwdIdeal.τ).loc Cert.KvFwdIdeal.main_v6_0)) (v1 : (c : Dev Cert.KvFwdIdeal.nD) → Buf (Elt Ideal) ((c.tc : Thread Cert.KvFwdIdeal.nD Cert.KvFwdIdeal.τ).loc Cert.KvFwdIdeal.main_v6_1)) (v2 : (c : Dev Cert.KvFwdIdeal.nD) → Buf (Elt Ideal) ((c.tc : Thread Cert.KvFwdIdeal.nD Cert.KvFwdIdeal.τ).loc Cert.KvFwdIdeal.main_v6_2)) (v3 : (c : Dev Cert.KvFwdIdeal.nD) → Buf (Elt Ideal) ((c.tc : Thread Cert.KvFwdIdeal.nD Cert.KvFwdIdeal.τ).loc Cert.KvFwdIdeal.main_v6_3)) (v4 : (c : Dev Cert.KvFwdIdeal.nD) → Buf (Elt Ideal) ((c.tc : Thread Cert.KvFwdIdeal.nD Cert.KvFwdIdeal.τ).loc Cert.KvFwdIdeal.main_v6_4)) (v5 : (c : Dev Cert.KvFwdIdeal.nD) → Buf (Elt Ideal) ((c.tc : Thread Cert.KvFwdIdeal.nD Cert.KvFwdIdeal.τ).loc Cert.KvFwdIdeal.main_v6_5)),
      θ_run (Cert.KvFwdIdeal.defs (F := Ideal)) (onTc (τ := Cert.KvFwdIdeal.τ) (Cert.KvFwdIdeal.main (F := Ideal))) ⟨m, fun _ => 0, g⟩ (fun r => ∀ c : Dev Cert.KvFwdIdeal.nD,
          r.2.mem ((c.tc : Thread Cert.KvFwdIdeal.nD Cert.KvFwdIdeal.τ).loc Cert.KvFwdIdeal.main_v6_0) = v0 c
          ∧ r.2.mem ((c.tc : Thread Cert.KvFwdIdeal.nD Cert.KvFwdIdeal.τ).loc Cert.KvFwdIdeal.main_v6_1) = v1 c
          ∧ r.2.mem ((c.tc : Thread Cert.KvFwdIdeal.nD Cert.KvFwdIdeal.τ).loc Cert.KvFwdIdeal.main_v6_2) = v2 c
          ∧ r.2.mem ((c.tc : Thread Cert.KvFwdIdeal.nD Cert.KvFwdIdeal.τ).loc Cert.KvFwdIdeal.main_v6_3) = v3 c
          ∧ r.2.mem ((c.tc : Thread Cert.KvFwdIdeal.nD Cert.KvFwdIdeal.τ).loc Cert.KvFwdIdeal.main_v6_4) = v4 c
          ∧ r.2.mem ((c.tc : Thread Cert.KvFwdIdeal.nD Cert.KvFwdIdeal.τ).loc Cert.KvFwdIdeal.main_v6_5) = v5 c
          ∧ r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
          ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
          ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2)
          ∧ r.2.mem ((c.tc : Thread Cert.KvFwdIdeal.nD Cert.KvFwdIdeal.τ).loc Cert.KvFwdIdeal.main_arg3) = m ((c.tc : Thread Cert.KvFwdIdeal.nD Cert.KvFwdIdeal.τ).loc Cert.KvFwdIdeal.main_arg3))
      ∧ θ_run (Cert.KvFwdRefIdeal.defs (F := Ideal)) (onTc (τ := Cert.KvFwdRefIdeal.τ) (Cert.KvFwdRefIdeal.main (F := Ideal))) ⟨m', fun _ => 0, g'⟩ (fun r => ∀ c : Dev Cert.KvFwdRefIdeal.nD,
          r.2.mem ((c.tc : Thread Cert.KvFwdRefIdeal.nD Cert.KvFwdRefIdeal.τ).loc Cert.KvFwdRefIdeal.main_v22) = v0 c
          ∧ r.2.mem ((c.tc : Thread Cert.KvFwdRefIdeal.nD Cert.KvFwdRefIdeal.τ).loc Cert.KvFwdRefIdeal.main_v24) = v1 c
          ∧ r.2.mem ((c.tc : Thread Cert.KvFwdRefIdeal.nD Cert.KvFwdRefIdeal.τ).loc Cert.KvFwdRefIdeal.main_v26) = v2 c
          ∧ r.2.mem ((c.tc : Thread Cert.KvFwdRefIdeal.nD Cert.KvFwdRefIdeal.τ).loc Cert.KvFwdRefIdeal.main_v27) = v3 c
          ∧ r.2.mem ((c.tc : Thread Cert.KvFwdRefIdeal.nD Cert.KvFwdRefIdeal.τ).loc Cert.KvFwdRefIdeal.main_v19) = v4 c
          ∧ r.2.mem ((c.tc : Thread Cert.KvFwdRefIdeal.nD Cert.KvFwdRefIdeal.τ).loc Cert.KvFwdRefIdeal.main_v21) = v5 c
          ∧ r.2.mem ((c.tc : Thread Cert.KvFwdRefIdeal.nD Cert.KvFwdRefIdeal.τ).loc Cert.KvFwdRefIdeal.main_arg0) = m' ((c.tc : Thread Cert.KvFwdRefIdeal.nD Cert.KvFwdRefIdeal.τ).loc Cert.KvFwdRefIdeal.main_arg0)
          ∧ r.2.mem ((c.tc : Thread Cert.KvFwdRefIdeal.nD Cert.KvFwdRefIdeal.τ).loc Cert.KvFwdRefIdeal.main_arg1) = m' ((c.tc : Thread Cert.KvFwdRefIdeal.nD Cert.KvFwdRefIdeal.τ).loc Cert.KvFwdRefIdeal.main_arg1)
          ∧ r.2.mem ((c.tc : Thread Cert.KvFwdRefIdeal.nD Cert.KvFwdRefIdeal.τ).loc Cert.KvFwdRefIdeal.main_arg2) = m' ((c.tc : Thread Cert.KvFwdRefIdeal.nD Cert.KvFwdRefIdeal.τ).loc Cert.KvFwdRefIdeal.main_arg2)
          ∧ r.2.mem ((c.tc : Thread Cert.KvFwdRefIdeal.nD Cert.KvFwdRefIdeal.τ).loc Cert.KvFwdRefIdeal.main_arg3) = m' ((c.tc : Thread Cert.KvFwdRefIdeal.nD Cert.KvFwdRefIdeal.τ).loc Cert.KvFwdRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)
      ∧ m' ((c.tc : Thread Cert.ConvFwdRefIdeal.nD Cert.ConvFwdRefIdeal.τ).loc Cert.ConvFwdRefIdeal.main_arg5) = m ((c.tc : Thread Cert.ConvFwdIdeal.nD Cert.ConvFwdIdeal.τ).loc Cert.ConvFwdIdeal.main_arg5)
      ∧ m' ((c.tc : Thread Cert.ConvFwdRefIdeal.nD Cert.ConvFwdRefIdeal.τ).loc Cert.ConvFwdRefIdeal.main_arg6) = m ((c.tc : Thread Cert.ConvFwdIdeal.nD Cert.ConvFwdIdeal.τ).loc Cert.ConvFwdIdeal.main_arg6)
      ∧ m' ((c.tc : Thread Cert.ConvFwdRefIdeal.nD Cert.ConvFwdRefIdeal.τ).loc Cert.ConvFwdRefIdeal.main_arg7) = m ((c.tc : Thread Cert.ConvFwdIdeal.nD Cert.ConvFwdIdeal.τ).loc Cert.ConvFwdIdeal.main_arg7)
      ∧ m' ((c.tc : Thread Cert.ConvFwdRefIdeal.nD Cert.ConvFwdRefIdeal.τ).loc Cert.ConvFwdRefIdeal.main_arg8) = m ((c.tc : Thread Cert.ConvFwdIdeal.nD Cert.ConvFwdIdeal.τ).loc Cert.ConvFwdIdeal.main_arg8)
      ∧ m' ((c.tc : Thread Cert.ConvFwdRefIdeal.nD Cert.ConvFwdRefIdeal.τ).loc Cert.ConvFwdRefIdeal.main_arg9) = m ((c.tc : Thread Cert.ConvFwdIdeal.nD Cert.ConvFwdIdeal.τ).loc Cert.ConvFwdIdeal.main_arg9)) →
    ∃ (v0 : (c : Dev Cert.ConvFwdIdeal.nD) → Buf (Elt Ideal) ((c.tc : Thread Cert.ConvFwdIdeal.nD Cert.ConvFwdIdeal.τ).loc Cert.ConvFwdIdeal.main_v8_0)) (v1 : (c : Dev Cert.ConvFwdIdeal.nD) → Buf (Elt Ideal) ((c.tc : Thread Cert.ConvFwdIdeal.nD Cert.ConvFwdIdeal.τ).loc Cert.ConvFwdIdeal.main_v8_1)) (v2 : (c : Dev Cert.ConvFwdIdeal.nD) → Buf (Elt Ideal) ((c.tc : Thread Cert.ConvFwdIdeal.nD Cert.ConvFwdIdeal.τ).loc Cert.ConvFwdIdeal.main_v8_2)) (v3 : (c : Dev Cert.ConvFwdIdeal.nD) → Buf (Elt Ideal) ((c.tc : Thread Cert.ConvFwdIdeal.nD Cert.ConvFwdIdeal.τ).loc Cert.ConvFwdIdeal.main_v8_3)) (v4 : (c : Dev Cert.ConvFwdIdeal.nD) → Buf (Elt Ideal) ((c.tc : Thread Cert.ConvFwdIdeal.nD Cert.ConvFwdIdeal.τ).loc Cert.ConvFwdIdeal.main_v8_4)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v8_0) = v0 c
          ∧ r.2.mem ((c.tc : Thread Cert.ConvFwdIdeal.nD Cert.ConvFwdIdeal.τ).loc Cert.ConvFwdIdeal.main_v8_1) = v1 c
          ∧ r.2.mem ((c.tc : Thread Cert.ConvFwdIdeal.nD Cert.ConvFwdIdeal.τ).loc Cert.ConvFwdIdeal.main_v8_2) = v2 c
          ∧ r.2.mem ((c.tc : Thread Cert.ConvFwdIdeal.nD Cert.ConvFwdIdeal.τ).loc Cert.ConvFwdIdeal.main_v8_3) = v3 c
          ∧ r.2.mem ((c.tc : Thread Cert.ConvFwdIdeal.nD Cert.ConvFwdIdeal.τ).loc Cert.ConvFwdIdeal.main_v8_4) = v4 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
          ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5)
          ∧ r.2.mem ((c.tc : Thread Cert.ConvFwdIdeal.nD Cert.ConvFwdIdeal.τ).loc Cert.ConvFwdIdeal.main_arg6) = m ((c.tc : Thread Cert.ConvFwdIdeal.nD Cert.ConvFwdIdeal.τ).loc Cert.ConvFwdIdeal.main_arg6)
          ∧ r.2.mem ((c.tc : Thread Cert.ConvFwdIdeal.nD Cert.ConvFwdIdeal.τ).loc Cert.ConvFwdIdeal.main_arg7) = m ((c.tc : Thread Cert.ConvFwdIdeal.nD Cert.ConvFwdIdeal.τ).loc Cert.ConvFwdIdeal.main_arg7)
          ∧ r.2.mem ((c.tc : Thread Cert.ConvFwdIdeal.nD Cert.ConvFwdIdeal.τ).loc Cert.ConvFwdIdeal.main_arg8) = m ((c.tc : Thread Cert.ConvFwdIdeal.nD Cert.ConvFwdIdeal.τ).loc Cert.ConvFwdIdeal.main_arg8)
          ∧ r.2.mem ((c.tc : Thread Cert.ConvFwdIdeal.nD Cert.ConvFwdIdeal.τ).loc Cert.ConvFwdIdeal.main_arg9) = m ((c.tc : Thread Cert.ConvFwdIdeal.nD Cert.ConvFwdIdeal.τ).loc Cert.ConvFwdIdeal.main_arg9))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v276) = v0 c
          ∧ r.2.mem ((c.tc : Thread Cert.ConvFwdRefIdeal.nD Cert.ConvFwdRefIdeal.τ).loc Cert.ConvFwdRefIdeal.main_v277) = v1 c
          ∧ r.2.mem ((c.tc : Thread Cert.ConvFwdRefIdeal.nD Cert.ConvFwdRefIdeal.τ).loc Cert.ConvFwdRefIdeal.main_v16) = v2 c
          ∧ r.2.mem ((c.tc : Thread Cert.ConvFwdRefIdeal.nD Cert.ConvFwdRefIdeal.τ).loc Cert.ConvFwdRefIdeal.main_v248) = v3 c
          ∧ r.2.mem ((c.tc : Thread Cert.ConvFwdRefIdeal.nD Cert.ConvFwdRefIdeal.τ).loc Cert.ConvFwdRefIdeal.main_v278) = v4 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4)
          ∧ r.2.mem ((c.tc : Thread Cert.ConvFwdRefIdeal.nD Cert.ConvFwdRefIdeal.τ).loc Cert.ConvFwdRefIdeal.main_arg5) = m' ((c.tc : Thread Cert.ConvFwdRefIdeal.nD Cert.ConvFwdRefIdeal.τ).loc Cert.ConvFwdRefIdeal.main_arg5)
          ∧ r.2.mem ((c.tc : Thread Cert.ConvFwdRefIdeal.nD Cert.ConvFwdRefIdeal.τ).loc Cert.ConvFwdRefIdeal.main_arg6) = m' ((c.tc : Thread Cert.ConvFwdRefIdeal.nD Cert.ConvFwdRefIdeal.τ).loc Cert.ConvFwdRefIdeal.main_arg6)
          ∧ r.2.mem ((c.tc : Thread Cert.ConvFwdRefIdeal.nD Cert.ConvFwdRefIdeal.τ).loc Cert.ConvFwdRefIdeal.main_arg7) = m' ((c.tc : Thread Cert.ConvFwdRefIdeal.nD Cert.ConvFwdRefIdeal.τ).loc Cert.ConvFwdRefIdeal.main_arg7)
          ∧ r.2.mem ((c.tc : Thread Cert.ConvFwdRefIdeal.nD Cert.ConvFwdRefIdeal.τ).loc Cert.ConvFwdRefIdeal.main_arg8) = m' ((c.tc : Thread Cert.ConvFwdRefIdeal.nD Cert.ConvFwdRefIdeal.τ).loc Cert.ConvFwdRefIdeal.main_arg8)
          ∧ r.2.mem ((c.tc : Thread Cert.ConvFwdRefIdeal.nD Cert.ConvFwdRefIdeal.τ).loc Cert.ConvFwdRefIdeal.main_arg9) = m' ((c.tc : Thread Cert.ConvFwdRefIdeal.nD Cert.ConvFwdRefIdeal.τ).loc Cert.ConvFwdRefIdeal.main_arg9))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v1) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)
      ∧ m' ((c.tc : Thread Cert.OutGradRefIdeal.nD Cert.OutGradRefIdeal.τ).loc Cert.OutGradRefIdeal.main_arg2) = m ((c.tc : Thread Cert.OutGradIdeal.nD Cert.OutGradIdeal.τ).loc Cert.OutGradIdeal.main_arg2)) →
    ∃ (v0 : (c : Dev Cert.OutGradIdeal.nD) → Buf (Elt Ideal) ((c.tc : Thread Cert.OutGradIdeal.nD Cert.OutGradIdeal.τ).loc Cert.OutGradIdeal.main_v1)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v1) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
          ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v2) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1)
          ∧ r.2.mem ((c.tc : Thread Cert.OutGradRefIdeal.nD Cert.OutGradRefIdeal.τ).loc Cert.OutGradRefIdeal.main_arg2) = m' ((c.tc : Thread Cert.OutGradRefIdeal.nD Cert.OutGradRefIdeal.τ).loc Cert.OutGradRefIdeal.main_arg2))

def preserves_QGrad_QGradIdeal : Prop :=
  True

def algebraic_QGradIdeal_QGradRefIdeal [hQGradIdeal : Cert.QGradIdeal.Facts] [hQGradRefIdeal : Cert.QGradRefIdeal.Facts] : Prop :=
  ∀ (m : (ℓ : Loc Cert.QGradIdeal.nD Cert.QGradIdeal.τ Cert.QGradIdeal.sig) → Buf (Elt Ideal) ℓ) (g : Dev Cert.QGradIdeal.nD → PrngReg)
    (m' : (ℓ : Loc Cert.QGradRefIdeal.nD Cert.QGradRefIdeal.τ Cert.QGradRefIdeal.sig) → Buf (Elt Ideal) ℓ) (g' : Dev Cert.QGradRefIdeal.nD → PrngReg), Pre_QGradIdeal m →
    (∀ c : Dev Cert.QGradIdeal.nD,
      m' ((c.tc : Thread Cert.QGradRefIdeal.nD Cert.QGradRefIdeal.τ).loc Cert.QGradRefIdeal.main_arg0) = m ((c.tc : Thread Cert.QGradIdeal.nD Cert.QGradIdeal.τ).loc Cert.QGradIdeal.main_arg0)
      ∧ m' ((c.tc : Thread Cert.QGradRefIdeal.nD Cert.QGradRefIdeal.τ).loc Cert.QGradRefIdeal.main_arg1) = m ((c.tc : Thread Cert.QGradIdeal.nD Cert.QGradIdeal.τ).loc Cert.QGradIdeal.main_arg1)
      ∧ m' ((c.tc : Thread Cert.QGradRefIdeal.nD Cert.QGradRefIdeal.τ).loc Cert.QGradRefIdeal.main_arg2) = m ((c.tc : Thread Cert.QGradIdeal.nD Cert.QGradIdeal.τ).loc Cert.QGradIdeal.main_arg2)
      ∧ m' ((c.tc : Thread Cert.QGradRefIdeal.nD Cert.QGradRefIdeal.τ).loc Cert.QGradRefIdeal.main_arg3) = m ((c.tc : Thread Cert.QGradIdeal.nD Cert.QGradIdeal.τ).loc Cert.QGradIdeal.main_arg3)) →
    ∃ (v0 : (c : Dev Cert.QGradIdeal.nD) → Buf (Elt Ideal) ((c.tc : Thread Cert.QGradIdeal.nD Cert.QGradIdeal.τ).loc Cert.QGradIdeal.main_v17)),
      θ_run (Cert.QGradIdeal.defs (F := Ideal)) (onTc (τ := Cert.QGradIdeal.τ) (Cert.QGradIdeal.main (F := Ideal))) ⟨m, fun _ => 0, g⟩ (fun r => ∀ c : Dev Cert.QGradIdeal.nD,
          r.2.mem ((c.tc : Thread Cert.QGradIdeal.nD Cert.QGradIdeal.τ).loc Cert.QGradIdeal.main_v17) = v0 c
          ∧ r.2.mem ((c.tc : Thread Cert.QGradIdeal.nD Cert.QGradIdeal.τ).loc Cert.QGradIdeal.main_arg0) = m ((c.tc : Thread Cert.QGradIdeal.nD Cert.QGradIdeal.τ).loc Cert.QGradIdeal.main_arg0)
          ∧ r.2.mem ((c.tc : Thread Cert.QGradIdeal.nD Cert.QGradIdeal.τ).loc Cert.QGradIdeal.main_arg1) = m ((c.tc : Thread Cert.QGradIdeal.nD Cert.QGradIdeal.τ).loc Cert.QGradIdeal.main_arg1)
          ∧ r.2.mem ((c.tc : Thread Cert.QGradIdeal.nD Cert.QGradIdeal.τ).loc Cert.QGradIdeal.main_arg2) = m ((c.tc : Thread Cert.QGradIdeal.nD Cert.QGradIdeal.τ).loc Cert.QGradIdeal.main_arg2)
          ∧ r.2.mem ((c.tc : Thread Cert.QGradIdeal.nD Cert.QGradIdeal.τ).loc Cert.QGradIdeal.main_arg3) = m ((c.tc : Thread Cert.QGradIdeal.nD Cert.QGradIdeal.τ).loc Cert.QGradIdeal.main_arg3))
      ∧ θ_run (Cert.QGradRefIdeal.defs (F := Ideal)) (onTc (τ := Cert.QGradRefIdeal.τ) (Cert.QGradRefIdeal.main (F := Ideal))) ⟨m', fun _ => 0, g'⟩ (fun r => ∀ c : Dev Cert.QGradRefIdeal.nD,
          r.2.mem ((c.tc : Thread Cert.QGradRefIdeal.nD Cert.QGradRefIdeal.τ).loc Cert.QGradRefIdeal.main_v19) = v0 c
          ∧ r.2.mem ((c.tc : Thread Cert.QGradRefIdeal.nD Cert.QGradRefIdeal.τ).loc Cert.QGradRefIdeal.main_arg0) = m' ((c.tc : Thread Cert.QGradRefIdeal.nD Cert.QGradRefIdeal.τ).loc Cert.QGradRefIdeal.main_arg0)
          ∧ r.2.mem ((c.tc : Thread Cert.QGradRefIdeal.nD Cert.QGradRefIdeal.τ).loc Cert.QGradRefIdeal.main_arg1) = m' ((c.tc : Thread Cert.QGradRefIdeal.nD Cert.QGradRefIdeal.τ).loc Cert.QGradRefIdeal.main_arg1)
          ∧ r.2.mem ((c.tc : Thread Cert.QGradRefIdeal.nD Cert.QGradRefIdeal.τ).loc Cert.QGradRefIdeal.main_arg2) = m' ((c.tc : Thread Cert.QGradRefIdeal.nD Cert.QGradRefIdeal.τ).loc Cert.QGradRefIdeal.main_arg2)
          ∧ r.2.mem ((c.tc : Thread Cert.QGradRefIdeal.nD Cert.QGradRefIdeal.τ).loc Cert.QGradRefIdeal.main_arg3) = m' ((c.tc : Thread Cert.QGradRefIdeal.nD Cert.QGradRefIdeal.τ).loc Cert.QGradRefIdeal.main_arg3))

def preserves_W2Grad_W2GradIdeal : Prop :=
  True

def algebraic_W2GradIdeal_W2GradRefIdeal [hW2GradIdeal : Cert.W2GradIdeal.Facts] [hW2GradRefIdeal : Cert.W2GradRefIdeal.Facts] : Prop :=
  ∀ (m : (ℓ : Loc Cert.W2GradIdeal.nD Cert.W2GradIdeal.τ Cert.W2GradIdeal.sig) → Buf (Elt Ideal) ℓ) (g : Dev Cert.W2GradIdeal.nD → PrngReg)
    (m' : (ℓ : Loc Cert.W2GradRefIdeal.nD Cert.W2GradRefIdeal.τ Cert.W2GradRefIdeal.sig) → Buf (Elt Ideal) ℓ) (g' : Dev Cert.W2GradRefIdeal.nD → PrngReg), Pre_W2GradIdeal m →
    (∀ c : Dev Cert.W2GradIdeal.nD,
      m' ((c.tc : Thread Cert.W2GradRefIdeal.nD Cert.W2GradRefIdeal.τ).loc Cert.W2GradRefIdeal.main_arg0) = m ((c.tc : Thread Cert.W2GradIdeal.nD Cert.W2GradIdeal.τ).loc Cert.W2GradIdeal.main_arg0)
      ∧ m' ((c.tc : Thread Cert.W2GradRefIdeal.nD Cert.W2GradRefIdeal.τ).loc Cert.W2GradRefIdeal.main_arg1) = m ((c.tc : Thread Cert.W2GradIdeal.nD Cert.W2GradIdeal.τ).loc Cert.W2GradIdeal.main_arg1)
      ∧ m' ((c.tc : Thread Cert.W2GradRefIdeal.nD Cert.W2GradRefIdeal.τ).loc Cert.W2GradRefIdeal.main_arg2) = m ((c.tc : Thread Cert.W2GradIdeal.nD Cert.W2GradIdeal.τ).loc Cert.W2GradIdeal.main_arg2)
      ∧ m' ((c.tc : Thread Cert.W2GradRefIdeal.nD Cert.W2GradRefIdeal.τ).loc Cert.W2GradRefIdeal.main_arg3) = m ((c.tc : Thread Cert.W2GradIdeal.nD Cert.W2GradIdeal.τ).loc Cert.W2GradIdeal.main_arg3)
      ∧ m' ((c.tc : Thread Cert.W2GradRefIdeal.nD Cert.W2GradRefIdeal.τ).loc Cert.W2GradRefIdeal.main_arg4) = m ((c.tc : Thread Cert.W2GradIdeal.nD Cert.W2GradIdeal.τ).loc Cert.W2GradIdeal.main_arg4)) →
    ∃ (v0 : (c : Dev Cert.W2GradIdeal.nD) → Buf (Elt Ideal) ((c.tc : Thread Cert.W2GradIdeal.nD Cert.W2GradIdeal.τ).loc Cert.W2GradIdeal.main_v17)),
      θ_run (Cert.W2GradIdeal.defs (F := Ideal)) (onTc (τ := Cert.W2GradIdeal.τ) (Cert.W2GradIdeal.main (F := Ideal))) ⟨m, fun _ => 0, g⟩ (fun r => ∀ c : Dev Cert.W2GradIdeal.nD,
          r.2.mem ((c.tc : Thread Cert.W2GradIdeal.nD Cert.W2GradIdeal.τ).loc Cert.W2GradIdeal.main_v17) = v0 c
          ∧ r.2.mem ((c.tc : Thread Cert.W2GradIdeal.nD Cert.W2GradIdeal.τ).loc Cert.W2GradIdeal.main_arg0) = m ((c.tc : Thread Cert.W2GradIdeal.nD Cert.W2GradIdeal.τ).loc Cert.W2GradIdeal.main_arg0)
          ∧ r.2.mem ((c.tc : Thread Cert.W2GradIdeal.nD Cert.W2GradIdeal.τ).loc Cert.W2GradIdeal.main_arg1) = m ((c.tc : Thread Cert.W2GradIdeal.nD Cert.W2GradIdeal.τ).loc Cert.W2GradIdeal.main_arg1)
          ∧ r.2.mem ((c.tc : Thread Cert.W2GradIdeal.nD Cert.W2GradIdeal.τ).loc Cert.W2GradIdeal.main_arg2) = m ((c.tc : Thread Cert.W2GradIdeal.nD Cert.W2GradIdeal.τ).loc Cert.W2GradIdeal.main_arg2)
          ∧ r.2.mem ((c.tc : Thread Cert.W2GradIdeal.nD Cert.W2GradIdeal.τ).loc Cert.W2GradIdeal.main_arg3) = m ((c.tc : Thread Cert.W2GradIdeal.nD Cert.W2GradIdeal.τ).loc Cert.W2GradIdeal.main_arg3)
          ∧ r.2.mem ((c.tc : Thread Cert.W2GradIdeal.nD Cert.W2GradIdeal.τ).loc Cert.W2GradIdeal.main_arg4) = m ((c.tc : Thread Cert.W2GradIdeal.nD Cert.W2GradIdeal.τ).loc Cert.W2GradIdeal.main_arg4))
      ∧ θ_run (Cert.W2GradRefIdeal.defs (F := Ideal)) (onTc (τ := Cert.W2GradRefIdeal.τ) (Cert.W2GradRefIdeal.main (F := Ideal))) ⟨m', fun _ => 0, g'⟩ (fun r => ∀ c : Dev Cert.W2GradRefIdeal.nD,
          r.2.mem ((c.tc : Thread Cert.W2GradRefIdeal.nD Cert.W2GradRefIdeal.τ).loc Cert.W2GradRefIdeal.main_v19) = v0 c
          ∧ r.2.mem ((c.tc : Thread Cert.W2GradRefIdeal.nD Cert.W2GradRefIdeal.τ).loc Cert.W2GradRefIdeal.main_arg0) = m' ((c.tc : Thread Cert.W2GradRefIdeal.nD Cert.W2GradRefIdeal.τ).loc Cert.W2GradRefIdeal.main_arg0)
          ∧ r.2.mem ((c.tc : Thread Cert.W2GradRefIdeal.nD Cert.W2GradRefIdeal.τ).loc Cert.W2GradRefIdeal.main_arg1) = m' ((c.tc : Thread Cert.W2GradRefIdeal.nD Cert.W2GradRefIdeal.τ).loc Cert.W2GradRefIdeal.main_arg1)
          ∧ r.2.mem ((c.tc : Thread Cert.W2GradRefIdeal.nD Cert.W2GradRefIdeal.τ).loc Cert.W2GradRefIdeal.main_arg2) = m' ((c.tc : Thread Cert.W2GradRefIdeal.nD Cert.W2GradRefIdeal.τ).loc Cert.W2GradRefIdeal.main_arg2)
          ∧ r.2.mem ((c.tc : Thread Cert.W2GradRefIdeal.nD Cert.W2GradRefIdeal.τ).loc Cert.W2GradRefIdeal.main_arg3) = m' ((c.tc : Thread Cert.W2GradRefIdeal.nD Cert.W2GradRefIdeal.τ).loc Cert.W2GradRefIdeal.main_arg3)
          ∧ r.2.mem ((c.tc : Thread Cert.W2GradRefIdeal.nD Cert.W2GradRefIdeal.τ).loc Cert.W2GradRefIdeal.main_arg4) = m' ((c.tc : Thread Cert.W2GradRefIdeal.nD Cert.W2GradRefIdeal.τ).loc Cert.W2GradRefIdeal.main_arg4))

def preserves_CacheGrad_CacheGradIdeal : Prop :=
  True

def algebraic_CacheGradIdeal_CacheGradRefIdeal [hCacheGradIdeal : Cert.CacheGradIdeal.Facts] [hCacheGradRefIdeal : Cert.CacheGradRefIdeal.Facts] : Prop :=
  ∀ (m : (ℓ : Loc Cert.CacheGradIdeal.nD Cert.CacheGradIdeal.τ Cert.CacheGradIdeal.sig) → Buf (Elt Ideal) ℓ) (g : Dev Cert.CacheGradIdeal.nD → PrngReg)
    (m' : (ℓ : Loc Cert.CacheGradRefIdeal.nD Cert.CacheGradRefIdeal.τ Cert.CacheGradRefIdeal.sig) → Buf (Elt Ideal) ℓ) (g' : Dev Cert.CacheGradRefIdeal.nD → PrngReg), Pre_CacheGradIdeal m →
    (∀ c : Dev Cert.CacheGradIdeal.nD,
      m' ((c.tc : Thread Cert.CacheGradRefIdeal.nD Cert.CacheGradRefIdeal.τ).loc Cert.CacheGradRefIdeal.main_arg0) = m ((c.tc : Thread Cert.CacheGradIdeal.nD Cert.CacheGradIdeal.τ).loc Cert.CacheGradIdeal.main_arg0)
      ∧ m' ((c.tc : Thread Cert.CacheGradRefIdeal.nD Cert.CacheGradRefIdeal.τ).loc Cert.CacheGradRefIdeal.main_arg1) = m ((c.tc : Thread Cert.CacheGradIdeal.nD Cert.CacheGradIdeal.τ).loc Cert.CacheGradIdeal.main_arg1)
      ∧ m' ((c.tc : Thread Cert.CacheGradRefIdeal.nD Cert.CacheGradRefIdeal.τ).loc Cert.CacheGradRefIdeal.main_arg2) = m ((c.tc : Thread Cert.CacheGradIdeal.nD Cert.CacheGradIdeal.τ).loc Cert.CacheGradIdeal.main_arg2)
      ∧ m' ((c.tc : Thread Cert.CacheGradRefIdeal.nD Cert.CacheGradRefIdeal.τ).loc Cert.CacheGradRefIdeal.main_arg3) = m ((c.tc : Thread Cert.CacheGradIdeal.nD Cert.CacheGradIdeal.τ).loc Cert.CacheGradIdeal.main_arg3)) →
    ∃ (v0 : (c : Dev Cert.CacheGradIdeal.nD) → Buf (Elt Ideal) ((c.tc : Thread Cert.CacheGradIdeal.nD Cert.CacheGradIdeal.τ).loc Cert.CacheGradIdeal.main_v15)),
      θ_run (Cert.CacheGradIdeal.defs (F := Ideal)) (onTc (τ := Cert.CacheGradIdeal.τ) (Cert.CacheGradIdeal.main (F := Ideal))) ⟨m, fun _ => 0, g⟩ (fun r => ∀ c : Dev Cert.CacheGradIdeal.nD,
          r.2.mem ((c.tc : Thread Cert.CacheGradIdeal.nD Cert.CacheGradIdeal.τ).loc Cert.CacheGradIdeal.main_v15) = v0 c
          ∧ r.2.mem ((c.tc : Thread Cert.CacheGradIdeal.nD Cert.CacheGradIdeal.τ).loc Cert.CacheGradIdeal.main_arg0) = m ((c.tc : Thread Cert.CacheGradIdeal.nD Cert.CacheGradIdeal.τ).loc Cert.CacheGradIdeal.main_arg0)
          ∧ r.2.mem ((c.tc : Thread Cert.CacheGradIdeal.nD Cert.CacheGradIdeal.τ).loc Cert.CacheGradIdeal.main_arg1) = m ((c.tc : Thread Cert.CacheGradIdeal.nD Cert.CacheGradIdeal.τ).loc Cert.CacheGradIdeal.main_arg1)
          ∧ r.2.mem ((c.tc : Thread Cert.CacheGradIdeal.nD Cert.CacheGradIdeal.τ).loc Cert.CacheGradIdeal.main_arg2) = m ((c.tc : Thread Cert.CacheGradIdeal.nD Cert.CacheGradIdeal.τ).loc Cert.CacheGradIdeal.main_arg2)
          ∧ r.2.mem ((c.tc : Thread Cert.CacheGradIdeal.nD Cert.CacheGradIdeal.τ).loc Cert.CacheGradIdeal.main_arg3) = m ((c.tc : Thread Cert.CacheGradIdeal.nD Cert.CacheGradIdeal.τ).loc Cert.CacheGradIdeal.main_arg3))
      ∧ θ_run (Cert.CacheGradRefIdeal.defs (F := Ideal)) (onTc (τ := Cert.CacheGradRefIdeal.τ) (Cert.CacheGradRefIdeal.main (F := Ideal))) ⟨m', fun _ => 0, g'⟩ (fun r => ∀ c : Dev Cert.CacheGradRefIdeal.nD,
          r.2.mem ((c.tc : Thread Cert.CacheGradRefIdeal.nD Cert.CacheGradRefIdeal.τ).loc Cert.CacheGradRefIdeal.main_v15) = v0 c
          ∧ r.2.mem ((c.tc : Thread Cert.CacheGradRefIdeal.nD Cert.CacheGradRefIdeal.τ).loc Cert.CacheGradRefIdeal.main_arg0) = m' ((c.tc : Thread Cert.CacheGradRefIdeal.nD Cert.CacheGradRefIdeal.τ).loc Cert.CacheGradRefIdeal.main_arg0)
          ∧ r.2.mem ((c.tc : Thread Cert.CacheGradRefIdeal.nD Cert.CacheGradRefIdeal.τ).loc Cert.CacheGradRefIdeal.main_arg1) = m' ((c.tc : Thread Cert.CacheGradRefIdeal.nD Cert.CacheGradRefIdeal.τ).loc Cert.CacheGradRefIdeal.main_arg1)
          ∧ r.2.mem ((c.tc : Thread Cert.CacheGradRefIdeal.nD Cert.CacheGradRefIdeal.τ).loc Cert.CacheGradRefIdeal.main_arg2) = m' ((c.tc : Thread Cert.CacheGradRefIdeal.nD Cert.CacheGradRefIdeal.τ).loc Cert.CacheGradRefIdeal.main_arg2)
          ∧ r.2.mem ((c.tc : Thread Cert.CacheGradRefIdeal.nD Cert.CacheGradRefIdeal.τ).loc Cert.CacheGradRefIdeal.main_arg3) = m' ((c.tc : Thread Cert.CacheGradRefIdeal.nD Cert.CacheGradRefIdeal.τ).loc Cert.CacheGradRefIdeal.main_arg3))

def preserves_ForgetGrad_ForgetGradIdeal : Prop :=
  True

def algebraic_ForgetGradIdeal_ForgetGradRefIdeal [hForgetGradIdeal : Cert.ForgetGradIdeal.Facts] [hForgetGradRefIdeal : Cert.ForgetGradRefIdeal.Facts] : Prop :=
  ∀ (m : (ℓ : Loc Cert.ForgetGradIdeal.nD Cert.ForgetGradIdeal.τ Cert.ForgetGradIdeal.sig) → Buf (Elt Ideal) ℓ) (g : Dev Cert.ForgetGradIdeal.nD → PrngReg)
    (m' : (ℓ : Loc Cert.ForgetGradRefIdeal.nD Cert.ForgetGradRefIdeal.τ Cert.ForgetGradRefIdeal.sig) → Buf (Elt Ideal) ℓ) (g' : Dev Cert.ForgetGradRefIdeal.nD → PrngReg), Pre_ForgetGradIdeal m →
    (∀ c : Dev Cert.ForgetGradIdeal.nD,
      m' ((c.tc : Thread Cert.ForgetGradRefIdeal.nD Cert.ForgetGradRefIdeal.τ).loc Cert.ForgetGradRefIdeal.main_arg0) = m ((c.tc : Thread Cert.ForgetGradIdeal.nD Cert.ForgetGradIdeal.τ).loc Cert.ForgetGradIdeal.main_arg0)
      ∧ m' ((c.tc : Thread Cert.ForgetGradRefIdeal.nD Cert.ForgetGradRefIdeal.τ).loc Cert.ForgetGradRefIdeal.main_arg1) = m ((c.tc : Thread Cert.ForgetGradIdeal.nD Cert.ForgetGradIdeal.τ).loc Cert.ForgetGradIdeal.main_arg1)
      ∧ m' ((c.tc : Thread Cert.ForgetGradRefIdeal.nD Cert.ForgetGradRefIdeal.τ).loc Cert.ForgetGradRefIdeal.main_arg2) = m ((c.tc : Thread Cert.ForgetGradIdeal.nD Cert.ForgetGradIdeal.τ).loc Cert.ForgetGradIdeal.main_arg2)
      ∧ m' ((c.tc : Thread Cert.ForgetGradRefIdeal.nD Cert.ForgetGradRefIdeal.τ).loc Cert.ForgetGradRefIdeal.main_arg3) = m ((c.tc : Thread Cert.ForgetGradIdeal.nD Cert.ForgetGradIdeal.τ).loc Cert.ForgetGradIdeal.main_arg3)) →
    ∃ (v0 : (c : Dev Cert.ForgetGradIdeal.nD) → Buf (Elt Ideal) ((c.tc : Thread Cert.ForgetGradIdeal.nD Cert.ForgetGradIdeal.τ).loc Cert.ForgetGradIdeal.main_v14)),
      θ_run (Cert.ForgetGradIdeal.defs (F := Ideal)) (onTc (τ := Cert.ForgetGradIdeal.τ) (Cert.ForgetGradIdeal.main (F := Ideal))) ⟨m, fun _ => 0, g⟩ (fun r => ∀ c : Dev Cert.ForgetGradIdeal.nD,
          r.2.mem ((c.tc : Thread Cert.ForgetGradIdeal.nD Cert.ForgetGradIdeal.τ).loc Cert.ForgetGradIdeal.main_v14) = v0 c
          ∧ r.2.mem ((c.tc : Thread Cert.ForgetGradIdeal.nD Cert.ForgetGradIdeal.τ).loc Cert.ForgetGradIdeal.main_arg0) = m ((c.tc : Thread Cert.ForgetGradIdeal.nD Cert.ForgetGradIdeal.τ).loc Cert.ForgetGradIdeal.main_arg0)
          ∧ r.2.mem ((c.tc : Thread Cert.ForgetGradIdeal.nD Cert.ForgetGradIdeal.τ).loc Cert.ForgetGradIdeal.main_arg1) = m ((c.tc : Thread Cert.ForgetGradIdeal.nD Cert.ForgetGradIdeal.τ).loc Cert.ForgetGradIdeal.main_arg1)
          ∧ r.2.mem ((c.tc : Thread Cert.ForgetGradIdeal.nD Cert.ForgetGradIdeal.τ).loc Cert.ForgetGradIdeal.main_arg2) = m ((c.tc : Thread Cert.ForgetGradIdeal.nD Cert.ForgetGradIdeal.τ).loc Cert.ForgetGradIdeal.main_arg2)
          ∧ r.2.mem ((c.tc : Thread Cert.ForgetGradIdeal.nD Cert.ForgetGradIdeal.τ).loc Cert.ForgetGradIdeal.main_arg3) = m ((c.tc : Thread Cert.ForgetGradIdeal.nD Cert.ForgetGradIdeal.τ).loc Cert.ForgetGradIdeal.main_arg3))
      ∧ θ_run (Cert.ForgetGradRefIdeal.defs (F := Ideal)) (onTc (τ := Cert.ForgetGradRefIdeal.τ) (Cert.ForgetGradRefIdeal.main (F := Ideal))) ⟨m', fun _ => 0, g'⟩ (fun r => ∀ c : Dev Cert.ForgetGradRefIdeal.nD,
          r.2.mem ((c.tc : Thread Cert.ForgetGradRefIdeal.nD Cert.ForgetGradRefIdeal.τ).loc Cert.ForgetGradRefIdeal.main_v15) = v0 c
          ∧ r.2.mem ((c.tc : Thread Cert.ForgetGradRefIdeal.nD Cert.ForgetGradRefIdeal.τ).loc Cert.ForgetGradRefIdeal.main_arg0) = m' ((c.tc : Thread Cert.ForgetGradRefIdeal.nD Cert.ForgetGradRefIdeal.τ).loc Cert.ForgetGradRefIdeal.main_arg0)
          ∧ r.2.mem ((c.tc : Thread Cert.ForgetGradRefIdeal.nD Cert.ForgetGradRefIdeal.τ).loc Cert.ForgetGradRefIdeal.main_arg1) = m' ((c.tc : Thread Cert.ForgetGradRefIdeal.nD Cert.ForgetGradRefIdeal.τ).loc Cert.ForgetGradRefIdeal.main_arg1)
          ∧ r.2.mem ((c.tc : Thread Cert.ForgetGradRefIdeal.nD Cert.ForgetGradRefIdeal.τ).loc Cert.ForgetGradRefIdeal.main_arg2) = m' ((c.tc : Thread Cert.ForgetGradRefIdeal.nD Cert.ForgetGradRefIdeal.τ).loc Cert.ForgetGradRefIdeal.main_arg2)
          ∧ r.2.mem ((c.tc : Thread Cert.ForgetGradRefIdeal.nD Cert.ForgetGradRefIdeal.τ).loc Cert.ForgetGradRefIdeal.main_arg3) = m' ((c.tc : Thread Cert.ForgetGradRefIdeal.nD Cert.ForgetGradRefIdeal.τ).loc Cert.ForgetGradRefIdeal.main_arg3))

def preserves_GateGrad_GateGradIdeal : Prop :=
  True

def algebraic_GateGradIdeal_GateGradRefIdeal [hGateGradIdeal : Cert.GateGradIdeal.Facts] [hGateGradRefIdeal : Cert.GateGradRefIdeal.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradRefIdeal.nD Cert.GateGradRefIdeal.τ Cert.GateGradRefIdeal.sig) → Buf (Elt Ideal) ℓ) (g' : Dev Cert.GateGradRefIdeal.nD → PrngReg), Pre_GateGradIdeal m →
    (∀ c : Dev Cert.GateGradIdeal.nD,
      m' ((c.tc : Thread Cert.GateGradRefIdeal.nD Cert.GateGradRefIdeal.τ).loc Cert.GateGradRefIdeal.main_arg0) = m ((c.tc : Thread Cert.GateGradIdeal.nD Cert.GateGradIdeal.τ).loc Cert.GateGradIdeal.main_arg0)
      ∧ m' ((c.tc : Thread Cert.GateGradRefIdeal.nD Cert.GateGradRefIdeal.τ).loc Cert.GateGradRefIdeal.main_arg1) = m ((c.tc : Thread Cert.GateGradIdeal.nD Cert.GateGradIdeal.τ).loc Cert.GateGradIdeal.main_arg1)
      ∧ m' ((c.tc : Thread Cert.GateGradRefIdeal.nD Cert.GateGradRefIdeal.τ).loc Cert.GateGradRefIdeal.main_arg2) = m ((c.tc : Thread Cert.GateGradIdeal.nD Cert.GateGradIdeal.τ).loc Cert.GateGradIdeal.main_arg2)
      ∧ m' ((c.tc : Thread Cert.GateGradRefIdeal.nD Cert.GateGradRefIdeal.τ).loc Cert.GateGradRefIdeal.main_arg3) = m ((c.tc : Thread Cert.GateGradIdeal.nD Cert.GateGradIdeal.τ).loc Cert.GateGradIdeal.main_arg3)
      ∧ m' ((c.tc : Thread Cert.GateGradRefIdeal.nD Cert.GateGradRefIdeal.τ).loc Cert.GateGradRefIdeal.main_arg4) = m ((c.tc : Thread Cert.GateGradIdeal.nD Cert.GateGradIdeal.τ).loc Cert.GateGradIdeal.main_arg4)
      ∧ m' ((c.tc : Thread Cert.GateGradRefIdeal.nD Cert.GateGradRefIdeal.τ).loc Cert.GateGradRefIdeal.main_arg5) = m ((c.tc : Thread Cert.GateGradIdeal.nD Cert.GateGradIdeal.τ).loc Cert.GateGradIdeal.main_arg5)) →
    ∃ (v0 : (c : Dev Cert.GateGradIdeal.nD) → Buf (Elt Ideal) ((c.tc : Thread Cert.GateGradIdeal.nD Cert.GateGradIdeal.τ).loc Cert.GateGradIdeal.main_v28)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v28) = v0 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
          ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
          ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4)
          ∧ r.2.mem ((c.tc : Thread Cert.GateGradIdeal.nD Cert.GateGradIdeal.τ).loc Cert.GateGradIdeal.main_arg5) = m ((c.tc : Thread Cert.GateGradIdeal.nD Cert.GateGradIdeal.τ).loc Cert.GateGradIdeal.main_arg5))
      ∧ θ_run (Cert.GateGradRefIdeal.defs (F := Ideal)) (onTc (τ := Cert.GateGradRefIdeal.τ) (Cert.GateGradRefIdeal.main (F := Ideal))) ⟨m', fun _ => 0, g'⟩ (fun r => ∀ c : Dev Cert.GateGradRefIdeal.nD,
          r.2.mem ((c.tc : Thread Cert.GateGradRefIdeal.nD Cert.GateGradRefIdeal.τ).loc Cert.GateGradRefIdeal.main_v29) = v0 c
          ∧ r.2.mem ((c.tc : Thread Cert.GateGradRefIdeal.nD Cert.GateGradRefIdeal.τ).loc Cert.GateGradRefIdeal.main_arg0) = m' ((c.tc : Thread Cert.GateGradRefIdeal.nD Cert.GateGradRefIdeal.τ).loc Cert.GateGradRefIdeal.main_arg0)
          ∧ r.2.mem ((c.tc : Thread Cert.GateGradRefIdeal.nD Cert.GateGradRefIdeal.τ).loc Cert.GateGradRefIdeal.main_arg1) = m' ((c.tc : Thread Cert.GateGradRefIdeal.nD Cert.GateGradRefIdeal.τ).loc Cert.GateGradRefIdeal.main_arg1)
          ∧ r.2.mem ((c.tc : Thread Cert.GateGradRefIdeal.nD Cert.GateGradRefIdeal.τ).loc Cert.GateGradRefIdeal.main_arg2) = m' ((c.tc : Thread Cert.GateGradRefIdeal.nD Cert.GateGradRefIdeal.τ).loc Cert.GateGradRefIdeal.main_arg2)
          ∧ r.2.mem ((c.tc : Thread Cert.GateGradRefIdeal.nD Cert.GateGradRefIdeal.τ).loc Cert.GateGradRefIdeal.main_arg3) = m' ((c.tc : Thread Cert.GateGradRefIdeal.nD Cert.GateGradRefIdeal.τ).loc Cert.GateGradRefIdeal.main_arg3)
          ∧ r.2.mem ((c.tc : Thread Cert.GateGradRefIdeal.nD Cert.GateGradRefIdeal.τ).loc Cert.GateGradRefIdeal.main_arg4) = m' ((c.tc : Thread Cert.GateGradRefIdeal.nD Cert.GateGradRefIdeal.τ).loc Cert.GateGradRefIdeal.main_arg4)
          ∧ r.2.mem ((c.tc : Thread Cert.GateGradRefIdeal.nD Cert.GateGradRefIdeal.τ).loc Cert.GateGradRefIdeal.main_arg5) = m' ((c.tc : Thread Cert.GateGradRefIdeal.nD Cert.GateGradRefIdeal.τ).loc Cert.GateGradRefIdeal.main_arg5))

def preserves_W1Grad_W1GradIdeal : Prop :=
  True

def algebraic_W1GradIdeal_W1GradRefIdeal [hW1GradIdeal : Cert.W1GradIdeal.Facts] [hW1GradRefIdeal : Cert.W1GradRefIdeal.Facts] : Prop :=
  ∀ (m : (ℓ : Loc Cert.W1GradIdeal.nD Cert.W1GradIdeal.τ Cert.W1GradIdeal.sig) → Buf (Elt Ideal) ℓ) (g : Dev Cert.W1GradIdeal.nD → PrngReg)
    (m' : (ℓ : Loc Cert.W1GradRefIdeal.nD Cert.W1GradRefIdeal.τ Cert.W1GradRefIdeal.sig) → Buf (Elt Ideal) ℓ) (g' : Dev Cert.W1GradRefIdeal.nD → PrngReg), Pre_W1GradIdeal m →
    (∀ c : Dev Cert.W1GradIdeal.nD,
      m' ((c.tc : Thread Cert.W1GradRefIdeal.nD Cert.W1GradRefIdeal.τ).loc Cert.W1GradRefIdeal.main_arg0) = m ((c.tc : Thread Cert.W1GradIdeal.nD Cert.W1GradIdeal.τ).loc Cert.W1GradIdeal.main_arg0)
      ∧ m' ((c.tc : Thread Cert.W1GradRefIdeal.nD Cert.W1GradRefIdeal.τ).loc Cert.W1GradRefIdeal.main_arg1) = m ((c.tc : Thread Cert.W1GradIdeal.nD Cert.W1GradIdeal.τ).loc Cert.W1GradIdeal.main_arg1)
      ∧ m' ((c.tc : Thread Cert.W1GradRefIdeal.nD Cert.W1GradRefIdeal.τ).loc Cert.W1GradRefIdeal.main_arg2) = m ((c.tc : Thread Cert.W1GradIdeal.nD Cert.W1GradIdeal.τ).loc Cert.W1GradIdeal.main_arg2)
      ∧ m' ((c.tc : Thread Cert.W1GradRefIdeal.nD Cert.W1GradRefIdeal.τ).loc Cert.W1GradRefIdeal.main_arg3) = m ((c.tc : Thread Cert.W1GradIdeal.nD Cert.W1GradIdeal.τ).loc Cert.W1GradIdeal.main_arg3)) →
    ∃ (v0 : (c : Dev Cert.W1GradIdeal.nD) → Buf (Elt Ideal) ((c.tc : Thread Cert.W1GradIdeal.nD Cert.W1GradIdeal.τ).loc Cert.W1GradIdeal.main_v15)),
      θ_run (Cert.W1GradIdeal.defs (F := Ideal)) (onTc (τ := Cert.W1GradIdeal.τ) (Cert.W1GradIdeal.main (F := Ideal))) ⟨m, fun _ => 0, g⟩ (fun r => ∀ c : Dev Cert.W1GradIdeal.nD,
          r.2.mem ((c.tc : Thread Cert.W1GradIdeal.nD Cert.W1GradIdeal.τ).loc Cert.W1GradIdeal.main_v15) = v0 c
          ∧ r.2.mem ((c.tc : Thread Cert.W1GradIdeal.nD Cert.W1GradIdeal.τ).loc Cert.W1GradIdeal.main_arg0) = m ((c.tc : Thread Cert.W1GradIdeal.nD Cert.W1GradIdeal.τ).loc Cert.W1GradIdeal.main_arg0)
          ∧ r.2.mem ((c.tc : Thread Cert.W1GradIdeal.nD Cert.W1GradIdeal.τ).loc Cert.W1GradIdeal.main_arg1) = m ((c.tc : Thread Cert.W1GradIdeal.nD Cert.W1GradIdeal.τ).loc Cert.W1GradIdeal.main_arg1)
          ∧ r.2.mem ((c.tc : Thread Cert.W1GradIdeal.nD Cert.W1GradIdeal.τ).loc Cert.W1GradIdeal.main_arg2) = m ((c.tc : Thread Cert.W1GradIdeal.nD Cert.W1GradIdeal.τ).loc Cert.W1GradIdeal.main_arg2)
          ∧ r.2.mem ((c.tc : Thread Cert.W1GradIdeal.nD Cert.W1GradIdeal.τ).loc Cert.W1GradIdeal.main_arg3) = m ((c.tc : Thread Cert.W1GradIdeal.nD Cert.W1GradIdeal.τ).loc Cert.W1GradIdeal.main_arg3))
      ∧ θ_run (Cert.W1GradRefIdeal.defs (F := Ideal)) (onTc (τ := Cert.W1GradRefIdeal.τ) (Cert.W1GradRefIdeal.main (F := Ideal))) ⟨m', fun _ => 0, g'⟩ (fun r => ∀ c : Dev Cert.W1GradRefIdeal.nD,
          r.2.mem ((c.tc : Thread Cert.W1GradRefIdeal.nD Cert.W1GradRefIdeal.τ).loc Cert.W1GradRefIdeal.main_v17) = v0 c
          ∧ r.2.mem ((c.tc : Thread Cert.W1GradRefIdeal.nD Cert.W1GradRefIdeal.τ).loc Cert.W1GradRefIdeal.main_arg0) = m' ((c.tc : Thread Cert.W1GradRefIdeal.nD Cert.W1GradRefIdeal.τ).loc Cert.W1GradRefIdeal.main_arg0)
          ∧ r.2.mem ((c.tc : Thread Cert.W1GradRefIdeal.nD Cert.W1GradRefIdeal.τ).loc Cert.W1GradRefIdeal.main_arg1) = m' ((c.tc : Thread Cert.W1GradRefIdeal.nD Cert.W1GradRefIdeal.τ).loc Cert.W1GradRefIdeal.main_arg1)
          ∧ r.2.mem ((c.tc : Thread Cert.W1GradRefIdeal.nD Cert.W1GradRefIdeal.τ).loc Cert.W1GradRefIdeal.main_arg2) = m' ((c.tc : Thread Cert.W1GradRefIdeal.nD Cert.W1GradRefIdeal.τ).loc Cert.W1GradRefIdeal.main_arg2)
          ∧ r.2.mem ((c.tc : Thread Cert.W1GradRefIdeal.nD Cert.W1GradRefIdeal.τ).loc Cert.W1GradRefIdeal.main_arg3) = m' ((c.tc : Thread Cert.W1GradRefIdeal.nD Cert.W1GradRefIdeal.τ).loc Cert.W1GradRefIdeal.main_arg3))

def preserves_ConvGrad_ConvGradIdeal : Prop :=
  True

def algebraic_ConvGradIdeal_ConvGradRefIdeal [hConvGradIdeal : Cert.ConvGradIdeal.Facts] [hConvGradRefIdeal : Cert.ConvGradRefIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg)
    (m' : (ℓ : Loc Cert.ConvGradRefIdeal.nD Cert.ConvGradRefIdeal.τ Cert.ConvGradRefIdeal.sig) → Buf (Elt Ideal) ℓ) (g' : Dev Cert.ConvGradRefIdeal.nD → PrngReg), Pre_ConvGradIdeal m →
    (∀ c : Dev Cert.ConvGradIdeal.nD,
      m' ((c.tc : Thread Cert.ConvGradRefIdeal.nD Cert.ConvGradRefIdeal.τ).loc Cert.ConvGradRefIdeal.main_arg0) = m ((c.tc : Thread Cert.ConvGradIdeal.nD Cert.ConvGradIdeal.τ).loc Cert.ConvGradIdeal.main_arg0)
      ∧ m' ((c.tc : Thread Cert.ConvGradRefIdeal.nD Cert.ConvGradRefIdeal.τ).loc Cert.ConvGradRefIdeal.main_arg1) = m ((c.tc : Thread Cert.ConvGradIdeal.nD Cert.ConvGradIdeal.τ).loc Cert.ConvGradIdeal.main_arg1)
      ∧ m' ((c.tc : Thread Cert.ConvGradRefIdeal.nD Cert.ConvGradRefIdeal.τ).loc Cert.ConvGradRefIdeal.main_arg2) = m ((c.tc : Thread Cert.ConvGradIdeal.nD Cert.ConvGradIdeal.τ).loc Cert.ConvGradIdeal.main_arg2)
      ∧ m' ((c.tc : Thread Cert.ConvGradRefIdeal.nD Cert.ConvGradRefIdeal.τ).loc Cert.ConvGradRefIdeal.main_arg3) = m ((c.tc : Thread Cert.ConvGradIdeal.nD Cert.ConvGradIdeal.τ).loc Cert.ConvGradIdeal.main_arg3)
      ∧ m' ((c.tc : Thread Cert.ConvGradRefIdeal.nD Cert.ConvGradRefIdeal.τ).loc Cert.ConvGradRefIdeal.main_arg4) = m ((c.tc : Thread Cert.ConvGradIdeal.nD Cert.ConvGradIdeal.τ).loc Cert.ConvGradIdeal.main_arg4)) →
    ∃ (v0 : (c : Dev Cert.ConvGradIdeal.nD) → Buf (Elt Ideal) ((c.tc : Thread Cert.ConvGradIdeal.nD Cert.ConvGradIdeal.τ).loc Cert.ConvGradIdeal.main_v15)),
      θ_run (Cert.ConvGradIdeal.defs (F := Ideal)) (onTc (τ := Cert.ConvGradIdeal.τ) (Cert.ConvGradIdeal.main (F := Ideal))) ⟨m, fun _ => 0, g⟩ (fun r => ∀ c : Dev Cert.ConvGradIdeal.nD,
          r.2.mem ((c.tc : Thread Cert.ConvGradIdeal.nD Cert.ConvGradIdeal.τ).loc Cert.ConvGradIdeal.main_v15) = v0 c
          ∧ r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
          ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
          ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
          ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3)
          ∧ r.2.mem ((c.tc : Thread Cert.ConvGradIdeal.nD Cert.ConvGradIdeal.τ).loc Cert.ConvGradIdeal.main_arg4) = m ((c.tc : Thread Cert.ConvGradIdeal.nD Cert.ConvGradIdeal.τ).loc Cert.ConvGradIdeal.main_arg4))
      ∧ θ_run (Cert.ConvGradRefIdeal.defs (F := Ideal)) (onTc (τ := Cert.ConvGradRefIdeal.τ) (Cert.ConvGradRefIdeal.main (F := Ideal))) ⟨m', fun _ => 0, g'⟩ (fun r => ∀ c : Dev Cert.ConvGradRefIdeal.nD,
          r.2.mem ((c.tc : Thread Cert.ConvGradRefIdeal.nD Cert.ConvGradRefIdeal.τ).loc Cert.ConvGradRefIdeal.main_v20) = v0 c
          ∧ r.2.mem ((c.tc : Thread Cert.ConvGradRefIdeal.nD Cert.ConvGradRefIdeal.τ).loc Cert.ConvGradRefIdeal.main_arg0) = m' ((c.tc : Thread Cert.ConvGradRefIdeal.nD Cert.ConvGradRefIdeal.τ).loc Cert.ConvGradRefIdeal.main_arg0)
          ∧ r.2.mem ((c.tc : Thread Cert.ConvGradRefIdeal.nD Cert.ConvGradRefIdeal.τ).loc Cert.ConvGradRefIdeal.main_arg1) = m' ((c.tc : Thread Cert.ConvGradRefIdeal.nD Cert.ConvGradRefIdeal.τ).loc Cert.ConvGradRefIdeal.main_arg1)
          ∧ r.2.mem ((c.tc : Thread Cert.ConvGradRefIdeal.nD Cert.ConvGradRefIdeal.τ).loc Cert.ConvGradRefIdeal.main_arg2) = m' ((c.tc : Thread Cert.ConvGradRefIdeal.nD Cert.ConvGradRefIdeal.τ).loc Cert.ConvGradRefIdeal.main_arg2)
          ∧ r.2.mem ((c.tc : Thread Cert.ConvGradRefIdeal.nD Cert.ConvGradRefIdeal.τ).loc Cert.ConvGradRefIdeal.main_arg3) = m' ((c.tc : Thread Cert.ConvGradRefIdeal.nD Cert.ConvGradRefIdeal.τ).loc Cert.ConvGradRefIdeal.main_arg3)
          ∧ r.2.mem ((c.tc : Thread Cert.ConvGradRefIdeal.nD Cert.ConvGradRefIdeal.τ).loc Cert.ConvGradRefIdeal.main_arg4) = m' ((c.tc : Thread Cert.ConvGradRefIdeal.nD Cert.ConvGradRefIdeal.τ).loc Cert.ConvGradRefIdeal.main_arg4))

def preserves_ProjGrad_ProjGradIdeal : Prop :=
  True

def algebraic_ProjGradIdeal_ProjGradRefIdeal [hProjGradIdeal : Cert.ProjGradIdeal.Facts] [hProjGradRefIdeal : Cert.ProjGradRefIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg)
    (m' : (ℓ : Loc Cert.ProjGradRefIdeal.nD Cert.ProjGradRefIdeal.τ Cert.ProjGradRefIdeal.sig) → Buf (Elt Ideal) ℓ) (g' : Dev Cert.ProjGradRefIdeal.nD → PrngReg), Pre_ProjGradIdeal m →
    (∀ c : Dev Cert.ProjGradIdeal.nD,
      m' ((c.tc : Thread Cert.ProjGradRefIdeal.nD Cert.ProjGradRefIdeal.τ).loc Cert.ProjGradRefIdeal.main_arg0) = m ((c.tc : Thread Cert.ProjGradIdeal.nD Cert.ProjGradIdeal.τ).loc Cert.ProjGradIdeal.main_arg0)
      ∧ m' ((c.tc : Thread Cert.ProjGradRefIdeal.nD Cert.ProjGradRefIdeal.τ).loc Cert.ProjGradRefIdeal.main_arg1) = m ((c.tc : Thread Cert.ProjGradIdeal.nD Cert.ProjGradIdeal.τ).loc Cert.ProjGradIdeal.main_arg1)
      ∧ m' ((c.tc : Thread Cert.ProjGradRefIdeal.nD Cert.ProjGradRefIdeal.τ).loc Cert.ProjGradRefIdeal.main_arg2) = m ((c.tc : Thread Cert.ProjGradIdeal.nD Cert.ProjGradIdeal.τ).loc Cert.ProjGradIdeal.main_arg2)
      ∧ m' ((c.tc : Thread Cert.ProjGradRefIdeal.nD Cert.ProjGradRefIdeal.τ).loc Cert.ProjGradRefIdeal.main_arg3) = m ((c.tc : Thread Cert.ProjGradIdeal.nD Cert.ProjGradIdeal.τ).loc Cert.ProjGradIdeal.main_arg3)
      ∧ m' ((c.tc : Thread Cert.ProjGradRefIdeal.nD Cert.ProjGradRefIdeal.τ).loc Cert.ProjGradRefIdeal.main_arg4) = m ((c.tc : Thread Cert.ProjGradIdeal.nD Cert.ProjGradIdeal.τ).loc Cert.ProjGradIdeal.main_arg4)
      ∧ m' ((c.tc : Thread Cert.ProjGradRefIdeal.nD Cert.ProjGradRefIdeal.τ).loc Cert.ProjGradRefIdeal.main_arg5) = m ((c.tc : Thread Cert.ProjGradIdeal.nD Cert.ProjGradIdeal.τ).loc Cert.ProjGradIdeal.main_arg5)) →
    ∃ (v0 : (c : Dev Cert.ProjGradIdeal.nD) → Buf (Elt Ideal) ((c.tc : Thread Cert.ProjGradIdeal.nD Cert.ProjGradIdeal.τ).loc Cert.ProjGradIdeal.main_v22)),
      θ_run (Cert.ProjGradIdeal.defs (F := Ideal)) (onTc (τ := Cert.ProjGradIdeal.τ) (Cert.ProjGradIdeal.main (F := Ideal))) ⟨m, fun _ => 0, g⟩ (fun r => ∀ c : Dev Cert.ProjGradIdeal.nD,
          r.2.mem ((c.tc : Thread Cert.ProjGradIdeal.nD Cert.ProjGradIdeal.τ).loc Cert.ProjGradIdeal.main_v22) = v0 c
          ∧ r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
          ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1)
          ∧ r.2.mem ((c.tc : Thread Cert.ProjGradIdeal.nD Cert.ProjGradIdeal.τ).loc Cert.ProjGradIdeal.main_arg2) = m ((c.tc : Thread Cert.ProjGradIdeal.nD Cert.ProjGradIdeal.τ).loc Cert.ProjGradIdeal.main_arg2)
          ∧ r.2.mem ((c.tc : Thread Cert.ProjGradIdeal.nD Cert.ProjGradIdeal.τ).loc Cert.ProjGradIdeal.main_arg3) = m ((c.tc : Thread Cert.ProjGradIdeal.nD Cert.ProjGradIdeal.τ).loc Cert.ProjGradIdeal.main_arg3)
          ∧ r.2.mem ((c.tc : Thread Cert.ProjGradIdeal.nD Cert.ProjGradIdeal.τ).loc Cert.ProjGradIdeal.main_arg4) = m ((c.tc : Thread Cert.ProjGradIdeal.nD Cert.ProjGradIdeal.τ).loc Cert.ProjGradIdeal.main_arg4)
          ∧ r.2.mem ((c.tc : Thread Cert.ProjGradIdeal.nD Cert.ProjGradIdeal.τ).loc Cert.ProjGradIdeal.main_arg5) = m ((c.tc : Thread Cert.ProjGradIdeal.nD Cert.ProjGradIdeal.τ).loc Cert.ProjGradIdeal.main_arg5))
      ∧ θ_run (Cert.ProjGradRefIdeal.defs (F := Ideal)) (onTc (τ := Cert.ProjGradRefIdeal.τ) (Cert.ProjGradRefIdeal.main (F := Ideal))) ⟨m', fun _ => 0, g'⟩ (fun r => ∀ c : Dev Cert.ProjGradRefIdeal.nD,
          r.2.mem ((c.tc : Thread Cert.ProjGradRefIdeal.nD Cert.ProjGradRefIdeal.τ).loc Cert.ProjGradRefIdeal.main_v27) = v0 c
          ∧ r.2.mem ((c.tc : Thread Cert.ProjGradRefIdeal.nD Cert.ProjGradRefIdeal.τ).loc Cert.ProjGradRefIdeal.main_arg0) = m' ((c.tc : Thread Cert.ProjGradRefIdeal.nD Cert.ProjGradRefIdeal.τ).loc Cert.ProjGradRefIdeal.main_arg0)
          ∧ r.2.mem ((c.tc : Thread Cert.ProjGradRefIdeal.nD Cert.ProjGradRefIdeal.τ).loc Cert.ProjGradRefIdeal.main_arg1) = m' ((c.tc : Thread Cert.ProjGradRefIdeal.nD Cert.ProjGradRefIdeal.τ).loc Cert.ProjGradRefIdeal.main_arg1)
          ∧ r.2.mem ((c.tc : Thread Cert.ProjGradRefIdeal.nD Cert.ProjGradRefIdeal.τ).loc Cert.ProjGradRefIdeal.main_arg2) = m' ((c.tc : Thread Cert.ProjGradRefIdeal.nD Cert.ProjGradRefIdeal.τ).loc Cert.ProjGradRefIdeal.main_arg2)
          ∧ r.2.mem ((c.tc : Thread Cert.ProjGradRefIdeal.nD Cert.ProjGradRefIdeal.τ).loc Cert.ProjGradRefIdeal.main_arg3) = m' ((c.tc : Thread Cert.ProjGradRefIdeal.nD Cert.ProjGradRefIdeal.τ).loc Cert.ProjGradRefIdeal.main_arg3)
          ∧ r.2.mem ((c.tc : Thread Cert.ProjGradRefIdeal.nD Cert.ProjGradRefIdeal.τ).loc Cert.ProjGradRefIdeal.main_arg4) = m' ((c.tc : Thread Cert.ProjGradRefIdeal.nD Cert.ProjGradRefIdeal.τ).loc Cert.ProjGradRefIdeal.main_arg4)
          ∧ r.2.mem ((c.tc : Thread Cert.ProjGradRefIdeal.nD Cert.ProjGradRefIdeal.τ).loc Cert.ProjGradRefIdeal.main_arg5) = m' ((c.tc : Thread Cert.ProjGradRefIdeal.nD Cert.ProjGradRefIdeal.τ).loc Cert.ProjGradRefIdeal.main_arg5))

def Claim : Prop :=
  ∃ (hLossHead : Cert.LossHead.Facts) (hLossHeadIdeal : Cert.LossHeadIdeal.Facts) (hLossHeadRefIdeal : Cert.LossHeadRefIdeal.Facts) (hFlashBwd : Cert.FlashBwd.Facts) (hFlashBwdIdeal : Cert.FlashBwdIdeal.Facts) (hFlashBwdRefIdeal : Cert.FlashBwdRefIdeal.Facts) (hQBwd : Cert.QBwd.Facts) (hQBwdIdeal : Cert.QBwdIdeal.Facts) (hQBwdRefIdeal : Cert.QBwdRefIdeal.Facts) (hFfnBwd : Cert.FfnBwd.Facts) (hFfnBwdIdeal : Cert.FfnBwdIdeal.Facts) (hFfnBwdRefIdeal : Cert.FfnBwdRefIdeal.Facts) (hPleBwd : Cert.PleBwd.Facts) (hPleBwdIdeal : Cert.PleBwdIdeal.Facts) (hPleBwdRefIdeal : Cert.PleBwdRefIdeal.Facts) (hOutBwd : Cert.OutBwd.Facts) (hOutBwdIdeal : Cert.OutBwdIdeal.Facts) (hOutBwdRefIdeal : Cert.OutBwdRefIdeal.Facts) (hQFwd : Cert.QFwd.Facts) (hQFwdIdeal : Cert.QFwdIdeal.Facts) (hQFwdRefIdeal : Cert.QFwdRefIdeal.Facts) (hFfnFwd : Cert.FfnFwd.Facts) (hFfnFwdIdeal : Cert.FfnFwdIdeal.Facts) (hFfnFwdRefIdeal : Cert.FfnFwdRefIdeal.Facts) (hPleFwd : Cert.PleFwd.Facts) (hPleFwdIdeal : Cert.PleFwdIdeal.Facts) (hPleFwdRefIdeal : Cert.PleFwdRefIdeal.Facts) (hKvFwd : Cert.KvFwd.Facts) (hKvFwdIdeal : Cert.KvFwdIdeal.Facts) (hKvFwdRefIdeal : Cert.KvFwdRefIdeal.Facts) (hConvFwd : Cert.ConvFwd.Facts) (hConvFwdIdeal : Cert.ConvFwdIdeal.Facts) (hConvFwdRefIdeal : Cert.ConvFwdRefIdeal.Facts) (hOutFwd : Cert.OutFwd.Facts) (hOutFwdIdeal : Cert.OutFwdIdeal.Facts) (hOutFwdRefIdeal : Cert.OutFwdRefIdeal.Facts) (hOutGrad : Cert.OutGrad.Facts) (hOutGradIdeal : Cert.OutGradIdeal.Facts) (hOutGradRefIdeal : Cert.OutGradRefIdeal.Facts) (hQGrad : Cert.QGrad.Facts) (hQGradIdeal : Cert.QGradIdeal.Facts) (hQGradRefIdeal : Cert.QGradRefIdeal.Facts) (hW2Grad : Cert.W2Grad.Facts) (hW2GradIdeal : Cert.W2GradIdeal.Facts) (hW2GradRefIdeal : Cert.W2GradRefIdeal.Facts) (hCacheGrad : Cert.CacheGrad.Facts) (hCacheGradIdeal : Cert.CacheGradIdeal.Facts) (hCacheGradRefIdeal : Cert.CacheGradRefIdeal.Facts) (hForgetGrad : Cert.ForgetGrad.Facts) (hForgetGradIdeal : Cert.ForgetGradIdeal.Facts) (hForgetGradRefIdeal : Cert.ForgetGradRefIdeal.Facts) (hGateGrad : Cert.GateGrad.Facts) (hGateGradIdeal : Cert.GateGradIdeal.Facts) (hGateGradRefIdeal : Cert.GateGradRefIdeal.Facts) (hW1Grad : Cert.W1Grad.Facts) (hW1GradIdeal : Cert.W1GradIdeal.Facts) (hW1GradRefIdeal : Cert.W1GradRefIdeal.Facts) (hConvGrad : Cert.ConvGrad.Facts) (hConvGradIdeal : Cert.ConvGradIdeal.Facts) (hConvGradRefIdeal : Cert.ConvGradRefIdeal.Facts) (hProjGrad : Cert.ProjGrad.Facts) (hProjGradIdeal : Cert.ProjGradIdeal.Facts) (hProjGradRefIdeal : Cert.ProjGradRefIdeal.Facts) (hPre_finite_loss : Cert.Pre_finite_loss.Facts) (hPre_finite_flash : Cert.Pre_finite_flash.Facts) (hPre_finite_q : Cert.Pre_finite_q.Facts) (hPre_finite_ffn : Cert.Pre_finite_ffn.Facts) (hPre_finite_ple : Cert.Pre_finite_ple.Facts) (hPre_finite_out : Cert.Pre_finite_out.Facts) (hPre_finite_cache : Cert.Pre_finite_cache.Facts),
    quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossHeadRefIdeal (hLossHeadRefIdeal := hLossHeadRefIdeal)
    ∧ quiescent_LossHeadRefIdeal_pre_finite_loss (hLossHeadRefIdeal := hLossHeadRefIdeal) (hPre_finite_loss := hPre_finite_loss)
    ∧ quiescent_FlashBwd (hFlashBwd := hFlashBwd)
    ∧ quiescent_FlashBwdIdeal (hFlashBwdIdeal := hFlashBwdIdeal)
    ∧ quiescent_FlashBwdIdeal_pre_finite_flash (hFlashBwdIdeal := hFlashBwdIdeal) (hPre_finite_flash := hPre_finite_flash)
    ∧ quiescent_FlashBwdRefIdeal (hFlashBwdRefIdeal := hFlashBwdRefIdeal)
    ∧ quiescent_FlashBwdRefIdeal_pre_finite_flash (hFlashBwdRefIdeal := hFlashBwdRefIdeal) (hPre_finite_flash := hPre_finite_flash)
    ∧ quiescent_QBwd (hQBwd := hQBwd)
    ∧ quiescent_QBwdIdeal (hQBwdIdeal := hQBwdIdeal)
    ∧ quiescent_QBwdIdeal_pre_finite_q (hQBwdIdeal := hQBwdIdeal) (hPre_finite_q := hPre_finite_q)
    ∧ quiescent_QBwdRefIdeal (hQBwdRefIdeal := hQBwdRefIdeal)
    ∧ quiescent_QBwdRefIdeal_pre_finite_q (hQBwdRefIdeal := hQBwdRefIdeal) (hPre_finite_q := hPre_finite_q)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_PleBwd (hPleBwd := hPleBwd)
    ∧ quiescent_PleBwdIdeal (hPleBwdIdeal := hPleBwdIdeal)
    ∧ quiescent_PleBwdIdeal_pre_finite_ple (hPleBwdIdeal := hPleBwdIdeal) (hPre_finite_ple := hPre_finite_ple)
    ∧ quiescent_PleBwdRefIdeal (hPleBwdRefIdeal := hPleBwdRefIdeal)
    ∧ quiescent_PleBwdRefIdeal_pre_finite_ple (hPleBwdRefIdeal := hPleBwdRefIdeal) (hPre_finite_ple := hPre_finite_ple)
    ∧ quiescent_OutBwd (hOutBwd := hOutBwd)
    ∧ quiescent_OutBwdIdeal (hOutBwdIdeal := hOutBwdIdeal)
    ∧ quiescent_OutBwdIdeal_pre_finite_out (hOutBwdIdeal := hOutBwdIdeal) (hPre_finite_out := hPre_finite_out)
    ∧ quiescent_OutBwdRefIdeal (hOutBwdRefIdeal := hOutBwdRefIdeal)
    ∧ quiescent_OutBwdRefIdeal_pre_finite_out (hOutBwdRefIdeal := hOutBwdRefIdeal) (hPre_finite_out := hPre_finite_out)
    ∧ quiescent_QFwd (hQFwd := hQFwd)
    ∧ quiescent_QFwdIdeal (hQFwdIdeal := hQFwdIdeal)
    ∧ quiescent_QFwdRefIdeal (hQFwdRefIdeal := hQFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ quiescent_KvFwd (hKvFwd := hKvFwd)
    ∧ quiescent_KvFwdIdeal (hKvFwdIdeal := hKvFwdIdeal)
    ∧ quiescent_KvFwdIdeal_pre_finite_cache (hKvFwdIdeal := hKvFwdIdeal) (hPre_finite_cache := hPre_finite_cache)
    ∧ quiescent_KvFwdRefIdeal (hKvFwdRefIdeal := hKvFwdRefIdeal)
    ∧ quiescent_KvFwdRefIdeal_pre_finite_cache (hKvFwdRefIdeal := hKvFwdRefIdeal) (hPre_finite_cache := hPre_finite_cache)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_QGrad (hQGrad := hQGrad)
    ∧ quiescent_QGradIdeal (hQGradIdeal := hQGradIdeal)
    ∧ quiescent_QGradRefIdeal (hQGradRefIdeal := hQGradRefIdeal)
    ∧ quiescent_W2Grad (hW2Grad := hW2Grad)
    ∧ quiescent_W2GradIdeal (hW2GradIdeal := hW2GradIdeal)
    ∧ quiescent_W2GradRefIdeal (hW2GradRefIdeal := hW2GradRefIdeal)
    ∧ quiescent_CacheGrad (hCacheGrad := hCacheGrad)
    ∧ quiescent_CacheGradIdeal (hCacheGradIdeal := hCacheGradIdeal)
    ∧ quiescent_CacheGradRefIdeal (hCacheGradRefIdeal := hCacheGradRefIdeal)
    ∧ quiescent_ForgetGrad (hForgetGrad := hForgetGrad)
    ∧ quiescent_ForgetGradIdeal (hForgetGradIdeal := hForgetGradIdeal)
    ∧ quiescent_ForgetGradRefIdeal (hForgetGradRefIdeal := hForgetGradRefIdeal)
    ∧ quiescent_GateGrad (hGateGrad := hGateGrad)
    ∧ quiescent_GateGradIdeal (hGateGradIdeal := hGateGradIdeal)
    ∧ quiescent_GateGradRefIdeal (hGateGradRefIdeal := hGateGradRefIdeal)
    ∧ quiescent_W1Grad (hW1Grad := hW1Grad)
    ∧ quiescent_W1GradIdeal (hW1GradIdeal := hW1GradIdeal)
    ∧ quiescent_W1GradRefIdeal (hW1GradRefIdeal := hW1GradRefIdeal)
    ∧ quiescent_ConvGrad (hConvGrad := hConvGrad)
    ∧ quiescent_ConvGradIdeal (hConvGradIdeal := hConvGradIdeal)
    ∧ quiescent_ConvGradRefIdeal (hConvGradRefIdeal := hConvGradRefIdeal)
    ∧ quiescent_ProjGrad (hProjGrad := hProjGrad)
    ∧ quiescent_ProjGradIdeal (hProjGradIdeal := hProjGradIdeal)
    ∧ quiescent_ProjGradRefIdeal (hProjGradRefIdeal := hProjGradRefIdeal)
    ∧ preserves_LossHead_LossHeadIdeal
    ∧ algebraic_LossHeadIdeal_LossHeadRefIdeal_pre_finite_loss (hLossHeadIdeal := hLossHeadIdeal) (hLossHeadRefIdeal := hLossHeadRefIdeal) (hPre_finite_loss := hPre_finite_loss)
    ∧ preserves_FlashBwd_FlashBwdIdeal
    ∧ algebraic_FlashBwdIdeal_FlashBwdRefIdeal_pre_finite_flash (hFlashBwdIdeal := hFlashBwdIdeal) (hFlashBwdRefIdeal := hFlashBwdRefIdeal) (hPre_finite_flash := hPre_finite_flash)
    ∧ preserves_QBwd_QBwdIdeal
    ∧ algebraic_QBwdIdeal_QBwdRefIdeal_pre_finite_q (hQBwdIdeal := hQBwdIdeal) (hQBwdRefIdeal := hQBwdRefIdeal) (hPre_finite_q := hPre_finite_q)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_PleBwd_PleBwdIdeal
    ∧ algebraic_PleBwdIdeal_PleBwdRefIdeal_pre_finite_ple (hPleBwdIdeal := hPleBwdIdeal) (hPleBwdRefIdeal := hPleBwdRefIdeal) (hPre_finite_ple := hPre_finite_ple)
    ∧ preserves_OutBwd_OutBwdIdeal
    ∧ algebraic_OutBwdIdeal_OutBwdRefIdeal_pre_finite_out (hOutBwdIdeal := hOutBwdIdeal) (hOutBwdRefIdeal := hOutBwdRefIdeal) (hPre_finite_out := hPre_finite_out)
    ∧ preserves_QFwd_QFwdIdeal
    ∧ algebraic_QFwdIdeal_QFwdRefIdeal (hQFwdIdeal := hQFwdIdeal) (hQFwdRefIdeal := hQFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_PleFwd_PleFwdIdeal
    ∧ algebraic_PleFwdIdeal_PleFwdRefIdeal (hPleFwdIdeal := hPleFwdIdeal) (hPleFwdRefIdeal := hPleFwdRefIdeal)
    ∧ preserves_KvFwd_KvFwdIdeal
    ∧ algebraic_KvFwdIdeal_KvFwdRefIdeal_pre_finite_cache (hKvFwdIdeal := hKvFwdIdeal) (hKvFwdRefIdeal := hKvFwdRefIdeal) (hPre_finite_cache := hPre_finite_cache)
    ∧ preserves_ConvFwd_ConvFwdIdeal
    ∧ algebraic_ConvFwdIdeal_ConvFwdRefIdeal (hConvFwdIdeal := hConvFwdIdeal) (hConvFwdRefIdeal := hConvFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_OutGrad_OutGradIdeal
    ∧ algebraic_OutGradIdeal_OutGradRefIdeal (hOutGradIdeal := hOutGradIdeal) (hOutGradRefIdeal := hOutGradRefIdeal)
    ∧ preserves_QGrad_QGradIdeal
    ∧ algebraic_QGradIdeal_QGradRefIdeal (hQGradIdeal := hQGradIdeal) (hQGradRefIdeal := hQGradRefIdeal)
    ∧ preserves_W2Grad_W2GradIdeal
    ∧ algebraic_W2GradIdeal_W2GradRefIdeal (hW2GradIdeal := hW2GradIdeal) (hW2GradRefIdeal := hW2GradRefIdeal)
    ∧ preserves_CacheGrad_CacheGradIdeal
    ∧ algebraic_CacheGradIdeal_CacheGradRefIdeal (hCacheGradIdeal := hCacheGradIdeal) (hCacheGradRefIdeal := hCacheGradRefIdeal)
    ∧ preserves_ForgetGrad_ForgetGradIdeal
    ∧ algebraic_ForgetGradIdeal_ForgetGradRefIdeal (hForgetGradIdeal := hForgetGradIdeal) (hForgetGradRefIdeal := hForgetGradRefIdeal)
    ∧ preserves_GateGrad_GateGradIdeal
    ∧ algebraic_GateGradIdeal_GateGradRefIdeal (hGateGradIdeal := hGateGradIdeal) (hGateGradRefIdeal := hGateGradRefIdeal)
    ∧ preserves_W1Grad_W1GradIdeal
    ∧ algebraic_W1GradIdeal_W1GradRefIdeal (hW1GradIdeal := hW1GradIdeal) (hW1GradRefIdeal := hW1GradRefIdeal)
    ∧ preserves_ConvGrad_ConvGradIdeal
    ∧ algebraic_ConvGradIdeal_ConvGradRefIdeal (hConvGradIdeal := hConvGradIdeal) (hConvGradRefIdeal := hConvGradRefIdeal)
    ∧ preserves_ProjGrad_ProjGradIdeal
    ∧ algebraic_ProjGradIdeal_ProjGradRefIdeal (hProjGradIdeal := hProjGradIdeal) (hProjGradRefIdeal := hProjGradRefIdeal)
-- ==== Pre_finite_cache.lean ====
abbrev S8192x1024 : Shape := ⟨2, ![8192, 1024]⟩
abbrev S1024 : Shape := ⟨1, ![1024]⟩
abbrev S1024x2064 : Shape := ⟨2, ![1024, 2064]⟩
abbrev S16 : Shape := ⟨1, ![16]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2064 : S_.BroadcastsInDim S1024x2064 (![] : Fin 0 → Fin S1024x2064.rank)
  reducesTo_S1024x2064_S_d0_1 : S1024x2064.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x2064 .f32) (main_arg3 : FVec F S16 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2064 .f32 := Host.absf main_arg2
  let main_cst_2 : FVec F S_ .f32 := constant S_ .f32 0x7F800000#32
  let main_v10 : FVec F S1024x2064 .f32 := broadcastInDim S1024x2064 ![] bcast_S_S1024x2064 main_cst_2
  let main_v11 : IVec S1024x2064 1 := cmpf .olt main_v9 main_v10
  let main_c_3 : IVec S_ 1 := constantI S_ 1 1#1
  let main_v12 : IVec S_ 1 := (fun x v => Host.reduce IntOp.andi x v reducesTo_S1024x2064_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Pre_finite_ffn.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S1024 .f32) (main_arg3 : FVec F S1024x4096 .f32) (main_arg4 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Pre_finite_flash.lean ====
abbrev S8192x1024 : Shape := ⟨2, ![8192, 1024]⟩
abbrev S16x8192 : Shape := ⟨2, ![16, 8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16x8192 : S_.BroadcastsInDim S16x8192 (![] : Fin 0 → Fin S16x8192.rank)
  reducesTo_S16x8192_S_d0_1 : S16x8192.ReducesTo [0, 1] S_

variable [Facts]

def fn_part1 {F : FTy → Type} [FloatOps F] (main_arg4 : FVec F S8192x1024 .f32) (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S16x8192 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S16x8192 .f32 := Host.absf main_arg3
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_arg4 main_v13 main_v16
-- ==== Pre_finite_loss.lean ====
abbrev S1x8192x1024 : Shape := ⟨3, ![1, 8192, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1x8192x1024 .f32) (main_arg1 : FVec F S1024 .f32) (main_arg2 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x8192x1024 .f32 := Host.absf main_arg2
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  let main_c_3 : IVec S_ 1 := constantI S_ 1 1#1
  let main_v12 : IVec S_ 1 := (fun x v => Host.reduce IntOp.andi x v reducesTo_S1x8192x1024_S_d0_1_2 h_S_) main_v11 main_c_3
  let main_v13 : IVec S_ 1 := andi main_v8 main_v12
  main_v13
-- ==== Pre_finite_out.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S1024x1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite_ple.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8192x256 : S_.BroadcastsInDim S8192x256 (![] : Fin 0 → Fin S8192x256.rank)
  reducesTo_S8192x256_S_d0_1 : S8192x256.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S8192x256 .f32) (main_arg5 : FVec F S256x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1024 .f32) (main_arg3 : FVec F S1024x1024 .f32) (main_arg4 : FVec F S8192x256 .f32) (main_arg5 : FVec F S256x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Pre_finite_q.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S8192x1024 .f32) (main_arg3 : FVec F S1024 .f32) (main_arg4 : FVec F S1024x1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== LossHead.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S1x128 : Shape := ⟨2, ![1, 128]⟩
abbrev S256x1024 : Shape := ⟨2, ![256, 1024]⟩
abbrev S8x1024 : Shape := ⟨2, ![8, 1024]⟩
abbrev S1x1 : Shape := ⟨2, ![1, 1]⟩
abbrev S256 : Shape := ⟨1, ![256]⟩
abbrev S256x1 : Shape := ⟨2, ![256, 1]⟩
abbrev S1 : Shape := ⟨1, ![1]⟩
abbrev S32x8x1024 : Shape := ⟨3, ![32, 8, 1024]⟩

abbrev nBuf : Space → Nat
  | .hbm => 9
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x128, .f32⟩
  | .local _ .vmem, ⟨9, _⟩ => ⟨S8x1024, .f32⟩
  | .local _ .vmem, ⟨10, _⟩ => ⟨S1x1, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v65 : BitVec 1 := Scalar.cmpi .eq arg0 c31_i32
  let v66 : BitVec 32 := Scalar.extui v65
  let c0_i32_26 : BitVec 32 := 0#32
  let v67 : BitVec 1 := Scalar.cmpi .ne v66 c0_i32_26
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S8192x1024 : Shape := ⟨2, ![8192, 1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S1x8192x1024, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1x8192x1024, .f32⟩
  | .hbm, ⟨24, _⟩ => ⟨S1x8192x1024, .f32⟩
  | .hbm, ⟨25, _⟩ => ⟨S_, .f32⟩
  | .hbm, ⟨26, _⟩ => ⟨S1x8192x1024, .f32⟩
  | .hbm, ⟨27, _⟩ => ⟨S1x8192x1024, .f32⟩
  | .hbm, ⟨28, _⟩ => ⟨S_, .f32⟩
  | .hbm, ⟨29, _⟩ => ⟨S1x8192, .f32⟩
  | .hbm, ⟨30, _⟩ => ⟨S_, .f32⟩
  | .hbm, ⟨31, _⟩ => ⟨S1x8192, .f32⟩
  | .hbm, ⟨32, _⟩ => ⟨S1x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x8192, .f32⟩
  | .hbm, ⟨41, _⟩ => ⟨S_, .f32⟩
  | .hbm, ⟨42, _⟩ => ⟨S1x8192, .f32⟩
  | .hbm, ⟨43, _⟩ => ⟨S1x8192, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x8192x1024, .f32⟩
  | .hbm, ⟨51, _⟩ => ⟨S1x8192x1024, .f32⟩
  | .hbm, ⟨52, _⟩ => ⟨S_, .f32⟩
  | .hbm, ⟨53, _⟩ => ⟨S1024, .f32⟩
  | .hbm, ⟨54, _⟩ => ⟨S1x8192x1024, .f32⟩
  | .hbm, ⟨55, _⟩ => ⟨S_, .f32⟩
  | .hbm, ⟨56, _⟩ => ⟨S1x8192, .f32⟩
  | .hbm, ⟨57, _⟩ => ⟨S1x8192x1, .f32⟩
  | .hbm, ⟨58, _⟩ => ⟨S1x8192x1024, .f32⟩
  | .hbm, ⟨59, _⟩ => ⟨S1x8192x1024, .f32⟩
  | .hbm, ⟨60, _⟩ => ⟨S1x8192x1, .f32⟩
  | .hbm, ⟨61, _⟩ => ⟨S_, .f32⟩
  | .hbm, ⟨62, _⟩ => ⟨S1x8192x1, .f32⟩
  | .hbm, ⟨63, _⟩ => ⟨S1x8192x1, .f32⟩
  | .hbm, ⟨64, _⟩ => ⟨S_, .f32⟩
  | .hbm, ⟨65, _⟩ => ⟨S8192, .f32⟩
  | .hbm, ⟨66, _⟩ => ⟨S1x8192, .f32⟩
  | .hbm, ⟨67, _⟩ => ⟨S1x8192x1024, .f32⟩
  | .hbm, ⟨68, _⟩ => ⟨S1x8192x1024, .f32⟩
  | .hbm, ⟨69, _⟩ => ⟨S1x8192x1024, .f32⟩
  | .hbm, ⟨70, _⟩ => ⟨S1x8192x1024, .f32⟩
  | .hbm, ⟨71, _⟩ => ⟨S1x8192x1024, .f32⟩
  | .hbm, ⟨72, _⟩ => ⟨S8192x1024, .f32⟩
  | .hbm, ⟨73, _⟩ => ⟨S1x1024, .f32⟩
  | .hbm, ⟨74, _⟩ => ⟨S1x128, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== FlashBwd.lean ====
abbrev S8192x1024 : Shape := ⟨2, ![8192, 1024]⟩
abbrev S16x8192 : Shape := ⟨2, ![16, 8192]⟩
abbrev S8192x16x64 : Shape := ⟨3, ![8192, 16, 64]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S16x64x8192 : Shape := ⟨3, ![16, 64, 8192]⟩
abbrev S8192x16 : Shape := ⟨2, ![8192, 16]⟩
abbrev S8x2x8192 : Shape := ⟨3, ![8, 2, 8192]⟩
abbrev S8x8192x2 : Shape := ⟨3, ![8, 8192, 2]⟩
abbrev S8192x8x2 : Shape := ⟨3, ![8192, 8, 2]⟩
abbrev S8x8192x6 : Shape := ⟨3, ![8, 8192, 6]⟩
abbrev S1024x8192 : Shape := ⟨2, ![1024, 8192]⟩
abbrev S8x8x8192 : Shape := ⟨3, ![8, 8, 8192]⟩
abbrev S8192x128 : Shape := ⟨2, ![8192, 128]⟩
abbrev S128x8192 : Shape := ⟨2, ![128, 8192]⟩
abbrev S1024x128 : Shape := ⟨2, ![1024, 128]⟩
abbrev S128x1024 : Shape := ⟨2, ![128, 1024]⟩
abbrev S1x2x1024 : Shape := ⟨3, ![1, 2, 1024]⟩
abbrev S1x8192x6 : Shape := ⟨3, ![1, 8192, 6]⟩
abbrev S1x8x1024 : Shape := ⟨3, ![1, 8, 1024]⟩
abbrev S1x8192x2 : Shape := ⟨3, ![1, 8192, 2]⟩
abbrev S8192x2 : Shape := ⟨2, ![8192, 2]⟩
abbrev S8x1024 : Shape := ⟨2, ![8, 1024]⟩
abbrev S1x512x6 : Shape := ⟨3, ![1, 512, 6]⟩
abbrev S512x6 : Shape := ⟨2, ![512, 6]⟩
abbrev S1x1x512 : Shape := ⟨3, ![1, 1, 512]⟩
abbrev S1x512 : Shape := ⟨2, ![1, 512]⟩
abbrev S1x1 : Shape := ⟨2, ![1, 1]⟩
abbrev S512x1 : Shape := ⟨2, ![512, 1]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S1x512x1 : Shape := ⟨3, ![1, 512, 1]⟩
abbrev S1x1x1024 : Shape := ⟨3, ![1, 1, 1024]⟩
abbrev S1x1024 : Shape := ⟨2, ![1, 1024]⟩
abbrev S64x1024 : Shape := ⟨2, ![64, 1024]⟩
abbrev S512x1024 : Shape := ⟨2, ![512, 1024]⟩
abbrev S1024 : Shape := ⟨1, ![1024]⟩
abbrev S1024x64 : Shape := ⟨2, ![1024, 64]⟩

abbrev nBuf : Space → Nat
  | .hbm => 82
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S16x8192, .f32⟩
  | .hbm, ⟨4, _⟩ => ⟨S8192x1024, .f32⟩
  | .hbm, ⟨5, _⟩ => ⟨S8192x16x64, .f32⟩
  | .hbm, ⟨6, _⟩ => ⟨S8192x16x64, .f32⟩
  | .hbm, ⟨7, _⟩ => ⟨S16x8192x8192, .f32⟩
  | .hbm, ⟨8, _⟩ => ⟨S16x8192x1, .f32⟩
  | .hbm, ⟨9, _⟩ => ⟨S16x1x8192, .f32⟩
  | .hbm, ⟨10, _⟩ => ⟨S16x8192x8192, .f32⟩
  | .hbm, ⟨11, _⟩ => ⟨S16x8192x8192, .f32⟩
  | .hbm, ⟨12, _⟩ => ⟨S16x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S16x8192x8192, .f32⟩
  | .hbm, ⟨21, _⟩ => ⟨S_, .f32⟩
  | .hbm, ⟨22, _⟩ => ⟨S_, .f32⟩
  | .hbm, ⟨23, _⟩ => ⟨S16x8192x8192, .i1⟩
  | .hbm, ⟨24, _⟩ => ⟨S16x8192x8192, .f32⟩
  | .hbm, ⟨25, _⟩ => ⟨S16x8192x8192, .f32⟩
  | .hbm, ⟨26, _⟩ => ⟨S_, .f32⟩
  | .hbm, ⟨27, _⟩ => ⟨S16x8192, .f32⟩
  | .hbm, ⟨28, _⟩ => ⟨S_, .f32⟩
  | .hbm, ⟨29, _⟩ => ⟨S16x8192, .f32⟩
  | .hbm, ⟨30, _⟩ => ⟨S16x8192, .f32⟩
  | .hbm, ⟨31, _⟩ => ⟨S16x8192x1, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S_, .f32⟩
  | .hbm, ⟨36, _⟩ => ⟨S16x8192, .f32⟩
  | .hbm, ⟨37, _⟩ => ⟨S16x8192x1, .f32⟩
  | .hbm, ⟨38, _⟩ => ⟨S16x8192x8192, .f32⟩
  | .hbm, ⟨39, _⟩ => ⟨S16x8192x8192, .f32⟩
  | .hbm, ⟨40, _⟩ => ⟨S8192x16x64, .f32⟩
  | .hbm, ⟨41, _⟩ => ⟨S16x64x8192, .f32⟩
  | .hbm, ⟨42, _⟩ => ⟨S8192x16x64, .f32⟩
  | .hbm, ⟨43, _⟩ => ⟨S8192x1024, .f32⟩
  | .hbm, ⟨44, _⟩ => ⟨S_, .f32⟩
  | .hbm, ⟨45, _⟩ => ⟨S16x8192, .f32⟩
  | .hbm, ⟨46, _⟩ => ⟨S16x8192x1, .f32⟩
  | .hbm, ⟨47, _⟩ => ⟨S16x8192x8192, .f32⟩
  | .hbm, ⟨48, _⟩ => ⟨S16x8192x8192, .f32⟩
  | .hbm, ⟨49, _⟩ => ⟨S16x8192x8192, .f32⟩
  | .hbm, ⟨50, _⟩ => ⟨S_, .f32⟩
  | .hbm, ⟨51, _⟩ => ⟨S16x8192, .f32⟩
  | .hbm, ⟨52, _⟩ => ⟨S16x8192, .f32⟩
  | .hbm, ⟨53, _⟩ => ⟨S16x8192, .f32⟩
  | .hbm, ⟨54, _⟩ => ⟨S8192x1024, .f32⟩
  | .hbm, ⟨55, _⟩ => ⟨S8192x16x64, .f32⟩
  | .hbm, ⟨56, _⟩ => ⟨S_, .f32⟩
  | .hbm, ⟨57, _⟩ => ⟨S8192x16, .f32⟩
  | .hbm, ⟨58, _⟩ => ⟨S8x2x8192, .f32⟩
  | .hbm, ⟨59, _⟩ => ⟨S8x2x8192, .f32⟩
  | .hbm, ⟨60, _⟩ => ⟨S8x8192x2, .f32⟩
  | .hbm, ⟨61, _⟩ => ⟨S8x2x8192, .f32⟩
  | .hbm, ⟨62, _⟩ => ⟨S8x8192x2, .f32⟩
  | .hbm, ⟨63, _⟩ => ⟨S8192x8x2, .f32⟩
  | .hbm, ⟨64, _⟩ => ⟨S8x8192x2, .f32⟩
  | .hbm, ⟨65, _⟩ => ⟨S8x8192x6, .f32⟩
  | .hbm, ⟨66, _⟩ => ⟨S8192x1024, .bf16⟩
  | .hbm, ⟨67, _⟩ => ⟨S1024x8192, .f32⟩
  | .hbm, ⟨68, _⟩ => ⟨S1024x8192, .bf16⟩
  | .hbm, ⟨69, _⟩ => ⟨S8192x1024, .bf16⟩
  | .hbm, ⟨70, _⟩ => ⟨S1024x8192, .f32⟩
  | .hbm, ⟨71, _⟩ => ⟨S1024x8192, .bf16⟩
  | .hbm, ⟨72, _⟩ => ⟨S1024x8192, .f32⟩
  | .hbm, ⟨73, _⟩ => ⟨S1024x8192, .bf16⟩
  | .hbm, ⟨74, _⟩ => ⟨S8192x1024, .bf16⟩
  | .hbm, ⟨75, _⟩ => ⟨S1024x8192, .f32⟩
  | .hbm, ⟨76, _⟩ => ⟨S1024x8192, .bf16⟩
  | .hbm, ⟨77, _⟩ => ⟨S8192x1024, .f32⟩
  | .hbm, ⟨78, _⟩ => ⟨S1024x8192, .f32⟩
  | .hbm, ⟨79, _⟩ => ⟨S1024x8192, .f32⟩
  | .hbm, ⟨80, _⟩ => ⟨S8x8x8192, .f32⟩
  | .hbm, ⟨81, _⟩ => ⟨S8x8192x2, .f32⟩
  | .local _ .vmem, ⟨0, _⟩ => ⟨S8192x128, .bf16⟩
  | .local _ .vmem, ⟨1, _⟩ => ⟨S8192x128, .bf16⟩
  | .local _ .vmem, ⟨2, _⟩ => ⟨S128x8192, .bf16⟩
  | .local _ .vmem, ⟨3, _⟩ => ⟨S128x8192, .bf16⟩
  | .local _ .vmem, ⟨4, _⟩ => ⟨S1024x128, .bf16⟩
  | .local _ .vmem, ⟨5, _⟩ => ⟨S1024x128, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S1x2x1024, .f32⟩
  | .local _ .vmem, ⟨11, _⟩ => ⟨S1x2x1024, .f32⟩
  | .local _ .vmem, ⟨12, _⟩ => ⟨S8192x128, .bf16⟩
  | .local _ .vmem, ⟨13, _⟩ => ⟨S8192x128, .bf16⟩
  | .local _ .vmem, ⟨14, _⟩ => ⟨S128x8192, .bf16⟩
  | .local _ .vmem, ⟨15, _⟩ => ⟨S128x8192, .bf16⟩
  | .local _ .vmem, ⟨16, _⟩ => ⟨S1x8192x6, .f32⟩
  | .local _ .vmem, ⟨17, _⟩ => ⟨S1x8192x6, .f32⟩
  | .local _ .vmem, ⟨18, _⟩ => ⟨S8192x128, .f32⟩
  | .local _ .vmem, ⟨19, _⟩ => ⟨S8192x128, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S1x8x1024, .f32⟩
  | .local _ .vmem, ⟨25, _⟩ => ⟨S1x8x1024, .f32⟩
  | .local _ .vmem, ⟨26, _⟩ => ⟨S1x8192x2, .f32⟩
  | .local _ .vmem, ⟨27, _⟩ => ⟨S1x8192x2, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62_0 : Ref sig .tc := ⟨.hbm, 77, rfl⟩
abbrev main_v62_1 : Ref sig .tc := ⟨.hbm, 78, rfl⟩
abbrev main_v62_2 : Ref sig .tc := ⟨.hbm, 79, rfl⟩
abbrev main_v62_3 : Ref sig .tc := ⟨.hbm, 80, rfl⟩
abbrev main_v62_4 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2_i32 : BitVec 32 := 2#32
  let v11 : BitVec 32 := Scalar.muli arg1 c2_i32
  let c0_i32_9 : BitVec 32 := 0#32
  let v12 : BitVec 32 := Scalar.addi v11 c0_i32_9
  let c512_i32 : BitVec 32 := 512#32
  let v13 : BitVec 32 := Scalar.muli v12 c512_i32
  v13
def k0_off1 (i : grid0.Coords) (c0_i32_9 : BitVec 32) : Fin 3 → Nat :=
  let c0_10 : Index := 0#32
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v15 : Index := Scalar.indexCast v14
  let c0_11 : Index := 0#32
  ![0, v15.toNat, 0]
def k0_off2 (i : grid0.Coords) (c0_i32_9 : BitVec 32) : Fin 2 → Nat :=
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v26 : Index := Scalar.indexCast v14
  let c0_15 : Index := 0#32
  ![v26.toNat, 0]
def k0_off3 (i : grid0.Coords) (c0_i32_9 : BitVec 32) : Fin 2 → Nat :=
  let c0_23 : Index := 0#32
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v52 : Index := Scalar.indexCast v14
  ![0, v52.toNat]
def k0_off4 (i : grid0.Coords) (c0_i32_9 : BitVec 32) : Fin 3 → Nat :=
  let c0_44 : Index := 0#32
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v86 : Index := Scalar.indexCast v14
  let c0_45 : Index := 0#32
  ![0, v86.toNat, 0]
def k0_off5 (i : grid0.Coords) (c0_i32_9 : BitVec 32) : Fin 2 → Nat :=
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v114 : Index := Scalar.indexCast v14
  let c64 : Index := 64#32
  ![v114.toNat, 64]
def k0_off6 (i : grid0.Coords) (c0_i32_9 : BitVec 32) : Fin 2 → Nat :=
  let c64_64 : Index := 64#32
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v140 : Index := Scalar.indexCast v14
  ![64, v140.toNat]
def k0_off7 (i : grid0.Coords) (c0_i32_9 : BitVec 32) : Fin 3 → Nat :=
  let c0_85 : Index := 0#32
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v174 : Index := Scalar.indexCast v14
  let c1_86 : Index := 1#32
  ![0, v174.toNat, 1]
def k0_mult2 (i : grid0.Coords) : BitVec 32 :=
  let arg1 : BitVec 32 := BitVec.ofNat 32 (i 1).val
  let c2_i32_95 : BitVec 32 := 2#32
  let v194 : BitVec 32 := Scalar.muli arg1 c2_i32_95
  let c1_i32 : BitVec 32 := 1#32
  let v195 : BitVec 32 := Scalar.addi v194 c1_i32
  let c512_i32_96 : BitVec 32 := 512#32
  let v196 : BitVec 32 := Scalar.muli v195 c512_i32_96
  v196
@[reducible] def k0_t1_loop (i : grid0.Coords) : Scf.Loop 32 :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_189 : BitVec 32 := 1#32
  ⟨v378, v383, c1_i32_189⟩
def k0_mult3 (i : grid0.Coords) (k0_t1 : Fin (k0_t1_loop i).trips) : BitVec 32 :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  v384
def k0_off8 (i : grid0.Coords) (k0_t1 : Fin (k0_t1_loop i).trips) : Fin 3 → Nat :=
  let c0_192 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v386 : Index := Scalar.indexCast v385
  let c0_193 : Index := 0#32
  ![0, v386.toNat, 0]
def k0_off9 (i : grid0.Coords) (k0_t1 : Fin (k0_t1_loop i).trips) : Fin 2 → Nat :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v397 : Index := Scalar.indexCast v385
  let c0_197 : Index := 0#32
  ![v397.toNat, 0]
def k0_off10 (i : grid0.Coords) (k0_t1 : Fin (k0_t1_loop i).trips) : Fin 2 → Nat :=
  let c0_203 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v412 : Index := Scalar.indexCast v385
  ![0, v412.toNat]
def k0_off11 (i : grid0.Coords) (k0_t1 : Fin (k0_t1_loop i).trips) : Fin 3 → Nat :=
  let c0_224 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v446 : Index := Scalar.indexCast v385
  let c0_225 : Index := 0#32
  ![0, v446.toNat, 0]
def k0_off12 (i : grid0.Coords) (k0_t1 : Fin (k0_t1_loop i).trips) : Fin 2 → Nat :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v474 : Index := Scalar.indexCast v385
  let c64_237 : Index := 64#32
  ![v474.toNat, 64]
def k0_off13 (i : grid0.Coords) (k0_t1 : Fin (k0_t1_loop i).trips) : Fin 2 → Nat :=
  let c64_243 : Index := 64#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v489 : Index := Scalar.indexCast v385
  ![64, v489.toNat]
def k0_off14 (i : grid0.Coords) (k0_t1 : Fin (k0_t1_loop i).trips) : Fin 3 → Nat :=
  let c0_264 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v523 : Index := Scalar.indexCast v385
  let c1_265 : Index := 1#32
  ![0, v523.toNat, 1]
@[reducible] def k0_t2_loop (i : grid0.Coords) : Scf.Loop 32 :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let v380 : BitVec 32 := Scalar.addi v378 v379
  let c1_i32_190 : BitVec 32 := 1#32
  ⟨v383, v380, c1_i32_190⟩
def k0_mult4 (i : grid0.Coords) (k0_t2 : Fin (k0_t2_loop i).trips) : BitVec 32 :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  v384
def k0_off15 (i : grid0.Coords) (k0_t2 : Fin (k0_t2_loop i).trips) : Fin 3 → Nat :=
  let c0_192 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v386 : Index := Scalar.indexCast v385
  let c0_193 : Index := 0#32
  ![0, v386.toNat, 0]
def k0_off16 (i : grid0.Coords) (k0_t2 : Fin (k0_t2_loop i).trips) : Fin 2 → Nat :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v397 : Index := Scalar.indexCast v385
  let c0_197 : Index := 0#32
  ![v397.toNat, 0]
def k0_off17 (i : grid0.Coords) (k0_t2 : Fin (k0_t2_loop i).trips) : Fin 2 → Nat :=
  let c0_203 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v412 : Index := Scalar.indexCast v385
  ![0, v412.toNat]
def k0_off18 (i : grid0.Coords) (k0_t2 : Fin (k0_t2_loop i).trips) : Fin 3 → Nat :=
  let c0_224 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v446 : Index := Scalar.indexCast v385
  let c0_225 : Index := 0#32
  ![0, v446.toNat, 0]
def k0_off19 (i : grid0.Coords) (k0_t2 : Fin (k0_t2_loop i).trips) : Fin 2 → Nat :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v474 : Index := Scalar.indexCast v385
  let c64_237 : Index := 64#32
  ![v474.toNat, 64]
def k0_off20 (i : grid0.Coords) (k0_t2 : Fin (k0_t2_loop i).trips) : Fin 2 → Nat :=
  let c64_243 : Index := 64#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v489 : Index := Scalar.indexCast v385
  ![64, v489.toNat]
def k0_off21 (i : grid0.Coords) (k0_t2 : Fin (k0_t2_loop i).trips) : Fin 3 → Nat :=
  let c0_264 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v523 : Index := Scalar.indexCast v385
  let c1_265 : Index := 1#32
  ![0, v523.toNat, 1]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8192x6 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8192x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FlashBwdIdeal.lean ====
variable {F : FTy → Type} [FloatOps F] [Named F]
def κ : String → Option EReal := fun
  | "mask" => some ⊥
  | _ => none
-- ==== FlashBwdRefIdeal.lean ====
abbrev S8192x1024 : Shape := ⟨2, ![8192, 1024]⟩
abbrev S16x8192 : Shape := ⟨2, ![16, 8192]⟩
abbrev S8192x16x64 : Shape := ⟨3, ![8192, 16, 64]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S16x64x8192 : Shape := ⟨3, ![16, 64, 8192]⟩
abbrev S16x8192x64 : Shape := ⟨3, ![16, 8192, 64]⟩
abbrev S8x2x8192 : Shape := ⟨3, ![8, 2, 8192]⟩
abbrev S8x8x8192 : Shape := ⟨3, ![8, 8, 8192]⟩
abbrev S1024x8192 : Shape := ⟨2, ![1024, 8192]⟩
abbrev S8x8192x2 : Shape := ⟨3, ![8, 8192, 2]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S16x8192, .f32⟩
  | .hbm, ⟨4, _⟩ => ⟨S8192x1024, .f32⟩
  | .hbm, ⟨5, _⟩ => ⟨S8192x16x64, .f32⟩
  | .hbm, ⟨6, _⟩ => ⟨S8192x16x64, .f32⟩
  | .hbm, ⟨7, _⟩ => ⟨S16x8192x8192, .f32⟩
  | .hbm, ⟨8, _⟩ => ⟨S16x8192x1, .f32⟩
  | .hbm, ⟨9, _⟩ => ⟨S16x1x8192, .f32⟩
  | .hbm, ⟨10, _⟩ => ⟨S16x8192x8192, .f32⟩
  | .hbm, ⟨11, _⟩ => ⟨S16x8192x8192, .f32⟩
  | .hbm, ⟨12, _⟩ => ⟨S16x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S16x8192x8192, .f32⟩
  | .hbm, ⟨21, _⟩ => ⟨S_, .f32⟩
  | .hbm, ⟨22, _⟩ => ⟨S_, .f32⟩
  | .hbm, ⟨23, _⟩ => ⟨S16x8192x8192, .i1⟩
  | .hbm, ⟨24, _⟩ => ⟨S16x8192x8192, .f32⟩
  | .hbm, ⟨25, _⟩ => ⟨S16x8192x8192, .f32⟩
  | .hbm, ⟨26, _⟩ => ⟨S_, .f32⟩
  | .hbm, ⟨27, _⟩ => ⟨S16x8192x8192, .f32⟩
  | .hbm, ⟨28, _⟩ => ⟨S_, .f32⟩
  | .hbm, ⟨29, _⟩ => ⟨S16x8192, .f32⟩
  | .hbm, ⟨30, _⟩ => ⟨S16x8192x1, .f32⟩
  | .hbm, ⟨31, _⟩ => ⟨S16x8192x8192, .f32⟩
  | .hbm, ⟨32, _⟩ => ⟨S16x8192x8192, .i1⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .f32⟩
  | .hbm, ⟨39, _⟩ => ⟨S_, .f32⟩
  | .hbm, ⟨40, _⟩ => ⟨S16x8192, .f32⟩
  | .hbm, ⟨41, _⟩ => ⟨S16x8192, .i1⟩
  | .hbm, ⟨42, _⟩ => ⟨S_, .f32⟩
  | .hbm, ⟨43, _⟩ => ⟨S16x8192, .f32⟩
  | .hbm, ⟨44, _⟩ => ⟨S16x8192, .i1⟩
  | .hbm, ⟨45, _⟩ => ⟨S_, .f32⟩
  | .hbm, ⟨46, _⟩ => ⟨S16x8192, .f32⟩
  | .hbm, ⟨47, _⟩ => ⟨S_, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S16x8192, .f32⟩
  | .hbm, ⟨52, _⟩ => ⟨S16x8192, .f32⟩
  | .hbm, ⟨53, _⟩ => ⟨S16x8192x1, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S_, .f32⟩
  | .hbm, ⟨58, _⟩ => ⟨S16x8192, .f32⟩
  | .hbm, ⟨59, _⟩ => ⟨S16x8192x1, .f32⟩
  | .hbm, ⟨60, _⟩ => ⟨S16x8192x8192, .f32⟩
  | .hbm, ⟨61, _⟩ => ⟨S16x8192x8192, .f32⟩
  | .hbm, ⟨62, _⟩ => ⟨S16x8192x1, .f32⟩
  | .hbm, ⟨63, _⟩ => ⟨S_, .f32⟩
  | .hbm, ⟨64, _⟩ => ⟨S16x8192x1, .f32⟩
  | .hbm, ⟨65, _⟩ => ⟨S16x8192x1, .f32⟩
  | .hbm, ⟨66, _⟩ => ⟨S8192x16x64, .f32⟩
  | .hbm, ⟨67, _⟩ => ⟨S16x64x8192, .f32⟩
  | .hbm, ⟨68, _⟩ => ⟨S8192x16x64, .f32⟩
  | .hbm, ⟨69, _⟩ => ⟨S8192x1024, .f32⟩
  | .hbm, ⟨70, _⟩ => ⟨S8192x16x64, .f32⟩
  | .hbm, ⟨71, _⟩ => ⟨S16x64x8192, .f32⟩
  | .hbm, ⟨72, _⟩ => ⟨S16x8192x8192, .f32⟩
  | .hbm, ⟨73, _⟩ => ⟨S16x64x8192, .f32⟩
  | .hbm, ⟨74, _⟩ => ⟨S8192x16x64, .f32⟩
  | .hbm, ⟨75, _⟩ => ⟨S8192x1024, .f32⟩
  | .hbm, ⟨76, _⟩ => ⟨S16x8192x8192, .f32⟩
  | .hbm, ⟨77, _⟩ => ⟨S16x8192x8192, .f32⟩
  | .hbm, ⟨78, _⟩ => ⟨S16x8192x8192, .f32⟩
  | .hbm, ⟨79, _⟩ => ⟨S_, .f32⟩
  | .hbm, ⟨80, _⟩ => ⟨S16x8192, .f32⟩
  | .hbm, ⟨81, _⟩ => ⟨S16x8192x1, .f32⟩
  | .hbm, ⟨82, _⟩ => ⟨S16x8192x1, .f32⟩
  | .hbm, ⟨83, _⟩ => ⟨S16x8192x8192, .f32⟩
  | .hbm, ⟨84, _⟩ => ⟨S16x8192x8192, .f32⟩
  | .hbm, ⟨85, _⟩ => ⟨S_, .f32⟩
  | .hbm, ⟨86, _⟩ => ⟨S16x8192, .f32⟩
  | .hbm, ⟨87, _⟩ => ⟨S16x8192x8192, .f32⟩
  | .hbm, ⟨88, _⟩ => ⟨S16x8192x8192, .f32⟩
  | .hbm, ⟨89, _⟩ => ⟨S16x8192x8192, .f32⟩
  | .hbm, ⟨90, _⟩ => ⟨S_, .f32⟩
  | .hbm, ⟨91, _⟩ => ⟨S16x8192x8192, .f32⟩
  | .hbm, ⟨92, _⟩ => ⟨S16x8192x8192, .f32⟩
  | .hbm, ⟨93, _⟩ => ⟨S_, .f32⟩
  | .hbm, ⟨94, _⟩ => ⟨S16x8192, .f32⟩
  | .hbm, ⟨95, _⟩ => ⟨S16x8192x1, .f32⟩
  | .hbm, ⟨96, _⟩ => ⟨S16x8192x8192, .f32⟩
  | .hbm, ⟨97, _⟩ => ⟨S_, .f32⟩
  | .hbm, ⟨98, _⟩ => ⟨S16x8192, .f32⟩
  | .hbm, ⟨99, _⟩ => ⟨S16x1x8192, .f32⟩
  | .hbm, ⟨100, _⟩ => ⟨S_, .f32⟩
  | .hbm, ⟨101, _⟩ => ⟨S16x8192, .f32⟩
  | .hbm, ⟨102, _⟩ => ⟨S_, .f32⟩
  | .hbm, ⟨103, _⟩ => ⟨S16x8192, .f32⟩
  | .hbm, ⟨104, _⟩ => ⟨S16x8192x64, .f32⟩
  | .hbm, ⟨105, _⟩ => ⟨S8192x16x64, .f32⟩
  | .hbm, ⟨106, _⟩ => ⟨S16x8192x64, .f32⟩
  | .hbm, ⟨107, _⟩ => ⟨S8192x16x64, .f32⟩
  | .hbm, ⟨108, _⟩ => ⟨S8192x1024, .f32⟩
  | .hbm, ⟨109, _⟩ => ⟨S8192x1024, .f32⟩
  | .hbm, ⟨110, _⟩ => ⟨S8x2x8192, .f32⟩
  | .hbm, ⟨111, _⟩ => ⟨S_, .i32⟩
  | .hbm, ⟨112, _⟩ => ⟨S_, .f32⟩
  | .hbm, ⟨113, _⟩ => ⟨S8x8x8192, .f32⟩
  | .hbm, ⟨114, _⟩ => ⟨S1024x8192, .f32⟩
  | .hbm, ⟨115, _⟩ => ⟨S1024x8192, .f32⟩
  | .hbm, ⟨116, _⟩ => ⟨S8x2x8192, .f32⟩
  | .hbm, ⟨117, _⟩ => ⟨S8x8192x2, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_v16_1 : Ref sig .tc := ⟨.hbm, 23, rfl⟩
abbrev main_call0_v2 : Ref sig .tc := ⟨.hbm, 24, rfl⟩
abbrev main_v16_0 : Ref sig .tc := ⟨.hbm, 25, rfl⟩
abbrev main_call0_cst : Ref sig .tc := ⟨.hbm, 26, rfl⟩
abbrev main_v16_2 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c : Ref sig .tc := ⟨.hbm, 111, rfl⟩
abbrev main_call2_v0 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== QBwd.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v52 : BitVec 1 := Scalar.cmpi .eq arg0 c31_i32
  let v53 : BitVec 32 := Scalar.extui v52
  let c0_i32_25 : BitVec 32 := 0#32
  let v54 : BitVec 1 := Scalar.cmpi .ne v53 c0_i32_25
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QBwdRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .bf16⟩
  | .hbm, ⟨63, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== FfnBwd.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S256x1024 : Shape := ⟨2, ![256, 1024]⟩
abbrev S256x4096 : Shape := ⟨2, ![256, 4096]⟩
abbrev S8x1024 : Shape := ⟨2, ![8, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 28
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S8192x1024, .f32⟩
  | .hbm, ⟨26, _⟩ => ⟨S8192x4096, .bf16⟩
  | .hbm, ⟨27, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S256x4096, .f32⟩
  | .local _ .vmem, ⟨8, _⟩ => ⟨S256x4096, .f32⟩
  | .local _ .vmem, ⟨9, _⟩ => ⟨S256x1024, .f32⟩
  | .local _ .vmem, ⟨10, _⟩ => ⟨S256x1024, .f32⟩
  | .local _ .vmem, ⟨11, _⟩ => ⟨S256x4096, .bf16⟩
  | .local _ .vmem, ⟨12, _⟩ => ⟨S256x4096, .bf16⟩
  | .local _ .vmem, ⟨13, _⟩ => ⟨S1x1024, .f32⟩
  | .local _ .vmem, ⟨14, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v60 : BitVec 1 := Scalar.cmpi .eq arg0 c31_i32
  let v61 : BitVec 32 := Scalar.extui v60
  let c0_i32_29 : BitVec 32 := 0#32
  let v62 : BitVec 1 := Scalar.cmpi .ne v61 c0_i32_29
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnBwdRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S_, .f32⟩
  | .hbm, ⟨6, _⟩ => ⟨S8192x4096, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .i1⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x4096, .bf16⟩
  | .hbm, ⟨77, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== PleBwd.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x256 : Shape := ⟨2, ![256, 256]⟩
abbrev S8x1024 : Shape := ⟨2, ![8, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 38
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x256, .f32⟩
  | .hbm, ⟨5, _⟩ => ⟨S256x1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | .hbm, ⟨36, _⟩ => ⟨S8192x1024, .bf16⟩
  | .hbm, ⟨37, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S256x256, .f32⟩
  | .local _ .vmem, ⟨9, _⟩ => ⟨S256x256, .f32⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v64 : BitVec 1 := Scalar.cmpi .eq arg0 c31_i32
  let v65 : BitVec 32 := Scalar.extui v64
  let c0_i32_32 : BitVec 32 := 0#32
  let v66 : BitVec 1 := Scalar.cmpi .ne v65 c0_i32_32
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PleBwdRefIdeal.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x256, .f32⟩
  | .hbm, ⟨5, _⟩ => ⟨S256x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .bf16⟩
  | .hbm, ⟨78, _⟩ => ⟨S8192x1024, .bf16⟩
  | .hbm, ⟨79, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== OutBwd.lean ====
abbrev S8192x1024 : Shape := ⟨2, ![8192, 1024]⟩
abbrev S1024x1024 : Shape := ⟨2, ![1024, 1024]⟩
abbrev S1024x8192 : Shape := ⟨2, ![1024, 8192]⟩
abbrev S8192x16 : Shape := ⟨2, ![8192, 16]⟩
abbrev S256x1024 : Shape := ⟨2, ![256, 1024]⟩
abbrev S1024x256 : Shape := ⟨2, ![1024, 256]⟩
abbrev S256x16 : Shape := ⟨2, ![256, 16]⟩
abbrev S1024x16 : Shape := ⟨2, ![1024, 16]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .bf16⟩
  | .hbm, ⟨5, _⟩ => ⟨S1024x8192, .bf16⟩
  | .hbm, ⟨6, _⟩ => ⟨S8192x16, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S1024x256, .bf16⟩
  | .local _ .vmem, ⟨8, _⟩ => ⟨S1024x256, .bf16⟩
  | .local _ .vmem, ⟨9, _⟩ => ⟨S256x16, .f32⟩
  | .local _ .vmem, ⟨10, _⟩ => ⟨S256x16, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutBwdRefIdeal.lean ====
abbrev S8192x1024 : Shape := ⟨2, ![8192, 1024]⟩
abbrev S1024x1024 : Shape := ⟨2, ![1024, 1024]⟩
abbrev S8192x16x64 : Shape := ⟨3, ![8192, 16, 64]⟩
abbrev S_ : Shape := ⟨0, ![]⟩
abbrev S8192x16 : Shape := ⟨2, ![8192, 16]⟩
abbrev S1024x8192 : Shape := ⟨2, ![1024, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x16x64, .f32⟩
  | .hbm, ⟨7, _⟩ => ⟨S_, .f32⟩
  | .hbm, ⟨8, _⟩ => ⟨S8192x16, .f32⟩
  | .hbm, ⟨9, _⟩ => ⟨S8192x1024, .bf16⟩
  | .hbm, ⟨10, _⟩ => ⟨S1024x8192, .f32⟩
  | .hbm, ⟨11, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== QFwd.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1024x8192 : Shape := ⟨2, ![1024, 8192]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S8192x1024, .bf16⟩
  | .hbm, ⟨6, _⟩ => ⟨S8192x1024, .bf16⟩
  | .hbm, ⟨7, _⟩ => ⟨S1024x8192, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x256, .bf16⟩
  | .local _ .vmem, ⟨9, _⟩ => ⟨S1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QFwdRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1024, .bf16⟩
  | .hbm, ⟨25, _⟩ => ⟨S1024x8192, .f32⟩
  | .hbm, ⟨26, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S8192x1024, .f32⟩
  | .hbm, ⟨8, _⟩ => ⟨S8192x1024, .bf16⟩
  | .hbm, ⟨9, _⟩ => ⟨S8192x4096, .f32⟩
  | .hbm, ⟨10, _⟩ => ⟨S8192x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== PleFwd.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S8192x1024, .f32⟩
  | .hbm, ⟨9, _⟩ => ⟨S8192x1024, .bf16⟩
  | .hbm, ⟨10, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x256, .f32⟩
  | .local _ .vmem, ⟨5, _⟩ => ⟨S256x256, .f32⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleFwdRefIdeal.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== KvFwd.lean ====
abbrev S8192x1024 : Shape := ⟨2, ![8192, 1024]⟩
abbrev S1024 : Shape := ⟨1, ![1024]⟩
abbrev S1024x2064 : Shape := ⟨2, ![1024, 2064]⟩
abbrev S16 : Shape := ⟨1, ![16]⟩
abbrev S1x1024 : Shape := ⟨2, ![1, 1024]⟩
abbrev S1024x1024 : Shape := ⟨2, ![1024, 1024]⟩
abbrev S1024x16 : Shape := ⟨2, ![1024, 16]⟩
abbrev S1x16 : Shape := ⟨2, ![1, 16]⟩
abbrev S1024x8192 : Shape := ⟨2, ![1024, 8192]⟩
abbrev S8192x16 : Shape := ⟨2, ![8192, 16]⟩
abbrev S256x1024 : Shape := ⟨2, ![256, 1024]⟩
abbrev S1024x256 : Shape := ⟨2, ![1024, 256]⟩
abbrev S256x16 : Shape := ⟨2, ![256, 16]⟩
abbrev S256 : Shape := ⟨1, ![256]⟩
abbrev S256x1 : Shape := ⟨2, ![256, 1]⟩
abbrev S256x256 : Shape := ⟨2, ![256, 256]⟩

abbrev nBuf : Space → Nat
  | .hbm => 16
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2064, .f32⟩
  | .hbm, ⟨3, _⟩ => ⟨S16, .f32⟩
  | .hbm, ⟨4, _⟩ => ⟨S1024x2064, .bf16⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S1024x16, .bf16⟩
  | .hbm, ⟨9, _⟩ => ⟨S1x16, .f32⟩
  | .hbm, ⟨10, _⟩ => ⟨S8192x1024, .bf16⟩
  | .hbm, ⟨11, _⟩ => ⟨S1024x8192, .bf16⟩
  | .hbm, ⟨12, _⟩ => ⟨S1024x8192, .bf16⟩
  | .hbm, ⟨13, _⟩ => ⟨S8192x1024, .bf16⟩
  | .hbm, ⟨14, _⟩ => ⟨S8192x16, .f32⟩
  | .hbm, ⟨15, _⟩ => ⟨S8192x16, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x16, .bf16⟩
  | .local _ .vmem, ⟨6, _⟩ => ⟨S1x16, .f32⟩
  | .local _ .vmem, ⟨7, _⟩ => ⟨S256x1024, .bf16⟩
  | .local _ .vmem, ⟨8, _⟩ => ⟨S256x1024, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S256x16, .f32⟩
  | .local _ .vmem, ⟨16, _⟩ => ⟨S256x16, .f32⟩
  | .local _ .vmem, ⟨17, _⟩ => ⟨S256x16, .f32⟩
  | .local _ .vmem, ⟨18, _⟩ => ⟨S256x16, .f32⟩
  | .local _ .vmem, ⟨19, _⟩ => ⟨S1x16, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev main_v6_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KvFwdRefIdeal.lean ====
abbrev S8192x1024 : Shape := ⟨2, ![8192, 1024]⟩
abbrev S1024 : Shape := ⟨1, ![1024]⟩
abbrev S1024x2064 : Shape := ⟨2, ![1024, 2064]⟩
abbrev S16 : Shape := ⟨1, ![16]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2064 : Shape := ⟨2, ![8192, 2064]⟩
abbrev S8192x16 : Shape := ⟨2, ![8192, 16]⟩
abbrev S1x16 : Shape := ⟨2, ![1, 16]⟩
abbrev S1024x8192 : Shape := ⟨2, ![1024, 8192]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2064, .f32⟩
  | .hbm, ⟨3, _⟩ => ⟨S16, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2064, .f32⟩
  | .hbm, ⟨21, _⟩ => ⟨S8192x1024, .f32⟩
  | .hbm, ⟨22, _⟩ => ⟨S8192x1024, .f32⟩
  | .hbm, ⟨23, _⟩ => ⟨S8192x16, .f32⟩
  | .hbm, ⟨24, _⟩ => ⟨S1x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S_, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x16, .i1⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S_, .f32⟩
  | .hbm, ⟨44, _⟩ => ⟨S_, .f32⟩
  | .hbm, ⟨45, _⟩ => ⟨S8192x16, .f32⟩
  | .hbm, ⟨46, _⟩ => ⟨S8192x1024, .bf16⟩
  | .hbm, ⟨47, _⟩ => ⟨S1024x8192, .f32⟩
  | .hbm, ⟨48, _⟩ => ⟨S1024x8192, .bf16⟩
  | .hbm, ⟨49, _⟩ => ⟨S1024x8192, .f32⟩
  | .hbm, ⟨50, _⟩ => ⟨S1024x8192, .bf16⟩
  | .hbm, ⟨51, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v20 : Ref sig .tc := ⟨.hbm, 42, rfl⟩
abbrev main_call1_call0_cst : Ref sig .tc := ⟨.hbm, 43, rfl⟩
abbrev main_call1_call0_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩

abbrev nD : Nat := 1
abbrev τ : Topo := Topo.v7x

variable {F : FTy → Type} [FloatOps F]
-- ==== ConvFwd.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S1x1024 : Shape := ⟨2, ![1, 1024]⟩
abbrev S1x2048 : Shape := ⟨2, ![1, 2048]⟩
abbrev S8192x2048 : Shape := ⟨2, ![8192, 2048]⟩
abbrev S256x1024 : Shape := ⟨2, ![256, 1024]⟩
abbrev S256x2048 : Shape := ⟨2, ![256, 2048]⟩
abbrev S288x1024 : Shape := ⟨2, ![288, 1024]⟩
abbrev S32x1024 : Shape := ⟨2, ![32, 1024]⟩
abbrev S256 : Shape := ⟨1, ![256]⟩
abbrev S256x1 : Shape := ⟨2, ![256, 1]⟩
abbrev S280x1024 : Shape := ⟨2, ![280, 1024]⟩
abbrev S272x1024 : Shape := ⟨2, ![272, 1024]⟩

abbrev nBuf : Space → Nat
  | .hbm => 23
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1x1024, .f32⟩
  | .hbm, ⟨11, _⟩ => ⟨S1024x2048, .bf16⟩
  | .hbm, ⟨12, _⟩ => ⟨S1x2048, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024x1024, .bf16⟩
  | .hbm, ⟨17, _⟩ => ⟨S1x1024, .f32⟩
  | .hbm, ⟨18, _⟩ => ⟨S8192x1024, .f32⟩
  | .hbm, ⟨19, _⟩ => ⟨S8192x1024, .bf16⟩
  | .hbm, ⟨20, _⟩ => ⟨S8192x2048, .f32⟩
  | .hbm, ⟨21, _⟩ => ⟨S8192x1024, .f32⟩
  | .hbm, ⟨22, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S31x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x2048, .f32⟩
  | .local _ .vmem, ⟨16, _⟩ => ⟨S256x2048, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S288x1024, .f32⟩
  | .local _ .vmem, ⟨22, _⟩ => ⟨S288x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ConvFwdRefIdeal.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S1x2048 : Shape := ⟨2, ![1, 2048]⟩
abbrev S30x1024 : Shape := ⟨2, ![30, 1024]⟩
abbrev S8222x1024 : Shape := ⟨2, ![8222, 1024]⟩

abbrev nBuf : Space → Nat
  | .hbm => 309
  | .vmem => 0
  | .smem => 0
  | _ => 0

abbrev hbmTy0_0 (i : Nat) : BufTy := match i % 128 with
  | 0 => ⟨S8192x1024, .f32⟩
  | 1 => ⟨S1024, .f32⟩
  | 2 => ⟨S1024x2048, .f32⟩
  | 3 => ⟨S2048, .f32⟩
  | 4 => ⟨S31x1024, .f32⟩
  | 5 => ⟨S1024, .f32⟩
  | 6 => ⟨S1024, .f32⟩
  | 7 => ⟨S1024, .f32⟩
  | 8 => ⟨S1024x1024, .f32⟩
  | 9 => ⟨S1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x2048, .f32⟩
  | 27 => ⟨S1x2048, .f32⟩
  | 28 => ⟨S8192x2048, .f32⟩
  | 29 => ⟨S8192x2048, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S_, .f32⟩
  | 42 => ⟨S30x1024, .f32⟩
  | 43 => ⟨S8222x1024, .f32⟩
  | 44 => ⟨S8192x1024, .f32⟩
  | 45 => ⟨S1x1024, .f32⟩
  | 46 => ⟨S1024, .f32⟩
  | 47 => ⟨S1x1024, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S8192x1024, .f32⟩
  | 54 => ⟨S1x1024, .f32⟩
  | 55 => ⟨S1024, .f32⟩
  | 56 => ⟨S1x1024, .f32⟩
  | 57 => ⟨S8192x1024, .f32⟩
  | 58 => ⟨S8192x1024, .f32⟩
  | 59 => ⟨S8192x1024, .f32⟩
  | 60 => ⟨S8192x1024, .f32⟩
  | 61 => ⟨S1x1024, .f32⟩
  | 62 => ⟨S1024, .f32⟩
  | 63 => ⟨S1x1024, .f32⟩
  | 64 => ⟨S8192x1024, .f32⟩
  | 65 => ⟨S8192x1024, .f32⟩
  | 66 => ⟨S8192x1024, .f32⟩
  | 67 => ⟨S8192x1024, .f32⟩
  | 68 => ⟨S1x1024, .f32⟩
  | 69 => ⟨S1024, .f32⟩
  | 70 => ⟨S1x1024, .f32⟩
  | 71 => ⟨S8192x1024, .f32⟩
  | 72 => ⟨S8192x1024, .f32⟩
  | 73 => ⟨S8192x1024, .f32⟩
  | 74 => ⟨S8192x1024, .f32⟩
  | 75 => ⟨S1x1024, .f32⟩
  | 76 => ⟨S1024, .f32⟩
  | 77 => ⟨S1x1024, .f32⟩
  | 78 => ⟨S8192x1024, .f32⟩
  | 79 => ⟨S8192x1024, .f32⟩
  | 80 => ⟨S8192x1024, .f32⟩
  | 81 => ⟨S8192x1024, .f32⟩
  | 82 => ⟨S1x1024, .f32⟩
  | 83 => ⟨S1024, .f32⟩
  | 84 => ⟨S1x1024, .f32⟩
  | 85 => ⟨S8192x1024, .f32⟩
  | 86 => ⟨S8192x1024, .f32⟩
  | 87 => ⟨S8192x1024, .f32⟩
  | 88 => ⟨S8192x1024, .f32⟩
  | 89 => ⟨S1x1024, .f32⟩
  | 90 => ⟨S1024, .f32⟩
  | 91 => ⟨S1x1024, .f32⟩
  | 92 => ⟨S8192x1024, .f32⟩
  | 93 => ⟨S8192x1024, .f32⟩
  | 94 => ⟨S8192x1024, .f32⟩
  | 95 => ⟨S8192x1024, .f32⟩
  | 96 => ⟨S1x1024, .f32⟩
  | 97 => ⟨S1024, .f32⟩
  | 98 => ⟨S1x1024, .f32⟩
  | 99 => ⟨S8192x1024, .f32⟩
  | 100 => ⟨S8192x1024, .f32⟩
  | 101 => ⟨S8192x1024, .f32⟩
  | 102 => ⟨S8192x1024, .f32⟩
  | 103 => ⟨S1x1024, .f32⟩
  | 104 => ⟨S1024, .f32⟩
  | 105 => ⟨S1x1024, .f32⟩
  | 106 => ⟨S8192x1024, .f32⟩
  | 107 => ⟨S8192x1024, .f32⟩
  | 108 => ⟨S8192x1024, .f32⟩
  | 109 => ⟨S8192x1024, .f32⟩
  | 110 => ⟨S1x1024, .f32⟩
  | 111 => ⟨S1024, .f32⟩
  | 112 => ⟨S1x1024, .f32⟩
  | 113 => ⟨S8192x1024, .f32⟩
  | 114 => ⟨S8192x1024, .f32⟩
  | 115 => ⟨S8192x1024, .f32⟩
  | 116 => ⟨S8192x1024, .f32⟩
  | 117 => ⟨S1x1024, .f32⟩
  | 118 => ⟨S1024, .f32⟩
  | 119 => ⟨S1x1024, .f32⟩
  | 120 => ⟨S8192x1024, .f32⟩
  | 121 => ⟨S8192x1024, .f32⟩
  | 122 => ⟨S8192x1024, .f32⟩
  | 123 => ⟨S8192x1024, .f32⟩
  | 124 => ⟨S1x1024, .f32⟩
  | 125 => ⟨S1024, .f32⟩
  | 126 => ⟨S1x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S1024, .f32⟩
  | 5 => ⟨S1x1024, .f32⟩
  | 6 => ⟨S8192x1024, .f32⟩
  | 7 => ⟨S8192x1024, .f32⟩
  | 8 => ⟨S8192x1024, .f32⟩
  | 9 => ⟨S8192x1024, .f32⟩
  | 10 => ⟨S1x1024, .f32⟩
  | 11 => ⟨S1024, .f32⟩
  | 12 => ⟨S1x1024, .f32⟩
  | 13 => ⟨S8192x1024, .f32⟩
  | 14 => ⟨S8192x1024, .f32⟩
  | 15 => ⟨S8192x1024, .f32⟩
  | 16 => ⟨S8192x1024, .f32⟩
  | 17 => ⟨S1x1024, .f32⟩
  | 18 => ⟨S1024, .f32⟩
  | 19 => ⟨S1x1024, .f32⟩
  | 20 => ⟨S8192x1024, .f32⟩
  | 21 => ⟨S8192x1024, .f32⟩
  | 22 => ⟨S8192x1024, .f32⟩
  | 23 => ⟨S8192x1024, .f32⟩
  | 24 => ⟨S1x1024, .f32⟩
  | 25 => ⟨S1024, .f32⟩
  | 26 => ⟨S1x1024, .f32⟩
  | 27 => ⟨S8192x1024, .f32⟩
  | 28 => ⟨S8192x1024, .f32⟩
  | 29 => ⟨S8192x1024, .f32⟩
  | 30 => ⟨S8192x1024, .f32⟩
  | 31 => ⟨S1x1024, .f32⟩
  | 32 => ⟨S1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S1x1024, .f32⟩
  | 39 => ⟨S1024, .f32⟩
  | 40 => ⟨S1x1024, .f32⟩
  | 41 => ⟨S8192x1024, .f32⟩
  | 42 => ⟨S8192x1024, .f32⟩
  | 43 => ⟨S8192x1024, .f32⟩
  | 44 => ⟨S8192x1024, .f32⟩
  | 45 => ⟨S1x1024, .f32⟩
  | 46 => ⟨S1024, .f32⟩
  | 47 => ⟨S1x1024, .f32⟩
  | 48 => ⟨S8192x1024, .f32⟩
  | 49 => ⟨S8192x1024, .f32⟩
  | 50 => ⟨S8192x1024, .f32⟩
  | 51 => ⟨S8192x1024, .f32⟩
  | 52 => ⟨S1x1024, .f32⟩
  | 53 => ⟨S1024, .f32⟩
  | 54 => ⟨S1x1024, .f32⟩
  | 55 => ⟨S8192x1024, .f32⟩
  | 56 => ⟨S8192x1024, .f32⟩
  | 57 => ⟨S8192x1024, .f32⟩
  | 58 => ⟨S8192x1024, .f32⟩
  | 59 => ⟨S1x1024, .f32⟩
  | 60 => ⟨S1024, .f32⟩
  | 61 => ⟨S1x1024, .f32⟩
  | 62 => ⟨S8192x1024, .f32⟩
  | 63 => ⟨S8192x1024, .f32⟩
  | 64 => ⟨S8192x1024, .f32⟩
  | 65 => ⟨S8192x1024, .f32⟩
  | 66 => ⟨S1x1024, .f32⟩
  | 67 => ⟨S1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S1x1024, .f32⟩
  | 74 => ⟨S1024, .f32⟩
  | 75 => ⟨S1x1024, .f32⟩
  | 76 => ⟨S8192x1024, .f32⟩
  | 77 => ⟨S8192x1024, .f32⟩
  | 78 => ⟨S8192x1024, .f32⟩
  | 79 => ⟨S8192x1024, .f32⟩
  | 80 => ⟨S1x1024, .f32⟩
  | 81 => ⟨S1024, .f32⟩
  | 82 => ⟨S1x1024, .f32⟩
  | 83 => ⟨S8192x1024, .f32⟩
  | 84 => ⟨S8192x1024, .f32⟩
  | 85 => ⟨S8192x1024, .f32⟩
  | 86 => ⟨S8192x1024, .f32⟩
  | 87 => ⟨S1x1024, .f32⟩
  | 88 => ⟨S1024, .f32⟩
  | 89 => ⟨S1x1024, .f32⟩
  | 90 => ⟨S8192x1024, .f32⟩
  | 91 => ⟨S8192x1024, .f32⟩
  | 92 => ⟨S8192x1024, .f32⟩
  | 93 => ⟨S8192x1024, .f32⟩
  | 94 => ⟨S1x1024, .f32⟩
  | 95 => ⟨S1024, .f32⟩
  | 96 => ⟨S1x1024, .f32⟩
  | 97 => ⟨S8192x1024, .f32⟩
  | 98 => ⟨S8192x1024, .f32⟩
  | 99 => ⟨S8192x1024, .f32⟩
  | 100 => ⟨S8192x1024, .f32⟩
  | 101 => ⟨S1x1024, .f32⟩
  | 102 => ⟨S1024, .f32⟩
  | 103 => ⟨S1x1024, .f32⟩
  | 104 => ⟨S8192x1024, .f32⟩
  | 105 => ⟨S8192x1024, .f32⟩
  | 106 => ⟨S8192x1024, .f32⟩
  | 107 => ⟨S8192x1024, .f32⟩
  | 108 => ⟨S1x1024, .f32⟩
  | 109 => ⟨S1024, .f32⟩
  | 110 => ⟨S1x1024, .f32⟩
  | 111 => ⟨S8192x1024, .f32⟩
  | 112 => ⟨S8192x1024, .f32⟩
  | 113 => ⟨S8192x1024, .f32⟩
  | 114 => ⟨S8192x1024, .f32⟩
  | 115 => ⟨S1x1024, .f32⟩
  | 116 => ⟨S1024, .f32⟩
  | 117 => ⟨S1x1024, .f32⟩
  | 118 => ⟨S8192x1024, .f32⟩
  | 119 => ⟨S8192x1024, .f32⟩
  | 120 => ⟨S8192x1024, .f32⟩
  | 121 => ⟨S8192x1024, .f32⟩
  | 122 => ⟨S1x1024, .f32⟩
  | 123 => ⟨S1024, .f32⟩
  | 124 => ⟨S1x1024, .f32⟩
  | 125 => ⟨S8192x1024, .f32⟩
  | 126 => ⟨S8192x1024, .f32⟩
  | 127 => ⟨S8192x1024, .f32⟩
  | _ => ⟨S8192x1024, .f32⟩

abbrev hbmTy0_2 (i : Nat) : BufTy := match i % 128 with
  | 0 => ⟨S8192x1024, .f32⟩
  | 1 => ⟨S1x1024, .f32⟩
  | 2 => ⟨S1024, .f32⟩
  | 3 => ⟨S1x1024, .f32⟩
  | 4 => ⟨S8192x1024, .f32⟩
  | 5 => ⟨S8192x1024, .f32⟩
  | 6 => ⟨S8192x1024, .f32⟩
  | 7 => ⟨S1x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S8192x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1, .f32⟩
  | 29 => ⟨S8192x1024, .f32⟩
  | 30 => ⟨S8192x1024, .f32⟩
  | 31 => ⟨S1x1024, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S8192x1024, .f32⟩
  | 46 => ⟨S8192x1024, .f32⟩
  | 47 => ⟨S1x1024, .f32⟩
  | 48 => ⟨S8192x1024, .f32⟩
  | 49 => ⟨S8192x1024, .f32⟩
  | 50 => ⟨S8192x1024, .f32⟩
  | 51 => ⟨S8192x1024, .bf16⟩
  | 52 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_cst_6 : Ref sig .tc := ⟨.hbm, 266, rfl⟩
abbrev main_v249 : Ref sig .tc := ⟨.hbm, 267, rfl⟩
abbrev main_v250 : Ref sig .tc := ⟨.hbm, 268, rfl⟩
abbrev main_cst_7 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_cst_8 : Ref sig .tc := ⟨.hbm, 275, rfl⟩
abbrev main_v256 : Ref sig .tc := ⟨.hbm, 276, rfl⟩
abbrev main_v257 : Ref sig .tc := ⟨.hbm, 277, rfl⟩
abbrev main_cst_9 : Ref sig .tc := ⟨.hbm, 278, rfl⟩
abbrev main_v258 : Ref sig .tc := ⟨.hbm, 279, rfl⟩
abbrev main_v259 : Ref sig .tc := ⟨.hbm, 280, rfl⟩
abbrev main_cst_10 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_call0_v0 : Ref sig .tc := ⟨.hbm, 293, rfl⟩
abbrev main_call0_v1 : Ref sig .tc := ⟨.hbm, 294, rfl⟩
abbrev main_call0_cst : Ref sig .tc := ⟨.hbm, 295, rfl⟩
abbrev main_call0_v2 : Ref sig .tc := ⟨.hbm, 296, rfl⟩
abbrev main_call0_v3 : Ref sig .tc := ⟨.hbm, 297, rfl⟩
abbrev main_call0_cst_0 : Ref sig .tc := ⟨.hbm, 298, rfl⟩
abbrev main_call0_v4 : Ref sig .tc := ⟨.hbm, 299, rfl⟩
abbrev main_call0_v5 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩

abbrev nD : Nat := 1
abbrev τ : Topo := Topo.v7x

variable {F : FTy → Type} [FloatOps F]
-- ==== OutFwd.lean ====
abbrev S8192x1024 : Shape := ⟨2, ![8192, 1024]⟩
abbrev S1024x1024 : Shape := ⟨2, ![1024, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutFwdRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutGrad.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QGrad.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2048x1024 : Shape := ⟨2, ![2048, 1024]⟩

abbrev nBuf : Space → Nat
  | .hbm => 26
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QGradRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S1024x1024, .f32⟩
  | .hbm, ⟨28, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== W2Grad.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 28
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .bf16⟩
  | .hbm, ⟨27, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== W2GradRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S1024x4096, .f32⟩
  | .hbm, ⟨29, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== CacheGrad.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2048x1024 : Shape := ⟨2, ![2048, 1024]⟩

abbrev nBuf : Space → Nat
  | .hbm => 23
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1024, .bf16⟩
  | .hbm, ⟨22, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CacheGradRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== ForgetGrad.lean ====
abbrev S8192x16 : Shape := ⟨2, ![8192, 16]⟩
abbrev S8192x1024 : Shape := ⟨2, ![8192, 1024]⟩
abbrev S1024 : Shape := ⟨1, ![1024]⟩
abbrev S1024x16 : Shape := ⟨2, ![1024, 16]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2048x1024 : Shape := ⟨2, ![2048, 1024]⟩
abbrev S2048x16 : Shape := ⟨2, ![2048, 16]⟩

abbrev nBuf : Space → Nat
  | .hbm => 22
  | .vmem => 5
  | .smem => 0
  | _ => 0

abbrev bufTy : (tb : Table) → Fin (tcTables nBuf tb) → BufTy
  | .hbm, ⟨0, _⟩ => ⟨S8192x16, .f32⟩
  | .hbm, ⟨1, _⟩ => ⟨S8192x1024, .f32⟩
  | .hbm, ⟨2, _⟩ => ⟨S1024, .f32⟩
  | .hbm, ⟨3, _⟩ => ⟨S1024x16, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1024x16, .f32⟩
  | .local _ .vmem, ⟨0, _⟩ => ⟨S2048x1024, .bf16⟩
  | .local _ .vmem, ⟨1, _⟩ => ⟨S2048x1024, .bf16⟩
  | .local _ .vmem, ⟨2, _⟩ => ⟨S2048x16, .f32⟩
  | .local _ .vmem, ⟨3, _⟩ => ⟨S2048x16, .f32⟩
  | .local _ .vmem, ⟨4, _⟩ => ⟨S1024x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ForgetGradRefIdeal.lean ====
abbrev S8192x16 : Shape := ⟨2, ![8192, 16]⟩
abbrev S8192x1024 : Shape := ⟨2, ![8192, 1024]⟩
abbrev S1024 : Shape := ⟨1, ![1024]⟩
abbrev S1024x16 : Shape := ⟨2, ![1024, 16]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S16x1024 : Shape := ⟨2, ![16, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x1024, .f32⟩
  | .hbm, ⟨2, _⟩ => ⟨S1024, .f32⟩
  | .hbm, ⟨3, _⟩ => ⟨S1024x16, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x16, .f32⟩
  | .hbm, ⟨21, _⟩ => ⟨S16x1024, .f32⟩
  | .hbm, ⟨22, _⟩ => ⟨S1024x16, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== GateGrad.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2048x1024 : Shape := ⟨2, ![2048, 1024]⟩

abbrev nBuf : Space → Nat
  | .hbm => 41
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x256, .f32⟩
  | .hbm, ⟨5, _⟩ => ⟨S256x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | .hbm, ⟨39, _⟩ => ⟨S8192x1024, .bf16⟩
  | .hbm, ⟨40, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateGradRefIdeal.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x256, .f32⟩
  | .hbm, ⟨5, _⟩ => ⟨S256x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1024x1024, .f32⟩
  | .hbm, ⟨41, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== W1Grad.lean ====
abbrev S8192x4096 : Shape := ⟨2, ![8192, 4096]⟩
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 23
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x4096, .bf16⟩
  | .hbm, ⟨22, _⟩ => ⟨S8x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .f32⟩
  | .local _ .vmem, ⟨5, _⟩ => ⟨S2x1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== W1GradRefIdeal.lean ====
abbrev S8192x4096 : Shape := ⟨2, ![8192, 4096]⟩
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S4096x1024, .f32⟩
  | .hbm, ⟨22, _⟩ => ⟨S1024x4096, .f32⟩
  | .hbm, ⟨23, _⟩ => ⟨S1024x8x512, .f32⟩
  | .hbm, ⟨24, _⟩ => ⟨S8x1024x512, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== ConvGrad.lean ====
abbrev S8192x2048 : Shape := ⟨2, ![8192, 2048]⟩
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024x256 : Shape := ⟨3, ![8, 1024, 256]⟩
abbrev S2048x1024 : Shape := ⟨2, ![2048, 1024]⟩
abbrev S4x1024x256 : Shape := ⟨3, ![4, 1024, 256]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 24
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x2048, .bf16⟩
  | .hbm, ⟨23, _⟩ => ⟨S8x1024x256, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x1024x256, .f32⟩
  | .local _ .vmem, ⟨5, _⟩ => ⟨S4x1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvGradRefIdeal.lean ====
abbrev S8192x2048 : Shape := ⟨2, ![8192, 2048]⟩
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x2048 : Shape := ⟨2, ![1, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S2048x1024, .f32⟩
  | .hbm, ⟨26, _⟩ => ⟨S1024x2048, .f32⟩
  | .hbm, ⟨27, _⟩ => ⟨S1024x8x256, .f32⟩
  | .hbm, ⟨28, _⟩ => ⟨S8x1024x256, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== ProjGrad.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x256x128 : Shape := ⟨3, ![8, 256, 128]⟩
abbrev S2048x256 : Shape := ⟨2, ![2048, 256]⟩
abbrev S2048x1024 : Shape := ⟨2, ![2048, 1024]⟩
abbrev S1x256x128 : Shape := ⟨3, ![1, 256, 128]⟩
abbrev S256x128 : Shape := ⟨2, ![256, 128]⟩

abbrev nBuf : Space → Nat
  | .hbm => 34
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x256, .f32⟩
  | .hbm, ⟨5, _⟩ => ⟨S256x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8x256x128, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S8x256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjGradRefIdeal.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x256, .f32⟩
  | .hbm, ⟨5, _⟩ => ⟨S256x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1024x256, .f32⟩
  | .hbm, ⟨36, _⟩ => ⟨S256x1024, .f32⟩
  | .hbm, ⟨37, _⟩ => ⟨S256x8x128, .f32⟩
  | .hbm, ⟨38, _⟩ => ⟨S8x256x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Fin.lean ====
/- What a precondition that an array is finite says: its entries are reals. -/
module

public import Idealize.ShloMosaic.Lib.Pointwise
public import Idealize.ShloMosaic.Lib.ReduceAll

@[expose] public section

set_option maxRecDepth 16384

noncomputable section

open Idealize.ShloMosaic

namespace Cert.Lift

abbrev S0 : Shape := ⟨0, ![]⟩

theorem real_of_all {s : Shape} {axes : List (Fin s.rank)} (X : FVec Ideal s .f32) (hb : S0.BroadcastsInDim s (![] : Fin 0 → Fin s.rank)) (h : s.ReducesTo axes S0) (hu : 0 < S0.numel) (j : S0.Idx)
    (e : Host.reduce IntOp.andi (cmpf .olt (Host.absf X) (broadcastInDim s ![] hb (constant S0 .f32 0x7F800000#32))) (constantI S0 1 1#1) h hu j = 1#1) :
    ∃ x : s.Idx → ℝ, ∀ i, X i = ((x i : ℝ) : EReal) := by
  have hs : Subsingleton S0.Idx := ⟨fun a b => funext fun q => q.elim0⟩
  refine ⟨fun i => (X i).toReal, fun i => ?_⟩
  have hi := Host.reduce_andi_all _ _ h hu j e i
  pointwise at hi
  have hinf : Ideal.ofBits .f32 2139095040#32 = ⊤ := by simp [Ideal.ofBits, Ideal.ieee]
  rw [hinf] at hi
  have hlt : max (X i : EReal) (-(X i : EReal)) < ⊤ := by
    by_contra hc
    have hd : decide (FloatOps.absf (X i) < (⊤ : EReal)) = false := decide_eq_false hc
    rw [hd] at hi
    exact absurd hi (by decide)
  refine (EReal.coe_toReal (fun h1 => ?_) (fun h1 => ?_)).symm
  · rw [h1] at hlt; simp at hlt
  · rw [h1] at hlt; simp at hlt

end Cert.Lift

end
-- ==== Proof.LossOut.lean ====
/- What each grid point of the loss head leaves in its outputs and in the two sums it carries. -/
module

public import proofs.«01_k».proof.Proof.Gen.LossHeadIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.LossHeadIdeal.Loss

open Cert.LossHeadIdeal Cert.LossHeadIdeal.Gen

variable (m : (ℓ : Loc nD τ sig) → Buf (Elt Ideal) ℓ) (c : Dev nD)

abbrev bx (t : Fin cfg0.N) : Vec Ideal S256x1024 .f32 := iblk m c 0 t
abbrev bg (t : Fin cfg0.N) : Vec Ideal S1x1024 .f32 := iblk m c 1 t
abbrev bt (t : Fin cfg0.N) : Vec Ideal S256x1024 .f32 := iblk m c 2 t

/-- The block of the input gradient that point `t` writes. -/
def grad (t : Fin cfg0.N) : Vec Ideal S256x1024 .f32 :=
  k0_pay2 (k0_pay8 (bx m c t)) (k0_pay9 (bg m c t)) (k0_pay10 (bx m c t)) (k0_pay11 (bx m c t) (bg m c t) (bt m c t)) k0_pay13

/-- The eight partial rows of the scale's gradient after point `t`, from what they held before. -/
def rows (t : Fin cfg0.N) (s : Vec Ideal S8x1024 .f32) : Vec Ideal S8x1024 .f32 :=
  k0_pay3 (k0_pay8 (bx m c t)) (k0_pay10 (bx m c t)) (k0_pay11 (bx m c t) (bg m c t) (bt m c t)) k0_pay13 s

/-- The loss after point `t`, from what it was before. -/
def loss (t : Fin cfg0.N) (s : Vec Ideal S1x1 .f32) : Vec Ideal S1x1 .f32 := k0_pay12 (bx m c t) (bg m c t) (bt m c t) s

theorem grad_A (t : Fin cfg0.N) (h0 : t.val % 32 = 0) (h1 : ¬t.val % 32 = 31) :
    (outsAt0 m c t.val t.isLt).1 = grad m c t := by
  rw [outsAt0_A m c t h0 h1]; frame_out; rfl
theorem grad_B (t : Fin cfg0.N) (h0 : ¬t.val % 32 = 0) (h1 : ¬t.val % 32 = 31) :
    (outsAt0 m c t.val t.isLt).1 = grad m c t := by
  rw [outsAt0_B m c t h0 h1]; frame_out; rfl
theorem grad_C (t : Fin cfg0.N) (h0 : ¬t.val % 32 = 0) (h1 : t.val % 32 = 31) :
    (outsAt0 m c t.val t.isLt).1 = grad m c t := by
  rw [outsAt0_C m c t h0 h1]; frame_out; rfl

theorem rows_A (t : Fin cfg0.N) (h0 : t.val % 32 = 0) (h1 : ¬t.val % 32 = 31) :
    (outsAt0 m c t.val t.isLt).2.2.2.1 = rows m c t (k0_pay6 (F := Ideal)) := by
  rw [outsAt0_A m c t h0 h1]; frame_out; rfl
theorem rows_B (t : Fin cfg0.N) (h0 : ¬t.val % 32 = 0) (h1 : ¬t.val % 32 = 31) :
    (outsAt0 m c t.val t.isLt).2.2.2.1 = rows m c t (outsAt0 m c (t.val - 1) (by omega)).2.2.2.1 := by
  rw [outsAt0_B m c t h0 h1]; frame_out; simp only [read_unread_whole]; rfl
theorem rows_C (t : Fin cfg0.N) (h0 : ¬t.val % 32 = 0) (h1 : t.val % 32 = 31) :
    (outsAt0 m c t.val t.isLt).2.2.2.1 = rows m c t (outsAt0 m c (t.val - 1) (by omega)).2.2.2.1 := by
  rw [outsAt0_C m c t h0 h1]; frame_out; simp only [read_unread_whole]; rfl
theorem loss_A (t : Fin cfg0.N) (h0 : t.val % 32 = 0) (h1 : ¬t.val % 32 = 31) :
    (outsAt0 m c t.val t.isLt).2.2.2.2 = loss m c t (k0_pay7 (F := Ideal)) := by
  rw [outsAt0_A m c t h0 h1]; frame_out; rfl
theorem loss_B (t : Fin cfg0.N) (h0 : ¬t.val % 32 = 0) (h1 : ¬t.val % 32 = 31) :
    (outsAt0 m c t.val t.isLt).2.2.2.2 = loss m c t (outsAt0 m c (t.val - 1) (by omega)).2.2.2.2 := by
  rw [outsAt0_B m c t h0 h1]; frame_out; simp only [read_unread_whole]; rfl
theorem loss_C (t : Fin cfg0.N) (h0 : ¬t.val % 32 = 0) (h1 : t.val % 32 = 31) :
    (outsAt0 m c t.val t.isLt).2.2.2.2 = loss m c t (outsAt0 m c (t.val - 1) (by omega)).2.2.2.2 := by
  rw [outsAt0_C m c t h0 h1]; frame_out; simp only [read_unread_whole]; rfl
theorem out4_C (t : Fin cfg0.N) (h0 : ¬t.val % 32 = 0) (h1 : t.val % 32 = 31) :
    (outsAt0 m c t.val t.isLt).2.1 = k0_pay4 (outsAt0 m c t.val t.isLt).2.2.2.1 := by
  rw [rows_C m c t h0 h1, outsAt0_C m c t h0 h1]; frame_out; simp only [read_unread_whole]; rfl
theorem out5_C (t : Fin cfg0.N) (h0 : ¬t.val % 32 = 0) (h1 : t.val % 32 = 31) :
    (outsAt0 m c t.val t.isLt).2.2.1 = k0_pay5 (outsAt0 m c t.val t.isLt).2.2.2.2 := by
  rw [loss_C m c t h0 h1, outsAt0_C m c t h0 h1]; frame_out; simp only [read_unread_whole]; rfl
end Cert.LossHeadIdeal.Loss

end
-- ==== Proof.Lift.lean ====
/- Ideal arithmetic on finite numbers is the arithmetic of the reals. -/
module

public import Idealize.ShloMosaic.Lib.Pointwise

@[expose] public section

noncomputable section

open Idealize.ShloMosaic

namespace Cert.Lift

theorem sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem div (x : ℝ) {y : ℝ} (h : y ≠ 0) : Ideal.div (x : EReal) (y : EReal) = ((x / y : ℝ) : EReal) := by
  rw [Ideal.div_coe h, ← EReal.coe_mul, mul_one_div]

theorem rsqrt {r : ℝ} (h : 0 < r) : Ideal.rsqrt (r : EReal) = (((Real.sqrt r)⁻¹ : ℝ) : EReal) := by
  rw [Ideal.rsqrt_coe, if_neg (not_lt.mpr h.le), if_neg h.ne']

/-- The stabiliser of the norms, 1e-6 as a 32-bit float. -/
def eps : ℝ := 8796093 / 2 ^ 43

theorem eps_pos : 0 < eps := by unfold eps; positivity

theorem c_eps : Ideal.ofBits .f32 0x358637BD#32 = ((eps : ℝ) : EReal) := by
  simp [Ideal.ofBits, Ideal.ieee, -EReal.coe_mul, eps]; norm_num
theorem c_zero : Ideal.ofBits .f32 0x00000000#32 = ((0 : ℝ) : EReal) := by
  simp [Ideal.ofBits, Ideal.ieee]
theorem c_1024 : Ideal.ofBits .f32 0x44800000#32 = ((1024 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_neg_half : Ideal.ofBits .f32 0xBF000000#32 = ((-1 / 2 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num

/-- The stabilised mean of squares of a row. -/
def ms (v : Fin 1024 → ℝ) : ℝ := (∑ k, v k * v k) / 1024 + eps

/-- The reciprocal root of a row's stabilised mean of squares. -/
def rr (v : Fin 1024 → ℝ) : ℝ := (Real.sqrt (ms v))⁻¹

theorem ms_pos (v : Fin 1024 → ℝ) : 0 < ms v :=
  add_pos_of_nonneg_of_pos (div_nonneg (Finset.sum_nonneg fun _ _ => mul_self_nonneg _) (by norm_num)) eps_pos

theorem rsqrt_ms (v : Fin 1024 → ℝ) : Ideal.rsqrt (((∑ k, v k * v k) / 1024 + eps : ℝ) : EReal) = ((rr v : ℝ) : EReal) :=
  rsqrt (ms_pos v)

theorem div_ms (a : ℝ) (v : Fin 1024 → ℝ) : Ideal.div (a : EReal) (((∑ k, v k * v k) / 1024 + eps : ℝ) : EReal) = ((a / ms v : ℝ) : EReal) :=
  div a (ms_pos v).ne'

theorem div_1024 (a : ℝ) : Ideal.div (a : EReal) ((1024 : ℝ) : EReal) = ((a / 1024 : ℝ) : EReal) := div a (by norm_num)

theorem rr_sq (v : Fin 1024 → ℝ) : rr v * rr v = (ms v)⁻¹ := by
  unfold rr; rw [← mul_inv, Real.mul_self_sqrt (ms_pos v).le]

/-- Summing an array whose first and last axes have one entry, over those two axes, only adds the start value. -/
theorem reduce_units {n : ℕ} (h : (⟨3, ![1, n, 1]⟩ : Shape).ReducesTo [0, 2] ⟨1, ![n]⟩) (v : (⟨3, ![1, n, 1]⟩ : Shape).Idx → EReal) (init : EReal) (j : Fin n) :
    Ideal.hostReduceAdd h v init (ix1 j) = init + v (ix3 0 j 0) := by
  have hd : ∀ i : (⟨3, ![1, n, 1]⟩ : Shape).Idx, h.drop i = ix1 j ↔ i = ix3 0 j 0 := fun i => by
    have hv : (h.drop i 0 : ℕ) = i 1 := Shape.ReducesTo.drop_apply_val h i 0
    constructor
    · intro e
      rw [e] at hv
      funext a; apply Fin.ext
      match a with
      | ⟨0, _⟩ => exact Nat.lt_one_iff.mp (i 0).isLt
      | ⟨1, _⟩ => exact hv.symm
      | ⟨2, _⟩ => exact Nat.lt_one_iff.mp (i 2).isLt
    · rintro rfl
      funext a; apply Fin.ext
      match a with
      | ⟨0, _⟩ => exact hv
  unfold Ideal.hostReduceAdd
  simp only [hd, Finset.filter_eq', Finset.mem_univ, if_true, Finset.sum_singleton]

/-- Summing an array whose first two axes have one entry, over those two axes, only adds the start value. -/
theorem reduce_units_front {n : ℕ} (h : (⟨3, ![1, 1, n]⟩ : Shape).ReducesTo [0, 1] ⟨1, ![n]⟩) (v : (⟨3, ![1, 1, n]⟩ : Shape).Idx → EReal) (init : EReal) (j : Fin n) :
    Ideal.hostReduceAdd h v init (ix1 j) = init + v (ix3 0 0 j) := by
  have hd : ∀ i : (⟨3, ![1, 1, n]⟩ : Shape).Idx, h.drop i = ix1 j ↔ i = ix3 0 0 j := fun i => by
    have hv : (h.drop i 0 : ℕ) = i 2 := Shape.ReducesTo.drop_apply_val h i 0
    constructor
    · intro e
      rw [e] at hv
      funext a; apply Fin.ext
      match a with
      | ⟨0, _⟩ => exact Nat.lt_one_iff.mp (i 0).isLt
      | ⟨1, _⟩ => exact Nat.lt_one_iff.mp (i 1).isLt
      | ⟨2, _⟩ => exact hv.symm
    · rintro rfl
      funext a; apply Fin.ext
      match a with
      | ⟨0, _⟩ => exact hv
  unfold Ideal.hostReduceAdd
  simp only [hd, Finset.filter_eq', Finset.mem_univ, if_true, Finset.sum_singleton]

theorem tile_lt {A B N : ℕ} (hN : A * B = N) (a : Fin A) (b : Fin B) : B * a.val + b.val < N := by
  have h : B * (a.val + 1) ≤ B * A := Nat.mul_le_mul_left B a.isLt
  rw [Nat.mul_succ] at h
  rw [← hN, Nat.mul_comm A B]
  exact lt_of_lt_of_le (Nat.add_lt_add_left b.isLt _) h

/-- A sum over `A * B` entries taken in `A` runs of `B`. -/
theorem sum_runs {M : Type*} [AddCommMonoid M] {A B N : ℕ} (hN : A * B = N) (f : Fin N → M) :
    ∑ a : Fin A, ∑ b : Fin B, f ⟨B * a.val + b.val, tile_lt hN a b⟩ = ∑ n, f n := by
  subst hN
  rw [← (finProdFinEquiv (m := A) (n := B)).sum_comp, Fintype.sum_prod_type]
  exact Finset.sum_congr rfl fun a _ => Finset.sum_congr rfl fun b _ => congrArg f (Fin.ext (Nat.add_comm _ _))

/-- A sum over 8192 rows taken as eight interleaved partial sums, each over 32 tiles of 32 groups of eight rows. -/
theorem sum_tiles (f : Fin 8192 → ℝ) :
    ∑ a : Fin 8, ∑ t : Fin 32, ∑ b : Fin 32, f ⟨256 * t.val + (b.val * 8 + a.val), by omega⟩ = ∑ n, f n := by
  rw [Finset.sum_comm, ← sum_runs (A := 32) (B := 256) rfl f]
  refine Finset.sum_congr rfl fun t _ => ?_
  rw [Finset.sum_comm, ← sum_runs (A := 32) (B := 8) rfl fun p : Fin 256 => f ⟨256 * t.val + p.val, by omega⟩]
  refine Finset.sum_congr rfl fun b _ => Finset.sum_congr rfl fun a _ => ?_
  congr 2
  dsimp only
  omega

end Cert.Lift

end
-- ==== Proof.LossMath.lean ====
/- The loss head over the reals: a row's error, its gradient, and the sums over the rows. -/
module

public import proofs.«01_k».proof.Proof.Lift

@[expose] public section

set_option maxRecDepth 16384

noncomputable section

namespace Cert.Loss

open Cert.Lift

/-- A row's error: the normalised, scaled row less the target's. -/
def err (x t g : Fin 1024 → ℝ) (k : Fin 1024) : ℝ := x k * rr x * g k - t k

/-- A row's gradient through the norm of half the mean of the squared errors. -/
def gradRow (x t g : Fin 1024 → ℝ) (k : Fin 1024) : ℝ :=
  rr x * (err x t g k / 1024 * g k) - x k * (rr x * rr x * rr x) * ((∑ l, err x t g l / 1024 * g l * x l) / 1024)

/-- What a row adds to the scale's gradient. -/
def scaleRow (x t g : Fin 1024 → ℝ) (k : Fin 1024) : ℝ := err x t g k / 1024 * x k * rr x

/-- A row's mean squared error. -/
def mse (x t g : Fin 1024 → ℝ) : ℝ := (∑ k, err x t g k * err x t g k) / 1024

/-- The gradient as differentiation lays it out: the direct part and the reciprocal root's part, the latter once for each factor of the square. -/
theorem gradRow_of_parts (x t g : Fin 1024 → ℝ) (k : Fin 1024) :
    1 / 2 / 1024 * (2 * (x k * rr x * g k - t k)) * g k * rr x
        + x k * ((∑ l, x l * (1 / 2 / 1024 * (2 * (x l * rr x * g l - t l)) * g l)) * (-1 / 2 * (rr x / ms x)) / 1024)
        + (∑ l, x l * (1 / 2 / 1024 * (2 * (x l * rr x * g l - t l)) * g l)) * (-1 / 2 * (rr x / ms x)) / 1024 * x k
      = gradRow x t g k := by
  have hs : ∑ l, x l * (1 / 2 / 1024 * (2 * (x l * rr x * g l - t l)) * g l) = ∑ l, err x t g l / 1024 * g l * x l :=
    Finset.sum_congr rfl fun l _ => by unfold err; ring
  rw [hs, div_eq_mul_inv (rr x) (ms x), ← rr_sq]
  unfold gradRow err; ring

theorem scaleRow_of_parts (x t g : Fin 1024 → ℝ) (k : Fin 1024) :
    x k * rr x * (1 / 2 / 1024 * (2 * (x k * rr x * g k - t k))) = scaleRow x t g k := by
  unfold scaleRow err; ring

end Cert.Loss

end
-- ==== Proof.LossPay.lean ====
module

public import proofs.«01_k».proof.Proof.Gen.LossHeadIdeal.Frame
public import Idealize.ShloMosaic.Lib.Pipeline.ValueKit
public import proofs.«01_k».proof.Proof.LossMath

@[expose] public section

set_option maxRecDepth 16384

noncomputable section

open Idealize.ShloMosaic Idealize.ShloMosaic.TcCoe Idealize.SL.Sem

namespace Cert.LossHeadIdeal.Loss

open Cert.LossHeadIdeal Cert.LossHeadIdeal.Gen

variable (x t : Fin 256 → Fin 1024 → ℝ) (g : Fin 1024 → ℝ)
variable {X : FVec Ideal S256x1024 .f32} {G : FVec Ideal S1x1024 .f32} {T : FVec Ideal S256x1024 .f32}
variable (hX : ∀ p k, X (ix2 p k) = ((x p k : ℝ) : EReal)) (hG : ∀ k, G (ix2 0 k) = ((g k : ℝ) : EReal)) (hT : ∀ p k, T (ix2 p k) = ((t p k : ℝ) : EReal))

open Lift Cert.Loss

theorem pay8_eq (X : FVec Ideal S256x1024 .f32) : k0_pay8 (F := Ideal) X = X := by
  funext i
  pointwise! [k0_pay8]
theorem pay9_eq (G : FVec Ideal S1x1024 .f32) : k0_pay9 (F := Ideal) G = G := by
  funext i
  pointwise! [k0_pay9]

include hX hG hT
theorem grad_pay (p : Fin 256) (k : Fin 1024) :
    k0_pay2 (F := Ideal) (k0_pay8 X) (k0_pay9 G) (k0_pay10 X) (k0_pay11 X G T) k0_pay13 (ix2 p k) = ((gradRow (x p) (t p) g k : ℝ) : EReal) := by
  simp only [pay8_eq, pay9_eq]
  pointwise [k0_pay2, k0_pay10, k0_pay11, k0_pay13, k0_pay1]
  simp only [pay8_eq, pay9_eq, hX, hG, hT, c_1024, c_eps, ← EReal.coe_mul, ← EReal.coe_add, ← EReal.coe_sub, sum, div_1024, rsqrt_ms]
  rfl
theorem rows_pay (S : FVec Ideal S8x1024 .f32) (a : Fin 8) (k : Fin 1024) :
    k0_pay3 (F := Ideal) (k0_pay8 X) (k0_pay10 X) (k0_pay11 X G T) k0_pay13 S (ix2 a k)
      = S (ix2 a k) + ((∑ b : Fin 32, scaleRow (x ⟨b * 8 + a, by omega⟩) (t ⟨b * 8 + a, by omega⟩) g k : ℝ) : EReal) := by
  simp only [pay8_eq, pay9_eq]
  pointwise [k0_pay3, k0_pay10, k0_pay11, k0_pay13, k0_pay1]
  simp only [pay8_eq, pay9_eq, hX, hG, hT, c_1024, c_eps, ← EReal.coe_mul, ← EReal.coe_add, ← EReal.coe_sub, sum, div_1024, rsqrt_ms]
  rfl
theorem loss_pay (S : FVec Ideal S1x1 .f32) :
    k0_pay12 (F := Ideal) X G T S (ix2 0 0)
      = S (ix2 0 0) + ((1 / 2 * ∑ p, mse (x p) (t p) g : ℝ) : EReal) := by
  pointwise [k0_pay12, k0_pay10, k0_pay11]
  simp only [pay8_eq, pay9_eq, hX, hG, hT, c_1024, c_eps, c_half, ← EReal.coe_mul, ← EReal.coe_add, ← EReal.coe_sub, sum, div_1024, rsqrt_ms]
  rfl
omit hX hG hT
theorem pay6_zero (i) : k0_pay6 (F := Ideal) i = ((0 : ℝ) : EReal) := by
  pointwise [k0_pay6, c_zero]
theorem pay7_zero (i) : k0_pay7 (F := Ideal) i = ((0 : ℝ) : EReal) := by
  pointwise [k0_pay7, c_zero]
theorem pay4_at (S : FVec Ideal S8x1024 .f32) (k : Fin 1024) : k0_pay4 (F := Ideal) S (ix2 0 k) = ∑ a : Fin 8, S (ix2 a k) := by
  pointwise! [k0_pay4]
theorem pay5_at (S : FVec Ideal S1x1 .f32) (l : Fin 128) : k0_pay5 (F := Ideal) S (ix2 0 l) = S (ix2 0 0) := by
  pointwise! [k0_pay5]
end Cert.LossHeadIdeal.Loss

end
-- ==== Proof.LossFinal.lean ====
/- The loss head's three result arrays after the run, over the reals. -/
module

public import proofs.«01_k».proof.Proof.LossOut
public import proofs.«01_k».proof.Proof.LossPay

@[expose] public section

set_option maxRecDepth 16384

noncomputable section

open Idealize.ShloMosaic Idealize.ShloMosaic.TcCoe Idealize.SL.Sem
open Idealize.ShloMosaic.Pipeline (Dat)

namespace Cert.LossHeadIdeal.Loss

open Cert.LossHeadIdeal Cert.LossHeadIdeal.Gen Cert.Loss

variable (m : (ℓ : Loc nD τ sig) → Buf (Elt Ideal) ℓ) (c : Dev nD)
variable (x t : Fin 8192 → Fin 1024 → ℝ) (g : Fin 1024 → ℝ)
variable (hX : ∀ n k, m ((c.tc : Thread nD τ).loc main_arg0) (ix3 (0 : Fin 1) n k) = ((x n k : ℝ) : EReal)) (hG : ∀ k, m ((c.tc : Thread nD τ).loc main_arg1) (ix1 k) = ((g k : ℝ) : EReal)) (hT : ∀ n k, m ((c.tc : Thread nD τ).loc main_arg2) (ix3 (0 : Fin 1) n k) = ((t n k : ℝ) : EReal))

theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![0, 0] ∧ t.val < 32 :=
  (by decide +kernel : ∀ t : Fin grid0.N, _)

/-- The rows a grid point works on. -/
def tile (v : Fin 8192 → Fin 1024 → ℝ) (s : Fin cfg0.N) (p : Fin 256) : Fin 1024 → ℝ := v ⟨256 * s.val + p, by have := (idx s).2.2.2.2.2.2; omega⟩

include hX in
theorem bx_at (s : Fin cfg0.N) (p : Fin 256) (k : Fin 1024) : bx m c s (ix2 p k) = ((tile x s p k : ℝ) : EReal) := by
  rw [show bx m c s (ix2 p k) = m ((c.tc : Thread nD τ).loc main_arg0) (ix3 (0 : Fin 1) ⟨256 * s.val + p, by have := (idx s).2.2.2.2.2.2; omega⟩ k) from ?_, hX]; · rfl
  unfold bx
  blk_simp [iblk, idx s]
  entry_read
  pointwise
  blk_ext [idx s]
include hT in
theorem bt_at (s : Fin cfg0.N) (p : Fin 256) (k : Fin 1024) : bt m c s (ix2 p k) = ((tile t s p k : ℝ) : EReal) := by
  rw [show bt m c s (ix2 p k) = m ((c.tc : Thread nD τ).loc main_arg2) (ix3 (0 : Fin 1) ⟨256 * s.val + p, by have := (idx s).2.2.2.2.2.2; omega⟩ k) from ?_, hT]; · rfl
  unfold bt
  blk_simp [iblk, idx s]
  entry_read
  pointwise
  blk_ext [idx s]
include hG in
theorem bg_at (s : Fin cfg0.N) (k : Fin 1024) : bg m c s (ix2 0 k) = ((g k : ℝ) : EReal) := by
  rw [show bg m c s (ix2 0 k) = m ((c.tc : Thread nD τ).loc main_arg1) (ix1 k) from ?_, hG]
  unfold bg
  blk_simp [iblk, idx s]
  entry_read
  pointwise
  blk_ext [idx s]

theorem grad_all (s : Fin cfg0.N) : (outsAt0 m c s.val s.isLt).1 = grad m c s := by
  by_cases h0 : s.val % 32 = 0
  · exact grad_A m c s h0 (by omega)
  · by_cases h1 : s.val % 32 = 31
    · exact grad_C m c s h0 h1
    · exact grad_B m c s h0 h1
theorem rows_step (s : Fin cfg0.N) (h0 : ¬s.val % 32 = 0) : (outsAt0 m c s.val s.isLt).2.2.2.1 = rows m c s (outsAt0 m c (s.val - 1) (by omega)).2.2.2.1 := by
  by_cases h1 : s.val % 32 = 31
  · exact rows_C m c s h0 h1
  · exact rows_B m c s h0 h1
theorem loss_step (s : Fin cfg0.N) (h0 : ¬s.val % 32 = 0) : (outsAt0 m c s.val s.isLt).2.2.2.2 = loss m c s (outsAt0 m c (s.val - 1) (by omega)).2.2.2.2 := by
  by_cases h1 : s.val % 32 = 31
  · exact loss_C m c s h0 h1
  · exact loss_B m c s h0 h1

include hX hG hT
theorem rows_last (s : Fin cfg0.N) (h : s.val % 32 = 31) (a : Fin 8) (k : Fin 1024) :
    (outsAt0 m c s.val s.isLt).2.2.2.1 (ix2 a k)
      = ((∑ q : Fin 32, ∑ b : Fin 32, scaleRow (x ⟨256 * q.val + (b.val * 8 + a.val), by omega⟩) (t ⟨256 * q.val + (b.val * 8 + a.val), by omega⟩) g k : ℝ) : EReal) := by
  refine (Pipeline.eq_sum_fin_of_reset_step_apply_last (fun n hn (j : Fin 8 × Fin 1024) => ((outsAt0 m c n hn).2.2.2.1 (ix2 j.1 j.2) : EReal)) 32 (fun _ => 0)
    (fun q j => ((∑ b : Fin 32, scaleRow (tile x q ⟨b * 8 + j.1, by omega⟩) (tile t q ⟨b * 8 + j.1, by omega⟩) g j.2 : ℝ) : EReal))
    (fun q hq j => ?_) (fun q hq j => ?_) (le_of_eq N_0) s (by have := (idx s).2.2.2.2.2.2; have hN : cfg0.N = 32 := N_0; omega) (a, k)).trans ?_
  · refine (congrFun (rows_A m c q hq (by omega)) _).trans ((rows_pay (tile x q) (tile t q) g (bx_at m c x hX q) (bg_at m c g hG q) (bt_at m c t hT q) _ j.1 j.2).trans ?_)
    rw [pay6_zero, EReal.coe_zero]
  · exact (congrFun (rows_step m c q hq) _).trans (rows_pay (tile x q) (tile t q) g (bx_at m c x hX q) (bg_at m c g hG q) (bt_at m c t hT q) _ j.1 j.2)
  · rw [zero_add]
    exact Lift.sum (n := 32) _
theorem loss_last (s : Fin cfg0.N) (h : s.val % 32 = 31) :
    (outsAt0 m c s.val s.isLt).2.2.2.2 (ix2 0 0) = ((∑ q : Fin 32, 1 / 2 * ∑ p : Fin 256, mse (x ⟨256 * q.val + p.val, by omega⟩) (t ⟨256 * q.val + p.val, by omega⟩) g : ℝ) : EReal) := by
  refine (Pipeline.eq_sum_fin_of_reset_step_apply_last (fun n hn (_ : Unit) => ((outsAt0 m c n hn).2.2.2.2 (ix2 0 0) : EReal)) 32 (fun _ => 0)
    (fun q _ => ((1 / 2 * ∑ p : Fin 256, mse (tile x q p) (tile t q p) g : ℝ) : EReal))
    (fun q hq j => ?_) (fun q hq j => ?_) (le_of_eq N_0) s (by have := (idx s).2.2.2.2.2.2; have hN : cfg0.N = 32 := N_0; omega) ()).trans ?_
  · refine (congrFun (loss_A m c q hq (by omega)) _).trans ((loss_pay (tile x q) (tile t q) g (bx_at m c x hX q) (bg_at m c g hG q) (bt_at m c t hT q) _).trans ?_)
    rw [pay7_zero, EReal.coe_zero]
  · exact (congrFun (loss_step m c q hq) _).trans (loss_pay (tile x q) (tile t q) g (bx_at m c x hX q) (bg_at m c g hG q) (bt_at m c t hT q) _)
  · rw [zero_add]
    exact Lift.sum (n := 32) _

/-- The input gradient after the run. -/
theorem final3 : (dats m 0 c).arrAt 3 (cfgs 0).N = fun i : S8192x1024.Idx => ((gradRow (x (i 0)) (t (i 0)) g (i 1) : ℝ) : EReal) := by
  refine (dats m 0 c).arrAt_eq_of_covers 3 _ (by decide +kernel) fun s _ y => ?_
  blk_simp
  rw [after0_3, grad_all]
  idx_vars y
  refine (grad_pay (tile x s) (tile t s) g (bx_at m c x hX s) (bg_at m c g hG s) (bt_at m c t hT s) y0 y1).trans ?_
  have e : ((View.whole main_v3_0).slice (win0_3.rect s)).emb (ix2 y0 y1) = ix2 (⟨256 * s.val + y0, by have := (idx s).2.2.2.2.2.2; omega⟩ : Fin 8192) y1 := by
    blk_ext [idx s]
  rw [e]; rfl
/-- The scale's gradient after the run. -/
theorem final4 : (dats m 0 c).arrAt 4 (cfgs 0).N = fun i : S1x1024.Idx => ((∑ n, scaleRow (x n) (t n) g (i 1) : ℝ) : EReal) := by
  refine (dats m 0 c).arrAt_eq_of_covers 4 _ (by decide +kernel) fun s hs y => ?_
  have h := (flush0_4 s).mp hs
  blk_simp
  rw [after0_4, out4_C m c s (by omega) h]
  idx_vars y
  have e : ((View.whole main_v3_1).slice (win0_4.rect s)).emb (ix2 y0 y1) = ix2 (0 : Fin 1) y1 := by
    blk_ext [idx s]
  rw [e, show ix2 y0 y1 = ix2 0 y1 from by blk_ext []]
  refine (pay4_at _ y1).trans ?_
  refine (Finset.sum_congr rfl fun a _ => rows_last m c x t g hX hG hT s h a y1).trans ?_
  rw [Lift.sum (n := 8)]
  exact congrArg _ (Lift.sum_tiles fun n => scaleRow (x n) (t n) g y1)
/-- The loss after the run. -/
theorem final5 : (dats m 0 c).arrAt 5 (cfgs 0).N = fun _ : S1x128.Idx => ((1 / 2 * ∑ n, mse (x n) (t n) g : ℝ) : EReal) := by
  refine (dats m 0 c).arrAt_eq_of_covers 5 _ (by decide +kernel) fun s hs y => ?_
  have h := (flush0_5 s).mp hs
  blk_simp
  rw [after0_5, out5_C m c s (by omega) h]
  idx_vars y
  rw [show ix2 y0 y1 = ix2 0 y1 from by blk_ext []]
  refine (pay5_at _ y1).trans ((loss_last m c x t g hX hG hT s h).trans (congrArg _ ?_))
  rw [← Finset.mul_sum]
  exact congrArg _ (Lift.sum_runs (A := 32) (B := 256) rfl fun n => mse (x n) (t n) g)
end Cert.LossHeadIdeal.Loss

end
-- ==== Proof.LossRef.lean ====
module

public import proofs.«01_k».proof.Proof.Gen.LossHeadRefIdeal.Run
public import proofs.«01_k».proof.Proof.LossMath

@[expose] public section

set_option maxRecDepth 16384

noncomputable section

open Idealize.ShloMosaic Idealize.ShloMosaic.TcCoe Idealize.SL.Sem

namespace Cert.LossHeadRefIdeal.Loss

open Cert.LossHeadRefIdeal Cert.LossHeadRefIdeal.Gen Cert.LossHeadRefIdeal.Value Lift Cert.Loss
variable (m : (ℓ : Loc nD τ sig) → Buf (Elt Ideal) ℓ) (c : Dev nD)
variable (x t : Fin 8192 → Fin 1024 → ℝ) (g : Fin 1024 → ℝ)
variable (hX : ∀ n k, m ((c.tc : Thread nD τ).loc main_arg0) (ix3 (0 : Fin 1) n k) = ((x n k : ℝ) : EReal)) (hG : ∀ k, m ((c.tc : Thread nD τ).loc main_arg1) (ix1 k) = ((g k : ℝ) : EReal)) (hT : ∀ n k, m ((c.tc : Thread nD τ).loc main_arg2) (ix3 (0 : Fin 1) n k) = ((t n k : ℝ) : EReal))
include hX hG hT
theorem ref_dh (n : Fin 8192) (k : Fin 1024) : res_main_v52 m c (ix2 n k) = ((gradRow (x n) (t n) g k : ℝ) : EReal) := by
  pointwise [res_main_v52]
  simp only [reduce_units]
  pointwise []
  simp only [hX, hG, hT, c_1024, c_eps, c_half, c_neg_half, c_one, c_two, c_zero, ← EReal.coe_mul, ← EReal.coe_add, ← EReal.coe_sub, sum, div_1024, rsqrt_ms, div_ms, zero_add]
  exact congrArg _ (gradRow_of_parts (x n) (t n) g k)
omit hX hG hT
/-- The reference's run over finite arguments, in the reals. -/
theorem run_real (x t : Dev nD → Fin 8192 → Fin 1024 → ℝ) (g : Dev nD → Fin 1024 → ℝ)
    (hX : ∀ (c : Dev nD) n k, m ((c.tc : Thread nD τ).loc main_arg0) (ix3 (0 : Fin 1) n k) = ((x c n k : ℝ) : EReal)) (hG : ∀ (c : Dev nD) k, m ((c.tc : Thread nD τ).loc main_arg1) (ix1 k) = ((g c k : ℝ) : EReal)) (hT : ∀ (c : Dev nD) n k, m ((c.tc : Thread nD τ).loc main_arg2) (ix3 (0 : Fin 1) n k) = ((t c n k : ℝ) : EReal))
    (ρ : Dev nD → PrngReg) : θ_run defs (onTc (τ := τ) (main (F := Ideal))) ⟨m, fun _ => 0, ρ⟩ (fun r => ∀ c : Dev nD,
    r.2.mem ((c.tc : Thread nD τ).loc main_v52) = (fun i : S8192x1024.Idx => ((gradRow (x c (i 0)) (t c (i 0)) (g c) (i 1) : ℝ) : EReal))
    ∧ r.2.mem ((c.tc : Thread nD τ).loc main_v53) = (fun i : S1x1024.Idx => ((∑ n, scaleRow (x c n) (t c n) (g c) (i 1) : ℝ) : EReal))
    ∧ r.2.mem ((c.tc : Thread nD τ).loc main_v54) = (fun _ : S1x128.Idx => ((1 / 2 * ∑ n, mse (x c n) (t c n) (g c) : ℝ) : EReal))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun _ h c => ⟨(h c).1.trans ?_, (h c).2.1.trans ?_, (h c).2.2.1.trans ?_, (h c).2.2.2⟩) (run m ρ)
  · funext i
    idx_vars i
    exact ref_dh m c (x c) (t c) (g c) (hX c) (hG c) (hT c) i0 i1
  · funext i
    idx_vars i
    pointwise []
    simp only [reduce_units_front]
    pointwise []
    simp only [hX, hG, hT, c_1024, c_eps, c_half, c_neg_half, c_one, c_two, c_zero, ← EReal.coe_mul, ← EReal.coe_add, ← EReal.coe_sub, sum, div_1024, rsqrt_ms, div_ms, zero_add]
    clear h
    exact congrArg _ (Finset.sum_congr rfl fun n _ => scaleRow_of_parts (x c n) (t c n) (g c) i1)
  · funext i
    idx_vars i
    clear h
    pointwise []
    simp only [Fin.sum_univ_one, hX, hG, hT, c_1024, c_eps, c_half, c_neg_half, c_one, c_two, c_zero, ← EReal.coe_mul, ← EReal.coe_add, ← EReal.coe_sub, sum, div_1024, rsqrt_ms, div_ms, zero_add]
    rfl

end Cert.LossHeadRefIdeal.Loss

end
-- ==== Proof.LossClaim.lean ====
/- The loss head against differentiation of its forward lines: on finite arguments both leave the same arrays. -/
module

public import proofs.«01_k».proof.Defs
public import proofs.«01_k».proof.Proof.Gen.Pre_finite_loss
public import proofs.«01_k».proof.Proof.Fin
public import proofs.«01_k».proof.Proof.LossFinal
public import proofs.«01_k».proof.Proof.LossRef
public import Idealize.ShloMosaic.Lib.Claim

@[expose] public section

set_option maxRecDepth 16384

noncomputable section

open Idealize.ShloMosaic Idealize.ShloMosaic.TcCoe Idealize.SL.Sem

namespace Cert.Loss

open Cert.Lift

/-- The reference runs to the end, leaves its arguments alone and every semaphore at zero. -/
theorem frame : Cert.quiescent_LossHeadRefIdeal := fun m ρ _ =>
  (θ_run _ _ _).mono (fun r h => ⟨fun c => (h c).2.2.2, sem_eq_zero_of_no_sems (by decide) r.2⟩) (Cert.LossHeadRefIdeal.Value.run m ρ)

/-- Finite arguments are real arrays. -/
theorem reals (X : FVec Ideal ⟨3, ![1, 8192, 1024]⟩ .f32) (G : FVec Ideal ⟨1, ![1024]⟩ .f32) (T : FVec Ideal ⟨3, ![1, 8192, 1024]⟩ .f32)
    (h : Cert.Pre_finite_loss.fn (F := Ideal) X G T = fun _ => 1#1) :
    ∃ (x t : Fin 8192 → Fin 1024 → ℝ) (g : Fin 1024 → ℝ),
      (∀ n k, X (ix3 (0 : Fin 1) n k) = ((x n k : ℝ) : EReal)) ∧ (∀ k, G (ix1 k) = ((g k : ℝ) : EReal)) ∧ (∀ n k, T (ix3 (0 : Fin 1) n k) = ((t n k : ℝ) : EReal)) := by
  have h0 := congrFun h ix0
  dsimp only [Cert.Pre_finite_loss.fn] at h0
  obtain ⟨h1, hT⟩ := IntOp.andi_eq_one.mp h0
  obtain ⟨hX, hG⟩ := IntOp.andi_eq_one.mp h1
  obtain ⟨x, hx⟩ := real_of_all _ _ _ _ _ hX
  obtain ⟨g, hg⟩ := real_of_all _ _ _ _ _ hG
  obtain ⟨t, ht⟩ := real_of_all _ _ _ _ _ hT
  exact ⟨fun n k => x (ix3 0 n k), fun n k => t (ix3 0 n k), fun k => g (ix1 k), fun n k => hx _, fun k => hg _, fun n k => ht _⟩

theorem algebraic : Cert.algebraic_LossHeadIdeal_LossHeadRefIdeal_pre_finite_loss := by
  intro m ρ m' ρ' hpre hagree
  have hr := fun c => reals _ _ _ (hpre c)
  choose x t g hX hG hT using hr
  refine ⟨fun c => fun i : LossHeadIdeal.S8192x1024.Idx => ((gradRow (x c (i 0)) (t c (i 0)) (g c) (i 1) : ℝ) : EReal),
    fun c => fun i : LossHeadIdeal.S1x1024.Idx => ((∑ n, scaleRow (x c n) (t c n) (g c) (i 1) : ℝ) : EReal),
    fun c => fun _ : LossHeadIdeal.S1x128.Idx => ((1 / 2 * ∑ n, mse (x c n) (t c n) (g c) : ℝ) : EReal), ?_, ?_⟩
  · run_from Cert.LossHeadIdeal.Gen.run_main m ρ
    · exact LossHeadIdeal.Loss.final3 m c (x c) (t c) (g c) (hX c) (hG c) (hT c)
    · exact LossHeadIdeal.Loss.final4 m c (x c) (t c) (g c) (hX c) (hG c) (hT c)
    · exact LossHeadIdeal.Loss.final5 m c (x c) (t c) (g c) (hX c) (hG c) (hT c)
  · refine (θ_run _ _ _).mono (fun _ h => h) (LossHeadRefIdeal.Loss.run_real m' x t g (fun c n k => ?_) (fun c k => ?_) (fun c n k => ?_) ρ')
    · rw [(hagree c).1]; exact hX c n k
    · rw [(hagree c).2.1]; exact hG c k
    · rw [(hagree c).2.2]; exact hT c n k

end Cert.Loss

end
-- ==== Proof.FlashRun.lean ====
module

public import proofs.«01_k».proof.Proof.Gen.FlashBwdIdeal.Frame
public import proofs.«01_k».proof.Proof.Gen.FlashBwdIdeal.Loops
public import Idealize.ShloMosaic.Lib.LoopRemainder
public import Idealize.ShloMosaic.Lib.VecWindow

@[expose] public section

set_option maxRecDepth 16384

noncomputable section

namespace Cert.FlashBwdIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FlashBwdIdeal.Gen

variable {F : FTy → Type} [FloatOps F] [Named F]

/-- The first key tile of a head pair: the two query-side accumulators are zeroed here. -/
abbrev first (i : grid0.Coords) : Prop := (Scalar.cmpi .ne (Scalar.extui (Scalar.cmpi .eq (BitVec.ofNat 32 (i 1).val) 0#32)) 0#32) = 1#1

theorem first_iff : ∀ t : Fin cfg0.N, first (grid0.coords t) ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [first, e1]
    word_cmp
   : ∀ t : Fin grid0.N, first (grid0.coords t) ↔ t.val % 8 = 0)

theorem hide {R : sProp (MT nD τ sig Unit (Elt F) ℕ (UR sig nD τ) ℕ)} {β : Type} {Q : β → sProp (MT nD τ sig Unit (Elt F) ℕ (UR sig nD τ) ℕ)} {W : (β → sProp (MT nD τ sig Unit (Elt F) ℕ (UR sig nD τ) ℕ)) → sProp (MT nD τ sig Unit (Elt F) ℕ (UR sig nD τ) ℕ)}
    (h : ∀ Q', Q' = Q → (R ⊢ W Q')) : R ⊢ W Q := h Q rfl

set_option maxHeartbeats 4000000 in
/-- The whole body: what it writes into each output, piece by piece, over what the zeroing stores at its head leave. -/
@[irreducible] def run (c : Dev nD) (i : grid0.Coords) (arg2 : Memref sig .tc .vmem S8192x128 .bf16) (harg2 : arg2.IsWhole) (arg3 : Memref sig .tc .vmem S128x8192 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x2x1024 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S1x8192x6 .f32) (harg10 : arg10.IsWhole) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    Σ' (L11 : (BufTy.Contents (Elt F) arg11.view.ty → BufTy.Contents (Elt F) arg12.view.ty → BufTy.Contents (Elt F) arg13.view.ty → BufTy.Contents (Elt F) arg14.view.ty → BufTy.Contents (Elt F) arg15.view.ty → List (View.Piece (Elt F) S8192x128 .f32))), Σ' (L12 : (BufTy.Contents (Elt F) arg11.view.ty → BufTy.Contents (Elt F) arg12.view.ty → BufTy.Contents (Elt F) arg13.view.ty → BufTy.Contents (Elt F) arg14.view.ty → BufTy.Contents (Elt F) arg15.view.ty → List (View.Piece (Elt F) S128x1024 .f32))), Σ' (L13 : (BufTy.Contents (Elt F) arg11.view.ty → BufTy.Contents (Elt F) arg12.view.ty → BufTy.Contents (Elt F) arg13.view.ty → BufTy.Contents (Elt F) arg14.view.ty → BufTy.Contents (Elt F) arg15.view.ty → List (View.Piece (Elt F) S128x1024 .f32))), Σ' (L14 : (BufTy.Contents (Elt F) arg11.view.ty → BufTy.Contents (Elt F) arg12.view.ty → BufTy.Contents (Elt F) arg13.view.ty → BufTy.Contents (Elt F) arg14.view.ty → BufTy.Contents (Elt F) arg15.view.ty → List (View.Piece (Elt F) S1x8x1024 .f32))), { L15 : (BufTy.Contents (Elt F) arg11.view.ty → BufTy.Contents (Elt F) arg12.view.ty → BufTy.Contents (Elt F) arg13.view.ty → BufTy.Contents (Elt F) arg14.view.ty → BufTy.Contents (Elt F) arg15.view.ty → List (View.Piece (Elt F) S1x8192x2 .f32)) // ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty),
      Trip_k0_t1 (F := F) c arg2 arg3 arg4 arg5 arg6 arg7 arg8 arg9 arg10 arg11 arg12 arg13 arg14 arg15 X2 X3 X4 X5 X6 X7 X8 X9 X10 f11 f12 f13 f14 f15
      ⊢ wp Idealize.ShloMosaic.frame (wpE (defs₀ (F := F)) Variants.none (c : Thread nD τ) none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15)
          (fun _ => iprop(∃ g11 g12 g13 g14 g15, ⌜(first i → arg11.view.read (Elt F) g11 = k0_pay37 (F := F) ∧ arg15.view.read (Elt F) g15 = k0_pay38 (F := F)) ∧ (¬ first i → g11 = f11 ∧ g15 = f15) ∧ arg12.view.read (Elt F) g12 = k0_pay40 (F := F) ∧ arg13.view.read (Elt F) g13 = k0_pay41 (F := F) ∧ arg14.view.read (Elt F) g14 = k0_pay39 (F := F)⌝ ∗ Trip_k0_t1 (F := F) c arg2 arg3 arg4 arg5 arg6 arg7 arg8 arg9 arg10 arg11 arg12 arg13 arg14 arg15 X2 X3 X4 X5 X6 X7 X8 X9 X10 (arg11.view.writes (Elt F) g11 (L11 g11 g12 g13 g14 g15)) (arg12.view.writes (Elt F) arg12.view.junk (L12 g11 g12 g13 g14 g15)) (arg13.view.writes (Elt F) arg13.view.junk (L13 g11 g12 g13 g14 g15)) (arg14.view.writes (Elt F) g14 (L14 g11 g12 g13 g14 g15)) (arg15.view.writes (Elt F) g15 (L15 g11 g12 g13 g14 g15)))) } := by
  refine ⟨?_, ?_, ?_, ?_, ?_, fun E f11 f12 f13 f14 f15 => ?run⟩
  case run =>
    simp only [cc0_flash_bwd_eq_skeleton]; unfold cc0_flash_bwd_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    rw [wp_bind]
    refine hide fun Q' hQ => ?_
    by_cases hc : first i
    · iintro ⟨H2, H3, H4, H5, H6, H7, H8, H9, H10, H11, H12, H13, H14, H15⟩
      sl_exec (disch := first | sl_exact hc)
      sl_step
      subst hQ
      dsimp only
      obtain ⟨g11, d11⟩ : ∃ g, g = arg11.view.writes (Elt F) f11 [⟨Rect.unit ![0, 0] S8192x128.size inb_S8192x128_S8192x128_0_0, k0_pay37⟩] := ⟨_, rfl⟩
      rw [← d11]
      have e11 : arg11.view.read (Elt F) g11 = k0_pay37 (F := F) := by rw [d11]; exact View.read_writes_full _ _ _ _ _
      obtain ⟨g12, d12⟩ : ∃ g, g = arg12.view.writes (Elt F) f12 [⟨Rect.unit ![0, 0] S128x1024.size inb_S128x1024_S128x1024_0_0, k0_pay40⟩] := ⟨_, rfl⟩
      rw [← d12]
      have e12 : arg12.view.read (Elt F) g12 = k0_pay40 (F := F) := by rw [d12]; exact View.read_writes_full _ _ _ _ _
      obtain ⟨g13, d13⟩ : ∃ g, g = arg13.view.writes (Elt F) f13 [⟨Rect.unit ![0, 0] S128x1024.size inb_S128x1024_S128x1024_0_0, k0_pay41⟩] := ⟨_, rfl⟩
      rw [← d13]
      have e13 : arg13.view.read (Elt F) g13 = k0_pay41 (F := F) := by rw [d13]; exact View.read_writes_full _ _ _ _ _
      obtain ⟨g14, d14⟩ : ∃ g, g = arg14.view.writes (Elt F) f14 [⟨Rect.unit ![0, 0, 0] S1x8x1024.size inb_S1x8x1024_S1x8x1024_0_0_0, k0_pay39⟩] := ⟨_, rfl⟩
      rw [← d14]
      have e14 : arg14.view.read (Elt F) g14 = k0_pay39 (F := F) := by rw [d14]; exact View.read_writes_full _ _ _ _ _
      obtain ⟨g15, d15⟩ : ∃ g, g = arg15.view.writes (Elt F) f15 [⟨Rect.unit ![0, 0, 0] S1x8192x2.size inb_S1x8192x2_S1x8192x2_0_0_0, k0_pay38⟩] := ⟨_, rfl⟩
      rw [← d15]
      have e15 : arg15.view.read (Elt F) g15 = k0_pay38 (F := F) := by rw [d15]; exact View.read_writes_full _ _ _ _ _
      sl_exec
      sl_step
      iexists g11, g12, g13, g14, g15
      isplitr
      · ipureintro; exact ⟨fun _ => ⟨e11, e15⟩, fun h => absurd hc h, e12, e13, e14⟩
      sl_close
    · iintro ⟨H2, H3, H4, H5, H6, H7, H8, H9, H10, H11, H12, H13, H14, H15⟩
      sl_exec (disch := first | sl_exact hc)
      sl_step
      subst hQ
      dsimp only
      obtain ⟨g12, d12⟩ : ∃ g, g = arg12.view.writes (Elt F) f12 [⟨Rect.unit ![0, 0] S128x1024.size inb_S128x1024_S128x1024_0_0, k0_pay40⟩] := ⟨_, rfl⟩
      rw [← d12]
      have e12 : arg12.view.read (Elt F) g12 = k0_pay40 (F := F) := by rw [d12]; exact View.read_writes_full _ _ _ _ _
      obtain ⟨g13, d13⟩ : ∃ g, g = arg13.view.writes (Elt F) f13 [⟨Rect.unit ![0, 0] S128x1024.size inb_S128x1024_S128x1024_0_0, k0_pay41⟩] := ⟨_, rfl⟩
      rw [← d13]
      have e13 : arg13.view.read (Elt F) g13 = k0_pay41 (F := F) := by rw [d13]; exact View.read_writes_full _ _ _ _ _
      obtain ⟨g14, d14⟩ : ∃ g, g = arg14.view.writes (Elt F) f14 [⟨Rect.unit ![0, 0, 0] S1x8x1024.size inb_S1x8x1024_S1x8x1024_0_0_0, k0_pay39⟩] := ⟨_, rfl⟩
      rw [← d14]
      have e14 : arg14.view.read (Elt F) g14 = k0_pay39 (F := F) := by rw [d14]; exact View.read_writes_full _ _ _ _ _
      sl_exec
      sl_step
      iexists f11, g12, g13, g14, f15
      isplitr
      · ipureintro; exact ⟨fun h => absurd h hc, fun _ => ⟨rfl, rfl⟩, e12, e13, e14⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

end Cert.FlashBwdIdeal.Flash

end
-- ==== Proof.FlashFrame.lean ====
module

public import proofs.«01_k».proof.Proof.FlashRun
public import Idealize.ShloMosaic.Lib.Claim

@[expose] public section

set_option maxRecDepth 16384

noncomputable section

namespace Cert.FlashBwdIdeal.Flash

open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Cert.FlashBwdIdeal.Gen

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

abbrev st0 (t : Fin cfg0.N) : Memref sig .tc .vmem S8192x128 .bf16 := win0_0.stage (cfg0.slots t 0)
abbrev wh0 (t : Fin cfg0.N) : (st0 t).IsWhole := hstage0_0 ((cfg0.slots t 0).cast nbuf0_0)
abbrev st1 (t : Fin cfg0.N) : Memref sig .tc .vmem S128x8192 .bf16 := win0_1.stage (cfg0.slots t 1)
abbrev wh1 (t : Fin cfg0.N) : (st1 t).IsWhole := hstage0_1 ((cfg0.slots t 1).cast nbuf0_1)
abbrev st2 (t : Fin cfg0.N) : Memref sig .tc .vmem S1024x128 .bf16 := win0_2.stage (cfg0.slots t 2)
abbrev wh2 (t : Fin cfg0.N) : (st2 t).IsWhole := hstage0_2 ((cfg0.slots t 2).cast nbuf0_2)
abbrev st3 (t : Fin cfg0.N) : Memref sig .tc .vmem S128x1024 .bf16 := win0_3.stage (cfg0.slots t 3)
abbrev wh3 (t : Fin cfg0.N) : (st3 t).IsWhole := hstage0_3 ((cfg0.slots t 3).cast nbuf0_3)
abbrev st4 (t : Fin cfg0.N) : Memref sig .tc .vmem S128x1024 .bf16 := win0_4.stage (cfg0.slots t 4)
abbrev wh4 (t : Fin cfg0.N) : (st4 t).IsWhole := hstage0_4 ((cfg0.slots t 4).cast nbuf0_4)
abbrev st5 (t : Fin cfg0.N) : Memref sig .tc .vmem S1x2x1024 .f32 := win0_5.stage (cfg0.slots t 5)
abbrev wh5 (t : Fin cfg0.N) : (st5 t).IsWhole := hstage0_5 ((cfg0.slots t 5).cast nbuf0_5)
abbrev st6 (t : Fin cfg0.N) : Memref sig .tc .vmem S8192x128 .bf16 := win0_6.stage (cfg0.slots t 6)
abbrev wh6 (t : Fin cfg0.N) : (st6 t).IsWhole := hstage0_6 ((cfg0.slots t 6).cast nbuf0_6)
abbrev st7 (t : Fin cfg0.N) : Memref sig .tc .vmem S128x8192 .bf16 := win0_7.stage (cfg0.slots t 7)
abbrev wh7 (t : Fin cfg0.N) : (st7 t).IsWhole := hstage0_7 ((cfg0.slots t 7).cast nbuf0_7)
abbrev st8 (t : Fin cfg0.N) : Memref sig .tc .vmem S1x8192x6 .f32 := win0_8.stage (cfg0.slots t 8)
abbrev wh8 (t : Fin cfg0.N) : (st8 t).IsWhole := hstage0_8 ((cfg0.slots t 8).cast nbuf0_8)
abbrev st9 (t : Fin cfg0.N) : Memref sig .tc .vmem S8192x128 .f32 := win0_9.stage (cfg0.slots t 9)
abbrev wh9 (t : Fin cfg0.N) : (st9 t).IsWhole := hstage0_9 ((cfg0.slots t 9).cast nbuf0_9)
abbrev st10 (t : Fin cfg0.N) : Memref sig .tc .vmem S128x1024 .f32 := win0_10.stage (cfg0.slots t 10)
abbrev wh10 (t : Fin cfg0.N) : (st10 t).IsWhole := hstage0_10 ((cfg0.slots t 10).cast nbuf0_10)
abbrev st11 (t : Fin cfg0.N) : Memref sig .tc .vmem S128x1024 .f32 := win0_11.stage (cfg0.slots t 11)
abbrev wh11 (t : Fin cfg0.N) : (st11 t).IsWhole := hstage0_11 ((cfg0.slots t 11).cast nbuf0_11)
abbrev st12 (t : Fin cfg0.N) : Memref sig .tc .vmem S1x8x1024 .f32 := win0_12.stage (cfg0.slots t 12)
abbrev wh12 (t : Fin cfg0.N) : (st12 t).IsWhole := hstage0_12 ((cfg0.slots t 12).cast nbuf0_12)
abbrev st13 (t : Fin cfg0.N) : Memref sig .tc .vmem S1x8192x2 .f32 := win0_13.stage (cfg0.slots t 13)
abbrev wh13 (t : Fin cfg0.N) : (st13 t).IsWhole := hstage0_13 ((cfg0.slots t 13).cast nbuf0_13)

/-- The five blocks the body leaves: the query gradient, key gradient, value gradient, key-side and query-side gate gradients. -/
abbrev Outs (F : FTy → Type) : Type := Vec F S8192x128 .f32 × Vec F S128x1024 .f32 × Vec F S128x1024 .f32 × Vec F S1x8x1024 .f32 × Vec F S1x8192x2 .f32

/-- The run at the point's own buffers. -/
abbrev lr (c : Dev nD) (t : Fin cfg0.N) := run (F := F) c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) ((wh0 t).unread (iblk m c 0 t)) ((wh1 t).unread (iblk m c 1 t)) ((wh2 t).unread (iblk m c 2 t)) ((wh3 t).unread (iblk m c 3 t)) ((wh4 t).unread (iblk m c 4 t)) ((wh5 t).unread (iblk m c 5 t)) ((wh6 t).unread (iblk m c 6 t)) ((wh7 t).unread (iblk m c 7 t)) ((wh8 t).unread (iblk m c 8 t))

/-- What the body leaves at a point, over the two query-side accumulators as it finds them. -/
def outAt (c : Dev nD) (t : Fin cfg0.N) (p9 : Vec F S8192x128 .f32) (p13 : Vec F S1x8192x2 .f32) : Outs F :=
  ((st9 t).view.read (Elt F) ((st9 t).view.writes (Elt F) ((wh9 t).unread p9) ((lr m c t).1 ((wh9 t).unread p9) ((wh10 t).unread k0_pay40) ((wh11 t).unread k0_pay41) ((wh12 t).unread k0_pay39) ((wh13 t).unread p13))),
   (st10 t).view.read (Elt F) ((st10 t).view.writes (Elt F) (st10 t).view.junk ((lr m c t).2.1 ((wh9 t).unread p9) ((wh10 t).unread k0_pay40) ((wh11 t).unread k0_pay41) ((wh12 t).unread k0_pay39) ((wh13 t).unread p13))),
   (st11 t).view.read (Elt F) ((st11 t).view.writes (Elt F) (st11 t).view.junk ((lr m c t).2.2.1 ((wh9 t).unread p9) ((wh10 t).unread k0_pay40) ((wh11 t).unread k0_pay41) ((wh12 t).unread k0_pay39) ((wh13 t).unread p13))),
   (st12 t).view.read (Elt F) ((st12 t).view.writes (Elt F) ((wh12 t).unread k0_pay39) ((lr m c t).2.2.2.1 ((wh9 t).unread p9) ((wh10 t).unread k0_pay40) ((wh11 t).unread k0_pay41) ((wh12 t).unread k0_pay39) ((wh13 t).unread p13))),
   (st13 t).view.read (Elt F) ((st13 t).view.writes (Elt F) ((wh13 t).unread p13) ((lr m c t).2.2.2.2.1 ((wh9 t).unread p9) ((wh10 t).unread k0_pay40) ((wh11 t).unread k0_pay41) ((wh12 t).unread k0_pay39) ((wh13 t).unread p13))))

/-- The blocks left at every grid point: the accumulators start at zero at each head pair's first key tile. -/
def outs (c : Dev nD) : (n : ℕ) → n < cfg0.N → Outs F
  | 0, hn => outAt m c ⟨0, hn⟩ k0_pay37 k0_pay38
  | n + 1, hn =>
    if (n + 1) % 8 = 0 then outAt m c ⟨n + 1, hn⟩ k0_pay37 k0_pay38
    else outAt m c ⟨n + 1, hn⟩ (outs c n (Nat.lt_of_succ_lt hn)).1 (outs c n (Nat.lt_of_succ_lt hn)).2.2.2.2

theorem outs_first (c : Dev nD) (t : Fin cfg0.N) (h : t.val % 8 = 0) : outs m c t.val t.isLt = outAt m c t k0_pay37 k0_pay38 := by
  obtain ⟨n, hn⟩ := t
  cases n with
  | zero => rfl
  | succ n => exact if_pos h

theorem outs_next (c : Dev nD) (t : Fin cfg0.N) (h : ¬ t.val % 8 = 0) :
    outs m c t.val t.isLt = outAt m c t (outs m c (t.val - 1) (Nat.lt_of_le_of_lt (Nat.sub_le _ _) t.isLt)).1
      (outs m c (t.val - 1) (Nat.lt_of_le_of_lt (Nat.sub_le _ _) t.isLt)).2.2.2.2 := by
  obtain ⟨n, hn⟩ := t
  cases n with
  | zero => exact absurd (Nat.zero_mod _) h
  | succ n => exact if_neg h

/-- The pipeline's data: arrays as the region finds them, inputs left in place, outputs at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outs m c t.val t.isLt).1
    | ⟨10, _⟩ => (outs m c t.val t.isLt).2.1
    | ⟨11, _⟩ => (outs m c t.val t.isLt).2.2.1
    | ⟨12, _⟩ => (outs m c t.val t.isLt).2.2.2.1
    | ⟨13, _⟩ => (outs m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (outs m c t.val t.isLt).1 := by dsimp only [dats]
theorem after_10 (c : Dev nD) (t : Fin cfg0.N) : (dats m 0 c).after 10 t = (outs m c t.val t.isLt).2.1 := by dsimp only [dats]
theorem after_11 (c : Dev nD) (t : Fin cfg0.N) : (dats m 0 c).after 11 t = (outs m c t.val t.isLt).2.2.1 := by dsimp only [dats]
theorem after_12 (c : Dev nD) (t : Fin cfg0.N) : (dats m 0 c).after 12 t = (outs m c t.val t.isLt).2.2.2.1 := by dsimp only [dats]
theorem after_13 (c : Dev nD) (t : Fin cfg0.N) : (dats m 0 c).after 13 t = (outs m c t.val t.isLt).2.2.2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (h : ¬ t.val % 8 = 0) (d) :
    (dats m 0 c).before 9 t d = (outs m c (t.val - 1) (Nat.lt_of_le_of_lt (Nat.sub_le _ _) t.isLt)).1 := by
  rw [Dat.before_out_kept (dats m 0 c) 9 rfl t (fun e => h (by rw [e])) (by
    rw [Bool.eq_false_iff]; intro e
    have e := (flush0_9 _).mp e
    have : t.val ≠ 0 := fun e => h (by rw [e])
    dsimp only at e; omega) (fun _ => rfl) (fun _ _ => rfl) d, after_9]
theorem before_13 (c : Dev nD) (t : Fin cfg0.N) (h : ¬ t.val % 8 = 0) (d) :
    (dats m 0 c).before 13 t d = (outs m c (t.val - 1) (Nat.lt_of_le_of_lt (Nat.sub_le _ _) t.isLt)).2.2.2.2 := by
  rw [Dat.before_out_kept (dats m 0 c) 13 rfl t (fun e => h (by rw [e])) (by
    rw [Bool.eq_false_iff]; intro e
    have e := (flush0_13 _).mp e
    have : t.val ≠ 0 := fun e => h (by rw [e])
    dsimp only at e; omega) (fun _ => rfl) (fun _ _ => rfl) d, after_13]

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d)))

/-- What it must return there. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t)
    ∗ owns (c : Thread nD τ) (st13 t) fullShare ((dats m 0 c).after 13 t))

set_option maxHeartbeats 8000000 in
theorem sound_body (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  by_cases h : t.val % 8 = 0
  · rw [outs_first m c t h]; unfold outAt; dsimp only
    unfold owns
    iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩⟩
    obtain rfl := (wh0 t).eq_unread hf0
    obtain rfl := (wh1 t).eq_unread hf1
    obtain rfl := (wh2 t).eq_unread hf2
    obtain rfl := (wh3 t).eq_unread hf3
    obtain rfl := (wh4 t).eq_unread hf4
    obtain rfl := (wh5 t).eq_unread hf5
    obtain rfl := (wh6 t).eq_unread hf6
    obtain rfl := (wh7 t).eq_unread hf7
    obtain rfl := (wh8 t).eq_unread hf8
    iapply (wp_wand_r Idealize.ShloMosaic.frame (wpE (defs₀ (F := F)) Variants.none (c : Thread nD τ) none) Set.univ)
    isplitl [H0 H1 H2 H3 H4 H5 H6 H7 H8 H9 H10 H11 H12 H13]
    · iapply (lr m c t).2.2.2.2.2 Set.univ
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · iintro %_ ⟨%g9, %g10, %g11, %g12, %g13, %hg, H0, H1, H2, H3, H4, H5, H6, H7, H8, H9, H10, H11, H12, H13⟩
      obtain ⟨ha, -, h10, h11, h12⟩ := hg
      obtain ⟨h9, h13⟩ := ha ((first_iff t).mpr h)
      obtain rfl := (wh9 t).eq_unread h9
      obtain rfl := (wh13 t).eq_unread h13
      obtain rfl := (wh10 t).eq_unread h10
      obtain rfl := (wh11 t).eq_unread h11
      obtain rfl := (wh12 t).eq_unread h12
      isplitl [HΦ]; · iexact HΦ
      isplitl [Ho]; · iexact Ho
      isplitl [H0]; · iexists _; isplitr; swap; (iexact H0); ipureintro; exact (wh0 t).read_unread _
      isplitl [H1]; · iexists _; isplitr; swap; (iexact H1); ipureintro; exact (wh1 t).read_unread _
      isplitl [H2]; · iexists _; isplitr; swap; (iexact H2); ipureintro; exact (wh2 t).read_unread _
      isplitl [H3]; · iexists _; isplitr; swap; (iexact H3); ipureintro; exact (wh3 t).read_unread _
      isplitl [H4]; · iexists _; isplitr; swap; (iexact H4); ipureintro; exact (wh4 t).read_unread _
      isplitl [H5]; · iexists _; isplitr; swap; (iexact H5); ipureintro; exact (wh5 t).read_unread _
      isplitl [H6]; · iexists _; isplitr; swap; (iexact H6); ipureintro; exact (wh6 t).read_unread _
      isplitl [H7]; · iexists _; isplitr; swap; (iexact H7); ipureintro; exact (wh7 t).read_unread _
      isplitl [H8]; · iexists _; isplitr; swap; (iexact H8); ipureintro; exact (wh8 t).read_unread _
      isplitl [H9]; · iexists _; isplitr; swap; (iexact H9); ipureintro; rfl
      isplitl [H10]; · iexists _; isplitr; swap; (iexact H10); ipureintro; rfl
      isplitl [H11]; · iexists _; isplitr; swap; (iexact H11); ipureintro; rfl
      isplitl [H12]; · iexists _; isplitr; swap; (iexact H12); ipureintro; rfl
      iexists _; isplitr; swap; · iexact H13
      ipureintro; rfl
  · rw [outs_next m c t h]; unfold outAt; dsimp only
    simp only [before_9 m c t h, before_13 m c t h]
    unfold owns
    iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩⟩
    obtain rfl := (wh0 t).eq_unread hf0
    obtain rfl := (wh1 t).eq_unread hf1
    obtain rfl := (wh2 t).eq_unread hf2
    obtain rfl := (wh3 t).eq_unread hf3
    obtain rfl := (wh4 t).eq_unread hf4
    obtain rfl := (wh5 t).eq_unread hf5
    obtain rfl := (wh6 t).eq_unread hf6
    obtain rfl := (wh7 t).eq_unread hf7
    obtain rfl := (wh8 t).eq_unread hf8
    obtain rfl := (wh9 t).eq_unread hf9
    obtain rfl := (wh13 t).eq_unread hf13
    iapply (wp_wand_r Idealize.ShloMosaic.frame (wpE (defs₀ (F := F)) Variants.none (c : Thread nD τ) none) Set.univ)
    isplitl [H0 H1 H2 H3 H4 H5 H6 H7 H8 H9 H10 H11 H12 H13]
    · iapply (lr m c t).2.2.2.2.2 Set.univ
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · iintro %_ ⟨%g9, %g10, %g11, %g12, %g13, %hg, H0, H1, H2, H3, H4, H5, H6, H7, H8, H9, H10, H11, H12, H13⟩
      obtain ⟨-, ha, h10, h11, h12⟩ := hg
      obtain ⟨rfl, rfl⟩ := ha (fun e => h ((first_iff t).mp e))
      obtain rfl := (wh10 t).eq_unread h10
      obtain rfl := (wh11 t).eq_unread h11
      obtain rfl := (wh12 t).eq_unread h12
      isplitl [HΦ]; · iexact HΦ
      isplitl [Ho]; · iexact Ho
      isplitl [H0]; · iexists _; isplitr; swap; (iexact H0); ipureintro; exact (wh0 t).read_unread _
      isplitl [H1]; · iexists _; isplitr; swap; (iexact H1); ipureintro; exact (wh1 t).read_unread _
      isplitl [H2]; · iexists _; isplitr; swap; (iexact H2); ipureintro; exact (wh2 t).read_unread _
      isplitl [H3]; · iexists _; isplitr; swap; (iexact H3); ipureintro; exact (wh3 t).read_unread _
      isplitl [H4]; · iexists _; isplitr; swap; (iexact H4); ipureintro; exact (wh4 t).read_unread _
      isplitl [H5]; · iexists _; isplitr; swap; (iexact H5); ipureintro; exact (wh5 t).read_unread _
      isplitl [H6]; · iexists _; isplitr; swap; (iexact H6); ipureintro; exact (wh6 t).read_unread _
      isplitl [H7]; · iexists _; isplitr; swap; (iexact H7); ipureintro; exact (wh7 t).read_unread _
      isplitl [H8]; · iexists _; isplitr; swap; (iexact H8); ipureintro; exact (wh8 t).read_unread _
      isplitl [H9]; · iexists _; isplitr; swap; (iexact H9); ipureintro; rfl
      isplitl [H10]; · iexists _; isplitr; swap; (iexact H10); ipureintro; rfl
      isplitl [H11]; · iexists _; isplitr; swap; (iexact H11); ipureintro; rfl
      isplitl [H12]; · iexists _; isplitr; swap; (iexact H12); ipureintro; rfl
      iexists _; isplitr; swap; · iexact H13
      ipureintro; rfl

theorem row_body (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_body]
  exact triple_restated (sound_body m c t) rfl .rfl fun _ => .rfl

set_option backward.isDefEq.respectTransparency.types false in
/-- The run: every array of the pipeline ends at what the data say, every counter at zero. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_counters m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_counters m ρ))

end Cert.FlashBwdIdeal.Flash

end
-- ==== Proof.FlashTile.lean ====
module

public import proofs.«01_k».proof.Proof.Gen.FlashBwdIdeal.Skeleton
public import Idealize.ShloMosaic.Lib.Pipeline.ValueKit
public import Idealize.ShloMosaic.Lib.Pipeline.ReadBack
public import proofs.«01_k».proof.Proof.Gen.FlashBwdIdeal.Frame
public import proofs.«01_k».proof.Proof.Lift

@[expose] public section

set_option maxRecDepth 16384

noncomputable section

namespace Cert.FlashBwdIdeal.Flash

open Idealize.ShloMosaic Idealize.ShloMosaic.Tactic
open Cert.FlashBwdIdeal.Gen

/-- The real numbers a chunk of 512 queries against `n` keys of one head is computed from. -/
structure Tile (n : ℕ) where
  q : Fin 512 → Fin 64 → ℝ
  o : Fin 512 → Fin 64 → ℝ
  k : Fin n → Fin 64 → ℝ
  v : Fin n → Fin 64 → ℝ
  ck : Fin n → ℝ
  c0 : ℝ
  cq : Fin 512 → ℝ
  lse : Fin 512 → ℝ
  dl : Fin 512 → ℝ
  kt : ℕ
  jq : ℕ

variable {n : ℕ}

/-- The logit less the query's log-sum-exp, with the kernel's shift of both gate sums by the tile's first one. -/
def Tile.s (T : Tile n) (r : Fin 512) (y : Fin n) : ℝ := ((∑ l, T.q r l * T.k y l) - (T.ck y - T.c0)) + ((T.cq r - T.c0) - T.lse r)

/-- The attention weight: zero where the key lies after the query. -/
def Tile.p (T : Tile n) (r : Fin 512) (y : Fin n) : ℝ := if 1024 * T.kt + y.val ≤ 512 * T.jq + r.val then Real.exp (T.s r y) else 0

/-- The gradient of the logit. -/
def Tile.ds (T : Tile n) (r : Fin 512) (y : Fin n) : ℝ := T.p r y * ((∑ l, T.o r l * T.v y l) - T.dl r)

/-- The loaded windows hold the tile's numbers; `s0 s2 s4` are the head's columns of the statistics. -/
structure Holds (T : Tile n) (s0 s2 s4 : Fin 6) (q o : FVec Ideal S512x64 .bf16) (qt ot : FVec Ideal S64x512 .bf16) (kk : FVec Ideal ⟨2, ![n, 64]⟩ .bf16)
    (kt vt : FVec Ideal ⟨2, ![64, n]⟩ .bf16) (st : FVec Ideal S1x512x6 .f32) (ck : FVec Ideal ⟨3, ![1, 1, n]⟩ .f32) : Prop where
  q : ∀ r l, q (ix2 r l) = ((T.q r l : ℝ) : EReal)
  o : ∀ r l, o (ix2 r l) = ((T.o r l : ℝ) : EReal)
  qt : ∀ l r, qt (ix2 l r) = ((T.q r l : ℝ) : EReal)
  ot : ∀ l r, ot (ix2 l r) = ((T.o r l : ℝ) : EReal)
  kk : ∀ y l, kk (ix2 y l) = ((T.k y l : ℝ) : EReal)
  kt : ∀ l y, kt (ix2 l y) = ((T.k y l : ℝ) : EReal)
  vt : ∀ l y, vt (ix2 l y) = ((T.v y l : ℝ) : EReal)
  ck : ∀ y, ck (ix3 (0 : Fin 1) (0 : Fin 1) y) = ((T.ck y : ℝ) : EReal)
  c0 : ∀ y : Fin n, y.val = 0 → T.ck y = T.c0
  cq : ∀ r, st (ix3 (0 : Fin 1) r s0) = ((T.cq r : ℝ) : EReal)
  lse : ∀ r, st (ix3 (0 : Fin 1) r s2) = ((T.lse r : ℝ) : EReal)
  dl : ∀ r, st (ix3 (0 : Fin 1) r s4) = ((T.dl r : ℝ) : EReal)
  hk : T.kt < 8
  hj : T.jq < 16
  hn : n ≤ 1024

theorem mask_iff {a b y r : ℕ} (ha : a < 8) (hb : b < 16) (hy : y < 1024) (hr : r < 512) :
    (IntOp.cmpi CmpIPredicate.sle (IntOp.addi (Scalar.muli (BitVec.ofNat 32 a) 1024#32) (BitVec.ofNat 32 y))
      (IntOp.addi (Scalar.muli (BitVec.ofNat 32 b) 512#32) (BitVec.ofNat 32 r)) = 1#1) ↔ 1024 * a + y ≤ 512 * b + r := by
  have e1 : IntOp.addi (Scalar.muli (BitVec.ofNat 32 a) 1024#32) (BitVec.ofNat 32 y) = BitVec.ofNat 32 (1024 * a + y) := by
    apply BitVec.eq_of_toNat_eq
    show (BitVec.ofNat 32 a * 1024#32 + BitVec.ofNat 32 y).toNat = _
    simp only [BitVec.toNat_add, BitVec.toNat_mul, BitVec.toNat_ofNat]; omega
  have e2 : IntOp.addi (Scalar.muli (BitVec.ofNat 32 b) 512#32) (BitVec.ofNat 32 r) = BitVec.ofNat 32 (512 * b + r) := by
    apply BitVec.eq_of_toNat_eq
    show (BitVec.ofNat 32 b * 512#32 + BitVec.ofNat 32 r).toNat = _
    simp only [BitVec.toNat_add, BitVec.toNat_mul, BitVec.toNat_ofNat]; omega
  rw [e1, e2]
  exact WordCmp.cmpi_sle_ofNat_eq_one_iff (by omega) (by omega)

theorem exp_mask {a b y r : ℕ} (ha : a < 8) (hb : b < 16) (hy : y < 1024) (hr : r < 512) (s : ℝ) :
    Ideal.exp (Scalar.select (α := EReal) (IntOp.cmpi CmpIPredicate.sle (IntOp.addi (Scalar.muli (BitVec.ofNat 32 a) 1024#32) (BitVec.ofNat 32 y))
      (IntOp.addi (Scalar.muli (BitVec.ofNat 32 b) 512#32) (BitVec.ofNat 32 r))) (s : EReal) (Named.named (F := Ideal) (φ := .f32) κ "mask" 4048155338#32))
    = ((if 1024 * a + y ≤ 512 * b + r then Real.exp s else 0 : ℝ) : EReal) := by
  by_cases h : 1024 * a + y ≤ 512 * b + r
  · rw [Scalar.select, if_pos (show _ = (1 : BitVec 1) from (mask_iff ha hb hy hr).mpr h), if_pos h]; exact Ideal.exp_coe s
  · rw [Scalar.select, if_neg (show ¬ _ = (1 : BitVec 1) from fun e => h ((mask_iff ha hb hy hr).mp e)), if_neg h]
    have e : (Named.named κ "mask" 4048155338#32 : Ideal .f32) = (⊥ : EReal) := rfl
    rw [e]; exact Ideal.exp_bot

theorem p_A0 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 0 2 4 q o qt ot kk kt vt st ck) {I J : BitVec 32} (hI : I = BitVec.ofNat 32 T.kt) (hJ : J = BitVec.ofNat 32 T.jq) (r : Fin 512) (y : Fin 512) : k0_pay48 (F := Ideal) I J (k0_pay43 ck) (k0_pay44 ck) (k0_pay45 st ck) (k0_pay46 q) (k0_pay47 kt) (ix2 r y) = ((T.p r y : ℝ) : EReal) := by
  subst hI; subst hJ
  pointwise [k0_pay42, k0_pay43, k0_pay44, k0_pay45, k0_pay46, k0_pay47, k0_pay48]
  simp only [h.q, h.o, h.qt, h.ot, h.kk, h.kt, h.vt, h.ck, h.cq, h.lse, h.dl, h.c0 0 rfl, ← EReal.coe_mul, ← EReal.coe_add, ← EReal.coe_sub, Lift.sum, zero_add]
  exact exp_mask h.hk h.hj (lt_of_lt_of_le y.isLt h.hn) r.isLt _

theorem ds_A0 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 0 2 4 q o qt ot kk kt vt st ck) {I J : BitVec 32} (hI : I = BitVec.ofNat 32 T.kt) (hJ : J = BitVec.ofNat 32 T.jq) (r : Fin 512) (y : Fin 512) : k0_pay50 (F := Ideal) I J (k0_pay42 st) (k0_pay43 ck) (k0_pay44 ck) (k0_pay45 st ck) (k0_pay46 q) (k0_pay47 kt) o vt (ix2 r y) = ((T.ds r y : ℝ) : EReal) := by
  subst hI; subst hJ
  have hp := p_A0 h rfl rfl r y
  pointwise [k0_pay50, k0_pay42]
  try rw [hp]
  simp only [h.q, h.o, h.qt, h.ot, h.kk, h.kt, h.vt, h.ck, h.cq, h.lse, h.dl, h.c0 0 rfl, ← EReal.coe_mul, ← EReal.coe_add, ← EReal.coe_sub, Lift.sum, zero_add]
  first | rfl | (refine (congrArg (· * _) hp).trans ?_; exact (EReal.coe_mul _ _).symm)

theorem dv_A0 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 0 2 4 q o qt ot kk kt vt st ck) {I J : BitVec 32} (hI : I = BitVec.ofNat 32 T.kt) (hJ : J = BitVec.ofNat 32 T.jq) {old : FVec Ideal S64x512 .f32} (W : Fin 64 → Fin 512 → ℝ) (hw : ∀ l y, old (ix2 l y) = ((W l y : ℝ) : EReal)) (l : Fin 64) (y : Fin 512) : k0_pay49 (F := Ideal) I J (k0_pay43 ck) (k0_pay44 ck) (k0_pay45 st ck) (k0_pay46 q) (k0_pay47 kt) old ot (ix2 l y) = ((W l y + ∑ r, T.o r l * T.p r y : ℝ) : EReal) := by
  subst hI; subst hJ
  have hp := p_A0 h rfl rfl
  pointwise [k0_pay49]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dk_A0 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 0 2 4 q o qt ot kk kt vt st ck) {I J : BitVec 32} (hI : I = BitVec.ofNat 32 T.kt) (hJ : J = BitVec.ofNat 32 T.jq) {old : FVec Ideal S64x512 .f32} (W : Fin 64 → Fin 512 → ℝ) (hw : ∀ l y, old (ix2 l y) = ((W l y : ℝ) : EReal)) (l : Fin 64) (y : Fin 512) : k0_pay52 (F := Ideal) (k0_pay50 (F := Ideal) I J (k0_pay42 st) (k0_pay43 ck) (k0_pay44 ck) (k0_pay45 st ck) (k0_pay46 q) (k0_pay47 kt) o vt) (k0_pay51 old) qt (ix2 l y) = ((W l y + ∑ r, T.q r l * T.ds r y : ℝ) : EReal) := by
  subst hI; subst hJ
  have hp := ds_A0 h rfl rfl
  pointwise [k0_pay52, k0_pay51]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dc_A0 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 0 2 4 q o qt ot kk kt vt st ck) {I J : BitVec 32} (hI : I = BitVec.ofNat 32 T.kt) (hJ : J = BitVec.ofNat 32 T.jq) {old : FVec Ideal S1x1x512 .f32} (W : Fin 512 → ℝ) (hw : ∀ y, old (ix3 (0 : Fin 1) (0 : Fin 1) y) = ((W y : ℝ) : EReal)) (y : Fin 512) : k0_pay53 (F := Ideal) (k0_pay50 (F := Ideal) I J (k0_pay42 st) (k0_pay43 ck) (k0_pay44 ck) (k0_pay45 st ck) (k0_pay46 q) (k0_pay47 kt) o vt) old (ix3 (0 : Fin 1) (0 : Fin 1) y) = ((W y - ∑ r, T.ds r y : ℝ) : EReal) := by
  subst hI; subst hJ
  have hp := ds_A0 h rfl rfl
  pointwise [k0_pay53]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dr_A0 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 0 2 4 q o qt ot kk kt vt st ck) {I J : BitVec 32} (hI : I = BitVec.ofNat 32 T.kt) (hJ : J = BitVec.ofNat 32 T.jq) {old : FVec Ideal S1x512x1 .f32} (W : Fin 512 → ℝ) (hw : ∀ r, old (ix3 (0 : Fin 1) r (0 : Fin 1)) = ((W r : ℝ) : EReal)) (r : Fin 512) : k0_pay54 (F := Ideal) (k0_pay50 (F := Ideal) I J (k0_pay42 st) (k0_pay43 ck) (k0_pay44 ck) (k0_pay45 st ck) (k0_pay46 q) (k0_pay47 kt) o vt) old (ix3 (0 : Fin 1) r (0 : Fin 1)) = ((W r + ∑ y, T.ds r y : ℝ) : EReal) := by
  subst hI; subst hJ
  have hp := ds_A0 h rfl rfl
  pointwise [k0_pay54]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dq_A0 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 0 2 4 q o qt ot kk kt vt st ck) {I J : BitVec 32} (hI : I = BitVec.ofNat 32 T.kt) (hJ : J = BitVec.ofNat 32 T.jq) {old : FVec Ideal S512x64 .f32} (W : Fin 512 → Fin 64 → ℝ) (hw : ∀ r l, old (ix2 r l) = ((W r l : ℝ) : EReal)) (r : Fin 512) (l : Fin 64) : k0_pay55 (F := Ideal) (k0_pay50 (F := Ideal) I J (k0_pay42 st) (k0_pay43 ck) (k0_pay44 ck) (k0_pay45 st ck) (k0_pay46 q) (k0_pay47 kt) o vt) old kk (ix2 r l) = ((W r l + ∑ y, T.ds r y * T.k y l : ℝ) : EReal) := by
  subst hI; subst hJ
  have hp := ds_A0 h rfl rfl
  pointwise [k0_pay55]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem p_A1 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 1 3 5 q o qt ot kk kt vt st ck) {I J : BitVec 32} (hI : I = BitVec.ofNat 32 T.kt) (hJ : J = BitVec.ofNat 32 T.jq) (r : Fin 512) (y : Fin 512) : k0_pay56 (F := Ideal) I J (k0_pay42 st) ck q kt (ix2 r y) = ((T.p r y : ℝ) : EReal) := by
  subst hI; subst hJ
  pointwise [k0_pay42, k0_pay56]
  simp only [h.q, h.o, h.qt, h.ot, h.kk, h.kt, h.vt, h.ck, h.cq, h.lse, h.dl, h.c0 0 rfl, ← EReal.coe_mul, ← EReal.coe_add, ← EReal.coe_sub, Lift.sum, zero_add]
  exact exp_mask h.hk h.hj (lt_of_lt_of_le y.isLt h.hn) r.isLt _

theorem ds_A1 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 1 3 5 q o qt ot kk kt vt st ck) {I J : BitVec 32} (hI : I = BitVec.ofNat 32 T.kt) (hJ : J = BitVec.ofNat 32 T.jq) (r : Fin 512) (y : Fin 512) : k0_pay59 (F := Ideal) (k0_pay42 st) (k0_pay56 (F := Ideal) I J (k0_pay42 st) ck q kt) (k0_pay58 o) vt (ix2 r y) = ((T.ds r y : ℝ) : EReal) := by
  subst hI; subst hJ
  have hp := p_A1 h rfl rfl r y
  pointwise [k0_pay59, k0_pay42, k0_pay58]
  try rw [hp]
  simp only [h.q, h.o, h.qt, h.ot, h.kk, h.kt, h.vt, h.ck, h.cq, h.lse, h.dl, h.c0 0 rfl, ← EReal.coe_mul, ← EReal.coe_add, ← EReal.coe_sub, Lift.sum, zero_add]
  first | rfl | (refine (congrArg (· * _) hp).trans ?_; exact (EReal.coe_mul _ _).symm)

theorem dv_A1 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 1 3 5 q o qt ot kk kt vt st ck) {I J : BitVec 32} (hI : I = BitVec.ofNat 32 T.kt) (hJ : J = BitVec.ofNat 32 T.jq) {old : FVec Ideal S64x512 .f32} (W : Fin 64 → Fin 512 → ℝ) (hw : ∀ l y, old (ix2 l y) = ((W l y : ℝ) : EReal)) (l : Fin 64) (y : Fin 512) : k0_pay57 (F := Ideal) I J (k0_pay42 st) ck q kt old ot (ix2 l y) = ((W l y + ∑ r, T.o r l * T.p r y : ℝ) : EReal) := by
  subst hI; subst hJ
  have hp := p_A1 h rfl rfl
  pointwise [k0_pay57]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dk_A1 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 1 3 5 q o qt ot kk kt vt st ck) {I J : BitVec 32} (hI : I = BitVec.ofNat 32 T.kt) (hJ : J = BitVec.ofNat 32 T.jq) {old : FVec Ideal S64x512 .f32} (W : Fin 64 → Fin 512 → ℝ) (hw : ∀ l y, old (ix2 l y) = ((W l y : ℝ) : EReal)) (l : Fin 64) (y : Fin 512) : k0_pay60 (F := Ideal) (k0_pay42 st) (k0_pay56 (F := Ideal) I J (k0_pay42 st) ck q kt) (k0_pay58 o) vt old qt (ix2 l y) = ((W l y + ∑ r, T.q r l * T.ds r y : ℝ) : EReal) := by
  subst hI; subst hJ
  have hp := ds_A1 h rfl rfl
  pointwise [k0_pay60]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dc_A1 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 1 3 5 q o qt ot kk kt vt st ck) {I J : BitVec 32} (hI : I = BitVec.ofNat 32 T.kt) (hJ : J = BitVec.ofNat 32 T.jq) {old : FVec Ideal S1x1x512 .f32} (W : Fin 512 → ℝ) (hw : ∀ y, old (ix3 (0 : Fin 1) (0 : Fin 1) y) = ((W y : ℝ) : EReal)) (y : Fin 512) : k0_pay61 (F := Ideal) (k0_pay42 st) (k0_pay56 (F := Ideal) I J (k0_pay42 st) ck q kt) (k0_pay58 o) vt old (ix3 (0 : Fin 1) (0 : Fin 1) y) = ((W y - ∑ r, T.ds r y : ℝ) : EReal) := by
  subst hI; subst hJ
  have hp := ds_A1 h rfl rfl
  pointwise [k0_pay61]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dr_A1 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 1 3 5 q o qt ot kk kt vt st ck) {I J : BitVec 32} (hI : I = BitVec.ofNat 32 T.kt) (hJ : J = BitVec.ofNat 32 T.jq) {old : FVec Ideal S1x512x1 .f32} (W : Fin 512 → ℝ) (hw : ∀ r, old (ix3 (0 : Fin 1) r (0 : Fin 1)) = ((W r : ℝ) : EReal)) (r : Fin 512) : k0_pay62 (F := Ideal) (k0_pay42 st) (k0_pay56 (F := Ideal) I J (k0_pay42 st) ck q kt) (k0_pay58 o) vt old (ix3 (0 : Fin 1) r (0 : Fin 1)) = ((W r + ∑ y, T.ds r y : ℝ) : EReal) := by
  subst hI; subst hJ
  have hp := ds_A1 h rfl rfl
  pointwise [k0_pay62]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dq_A1 {T : Tile 512} {q o : FVec Ideal S512x64 .bf16} {qt ot : FVec Ideal S64x512 .bf16} {kk : FVec Ideal S512x64 .bf16} {kt vt : FVec Ideal S64x512 .bf16} {st : FVec Ideal S1x512x6 .f32} {ck : FVec Ideal S1x1x512 .f32} (h : Holds T 1 3 5 q o qt ot kk kt vt st ck) {I J : BitVec 32} (hI : I = BitVec.ofNat 32 T.kt) (hJ : J = BitVec.ofNat 32 T.jq) {old : FVec Ideal S512x64 .f32} (W : Fin 512 → Fin 64 → ℝ) (hw : ∀ r l, old (ix2 r l) = ((W r l : ℝ) : EReal)) (r : Fin 512) (l : Fin 64) : k0_pay63 (F := Ideal) (k0_pay59 (F := Ideal) (k0_pay42 st) (k0_pay56 (F := Ideal) I J (k0_pay42 st) ck q kt) (k0_pay58 o) vt) old kk (ix2 r l) = ((W r l + ∑ y, T.ds r y * T.k y l : ℝ) : EReal) := by
  subst hI; subst hJ
  have hp := ds_A1 h rfl rfl
  pointwise [k0_pay63]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem p_B0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) {I J : BitVec 32} (hI : I = BitVec.ofNat 32 T.kt) (hJ : J = BitVec.ofNat 32 T.jq) (r : Fin 512) (y : Fin 1024) : k0_pay67 (F := Ideal) (k0_pay65 st ck q kt) (Scalar.muli J 512#32) (k0_pay66 I) (iota Kind.tc S512x1024 32 [0] iota_S512x1024_d0_w32) (ix2 r y) = ((T.p r y : ℝ) : EReal) := by
  subst hI; subst hJ
  pointwise [k0_pay64, k0_pay65, k0_pay66, k0_pay67]
  simp only [h.q, h.o, h.qt, h.ot, h.kk, h.kt, h.vt, h.ck, h.cq, h.lse, h.dl, h.c0 0 rfl, ← EReal.coe_mul, ← EReal.coe_add, ← EReal.coe_sub, Lift.sum, zero_add]
  exact exp_mask h.hk h.hj (lt_of_lt_of_le y.isLt h.hn) r.isLt _

theorem ds_B0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) {I J : BitVec 32} (hI : I = BitVec.ofNat 32 T.kt) (hJ : J = BitVec.ofNat 32 T.jq) (r : Fin 512) (y : Fin 1024) : k0_pay69 (F := Ideal) (k0_pay64 st) (k0_pay65 st ck q kt) (Scalar.muli J 512#32) (k0_pay66 I) (iota Kind.tc S512x1024 32 [0] iota_S512x1024_d0_w32) o vt (ix2 r y) = ((T.ds r y : ℝ) : EReal) := by
  subst hI; subst hJ
  have hp := p_B0 h rfl rfl r y
  pointwise [k0_pay69, k0_pay64]
  try rw [hp]
  simp only [h.q, h.o, h.qt, h.ot, h.kk, h.kt, h.vt, h.ck, h.cq, h.lse, h.dl, h.c0 0 rfl, ← EReal.coe_mul, ← EReal.coe_add, ← EReal.coe_sub, Lift.sum, zero_add]
  first | rfl | (refine (congrArg (· * _) hp).trans ?_; exact (EReal.coe_mul _ _).symm)

theorem dv_B0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) {I J : BitVec 32} (hI : I = BitVec.ofNat 32 T.kt) (hJ : J = BitVec.ofNat 32 T.jq) {old : FVec Ideal S64x1024 .f32} (W : Fin 64 → Fin 1024 → ℝ) (hw : ∀ l y, old (ix2 l y) = ((W l y : ℝ) : EReal)) (l : Fin 64) (y : Fin 1024) : k0_pay68 (F := Ideal) (k0_pay65 st ck q kt) (Scalar.muli J 512#32) (k0_pay66 I) (iota Kind.tc S512x1024 32 [0] iota_S512x1024_d0_w32) old ot (ix2 l y) = ((W l y + ∑ r, T.o r l * T.p r y : ℝ) : EReal) := by
  subst hI; subst hJ
  have hp := p_B0 h rfl rfl
  pointwise [k0_pay68]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dk_B0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) {I J : BitVec 32} (hI : I = BitVec.ofNat 32 T.kt) (hJ : J = BitVec.ofNat 32 T.jq) {old : FVec Ideal S64x1024 .f32} (W : Fin 64 → Fin 1024 → ℝ) (hw : ∀ l y, old (ix2 l y) = ((W l y : ℝ) : EReal)) (l : Fin 64) (y : Fin 1024) : k0_pay70 (F := Ideal) (k0_pay64 st) (k0_pay65 st ck q kt) (Scalar.muli J 512#32) (k0_pay66 I) (iota Kind.tc S512x1024 32 [0] iota_S512x1024_d0_w32) o vt old qt (ix2 l y) = ((W l y + ∑ r, T.q r l * T.ds r y : ℝ) : EReal) := by
  subst hI; subst hJ
  have hp := ds_B0 h rfl rfl
  pointwise [k0_pay70]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dc_B0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) {I J : BitVec 32} (hI : I = BitVec.ofNat 32 T.kt) (hJ : J = BitVec.ofNat 32 T.jq) {old : FVec Ideal S1x1x1024 .f32} (W : Fin 1024 → ℝ) (hw : ∀ y, old (ix3 (0 : Fin 1) (0 : Fin 1) y) = ((W y : ℝ) : EReal)) (y : Fin 1024) : k0_pay73 (F := Ideal) (k0_pay71 old) (k0_pay72 (k0_pay64 st) (k0_pay65 st ck q kt) (Scalar.muli J 512#32) (k0_pay66 I) (iota Kind.tc S512x1024 32 [0] iota_S512x1024_d0_w32) o vt) (ix3 (0 : Fin 1) (0 : Fin 1) y) = ((W y - ∑ r, T.ds r y : ℝ) : EReal) := by
  subst hI; subst hJ
  have hp := ds_B0 h rfl rfl
  pointwise [k0_pay73, k0_pay71, k0_pay72]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dr_B0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) {I J : BitVec 32} (hI : I = BitVec.ofNat 32 T.kt) (hJ : J = BitVec.ofNat 32 T.jq) {old : FVec Ideal S1x512x1 .f32} (W : Fin 512 → ℝ) (hw : ∀ r, old (ix3 (0 : Fin 1) r (0 : Fin 1)) = ((W r : ℝ) : EReal)) (r : Fin 512) : k0_pay74 (F := Ideal) (k0_pay69 (F := Ideal) (k0_pay64 st) (k0_pay65 st ck q kt) (Scalar.muli J 512#32) (k0_pay66 I) (iota Kind.tc S512x1024 32 [0] iota_S512x1024_d0_w32) o vt) old (ix3 (0 : Fin 1) r (0 : Fin 1)) = ((W r + ∑ y, T.ds r y : ℝ) : EReal) := by
  subst hI; subst hJ
  have hp := ds_B0 h rfl rfl
  pointwise [k0_pay74]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dq_B0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) {I J : BitVec 32} (hI : I = BitVec.ofNat 32 T.kt) (hJ : J = BitVec.ofNat 32 T.jq) {old : FVec Ideal S512x64 .f32} (W : Fin 512 → Fin 64 → ℝ) (hw : ∀ r l, old (ix2 r l) = ((W r l : ℝ) : EReal)) (r : Fin 512) (l : Fin 64) : k0_pay75 (F := Ideal) (k0_pay69 (F := Ideal) (k0_pay64 st) (k0_pay65 st ck q kt) (Scalar.muli J 512#32) (k0_pay66 I) (iota Kind.tc S512x1024 32 [0] iota_S512x1024_d0_w32) o vt) old kk (ix2 r l) = ((W r l + ∑ y, T.ds r y * T.k y l : ℝ) : EReal) := by
  subst hI; subst hJ
  have hp := ds_B0 h rfl rfl
  pointwise [k0_pay75]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem p_B1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) {I J : BitVec 32} (hI : I = BitVec.ofNat 32 T.kt) (hJ : J = BitVec.ofNat 32 T.jq) (r : Fin 512) (y : Fin 1024) : k0_pay81 (F := Ideal) I J (k0_pay76 ck) (k0_pay77 ck) (k0_pay78 (k0_pay64 st) ck) (k0_pay79 q) (k0_pay80 kt) (ix2 r y) = ((T.p r y : ℝ) : EReal) := by
  subst hI; subst hJ
  pointwise [k0_pay64, k0_pay76, k0_pay77, k0_pay78, k0_pay79, k0_pay80, k0_pay81]
  simp only [h.q, h.o, h.qt, h.ot, h.kk, h.kt, h.vt, h.ck, h.cq, h.lse, h.dl, h.c0 0 rfl, ← EReal.coe_mul, ← EReal.coe_add, ← EReal.coe_sub, Lift.sum, zero_add]
  exact exp_mask h.hk h.hj (lt_of_lt_of_le y.isLt h.hn) r.isLt _

theorem ds_B1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) {I J : BitVec 32} (hI : I = BitVec.ofNat 32 T.kt) (hJ : J = BitVec.ofNat 32 T.jq) (r : Fin 512) (y : Fin 1024) : k0_pay83 (F := Ideal) I J (k0_pay64 st) (k0_pay76 ck) (k0_pay77 ck) (k0_pay78 (k0_pay64 st) ck) (k0_pay79 q) (k0_pay80 kt) o vt (ix2 r y) = ((T.ds r y : ℝ) : EReal) := by
  subst hI; subst hJ
  pointwise [k0_pay64, k0_pay76, k0_pay77, k0_pay78, k0_pay79, k0_pay80, k0_pay81, k0_pay83]
  simp only [h.q, h.o, h.qt, h.ot, h.kk, h.kt, h.vt, h.ck, h.cq, h.lse, h.dl, h.c0 0 rfl, ← EReal.coe_mul, ← EReal.coe_add, ← EReal.coe_sub, Lift.sum, zero_add]
  rw [exp_mask h.hk h.hj y.isLt r.isLt, ← EReal.coe_mul]
  rfl

theorem dv_B1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) {I J : BitVec 32} (hI : I = BitVec.ofNat 32 T.kt) (hJ : J = BitVec.ofNat 32 T.jq) {old : FVec Ideal S64x1024 .f32} (W : Fin 64 → Fin 1024 → ℝ) (hw : ∀ l y, old (ix2 l y) = ((W l y : ℝ) : EReal)) (l : Fin 64) (y : Fin 1024) : k0_pay82 (F := Ideal) I J (k0_pay76 ck) (k0_pay77 ck) (k0_pay78 (k0_pay64 st) ck) (k0_pay79 q) (k0_pay80 kt) old ot (ix2 l y) = ((W l y + ∑ r, T.o r l * T.p r y : ℝ) : EReal) := by
  subst hI; subst hJ
  have hp := p_B1 h rfl rfl
  pointwise [k0_pay82]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dk_B1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) {I J : BitVec 32} (hI : I = BitVec.ofNat 32 T.kt) (hJ : J = BitVec.ofNat 32 T.jq) {old : FVec Ideal S64x1024 .f32} (W : Fin 64 → Fin 1024 → ℝ) (hw : ∀ l y, old (ix2 l y) = ((W l y : ℝ) : EReal)) (l : Fin 64) (y : Fin 1024) : k0_pay85 (F := Ideal) (k0_pay83 (F := Ideal) I J (k0_pay64 st) (k0_pay76 ck) (k0_pay77 ck) (k0_pay78 (k0_pay64 st) ck) (k0_pay79 q) (k0_pay80 kt) o vt) (k0_pay84 old) qt (ix2 l y) = ((W l y + ∑ r, T.q r l * T.ds r y : ℝ) : EReal) := by
  subst hI; subst hJ
  have hp := ds_B1 h rfl rfl
  pointwise [k0_pay85, k0_pay84]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dc_B1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) {I J : BitVec 32} (hI : I = BitVec.ofNat 32 T.kt) (hJ : J = BitVec.ofNat 32 T.jq) {old : FVec Ideal S1x1x1024 .f32} (W : Fin 1024 → ℝ) (hw : ∀ y, old (ix3 (0 : Fin 1) (0 : Fin 1) y) = ((W y : ℝ) : EReal)) (y : Fin 1024) : k0_pay86 (F := Ideal) (k0_pay83 (F := Ideal) I J (k0_pay64 st) (k0_pay76 ck) (k0_pay77 ck) (k0_pay78 (k0_pay64 st) ck) (k0_pay79 q) (k0_pay80 kt) o vt) old (ix3 (0 : Fin 1) (0 : Fin 1) y) = ((W y - ∑ r, T.ds r y : ℝ) : EReal) := by
  subst hI; subst hJ
  have hp := ds_B1 h rfl rfl
  pointwise [k0_pay86]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dr_B1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) {I J : BitVec 32} (hI : I = BitVec.ofNat 32 T.kt) (hJ : J = BitVec.ofNat 32 T.jq) {old : FVec Ideal S1x512x1 .f32} (W : Fin 512 → ℝ) (hw : ∀ r, old (ix3 (0 : Fin 1) r (0 : Fin 1)) = ((W r : ℝ) : EReal)) (r : Fin 512) : k0_pay87 (F := Ideal) (k0_pay83 (F := Ideal) I J (k0_pay64 st) (k0_pay76 ck) (k0_pay77 ck) (k0_pay78 (k0_pay64 st) ck) (k0_pay79 q) (k0_pay80 kt) o vt) old (ix3 (0 : Fin 1) r (0 : Fin 1)) = ((W r + ∑ y, T.ds r y : ℝ) : EReal) := by
  subst hI; subst hJ
  have hp := ds_B1 h rfl rfl
  pointwise [k0_pay87]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dq_B1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) {I J : BitVec 32} (hI : I = BitVec.ofNat 32 T.kt) (hJ : J = BitVec.ofNat 32 T.jq) {old : FVec Ideal S512x64 .f32} (W : Fin 512 → Fin 64 → ℝ) (hw : ∀ r l, old (ix2 r l) = ((W r l : ℝ) : EReal)) (r : Fin 512) (l : Fin 64) : k0_pay88 (F := Ideal) (k0_pay83 (F := Ideal) I J (k0_pay64 st) (k0_pay76 ck) (k0_pay77 ck) (k0_pay78 (k0_pay64 st) ck) (k0_pay79 q) (k0_pay80 kt) o vt) old kk (ix2 r l) = ((W r l + ∑ y, T.ds r y * T.k y l : ℝ) : EReal) := by
  subst hI; subst hJ
  have hp := ds_B1 h rfl rfl
  pointwise [k0_pay88]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem p_L0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) (hf : 1024 * (T.kt + 1) ≤ 512 * T.jq) (r : Fin 512) (y : Fin 1024) : k0_pay4 (F := Ideal) st ck q kt (ix2 r y) = ((T.p r y : ℝ) : EReal) := by
  pointwise [k0_pay3, k0_pay4]
  simp only [h.q, h.o, h.qt, h.ot, h.kk, h.kt, h.vt, h.ck, h.cq, h.lse, h.dl, h.c0 0 rfl, ← EReal.coe_mul, ← EReal.coe_add, ← EReal.coe_sub, Lift.sum, zero_add]
  rw [Ideal.exp_coe, Tile.p, if_pos (by have := y.isLt; omega)]; rfl

theorem ds_L0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) (hf : 1024 * (T.kt + 1) ≤ 512 * T.jq) (r : Fin 512) (y : Fin 1024) : k0_pay7 (F := Ideal) (k0_pay3 st) (k0_pay4 (F := Ideal) st ck q kt) (k0_pay6 o) vt (ix2 r y) = ((T.ds r y : ℝ) : EReal) := by
  have hp := p_L0 h hf r y
  pointwise [k0_pay7, k0_pay3, k0_pay6]
  try rw [hp]
  simp only [h.q, h.o, h.qt, h.ot, h.kk, h.kt, h.vt, h.ck, h.cq, h.lse, h.dl, h.c0 0 rfl, ← EReal.coe_mul, ← EReal.coe_add, ← EReal.coe_sub, Lift.sum, zero_add]
  first | rfl | (refine (congrArg (· * _) hp).trans ?_; exact (EReal.coe_mul _ _).symm)

theorem dv_L0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) (hf : 1024 * (T.kt + 1) ≤ 512 * T.jq) {old : FVec Ideal S64x1024 .f32} (W : Fin 64 → Fin 1024 → ℝ) (hw : ∀ l y, old (ix2 l y) = ((W l y : ℝ) : EReal)) (l : Fin 64) (y : Fin 1024) : k0_pay5 (F := Ideal) st ck q kt old ot (ix2 l y) = ((W l y + ∑ r, T.o r l * T.p r y : ℝ) : EReal) := by
  have hp := p_L0 h hf
  pointwise [k0_pay5]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dk_L0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) (hf : 1024 * (T.kt + 1) ≤ 512 * T.jq) {old : FVec Ideal S64x1024 .f32} (W : Fin 64 → Fin 1024 → ℝ) (hw : ∀ l y, old (ix2 l y) = ((W l y : ℝ) : EReal)) (l : Fin 64) (y : Fin 1024) : k0_pay8 (F := Ideal) (k0_pay3 st) (k0_pay4 (F := Ideal) st ck q kt) (k0_pay6 o) vt old qt (ix2 l y) = ((W l y + ∑ r, T.q r l * T.ds r y : ℝ) : EReal) := by
  have hp := ds_L0 h hf
  pointwise [k0_pay8]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dc_L0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) (hf : 1024 * (T.kt + 1) ≤ 512 * T.jq) {old : FVec Ideal S1x1x1024 .f32} (W : Fin 1024 → ℝ) (hw : ∀ y, old (ix3 (0 : Fin 1) (0 : Fin 1) y) = ((W y : ℝ) : EReal)) (y : Fin 1024) : k0_pay9 (F := Ideal) (k0_pay3 st) (k0_pay4 (F := Ideal) st ck q kt) (k0_pay6 o) vt old (ix3 (0 : Fin 1) (0 : Fin 1) y) = ((W y - ∑ r, T.ds r y : ℝ) : EReal) := by
  have hp := ds_L0 h hf
  pointwise [k0_pay9]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dr_L0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) (hf : 1024 * (T.kt + 1) ≤ 512 * T.jq) {old : FVec Ideal S1x512x1 .f32} (W : Fin 512 → ℝ) (hw : ∀ r, old (ix3 (0 : Fin 1) r (0 : Fin 1)) = ((W r : ℝ) : EReal)) (r : Fin 512) : k0_pay10 (F := Ideal) (k0_pay3 st) (k0_pay4 (F := Ideal) st ck q kt) (k0_pay6 o) vt old (ix3 (0 : Fin 1) r (0 : Fin 1)) = ((W r + ∑ y, T.ds r y : ℝ) : EReal) := by
  have hp := ds_L0 h hf
  pointwise [k0_pay10]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dq_L0 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 0 2 4 q o qt ot kk kt vt st ck) (hf : 1024 * (T.kt + 1) ≤ 512 * T.jq) {old : FVec Ideal S512x64 .f32} (W : Fin 512 → Fin 64 → ℝ) (hw : ∀ r l, old (ix2 r l) = ((W r l : ℝ) : EReal)) (r : Fin 512) (l : Fin 64) : k0_pay12 (F := Ideal) (k0_pay7 (F := Ideal) (k0_pay3 st) (k0_pay4 (F := Ideal) st ck q kt) (k0_pay6 o) vt) (k0_pay11 old) kk (ix2 r l) = ((W r l + ∑ y, T.ds r y * T.k y l : ℝ) : EReal) := by
  have hp := ds_L0 h hf
  pointwise [k0_pay12, k0_pay11]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem p_L1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) (hf : 1024 * (T.kt + 1) ≤ 512 * T.jq) (r : Fin 512) (y : Fin 1024) : k0_pay13 (F := Ideal) (k0_pay3 st) ck q kt (ix2 r y) = ((T.p r y : ℝ) : EReal) := by
  pointwise [k0_pay13, k0_pay3]
  simp only [h.q, h.o, h.qt, h.ot, h.kk, h.kt, h.vt, h.ck, h.cq, h.lse, h.dl, h.c0 0 rfl, ← EReal.coe_mul, ← EReal.coe_add, ← EReal.coe_sub, Lift.sum, zero_add]
  rw [Ideal.exp_coe, Tile.p, if_pos (by have := y.isLt; omega)]; rfl

theorem ds_L1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) (hf : 1024 * (T.kt + 1) ≤ 512 * T.jq) (r : Fin 512) (y : Fin 1024) : k0_pay16 (F := Ideal) (k0_pay3 st) (k0_pay13 (F := Ideal) (k0_pay3 st) ck q kt) (k0_pay15 o) vt (ix2 r y) = ((T.ds r y : ℝ) : EReal) := by
  have hp := p_L1 h hf r y
  pointwise [k0_pay16, k0_pay15, k0_pay3]
  try rw [hp]
  simp only [h.q, h.o, h.qt, h.ot, h.kk, h.kt, h.vt, h.ck, h.cq, h.lse, h.dl, h.c0 0 rfl, ← EReal.coe_mul, ← EReal.coe_add, ← EReal.coe_sub, Lift.sum, zero_add]
  first | rfl | (refine (congrArg (· * _) hp).trans ?_; exact (EReal.coe_mul _ _).symm)

theorem dv_L1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) (hf : 1024 * (T.kt + 1) ≤ 512 * T.jq) {old : FVec Ideal S64x1024 .f32} (W : Fin 64 → Fin 1024 → ℝ) (hw : ∀ l y, old (ix2 l y) = ((W l y : ℝ) : EReal)) (l : Fin 64) (y : Fin 1024) : k0_pay14 (F := Ideal) (k0_pay3 st) ck q kt old ot (ix2 l y) = ((W l y + ∑ r, T.o r l * T.p r y : ℝ) : EReal) := by
  have hp := p_L1 h hf
  pointwise [k0_pay14]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dk_L1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) (hf : 1024 * (T.kt + 1) ≤ 512 * T.jq) {old : FVec Ideal S64x1024 .f32} (W : Fin 64 → Fin 1024 → ℝ) (hw : ∀ l y, old (ix2 l y) = ((W l y : ℝ) : EReal)) (l : Fin 64) (y : Fin 1024) : k0_pay17 (F := Ideal) (k0_pay3 st) (k0_pay13 (F := Ideal) (k0_pay3 st) ck q kt) (k0_pay15 o) vt old qt (ix2 l y) = ((W l y + ∑ r, T.q r l * T.ds r y : ℝ) : EReal) := by
  have hp := ds_L1 h hf
  pointwise [k0_pay17]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dc_L1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) (hf : 1024 * (T.kt + 1) ≤ 512 * T.jq) {old : FVec Ideal S1x1x1024 .f32} (W : Fin 1024 → ℝ) (hw : ∀ y, old (ix3 (0 : Fin 1) (0 : Fin 1) y) = ((W y : ℝ) : EReal)) (y : Fin 1024) : k0_pay18 (F := Ideal) (k0_pay3 st) (k0_pay13 (F := Ideal) (k0_pay3 st) ck q kt) (k0_pay15 o) vt old (ix3 (0 : Fin 1) (0 : Fin 1) y) = ((W y - ∑ r, T.ds r y : ℝ) : EReal) := by
  have hp := ds_L1 h hf
  pointwise [k0_pay18]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dr_L1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) (hf : 1024 * (T.kt + 1) ≤ 512 * T.jq) {old : FVec Ideal S1x512x1 .f32} (W : Fin 512 → ℝ) (hw : ∀ r, old (ix3 (0 : Fin 1) r (0 : Fin 1)) = ((W r : ℝ) : EReal)) (r : Fin 512) : k0_pay19 (F := Ideal) (k0_pay3 st) (k0_pay13 (F := Ideal) (k0_pay3 st) ck q kt) (k0_pay15 o) vt old (ix3 (0 : Fin 1) r (0 : Fin 1)) = ((W r + ∑ y, T.ds r y : ℝ) : EReal) := by
  have hp := ds_L1 h hf
  pointwise [k0_pay19]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

theorem dq_L1 {T : Tile 1024} {q o : FVec Ideal S512x64 .bf16} {qt ot : FVec Ideal S64x512 .bf16} {kk : FVec Ideal S1024x64 .bf16} {kt vt : FVec Ideal S64x1024 .bf16} {st : FVec Ideal S1x512x6 .f32} {ck : FVec Ideal S1x1x1024 .f32} (h : Holds T 1 3 5 q o qt ot kk kt vt st ck) (hf : 1024 * (T.kt + 1) ≤ 512 * T.jq) {old : FVec Ideal S512x64 .f32} (W : Fin 512 → Fin 64 → ℝ) (hw : ∀ r l, old (ix2 r l) = ((W r l : ℝ) : EReal)) (r : Fin 512) (l : Fin 64) : k0_pay1 (F := Ideal) (k0_pay16 (F := Ideal) (k0_pay3 st) (k0_pay13 (F := Ideal) (k0_pay3 st) ck q kt) (k0_pay15 o) vt) old kk (ix2 r l) = ((W r l + ∑ y, T.ds r y * T.k y l : ℝ) : EReal) := by
  have hp := ds_L1 h hf
  pointwise [k0_pay1]
  simp only [hp, hw, h.q, h.o, h.qt, h.ot, h.kk, h.kt, h.vt, h.ck, h.cq, h.lse, h.dl, h.c0 0 rfl, ← EReal.coe_mul, ← EReal.coe_add, ← EReal.coe_sub, Lift.sum, zero_add]

end Cert.FlashBwdIdeal.Flash
-- ==== Proof.FlashGrp.lean ====
module

public import proofs.«01_k».proof.Proof.FlashTile
public import Idealize.ShloMosaic.Lib.VecWindow

@[expose] public section

set_option maxRecDepth 16384

noncomputable section

namespace Cert.FlashBwdIdeal.Flash

open Idealize.ShloMosaic Idealize.ShloMosaic.Tactic
open Cert.FlashBwdIdeal.Gen

/-- The real numbers one grid point works on: a head pair's queries and statistics, and one tile of 1024 keys. -/
structure Grp where
  q : Fin 8192 → Fin 128 → ℝ
  o : Fin 8192 → Fin 128 → ℝ
  k : Fin 1024 → Fin 128 → ℝ
  v : Fin 1024 → Fin 128 → ℝ
  ck : Fin 2 → Fin 1024 → ℝ
  st : Fin 8192 → Fin 6 → ℝ
  kt : ℕ
  hk : kt < 8

def lane (h : Fin 2) (l : Fin 64) : Fin 128 := ⟨64 * h.val + l.val, by omega⟩
def hd (l : Fin 128) : Fin 2 := ⟨l.val / 64, by omega⟩
def row (j : Fin 16) (r : Fin 512) : Fin 8192 := ⟨512 * j.val + r.val, by omega⟩
def wid {n : ℕ} (hn : n ≤ 1024) (y : Fin n) : Fin 1024 := ⟨y.val, lt_of_lt_of_le y.isLt hn⟩
def col (h : Fin 2) (a : Fin 3) : Fin 6 := ⟨h.val + 2 * a.val, by omega⟩

theorem hd_lane (h : Fin 2) (l : Fin 64) : hd (lane h l) = h := Fin.ext (by show (64 * h.val + l.val) / 64 = h.val; omega)

def Grp.s (G : Grp) (h : Fin 2) (i : Fin 8192) (y : Fin 1024) : ℝ :=
  ((∑ l, G.q i (lane h l) * G.k y (lane h l)) - (G.ck h y - G.ck h 0)) + ((G.st i (col h 0) - G.ck h 0) - G.st i (col h 1))

def Grp.p (G : Grp) (h : Fin 2) (i : Fin 8192) (y : Fin 1024) : ℝ := if 1024 * G.kt + y.val ≤ i.val then Real.exp (G.s h i y) else 0

def Grp.ds (G : Grp) (h : Fin 2) (i : Fin 8192) (y : Fin 1024) : ℝ := G.p h i y * ((∑ l, G.o i (lane h l) * G.v y (lane h l)) - G.st i (col h 2))

/-- The tile of chunk `j` of the queries against the first `n` keys, for head `h` of the pair. -/
def Grp.tile (G : Grp) {n : ℕ} (hn : n ≤ 1024) (h : Fin 2) (j : Fin 16) : Tile n where
  q r l := G.q (row j r) (lane h l)
  o r l := G.o (row j r) (lane h l)
  k y l := G.k (wid hn y) (lane h l)
  v y l := G.v (wid hn y) (lane h l)
  ck y := G.ck h (wid hn y)
  c0 := G.ck h 0
  cq r := G.st (row j r) (col h 0)
  lse r := G.st (row j r) (col h 1)
  dl r := G.st (row j r) (col h 2)
  kt := G.kt
  jq := j.val

theorem tile_p (G : Grp) {n : ℕ} (hn : n ≤ 1024) (h : Fin 2) (j : Fin 16) (r : Fin 512) (y : Fin n) : (G.tile hn h j).p r y = G.p h (row j r) (wid hn y) := rfl
theorem tile_ds (G : Grp) {n : ℕ} (hn : n ≤ 1024) (h : Fin 2) (j : Fin 16) (r : Fin 512) (y : Fin n) : (G.tile hn h j).ds r y = G.ds h (row j r) (wid hn y) := rfl

theorem p_zero (G : Grp) (h : Fin 2) (i : Fin 8192) (y : Fin 1024) (hi : i.val < 1024 * G.kt + y.val) : G.p h i y = 0 := if_neg (by omega)
theorem ds_zero (G : Grp) (h : Fin 2) (i : Fin 8192) (y : Fin 1024) (hi : i.val < 1024 * G.kt + y.val) : G.ds h i y = 0 := by
  rw [Grp.ds, p_zero G h i y hi, zero_mul]

/-- The query-side accumulators once the chunks before `c` have been worked off, over `D` and `E` before them. -/
def DQ (G : Grp) (D : Fin 8192 → Fin 128 → ℝ) (c : ℕ) (i : Fin 8192) (l : Fin 128) : ℝ := D i l + if i.val < 512 * c then ∑ y, G.ds (hd l) i y * G.k y l else 0
def DR (G : Grp) (E : Fin 8192 → Fin 2 → ℝ) (c : ℕ) (i : Fin 8192) (h : Fin 2) : ℝ := E i h + if i.val < 512 * c then ∑ y, G.ds h i y else 0
/-- The key-side accumulators once the chunks before `c` have been worked off. -/
def DK (G : Grp) (c : ℕ) (l : Fin 128) (y : Fin 1024) : ℝ := ∑ i, if i.val < 512 * c then G.q i l * G.ds (hd l) i y else 0
def DV (G : Grp) (c : ℕ) (l : Fin 128) (y : Fin 1024) : ℝ := ∑ i, if i.val < 512 * c then G.o i l * G.p (hd l) i y else 0
def DC (G : Grp) (c : ℕ) (h : Fin 8) (y : Fin 1024) : ℝ := if hh : h.val < 2 then -∑ i, (if i.val < 512 * c then G.ds ⟨h.val, hh⟩ i y else 0) else 0

theorem sum_step (f : Fin 8192 → ℝ) (j : Fin 16) :
    (∑ i, if i.val < 512 * (j.val + 1) then f i else 0) = (∑ i, if i.val < 512 * j.val then f i else 0) + ∑ r, f (row j r) := by
  have e : ∀ i : Fin 8192, (if i.val < 512 * (j.val + 1) then f i else 0) = (if i.val < 512 * j.val then f i else 0) + (if i.val / 512 = j.val then f i else 0) := fun i => by
    split_ifs <;> first | omega | simp
  rw [Finset.sum_congr rfl fun i _ => e i, Finset.sum_add_distrib]
  congr 1
  rw [← Lift.sum_runs (A := 16) (B := 512) rfl fun i : Fin 8192 => if i.val / 512 = j.val then f i else 0, Finset.sum_eq_single j]
  · exact Finset.sum_congr rfl fun r _ => if_pos (by show (512 * j.val + r.val) / 512 = j.val; omega)
  · intro a _ ha
    exact Finset.sum_eq_zero fun r _ => if_neg (by
      show ¬(512 * a.val + r.val) / 512 = j.val
      have : a.val ≠ j.val := fun h => ha (Fin.ext h)
      omega)
  · intro h; exact absurd (Finset.mem_univ _) h

/-- A sum over the first `n` keys, where nothing else contributes, is the sum over all. -/
theorem sum_wid {n : ℕ} (hn : n ≤ 1024) (f : Fin 1024 → ℝ) (hz : ∀ y : Fin 1024, n ≤ y.val → f y = 0) : ∑ y : Fin n, f (wid hn y) = ∑ y, f y := by
  refine Finset.sum_of_injOn (wid hn) (fun a _ b _ h => Fin.ext (by have e := congrArg Fin.val h; exact e)) (fun _ _ => Finset.mem_univ _) (fun y _ hy => hz y ?_) (fun _ _ => rfl)
  by_contra hlt
  exact hy ⟨⟨y.val, by omega⟩, Finset.mem_coe.mpr (Finset.mem_univ _), rfl⟩

section Steps
variable (G : Grp) {n : ℕ} (hn : n ≤ 1024) (h : Fin 2) (j : Fin 16)

theorem DK_step (l : Fin 64) (y : Fin n) : DK G (j.val + 1) (lane h l) (wid hn y) = DK G j.val (lane h l) (wid hn y) + ∑ r, (G.tile hn h j).q r l * (G.tile hn h j).ds r y := by
  rw [DK, sum_step]; unfold DK; rw [hd_lane]; rfl
theorem DV_step (l : Fin 64) (y : Fin n) : DV G (j.val + 1) (lane h l) (wid hn y) = DV G j.val (lane h l) (wid hn y) + ∑ r, (G.tile hn h j).o r l * (G.tile hn h j).p r y := by
  rw [DV, sum_step]; unfold DV; rw [hd_lane]; rfl
theorem DC_step (y : Fin n) : DC G (j.val + 1) ⟨h.val, by omega⟩ (wid hn y) = DC G j.val ⟨h.val, by omega⟩ (wid hn y) - ∑ r, (G.tile hn h j).ds r y := by
  have hh : h.val < 2 := h.isLt
  simp only [DC, hh, dif_pos]
  rw [sum_step (fun i => G.ds h i (wid hn y)) j, neg_add, sub_eq_add_neg]; rfl

/-- The keys the causal mask leaves out of chunk `j` get nothing from it. -/
theorem DK_skip (l : Fin 128) (y : Fin 1024) (hy : 512 * j.val + 512 ≤ 1024 * G.kt + y.val) : DK G (j.val + 1) l y = DK G j.val l y := by
  rw [DK, sum_step]
  refine add_eq_left.mpr (Finset.sum_eq_zero fun r _ => ?_)
  rw [ds_zero _ _ _ _ (by show 512 * j.val + r.val < _; omega), mul_zero]
theorem DV_skip (l : Fin 128) (y : Fin 1024) (hy : 512 * j.val + 512 ≤ 1024 * G.kt + y.val) : DV G (j.val + 1) l y = DV G j.val l y := by
  rw [DV, sum_step]
  refine add_eq_left.mpr (Finset.sum_eq_zero fun r _ => ?_)
  rw [p_zero _ _ _ _ (by show 512 * j.val + r.val < _; omega), mul_zero]
theorem DC_skip (g : Fin 8) (y : Fin 1024) (hy : 512 * j.val + 512 ≤ 1024 * G.kt + y.val) : DC G (j.val + 1) g y = DC G j.val g y := by
  unfold DC
  split
  · rename_i hh
    rw [sum_step (fun i => G.ds ⟨g.val, hh⟩ i y) j]
    refine congrArg _ (add_eq_left.mpr (Finset.sum_eq_zero fun r _ => ?_))
    exact ds_zero _ _ _ _ (by show 512 * j.val + r.val < _; omega)
  · rfl
theorem DC_rest (c : ℕ) (g : Fin 8) (y : Fin 1024) (hg : 2 ≤ g.val) : DC G c g y = 0 := dif_neg (by omega)

theorem DK_start (l : Fin 128) (y : Fin 1024) : DK G (2 * G.kt) l y = 0 := Finset.sum_eq_zero fun i _ => by
  split
  · rw [ds_zero _ _ _ _ (by omega), mul_zero]
  · rfl
theorem DV_start (l : Fin 128) (y : Fin 1024) : DV G (2 * G.kt) l y = 0 := Finset.sum_eq_zero fun i _ => by
  split
  · rw [p_zero _ _ _ _ (by omega), mul_zero]
  · rfl
theorem DC_start (g : Fin 8) (y : Fin 1024) : DC G (2 * G.kt) g y = 0 := by
  unfold DC
  split
  · rw [neg_eq_zero]
    refine Finset.sum_eq_zero fun i _ => ?_
    split
    · exact ds_zero _ _ _ _ (by omega)
    · rfl
  · rfl

variable (D : Fin 8192 → Fin 128 → ℝ) (E : Fin 8192 → Fin 2 → ℝ)

theorem DQ_done {c : ℕ} (hc : j.val < c) (hz : ∀ (r : Fin 512) (y : Fin 1024), n ≤ y.val → 512 * j.val + r.val < 1024 * G.kt + y.val) (r : Fin 512) (l : Fin 64) :
    DQ G D c (row j r) (lane h l) = D (row j r) (lane h l) + ∑ y, (G.tile hn h j).ds r y * (G.tile hn h j).k y l := by
  rw [DQ, if_pos (by show 512 * j.val + r.val < _; omega), hd_lane]
  congr 1
  exact (sum_wid hn (fun y => G.ds h (row j r) y * G.k y (lane h l)) fun y hy => by rw [ds_zero _ _ _ _ (hz r y hy), zero_mul]).symm
theorem DR_done {c : ℕ} (hc : j.val < c) (hz : ∀ (r : Fin 512) (y : Fin 1024), n ≤ y.val → 512 * j.val + r.val < 1024 * G.kt + y.val) (r : Fin 512) :
    DR G E c (row j r) h = E (row j r) h + ∑ y, (G.tile hn h j).ds r y := by
  rw [DR, if_pos (by show 512 * j.val + r.val < _; omega)]
  congr 1
  exact (sum_wid hn (fun y => G.ds h (row j r) y) fun y hy => ds_zero _ _ _ _ (hz r y hy)).symm

theorem DQ_todo {c : ℕ} {i : Fin 8192} (hi : 512 * c ≤ i.val ∨ i.val < 1024 * G.kt) (l : Fin 128) : DQ G D c i l = D i l := by
  rw [DQ]
  refine add_eq_left.mpr ?_
  split
  · exact Finset.sum_eq_zero fun y _ => by rw [ds_zero _ _ _ _ (by omega), zero_mul]
  · rfl
theorem DR_todo {c : ℕ} {i : Fin 8192} (hi : 512 * c ≤ i.val ∨ i.val < 1024 * G.kt) (g : Fin 2) : DR G E c i g = E i g := by
  rw [DR]
  refine add_eq_left.mpr ?_
  split
  · exact Finset.sum_eq_zero fun y _ => ds_zero _ _ _ _ (by omega)
  · rfl
theorem DQ_keep {i : Fin 8192} {c : ℕ} (hi : i.val < 512 * c ∨ 512 * c + 512 ≤ i.val) (l : Fin 128) : DQ G D (c + 1) i l = DQ G D c i l := by
  unfold DQ
  congr 1
  split_ifs <;> first | rfl | omega
theorem DR_keep {i : Fin 8192} {c : ℕ} (hi : i.val < 512 * c ∨ 512 * c + 512 ≤ i.val) (g : Fin 2) : DR G E (c + 1) i g = DR G E c i g := by
  unfold DR
  congr 1
  split_ifs <;> first | rfl | omega

end Steps

section Mem
variable {sig : RefSig} {κ : Kind} {sp : Space} {e : EltTy} {Val : EltTy → Type}

/-- A load of a window of a matrix, entry by entry. -/
theorem ld2 {A B a b : ℕ} (vw : View sig κ sp ⟨2, ![A, B]⟩ e) (f : vw.ty.Contents Val) {off : Fin 2 → ℕ} {o0 o1 : ℕ} (ho : off = ![o0, o1])
    (inb : ∀ x, off x + (![a, b] : Fin 2 → ℕ) x ≤ (⟨2, ![A, B]⟩ : Shape).size x) (r : Fin a) (l : Fin b) (i : Fin A) (k : Fin B) (hi : i.val = o0 + r.val) (hk : k.val = o1 + l.val) :
    vw.readAt Val (Rect.unit (s := ⟨2, ![A, B]⟩) off ![a, b] inb).toLoadRect f (ix2 r l) = vw.read Val f (ix2 i k) := by
  subst ho
  refine congrArg (vw.read Val f) (funext fun x => Fin.ext ?_)
  fin_cases x
  · show o0 + 1 * r.val = i.val; omega
  · show o1 + 1 * l.val = k.val; omega

theorem ld3 {A B C a b c : ℕ} (vw : View sig κ sp ⟨3, ![A, B, C]⟩ e) (f : vw.ty.Contents Val) {off : Fin 3 → ℕ} {o0 o1 o2 : ℕ} (ho : off = ![o0, o1, o2])
    (inb : ∀ x, off x + (![a, b, c] : Fin 3 → ℕ) x ≤ (⟨3, ![A, B, C]⟩ : Shape).size x) (r : Fin a) (l : Fin b) (w : Fin c) (i : Fin A) (k : Fin B) (z : Fin C)
    (hi : i.val = o0 + r.val) (hk : k.val = o1 + l.val) (hz : z.val = o2 + w.val) :
    vw.readAt Val (Rect.unit (s := ⟨3, ![A, B, C]⟩) off ![a, b, c] inb).toLoadRect f (ix3 r l w) = vw.read Val f (ix3 i k z) := by
  subst ho
  refine congrArg (vw.read Val f) (funext fun x => Fin.ext ?_)
  fin_cases x
  · show o0 + 1 * r.val = i.val; omega
  · show o1 + 1 * l.val = k.val; omega
  · show o2 + 1 * w.val = z.val; omega

/-- The newest store of a window of a matrix: inside it the payload, outside what was there. -/
theorem put2 {A B a b : ℕ} (vw : View sig κ sp ⟨2, ![A, B]⟩ e) (f : vw.ty.Contents Val) {off : Fin 2 → ℕ} {o0 o1 : ℕ} (ho : off = ![o0, o1])
    (inb : ∀ x, off x + (![a, b] : Fin 2 → ℕ) x ≤ (⟨2, ![A, B]⟩ : Shape).size x) (w : (Rect.unit (s := ⟨2, ![A, B]⟩) off ![a, b] inb).shape.Idx → Val e)
    (L : List (View.Piece Val ⟨2, ![A, B]⟩ e)) (S : Fin A → Fin B → Val e)
    (hin : ∀ (r : Fin a) (l : Fin b) (i : Fin A) (k : Fin B), i.val = o0 + r.val → k.val = o1 + l.val → w (ix2 r l) = S i k)
    (hout : ∀ (i : Fin A) (k : Fin B), ¬(o0 ≤ i.val ∧ i.val < o0 + a ∧ o1 ≤ k.val ∧ k.val < o1 + b) → vw.read Val (vw.writes Val f L) (ix2 i k) = S i k) :
    ∀ (i : Fin A) (k : Fin B), vw.read Val (vw.writes Val f (⟨Rect.unit off ![a, b] inb, w⟩ :: L)) (ix2 i k) = S i k := by
  intro i k
  by_cases h : o0 ≤ i.val ∧ i.val < o0 + a ∧ o1 ≤ k.val ∧ k.val < o1 + b
  · refine (View.read_writes_cons_unit_of_mem vw f inb w L (ix2 i k) (ix2 (⟨i.val - o0, by omega⟩ : Fin a) (⟨k.val - o1, by omega⟩ : Fin b)) ho (fun x => ?_)).trans (hin _ _ _ _ ?_ ?_)
    · fin_cases x
      · show i.val = o0 + (i.val - o0); omega
      · show k.val = o1 + (k.val - o1); omega
    · show i.val = o0 + (i.val - o0); omega
    · show k.val = o1 + (k.val - o1); omega
  · refine Eq.trans ?_ (hout i k h)
    by_cases h0 : o0 ≤ i.val ∧ i.val < o0 + a
    · exact View.read_writes_cons_unit_of_not_mem vw f inb w L (ix2 i k) ho (1 : Fin 2) (by show k.val < o1 ∨ o1 + b ≤ k.val; omega)
    · exact View.read_writes_cons_unit_of_not_mem vw f inb w L (ix2 i k) ho (0 : Fin 2) (by show i.val < o0 ∨ o0 + a ≤ i.val; omega)

theorem put3 {A B C a b c : ℕ} (vw : View sig κ sp ⟨3, ![A, B, C]⟩ e) (f : vw.ty.Contents Val) {off : Fin 3 → ℕ} {o0 o1 o2 : ℕ} (ho : off = ![o0, o1, o2])
    (inb : ∀ x, off x + (![a, b, c] : Fin 3 → ℕ) x ≤ (⟨3, ![A, B, C]⟩ : Shape).size x) (w : (Rect.unit (s := ⟨3, ![A, B, C]⟩) off ![a, b, c] inb).shape.Idx → Val e)
    (L : List (View.Piece Val ⟨3, ![A, B, C]⟩ e)) (S : Fin A → Fin B → Fin C → Val e)
    (hin : ∀ (r : Fin a) (l : Fin b) (x : Fin c) (i : Fin A) (k : Fin B) (z : Fin C), i.val = o0 + r.val → k.val = o1 + l.val → z.val = o2 + x.val → w (ix3 r l x) = S i k z)
    (hout : ∀ (i : Fin A) (k : Fin B) (z : Fin C), ¬(o0 ≤ i.val ∧ i.val < o0 + a ∧ o1 ≤ k.val ∧ k.val < o1 + b ∧ o2 ≤ z.val ∧ z.val < o2 + c) → vw.read Val (vw.writes Val f L) (ix3 i k z) = S i k z) :
    ∀ (i : Fin A) (k : Fin B) (z : Fin C), vw.read Val (vw.writes Val f (⟨Rect.unit off ![a, b, c] inb, w⟩ :: L)) (ix3 i k z) = S i k z := by
  intro i k z
  by_cases h : o0 ≤ i.val ∧ i.val < o0 + a ∧ o1 ≤ k.val ∧ k.val < o1 + b ∧ o2 ≤ z.val ∧ z.val < o2 + c
  · refine (View.read_writes_cons_unit_of_mem vw f inb w L (ix3 i k z) (ix3 (⟨i.val - o0, by omega⟩ : Fin a) (⟨k.val - o1, by omega⟩ : Fin b) (⟨z.val - o2, by omega⟩ : Fin c)) ho (fun x => ?_)).trans (hin _ _ _ _ _ _ ?_ ?_ ?_)
    · fin_cases x
      · show i.val = o0 + (i.val - o0); omega
      · show k.val = o1 + (k.val - o1); omega
      · show z.val = o2 + (z.val - o2); omega
    · show i.val = o0 + (i.val - o0); omega
    · show k.val = o1 + (k.val - o1); omega
    · show z.val = o2 + (z.val - o2); omega
  · refine Eq.trans ?_ (hout i k z h)
    by_cases h0 : o0 ≤ i.val ∧ i.val < o0 + a
    · by_cases h1 : o1 ≤ k.val ∧ k.val < o1 + b
      · exact View.read_writes_cons_unit_of_not_mem vw f inb w L (ix3 i k z) ho (2 : Fin 3) (by show z.val < o2 ∨ o2 + c ≤ z.val; omega)
      · exact View.read_writes_cons_unit_of_not_mem vw f inb w L (ix3 i k z) ho (1 : Fin 3) (by show k.val < o1 ∨ o1 + b ≤ k.val; omega)
    · exact View.read_writes_cons_unit_of_not_mem vw f inb w L (ix3 i k z) ho (0 : Fin 3) (by show i.val < o0 ∨ o0 + a ≤ i.val; omega)

end Mem

end Cert.FlashBwdIdeal.Flash
-- ==== Proof.FlashTrip.lean ====
module

public import proofs.«01_k».proof.Proof.FlashGrp
public import proofs.«01_k».proof.Proof.FlashRun

@[expose] public section

set_option maxRecDepth 16384

noncomputable section

namespace Cert.FlashBwdIdeal.Flash

open Idealize.ShloMosaic Idealize.ShloMosaic.Tactic
open Cert.FlashBwdIdeal.Gen

/-- The argument windows hold the grid point's numbers. -/
structure Rd (G : Grp) (x2 : S8192x128.Idx → Elt Ideal .bf16) (x3 : S128x8192.Idx → Elt Ideal .bf16) (x4 : S1024x128.Idx → Elt Ideal .bf16) (x5 : S128x1024.Idx → Elt Ideal .bf16) (x6 : S128x1024.Idx → Elt Ideal .bf16) (x7 : S1x2x1024.Idx → Elt Ideal .f32) (x8 : S8192x128.Idx → Elt Ideal .bf16) (x9 : S128x8192.Idx → Elt Ideal .bf16) (x10 : S1x8192x6.Idx → Elt Ideal .f32) : Prop where
  q : ∀ i l, x2 (ix2 i l) = ((G.q i l : ℝ) : EReal)
  qt : ∀ l i, x3 (ix2 l i) = ((G.q i l : ℝ) : EReal)
  kk : ∀ y l, x4 (ix2 y l) = ((G.k y l : ℝ) : EReal)
  kt : ∀ l y, x5 (ix2 l y) = ((G.k y l : ℝ) : EReal)
  vt : ∀ l y, x6 (ix2 l y) = ((G.v y l : ℝ) : EReal)
  ck : ∀ h y, x7 (ix3 (0 : Fin 1) h y) = ((G.ck h y : ℝ) : EReal)
  o : ∀ i l, x8 (ix2 i l) = ((G.o i l : ℝ) : EReal)
  ot : ∀ l i, x9 (ix2 l i) = ((G.o i l : ℝ) : EReal)
  st : ∀ i s, x10 (ix3 (0 : Fin 1) i s) = ((G.st i s : ℝ) : EReal)

/-- The accumulators hold the sums over the chunks before `c`. -/
structure St (G : Grp) (D : Fin 8192 → Fin 128 → ℝ) (E : Fin 8192 → Fin 2 → ℝ) (c : ℕ) (y11 : S8192x128.Idx → Elt Ideal .f32) (y12 : S128x1024.Idx → Elt Ideal .f32) (y13 : S128x1024.Idx → Elt Ideal .f32) (y14 : S1x8x1024.Idx → Elt Ideal .f32) (y15 : S1x8192x2.Idx → Elt Ideal .f32) : Prop where
  dq : ∀ i l, y11 (ix2 i l) = ((DQ G D c i l : ℝ) : EReal)
  dk : ∀ l y, y12 (ix2 l y) = ((DK G c l y : ℝ) : EReal)
  dv : ∀ l y, y13 (ix2 l y) = ((DV G c l y : ℝ) : EReal)
  dc : ∀ a h y, y14 (ix3 a h y) = ((DC G c h y : ℝ) : EReal)
  dr : ∀ a i h, y15 (ix3 a i h) = ((DR G E c i h : ℝ) : EReal)

section Loads
variable {G : Grp} {v2 : View sig .tc .vmem S8192x128 .bf16} {f2 : BufTy.Contents (Elt Ideal) v2.ty} {v3 : View sig .tc .vmem S128x8192 .bf16} {f3 : BufTy.Contents (Elt Ideal) v3.ty} {v4 : View sig .tc .vmem S1024x128 .bf16} {f4 : BufTy.Contents (Elt Ideal) v4.ty} {v5 : View sig .tc .vmem S128x1024 .bf16} {f5 : BufTy.Contents (Elt Ideal) v5.ty} {v6 : View sig .tc .vmem S128x1024 .bf16} {f6 : BufTy.Contents (Elt Ideal) v6.ty} {v7 : View sig .tc .vmem S1x2x1024 .f32} {f7 : BufTy.Contents (Elt Ideal) v7.ty} {v8 : View sig .tc .vmem S8192x128 .bf16} {f8 : BufTy.Contents (Elt Ideal) v8.ty} {v9 : View sig .tc .vmem S128x8192 .bf16} {f9 : BufTy.Contents (Elt Ideal) v9.ty} {v10 : View sig .tc .vmem S1x8192x6 .f32} {f10 : BufTy.Contents (Elt Ideal) v10.ty}

theorem holds (hX : Rd G (v2.read (Elt Ideal) f2) (v3.read (Elt Ideal) f3) (v4.read (Elt Ideal) f4) (v5.read (Elt Ideal) f5) (v6.read (Elt Ideal) f6) (v7.read (Elt Ideal) f7) (v8.read (Elt Ideal) f8) (v9.read (Elt Ideal) f9) (v10.read (Elt Ideal) f10)) {n : ℕ} (hn : n ≤ 1024) (h : Fin 2) (j : Fin 16) {b : ℕ} (hb : b = 512 * j.val) {oq oqt oh okt oct ost}
    (eq : oq = ![b, 64 * h.val]) (eqt : oqt = ![64 * h.val, b]) (eh : oh = ![0, 64 * h.val]) (ekt : okt = ![64 * h.val, 0]) (ect : oct = ![0, h.val, 0]) (est : ost = ![0, b, 0])
    (i2 i8) (i3 i9) (i4) (i5 i6) (i7) (i10) :
    Holds (G.tile hn h j) (col h 0) (col h 1) (col h 2)
      (v2.readAt (Elt Ideal) (Rect.unit (s := S8192x128) oq ![512, 64] i2).toLoadRect f2)
      (v8.readAt (Elt Ideal) (Rect.unit (s := S8192x128) oq ![512, 64] i8).toLoadRect f8)
      (v3.readAt (Elt Ideal) (Rect.unit (s := S128x8192) oqt ![64, 512] i3).toLoadRect f3)
      (v9.readAt (Elt Ideal) (Rect.unit (s := S128x8192) oqt ![64, 512] i9).toLoadRect f9)
      (v4.readAt (Elt Ideal) (Rect.unit (s := S1024x128) oh ![n, 64] i4).toLoadRect f4)
      (v5.readAt (Elt Ideal) (Rect.unit (s := S128x1024) okt ![64, n] i5).toLoadRect f5)
      (v6.readAt (Elt Ideal) (Rect.unit (s := S128x1024) okt ![64, n] i6).toLoadRect f6)
      (v10.readAt (Elt Ideal) (Rect.unit (s := S1x8192x6) ost ![1, 512, 6] i10).toLoadRect f10)
      (v7.readAt (Elt Ideal) (Rect.unit (s := S1x2x1024) oct ![1, 1, n] i7).toLoadRect f7) where
  q r l := (ld2 v2 f2 eq i2 r l (row j r) (lane h l) (by subst hb; rfl) rfl).trans (hX.q _ _)
  o r l := (ld2 v8 f8 eq i8 r l (row j r) (lane h l) (by subst hb; rfl) rfl).trans (hX.o _ _)
  qt l r := (ld2 v3 f3 eqt i3 l r (lane h l) (row j r) rfl (by subst hb; rfl)).trans (hX.qt _ _)
  ot l r := (ld2 v9 f9 eqt i9 l r (lane h l) (row j r) rfl (by subst hb; rfl)).trans (hX.ot _ _)
  kk y l := (ld2 v4 f4 eh i4 y l (wid hn y) (lane h l) (Nat.zero_add _).symm rfl).trans (hX.kk _ _)
  kt l y := (ld2 v5 f5 ekt i5 l y (lane h l) (wid hn y) rfl (Nat.zero_add _).symm).trans (hX.kt _ _)
  vt l y := (ld2 v6 f6 ekt i6 l y (lane h l) (wid hn y) rfl (Nat.zero_add _).symm).trans (hX.vt _ _)
  ck y := (ld3 v7 f7 ect i7 (0 : Fin 1) (0 : Fin 1) y (0 : Fin 1) h (wid hn y) rfl rfl (Nat.zero_add _).symm).trans (hX.ck _ _)
  c0 y hy := congrArg (G.ck h) (Fin.ext hy)
  cq r := (ld3 v10 f10 est i10 (0 : Fin 1) r (col h 0) (0 : Fin 1) (row j r) (col h 0) rfl (by subst hb; rfl) (Nat.zero_add _).symm).trans (hX.st _ _)
  lse r := (ld3 v10 f10 est i10 (0 : Fin 1) r (col h 1) (0 : Fin 1) (row j r) (col h 1) rfl (by subst hb; rfl) (Nat.zero_add _).symm).trans (hX.st _ _)
  dl r := (ld3 v10 f10 est i10 (0 : Fin 1) r (col h 2) (0 : Fin 1) (row j r) (col h 2) rfl (by subst hb; rfl) (Nat.zero_add _).symm).trans (hX.st _ _)
  hk := G.hk
  hj := j.isLt
  hn := hn

end Loads

set_option maxHeartbeats 4000000 in
/-- One trip of the loop adds the next chunk. -/
theorem trip_step {G : Grp} {D : Fin 8192 → Fin 128 → ℝ} {E : Fin 8192 → Fin 2 → ℝ} (𝒱 : Variants) (c : Dev nD) (bd : Option 𝒱.V) (i : grid0.Coords)   (arg2 : Memref sig .tc .vmem S8192x128 .bf16) (harg2 : arg2.IsWhole) (arg3 : Memref sig .tc .vmem S128x8192 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x2x1024 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S1x8192x6 .f32) (harg10 : arg10.IsWhole) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (v378 : BitVec 32) (k : Fin (k0_t1_loop i).trips) (g11 : BufTy.Contents (Elt Ideal) arg11.view.ty) (g12 : BufTy.Contents (Elt Ideal) arg12.view.ty) (g13 : BufTy.Contents (Elt Ideal) arg13.view.ty) (g14 : BufTy.Contents (Elt Ideal) arg14.view.ty) (g15 : BufTy.Contents (Elt Ideal) arg15.view.ty)
    (hi : (i 1).val = G.kt) (j : Fin 16) (hj : j.val = 2 * G.kt + 2 + k.val) (hX : Rd G (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10))
    (hS : St G D E (j.val) (arg11.view.read (Elt Ideal) g11) (arg12.view.read (Elt Ideal) g12) (arg13.view.read (Elt Ideal) g13) (arg14.view.read (Elt Ideal) g14) (arg15.view.read (Elt Ideal) g15)) :
    St G D E (j.val + 1) (arg11.view.read (Elt Ideal) (arg11.view.writes (Elt Ideal) g11 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v378 X2 X3 X4 X5 X6 X7 X8 X9 X10 k g11 g12 g13 g14 g15).1)) (arg12.view.read (Elt Ideal) (arg12.view.writes (Elt Ideal) g12 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v378 X2 X3 X4 X5 X6 X7 X8 X9 X10 k g11 g12 g13 g14 g15).2.1)) (arg13.view.read (Elt Ideal) (arg13.view.writes (Elt Ideal) g13 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v378 X2 X3 X4 X5 X6 X7 X8 X9 X10 k g11 g12 g13 g14 g15).2.2.1)) (arg14.view.read (Elt Ideal) (arg14.view.writes (Elt Ideal) g14 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v378 X2 X3 X4 X5 X6 X7 X8 X9 X10 k g11 g12 g13 g14 g15).2.2.2.1)) (arg15.view.read (Elt Ideal) (arg15.view.writes (Elt Ideal) g15 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v378 X2 X3 X4 X5 X6 X7 X8 X9 X10 k g11 g12 g13 g14 g15).2.2.2.2)) := by
  have hb : 1024 * (i 1).val + 512 * k.val + 1024 = 512 * j.val := by omega
  have hf : 1024 * (G.kt + 1) ≤ 512 * j.val := by omega
  have hz : ∀ (r : Fin 512) (y : Fin 1024), 1024 ≤ y.val → 512 * j.val + r.val < 1024 * G.kt + y.val := fun r y hy => by omega
  have H0 := holds hX (le_refl 1024) 0 j hb (oh := ![0, 0]) (okt := ![0, 0]) (oct := ![0, 0, 0]) (k0_off9_eq i k) (k0_off10_eq i k) rfl rfl rfl (k0_off8_eq i k) (k0_off9_inb i k) (k0_off9_inb i k) (k0_off10_inb i k) (k0_off10_inb i k) (by decide) (by decide) (by decide) (by decide) (k0_off8_inb i k)
  have H1 := holds hX (le_refl 1024) 1 j hb (oh := ![0, 64]) (okt := ![64, 0]) (oct := ![0, 1, 0]) (k0_off12_eq i k) (k0_off13_eq i k) rfl rfl rfl (k0_off8_eq i k) (k0_off12_inb i k) (k0_off12_inb i k) (k0_off13_inb i k) (k0_off13_inb i k) (by decide) (by decide) (by decide) (by decide) (k0_off8_inb i k)
  unfold tripL_k0_t1 trip_k0_t1
  dsimp only
  refine ⟨?_, ?_, ?_, ?_, ?_⟩
  · refine put2 (a := 512) (b := 64) arg11.view g11 (k0_off12_eq i k) _ _ _ (fun i l => ((DQ G D (j.val + 1) i l : ℝ) : EReal)) (fun r l x z hx hz' => ?_) (fun x z hxz => ?_)
    · obtain rfl : x = row j r := Fin.ext (by show x.val = 512 * j.val + r.val; omega)
      obtain rfl : z = lane 1 l := Fin.ext hz'
      refine (dq_L1 H1 hf (fun r l => DQ G D j.val (row j r) (lane 1 l)) (fun r l => ?_) r l).trans ?_
      · exact (ld2 arg11.view g11 (k0_off12_eq i k) _ r l (row j r) (lane 1 l) (by show 512 * j.val + r.val = _; omega) rfl).trans (hS.dq _ _)
      · refine congrArg (fun x : ℝ => (x : EReal)) ?_
        rw [DQ_done G (le_refl 1024) 1 j D (Nat.lt_succ_self _) hz, DQ_todo G D (Or.inl (by show 512 * j.val ≤ 512 * j.val + r.val; omega))]
    · refine (put2 (a := 512) (b := 64) arg11.view g11 (k0_off9_eq i k) _ _ [] (fun i l => ((if l.val < 64 then DQ G D (j.val + 1) i l else DQ G D j.val i l : ℝ) : EReal)) (fun r l x z hx hz' => ?_) (fun x z hxz => ?_) x z).trans ?_
      · obtain rfl : x = row j r := Fin.ext (by show x.val = 512 * j.val + r.val; omega)
        obtain rfl : z = lane 0 l := Fin.ext (by show z.val = 64 * 0 + l.val; omega)
        rw [if_pos (by show 64 * 0 + l.val < 64; omega)]
        refine (dq_L0 H0 hf (fun r l => DQ G D j.val (row j r) (lane 0 l)) (fun r l => ?_) r l).trans ?_
        · exact (ld2 arg11.view g11 (k0_off9_eq i k) _ r l (row j r) (lane 0 l) (by show 512 * j.val + r.val = _; omega) (by show 64 * 0 + l.val = _; omega)).trans (hS.dq _ _)
        · refine congrArg (fun x : ℝ => (x : EReal)) ?_
          rw [DQ_done G (le_refl 1024) 0 j D (Nat.lt_succ_self _) hz, DQ_todo G D (Or.inl (by show 512 * j.val ≤ 512 * j.val + r.val; omega))]
      · refine (hS.dq x z).trans (congrArg (fun x : ℝ => (x : EReal)) ?_)
        split
        · exact (DQ_keep G D (by omega) z).symm
        · rfl
      · refine congrArg (fun x : ℝ => (x : EReal)) ?_
        split
        · rfl
        · exact (DQ_keep G D (by omega) z).symm
  · refine put2 (a := 64) (b := 1024) arg12.view g12 (o0 := 64) (o1 := 0) rfl _ _ _ (fun l y => ((DK G (j.val + 1) l y : ℝ) : EReal)) (fun l y x z hx hz' => ?_) (fun x z hxz => ?_)
    · obtain rfl : x = lane 1 l := Fin.ext hx
      obtain rfl : z = y := Fin.ext (by omega)
      refine (dk_L1 H1 hf (fun l y => DK G j.val (lane 1 l) y) (fun l y => ?_) l z).trans ?_
      · exact (ld2 arg12.view g12 (o0 := 64) (o1 := 0) rfl _ l y (lane 1 l) y rfl (Nat.zero_add _).symm).trans (hS.dk _ _)
      · exact congrArg (fun x : ℝ => (x : EReal)) (DK_step G (le_refl 1024) 1 j l z).symm
    · refine (put2 (a := 64) (b := 1024) arg12.view g12 (o0 := 0) (o1 := 0) rfl _ _ [] (fun l y => ((if l.val < 64 then DK G (j.val + 1) l y else DK G j.val l y : ℝ) : EReal)) (fun l y x z hx hz' => ?_) (fun x z hxz => ?_) x z).trans ?_
      · obtain rfl : x = lane 0 l := Fin.ext (by show x.val = 64 * 0 + l.val; omega)
        obtain rfl : z = y := Fin.ext (by omega)
        rw [if_pos (by show 64 * 0 + l.val < 64; omega)]
        refine (dk_L0 H0 hf (fun l y => DK G j.val (lane 0 l) y) (fun l y => ?_) l z).trans ?_
        · exact (ld2 arg12.view g12 (o0 := 0) (o1 := 0) rfl _ l y (lane 0 l) y (by show 64 * 0 + l.val = _; omega) (Nat.zero_add _).symm).trans (hS.dk _ _)
        · exact congrArg (fun x : ℝ => (x : EReal)) (DK_step G (le_refl 1024) 0 j l z).symm
      · exact (hS.dk x z).trans (congrArg (fun x : ℝ => (x : EReal)) (if_neg (by omega)).symm)
      · exact congrArg (fun x : ℝ => (x : EReal)) (if_pos (by omega))
  · refine put2 (a := 64) (b := 1024) arg13.view g13 (o0 := 64) (o1 := 0) rfl _ _ _ (fun l y => ((DV G (j.val + 1) l y : ℝ) : EReal)) (fun l y x z hx hz' => ?_) (fun x z hxz => ?_)
    · obtain rfl : x = lane 1 l := Fin.ext hx
      obtain rfl : z = y := Fin.ext (by omega)
      refine (dv_L1 H1 hf (fun l y => DV G j.val (lane 1 l) y) (fun l y => ?_) l z).trans ?_
      · exact (ld2 arg13.view g13 (o0 := 64) (o1 := 0) rfl _ l y (lane 1 l) y rfl (Nat.zero_add _).symm).trans (hS.dv _ _)
      · exact congrArg (fun x : ℝ => (x : EReal)) (DV_step G (le_refl 1024) 1 j l z).symm
    · refine (put2 (a := 64) (b := 1024) arg13.view g13 (o0 := 0) (o1 := 0) rfl _ _ [] (fun l y => ((if l.val < 64 then DV G (j.val + 1) l y else DV G j.val l y : ℝ) : EReal)) (fun l y x z hx hz' => ?_) (fun x z hxz => ?_) x z).trans ?_
      · obtain rfl : x = lane 0 l := Fin.ext (by show x.val = 64 * 0 + l.val; omega)
        obtain rfl : z = y := Fin.ext (by omega)
        rw [if_pos (by show 64 * 0 + l.val < 64; omega)]
        refine (dv_L0 H0 hf (fun l y => DV G j.val (lane 0 l) y) (fun l y => ?_) l z).trans ?_
        · exact (ld2 arg13.view g13 (o0 := 0) (o1 := 0) rfl _ l y (lane 0 l) y (by show 64 * 0 + l.val = _; omega) (Nat.zero_add _).symm).trans (hS.dv _ _)
        · exact congrArg (fun x : ℝ => (x : EReal)) (DV_step G (le_refl 1024) 0 j l z).symm
      · exact (hS.dv x z).trans (congrArg (fun x : ℝ => (x : EReal)) (if_neg (by omega)).symm)
      · exact congrArg (fun x : ℝ => (x : EReal)) (if_pos (by omega))
  · refine put3 (a := 1) (b := 1) (c := 1024) arg14.view g14 (o0 := 0) (o1 := 1) (o2 := 0) rfl _ _ _ (fun _ h y => ((DC G (j.val + 1) h y : ℝ) : EReal)) (fun a b y u x z hu hx hz' => ?_) (fun u x z hxz => ?_)
    · obtain rfl : a = 0 := Subsingleton.elim _ _
      obtain rfl : b = 0 := Subsingleton.elim _ _
      obtain rfl : x = 1 := Fin.ext hx
      obtain rfl : z = y := Fin.ext (by omega)
      refine (dc_L1 H1 hf (fun y => DC G j.val 1 y) (fun y => ?_) z).trans ?_
      · exact (ld3 arg14.view g14 (o0 := 0) (o1 := 1) (o2 := 0) rfl _ (0 : Fin 1) (0 : Fin 1) y (0 : Fin 1) (1 : Fin 8) y rfl rfl (Nat.zero_add _).symm).trans (hS.dc _ _ _)
      · exact congrArg (fun x : ℝ => (x : EReal)) (DC_step G (le_refl 1024) 1 j z).symm
    · refine (put3 (a := 1) (b := 1) (c := 1024) arg14.view g14 (o0 := 0) (o1 := 0) (o2 := 0) rfl _ _ [] (fun _ h y => ((if h.val = 0 then DC G (j.val + 1) h y else DC G j.val h y : ℝ) : EReal)) (fun a b y u x z hu hx hz' => ?_) (fun u x z hxz => ?_) u x z).trans ?_
      · obtain rfl : a = 0 := Subsingleton.elim _ _
        obtain rfl : b = 0 := Subsingleton.elim _ _
        obtain rfl : x = 0 := Fin.ext hx
        obtain rfl : z = y := Fin.ext (by omega)
        refine (dc_L0 H0 hf (fun y => DC G j.val 0 y) (fun y => ?_) z).trans ?_
        · exact (ld3 arg14.view g14 (o0 := 0) (o1 := 0) (o2 := 0) rfl _ (0 : Fin 1) (0 : Fin 1) y (0 : Fin 1) (0 : Fin 8) y rfl rfl (Nat.zero_add _).symm).trans (hS.dc _ _ _)
        · exact congrArg (fun x : ℝ => (x : EReal)) ((DC_step G (le_refl 1024) 0 j z).symm.trans (if_pos rfl).symm)
      · exact (hS.dc u x z).trans (congrArg (fun x : ℝ => (x : EReal)) (if_neg (by omega)).symm)
      · refine congrArg (fun x : ℝ => (x : EReal)) ?_
        split
        · rfl
        · exact (DC_rest G _ x z (by omega)).trans (DC_rest G _ x z (by omega)).symm
  · refine put3 (a := 1) (b := 512) (c := 1) arg15.view g15 (k0_off14_eq i k) _ _ _ (fun _ i h => ((DR G E (j.val + 1) i h : ℝ) : EReal)) (fun a r b u x z hu hx hz' => ?_) (fun u x z hxz => ?_)
    · obtain rfl : a = 0 := Subsingleton.elim _ _
      obtain rfl : b = 0 := Subsingleton.elim _ _
      obtain rfl : x = row j r := Fin.ext (by show x.val = 512 * j.val + r.val; omega)
      obtain rfl : z = 1 := Fin.ext hz'
      refine (dr_L1 H1 hf (fun r => DR G E j.val (row j r) 1) (fun r => ?_) r).trans ?_
      · exact (ld3 arg15.view g15 (k0_off14_eq i k) _ (0 : Fin 1) r (0 : Fin 1) (0 : Fin 1) (row j r) (1 : Fin 2) rfl (by show 512 * j.val + r.val = _; omega) rfl).trans (hS.dr _ _ _)
      · refine congrArg (fun x : ℝ => (x : EReal)) ?_
        rw [DR_done G (le_refl 1024) 1 j E (Nat.lt_succ_self _) hz, DR_todo G E (Or.inl (by show 512 * j.val ≤ 512 * j.val + r.val; omega))]
    · refine (put3 (a := 1) (b := 512) (c := 1) arg15.view g15 (k0_off11_eq i k) _ _ [] (fun _ i h => ((if h.val = 0 then DR G E (j.val + 1) i h else DR G E j.val i h : ℝ) : EReal)) (fun a r b u x z hu hx hz' => ?_) (fun u x z hxz => ?_) u x z).trans ?_
      · obtain rfl : a = 0 := Subsingleton.elim _ _
        obtain rfl : b = 0 := Subsingleton.elim _ _
        obtain rfl : x = row j r := Fin.ext (by show x.val = 512 * j.val + r.val; omega)
        obtain rfl : z = 0 := Fin.ext hz'
        refine (dr_L0 H0 hf (fun r => DR G E j.val (row j r) 0) (fun r => ?_) r).trans ?_
        · exact (ld3 arg15.view g15 (k0_off11_eq i k) _ (0 : Fin 1) r (0 : Fin 1) (0 : Fin 1) (row j r) (0 : Fin 2) rfl (by show 512 * j.val + r.val = _; omega) rfl).trans (hS.dr _ _ _)
        · refine congrArg (fun x : ℝ => (x : EReal)) (Eq.trans ?_ (if_pos rfl).symm)
          rw [DR_done G (le_refl 1024) 0 j E (Nat.lt_succ_self _) hz, DR_todo G E (Or.inl (by show 512 * j.val ≤ 512 * j.val + r.val; omega))]
      · refine (hS.dr u x z).trans (congrArg (fun x : ℝ => (x : EReal)) ?_)
        split
        · exact (DR_keep G E (by omega) z).symm
        · rfl
      · refine congrArg (fun x : ℝ => (x : EReal)) ?_
        split
        · rfl
        · exact (DR_keep G E (by omega) z).symm

end Cert.FlashBwdIdeal.Flash
-- ==== Proof.FlashStraight.lean ====
module

public import proofs.«01_k».proof.Proof.FlashTrip

@[expose] public section

set_option maxRecDepth 16384

noncomputable section

namespace Cert.FlashBwdIdeal.Flash

open Idealize.ShloMosaic Idealize.ShloMosaic.Tactic
open Cert.FlashBwdIdeal.Gen

theorem St.cast {G : Grp} {D : Fin 8192 → Fin 128 → ℝ} {E : Fin 8192 → Fin 2 → ℝ} {c c' : ℕ} {y11 y12 y13 y14 y15} (h : c = c') (hS : St G D E c y11 y12 y13 y14 y15) : St G D E c' y11 y12 y13 y14 y15 := h ▸ hS

theorem trips_eq : ∀ i : grid0.Coords, (k0_t1_loop i).trips = 14 - 2 * (i 1).val := by decide +kernel

theorem word0 : ∀ i : grid0.Coords, run.sl.v12 i = BitVec.ofNat 32 (2 * (i 1).val) := by decide +kernel

theorem word1 : ∀ i : grid0.Coords, run.sl.v195 i = BitVec.ofNat 32 (2 * (i 1).val + 1) := by decide +kernel

set_option maxHeartbeats 1000000 in
/-- The loop's trips add the remaining chunks one after the other. -/
theorem loop_trips {G : Grp} {D : Fin 8192 → Fin 128 → ℝ} {E : Fin 8192 → Fin 2 → ℝ} (𝒱 : Variants) (c : Dev nD) (bd : Option 𝒱.V) (i : grid0.Coords)   (arg2 : Memref sig .tc .vmem S8192x128 .bf16) (harg2 : arg2.IsWhole) (arg3 : Memref sig .tc .vmem S128x8192 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x2x1024 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S1x8192x6 .f32) (harg10 : arg10.IsWhole) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (w : BitVec 32) (g11 : BufTy.Contents (Elt Ideal) arg11.view.ty) (g12 : BufTy.Contents (Elt Ideal) arg12.view.ty) (g13 : BufTy.Contents (Elt Ideal) arg13.view.ty) (g14 : BufTy.Contents (Elt Ideal) arg14.view.ty) (g15 : BufTy.Contents (Elt Ideal) arg15.view.ty) (hi : (i 1).val = G.kt) (hX : Rd G (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)) (hS : St G D E (2 * G.kt + 2) (arg11.view.read (Elt Ideal) g11) (arg12.view.read (Elt Ideal) g12) (arg13.view.read (Elt Ideal) g13) (arg14.view.read (Elt Ideal) g14) (arg15.view.read (Elt Ideal) g15)) :
    ∀ m : ℕ, m ≤ (k0_t1_loop i).trips → St G D E (2 * G.kt + 2 + m) (arg11.view.read (Elt Ideal) (arg11.view.writes (Elt Ideal) g11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 w X2 X3 X4 X5 X6 X7 X8 X9 X10 g11 g12 g13 g14 g15 m).1)) (arg12.view.read (Elt Ideal) (arg12.view.writes (Elt Ideal) g12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 w X2 X3 X4 X5 X6 X7 X8 X9 X10 g11 g12 g13 g14 g15 m).2.1)) (arg13.view.read (Elt Ideal) (arg13.view.writes (Elt Ideal) g13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 w X2 X3 X4 X5 X6 X7 X8 X9 X10 g11 g12 g13 g14 g15 m).2.2.1)) (arg14.view.read (Elt Ideal) (arg14.view.writes (Elt Ideal) g14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 w X2 X3 X4 X5 X6 X7 X8 X9 X10 g11 g12 g13 g14 g15 m).2.2.2.1)) (arg15.view.read (Elt Ideal) (arg15.view.writes (Elt Ideal) g15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 w X2 X3 X4 X5 X6 X7 X8 X9 X10 g11 g12 g13 g14 g15 m).2.2.2.2)) := by
  intro m
  induction m with
  | zero => intro _; exact hS
  | succ m ih =>
    intro hm
    have hk := G.hk
    have ht := trips_eq i
    have step := trip_step 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 w ⟨m, hm⟩ _ _ _ _ _ hi ⟨2 * G.kt + 2 + m, by omega⟩ rfl hX (ih (by omega))
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 w X2 X3 X4 X5 X6 X7 X8 X9 X10 g11 g12 g13 g14 g15 ⟨m, hm⟩
    dsimp only at e
    rw [e]
    dsimp only
    rw [View.writes_append, View.writes_append, View.writes_append, View.writes_append, View.writes_append]
    exact step

theorem read_congr {sg : RefSig} {κ : Kind} {sp : Space} {A B : ℕ} {e : EltTy} {Val : EltTy → Type} (v : View sg κ sp ⟨2, ![A, B]⟩ e) {f f' : v.ty.Contents Val}
    (h : ∀ (l : Fin A) (y : Fin B), v.read Val f (ix2 l y) = v.read Val f' (ix2 l y)) (L : List (View.Piece Val ⟨2, ![A, B]⟩ e)) : v.read Val (v.writes Val f L) = v.read Val (v.writes Val f' L) := by
  funext y
  by_cases hc : ∃ p ∈ L, y ∈ p.1.set
  · exact View.read_writes_apply_eq v f v f' y L hc
  · have hn : ∀ p ∈ L, y ∉ p.1.set := fun p hp hy => hc ⟨p, hp, hy⟩
    rw [View.read_writes_apply_of_forall_not_mem v f y L hn, View.read_writes_apply_of_forall_not_mem v f' y L hn]
    have e : y = ix2 (y 0) (y 1) := funext fun a => by fin_cases a <;> rfl
    rw [e]
    exact h _ _

theorem loop_all {G : Grp} {D : Fin 8192 → Fin 128 → ℝ} {E : Fin 8192 → Fin 2 → ℝ} (𝒱 : Variants) (c : Dev nD) (bd : Option 𝒱.V) (i : grid0.Coords)   (arg2 : Memref sig .tc .vmem S8192x128 .bf16) (harg2 : arg2.IsWhole) (arg3 : Memref sig .tc .vmem S128x8192 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x2x1024 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S1x8192x6 .f32) (harg10 : arg10.IsWhole) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (w : BitVec 32) (g11 : BufTy.Contents (Elt Ideal) arg11.view.ty) (g12 : BufTy.Contents (Elt Ideal) arg12.view.ty) (g13 : BufTy.Contents (Elt Ideal) arg13.view.ty) (g14 : BufTy.Contents (Elt Ideal) arg14.view.ty) (g15 : BufTy.Contents (Elt Ideal) arg15.view.ty) (m : ℕ) (hm : m = (k0_t1_loop i).trips)
    (f12 : BufTy.Contents (Elt Ideal) arg12.view.ty) (f13 : BufTy.Contents (Elt Ideal) arg13.view.ty) (h12 : ∀ (l : Fin 128) (y : Fin 1024), arg12.view.read (Elt Ideal) f12 (ix2 l y) = arg12.view.read (Elt Ideal) g12 (ix2 l y))
    (h13 : ∀ (l : Fin 128) (y : Fin 1024), arg13.view.read (Elt Ideal) f13 (ix2 l y) = arg13.view.read (Elt Ideal) g13 (ix2 l y)) (hi : (i 1).val = G.kt) (hX : Rd G (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)) (hS : St G D E (2 * G.kt + 2) (arg11.view.read (Elt Ideal) g11) (arg12.view.read (Elt Ideal) g12) (arg13.view.read (Elt Ideal) g13) (arg14.view.read (Elt Ideal) g14) (arg15.view.read (Elt Ideal) g15)) :
    St G D E (16) (arg11.view.read (Elt Ideal) (arg11.view.writes (Elt Ideal) g11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 w X2 X3 X4 X5 X6 X7 X8 X9 X10 g11 g12 g13 g14 g15 m).1)) (arg12.view.read (Elt Ideal) (arg12.view.writes (Elt Ideal) f12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 w X2 X3 X4 X5 X6 X7 X8 X9 X10 g11 g12 g13 g14 g15 m).2.1)) (arg13.view.read (Elt Ideal) (arg13.view.writes (Elt Ideal) f13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 w X2 X3 X4 X5 X6 X7 X8 X9 X10 g11 g12 g13 g14 g15 m).2.2.1)) (arg14.view.read (Elt Ideal) (arg14.view.writes (Elt Ideal) g14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 w X2 X3 X4 X5 X6 X7 X8 X9 X10 g11 g12 g13 g14 g15 m).2.2.2.1)) (arg15.view.read (Elt Ideal) (arg15.view.writes (Elt Ideal) g15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 w X2 X3 X4 X5 X6 X7 X8 X9 X10 g11 g12 g13 g14 g15 m).2.2.2.2)) := by
  rw [read_congr arg12.view h12, read_congr arg13.view h13]
  exact St.cast (by have := trips_eq i; have := G.hk; omega) (loop_trips 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 w g11 g12 g13 g14 g15 hi hX hS m (le_of_eq hm))

set_option maxHeartbeats 1200000 in
/-- The two chunks worked off before the loop, the first of them against the first half of the keys only. -/
theorem straight {G : Grp} {D : Fin 8192 → Fin 128 → ℝ} {E : Fin 8192 → Fin 2 → ℝ} (c : Dev nD) (i : grid0.Coords) (arg2 : Memref sig .tc .vmem S8192x128 .bf16) (harg2 : arg2.IsWhole) (arg3 : Memref sig .tc .vmem S128x8192 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x2x1024 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S1x8192x6 .f32) (harg10 : arg10.IsWhole) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (g11 : BufTy.Contents (Elt Ideal) arg11.view.ty) (g12 : BufTy.Contents (Elt Ideal) arg12.view.ty) (g13 : BufTy.Contents (Elt Ideal) arg13.view.ty) (g14 : BufTy.Contents (Elt Ideal) arg14.view.ty) (g15 : BufTy.Contents (Elt Ideal) arg15.view.ty) (f12 : BufTy.Contents (Elt Ideal) arg12.view.ty) (f13 : BufTy.Contents (Elt Ideal) arg13.view.ty) (hi : (i 1).val = G.kt) (hX : Rd G (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)) (hS : St G D E (2 * G.kt) (arg11.view.read (Elt Ideal) g11) (arg12.view.read (Elt Ideal) g12) (arg13.view.read (Elt Ideal) g13) (arg14.view.read (Elt Ideal) g14) (arg15.view.read (Elt Ideal) g15)) :
    St G D E (16) (arg11.view.read (Elt Ideal) (arg11.view.writes (Elt Ideal) g11 ((run (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10).1 g11 g12 g13 g14 g15))) (arg12.view.read (Elt Ideal) (arg12.view.writes (Elt Ideal) f12 ((run (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10).2.1 g11 g12 g13 g14 g15))) (arg13.view.read (Elt Ideal) (arg13.view.writes (Elt Ideal) f13 ((run (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10).2.2.1 g11 g12 g13 g14 g15))) (arg14.view.read (Elt Ideal) (arg14.view.writes (Elt Ideal) g14 ((run (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10).2.2.2.1 g11 g12 g13 g14 g15))) (arg15.view.read (Elt Ideal) (arg15.view.writes (Elt Ideal) g15 ((run (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10).2.2.2.2.1 g11 g12 g13 g14 g15))) := by
  have hk := G.hk
  obtain ⟨j0, hj0⟩ : ∃ j : Fin 16, j = ⟨2 * G.kt, by omega⟩ := ⟨_, rfl⟩
  obtain ⟨j1, hj1⟩ : ∃ j : Fin 16, j = ⟨2 * G.kt + 1, by omega⟩ := ⟨_, rfl⟩
  have e0 : j0.val = 2 * G.kt := by rw [hj0]
  have e1 : j1.val = j0.val + 1 := by rw [hj0, hj1]
  have hI : BitVec.ofNat 32 (i 1).val = BitVec.ofNat 32 G.kt := by rw [hi]
  have hJ0 : run.sl.v12 i = BitVec.ofNat 32 j0.val := by rw [word0, hi, e0]
  have hJ1 : run.sl.v195 i = BitVec.ofNat 32 j1.val := by rw [word1, hi, e1, e0]
  have hb0 : 1024 * (i 1).val = 512 * j0.val := by omega
  have hb1 : 1024 * (i 1).val + 512 = 512 * j1.val := by omega
  have hz0 : ∀ (r : Fin 512) (y : Fin 1024), 512 ≤ y.val → 512 * j0.val + r.val < 1024 * G.kt + y.val := fun r y hy => by omega
  have hz1 : ∀ (r : Fin 512) (y : Fin 1024), 1024 ≤ y.val → 512 * j1.val + r.val < 1024 * G.kt + y.val := fun r y hy => by omega
  have p10 : k0_off1 i 0#32 = ![0, 1024 * (i 1).val, 0] := k0_off1_eq i 0
  have p11 : k0_off1 i 1#32 = ![0, 1024 * (i 1).val + 512, 0] := k0_off1_eq i 1
  have p20 : k0_off2 i 0#32 = ![1024 * (i 1).val, 0] := k0_off2_eq i 0
  have p21 : k0_off2 i 1#32 = ![1024 * (i 1).val + 512, 0] := k0_off2_eq i 1
  have p30 : k0_off3 i 0#32 = ![0, 1024 * (i 1).val] := k0_off3_eq i 0
  have p31 : k0_off3 i 1#32 = ![0, 1024 * (i 1).val + 512] := k0_off3_eq i 1
  have p40 : k0_off4 i 0#32 = ![0, 1024 * (i 1).val, 0] := k0_off4_eq i 0
  have p41 : k0_off4 i 1#32 = ![0, 1024 * (i 1).val + 512, 0] := k0_off4_eq i 1
  have p50 : k0_off5 i 0#32 = ![1024 * (i 1).val, 64] := k0_off5_eq i 0
  have p51 : k0_off5 i 1#32 = ![1024 * (i 1).val + 512, 64] := k0_off5_eq i 1
  have p60 : k0_off6 i 0#32 = ![64, 1024 * (i 1).val] := k0_off6_eq i 0
  have p61 : k0_off6 i 1#32 = ![64, 1024 * (i 1).val + 512] := k0_off6_eq i 1
  have p70 : k0_off7 i 0#32 = ![0, 1024 * (i 1).val, 1] := k0_off7_eq i 0
  have p71 : k0_off7 i 1#32 = ![0, 1024 * (i 1).val + 512, 1] := k0_off7_eq i 1
  have A0 := holds hX (by decide : 512 ≤ 1024) 0 j0 hb0 (oh := ![0, 0]) (okt := ![0, 0]) (oct := ![0, 0, 0]) p20 p30 rfl rfl rfl p10 (k0_off2_inb i 0) (k0_off2_inb i 0) (k0_off3_inb i 0) (k0_off3_inb i 0) (by decide) (by decide) (by decide) (by decide) (k0_off1_inb i 0)
  have A1 := holds hX (by decide : 512 ≤ 1024) 1 j0 hb0 (oh := ![0, 64]) (okt := ![64, 0]) (oct := ![0, 1, 0]) p50 p60 rfl rfl rfl p10 (k0_off5_inb i 0) (k0_off5_inb i 0) (k0_off6_inb i 0) (k0_off6_inb i 0) (by decide) (by decide) (by decide) (by decide) (k0_off1_inb i 0)
  have B0 := holds hX (le_refl 1024) 0 j1 hb1 (oh := ![0, 0]) (okt := ![0, 0]) (oct := ![0, 0, 0]) p21 p31 rfl rfl rfl p11 (k0_off2_inb i 1) (k0_off2_inb i 1) (k0_off3_inb i 1) (k0_off3_inb i 1) (by decide) (by decide) (by decide) (by decide) (k0_off1_inb i 1)
  have B1 := holds hX (le_refl 1024) 1 j1 hb1 (oh := ![0, 64]) (okt := ![64, 0]) (oct := ![0, 1, 0]) p51 p61 rfl rfl rfl p11 (k0_off5_inb i 1) (k0_off5_inb i 1) (k0_off6_inb i 1) (k0_off6_inb i 1) (by decide) (by decide) (by decide) (by decide) (k0_off1_inb i 1)
  rw [← e0] at hS
  have h12 : ∀ l y, arg12.view.read (Elt Ideal) (arg12.view.writes (Elt Ideal) g12 (run.sl.H12_2 (F := Ideal) i arg2 arg3 arg5 arg6 arg7 arg8 arg10 arg12 X2 X3 X5 X6 X7 X8 X10 g12)) (ix2 l y) = ((DK G (j0.val + 1) l y : ℝ) : EReal) := by
    unfold run.sl.H12_2
    refine put2 (a := 64) (b := 512) arg12.view g12 (o0 := 64) (o1 := 0) rfl _ _ _ (fun l y => ((DK G (j0.val + 1) l y : ℝ) : EReal)) (fun l y x z hx hz' => ?_) (fun x z hxz => ?_)
    · obtain rfl : x = lane 1 l := Fin.ext hx
      obtain rfl : z = wid (by decide : 512 ≤ 1024) y := Fin.ext (hz'.trans (Nat.zero_add _))
      refine (dk_A1 A1 hI hJ0 (fun l y => DK G j0.val (lane 1 l) (wid (by decide : 512 ≤ 1024) y)) (fun l y => ?_) l y).trans ?_
      · exact (ld2 arg12.view g12 (o0 := 64) (o1 := 0) rfl _ l y (lane 1 l) (wid (by decide : 512 ≤ 1024) y) rfl (Nat.zero_add _).symm).trans (hS.dk _ _)
      · exact congrArg (fun x : ℝ => (x : EReal)) (DK_step G (by decide : 512 ≤ 1024) 1 j0 l y).symm
    · refine Eq.trans (b := ((if x.val < 64 then DK G (j0.val + 1) x z else DK G j0.val x z : ℝ) : EReal)) ?_ ?_
      · clear hxz; revert x z
        refine put2 (a := 64) (b := 512) arg12.view g12 (o0 := 0) (o1 := 0) rfl _ _ _ (fun l y => ((if l.val < 64 then DK G (j0.val + 1) l y else DK G j0.val l y : ℝ) : EReal)) (fun l y x z hx hz' => ?_) (fun x z hxz => ?_)
        · obtain rfl : x = lane 0 l := Fin.ext (by show x.val = 64 * 0 + l.val; omega)
          obtain rfl : z = wid (by decide : 512 ≤ 1024) y := Fin.ext (hz'.trans (Nat.zero_add _))
          refine (dk_A0 A0 hI hJ0 (fun l y => DK G j0.val (lane 0 l) (wid (by decide : 512 ≤ 1024) y)) (fun l y => ?_) l y).trans ?_
          · exact (ld2 arg12.view g12 (o0 := 0) (o1 := 0) rfl _ l y (lane 0 l) (wid (by decide : 512 ≤ 1024) y) (by show 64 * 0 + l.val = _; omega) (Nat.zero_add _).symm).trans (hS.dk _ _)
          · exact congrArg (fun x : ℝ => (x : EReal)) ((DK_step G (by decide : 512 ≤ 1024) 0 j0 l y).symm.trans (if_pos (by show 64 * 0 + l.val < 64; omega)).symm)
        · refine (hS.dk x z).trans (congrArg (fun x : ℝ => (x : EReal)) ?_)
          by_cases hl : x.val < 64
          · refine Eq.trans ?_ (if_pos hl).symm
            exact (DK_skip G j0 x z (by omega)).symm
          · exact (if_neg hl).symm
      · by_cases hl : x.val < 64
        · exact congrArg (fun x : ℝ => (x : EReal)) (if_pos hl)
        · refine congrArg (fun x : ℝ => (x : EReal)) ((if_neg hl).trans ?_)
          exact (DK_skip G j0 x z (by omega)).symm
  have h12' : ∀ l y, arg12.view.read (Elt Ideal) (arg12.view.writes (Elt Ideal) g12 (run.sl.H12_2 (F := Ideal) i arg2 arg3 arg5 arg6 arg7 arg8 arg10 arg12 X2 X3 X5 X6 X7 X8 X10 g12)) (ix2 l y) = ((DK G j1.val l y : ℝ) : EReal) := by rw [e1]; exact h12
  have k12 : ∀ l y, arg12.view.read (Elt Ideal) (arg12.view.writes (Elt Ideal) g12 (run.sl.H12_3 (F := Ideal) i arg2 arg3 arg5 arg6 arg7 arg8 arg10 arg12 X2 X3 X5 X6 X7 X8 X10 g12)) (ix2 l y) = ((if l.val < 64 then DK G (j1.val + 1) l y else DK G j1.val l y : ℝ) : EReal) := by
    unfold run.sl.H12_3
    refine put2 (a := 64) (b := 1024) arg12.view g12 (o0 := 0) (o1 := 0) rfl _ _ _ (fun l y => ((if l.val < 64 then DK G (j1.val + 1) l y else DK G j1.val l y : ℝ) : EReal)) (fun l y x z hx hz' => ?_) (fun x z hxz => ?_)
    · obtain rfl : x = lane 0 l := Fin.ext (by show x.val = 64 * 0 + l.val; omega)
      obtain rfl : z = wid (le_refl 1024) y := Fin.ext (hz'.trans (Nat.zero_add _))
      refine (dk_B0 B0 hI hJ1 (fun l y => DK G j1.val (lane 0 l) (wid (le_refl 1024) y)) (fun l y => ?_) l y).trans ?_
      · exact (ld2 arg12.view _ (o0 := 0) (o1 := 0) rfl _ l y (lane 0 l) (wid (le_refl 1024) y) (by show 64 * 0 + l.val = _; omega) (Nat.zero_add _).symm).trans (h12' _ _)
      · exact congrArg (fun x : ℝ => (x : EReal)) ((DK_step G (le_refl 1024) 0 j1 l y).symm.trans (if_pos (by show 64 * 0 + l.val < 64; omega)).symm)
    · refine (h12' x z).trans (congrArg (fun x : ℝ => (x : EReal)) ?_)
      by_cases hl : x.val < 64
      · refine Eq.trans ?_ (if_pos hl).symm
        exact absurd hxz (by omega)
      · exact (if_neg hl).symm
  have m12 : ∀ (f : BufTy.Contents (Elt Ideal) arg12.view.ty) (l : Fin 128) (y : Fin 1024), arg12.view.read (Elt Ideal) (arg12.view.writes (Elt Ideal) f (run.sl.H12_4 (F := Ideal) i arg2 arg3 arg5 arg6 arg7 arg8 arg10 arg12 X2 X3 X5 X6 X7 X8 X10 g12)) (ix2 l y) = ((DK G (j1.val + 1) l y : ℝ) : EReal) := by
    intro f
    unfold run.sl.H12_4
    refine put2 (a := 64) (b := 1024) arg12.view f (o0 := 64) (o1 := 0) rfl _ _ _ (fun l y => ((DK G (j1.val + 1) l y : ℝ) : EReal)) (fun l y x z hx hz' => ?_) (fun x z hxz => ?_)
    · obtain rfl : x = lane 1 l := Fin.ext hx
      obtain rfl : z = wid (le_refl 1024) y := Fin.ext (hz'.trans (Nat.zero_add _))
      refine (dk_B1 B1 hI hJ1 (fun l y => DK G j1.val (lane 1 l) (wid (le_refl 1024) y)) (fun l y => ?_) l y).trans ?_
      · exact (ld2 arg12.view _ (o0 := 64) (o1 := 0) rfl _ l y (lane 1 l) (wid (le_refl 1024) y) rfl (Nat.zero_add _).symm).trans (k12 _ _ |>.trans (congrArg (fun x : ℝ => (x : EReal)) (if_neg (by show ¬ 64 * 1 + l.val < 64; omega))))
      · exact congrArg (fun x : ℝ => (x : EReal)) (DK_step G (le_refl 1024) 1 j1 l y).symm
    · have hl : x.val < 64 := by omega
      refine Eq.trans (b := (if x.val < 64 then ((DK G (j1.val + 1) x z : ℝ) : EReal) else arg12.view.read (Elt Ideal) (arg12.view.writes (Elt Ideal) f (run.sl.H12_2 (F := Ideal) i arg2 arg3 arg5 arg6 arg7 arg8 arg10 arg12 X2 X3 X5 X6 X7 X8 X10 g12)) (ix2 x z))) ?_ (if_pos hl)
      clear hxz hl; revert x z
      unfold run.sl.H12_3
      refine put2 (a := 64) (b := 1024) arg12.view f (o0 := 0) (o1 := 0) rfl _ _ _ (fun l y => (if l.val < 64 then ((DK G (j1.val + 1) l y : ℝ) : EReal) else arg12.view.read (Elt Ideal) (arg12.view.writes (Elt Ideal) f (run.sl.H12_2 (F := Ideal) i arg2 arg3 arg5 arg6 arg7 arg8 arg10 arg12 X2 X3 X5 X6 X7 X8 X10 g12)) (ix2 l y))) (fun l y x z hx hz' => ?_) (fun x z hxz => ?_)
      · obtain rfl : x = lane 0 l := Fin.ext (by show x.val = 64 * 0 + l.val; omega)
        obtain rfl : z = wid (le_refl 1024) y := Fin.ext (hz'.trans (Nat.zero_add _))
        refine (dk_B0 B0 hI hJ1 (fun l y => DK G j1.val (lane 0 l) (wid (le_refl 1024) y)) (fun l y => ?_) l y).trans ?_
        · exact (ld2 arg12.view _ (o0 := 0) (o1 := 0) rfl _ l y (lane 0 l) (wid (le_refl 1024) y) (by show 64 * 0 + l.val = _; omega) (Nat.zero_add _).symm).trans (h12' _ _)
        · exact (congrArg (fun x : ℝ => (x : EReal)) (DK_step G (le_refl 1024) 0 j1 l y).symm).trans (if_pos (by show 64 * 0 + l.val < 64; omega)).symm
      · exact (if_neg (by omega)).symm
  have h13 : ∀ l y, arg13.view.read (Elt Ideal) (arg13.view.writes (Elt Ideal) g13 (run.sl.H13_2 (F := Ideal) i arg2 arg5 arg7 arg9 arg10 arg13 X2 X5 X7 X9 X10 g13)) (ix2 l y) = ((DV G (j0.val + 1) l y : ℝ) : EReal) := by
    unfold run.sl.H13_2
    refine put2 (a := 64) (b := 512) arg13.view g13 (o0 := 64) (o1 := 0) rfl _ _ _ (fun l y => ((DV G (j0.val + 1) l y : ℝ) : EReal)) (fun l y x z hx hz' => ?_) (fun x z hxz => ?_)
    · obtain rfl : x = lane 1 l := Fin.ext hx
      obtain rfl : z = wid (by decide : 512 ≤ 1024) y := Fin.ext (hz'.trans (Nat.zero_add _))
      refine (dv_A1 A1 hI hJ0 (fun l y => DV G j0.val (lane 1 l) (wid (by decide : 512 ≤ 1024) y)) (fun l y => ?_) l y).trans ?_
      · exact (ld2 arg13.view g13 (o0 := 64) (o1 := 0) rfl _ l y (lane 1 l) (wid (by decide : 512 ≤ 1024) y) rfl (Nat.zero_add _).symm).trans (hS.dv _ _)
      · exact congrArg (fun x : ℝ => (x : EReal)) (DV_step G (by decide : 512 ≤ 1024) 1 j0 l y).symm
    · refine Eq.trans (b := ((if x.val < 64 then DV G (j0.val + 1) x z else DV G j0.val x z : ℝ) : EReal)) ?_ ?_
      · clear hxz; revert x z
        refine put2 (a := 64) (b := 512) arg13.view g13 (o0 := 0) (o1 := 0) rfl _ _ _ (fun l y => ((if l.val < 64 then DV G (j0.val + 1) l y else DV G j0.val l y : ℝ) : EReal)) (fun l y x z hx hz' => ?_) (fun x z hxz => ?_)
        · obtain rfl : x = lane 0 l := Fin.ext (by show x.val = 64 * 0 + l.val; omega)
          obtain rfl : z = wid (by decide : 512 ≤ 1024) y := Fin.ext (hz'.trans (Nat.zero_add _))
          refine (dv_A0 A0 hI hJ0 (fun l y => DV G j0.val (lane 0 l) (wid (by decide : 512 ≤ 1024) y)) (fun l y => ?_) l y).trans ?_
          · exact (ld2 arg13.view g13 (o0 := 0) (o1 := 0) rfl _ l y (lane 0 l) (wid (by decide : 512 ≤ 1024) y) (by show 64 * 0 + l.val = _; omega) (Nat.zero_add _).symm).trans (hS.dv _ _)
          · exact congrArg (fun x : ℝ => (x : EReal)) ((DV_step G (by decide : 512 ≤ 1024) 0 j0 l y).symm.trans (if_pos (by show 64 * 0 + l.val < 64; omega)).symm)
        · refine (hS.dv x z).trans (congrArg (fun x : ℝ => (x : EReal)) ?_)
          by_cases hl : x.val < 64
          · refine Eq.trans ?_ (if_pos hl).symm
            exact (DV_skip G j0 x z (by omega)).symm
          · exact (if_neg hl).symm
      · by_cases hl : x.val < 64
        · exact congrArg (fun x : ℝ => (x : EReal)) (if_pos hl)
        · refine congrArg (fun x : ℝ => (x : EReal)) ((if_neg hl).trans ?_)
          exact (DV_skip G j0 x z (by omega)).symm
  have h13' : ∀ l y, arg13.view.read (Elt Ideal) (arg13.view.writes (Elt Ideal) g13 (run.sl.H13_2 (F := Ideal) i arg2 arg5 arg7 arg9 arg10 arg13 X2 X5 X7 X9 X10 g13)) (ix2 l y) = ((DV G j1.val l y : ℝ) : EReal) := by rw [e1]; exact h13
  have k13 : ∀ l y, arg13.view.read (Elt Ideal) (arg13.view.writes (Elt Ideal) g13 (run.sl.H13_3 (F := Ideal) i arg2 arg5 arg7 arg9 arg10 arg13 X2 X5 X7 X9 X10 g13)) (ix2 l y) = ((if l.val < 64 then DV G (j1.val + 1) l y else DV G j1.val l y : ℝ) : EReal) := by
    unfold run.sl.H13_3
    refine put2 (a := 64) (b := 1024) arg13.view g13 (o0 := 0) (o1 := 0) rfl _ _ _ (fun l y => ((if l.val < 64 then DV G (j1.val + 1) l y else DV G j1.val l y : ℝ) : EReal)) (fun l y x z hx hz' => ?_) (fun x z hxz => ?_)
    · obtain rfl : x = lane 0 l := Fin.ext (by show x.val = 64 * 0 + l.val; omega)
      obtain rfl : z = wid (le_refl 1024) y := Fin.ext (hz'.trans (Nat.zero_add _))
      refine (dv_B0 B0 hI hJ1 (fun l y => DV G j1.val (lane 0 l) (wid (le_refl 1024) y)) (fun l y => ?_) l y).trans ?_
      · exact (ld2 arg13.view _ (o0 := 0) (o1 := 0) rfl _ l y (lane 0 l) (wid (le_refl 1024) y) (by show 64 * 0 + l.val = _; omega) (Nat.zero_add _).symm).trans (h13' _ _)
      · exact congrArg (fun x : ℝ => (x : EReal)) ((DV_step G (le_refl 1024) 0 j1 l y).symm.trans (if_pos (by show 64 * 0 + l.val < 64; omega)).symm)
    · refine (h13' x z).trans (congrArg (fun x : ℝ => (x : EReal)) ?_)
      by_cases hl : x.val < 64
      · refine Eq.trans ?_ (if_pos hl).symm
        exact absurd hxz (by omega)
      · exact (if_neg hl).symm
  have m13 : ∀ (f : BufTy.Contents (Elt Ideal) arg13.view.ty) (l : Fin 128) (y : Fin 1024), arg13.view.read (Elt Ideal) (arg13.view.writes (Elt Ideal) f (run.sl.H13_4 (F := Ideal) i arg2 arg5 arg7 arg9 arg10 arg13 X2 X5 X7 X9 X10 g13)) (ix2 l y) = ((DV G (j1.val + 1) l y : ℝ) : EReal) := by
    intro f
    unfold run.sl.H13_4
    refine put2 (a := 64) (b := 1024) arg13.view f (o0 := 64) (o1 := 0) rfl _ _ _ (fun l y => ((DV G (j1.val + 1) l y : ℝ) : EReal)) (fun l y x z hx hz' => ?_) (fun x z hxz => ?_)
    · obtain rfl : x = lane 1 l := Fin.ext hx
      obtain rfl : z = wid (le_refl 1024) y := Fin.ext (hz'.trans (Nat.zero_add _))
      refine (dv_B1 B1 hI hJ1 (fun l y => DV G j1.val (lane 1 l) (wid (le_refl 1024) y)) (fun l y => ?_) l y).trans ?_
      · exact (ld2 arg13.view _ (o0 := 64) (o1 := 0) rfl _ l y (lane 1 l) (wid (le_refl 1024) y) rfl (Nat.zero_add _).symm).trans (k13 _ _ |>.trans (congrArg (fun x : ℝ => (x : EReal)) (if_neg (by show ¬ 64 * 1 + l.val < 64; omega))))
      · exact congrArg (fun x : ℝ => (x : EReal)) (DV_step G (le_refl 1024) 1 j1 l y).symm
    · have hl : x.val < 64 := by omega
      refine Eq.trans (b := (if x.val < 64 then ((DV G (j1.val + 1) x z : ℝ) : EReal) else arg13.view.read (Elt Ideal) (arg13.view.writes (Elt Ideal) f (run.sl.H13_2 (F := Ideal) i arg2 arg5 arg7 arg9 arg10 arg13 X2 X5 X7 X9 X10 g13)) (ix2 x z))) ?_ (if_pos hl)
      clear hxz hl; revert x z
      unfold run.sl.H13_3
      refine put2 (a := 64) (b := 1024) arg13.view f (o0 := 0) (o1 := 0) rfl _ _ _ (fun l y => (if l.val < 64 then ((DV G (j1.val + 1) l y : ℝ) : EReal) else arg13.view.read (Elt Ideal) (arg13.view.writes (Elt Ideal) f (run.sl.H13_2 (F := Ideal) i arg2 arg5 arg7 arg9 arg10 arg13 X2 X5 X7 X9 X10 g13)) (ix2 l y))) (fun l y x z hx hz' => ?_) (fun x z hxz => ?_)
      · obtain rfl : x = lane 0 l := Fin.ext (by show x.val = 64 * 0 + l.val; omega)
        obtain rfl : z = wid (le_refl 1024) y := Fin.ext (hz'.trans (Nat.zero_add _))
        refine (dv_B0 B0 hI hJ1 (fun l y => DV G j1.val (lane 0 l) (wid (le_refl 1024) y)) (fun l y => ?_) l y).trans ?_
        · exact (ld2 arg13.view _ (o0 := 0) (o1 := 0) rfl _ l y (lane 0 l) (wid (le_refl 1024) y) (by show 64 * 0 + l.val = _; omega) (Nat.zero_add _).symm).trans (h13' _ _)
        · exact (congrArg (fun x : ℝ => (x : EReal)) (DV_step G (le_refl 1024) 0 j1 l y).symm).trans (if_pos (by show 64 * 0 + l.val < 64; omega)).symm
      · exact (if_neg (by omega)).symm
  have h14 : ∀ (a : Fin 1) (h : Fin 8) (y : Fin 1024), arg14.view.read (Elt Ideal) (arg14.view.writes (Elt Ideal) g14 (run.sl.H14_2 (F := Ideal) i arg2 arg5 arg6 arg7 arg8 arg10 arg14 X2 X5 X6 X7 X8 X10 g14)) (ix3 a h y) = ((DC G (j0.val + 1) h y : ℝ) : EReal) := by
    unfold run.sl.H14_2
    refine put3 (a := 1) (b := 1) (c := 512) arg14.view g14 (o0 := 0) (o1 := 1) (o2 := 0) rfl _ _ _ (fun _ h y => ((DC G (j0.val + 1) h y : ℝ) : EReal)) (fun a b y u x z hu hx hz' => ?_) (fun u x z hxz => ?_)
    · obtain rfl : a = 0 := Subsingleton.elim _ _
      obtain rfl : b = 0 := Subsingleton.elim _ _
      obtain rfl : x = 1 := Fin.ext hx
      obtain rfl : z = wid (by decide : 512 ≤ 1024) y := Fin.ext (hz'.trans (Nat.zero_add _))
      refine (dc_A1 A1 hI hJ0 (fun y => DC G j0.val 1 (wid (by decide : 512 ≤ 1024) y)) (fun y => ?_) y).trans ?_
      · exact (ld3 arg14.view g14 (o0 := 0) (o1 := 1) (o2 := 0) rfl _ (0 : Fin 1) (0 : Fin 1) y (0 : Fin 1) (1 : Fin 8) (wid (by decide : 512 ≤ 1024) y) rfl rfl (Nat.zero_add _).symm).trans (hS.dc _ _ _)
      · exact congrArg (fun x : ℝ => (x : EReal)) (DC_step G (by decide : 512 ≤ 1024) 1 j0 y).symm
    · refine Eq.trans (b := ((if x.val = 0 then DC G (j0.val + 1) x z else DC G j0.val x z : ℝ) : EReal)) ?_ (congrArg (fun x : ℝ => (x : EReal)) ?_)
      · clear hxz; revert u x z
        refine put3 (a := 1) (b := 1) (c := 512) arg14.view g14 (o0 := 0) (o1 := 0) (o2 := 0) rfl _ _ _ (fun _ h y => ((if h.val = 0 then DC G (j0.val + 1) h y else DC G j0.val h y : ℝ) : EReal)) (fun a b y u x z hu hx hz' => ?_) (fun u x z hxz => ?_)
        · obtain rfl : a = 0 := Subsingleton.elim _ _
          obtain rfl : b = 0 := Subsingleton.elim _ _
          obtain rfl : x = 0 := Fin.ext hx
          obtain rfl : z = wid (by decide : 512 ≤ 1024) y := Fin.ext (hz'.trans (Nat.zero_add _))
          refine (dc_A0 A0 hI hJ0 (fun y => DC G j0.val 0 (wid (by decide : 512 ≤ 1024) y)) (fun y => ?_) y).trans ?_
          · exact (ld3 arg14.view g14 (o0 := 0) (o1 := 0) (o2 := 0) rfl _ (0 : Fin 1) (0 : Fin 1) y (0 : Fin 1) (0 : Fin 8) (wid (by decide : 512 ≤ 1024) y) rfl rfl (Nat.zero_add _).symm).trans (hS.dc _ _ _)
          · exact congrArg (fun x : ℝ => (x : EReal)) ((DC_step G (by decide : 512 ≤ 1024) 0 j0 y).symm.trans (if_pos rfl).symm)
        · refine (hS.dc u x z).trans (congrArg (fun x : ℝ => (x : EReal)) ?_)
          by_cases hl : x.val = 0
          · refine Eq.trans ?_ (if_pos hl).symm
            exact (DC_skip G j0 x z (by omega)).symm
          · exact (if_neg hl).symm
      · by_cases hl : x.val = 0
        · exact if_pos hl
        · refine (if_neg hl).trans ?_
          by_cases h2 : 2 ≤ x.val
          · exact (DC_rest G _ x z h2).trans (DC_rest G _ x z h2).symm
          · exact (DC_skip G j0 x z (by omega)).symm
  have h14' : ∀ (a : Fin 1) (h : Fin 8) (y : Fin 1024), arg14.view.read (Elt Ideal) (arg14.view.writes (Elt Ideal) g14 (run.sl.H14_2 (F := Ideal) i arg2 arg5 arg6 arg7 arg8 arg10 arg14 X2 X5 X6 X7 X8 X10 g14)) (ix3 a h y) = ((DC G j1.val h y : ℝ) : EReal) := by rw [e1]; exact h14
  have k14 : ∀ (a : Fin 1) (h : Fin 8) (y : Fin 1024), arg14.view.read (Elt Ideal) (arg14.view.writes (Elt Ideal) g14 (run.sl.H14_3 (F := Ideal) i arg2 arg5 arg6 arg7 arg8 arg10 arg14 X2 X5 X6 X7 X8 X10 g14)) (ix3 a h y) = ((if h.val = 0 then DC G (j1.val + 1) h y else DC G j1.val h y : ℝ) : EReal) := by
    unfold run.sl.H14_3
    refine put3 (a := 1) (b := 1) (c := 1024) arg14.view g14 (o0 := 0) (o1 := 0) (o2 := 0) rfl _ _ _ (fun _ h y => ((if h.val = 0 then DC G (j1.val + 1) h y else DC G j1.val h y : ℝ) : EReal)) (fun a b y u x z hu hx hz' => ?_) (fun u x z hxz => ?_)
    · obtain rfl : a = 0 := Subsingleton.elim _ _
      obtain rfl : b = 0 := Subsingleton.elim _ _
      obtain rfl : x = 0 := Fin.ext hx
      obtain rfl : z = wid (le_refl 1024) y := Fin.ext (hz'.trans (Nat.zero_add _))
      refine (dc_B0 B0 hI hJ1 (fun y => DC G j1.val 0 (wid (le_refl 1024) y)) (fun y => ?_) y).trans ?_
      · exact (ld3 arg14.view _ (o0 := 0) (o1 := 0) (o2 := 0) rfl _ (0 : Fin 1) (0 : Fin 1) y (0 : Fin 1) (0 : Fin 8) (wid (le_refl 1024) y) rfl rfl (Nat.zero_add _).symm).trans (h14' _ _ _)
      · exact congrArg (fun x : ℝ => (x : EReal)) ((DC_step G (le_refl 1024) 0 j1 y).symm.trans (if_pos rfl).symm)
    · refine (h14' u x z).trans (congrArg (fun x : ℝ => (x : EReal)) ?_)
      by_cases hl : x.val = 0
      · refine Eq.trans ?_ (if_pos hl).symm
        exact absurd hxz (by omega)
      · exact (if_neg hl).symm
  have hc : 2 * G.kt + 2 = j1.val + 1 := by omega
  unfold run
  dsimp only
  rw [View.writes_append, View.writes_append, View.writes_append, View.writes_append, View.writes_append]
  generalize hm : Scf.trips _ _ _ = m
  refine loop_all Variants.none c (@none Empty) i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 X10 _ _ _ _ _ _ m hm.symm _ _ (fun l y => (m12 _ l y).trans (m12 _ l y).symm) (fun l y => (m13 _ l y).trans (m13 _ l y).symm) hi hX ?_
  refine St.cast hc.symm ?_
  refine ⟨?_, ?_, ?_, ?_, ?_⟩
  · refine put2 (a := 512) (b := 64) arg11.view g11 p51 _ _ _ (fun i l => ((DQ G D (j1.val + 1) i l : ℝ) : EReal)) (fun r l x z hx hz' => ?_) (fun x z hxz => ?_)
    · obtain rfl : x = row j1 r := Fin.ext (by show x.val = 512 * j1.val + r.val; omega)
      obtain rfl : z = lane 1 l := Fin.ext hz'
      refine (dq_B1 B1 hI hJ1 (fun r l => D (row j1 r) (lane 1 l)) (fun r l => ?_) r l).trans ?_
      · refine (ld2 arg11.view g11 p51 _ r l (row j1 r) (lane 1 l) (by show 512 * j1.val + r.val = _; omega) rfl).trans ((hS.dq _ _).trans (congrArg (fun x : ℝ => (x : EReal)) ?_))
        exact DQ_todo G D (Or.inl (by show 512 * j0.val ≤ 512 * j1.val + r.val; omega)) _
      · exact congrArg (fun x : ℝ => (x : EReal)) (DQ_done G (le_refl 1024) 1 j1 D (Nat.lt_succ_self _) hz1 r l).symm
    · refine Eq.trans (b := ((if z.val < 64 then DQ G D (j1.val + 1) x z else DQ G D j1.val x z : ℝ) : EReal)) ?_ ?_
      · clear hxz; revert x z
        refine put2 (a := 512) (b := 64) arg11.view g11 p21 _ _ _ (fun i l => ((if l.val < 64 then DQ G D (j1.val + 1) i l else DQ G D j1.val i l : ℝ) : EReal)) (fun r l x z hx hz' => ?_) (fun x z hxz => ?_)
        · obtain rfl : x = row j1 r := Fin.ext (by show x.val = 512 * j1.val + r.val; omega)
          obtain rfl : z = lane 0 l := Fin.ext (by show z.val = 64 * 0 + l.val; omega)
          refine (dq_B0 B0 hI hJ1 (fun r l => D (row j1 r) (lane 0 l)) (fun r l => ?_) r l).trans ?_
          · refine (ld2 arg11.view g11 p21 _ r l (row j1 r) (lane 0 l) (by show 512 * j1.val + r.val = _; omega) (by show 64 * 0 + l.val = _; omega)).trans ((hS.dq _ _).trans (congrArg (fun x : ℝ => (x : EReal)) ?_))
            exact DQ_todo G D (Or.inl (by show 512 * j0.val ≤ 512 * j1.val + r.val; omega)) _
          · exact congrArg (fun x : ℝ => (x : EReal)) ((DQ_done G (le_refl 1024) 0 j1 D (Nat.lt_succ_self _) hz1 r l).symm.trans (if_pos (by show 64 * 0 + l.val < 64; omega)).symm)
        · refine Eq.trans (b := ((DQ G D j1.val x z : ℝ) : EReal)) ?_ (congrArg (fun x : ℝ => (x : EReal)) ?_)
          · clear hxz; revert x z
            rw [e1]
            refine put2 (a := 512) (b := 64) arg11.view g11 p50 _ _ _ (fun i l => ((DQ G D (j0.val + 1) i l : ℝ) : EReal)) (fun r l x z hx hz' => ?_) (fun x z hxz => ?_)
            · obtain rfl : x = row j0 r := Fin.ext (by show x.val = 512 * j0.val + r.val; omega)
              obtain rfl : z = lane 1 l := Fin.ext hz'
              refine (dq_A1 A1 hI hJ0 (fun r l => D (row j0 r) (lane 1 l)) (fun r l => ?_) r l).trans ?_
              · refine (ld2 arg11.view g11 p50 _ r l (row j0 r) (lane 1 l) (by show 512 * j0.val + r.val = _; omega) rfl).trans ((hS.dq _ _).trans (congrArg (fun x : ℝ => (x : EReal)) ?_))
                exact DQ_todo G D (Or.inl (by show 512 * j0.val ≤ 512 * j0.val + r.val; omega)) _
              · exact congrArg (fun x : ℝ => (x : EReal)) (DQ_done G (by decide : 512 ≤ 1024) 1 j0 D (Nat.lt_succ_self _) hz0 r l).symm
            · refine Eq.trans (b := ((if z.val < 64 then DQ G D (j0.val + 1) x z else DQ G D j0.val x z : ℝ) : EReal)) ?_ ?_
              · clear hxz; revert x z
                refine put2 (a := 512) (b := 64) arg11.view g11 p20 _ _ _ (fun i l => ((if l.val < 64 then DQ G D (j0.val + 1) i l else DQ G D j0.val i l : ℝ) : EReal)) (fun r l x z hx hz' => ?_) (fun x z hxz => ?_)
                · obtain rfl : x = row j0 r := Fin.ext (by show x.val = 512 * j0.val + r.val; omega)
                  obtain rfl : z = lane 0 l := Fin.ext (by show z.val = 64 * 0 + l.val; omega)
                  refine (dq_A0 A0 hI hJ0 (fun r l => D (row j0 r) (lane 0 l)) (fun r l => ?_) r l).trans ?_
                  · refine (ld2 arg11.view g11 p20 _ r l (row j0 r) (lane 0 l) (by show 512 * j0.val + r.val = _; omega) (by show 64 * 0 + l.val = _; omega)).trans ((hS.dq _ _).trans (congrArg (fun x : ℝ => (x : EReal)) ?_))
                    exact DQ_todo G D (Or.inl (by show 512 * j0.val ≤ 512 * j0.val + r.val; omega)) _
                  · exact congrArg (fun x : ℝ => (x : EReal)) ((DQ_done G (by decide : 512 ≤ 1024) 0 j0 D (Nat.lt_succ_self _) hz0 r l).symm.trans (if_pos (by show 64 * 0 + l.val < 64; omega)).symm)
                · refine Eq.trans (b := ((DQ G D j0.val x z : ℝ) : EReal)) ?_ (congrArg (fun x : ℝ => (x : EReal)) ?_)
                  · clear hxz; revert x z
                    exact hS.dq
                  · by_cases hl : z.val < 64
                    · exact (DQ_keep G D (by omega) z).symm.trans (if_pos hl).symm
                    · exact (if_neg hl).symm
              · refine congrArg (fun x : ℝ => (x : EReal)) ?_
                by_cases hl : z.val < 64
                · exact if_pos hl
                · exact (if_neg hl).trans (DQ_keep G D (by omega) z).symm
          · by_cases hl : z.val < 64
            · exact (DQ_keep G D (by omega) z).symm.trans (if_pos hl).symm
            · exact (if_neg hl).symm
      · refine congrArg (fun x : ℝ => (x : EReal)) ?_
        by_cases hl : z.val < 64
        · exact if_pos hl
        · exact (if_neg hl).trans (DQ_keep G D (by omega) z).symm
  · exact m12 _
  · exact m13 _
  · refine put3 (a := 1) (b := 1) (c := 1024) arg14.view g14 (o0 := 0) (o1 := 1) (o2 := 0) rfl _ _ _ (fun _ h y => ((DC G (j1.val + 1) h y : ℝ) : EReal)) (fun a b y u x z hu hx hz' => ?_) (fun u x z hxz => ?_)
    · obtain rfl : a = 0 := Subsingleton.elim _ _
      obtain rfl : b = 0 := Subsingleton.elim _ _
      obtain rfl : x = 1 := Fin.ext hx
      obtain rfl : z = wid (le_refl 1024) y := Fin.ext (hz'.trans (Nat.zero_add _))
      refine (dc_B1 B1 hI hJ1 (fun y => DC G j1.val 1 (wid (le_refl 1024) y)) (fun y => ?_) y).trans ?_
      · exact (ld3 arg14.view _ (o0 := 0) (o1 := 1) (o2 := 0) rfl _ (0 : Fin 1) (0 : Fin 1) y (0 : Fin 1) (1 : Fin 8) (wid (le_refl 1024) y) rfl rfl (Nat.zero_add _).symm).trans ((k14 _ _ _).trans (congrArg (fun x : ℝ => (x : EReal)) (if_neg (by decide))))
      · exact congrArg (fun x : ℝ => (x : EReal)) (DC_step G (le_refl 1024) 1 j1 y).symm
    · refine Eq.trans (b := ((if x.val = 0 then DC G (j1.val + 1) x z else DC G j1.val x z : ℝ) : EReal)) ?_ (congrArg (fun x : ℝ => (x : EReal)) ?_)
      · exact k14 u x z
      · by_cases hl : x.val = 0
        · exact if_pos hl
        · refine (if_neg hl).trans ?_
          by_cases h2 : 2 ≤ x.val
          · exact (DC_rest G _ x z h2).trans (DC_rest G _ x z h2).symm
          · exact absurd hxz (by omega)
  · refine put3 (a := 1) (b := 512) (c := 1) arg15.view g15 p71 _ _ _ (fun _ i h => ((DR G E (j1.val + 1) i h : ℝ) : EReal)) (fun a r b u x z hu hx hz' => ?_) (fun u x z hxz => ?_)
    · obtain rfl : a = 0 := Subsingleton.elim _ _
      obtain rfl : b = 0 := Subsingleton.elim _ _
      obtain rfl : x = row j1 r := Fin.ext (by show x.val = 512 * j1.val + r.val; omega)
      obtain rfl : z = 1 := Fin.ext hz'
      refine (dr_B1 B1 hI hJ1 (fun r => E (row j1 r) 1) (fun r => ?_) r).trans ?_
      · refine (ld3 arg15.view g15 p71 _ (0 : Fin 1) r (0 : Fin 1) (0 : Fin 1) (row j1 r) (1 : Fin 2) rfl (by show 512 * j1.val + r.val = _; omega) rfl).trans ((hS.dr _ _ _).trans (congrArg (fun x : ℝ => (x : EReal)) ?_))
        exact DR_todo G E (Or.inl (by show 512 * j0.val ≤ 512 * j1.val + r.val; omega)) _
      · exact congrArg (fun x : ℝ => (x : EReal)) (DR_done G (le_refl 1024) 1 j1 E (Nat.lt_succ_self _) hz1 r).symm
    · refine Eq.trans (b := ((if z.val = 0 then DR G E (j1.val + 1) x z else DR G E j1.val x z : ℝ) : EReal)) ?_ ?_
      · clear hxz; revert u x z
        refine put3 (a := 1) (b := 512) (c := 1) arg15.view g15 p41 _ _ _ (fun _ i h => ((if h.val = 0 then DR G E (j1.val + 1) i h else DR G E j1.val i h : ℝ) : EReal)) (fun a r b u x z hu hx hz' => ?_) (fun u x z hxz => ?_)
        · obtain rfl : a = 0 := Subsingleton.elim _ _
          obtain rfl : b = 0 := Subsingleton.elim _ _
          obtain rfl : x = row j1 r := Fin.ext (by show x.val = 512 * j1.val + r.val; omega)
          obtain rfl : z = 0 := Fin.ext hz'
          refine (dr_B0 B0 hI hJ1 (fun r => E (row j1 r) 0) (fun r => ?_) r).trans ?_
          · refine (ld3 arg15.view g15 p41 _ (0 : Fin 1) r (0 : Fin 1) (0 : Fin 1) (row j1 r) (0 : Fin 2) rfl (by show 512 * j1.val + r.val = _; omega) rfl).trans ((hS.dr _ _ _).trans (congrArg (fun x : ℝ => (x : EReal)) ?_))
            exact DR_todo G E (Or.inl (by show 512 * j0.val ≤ 512 * j1.val + r.val; omega)) _
          · exact congrArg (fun x : ℝ => (x : EReal)) ((DR_done G (le_refl 1024) 0 j1 E (Nat.lt_succ_self _) hz1 r).symm.trans (if_pos rfl).symm)
        · refine Eq.trans (b := ((DR G E j1.val x z : ℝ) : EReal)) ?_ (congrArg (fun x : ℝ => (x : EReal)) ?_)
          · clear hxz; revert u x z
            rw [e1]
            refine put3 (a := 1) (b := 512) (c := 1) arg15.view g15 p70 _ _ _ (fun _ i h => ((DR G E (j0.val + 1) i h : ℝ) : EReal)) (fun a r b u x z hu hx hz' => ?_) (fun u x z hxz => ?_)
            · obtain rfl : a = 0 := Subsingleton.elim _ _
              obtain rfl : b = 0 := Subsingleton.elim _ _
              obtain rfl : x = row j0 r := Fin.ext (by show x.val = 512 * j0.val + r.val; omega)
              obtain rfl : z = 1 := Fin.ext hz'
              refine (dr_A1 A1 hI hJ0 (fun r => E (row j0 r) 1) (fun r => ?_) r).trans ?_
              · refine (ld3 arg15.view g15 p70 _ (0 : Fin 1) r (0 : Fin 1) (0 : Fin 1) (row j0 r) (1 : Fin 2) rfl (by show 512 * j0.val + r.val = _; omega) rfl).trans ((hS.dr _ _ _).trans (congrArg (fun x : ℝ => (x : EReal)) ?_))
                exact DR_todo G E (Or.inl (by show 512 * j0.val ≤ 512 * j0.val + r.val; omega)) _
              · exact congrArg (fun x : ℝ => (x : EReal)) (DR_done G (by decide : 512 ≤ 1024) 1 j0 E (Nat.lt_succ_self _) hz0 r).symm
            · refine Eq.trans (b := ((if z.val = 0 then DR G E (j0.val + 1) x z else DR G E j0.val x z : ℝ) : EReal)) ?_ ?_
              · clear hxz; revert u x z
                refine put3 (a := 1) (b := 512) (c := 1) arg15.view g15 p40 _ _ _ (fun _ i h => ((if h.val = 0 then DR G E (j0.val + 1) i h else DR G E j0.val i h : ℝ) : EReal)) (fun a r b u x z hu hx hz' => ?_) (fun u x z hxz => ?_)
                · obtain rfl : a = 0 := Subsingleton.elim _ _
                  obtain rfl : b = 0 := Subsingleton.elim _ _
                  obtain rfl : x = row j0 r := Fin.ext (by show x.val = 512 * j0.val + r.val; omega)
                  obtain rfl : z = 0 := Fin.ext hz'
                  refine (dr_A0 A0 hI hJ0 (fun r => E (row j0 r) 0) (fun r => ?_) r).trans ?_
                  · refine (ld3 arg15.view g15 p40 _ (0 : Fin 1) r (0 : Fin 1) (0 : Fin 1) (row j0 r) (0 : Fin 2) rfl (by show 512 * j0.val + r.val = _; omega) rfl).trans ((hS.dr _ _ _).trans (congrArg (fun x : ℝ => (x : EReal)) ?_))
                    exact DR_todo G E (Or.inl (by show 512 * j0.val ≤ 512 * j0.val + r.val; omega)) _
                  · exact congrArg (fun x : ℝ => (x : EReal)) ((DR_done G (by decide : 512 ≤ 1024) 0 j0 E (Nat.lt_succ_self _) hz0 r).symm.trans (if_pos rfl).symm)
                · refine Eq.trans (b := ((DR G E j0.val x z : ℝ) : EReal)) ?_ (congrArg (fun x : ℝ => (x : EReal)) ?_)
                  · clear hxz; revert u x z
                    exact hS.dr
                  · by_cases hl : z.val = 0
                    · exact (DR_keep G E (by omega) z).symm.trans (if_pos hl).symm
                    · exact (if_neg hl).symm
              · refine congrArg (fun x : ℝ => (x : EReal)) ?_
                by_cases hl : z.val = 0
                · exact if_pos hl
                · exact (if_neg hl).trans (DR_keep G E (by omega) z).symm
          · by_cases hl : z.val = 0
            · exact (DR_keep G E (by omega) z).symm.trans (if_pos hl).symm
            · exact (if_neg hl).symm
      · refine congrArg (fun x : ℝ => (x : EReal)) ?_
        by_cases hl : z.val = 0
        · exact if_pos hl
        · exact (if_neg hl).trans (DR_keep G E (by omega) z).symm

end Cert.FlashBwdIdeal.Flash
-- ==== Proof.FlashOuts.lean ====
module

public import proofs.«01_k».proof.Proof.FlashFrame
public import proofs.«01_k».proof.Proof.FlashStraight
public import Idealize.ShloMosaic.Lib.Pipeline.ValueKit

@[expose] public section

set_option maxRecDepth 16384

noncomputable section

namespace Cert.FlashBwdIdeal.Flash

open Idealize.ShloMosaic Idealize.ShloMosaic.TcCoe Idealize.ShloMosaic.Tactic
open Idealize.ShloMosaic.Pipeline (Dat)
open Cert.FlashBwdIdeal.Gen

/-- The arrays the call reads, as real numbers: the four activations and the three row statistics. -/
structure Data where
  q : Fin 8192 → Fin 1024 → ℝ
  k : Fin 8192 → Fin 1024 → ℝ
  v : Fin 8192 → Fin 1024 → ℝ
  o : Fin 8192 → Fin 1024 → ℝ
  c : Fin 16 → Fin 8192 → ℝ
  l : Fin 16 → Fin 8192 → ℝ
  d : Fin 16 → Fin 8192 → ℝ

def chan (g : Fin 8) (l : Fin 128) : Fin 1024 := ⟨128 * g.val + l.val, by omega⟩
def key (b : Fin 8) (y : Fin 1024) : Fin 8192 := ⟨1024 * b.val + y.val, by omega⟩
def head (g : Fin 8) (h : Fin 2) : Fin 16 := ⟨2 * g.val + h.val, by omega⟩

def Data.stat (A : Data) (g : Fin 8) (i : Fin 8192) (s : Fin 6) : ℝ :=
  if h : s.val < 2 then A.c (head g ⟨s.val, h⟩) i
  else if h : s.val < 4 then A.l (head g ⟨s.val - 2, by omega⟩) i else A.d (head g ⟨s.val - 4, by omega⟩) i

/-- What one grid point works on: a pair of heads and a tile of keys. -/
def Data.grp (A : Data) (g b : Fin 8) : Grp where
  q i l := A.q i (chan g l)
  o i l := A.o i (chan g l)
  k y l := A.k (key b y) (chan g l)
  v y l := A.v (key b y) (chan g l)
  ck h y := A.c (head g h) (key b y)
  st i s := A.stat g i s
  kt := b.val
  hk := b.isLt

variable {m : (ℓ : Loc nD τ sig) → Buf (Elt Ideal) ℓ} {c : Dev nD} {A : Data}

/-- The arrays at the call's entry hold these numbers. -/
structure Host (m : (ℓ : Loc nD τ sig) → Buf (Elt Ideal) ℓ) (c : Dev nD) (A : Data) : Prop where
  q : ∀ i n, V m c main_v51 (ix2 i n) = ((A.q i n : ℝ) : EReal)
  qt : ∀ n i, V m c main_v53 (ix2 n i) = ((A.q i n : ℝ) : EReal)
  k : ∀ i n, V m c main_v54 (ix2 i n) = ((A.k i n : ℝ) : EReal)
  kt : ∀ n i, V m c main_v56 (ix2 n i) = ((A.k i n : ℝ) : EReal)
  vt : ∀ n i, V m c main_v58 (ix2 n i) = ((A.v i n : ℝ) : EReal)
  ck : ∀ g h i, V m c main_v43 (ix3 g h i) = ((A.c (head g h) i : ℝ) : EReal)
  o : ∀ i n, V m c main_v59 (ix2 i n) = ((A.o i n : ℝ) : EReal)
  ot : ∀ n i, V m c main_v61 (ix2 n i) = ((A.o i n : ℝ) : EReal)
  st : ∀ g i s, V m c main_v50 (ix3 g i s) = ((A.stat g i s : ℝ) : EReal)

theorem N_64 : cfg0.N = 64 := N_0

theorem idx : ∀ t : Fin cfg0.N, win0_0.index t = ![0, t.val / 8] ∧ win0_1.index t = ![t.val / 8, 0] ∧ win0_2.index t = ![t.val % 8, t.val / 8]
    ∧ win0_3.index t = ![t.val / 8, t.val % 8] ∧ win0_4.index t = ![t.val / 8, t.val % 8] ∧ win0_5.index t = ![t.val / 8, 0, t.val % 8]
    ∧ win0_6.index t = ![0, t.val / 8] ∧ win0_7.index t = ![t.val / 8, 0] ∧ win0_8.index t = ![t.val / 8, 0, 0]
    ∧ win0_9.index t = ![0, t.val / 8] ∧ win0_10.index t = ![t.val / 8, t.val % 8] ∧ win0_11.index t = ![t.val / 8, t.val % 8]
    ∧ win0_12.index t = ![t.val / 8, 0, t.val % 8] ∧ win0_13.index t = ![t.val / 8, 0, 0] ∧ (grid0.coords t 1).val = t.val % 8 ∧ t.val < 64 :=
  (by decide +kernel : ∀ t : Fin grid0.N, _)

section Blocks
variable (t : Fin cfg0.N) (g b : Fin 8) (hg : t.val / 8 = g.val) (hb : t.val % 8 = b.val)
include hg hb
theorem blk0 (f : Buf (Elt Ideal) ((c.tc : Thread nD τ).loc main_v51)) (i : Fin 8192) (l : Fin 128) : ((cfg0.win 0).blk t).view.read (Elt Ideal) f (ix2 i l) = f (ix2 i (chan g l)) := by
  have h := idx t
  rw [hg, hb] at h
  blk_simp [h]
  blk_ext [h, chan, key]
theorem blk1 (f : Buf (Elt Ideal) ((c.tc : Thread nD τ).loc main_v53)) (l : Fin 128) (i : Fin 8192) : ((cfg0.win 1).blk t).view.read (Elt Ideal) f (ix2 l i) = f (ix2 (chan g l) i) := by
  have h := idx t
  rw [hg, hb] at h
  blk_simp [h]
  blk_ext [h, chan, key]
theorem blk2 (f : Buf (Elt Ideal) ((c.tc : Thread nD τ).loc main_v54)) (y : Fin 1024) (l : Fin 128) : ((cfg0.win 2).blk t).view.read (Elt Ideal) f (ix2 y l) = f (ix2 (key b y) (chan g l)) := by
  have h := idx t
  rw [hg, hb] at h
  blk_simp [h]
  blk_ext [h, chan, key]
theorem blk3 (f : Buf (Elt Ideal) ((c.tc : Thread nD τ).loc main_v56)) (l : Fin 128) (y : Fin 1024) : ((cfg0.win 3).blk t).view.read (Elt Ideal) f (ix2 l y) = f (ix2 (chan g l) (key b y)) := by
  have h := idx t
  rw [hg, hb] at h
  blk_simp [h]
  blk_ext [h, chan, key]
theorem blk4 (f : Buf (Elt Ideal) ((c.tc : Thread nD τ).loc main_v58)) (l : Fin 128) (y : Fin 1024) : ((cfg0.win 4).blk t).view.read (Elt Ideal) f (ix2 l y) = f (ix2 (chan g l) (key b y)) := by
  have h := idx t
  rw [hg, hb] at h
  blk_simp [h]
  blk_ext [h, chan, key]
theorem blk5 (f : Buf (Elt Ideal) ((c.tc : Thread nD τ).loc main_v43)) (h : Fin 2) (y : Fin 1024) : ((cfg0.win 5).blk t).view.read (Elt Ideal) f (ix3 (0 : Fin 1) h y) = f (ix3 g h (key b y)) := by
  have h := idx t
  rw [hg, hb] at h
  blk_simp [h]
  blk_ext [h, chan, key]
theorem blk6 (f : Buf (Elt Ideal) ((c.tc : Thread nD τ).loc main_v59)) (i : Fin 8192) (l : Fin 128) : ((cfg0.win 6).blk t).view.read (Elt Ideal) f (ix2 i l) = f (ix2 i (chan g l)) := by
  have h := idx t
  rw [hg, hb] at h
  blk_simp [h]
  blk_ext [h, chan, key]
theorem blk7 (f : Buf (Elt Ideal) ((c.tc : Thread nD τ).loc main_v61)) (l : Fin 128) (i : Fin 8192) : ((cfg0.win 7).blk t).view.read (Elt Ideal) f (ix2 l i) = f (ix2 (chan g l) i) := by
  have h := idx t
  rw [hg, hb] at h
  blk_simp [h]
  blk_ext [h, chan, key]
theorem blk8 (f : Buf (Elt Ideal) ((c.tc : Thread nD τ).loc main_v50)) (i : Fin 8192) (s : Fin 6) : ((cfg0.win 8).blk t).view.read (Elt Ideal) f (ix3 (0 : Fin 1) i s) = f (ix3 g i s) := by
  have h := idx t
  rw [hg, hb] at h
  blk_simp [h]
  blk_ext [h, chan, key]
end Blocks

theorem rd (H : Host m c A) (t : Fin cfg0.N) (g b : Fin 8) (hg : t.val / 8 = g.val) (hb : t.val % 8 = b.val) :
    Rd (A.grp g b) (iblk m c 0 t) (iblk m c 1 t) (iblk m c 2 t) (iblk m c 3 t) (iblk m c 4 t) (iblk m c 5 t) (iblk m c 6 t) (iblk m c 7 t) (iblk m c 8 t) where
  q i l := (blk0 t g b hg hb (V m c main_v51) i l).trans (H.q i (chan g l))
  qt l i := (blk1 t g b hg hb (V m c main_v53) l i).trans (H.qt (chan g l) i)
  kk y l := (blk2 t g b hg hb (V m c main_v54) y l).trans (H.k (key b y) (chan g l))
  kt l y := (blk3 t g b hg hb (V m c main_v56) l y).trans (H.kt (chan g l) (key b y))
  vt l y := (blk4 t g b hg hb (V m c main_v58) l y).trans (H.vt (chan g l) (key b y))
  ck h y := (blk5 t g b hg hb (V m c main_v43) h y).trans (H.ck g h (key b y))
  o i l := (blk6 t g b hg hb (V m c main_v59) i l).trans (H.o i (chan g l))
  ot l i := (blk7 t g b hg hb (V m c main_v61) l i).trans (H.ot (chan g l) i)
  st i s := (blk8 t g b hg hb (V m c main_v50) i s).trans (H.st g i s)

/-- One grid point, from accumulators holding `D` and `E`. -/
theorem outAt_st (H : Host m c A) (t : Fin cfg0.N) (g b : Fin 8) (hg : t.val / 8 = g.val) (hb : t.val % 8 = b.val) {D : Fin 8192 → Fin 128 → ℝ} {E : Fin 8192 → Fin 2 → ℝ}
    (p9 : Vec Ideal S8192x128 .f32) (p13 : Vec Ideal S1x8192x2 .f32) (h9 : ∀ i l, p9 (ix2 i l) = ((D i l : ℝ) : EReal)) (h13 : ∀ a i h, p13 (ix3 a i h) = ((E i h : ℝ) : EReal)) :
    St (A.grp g b) D E 16 (outAt m c t p9 p13).1 (outAt m c t p9 p13).2.1 (outAt m c t p9 p13).2.2.1 (outAt m c t p9 p13).2.2.2.1 (outAt m c t p9 p13).2.2.2.2 := by
  have hX := rd H t g b hg hb
  have hS : St (A.grp g b) D E (2 * (A.grp g b).kt) p9 (k0_pay40 (F := Ideal)) (k0_pay41 (F := Ideal)) (k0_pay39 (F := Ideal)) p13 := by
    refine ⟨fun i l => (h9 i l).trans (congrArg (fun x : ℝ => (x : EReal)) (DQ_todo _ D (by omega) l).symm), fun l y => ?_, fun l y => ?_, fun a h y => ?_, fun a i h => (h13 a i h).trans (congrArg (fun x : ℝ => (x : EReal)) (DR_todo _ E (by omega) h).symm)⟩
    · rw [DK_start]; pointwise! [k0_pay40]
    · rw [DV_start]; pointwise! [k0_pay41]
    · rw [DC_start]; pointwise! [k0_pay39]
  refine straight (f12 := (st10 t).view.junk) (f13 := (st11 t).view.junk) (hi := (idx t).2.2.2.2.2.2.2.2.2.2.2.2.2.2.1.trans hb) (hX := ?_) (hS := ?_) ..
  · simp only [Memref.IsWhole.read_unread]; exact hX
  · simp only [Memref.IsWhole.read_unread]; exact hS

def qterm (A : Data) (g : Fin 8) (i : Fin 8192) (l : Fin 128) (n : ℕ) : ℝ := if h : n < 8 then ∑ y, (A.grp g ⟨n, h⟩).ds (hd l) i y * (A.grp g ⟨n, h⟩).k y l else 0
def rterm (A : Data) (g : Fin 8) (i : Fin 8192) (h : Fin 2) (n : ℕ) : ℝ := if hn : n < 8 then ∑ y, (A.grp g ⟨n, hn⟩).ds h i y else 0
/-- The query-side accumulators before key tile `n`. -/
def accQ (A : Data) (g : Fin 8) (n : ℕ) (i : Fin 8192) (l : Fin 128) : ℝ := ∑ x ∈ Finset.range n, qterm A g i l x
def accR (A : Data) (g : Fin 8) (n : ℕ) (i : Fin 8192) (h : Fin 2) : ℝ := ∑ x ∈ Finset.range n, rterm A g i h x

theorem accQ_succ (A : Data) (g b : Fin 8) (i : Fin 8192) (l : Fin 128) : DQ (A.grp g b) (accQ A g b.val) 16 i l = accQ A g (b.val + 1) i l := by
  rw [accQ, Finset.sum_range_succ, DQ, if_pos (by omega)]
  unfold qterm
  rw [dif_pos b.isLt]; rfl
theorem accR_succ (A : Data) (g b : Fin 8) (i : Fin 8192) (h : Fin 2) : DR (A.grp g b) (accR A g b.val) 16 i h = accR A g (b.val + 1) i h := by
  rw [accR, Finset.sum_range_succ, DR, if_pos (by omega)]
  unfold rterm
  rw [dif_pos b.isLt]; rfl

/-- Every grid point. -/
theorem outs_st (H : Host m c A) : ∀ (n : ℕ) (hn : n < cfg0.N) (g b : Fin 8), n / 8 = g.val → n % 8 = b.val →
    St (A.grp g b) (accQ A g b.val) (accR A g b.val) 16 (outs m c n hn).1 (outs m c n hn).2.1 (outs m c n hn).2.2.1 (outs m c n hn).2.2.2.1 (outs m c n hn).2.2.2.2 := by
  intro n
  induction n with
  | zero =>
    intro hn g b hg hb
    obtain rfl : b = 0 := Fin.ext hb.symm
    rw [outs_first m c ⟨0, hn⟩ rfl]
    refine outAt_st H ⟨0, hn⟩ g 0 hg hb _ _ (fun i l => ?_) (fun a i h => ?_)
    · pointwise! [k0_pay37]
    · pointwise! [k0_pay38]
  | succ n ih =>
    intro hn g b hg hb
    by_cases h0 : (n + 1) % 8 = 0
    · obtain rfl : b = 0 := Fin.ext (hb.symm.trans h0)
      rw [outs_first m c ⟨n + 1, hn⟩ h0]
      refine outAt_st H ⟨n + 1, hn⟩ g 0 hg hb _ _ (fun i l => ?_) (fun a i h => ?_)
      · pointwise! [k0_pay37]
      · pointwise! [k0_pay38]
    · have I := ih (Nat.lt_of_succ_lt hn) g ⟨n % 8, by omega⟩ (by omega) rfl
      have e : (⟨n % 8, by omega⟩ : Fin 8).val + 1 = b.val := by show n % 8 + 1 = _; omega
      rw [outs_next m c ⟨n + 1, hn⟩ h0]
      refine outAt_st H ⟨n + 1, hn⟩ g b hg hb _ _ (fun i l => ?_) (fun a i h => ?_)
      · exact (I.dq i l).trans (by rw [accQ_succ, e])
      · exact (I.dr a i h).trans (by rw [accR_succ, e])

end Cert.FlashBwdIdeal.Flash
-- ==== Proof.Att.lean ====
/- Causal attention with a forget-gate bias and its derivatives, over the reals. -/
module

public import proofs.«01_k».proof.Proof.Lift

@[expose] public section

noncomputable section

namespace Cert.Att

/-- Queries, keys, values, the gate's running sums and the output's cotangent. -/
structure In where
  q : Fin 8192 → Fin 1024 → ℝ
  k : Fin 8192 → Fin 1024 → ℝ
  v : Fin 8192 → Fin 1024 → ℝ
  c : Fin 16 → Fin 8192 → ℝ
  o : Fin 8192 → Fin 1024 → ℝ

def hc (h : Fin 16) (e : Fin 64) : Fin 1024 := ⟨64 * h.val + e.val, by omega⟩
def ho (n : Fin 1024) : Fin 16 := ⟨n.val / 64, by omega⟩
def he (n : Fin 1024) : Fin 64 := ⟨n.val % 64, by omega⟩

theorem ho_hc (h : Fin 16) (e : Fin 64) : ho (hc h e) = h := Fin.ext (by show (64 * h.val + e.val) / 64 = h.val; omega)
theorem hc_ho (n : Fin 1024) : hc (ho n) (he n) = n := Fin.ext (by show 64 * (n.val / 64) + n.val % 64 = n.val; omega)

variable (I : In)

/-- The biased logit. -/
def In.s (h : Fin 16) (i j : Fin 8192) : ℝ := (∑ e, I.q i (hc h e) * I.k j (hc h e)) + (I.c h i - I.c h j)
/-- The exponentials of a row, shifted by `M`, and their sum. -/
def In.u (M : ℝ) (h : Fin 16) (i j : Fin 8192) : ℝ := if j.val ≤ i.val then Real.exp (I.s h i j - M) else 0
def In.z (M : ℝ) (h : Fin 16) (i : Fin 8192) : ℝ := ∑ j, I.u M h i j
/-- The attention weights. -/
def In.p (h : Fin 16) (i j : Fin 8192) : ℝ := I.u 0 h i j / I.z 0 h i
def In.out (i : Fin 8192) (n : Fin 1024) : ℝ := ∑ j, I.p (ho n) i j * I.v j n
/-- The weights' cotangent, its mean under the weights, and the logits' cotangent. -/
def In.dp (h : Fin 16) (i j : Fin 8192) : ℝ := ∑ e, I.o i (hc h e) * I.v j (hc h e)
def In.dl (h : Fin 16) (i : Fin 8192) : ℝ := ∑ j, I.p h i j * I.dp h i j
def In.ds (h : Fin 16) (i j : Fin 8192) : ℝ := I.p h i j * (I.dp h i j - I.dl h i)
def In.dq (i : Fin 8192) (n : Fin 1024) : ℝ := ∑ j, I.ds (ho n) i j * I.k j n
def In.dk (j : Fin 8192) (n : Fin 1024) : ℝ := ∑ i, I.q i n * I.ds (ho n) i j
def In.dv (j : Fin 8192) (n : Fin 1024) : ℝ := ∑ i, I.o i n * I.p (ho n) i j
def In.dcq (h : Fin 16) (i : Fin 8192) : ℝ := ∑ j, I.ds h i j
def In.dck (h : Fin 16) (j : Fin 8192) : ℝ := -∑ i, I.ds h i j

theorem u_shift (M : ℝ) (h : Fin 16) (i j : Fin 8192) : I.u M h i j = Real.exp (-M) * I.u 0 h i j := by
  unfold In.u
  split
  · rw [← Real.exp_add]; congr 1; ring
  · rw [mul_zero]
theorem z_shift (M : ℝ) (h : Fin 16) (i : Fin 8192) : I.z M h i = Real.exp (-M) * I.z 0 h i := by
  unfold In.z
  rw [Finset.mul_sum]
  exact Finset.sum_congr rfl fun j _ => u_shift I M h i j
theorem u_nonneg (M : ℝ) (h : Fin 16) (i j : Fin 8192) : 0 ≤ I.u M h i j := by
  unfold In.u
  split
  · exact (Real.exp_pos _).le
  · exact le_refl _
theorem z_pos (M : ℝ) (h : Fin 16) (i : Fin 8192) : 0 < I.z M h i :=
  Finset.sum_pos' (fun j _ => u_nonneg I M h i j) ⟨i, Finset.mem_univ _, by unfold In.u; rw [if_pos (le_refl _)]; exact Real.exp_pos _⟩
theorem p_shift (M : ℝ) (h : Fin 16) (i j : Fin 8192) : I.u M h i j / I.z M h i = I.p h i j := by
  rw [u_shift, z_shift, mul_div_mul_left _ _ (Real.exp_pos _).ne']; rfl
theorem exp_lse (M : ℝ) (h : Fin 16) (i : Fin 8192) : Real.exp (M + Real.log (I.z M h i)) = I.z 0 h i := by
  rw [Real.exp_add, Real.exp_log (z_pos I M h i), z_shift, ← mul_assoc, ← Real.exp_add, add_neg_cancel, Real.exp_zero, one_mul]
theorem p_mask (h : Fin 16) (i j : Fin 8192) (hn : ¬ j.val ≤ i.val) : I.p h i j = 0 := by
  rw [In.p, In.u, if_neg hn, zero_div]
theorem ds_mask (h : Fin 16) (i j : Fin 8192) (hn : ¬ j.val ≤ i.val) : I.ds h i j = 0 := by
  rw [In.ds, p_mask I h i j hn, zero_mul]
/-- The mean of the weights' cotangent is the output against its own cotangent. -/
theorem dl_out (h : Fin 16) (i : Fin 8192) : ∑ e, I.o i (hc h e) * I.out i (hc h e) = I.dl h i := by
  unfold In.out In.dl In.dp
  simp only [ho_hc, Finset.mul_sum]
  rw [Finset.sum_comm]
  exact Finset.sum_congr rfl fun j _ => Finset.sum_congr rfl fun e _ => by ring

end Cert.Att

end
-- ==== Proof.FlashFinal.lean ====
module

public import proofs.«01_k».proof.Proof.FlashOuts
public import proofs.«01_k».proof.Proof.Att

@[expose] public section

set_option maxRecDepth 16384

noncomputable section

namespace Cert.FlashBwdIdeal.Flash

open Idealize.ShloMosaic Idealize.ShloMosaic.TcCoe Idealize.ShloMosaic.Tactic
open Idealize.ShloMosaic.Pipeline (Dat)
open Cert.FlashBwdIdeal.Gen Cert.Att

def Data.inp (A : Data) : In := ⟨A.q, A.k, A.v, A.c, A.o⟩

/-- The row statistics are those of the forward pass. -/
structure Data.Ok (A : Data) : Prop where
  l : ∀ h i, Real.exp (A.l h i) = A.inp.z 0 h i
  d : ∀ h i, A.d h i = A.inp.dl h i

variable {m : (ℓ : Loc nD τ sig) → Buf (Elt Ideal) ℓ} {c : Dev nD} {A : Data}

theorem chan_lane (g : Fin 8) (h : Fin 2) (e : Fin 64) : chan g (lane h e) = hc (head g h) e := Fin.ext (by show 128 * g.val + (64 * h.val + e.val) = 64 * (2 * g.val + h.val) + e.val; omega)
theorem ho_chan (g : Fin 8) (l : Fin 128) : ho (chan g l) = head g (hd l) := Fin.ext (by show (128 * g.val + l.val) / 64 = 2 * g.val + l.val / 64; omega)
theorem stat0 (g : Fin 8) (i : Fin 8192) (h : Fin 2) : A.stat g i (col h 0) = A.c (head g h) i := by
  rw [Data.stat, dif_pos (by show h.val + 2 * 0 < 2; omega)]; rfl
theorem stat1 (g : Fin 8) (i : Fin 8192) (h : Fin 2) : A.stat g i (col h 1) = A.l (head g h) i := by
  rw [Data.stat, dif_neg (by show ¬ h.val + 2 * 1 < 2; omega), dif_pos (by show h.val + 2 * 1 < 4; omega)]; rfl
theorem stat2 (g : Fin 8) (i : Fin 8192) (h : Fin 2) : A.stat g i (col h 2) = A.d (head g h) i := by
  rw [Data.stat, dif_neg (by show ¬ h.val + 2 * 2 < 2; omega), dif_neg (by show ¬ h.val + 2 * 2 < 4; omega)]; rfl

theorem grp_p (O : A.Ok) (g b : Fin 8) (h : Fin 2) (i : Fin 8192) (y : Fin 1024) : (A.grp g b).p h i y = A.inp.p (head g h) i (key b y) := by
  change (if 1024 * b.val + y.val ≤ i.val then Real.exp ((A.grp g b).s h i y) else 0) = (if 1024 * b.val + y.val ≤ i.val then Real.exp (A.inp.s (head g h) i (key b y) - 0) else 0) / A.inp.z 0 (head g h) i
  by_cases hy : 1024 * b.val + y.val ≤ i.val
  · rw [if_pos hy, if_pos hy, ← O.l, ← Real.exp_sub]
    congr 1
    unfold Grp.s In.s
    show ((∑ l, A.q i (chan g (lane h l)) * A.k (key b y) (chan g (lane h l))) - (A.c (head g h) (key b y) - A.c (head g h) (key b 0))) + ((A.stat g i (col h 0) - A.c (head g h) (key b 0)) - A.stat g i (col h 1)) = _
    rw [stat0, stat1]
    simp only [chan_lane]
    show _ = ((∑ e, A.q i (hc (head g h) e) * A.k (key b y) (hc (head g h) e)) + (A.c (head g h) i - A.c (head g h) (key b y))) - 0 - A.l (head g h) i
    ring
  · rw [if_neg hy, if_neg hy, zero_div]

theorem grp_ds (O : A.Ok) (g b : Fin 8) (h : Fin 2) (i : Fin 8192) (y : Fin 1024) : (A.grp g b).ds h i y = A.inp.ds (head g h) i (key b y) := by
  unfold Grp.ds In.ds
  rw [grp_p O, ← O.d]
  congr 1
  show (∑ l, A.o i (chan g (lane h l)) * A.v (key b y) (chan g (lane h l))) - A.stat g i (col h 2) = _
  rw [stat2]
  simp only [chan_lane]
  rfl

theorem range8 (f : ℕ → ℝ) (F : Fin 8192 → ℝ) (h : ∀ b : Fin 8, f b.val = ∑ y, F (key b y)) : ∑ x ∈ Finset.range 8, f x = ∑ j, F j := by
  rw [Finset.sum_range]
  exact (Finset.sum_congr rfl fun b _ => h b).trans (Lift.sum_runs (A := 8) (B := 1024) rfl F)

theorem dq_eq (O : A.Ok) (g : Fin 8) (i : Fin 8192) (l : Fin 128) : accQ A g 8 i l = A.inp.dq i (chan g l) :=
  range8 _ (fun j => A.inp.ds (ho (chan g l)) i j * A.k j (chan g l)) fun b => by
    rw [qterm, dif_pos b.isLt, ho_chan]
    exact Finset.sum_congr rfl fun y _ => by rw [grp_ds O]; rfl
theorem dcq_eq (O : A.Ok) (g : Fin 8) (i : Fin 8192) (h : Fin 2) : accR A g 8 i h = A.inp.dcq (head g h) i :=
  range8 _ (fun j => A.inp.ds (head g h) i j) fun b => by
    rw [rterm, dif_pos b.isLt]
    exact Finset.sum_congr rfl fun y _ => by rw [grp_ds O]
theorem dk_eq (O : A.Ok) (g b : Fin 8) (l : Fin 128) (y : Fin 1024) : DK (A.grp g b) 16 l y = A.inp.dk (key b y) (chan g l) := by
  unfold DK In.dk
  rw [ho_chan]
  exact Finset.sum_congr rfl fun i _ => by rw [if_pos (by omega), grp_ds O]; rfl
theorem dv_eq (O : A.Ok) (g b : Fin 8) (l : Fin 128) (y : Fin 1024) : DV (A.grp g b) 16 l y = A.inp.dv (key b y) (chan g l) := by
  unfold DV In.dv
  rw [ho_chan]
  exact Finset.sum_congr rfl fun i _ => by rw [if_pos (by omega), grp_p O]; rfl
/-- The key-side gate gradient as the kernel lays it out: two heads of eight rows, zeros below. -/
def gateRow (I : In) (g : Fin 8) (h : Fin 8) (j : Fin 8192) : ℝ := if hh : h.val < 2 then I.dck ⟨2 * g.val + h.val, by omega⟩ j else 0
theorem dc_eq (O : A.Ok) (g b : Fin 8) (h : Fin 8) (y : Fin 1024) : DC (A.grp g b) 16 h y = gateRow A.inp g h (key b y) := by
  unfold DC gateRow
  split
  · unfold In.dck
    exact congrArg _ (Finset.sum_congr rfl fun i _ => by rw [if_pos (by omega), grp_ds O]; rfl)
  · rfl

variable (H : Host m c A) (O : A.Ok)
include H O

theorem st_at (s : Fin cfg0.N) : ∃ (g b : Fin 8), s.val / 8 = g.val ∧ s.val % 8 = b.val ∧ St (A.grp g b) (accQ A g b.val) (accR A g b.val) 16 (outs m c s.val s.isLt).1 (outs m c s.val s.isLt).2.1 (outs m c s.val s.isLt).2.2.1 (outs m c s.val s.isLt).2.2.2.1 (outs m c s.val s.isLt).2.2.2.2 :=
  ⟨⟨s.val / 8, by have := s.isLt; have := N_64; omega⟩, ⟨s.val % 8, by omega⟩, rfl, rfl, outs_st H s.val s.isLt _ _ rfl rfl⟩

theorem final9 : (dats m 0 c).arrAt 9 (cfgs 0).N = fun i : S8192x1024.Idx => ((A.inp.dq (i 0) (i 1) : ℝ) : EReal) := by
  refine (dats m 0 c).arrAt_eq_of_covers 9 _ (by decide +kernel) fun s hs y => ?_
  have h7 := (flush0_9 s).mp hs
  obtain ⟨g, b, hg, hb, S⟩ := st_at H O s
  have h := idx s
  rw [hg, hb] at h
  blk_simp
  rw [after_9]
  idx_vars y
  have e : ((View.whole main_v62_0).slice (win0_9.rect s)).emb (ix2 y0 y1) = ix2 y0 (chan g y1) := by
    blk_ext [h, chan]
  rw [e]
  refine (S.dq y0 y1).trans ?_
  rw [accQ_succ, show b.val + 1 = 8 by omega, dq_eq O]; rfl
theorem final10 : (dats m 0 c).arrAt 10 (cfgs 0).N = fun i : S1024x8192.Idx => ((A.inp.dk (i 1) (i 0) : ℝ) : EReal) := by
  refine (dats m 0 c).arrAt_eq_of_covers 10 _ (by decide +kernel) fun s hs y => ?_
  obtain ⟨g, b, hg, hb, S⟩ := st_at H O s
  have h := idx s
  rw [hg, hb] at h
  blk_simp
  rw [after_10]
  idx_vars y
  have e : ((View.whole main_v62_1).slice (win0_10.rect s)).emb (ix2 y0 y1) = ix2 (chan g y0) (key b y1) := by
    blk_ext [h, chan, key]
  rw [e]
  refine (S.dk y0 y1).trans ?_
  rw [dk_eq O]; rfl
theorem final11 : (dats m 0 c).arrAt 11 (cfgs 0).N = fun i : S1024x8192.Idx => ((A.inp.dv (i 1) (i 0) : ℝ) : EReal) := by
  refine (dats m 0 c).arrAt_eq_of_covers 11 _ (by decide +kernel) fun s hs y => ?_
  obtain ⟨g, b, hg, hb, S⟩ := st_at H O s
  have h := idx s
  rw [hg, hb] at h
  blk_simp
  rw [after_11]
  idx_vars y
  have e : ((View.whole main_v62_2).slice (win0_11.rect s)).emb (ix2 y0 y1) = ix2 (chan g y0) (key b y1) := by
    blk_ext [h, chan, key]
  rw [e]
  refine (S.dv y0 y1).trans ?_
  rw [dv_eq O]; rfl
theorem final12 : (dats m 0 c).arrAt 12 (cfgs 0).N = fun i : S8x8x8192.Idx => ((gateRow A.inp (i 0) (i 1) (i 2) : ℝ) : EReal) := by
  refine (dats m 0 c).arrAt_eq_of_covers 12 _ (by decide +kernel) fun s hs y => ?_
  obtain ⟨g, b, hg, hb, S⟩ := st_at H O s
  have h := idx s
  rw [hg, hb] at h
  blk_simp
  rw [after_12]
  idx_vars y
  have e : ((View.whole main_v62_3).slice (win0_12.rect s)).emb (ix3 y0 y1 y2) = ix3 g y1 (key b y2) := by
    blk_ext [h, key]
  rw [e]
  refine (S.dc y0 y1 y2).trans ?_
  rw [dc_eq O]; rfl
theorem final13 : (dats m 0 c).arrAt 13 (cfgs 0).N = fun i : S8x8192x2.Idx => ((A.inp.dcq (head (i 0) (i 2)) (i 1) : ℝ) : EReal) := by
  refine (dats m 0 c).arrAt_eq_of_covers 13 _ (by decide +kernel) fun s hs y => ?_
  have h7 := (flush0_13 s).mp hs
  obtain ⟨g, b, hg, hb, S⟩ := st_at H O s
  have h := idx s
  rw [hg, hb] at h
  blk_simp
  rw [after_13]
  idx_vars y
  have e : ((View.whole main_v62_4).slice (win0_13.rect s)).emb (ix3 y0 y1 y2) = ix3 g y1 y2 := by
    blk_ext [h]
  rw [e]
  refine (S.dr y0 y1 y2).trans ?_
  rw [accR_succ, show b.val + 1 = 8 by omega, dcq_eq O]; rfl

end Cert.FlashBwdIdeal.Flash

end
-- ==== Proof.Soft.lean ====
/- The masked softmax over rows, as the host lines of the attention write it, read over the reals. -/
module

public import proofs.«01_k».proof.Proof.FlashFinal
public import Idealize.ShloMosaic.Lib.Claim

@[expose] public section

set_option maxRecDepth 16384

noncomputable section

namespace Cert.FlashBwdIdeal.Flash

open Idealize.ShloMosaic Idealize.ShloMosaic.TcCoe Idealize.ShloMosaic.Tactic
open Cert.FlashBwdIdeal.Gen Cert.Att

theorem neg_inf : Ideal.ofBits .f32 0xFF800000#32 = (⊥ : EReal) := by
  simp [Ideal.ofBits, Ideal.ieee]

/-- The largest entry of each row. -/
def mx (s : FVec Ideal S16x8192x8192 .f32) : FVec Ideal S16x8192 .f32 :=
  Host.reduce FloatOps.maximumf s (constant S_ .f32 0xFF800000#32) reducesTo_S16x8192x8192_S16x8192_d2 h_S_

/-- The row maxima as the softmax takes them. -/
def mxx (s : FVec Ideal S16x8192x8192 .f32) : FVec Ideal S16x8192 .f32 :=
  maximumf (broadcastInDim S16x8192 ![] bcast_S_S16x8192 (constant S_ .f32 0xFF800000#32)) (mx s)

/-- The exponentials of the rows below these shifts. -/
def ex (s : FVec Ideal S16x8192x8192 .f32) (M : FVec Ideal S16x8192 .f32) : FVec Ideal S16x8192x8192 .f32 :=
  Host.exp (subf s (broadcastInDim S16x8192x8192 ![0, 1, 2] bcast_S16x8192x1_S16x8192x8192_0_1_2 (broadcastInDim S16x8192x1 ![0, 1] bcast_S16x8192_S16x8192x1_0_1 M)))

/-- The row sums. -/
def sums (e : FVec Ideal S16x8192x8192 .f32) : FVec Ideal S16x8192 .f32 :=
  Host.reduceAdd e (constant S_ .f32 0x00000000#32) reducesTo_S16x8192x8192_S16x8192_d2 h_S_

/-- The rows over their sums. -/
def quot (e : FVec Ideal S16x8192x8192 .f32) (z : FVec Ideal S16x8192 .f32) : FVec Ideal S16x8192x8192 .f32 :=
  Host.divf e (broadcastInDim S16x8192x8192 ![0, 1, 2] bcast_S16x8192x1_S16x8192x8192_0_1_2 (broadcastInDim S16x8192x1 ![0, 1] bcast_S16x8192_S16x8192x1_0_1 z))

theorem mx_at (s : FVec Ideal S16x8192x8192 .f32) (h : Fin 16) (i : Fin 8192) : mx s (ix2 h i) = Finset.univ.fold max (Ideal.ofBits .f32 0xFF800000#32) fun j => s (ix3 h i j) := by
  pointwise [mx]

theorem max_bot (b M : FVec Ideal S16x8192 .f32) (h : Fin 16) (i : Fin 8192) (hb : b (ix2 h i) = (⊥ : EReal)) : maximumf b M (ix2 h i) = M (ix2 h i) := by
  have e : maximumf b M (ix2 h i) = max (b (ix2 h i) : EReal) (M (ix2 h i)) := rfl
  rw [e, hb]
  exact max_eq_right bot_le

theorem low (h : Fin 16) (i : Fin 8192) : (broadcastInDim S16x8192 ![] bcast_S_S16x8192 (constant (F := Ideal) S_ .f32 0xFF800000#32)) (ix2 h i) = (⊥ : EReal) := by
  have e : (broadcastInDim S16x8192 ![] bcast_S_S16x8192 (constant (F := Ideal) S_ .f32 0xFF800000#32)) (ix2 h i) = Ideal.ofBits .f32 0xFF800000#32 := by
    pointwise
  exact e.trans neg_inf

theorem mxx_eq (s : FVec Ideal S16x8192x8192 .f32) (h : Fin 16) (i : Fin 8192) : mxx s (ix2 h i) = mx s (ix2 h i) := by
  unfold mxx
  have e := low h i
  generalize mx s = M
  generalize broadcastInDim S16x8192 ![] bcast_S_S16x8192 (constant (F := Ideal) S_ .f32 0xFF800000#32) = b at e ⊢
  exact max_bot b M h i e

theorem fold_bot {n : ℕ} (f : Fin n → EReal) (r : Fin n → ℝ) (M : Finset (Fin n)) (hM : M.Nonempty) (hf : ∀ j, f j = if j ∈ M then ((r j : ℝ) : EReal) else ⊥) :
    ∃ x : ℝ, Finset.univ.fold max ⊥ f = (x : EReal) := by
  obtain ⟨a, ha⟩ := hM
  have h1 : Finset.univ.fold max ⊥ f ≠ ⊤ := by
    refine ne_of_lt (Finset.fold_max_lt _ |>.2 ⟨bot_lt_top, fun j _ => ?_⟩)
    rw [hf j]; split
    · exact EReal.coe_lt_top _
    · exact bot_lt_top
  have h2 : Finset.univ.fold max ⊥ f ≠ ⊥ := by
    refine ne_of_gt (lt_of_lt_of_le (EReal.bot_lt_coe (r a)) ((Finset.le_fold_max _).2 (.inr ⟨a, Finset.mem_univ _, ?_⟩)))
    rw [hf a, if_pos ha]
  exact ⟨_, (EReal.coe_toReal h1 h2).symm⟩

theorem exp_masked {p : Prop} [Decidable p] (x M : ℝ) : Ideal.exp ((if p then (x : EReal) else ⊥) - (M : EReal)) = ((if p then Real.exp (x - M) else 0 : ℝ) : EReal) := by
  split
  · rw [← EReal.coe_sub, Ideal.exp_coe]
  · rw [EReal.bot_sub]; exact Ideal.exp_bot

theorem ex_at (s : FVec Ideal S16x8192x8192 .f32) (M : FVec Ideal S16x8192 .f32) (h : Fin 16) (i j : Fin 8192) : ex s M (ix3 h i j) = Ideal.exp (s (ix3 h i j) - M (ix2 h i)) := by
  pointwise [ex]

theorem sums_at (s : FVec Ideal S16x8192x8192 .f32) (h : Fin 16) (i : Fin 8192) : sums s (ix2 h i) = ∑ j, s (ix3 h i j) := by
  pointwise [sums]

theorem quot_at (s : FVec Ideal S16x8192x8192 .f32) (M : FVec Ideal S16x8192 .f32) (h : Fin 16) (i j : Fin 8192) : quot s M (ix3 h i j) = Ideal.div (s (ix3 h i j)) (M (ix2 h i)) := by
  pointwise [quot]

variable {I : In} {s : FVec Ideal S16x8192x8192 .f32}

/-- The logits, masked to the keys up to each query. -/
def Masked (s : FVec Ideal S16x8192x8192 .f32) (I : In) : Prop :=
  ∀ h i j, s (ix3 h i j) = if j.val ≤ i.val then ((I.s h i j : ℝ) : EReal) else ⊥

theorem mx_real (S : Masked s I) : ∃ M : Fin 16 → Fin 8192 → ℝ, ∀ h i, mx s (ix2 h i) = ((M h i : ℝ) : EReal) := by
  have e : ∀ h i, ∃ x : ℝ, mx s (ix2 h i) = ((x : ℝ) : EReal) := fun h i => by
    rw [mx_at, neg_inf]
    exact fold_bot _ (I.s h i) (Finset.univ.filter fun j => j.val ≤ i.val) ⟨i, by simp⟩ fun j => by
      rw [S h i j]; simp only [Finset.mem_filter, Finset.mem_univ, true_and]
  choose M hM using e
  exact ⟨M, hM⟩

theorem ex_real (S : Masked s I) {M : FVec Ideal S16x8192 .f32} {r : Fin 16 → Fin 8192 → ℝ} (hM : ∀ h i, M (ix2 h i) = ((r h i : ℝ) : EReal))
    (h : Fin 16) (i j : Fin 8192) : ex s M (ix3 h i j) = ((I.u (r h i) h i j : ℝ) : EReal) := by
  rw [ex_at, S h i j, hM, exp_masked]; rfl

theorem sums_real {e : FVec Ideal S16x8192x8192 .f32} {r : Fin 16 → Fin 8192 → Fin 8192 → ℝ} (he : ∀ h i j, e (ix3 h i j) = ((r h i j : ℝ) : EReal))
    (h : Fin 16) (i : Fin 8192) : sums e (ix2 h i) = ((∑ j, r h i j : ℝ) : EReal) := by
  rw [sums_at]; simp only [he]; exact Lift.sum _

/-- The row maxima stand at real numbers, below which the exponentials and their sums are those of the real softmax. -/
theorem soft (S : Masked s I) : ∃ M : Fin 16 → Fin 8192 → ℝ, (∀ h i, mx s (ix2 h i) = ((M h i : ℝ) : EReal))
    ∧ (∀ h i, sums (ex s (mx s)) (ix2 h i) = ((I.z (M h i) h i : ℝ) : EReal))
    ∧ (∀ h i j, ex s (mxx s) (ix3 h i j) = ((I.u (M h i) h i j : ℝ) : EReal))
    ∧ (∀ h i, sums (ex s (mxx s)) (ix2 h i) = ((I.z (M h i) h i : ℝ) : EReal))
    ∧ ∀ h i j, quot (ex s (mxx s)) (sums (ex s (mxx s))) (ix3 h i j) = ((I.p h i j : ℝ) : EReal) := by
  obtain ⟨M, hM⟩ := mx_real S
  have hX : ∀ h i, mxx s (ix2 h i) = ((M h i : ℝ) : EReal) := fun h i => (mxx_eq s h i).trans (hM h i)
  have hE := ex_real S hX
  have hZ := sums_real (r := fun h i j => I.u (M h i) h i j) hE
  refine ⟨M, hM, sums_real (r := fun h i j => I.u (M h i) h i j) (ex_real S hM), hE, hZ, fun h i j => ?_⟩
  rw [quot_at, hE, hZ]
  refine (Lift.div _ (z_pos I (M h i) h i).ne').trans (congrArg _ (p_shift I (M h i) h i j))

end Cert.FlashBwdIdeal.Flash

end
-- ==== Proof.FlashHost.lean ====
module

public import proofs.«01_k».proof.Proof.Soft
public import Idealize.ShloMosaic.Lib.Claim

@[expose] public section

set_option maxRecDepth 16384

noncomputable section

namespace Cert.FlashBwdIdeal.Flash

open Idealize.ShloMosaic Idealize.ShloMosaic.TcCoe Idealize.ShloMosaic.Tactic
open Cert.FlashBwdIdeal.Gen Cert.Att

variable {m : (ℓ : Loc nD τ sig) → Buf (Elt Ideal) ℓ} {c : Dev nD} {I : In}

/-- The arguments hold these numbers. -/
structure Args (m : (ℓ : Loc nD τ sig) → Buf (Elt Ideal) ℓ) (c : Dev nD) (I : In) : Prop where
  q : ∀ i n, m ((c.tc : Thread nD τ).loc main_arg0) (ix2 i n) = ((I.q i n : ℝ) : EReal)
  k : ∀ i n, m ((c.tc : Thread nD τ).loc main_arg1) (ix2 i n) = ((I.k i n : ℝ) : EReal)
  v : ∀ i n, m ((c.tc : Thread nD τ).loc main_arg2) (ix2 i n) = ((I.v i n : ℝ) : EReal)
  g : ∀ h i, m ((c.tc : Thread nD τ).loc main_arg3) (ix2 h i) = ((I.c h i : ℝ) : EReal)
  o : ∀ i n, m ((c.tc : Thread nD τ).loc main_arg4) (ix2 i n) = ((I.o i n : ℝ) : EReal)

/-- The arrays once the masked logits are there. -/
abbrev mid (m : (ℓ : Loc nD τ sig) → Buf (Elt Ideal) ℓ) (c : Dev nD) : Valuation τ sig (Elt Ideal) :=
  StableHlo.after hostOps0_1 (StableHlo.after hostOps0 (fun b => m (c, b)))

theorem V_mid (b : Ref sig .tc) : V m c b = StableHlo.after hostOps0_2 (mid m c) b := rfl

structure Mid (σ : Valuation τ sig (Elt Ideal)) (I : In) : Prop where
  q : ∀ i n, σ main_arg0 (ix2 i n) = ((I.q i n : ℝ) : EReal)
  k : ∀ i n, σ main_arg1 (ix2 i n) = ((I.k i n : ℝ) : EReal)
  v : ∀ i n, σ main_arg2 (ix2 i n) = ((I.v i n : ℝ) : EReal)
  g : ∀ h i, σ main_arg3 (ix2 h i) = ((I.c h i : ℝ) : EReal)
  o : ∀ i n, σ main_arg4 (ix2 i n) = ((I.o i n : ℝ) : EReal)
  s : Masked (σ main_v16) I

theorem le_word (i j : Fin 8192) : IntOp.cmpi .sle (BitVec.ofNat 32 j.val) (BitVec.ofNat 32 i.val) = 1#1 ↔ j.val ≤ i.val :=
  WordCmp.cmpi_sle_ofNat_eq_one_iff (by have := j.isLt; omega) (by have := i.isLt; omega)

theorem select_word {p : Prop} [Decidable p] {b : BitVec 1} (hb : b = 1#1 ↔ p) {x x' y y' : EReal} (hx : x = x') (hy : y = y') :
    Scalar.select b x y = if p then x' else y' := by
  subst hx hy
  unfold Scalar.select
  by_cases hp : p
  · rw [if_pos hp]; exact if_pos (hb.2 hp)
  · rw [if_neg hp]; exact if_neg fun e => hp (hb.1 e)

theorem col_hc (h : Fin 16) (e : Fin 64) (hl : h.val * 64 + e.val < 1024) : (⟨h.val * 64 + e.val, hl⟩ : Fin 1024) = hc h e :=
  Fin.ext (by show h.val * 64 + e.val = 64 * h.val + e.val; omega)

theorem mid_s (X : Args m c I) : Masked (mid m c main_v16) I := fun h i j => by
  unfold mid
  entry_read
  simp only [StableHlo.TRef.toBuf, StableHlo.TRef.ofBuf, cast_cast, cast_eq]
  pointwise
  refine select_word (le_word i j) ?_ neg_inf
  simp only [col_hc]
  rw [show (I.s h i j) = (∑ e, I.q i (hc h e) * I.k j (hc h e)) + (I.c h i - I.c h j) from rfl, EReal.coe_add, EReal.coe_sub, ← Lift.sum]
  refine congrArg₂ _ (Finset.sum_congr rfl fun e _ => ?_) (congrArg₂ _ (X.g _ _) (X.g _ _))
  rw [EReal.coe_mul]
  exact congrArg₂ _ (X.q _ _) (X.k _ _)

theorem mid_of (X : Args m c I) : Mid (mid m c) I where
  q := fun _ _ => by unfold mid; entry_read; exact X.q _ _
  k := fun _ _ => by unfold mid; entry_read; exact X.k _ _
  v := fun _ _ => by unfold mid; entry_read; exact X.v _ _
  g := fun _ _ => by unfold mid; entry_read; exact X.g _ _
  o := fun _ _ => by unfold mid; entry_read; exact X.o _ _
  s := mid_s X

/-- The rows' output against its cotangent, head by head. -/
def against (o v : FVec Ideal S8192x1024 .f32) (P : FVec Ideal S16x8192x8192 .f32) : FVec Ideal S8192x16 .f32 :=
  Host.reduceAdd (shapeCast S8192x16x64 (mulf o (shapeCast S8192x1024 (transpose S8192x16x64 [2, 0, 1]
    (Host.dotGeneral dot_S8192x16x64_S16x8192x8192_S16x64x8192_0_2_2_1_1_0 none (shapeCast S8192x16x64 v shapeCasts_S8192x1024_S8192x16x64) P)
    transposes_S16x64x8192_S8192x16x64_2_0_1) shapeCasts_S8192x16x64_S8192x1024)) shapeCasts_S8192x1024_S8192x16x64)
    (constant S_ .f32 0x00000000#32) reducesTo_S8192x16x64_S8192x16_d2 h_S_

theorem against_at (o v : FVec Ideal S8192x1024 .f32) (P : FVec Ideal S16x8192x8192 .f32) (i : Fin 8192) (h : Fin 16)
    (ho' : ∀ i n, o (ix2 i n) = ((I.o i n : ℝ) : EReal)) (hv : ∀ i n, v (ix2 i n) = ((I.v i n : ℝ) : EReal)) (hP : ∀ h i j, P (ix3 h i j) = ((I.p h i j : ℝ) : EReal)) :
    against o v P (ix2 i h) = ((I.dl h i : ℝ) : EReal) := by
  pointwise [against]
  rw [← dl_out, ← Lift.sum]
  refine Finset.sum_congr rfl fun e _ => ?_
  rw [EReal.coe_mul]
  refine congrArg₂ _ ((ho' _ _).trans (by rw [col_hc])) ?_
  unfold In.out
  rw [← Lift.sum]
  refine Finset.sum_congr rfl fun j _ => ?_
  rw [EReal.coe_mul, mul_comm]
  refine congrArg₂ _ ((hP _ _ _).trans ?_) ((hv _ _).trans ?_)
  · exact congrArg _ (congrArg (I.p · i j) (Fin.ext (by show h.val = (64 * h.val + e.val) / 64; omega)))
  · exact congrArg _ (congrArg (I.v j) (Fin.ext (by show h.val * 64 + e.val = 64 * h.val + e.val; omega)))

theorem v39_eq (σ : Valuation τ sig (Elt Ideal)) : StableHlo.after hostOps0_2 σ main_v39 =
    addf (mx (σ main_v16)) (Host.log (sums (ex (σ main_v16) (mx (σ main_v16))))) := by
  entry_read
  rfl

theorem v42_eq (σ : Valuation τ sig (Elt Ideal)) : StableHlo.after hostOps0_2 σ main_v42 =
    against (σ main_arg4) (σ main_arg2) (quot (ex (σ main_v16) (mxx (σ main_v16))) (sums (ex (σ main_v16) (mxx (σ main_v16))))) := by
  entry_read
  rfl

theorem lse_at (A B : FVec Ideal S16x8192 .f32) {M : Fin 16 → Fin 8192 → ℝ} (hA : ∀ h i, A (ix2 h i) = ((M h i : ℝ) : EReal)) (hB : ∀ h i, B (ix2 h i) = ((I.z (M h i) h i : ℝ) : EReal))
    (h : Fin 16) (i : Fin 8192) : addf A (Host.log B) (ix2 h i) = ((M h i + Real.log (I.z (M h i) h i) : ℝ) : EReal) := by
  pointwise
  rw [hA, hB, Ideal.log_coe, if_neg (not_le.mpr (z_pos I _ h i)), ← EReal.coe_add]

def pairs (a : FVec Ideal S16x8192 .f32) : FVec Ideal S8x8192x2 .f32 :=
  transpose S8x8192x2 [0, 2, 1] (shapeCast S8x2x8192 a shapeCasts_S16x8192_S8x2x8192) transposes_S8x2x8192_S8x8192x2_0_2_1
theorem pairs_at (a : FVec Ideal S16x8192 .f32) (g : Fin 8) (i : Fin 8192) (h : Fin 2) : pairs a (ix3 g i h) = a (ix2 (head g h) i) := by
  pointwise [pairs]
  exact congrArg a (congrArg (ix2 · i) (Fin.ext (by show g.val * 2 + h.val = 2 * g.val + h.val; omega)))
def pairsT (a : FVec Ideal S8192x16 .f32) : FVec Ideal S8x8192x2 .f32 :=
  transpose S8x8192x2 [1, 0, 2] (shapeCast S8192x8x2 a shapeCasts_S8192x16_S8192x8x2) transposes_S8192x8x2_S8x8192x2_1_0_2
theorem pairsT_at (a : FVec Ideal S8192x16 .f32) (g : Fin 8) (i : Fin 8192) (h : Fin 2) : pairsT a (ix3 g i h) = a (ix2 i (head g h)) := by
  pointwise [pairsT]
  exact congrArg a (congrArg (ix2 i) (Fin.ext (by show g.val * 2 + h.val = 2 * g.val + h.val; omega)))
def six (a b d : FVec Ideal S8x8192x2 .f32) : FVec Ideal S8x8192x6 .f32 :=
  concatenate S8x8192x6 2 [⟨S8x8192x2, a⟩, ⟨S8x8192x2, b⟩, ⟨S8x8192x2, d⟩] concatenates_S8x8192x2_S8x8192x2_S8x8192x2_S8x8192x6_d2
theorem six_at (a b d : FVec Ideal S8x8192x2 .f32) (g : Fin 8) (i : Fin 8192) (s : Fin 6) : six a b d (ix3 g i s) = if h0 : s.val < 2 then a (ix3 g i ⟨s.val, h0⟩) else if h1 : s.val < 4 then b (ix3 g i ⟨s.val - 2, by omega⟩) else d (ix3 g i ⟨s.val - 4, by omega⟩) := by
  pointwise [six]
  by_cases h0 : s.val < 2
  · rw [dif_pos h0, dif_pos h0]
  · by_cases h1 : s.val < 4
    · rw [dif_neg h0, dif_neg h0, dif_pos (by omega : s.val - 2 < 2), dif_pos h1]
    · rw [dif_neg h0, dif_neg h0, dif_neg (by omega : ¬ s.val - 2 < 2), dif_neg h1]
      exact congrArg d (congrArg (ix3 g i) (Fin.ext (by show s.val - 2 - 2 = s.val - 4; omega)))
theorem v47_eq (σ : Valuation τ sig (Elt Ideal)) : StableHlo.after hostOps0_2 σ main_v47 = pairs (StableHlo.after hostOps0_2 σ main_v39) := by
  entry_read
  rfl
theorem v49_eq (σ : Valuation τ sig (Elt Ideal)) : StableHlo.after hostOps0_2 σ main_v49 = pairsT (StableHlo.after hostOps0_2 σ main_v42) := by
  entry_read
  rfl
theorem v50_eq (σ : Valuation τ sig (Elt Ideal)) : StableHlo.after hostOps0_2 σ main_v50 =
    six (StableHlo.after hostOps0_2 σ main_v45) (StableHlo.after hostOps0_2 σ main_v47) (StableHlo.after hostOps0_2 σ main_v49) := by
  have e : ∀ b, StableHlo.after hostOps0_2 σ b = StableHlo.after (hostOps0_2.drop 39) (StableHlo.after (hostOps0_2.take 39) σ) b := fun b => by
    rw [← StableHlo.after_append, List.take_append_drop]
  rw [e, e, e, e]
  generalize StableHlo.after (hostOps0_2.take 39) σ = ρ
  simp only [hostOps0_2, List.drop_succ_cons, List.drop_zero]
  after_results_simp
  rfl

section Tail
variable {σ : Valuation τ sig (Elt Ideal)} (N : Mid σ I)
include N

theorem v42 (i : Fin 8192) (h : Fin 16) : StableHlo.after hostOps0_2 σ main_v42 (ix2 i h) = ((I.dl h i : ℝ) : EReal) := by
  obtain ⟨M, -, -, -, -, hP⟩ := soft N.s
  rw [v42_eq]
  exact against_at _ _ _ i h N.o N.v hP

theorem v39 : ∃ L : Fin 16 → Fin 8192 → ℝ, (∀ h i, Real.exp (L h i) = I.z 0 h i) ∧ ∀ h i, StableHlo.after hostOps0_2 σ main_v39 (ix2 h i) = ((L h i : ℝ) : EReal) := by
  obtain ⟨M, hM, hZ, -⟩ := soft N.s
  refine ⟨fun h i => M h i + Real.log (I.z (M h i) h i), fun h i => exp_lse I _ h i, fun h i => ?_⟩
  rw [v39_eq]
  exact lse_at _ _ hM hZ h i

theorem v45 (g : Fin 8) (i : Fin 8192) (h : Fin 2) : StableHlo.after hostOps0_2 σ main_v45 (ix3 g i h) = ((I.c (head g h) i : ℝ) : EReal) := by
  entry_read
  pointwise
  refine (congrArg _ (congrArg (ix2 · i) (Fin.ext ?_))).trans (N.g (head g h) i)
  show g.val * 2 + h.val = 2 * g.val + h.val
  omega
theorem v43 (g : Fin 8) (h : Fin 2) (i : Fin 8192) : StableHlo.after hostOps0_2 σ main_v43 (ix3 g h i) = ((I.c (head g h) i : ℝ) : EReal) := by
  entry_read
  pointwise
  refine (congrArg _ (congrArg (ix2 · i) (Fin.ext ?_))).trans (N.g (head g h) i)
  show g.val * 2 + h.val = 2 * g.val + h.val
  omega
theorem v51 (i : Fin 8192) (n : Fin 1024) : StableHlo.after hostOps0_2 σ main_v51 (ix2 i n) = ((I.q i n : ℝ) : EReal) := by
  entry_read
  pointwise
  exact N.q _ _
theorem v53 (n : Fin 1024) (i : Fin 8192) : StableHlo.after hostOps0_2 σ main_v53 (ix2 n i) = ((I.q i n : ℝ) : EReal) := by
  entry_read
  pointwise
  exact N.q _ _
theorem v54 (i : Fin 8192) (n : Fin 1024) : StableHlo.after hostOps0_2 σ main_v54 (ix2 i n) = ((I.k i n : ℝ) : EReal) := by
  entry_read
  pointwise
  exact N.k _ _
theorem v56 (n : Fin 1024) (i : Fin 8192) : StableHlo.after hostOps0_2 σ main_v56 (ix2 n i) = ((I.k i n : ℝ) : EReal) := by
  entry_read
  pointwise
  exact N.k _ _
theorem v58 (n : Fin 1024) (i : Fin 8192) : StableHlo.after hostOps0_2 σ main_v58 (ix2 n i) = ((I.v i n : ℝ) : EReal) := by
  entry_read
  pointwise
  exact N.v _ _
theorem v59 (i : Fin 8192) (n : Fin 1024) : StableHlo.after hostOps0_2 σ main_v59 (ix2 i n) = ((I.o i n : ℝ) : EReal) := by
  entry_read
  pointwise
  exact N.o _ _
theorem v61 (n : Fin 1024) (i : Fin 8192) : StableHlo.after hostOps0_2 σ main_v61 (ix2 n i) = ((I.o i n : ℝ) : EReal) := by
  entry_read
  pointwise
  exact N.o _ _
theorem v50 {L : Fin 16 → Fin 8192 → ℝ} (hl : ∀ h i, StableHlo.after hostOps0_2 σ main_v39 (ix2 h i) = ((L h i : ℝ) : EReal)) (g : Fin 8) (i : Fin 8192) (s : Fin 6) :
    StableHlo.after hostOps0_2 σ main_v50 (ix3 g i s) = (((⟨I.q, I.k, I.v, I.o, I.c, L, I.dl⟩ : Data).stat g i s : ℝ) : EReal) := by
  rw [v50_eq, six_at]
  unfold Data.stat
  split
  · exact v45 N g i _
  · split
    · rw [v47_eq, pairs_at]; exact hl _ _
    · rw [v49_eq, pairsT_at]; exact v42 N _ _
end Tail

/-- The arrays the kernel is entered with hold the arguments, and the statistics of the same forward lines. -/
theorem host_of (X : Args m c I) : ∃ A : Data, A.inp = I ∧ A.Ok ∧ Host m c A := by
  have N := mid_of X
  obtain ⟨L, hL, hl⟩ := v39 N
  refine ⟨⟨I.q, I.k, I.v, I.o, I.c, L, I.dl⟩, rfl, ⟨hL, fun _ _ => rfl⟩, ?_⟩
  exact {
    q := fun i n => (congrFun (V_mid main_v51) _).trans (v51 N i n)
    qt := fun n i => (congrFun (V_mid main_v53) _).trans (v53 N n i)
    k := fun i n => (congrFun (V_mid main_v54) _).trans (v54 N i n)
    kt := fun n i => (congrFun (V_mid main_v56) _).trans (v56 N n i)
    vt := fun n i => (congrFun (V_mid main_v58) _).trans (v58 N n i)
    ck := fun g h i => (congrFun (V_mid main_v43) _).trans (v43 N g h i)
    o := fun i n => (congrFun (V_mid main_v59) _).trans (v59 N i n)
    ot := fun n i => (congrFun (V_mid main_v61) _).trans (v61 N n i)
    st := fun g i s => (congrFun (V_mid main_v50) _).trans (v50 N hl g i s) }

end Cert.FlashBwdIdeal.Flash

end
-- ==== Proof.FlashRef.lean ====
/- The gradients of the attention as the reference composes them, over the reals. -/
module

public import proofs.«01_k».proof.Proof.FlashHost
public import proofs.«01_k».proof.Proof.Gen.FlashBwdRefIdeal.Run

@[expose] public section

set_option maxRecDepth 16384

noncomputable section

namespace Cert.FlashBwdRefIdeal.Flash

open Idealize.ShloMosaic Idealize.ShloMosaic.TcCoe Idealize.ShloMosaic.Tactic
open Cert.FlashBwdRefIdeal.Gen Cert.FlashBwdRefIdeal.Value Cert.Att
open Cert.FlashBwdIdeal.Flash (Masked soft select_word col_hc le_word neg_inf gateRow head)

variable {I : In}

/-- An array of rows holds these numbers. -/
def Rows (a : FVec Ideal S8192x1024 .f32) (x : Fin 8192 → Fin 1024 → ℝ) : Prop := ∀ i n, a (ix2 i n) = ((x i n : ℝ) : EReal)
/-- A square array of every head holds these numbers. -/
def Square (a : FVec Ideal S16x8192x8192 .f32) (x : Fin 16 → Fin 8192 → Fin 8192 → ℝ) : Prop := ∀ h i j, a (ix3 h i j) = ((x h i j : ℝ) : EReal)

def logits (a0 a1 : FVec Ideal S8192x1024 .f32) (a3 : FVec Ideal S16x8192 .f32) : FVec Ideal S16x8192x8192 .f32 :=
  select (broadcastInDim S16x8192x8192 ![1, 2] bcast_S8192x8192_S16x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (addf (Host.dotGeneral dot_S8192x16x64_S8192x16x64_S16x8192x8192_2_2_0_0_1_1 none (shapeCast S8192x16x64 a0 shapeCasts_S8192x1024_S8192x16x64) (shapeCast S8192x16x64 a1 shapeCasts_S8192x1024_S8192x16x64)) (subf (broadcastInDim S16x8192x8192 ![0, 1, 2] bcast_S16x8192x1_S16x8192x8192_0_1_2 (broadcastInDim S16x8192x1 ![0, 1] bcast_S16x8192_S16x8192x1_0_1 a3)) (broadcastInDim S16x8192x8192 ![0, 1, 2] bcast_S16x1x8192_S16x8192x8192_0_1_2 (broadcastInDim S16x1x8192 ![0, 2] bcast_S16x8192_S16x1x8192_0_2 a3)))) (broadcastInDim S16x8192x8192 ![] bcast_S_S16x8192x8192 (id (constant S_ .f32 0xFF800000#32)))

theorem logits_masked {a0 a1 : FVec Ideal S8192x1024 .f32} {a3 : FVec Ideal S16x8192 .f32} (h0 : Rows a0 I.q) (h1 : Rows a1 I.k)
    (h3 : ∀ h i, a3 (ix2 h i) = ((I.c h i : ℝ) : EReal)) : Masked (logits a0 a1 a3) I := fun h i j => by
  pointwise [logits]
  refine select_word (le_word i j) ?_ neg_inf
  simp only [col_hc]
  rw [show (I.s h i j) = (∑ e, I.q i (hc h e) * I.k j (hc h e)) + (I.c h i - I.c h j) from rfl, EReal.coe_add, EReal.coe_sub, ← Lift.sum]
  refine congrArg₂ _ (Finset.sum_congr rfl fun e _ => ?_) (congrArg₂ _ (h3 _ _) (h3 _ _))
  rw [EReal.coe_mul]
  exact congrArg₂ _ (h0 _ _) (h1 _ _)

def dweights (a4 a2 : FVec Ideal S8192x1024 .f32) : FVec Ideal S16x8192x8192 .f32 :=
  Host.dotGeneral dot_S16x64x8192_S8192x16x64_S16x8192x8192_1_2_2_0_0_1 none (transpose S16x64x8192 [1, 2, 0] (shapeCast S8192x16x64 a4 shapeCasts_S8192x1024_S8192x16x64) transposes_S8192x16x64_S16x64x8192_1_2_0) (shapeCast S8192x16x64 a2 shapeCasts_S8192x1024_S8192x16x64)

theorem dweights_real {a4 a2 : FVec Ideal S8192x1024 .f32} (h4 : Rows a4 I.o) (h2 : Rows a2 I.v) : Square (dweights a4 a2) I.dp := fun h i j => by
  pointwise [dweights]
  simp only [col_hc]
  unfold In.dp
  rw [← Lift.sum]
  refine Finset.sum_congr rfl fun e _ => ?_
  rw [EReal.coe_mul]
  exact congrArg₂ _ (h4 _ _) (h2 _ _)

def dlogits (dp e : FVec Ideal S16x8192x8192 .f32) (z : FVec Ideal S16x8192 .f32) : FVec Ideal S16x8192x8192 .f32 :=
  select (broadcastInDim S16x8192x8192 ![1, 2] bcast_S8192x8192_S16x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (addf (Host.divf dp (broadcastInDim S16x8192x8192 ![0, 1, 2] bcast_S16x8192x1_S16x8192x8192_0_1_2 (broadcastInDim S16x8192x1 ![0, 1] bcast_S16x8192_S16x8192x1_0_1 z))) (broadcastInDim S16x8192x8192 ![0, 1] bcast_S16x8192_S16x8192x8192_0_1 (Host.reduceAdd (Host.negf (shapeCast S16x8192x1 (Host.reduceAdd (mulf (mulf dp (broadcastInDim S16x8192x8192 ![0, 1, 2] bcast_S16x8192x1_S16x8192x8192_0_1_2 (Host.divf (broadcastInDim S16x8192x1 ![] bcast_S_S16x8192x1 (constant S_ .f32 0x3F800000#32)) (mulf (broadcastInDim S16x8192x1 ![0, 1] bcast_S16x8192_S16x8192x1_0_1 z) (broadcastInDim S16x8192x1 ![0, 1] bcast_S16x8192_S16x8192x1_0_1 z))))) e) (constant S_ .f32 0x00000000#32) reducesTo_S16x8192x8192_S16x8192_d2 h_S_) shapeCasts_S16x8192_S16x8192x1)) (constant S_ .f32 0x00000000#32) reducesTo_S16x8192x1_S16x8192_d2 h_S_))) e) (broadcastInDim S16x8192x8192 ![] bcast_S_S16x8192x8192 (constant S_ .f32 0x00000000#32))

theorem dlogits_real {dp e : FVec Ideal S16x8192x8192 .f32} {z : FVec Ideal S16x8192 .f32} {M : Fin 16 → Fin 8192 → ℝ} (hd : Square dp I.dp)
    (he : Square e fun h i j => I.u (M h i) h i j) (hz : ∀ h i, z (ix2 h i) = ((I.z (M h i) h i : ℝ) : EReal)) : Square (dlogits dp e z) I.ds := fun h i j => by
  pointwise [dlogits]
  have hz0 := (z_pos I (M h i) h i).ne'
  have e1 : Ideal.div (1 : EReal) (((I.z (M h i) h i * I.z (M h i) h i : ℝ)) : EReal) = ((1 / (I.z (M h i) h i * I.z (M h i) h i) : ℝ) : EReal) :=
    Lift.div 1 (mul_ne_zero hz0 hz0)
  refine (select_word (le_word i j) rfl rfl).trans ?_
  rw [Fin.sum_univ_one, hd h i j, he h i j, hz, ← EReal.coe_mul, e1, Lift.div _ hz0]
  simp only [hd h i _, he h i _, ← EReal.coe_mul, Lift.sum, ← EReal.coe_neg, ← EReal.coe_add]
  split
  · refine congrArg _ ?_
    have e2 : ∑ x, I.dp h i x * (1 / (I.z (M h i) h i * I.z (M h i) h i)) * I.u (M h i) h i x = I.dl h i / I.z (M h i) h i := by
      unfold In.dl
      rw [Finset.sum_div]
      refine Finset.sum_congr rfl fun x _ => ?_
      rw [← p_shift I (M h i)]
      field_simp
    rw [e2, In.ds, ← p_shift I (M h i)]
    field_simp
    ring
  · rw [ds_mask I h i j ‹_›]; rfl

def dqr (ds : FVec Ideal S16x8192x8192 .f32) (a1 : FVec Ideal S8192x1024 .f32) : FVec Ideal S8192x1024 .f32 :=
  shapeCast S8192x1024 (transpose S8192x16x64 [1, 0, 2] (Host.dotGeneral dot_S16x8192x8192_S8192x16x64_S16x8192x64_2_0_1_2_0_1 none ds (shapeCast S8192x16x64 a1 shapeCasts_S8192x1024_S8192x16x64)) transposes_S16x8192x64_S8192x16x64_1_0_2) shapeCasts_S8192x16x64_S8192x1024

theorem dqr_real {ds : FVec Ideal S16x8192x8192 .f32} {a1 : FVec Ideal S8192x1024 .f32} (hd : Square ds I.ds) (ha : Rows a1 I.k) (i : Fin 8192) (n : Fin 1024) : dqr ds a1 (ix2 i n) = ((I.dq i n : ℝ) : EReal) := by
  pointwise [dqr]
  simp only [hd _ _ _, ha _ _, ← EReal.coe_mul, Lift.sum]
  rfl

def dkr (ds : FVec Ideal S16x8192x8192 .f32) (a0 : FVec Ideal S8192x1024 .f32) : FVec Ideal S1024x8192 .f32 :=
  transpose S1024x8192 [1, 0] (shapeCast S8192x1024 (transpose S8192x16x64 [1, 0, 2] (Host.dotGeneral dot_S16x8192x8192_S8192x16x64_S16x8192x64_1_0_2_2_0_1 none ds (shapeCast S8192x16x64 a0 shapeCasts_S8192x1024_S8192x16x64)) transposes_S16x8192x64_S8192x16x64_1_0_2) shapeCasts_S8192x16x64_S8192x1024) transposes_S8192x1024_S1024x8192_1_0

theorem dkr_real {ds : FVec Ideal S16x8192x8192 .f32} {a0 : FVec Ideal S8192x1024 .f32} (hd : Square ds I.ds) (ha : Rows a0 I.q) (n : Fin 1024) (i : Fin 8192) : dkr ds a0 (ix2 n i) = ((I.dk i n : ℝ) : EReal) := by
  pointwise [dkr]
  simp only [hd _ _ _, ha _ _, ← EReal.coe_mul, Lift.sum]
  refine congrArg _ (Finset.sum_congr rfl fun _ _ => mul_comm _ _)

def dvr (p : FVec Ideal S16x8192x8192 .f32) (a4 : FVec Ideal S8192x1024 .f32) : FVec Ideal S1024x8192 .f32 :=
  transpose S1024x8192 [1, 0] (shapeCast S8192x1024 (transpose S8192x16x64 [2, 0, 1] (Host.dotGeneral dot_S16x64x8192_S16x8192x8192_S16x64x8192_2_1_1_2_0_0 none (transpose S16x64x8192 [1, 2, 0] (shapeCast S8192x16x64 a4 shapeCasts_S8192x1024_S8192x16x64) transposes_S8192x16x64_S16x64x8192_1_2_0) p) transposes_S16x64x8192_S8192x16x64_2_0_1) shapeCasts_S8192x16x64_S8192x1024) transposes_S8192x1024_S1024x8192_1_0

theorem dvr_real {p : FVec Ideal S16x8192x8192 .f32} {a4 : FVec Ideal S8192x1024 .f32} (hd : Square p I.p) (ha : Rows a4 I.o) (n : Fin 1024) (i : Fin 8192) : dvr p a4 (ix2 n i) = ((I.dv i n : ℝ) : EReal) := by
  pointwise [dvr]
  simp only [hd _ _ _, ha _ _, ← EReal.coe_mul, Lift.sum]
  rfl

def dckr (ds : FVec Ideal S16x8192x8192 .f32) : FVec Ideal S8x8x8192 .f32 :=
  pad S8x8x8192 ![0, 0, 0] ![0, 6, 0] ![0, 0, 0] (shapeCast S8x2x8192 (Host.reduceAdd (shapeCast S16x1x8192 (Host.reduceAdd (Host.negf ds) (constant S_ .f32 0x00000000#32) reducesTo_S16x8192x8192_S16x8192_d1 h_S_) shapeCasts_S16x8192_S16x1x8192) (constant S_ .f32 0x00000000#32) reducesTo_S16x1x8192_S16x8192_d1 h_S_) shapeCasts_S16x8192_S8x2x8192) (sitofp .f32 (constantI S_ 32 0#32)) pads_S8x2x8192_S8x8x8192_000_060_000 h_S_

theorem dckr_real {ds : FVec Ideal S16x8192x8192 .f32} (hd : Square ds I.ds) (g h : Fin 8) (j : Fin 8192) : dckr ds (ix3 g h j) = ((gateRow I g h j : ℝ) : EReal) := by
  pointwise [dckr]
  unfold gateRow
  split
  · rw [Fin.sum_univ_one]
    simp only [hd _ _ _, ← EReal.coe_neg, Lift.sum]
    refine congrArg _ ?_
    rw [Finset.sum_neg_distrib]
    exact congrArg (fun x => -∑ i, I.ds x i j) (Fin.ext (by show g.val * 2 + h.val = 2 * g.val + h.val; omega))
  · show (((0#32 : BitVec 32).toInt : ℝ) : EReal) = ((0 : ℝ) : EReal)
    simp

def dcqr (ds : FVec Ideal S16x8192x8192 .f32) : FVec Ideal S8x8192x2 .f32 :=
  transpose S8x8192x2 [0, 2, 1] (shapeCast S8x2x8192 (Host.reduceAdd (shapeCast S16x8192x1 (Host.reduceAdd ds (constant S_ .f32 0x00000000#32) reducesTo_S16x8192x8192_S16x8192_d2 h_S_) shapeCasts_S16x8192_S16x8192x1) (constant S_ .f32 0x00000000#32) reducesTo_S16x8192x1_S16x8192_d2 h_S_) shapeCasts_S16x8192_S8x2x8192) transposes_S8x2x8192_S8x8192x2_0_2_1

theorem dcqr_real {ds : FVec Ideal S16x8192x8192 .f32} (hd : Square ds I.ds) (g : Fin 8) (i : Fin 8192) (h : Fin 2) : dcqr ds (ix3 g i h) = ((I.dcq (head g h) i : ℝ) : EReal) := by
  pointwise [dcqr]
  rw [Fin.sum_univ_one]
  simp only [hd _ _ _, Lift.sum]
  exact congrArg _ (congrArg (I.dcq · i) (Fin.ext (by show g.val * 2 + h.val = 2 * g.val + h.val; omega)))

/-- The largest entry of each row. -/
def mx' (s : FVec Ideal S16x8192x8192 .f32) : FVec Ideal S16x8192 .f32 :=
  Host.reduce FloatOps.maximumf s (constant S_ .f32 0xFF800000#32) reducesTo_S16x8192x8192_S16x8192_d2 h_S_

/-- The row maxima as the softmax takes them. -/
def mxx' (s : FVec Ideal S16x8192x8192 .f32) : FVec Ideal S16x8192 .f32 :=
  maximumf (broadcastInDim S16x8192 ![] bcast_S_S16x8192 (constant S_ .f32 0xFF800000#32)) (mx' s)

/-- The exponentials of the rows below these shifts. -/
def ex' (s : FVec Ideal S16x8192x8192 .f32) (M : FVec Ideal S16x8192 .f32) : FVec Ideal S16x8192x8192 .f32 :=
  Host.exp (subf s (broadcastInDim S16x8192x8192 ![0, 1, 2] bcast_S16x8192x1_S16x8192x8192_0_1_2 (broadcastInDim S16x8192x1 ![0, 1] bcast_S16x8192_S16x8192x1_0_1 M)))

/-- The row sums. -/
def sums' (e : FVec Ideal S16x8192x8192 .f32) : FVec Ideal S16x8192 .f32 :=
  Host.reduceAdd e (constant S_ .f32 0x00000000#32) reducesTo_S16x8192x8192_S16x8192_d2 h_S_

/-- The rows over their sums. -/
def quot' (e : FVec Ideal S16x8192x8192 .f32) (z : FVec Ideal S16x8192 .f32) : FVec Ideal S16x8192x8192 .f32 :=
  Host.divf e (broadcastInDim S16x8192x8192 ![0, 1, 2] bcast_S16x8192x1_S16x8192x8192_0_1_2 (broadcastInDim S16x8192x1 ![0, 1] bcast_S16x8192_S16x8192x1_0_1 z))

theorem ex_same (s : FVec Ideal S16x8192x8192 .f32) : ex' s (mxx' s) = Cert.FlashBwdIdeal.Flash.ex s (Cert.FlashBwdIdeal.Flash.mxx s) := rfl
theorem sums_same (s : FVec Ideal S16x8192x8192 .f32) : sums' s = Cert.FlashBwdIdeal.Flash.sums s := rfl
theorem quot_same (s : FVec Ideal S16x8192x8192 .f32) (z : FVec Ideal S16x8192 .f32) : quot' s z = Cert.FlashBwdIdeal.Flash.quot s z := rfl

variable {m : (ℓ : Loc nD τ sig) → Buf (Elt Ideal) ℓ} {c : Dev nD}

/-- The reference's arguments hold these numbers. -/
structure Args (m : (ℓ : Loc nD τ sig) → Buf (Elt Ideal) ℓ) (c : Dev nD) (I : In) : Prop where
  q : Rows (m ((c.tc : Thread nD τ).loc main_arg0)) I.q
  k : Rows (m ((c.tc : Thread nD τ).loc main_arg1)) I.k
  v : Rows (m ((c.tc : Thread nD τ).loc main_arg2)) I.v
  g : ∀ h i, m ((c.tc : Thread nD τ).loc main_arg3) (ix2 h i) = ((I.c h i : ℝ) : EReal)
  o : Rows (m ((c.tc : Thread nD τ).loc main_arg4)) I.o

def sl (m : (ℓ : Loc nD τ sig) → Buf (Elt Ideal) ℓ) (c : Dev nD) : FVec Ideal S16x8192x8192 .f32 :=
  select (broadcastInDim S16x8192x8192 ![1, 2] bcast_S8192x8192_S16x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (addf (Host.dotGeneral (φ₁ := .f32) (φ₂ := .f32) dot_S8192x16x64_S8192x16x64_S16x8192x8192_2_2_0_0_1_1 none (shapeCast _ (m ((c.tc : Thread nD τ).loc main_arg0)) shapeCasts_S8192x1024_S8192x16x64) (shapeCast _ (m ((c.tc : Thread nD τ).loc main_arg1)) shapeCasts_S8192x1024_S8192x16x64)) (subf (broadcastInDim S16x8192x8192 ![0, 1, 2] bcast_S16x8192x1_S16x8192x8192_0_1_2 (broadcastInDim S16x8192x1 ![0, 1] bcast_S16x8192_S16x8192x1_0_1 (m ((c.tc : Thread nD τ).loc main_arg3)))) (broadcastInDim S16x8192x8192 ![0, 1, 2] bcast_S16x1x8192_S16x8192x8192_0_1_2 (broadcastInDim S16x1x8192 ![0, 2] bcast_S16x8192_S16x1x8192_0_2 (m ((c.tc : Thread nD τ).loc main_arg3)))))) (broadcastInDim S16x8192x8192 ![] bcast_S_S16x8192x8192 (id (constant S_ .f32 0xFF800000#32)))
def dw (m : (ℓ : Loc nD τ sig) → Buf (Elt Ideal) ℓ) (c : Dev nD) : FVec Ideal S16x8192x8192 .f32 :=
  Host.dotGeneral (φ₁ := .f32) (φ₂ := .f32) dot_S16x64x8192_S8192x16x64_S16x8192x8192_1_2_2_0_0_1 none (transpose S16x64x8192 [1, 2, 0] (shapeCast _ (m ((c.tc : Thread nD τ).loc main_arg4)) shapeCasts_S8192x1024_S8192x16x64) transposes_S8192x16x64_S16x64x8192_1_2_0) (shapeCast _ (m ((c.tc : Thread nD τ).loc main_arg2)) shapeCasts_S8192x1024_S8192x16x64)
theorem sl_eq : sl m c = logits (m ((c.tc : Thread nD τ).loc main_arg0)) (m ((c.tc : Thread nD τ).loc main_arg1)) (m ((c.tc : Thread nD τ).loc main_arg3)) := rfl
theorem dw_eq : dw m c = dweights (m ((c.tc : Thread nD τ).loc main_arg4)) (m ((c.tc : Thread nD τ).loc main_arg2)) := rfl
def sm (m : (ℓ : Loc nD τ sig) → Buf (Elt Ideal) ℓ) (c : Dev nD) : FVec Ideal S16x8192x8192 .f32 :=
  quot' (ex' (sl m c) (mxx' (sl m c))) (sums' (ex' (sl m c) (mxx' (sl m c))))
def dsl (m : (ℓ : Loc nD τ sig) → Buf (Elt Ideal) ℓ) (c : Dev nD) : FVec Ideal S16x8192x8192 .f32 :=
  dlogits (dw m c) (ex' (sl m c) (mxx' (sl m c))) (sums' (ex' (sl m c) (mxx' (sl m c))))

theorem res80 : res_main_v80 m c = dqr (dsl m c) (m ((c.tc : Thread nD τ).loc main_arg1)) := by
  unfold res_main_v80 dsl dqr dlogits sums' ex' mxx' mx' sl dw; rfl
theorem res83 : res_main_v83 m c = dkr (dsl m c) (m ((c.tc : Thread nD τ).loc main_arg0)) := by
  unfold res_main_v83 dsl dkr dlogits sums' ex' mxx' mx' sl dw; rfl
theorem res84 : res_main_v84 m c = dvr (sm m c) (m ((c.tc : Thread nD τ).loc main_arg4)) := by
  unfold res_main_v84 sm dvr quot' sums' ex' mxx' mx' sl; rfl
theorem res82 : res_main_v82 m c = dckr (dsl m c) := by
  unfold res_main_v82 dsl dckr dlogits sums' ex' mxx' mx' sl dw; rfl
theorem res86 : res_main_v86 m c = dcqr (dsl m c) := by
  unfold res_main_v86 dsl dcqr dlogits sums' ex' mxx' mx' sl dw; rfl

variable (X : Args m c I)
include X

theorem sl_masked : Masked (sl m c) I := by
  rw [sl_eq]; exact logits_masked X.q X.k X.g
theorem dw_real : Square (dw m c) I.dp := by
  rw [dw_eq]; exact dweights_real X.o X.v
theorem sm_real : Square (sm m c) I.p := by
  obtain ⟨M, -, -, -, -, h⟩ := soft (sl_masked X)
  unfold sm
  rw [quot_same, sums_same, ex_same]
  exact h
theorem dsl_real : Square (dsl m c) I.ds := by
  obtain ⟨M, -, -, he, hz, -⟩ := soft (sl_masked X)
  unfold dsl
  rw [sums_same, ex_same]
  exact dlogits_real (dw_real X) he hz

theorem out0 : res_main_v80 m c = fun i : S8192x1024.Idx => ((I.dq (i 0) (i 1) : ℝ) : EReal) := by
  funext i
  idx_vars i
  rw [res80]
  exact dqr_real (dsl_real X) X.k _ _
theorem out1 : res_main_v83 m c = fun i : S1024x8192.Idx => ((I.dk (i 1) (i 0) : ℝ) : EReal) := by
  funext i
  idx_vars i
  rw [res83]
  exact dkr_real (dsl_real X) X.q _ _
theorem out2 : res_main_v84 m c = fun i : S1024x8192.Idx => ((I.dv (i 1) (i 0) : ℝ) : EReal) := by
  funext i
  idx_vars i
  rw [res84]
  exact dvr_real (sm_real X) X.o _ _
theorem out3 : res_main_v82 m c = fun i : S8x8x8192.Idx => ((gateRow I (i 0) (i 1) (i 2) : ℝ) : EReal) := by
  funext i
  idx_vars i
  rw [res82]
  exact dckr_real (dsl_real X) _ _ _
theorem out4 : res_main_v86 m c = fun i : S8x8192x2.Idx => ((I.dcq (head (i 0) (i 2)) (i 1) : ℝ) : EReal) := by
  funext i
  idx_vars i
  rw [res86]
  exact dcqr_real (dsl_real X) _ _ _

end Cert.FlashBwdRefIdeal.Flash

end
-- ==== Proof.FlashClaim.lean ====
/- The attention's backward kernel against differentiation of its forward lines: on finite arguments both leave the same arrays. -/
module

public import proofs.«01_k».proof.Defs
public import proofs.«01_k».proof.Proof.Gen.Pre_finite_flash
public import proofs.«01_k».proof.Proof.Fin
public import proofs.«01_k».proof.Proof.FlashRef
public import Idealize.ShloMosaic.Lib.Claim

@[expose] public section

set_option maxRecDepth 16384

noncomputable section

open Idealize.ShloMosaic Idealize.ShloMosaic.TcCoe Idealize.SL.Sem

namespace Cert.Flash

open Cert.Lift Cert.Att Cert.FlashBwdIdeal.Flash

/-- The reference runs to the end, leaves its arguments alone and every semaphore at zero. -/
theorem refFrame : Cert.quiescent_FlashBwdRefIdeal := fun m ρ _ =>
  (θ_run _ _ _).mono (fun r h => ⟨fun c => (h c).2.2.2.2.2, sem_eq_zero_of_no_sems (by decide) r.2⟩) (Cert.FlashBwdRefIdeal.Value.run m ρ)

/-- Finite arguments are real arrays. -/
theorem reals (Q K V : FVec Ideal ⟨2, ![8192, 1024]⟩ .f32) (G : FVec Ideal ⟨2, ![16, 8192]⟩ .f32) (O : FVec Ideal ⟨2, ![8192, 1024]⟩ .f32)
    (h : Cert.Pre_finite_flash.fn (F := Ideal) Q K V G O = fun _ => 1#1) :
    ∃ I : In, (∀ i n, Q (ix2 i n) = ((I.q i n : ℝ) : EReal)) ∧ (∀ i n, K (ix2 i n) = ((I.k i n : ℝ) : EReal)) ∧ (∀ i n, V (ix2 i n) = ((I.v i n : ℝ) : EReal))
      ∧ (∀ h i, G (ix2 h i) = ((I.c h i : ℝ) : EReal)) ∧ ∀ i n, O (ix2 i n) = ((I.o i n : ℝ) : EReal) := by
  have h0 := congrFun h ix0
  dsimp only [Cert.Pre_finite_flash.fn] at h0
  obtain ⟨h1, hO⟩ := IntOp.andi_eq_one.mp h0
  obtain ⟨h2, hG⟩ := IntOp.andi_eq_one.mp h1
  obtain ⟨h3, hV⟩ := IntOp.andi_eq_one.mp h2
  obtain ⟨hQ, hK⟩ := IntOp.andi_eq_one.mp h3
  obtain ⟨q, hq⟩ := real_of_all _ _ _ _ _ hQ
  obtain ⟨k, hk⟩ := real_of_all _ _ _ _ _ hK
  obtain ⟨v, hv⟩ := real_of_all _ _ _ _ _ hV
  obtain ⟨g, hg⟩ := real_of_all _ _ _ _ _ hG
  obtain ⟨o, ho⟩ := real_of_all _ _ _ _ _ hO
  exact ⟨⟨fun i n => q (ix2 i n), fun i n => k (ix2 i n), fun i n => v (ix2 i n), fun h i => g (ix2 h i), fun i n => o (ix2 i n)⟩,
    fun _ _ => hq _, fun _ _ => hk _, fun _ _ => hv _, fun _ _ => hg _, fun _ _ => ho _⟩

set_option maxHeartbeats 2000000 in
theorem algebraic : Cert.algebraic_FlashBwdIdeal_FlashBwdRefIdeal_pre_finite_flash := by
  intro m ρ m' ρ' hpre hagree
  have hr := fun c => reals _ _ _ _ _ (hpre c)
  choose I hQ hK hV hG hO using hr
  have hA := fun c => host_of (m := m) (c := c) (I := I c) ⟨hQ c, hK c, hV c, hG c, hO c⟩
  choose A hI hok H using hA
  refine ⟨fun c => fun i : FlashBwdIdeal.S8192x1024.Idx => (((I c).dq (i 0) (i 1) : ℝ) : EReal),
    fun c => fun i : FlashBwdIdeal.S1024x8192.Idx => (((I c).dk (i 1) (i 0) : ℝ) : EReal),
    fun c => fun i : FlashBwdIdeal.S1024x8192.Idx => (((I c).dv (i 1) (i 0) : ℝ) : EReal),
    fun c => fun i : FlashBwdIdeal.S8x8x8192.Idx => ((gateRow (I c) (i 0) (i 1) (i 2) : ℝ) : EReal),
    fun c => fun i : FlashBwdIdeal.S8x8192x2.Idx => (((I c).dcq (head (i 0) (i 2)) (i 1) : ℝ) : EReal), ?_, ?_⟩
  · refine (θ_run _ _ _).mono (fun r h c => ?_) (θ_run_and (Cert.FlashBwdIdeal.Flash.run_main m ρ) (Cert.FlashBwdIdeal.Flash.frame m ρ))
    obtain ⟨h1, h2⟩ := h
    have w := (h1 c).1
    have e9 := final9 (H c) (hok c)
    have e10 := final10 (H c) (hok c)
    have e11 := final11 (H c) (hok c)
    have e12 := final12 (H c) (hok c)
    have e13 := final13 (H c) (hok c)
    rw [hI c] at e9 e10 e11 e12 e13
    exact ⟨(w 9).trans e9, (w 10).trans e10, (w 11).trans e11, (w 12).trans e12, (w 13).trans e13, h2.1 c⟩
  · refine (θ_run _ _ _).mono (fun _ h c => ?_) (FlashBwdRefIdeal.Value.run m' ρ')
    have X : FlashBwdRefIdeal.Flash.Args m' c (I c) := by
      obtain ⟨a0, a1, a2, a3, a4⟩ := hagree c
      constructor
      · intro i n; rw [a0]; exact hQ c i n
      · intro i n; rw [a1]; exact hK c i n
      · intro i n; rw [a2]; exact hV c i n
      · intro i n; rw [a3]; exact hG c i n
      · intro i n; rw [a4]; exact hO c i n
    have h' := h c
    have o0 := FlashBwdRefIdeal.Flash.out0 X
    have p0 := h'.1
    have e0 := p0.trans o0
    have o1 := FlashBwdRefIdeal.Flash.out1 X
    have p1 := h'.2.1
    have e1 := p1.trans o1
    have o2 := FlashBwdRefIdeal.Flash.out2 X
    have p2 := h'.2.2.1
    have e2 := p2.trans o2
    have o3 := FlashBwdRefIdeal.Flash.out3 X
    have p3 := h'.2.2.2.1
    have e3 := p3.trans o3
    have o4 := FlashBwdRefIdeal.Flash.out4 X
    have p4 := h'.2.2.2.2.1
    have e4 := p4.trans o4
    exact ⟨e0, e1, e2, e3, e4, h'.2.2.2.2.2⟩

/-- The mask's constant is the word of −1e30 in the kernel's text, and −∞ where it is named. -/
theorem preserves : Cert.preserves_FlashBwd_FlashBwdIdeal := by
  unfold Cert.preserves_FlashBwd_FlashBwdIdeal
  exact IdealRules.named_const.statement Cert.FlashBwdIdeal.κ "mask" .f32 _ ⊥ rfl

end Cert.Flash

end
-- ==== Proof.Rms.lean ====
/- The gradient through a norm of a row, over the reals. -/
module

public import proofs.«01_k».proof.Proof.Lift

@[expose] public section

set_option maxRecDepth 16384

noncomputable section

namespace Cert.Rms

open Cert.Lift

/-- The gradient of a row through its norm with scale `g`, from the gradient `dn` of the normed row. -/
def dxRow (x g dn : Fin 1024 → ℝ) (k : Fin 1024) : ℝ :=
  rr x * (dn k * g k) - x k * (rr x * rr x * rr x) * ((∑ l, dn l * g l * x l) / 1024)

/-- What a row adds to the scale's gradient. -/
def scaleRow (x dn : Fin 1024 → ℝ) (k : Fin 1024) : ℝ := dn k * x k * rr x

/-- The norm of a row. -/
def norm (x g : Fin 1024 → ℝ) (k : Fin 1024) : ℝ := x k * rr x * g k

/-- The gradient as differentiation lays it out, added to what reaches the row directly. -/
theorem dxRow_of_parts (d : ℝ) (x g dn : Fin 1024 → ℝ) (k : Fin 1024) :
    d + dn k * g k * rr x
        + x k * ((∑ l, x l * (dn l * g l)) * (-1 / 2 * (rr x / ms x)) / 1024)
        + (∑ l, x l * (dn l * g l)) * (-1 / 2 * (rr x / ms x)) / 1024 * x k
      = d + dxRow x g dn k := by
  rw [Finset.sum_congr rfl fun l _ => mul_comm (x l) (dn l * g l), div_eq_mul_inv (rr x) (ms x), ← rr_sq]
  unfold dxRow; ring

theorem scaleRow_of_parts (x dn : Fin 1024 → ℝ) (k : Fin 1024) : x k * rr x * dn k = scaleRow x dn k := by
  unfold scaleRow; ring

theorem c_eighth : Idealize.ShloMosaic.Ideal.ofBits .f32 0x3E000000#32 = ((1 / 8 : ℝ) : EReal) := by
  simp [Idealize.ShloMosaic.Ideal.ofBits, Idealize.ShloMosaic.Ideal.ieee, -EReal.coe_mul]; norm_num

end Cert.Rms

end
-- ==== Proof.QKern.lean ====
/- The queries' gradient: what each grid point leaves, and the three result arrays after the run, over the reals. -/
module

public import proofs.«01_k».proof.Proof.Gen.QBwdIdeal.Frame
public import Idealize.ShloMosaic.Lib.Pipeline.ValueKit
public import Idealize.ShloMosaic.Lib.Pipeline.ReadBack
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.Query

/-- The gradient of the normed row from that of the scaled queries. -/
def dn (q : Fin 1024 → ℝ) (w : Fin 1024 → Fin 1024 → ℝ) (k : Fin 1024) : ℝ := ∑ l, q l * (1 / 8) * w k l

end Cert.Query

namespace Cert.QBwdIdeal.Query

open Cert.QBwdIdeal Cert.QBwdIdeal.Gen Cert.Rms Cert.Query Cert.Lift

section Payloads

variable (d : Fin 256 → Fin 1024 → EReal) (q x : Fin 256 → Fin 1024 → ℝ) (g : Fin 1024 → ℝ) (w : Fin 1024 → Fin 1024 → ℝ)
variable {A Q X : FVec Ideal S256x1024 .f32} {G : FVec Ideal S1x1024 .f32} {W : FVec Ideal S1024x1024 .bf16}
variable (hA : ∀ p k, A (ix2 p k) = d p k) (hQ : ∀ p k, Q (ix2 p k) = ((q p k : ℝ) : EReal)) (hX : ∀ p k, X (ix2 p k) = ((x p k : ℝ) : EReal))
  (hG : ∀ k, G (ix2 0 k) = ((g k : ℝ) : EReal)) (hW : ∀ k l, W (ix2 k l) = ((w k l : ℝ) : EReal))

include hA hQ hX hG hW in
theorem dx_pay (p : Fin 256) (k : Fin 1024) :
    k0_pay1 (F := Ideal) (k0_pay10 X Q G W) (k0_pay11 X Q G W) A (ix2 p k) = d p k + ((dxRow (x p) g (dn (q p) w) k : ℝ) : EReal) := by
  pointwise [k0_pay1, k0_pay5, k0_pay7, k0_pay8, k0_pay9, k0_pay10, k0_pay11]
  simp only [hA, hQ, hX, hG, hW, c_1024, c_eps, c_zero, c_eighth, ← EReal.coe_mul, ← EReal.coe_add, ← EReal.coe_sub, sum, div_1024, rsqrt_ms, zero_add]
  rfl
include hQ in
theorem dq_pay (p : Fin 256) (k : Fin 1024) : k0_pay6 (F := Ideal) Q (ix2 p k) = ((q p k * (1 / 8) : ℝ) : EReal) := by
  pointwise [k0_pay5, k0_pay6]
  simp only [hQ, c_eighth, ← EReal.coe_mul]
include hQ hX hW in
theorem rows_pay (S : FVec Ideal S8x1024 .f32) (a : Fin 8) (k : Fin 1024) :
    k0_pay2 (F := Ideal) X (k0_pay7 X) (k0_pay8 Q W) S (ix2 a k)
      = S (ix2 a k) + ((∑ b : Fin 32, scaleRow (x ⟨b * 8 + a, by omega⟩) (dn (q ⟨b * 8 + a, by omega⟩) w) k : ℝ) : EReal) := by
  pointwise [k0_pay2, k0_pay5, k0_pay7, k0_pay8]
  simp only [hQ, hX, hW, c_1024, c_eps, c_zero, c_eighth, ← EReal.coe_mul, ← EReal.coe_add, ← EReal.coe_sub, sum, div_1024, rsqrt_ms, zero_add]
  rfl
theorem zero_pay (i) : k0_pay4 (F := Ideal) i = ((0 : ℝ) : EReal) := by
  pointwise [k0_pay4, c_zero]
theorem fold_pay (S : FVec Ideal S8x1024 .f32) (k : Fin 1024) : k0_pay3 (F := Ideal) S (ix2 0 k) = ∑ a : Fin 8, S (ix2 a k) := by
  pointwise! [k0_pay3]

end Payloads

variable (m : (ℓ : Loc nD τ sig) → Buf (Elt Ideal) ℓ) (c : Dev nD)

abbrev ba (t : Fin cfg0.N) : Vec Ideal S256x1024 .f32 := iblk m c 0 t
abbrev bq (t : Fin cfg0.N) : Vec Ideal S256x1024 .f32 := iblk m c 1 t
abbrev bx (t : Fin cfg0.N) : Vec Ideal S256x1024 .f32 := iblk m c 2 t
abbrev bg (t : Fin cfg0.N) : Vec Ideal S1x1024 .f32 := iblk m c 3 t
abbrev bw (t : Fin cfg0.N) : Vec Ideal S1024x1024 .bf16 := iblk m c 4 t

/-- The block of the stream's gradient that point `t` writes. -/
def dx (t : Fin cfg0.N) : Vec Ideal S256x1024 .f32 :=
  k0_pay1 (k0_pay10 (bx m c t) (bq m c t) (bg m c t) (bw m c t)) (k0_pay11 (bx m c t) (bq m c t) (bg m c t) (bw m c t)) (ba m c t)
/-- The eight partial rows of the scale's gradient after point `t`, from what they held before. -/
def rows (t : Fin cfg0.N) (s : Vec Ideal S8x1024 .f32) : Vec Ideal S8x1024 .f32 :=
  k0_pay2 (bx m c t) (k0_pay7 (bx m c t)) (k0_pay8 (bq m c t) (bw m c t)) s

theorem outs_A (t : Fin cfg0.N) (h0 : t.val % 32 = 0) (h1 : ¬t.val % 32 = 31) :
    (outsAt0 m c t.val t.isLt).1 = dx m c t ∧ (outsAt0 m c t.val t.isLt).2.1 = k0_pay6 (bq m c t)
      ∧ (outsAt0 m c t.val t.isLt).2.2.2 = rows m c t (k0_pay4 (F := Ideal)) := by
  rw [outsAt0_A m c t h0 h1]; refine ⟨?_, ?_, ?_⟩ <;> (frame_out <;> rfl)
theorem outs_B (t : Fin cfg0.N) (h0 : ¬t.val % 32 = 0) (h1 : ¬t.val % 32 = 31) :
    (outsAt0 m c t.val t.isLt).1 = dx m c t ∧ (outsAt0 m c t.val t.isLt).2.1 = k0_pay6 (bq m c t)
      ∧ (outsAt0 m c t.val t.isLt).2.2.2 = rows m c t (outsAt0 m c (t.val - 1) (by omega)).2.2.2 := by
  rw [outsAt0_B m c t h0 h1]; refine ⟨?_, ?_, ?_⟩
  · frame_out <;> rfl
  · frame_out <;> rfl
  · frame_out; simp only [read_unread_whole]; rfl
theorem outs_C (t : Fin cfg0.N) (h0 : ¬t.val % 32 = 0) (h1 : t.val % 32 = 31) :
    (outsAt0 m c t.val t.isLt).1 = dx m c t ∧ (outsAt0 m c t.val t.isLt).2.1 = k0_pay6 (bq m c t)
      ∧ (outsAt0 m c t.val t.isLt).2.2.2 = rows m c t (outsAt0 m c (t.val - 1) (by omega)).2.2.2
      ∧ (outsAt0 m c t.val t.isLt).2.2.1 = k0_pay3 (rows m c t (outsAt0 m c (t.val - 1) (by omega)).2.2.2) := by
  rw [outsAt0_C m c t h0 h1]; refine ⟨?_, ?_, ?_, ?_⟩
  · frame_out <;> rfl
  · frame_out <;> rfl
  · frame_out; simp only [read_unread_whole]; rfl
  · frame_out; simp only [read_unread_whole]; rfl

theorem outs_all (t : Fin cfg0.N) : (outsAt0 m c t.val t.isLt).1 = dx m c t ∧ (outsAt0 m c t.val t.isLt).2.1 = k0_pay6 (bq m c t) := by
  by_cases h0 : t.val % 32 = 0
  · exact ⟨(outs_A m c t h0 (by omega)).1, (outs_A m c t h0 (by omega)).2.1⟩
  · by_cases h1 : t.val % 32 = 31
    · exact ⟨(outs_C m c t h0 h1).1, (outs_C m c t h0 h1).2.1⟩
    · exact ⟨(outs_B m c t h0 h1).1, (outs_B m c t h0 h1).2.1⟩
theorem rows_step (t : Fin cfg0.N) (h0 : ¬t.val % 32 = 0) : (outsAt0 m c t.val t.isLt).2.2.2 = rows m c t (outsAt0 m c (t.val - 1) (by omega)).2.2.2 := by
  by_cases h1 : t.val % 32 = 31
  · exact (outs_C m c t h0 h1).2.2.1
  · exact (outs_B m c t h0 h1).2.2

variable (d : Fin 8192 → Fin 1024 → EReal) (q x : Fin 8192 → Fin 1024 → ℝ) (g : Fin 1024 → ℝ) (w : Fin 1024 → Fin 1024 → ℝ)
variable (hA : ∀ n k, m ((c.tc : Thread nD τ).loc main_arg0) (ix2 n k) = d n k) (hQ : ∀ n k, m ((c.tc : Thread nD τ).loc main_arg1) (ix2 n k) = ((q n k : ℝ) : EReal))
  (hX : ∀ n k, m ((c.tc : Thread nD τ).loc main_arg2) (ix2 n k) = ((x n k : ℝ) : EReal)) (hG : ∀ k, m ((c.tc : Thread nD τ).loc main_arg3) (ix1 k) = ((g k : ℝ) : EReal))
  (hW : ∀ k l, m ((c.tc : Thread nD τ).loc main_arg4) (ix2 k l) = ((w k l : ℝ) : EReal))

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![t.val, 0] ∧ win0_7.index t = ![0, 0] :=
  (by decide +kernel : ∀ t : Fin grid0.N, _)
theorem lt32 (t : Fin cfg0.N) : t.val < 32 := lt_of_lt_of_eq t.isLt N_0

/-- The rows a grid point works on. -/
def tile {β : Type} (v : Fin 8192 → Fin 1024 → β) (s : Fin cfg0.N) (p : Fin 256) : Fin 1024 → β := v ⟨256 * s.val + p, by have := lt32 s; omega⟩

include hA in
theorem ba_at (s : Fin cfg0.N) (p : Fin 256) (k : Fin 1024) : ba m c s (ix2 p k) = tile d s p k := by
  refine Eq.trans ?_ (hA ⟨256 * s.val + p, by have := lt32 s; omega⟩ k)
  unfold ba; blk_simp [iblk, idx s]; entry_read; blk_ext [idx s]
include hQ in
theorem bq_at (s : Fin cfg0.N) (p : Fin 256) (k : Fin 1024) : bq m c s (ix2 p k) = ((tile q s p k : ℝ) : EReal) := by
  refine Eq.trans ?_ (hQ ⟨256 * s.val + p, by have := lt32 s; omega⟩ k)
  unfold bq; blk_simp [iblk, idx s]; entry_read; blk_ext [idx s]
include hX in
theorem bx_at (s : Fin cfg0.N) (p : Fin 256) (k : Fin 1024) : bx m c s (ix2 p k) = ((tile x s p k : ℝ) : EReal) := by
  refine Eq.trans ?_ (hX ⟨256 * s.val + p, by have := lt32 s; omega⟩ k)
  unfold bx; blk_simp [iblk, idx s]; entry_read; blk_ext [idx s]
include hG in
theorem bg_at (s : Fin cfg0.N) (k : Fin 1024) : bg m c s (ix2 0 k) = ((g k : ℝ) : EReal) := by
  refine Eq.trans ?_ (hG k)
  unfold bg; blk_simp [iblk, idx s]; entry_read; pointwise; blk_ext [idx s]
include hW in
theorem bw_at (s : Fin cfg0.N) (k l : Fin 1024) : bw m c s (ix2 k l) = ((w k l : ℝ) : EReal) := by
  refine Eq.trans ?_ (hW k l)
  unfold bw; blk_simp [iblk, idx s]; entry_read; pointwise; blk_ext [idx s]

include hQ hX hW in
theorem rows_last (s : Fin cfg0.N) (h : s.val % 32 = 31) (a : Fin 8) (k : Fin 1024) :
    (outsAt0 m c s.val s.isLt).2.2.2 (ix2 a k)
      = ((∑ r : Fin 32, ∑ b : Fin 32, scaleRow (x ⟨256 * r.val + (b.val * 8 + a.val), by omega⟩) (dn (q ⟨256 * r.val + (b.val * 8 + a.val), by omega⟩) w) k : ℝ) : EReal) := by
  have pay := fun r : Fin cfg0.N => rows_pay (tile q r) (tile x r) w (bq_at m c q hQ r) (bx_at m c x hX r) (bw_at m c w hW r)
  refine (Pipeline.eq_sum_fin_of_reset_step_apply_last (fun n hn (j : Fin 8 × Fin 1024) => ((outsAt0 m c n hn).2.2.2 (ix2 j.1 j.2) : EReal)) 32 (fun _ => 0)
    (fun r j => ((∑ b : Fin 32, scaleRow (tile x r ⟨b * 8 + j.1, by omega⟩) (dn (tile q r ⟨b * 8 + j.1, by omega⟩) w) j.2 : ℝ) : EReal))
    (fun r hr j => ?_) (fun r hr j => ?_) (le_of_eq N_0) s (by have := lt32 s; have hN : cfg0.N = 32 := N_0; omega) (a, k)).trans ?_
  · refine (congrFun (outs_A m c r hr (by omega)).2.2 _).trans ((pay r _ j.1 j.2).trans ?_)
    rw [zero_pay, EReal.coe_zero]
  · exact (congrFun (rows_step m c r hr) _).trans (pay r _ j.1 j.2)
  · rw [zero_add]
    exact Lift.sum (n := 32) _

include hA hQ hX hG hW in
/-- The stream's gradient after the run. -/
theorem final5 : (dats m 0 c).arrAt 5 (cfgs 0).N = fun i : S8192x1024.Idx => d (i 0) (i 1) + ((dxRow (x (i 0)) g (dn (q (i 0)) w) (i 1) : ℝ) : EReal) := by
  refine (dats m 0 c).arrAt_eq_of_covers 5 _ (by decide +kernel) fun s _ y => ?_
  blk_simp
  rw [after0_5, (outs_all m c s).1]
  idx_vars y
  refine (dx_pay (tile d s) (tile q s) (tile x s) g w (ba_at m c d hA s) (bq_at m c q hQ s) (bx_at m c x hX s) (bg_at m c g hG s) (bw_at m c w hW s) y0 y1).trans ?_
  have e : ((View.whole main_v2_0).slice (win0_5.rect s)).emb (ix2 y0 y1) = ix2 (⟨256 * s.val + y0, by have := lt32 s; omega⟩ : Fin 8192) y1 := by
    blk_ext [idx s]
  rw [e]; rfl
include hQ in
/-- The scaled queries' gradient after the run. -/
theorem final6 : (dats m 0 c).arrAt 6 (cfgs 0).N = fun i : S8192x1024.Idx => ((q (i 0) (i 1) * (1 / 8) : ℝ) : EReal) := by
  refine (dats m 0 c).arrAt_eq_of_covers 6 _ (by decide +kernel) fun s _ y => ?_
  blk_simp
  rw [after0_6, (outs_all m c s).2]
  idx_vars y
  refine (dq_pay (tile q s) (bq_at m c q hQ s) y0 y1).trans ?_
  have e : ((View.whole main_v2_1).slice (win0_6.rect s)).emb (ix2 y0 y1) = ix2 (⟨256 * s.val + y0, by have := lt32 s; omega⟩ : Fin 8192) y1 := by
    blk_ext [idx s]
  rw [e]; rfl
include hQ hX hW in
/-- The scale's gradient after the run. -/
theorem final7 : (dats m 0 c).arrAt 7 (cfgs 0).N = fun i : S1x1024.Idx => ((∑ n, scaleRow (x n) (dn (q n) w) (i 1) : ℝ) : EReal) := by
  refine (dats m 0 c).arrAt_eq_of_covers 7 _ (by decide +kernel) fun s hs y => ?_
  have h := (flush0_7 s).mp hs
  blk_simp
  rw [after0_7, (outs_C m c s (by omega) h).2.2.2, ← rows_step m c s (by omega)]
  idx_vars y
  have e : ((View.whole main_v2_2).slice (win0_7.rect s)).emb (ix2 y0 y1) = ix2 (0 : Fin 1) y1 := by
    blk_ext [idx s]
  rw [e, show ix2 y0 y1 = ix2 0 y1 from by blk_ext []]
  refine (fold_pay _ y1).trans ?_
  refine (Finset.sum_congr rfl fun a _ => rows_last m c q x w hQ hX hW s h a y1).trans ?_
  rw [Lift.sum (n := 8)]
  exact congrArg _ (Lift.sum_tiles fun n => scaleRow (x n) (dn (q n) w) y1)

end Cert.QBwdIdeal.Query

end
-- ==== Proof.QRef.lean ====
/- The derivative of the queries' forward lines, over the reals. -/
module

public import proofs.«01_k».proof.Proof.Gen.QBwdRefIdeal.Run
public import proofs.«01_k».proof.Proof.QKern

@[expose] public section

set_option maxRecDepth 16384

noncomputable section

open Idealize.ShloMosaic Idealize.ShloMosaic.TcCoe Idealize.SL.Sem

namespace Cert.QBwdRefIdeal.Query

open Cert.QBwdRefIdeal Cert.QBwdRefIdeal.Gen Cert.QBwdRefIdeal.Value Lift Cert.Rms Cert.Query

variable (m : (ℓ : Loc nD τ sig) → Buf (Elt Ideal) ℓ) (c : Dev nD)
variable (d : Fin 8192 → Fin 1024 → EReal) (q x : Fin 8192 → Fin 1024 → ℝ) (g : Fin 1024 → ℝ) (w : Fin 1024 → Fin 1024 → ℝ)
variable (hA : ∀ n k, m ((c.tc : Thread nD τ).loc main_arg0) (ix2 n k) = d n k) (hQ : ∀ n k, m ((c.tc : Thread nD τ).loc main_arg1) (ix2 n k) = ((q n k : ℝ) : EReal))
  (hX : ∀ n k, m ((c.tc : Thread nD τ).loc main_arg2) (ix2 n k) = ((x n k : ℝ) : EReal)) (hG : ∀ k, m ((c.tc : Thread nD τ).loc main_arg3) (ix1 k) = ((g k : ℝ) : EReal))
  (hW : ∀ k l, m ((c.tc : Thread nD τ).loc main_arg4) (ix2 k l) = ((w k l : ℝ) : EReal))

include hA hQ hX hG hW

theorem ref_dx (n : Fin 8192) (k : Fin 1024) : res_out0 m c (ix2 n k) = d n k + ((dxRow (x n) g (dn (q n) w) k : ℝ) : EReal) := by
  pointwise [res_main_v44]
  simp only [Fin.sum_univ_one, hA, hQ, hX, hG, hW, c_1024, c_eps, c_neg_half, c_zero, c_eighth, ← EReal.coe_mul, ← EReal.coe_add, ← EReal.coe_sub, sum, div_1024, rsqrt_ms, div_ms, zero_add]
  rw [add_assoc, add_assoc, ← EReal.coe_add, ← EReal.coe_add]
  refine congrArg (fun r : ℝ => d n k + (r : EReal)) (Eq.trans ?_ ((dxRow_of_parts 0 (x n) g (dn (q n) w) k).trans (zero_add _)))
  rw [zero_add, add_assoc]; rfl

/-- The results of the reference, in the reals. -/
theorem results {a : FVec Ideal S8192x1024 .f32} {b : FVec Ideal S8192x1024 .bf16}
    (h0 : a = res_out0 m c)
    (h1 : b = truncf .bf16 (mulf (m ((c.tc : Thread nD τ).loc main_arg1)) (broadcastInDim S8192x1024 ![] bcast_S_S8192x1024 (constant S_ .f32 0x3E000000#32))) bitsLt_bf16_f32) :
    a = (fun i : S8192x1024.Idx => d (i 0) (i 1) + ((dxRow (x (i 0)) g (dn (q (i 0)) w) (i 1) : ℝ) : EReal))
    ∧ b = (fun i : S8192x1024.Idx => ((q (i 0) (i 1) * (1 / 8) : ℝ) : EReal)) := by
  refine ⟨h0.trans ?_, h1.trans ?_⟩
  · funext i
    idx_vars i
    exact ref_dx m c d q x g w hA hQ hX hG hW i0 i1
  · funext i
    idx_vars i
    pointwise []
    simp only [hQ, c_eighth, ← EReal.coe_mul]
omit hA hQ hX hG hW

/-- The reference's run over finite arguments, in the reals. -/
theorem run_real (d : Dev nD → Fin 8192 → Fin 1024 → EReal) (q x : Dev nD → Fin 8192 → Fin 1024 → ℝ) (g : Dev nD → Fin 1024 → ℝ) (w : Dev nD → Fin 1024 → Fin 1024 → ℝ)
    (hA : ∀ (c : Dev nD) n k, m ((c.tc : Thread nD τ).loc main_arg0) (ix2 n k) = d c n k) (hQ : ∀ (c : Dev nD) n k, m ((c.tc : Thread nD τ).loc main_arg1) (ix2 n k) = ((q c n k : ℝ) : EReal))
    (hX : ∀ (c : Dev nD) n k, m ((c.tc : Thread nD τ).loc main_arg2) (ix2 n k) = ((x c n k : ℝ) : EReal)) (hG : ∀ (c : Dev nD) k, m ((c.tc : Thread nD τ).loc main_arg3) (ix1 k) = ((g c k : ℝ) : EReal))
    (hW : ∀ (c : Dev nD) k l, m ((c.tc : Thread nD τ).loc main_arg4) (ix2 k l) = ((w c k l : ℝ) : EReal))
    (ρ : Dev nD → PrngReg) : θ_run defs (onTc (τ := τ) (main (F := Ideal))) ⟨m, fun _ => 0, ρ⟩ (fun r => ∀ c : Dev nD,
    r.2.mem ((c.tc : Thread nD τ).loc main_v44) = (fun i : S8192x1024.Idx => d c (i 0) (i 1) + ((dxRow (x c (i 0)) (g c) (dn (q c (i 0)) (w c)) (i 1) : ℝ) : EReal))
    ∧ r.2.mem ((c.tc : Thread nD τ).loc main_v45) = (fun i : S8192x1024.Idx => ((q c (i 0) (i 1) * (1 / 8) : ℝ) : EReal))
    ∧ r.2.mem ((c.tc : Thread nD τ).loc main_v46) = (fun i : S1x1024.Idx => ((∑ n, scaleRow (x c n) (dn (q c n) (w c)) (i 1) : ℝ) : EReal))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun _ h c => ⟨(results m c (d c) (q c) (x c) (g c) (w c) (hA c) (hQ c) (hX c) (hG c) (hW c) (h c).1 (h c).2.1).1,
    (results m c (d c) (q c) (x c) (g c) (w c) (hA c) (hQ c) (hX c) (hG c) (hW c) (h c).1 (h c).2.1).2, (h c).2.2.1.trans ?_, (h c).2.2.2⟩) (run m ρ)
  funext i
  idx_vars i
  clear h
  pointwise []
  simp only [Fin.sum_univ_one, hA, hQ, hX, hG, hW, c_1024, c_eps, c_neg_half, c_zero, c_eighth, ← EReal.coe_mul, ← EReal.coe_add, ← EReal.coe_sub, sum, div_1024, rsqrt_ms, div_ms, zero_add]
  exact congrArg _ (Finset.sum_congr rfl fun n _ => scaleRow_of_parts (x c n) (dn (q c n) (w c)) i1)

end Cert.QBwdRefIdeal.Query

end
-- ==== Proof.QClaim.lean ====
/- The queries' gradient against differentiation of its forward lines: on finite arguments both leave the same arrays. -/
module

public import proofs.«01_k».proof.Defs
public import proofs.«01_k».proof.Proof.Gen.Pre_finite_q
public import proofs.«01_k».proof.Proof.Fin
public import proofs.«01_k».proof.Proof.QRef
public import Idealize.ShloMosaic.Lib.Claim

@[expose] public section

set_option maxRecDepth 16384

noncomputable section

open Idealize.ShloMosaic Idealize.ShloMosaic.TcCoe Idealize.SL.Sem

namespace Cert.Query

open Cert.Lift Cert.Rms

/-- The reference runs to the end, leaves its arguments alone and every semaphore at zero. -/
theorem frame : Cert.quiescent_QBwdRefIdeal := fun m ρ _ =>
  (θ_run _ _ _).mono (fun r h => ⟨fun c => (h c).2.2.2, sem_eq_zero_of_no_sems (by decide) r.2⟩) (Cert.QBwdRefIdeal.Value.run m ρ)

/-- Finite arguments are real arrays. -/
theorem reals (A Q X : FVec Ideal ⟨2, ![8192, 1024]⟩ .f32) (G : FVec Ideal ⟨1, ![1024]⟩ .f32) (W : FVec Ideal ⟨2, ![1024, 1024]⟩ .f32)
    (h : Cert.Pre_finite_q.fn (F := Ideal) A Q X G W = fun _ => 1#1) :
    ∃ (q x : Fin 8192 → Fin 1024 → ℝ) (g : Fin 1024 → ℝ) (w : Fin 1024 → Fin 1024 → ℝ),
      (∀ n k, Q (ix2 n k) = ((q n k : ℝ) : EReal)) ∧ (∀ n k, X (ix2 n k) = ((x n k : ℝ) : EReal))
        ∧ (∀ k, G (ix1 k) = ((g k : ℝ) : EReal)) ∧ (∀ k l, W (ix2 k l) = ((w k l : ℝ) : EReal)) := by
  have h0 := congrFun h ix0
  dsimp only [Cert.Pre_finite_q.fn] at h0
  obtain ⟨h1, hW⟩ := IntOp.andi_eq_one.mp h0
  obtain ⟨h2, hG⟩ := IntOp.andi_eq_one.mp h1
  obtain ⟨hQ, hX⟩ := IntOp.andi_eq_one.mp h2
  obtain ⟨q, hq⟩ := real_of_all _ _ _ _ _ hQ
  obtain ⟨x, hx⟩ := real_of_all _ _ _ _ _ hX
  obtain ⟨g, hg⟩ := real_of_all _ _ _ _ _ hG
  obtain ⟨w, hw⟩ := real_of_all _ _ _ _ _ hW
  exact ⟨fun n k => q (ix2 n k), fun n k => x (ix2 n k), fun k => g (ix1 k), fun k l => w (ix2 k l),
    fun n k => hq _, fun n k => hx _, fun k => hg _, fun k l => hw _⟩

theorem algebraic : Cert.algebraic_QBwdIdeal_QBwdRefIdeal_pre_finite_q := by
  intro m ρ m' ρ' hpre hagree
  have hr := fun c => reals _ _ _ _ _ (hpre c)
  choose q x g w hQ hX hG hW using hr
  obtain ⟨d, hA⟩ : ∃ d : Dev QBwdIdeal.nD → Fin 8192 → Fin 1024 → EReal, ∀ (c : Dev QBwdIdeal.nD) n k, m ((c.tc : Thread QBwdIdeal.nD QBwdIdeal.τ).loc QBwdIdeal.main_arg0) (ix2 n k) = d c n k := ⟨fun (c : Dev QBwdIdeal.nD) n k => m ((c.tc : Thread QBwdIdeal.nD QBwdIdeal.τ).loc QBwdIdeal.main_arg0) (ix2 n k), fun _ _ _ => rfl⟩
  refine ⟨fun c => fun i : QBwdIdeal.S8192x1024.Idx => d c (i 0) (i 1) + ((dxRow (x c (i 0)) (g c) (dn (q c (i 0)) (w c)) (i 1) : ℝ) : EReal),
    fun c => fun i : QBwdIdeal.S8192x1024.Idx => ((q c (i 0) (i 1) * (1 / 8) : ℝ) : EReal),
    fun c => fun i : QBwdIdeal.S1x1024.Idx => ((∑ n, scaleRow (x c n) (dn (q c n) (w c)) (i 1) : ℝ) : EReal), ?_, ?_⟩
  · run_from Cert.QBwdIdeal.Gen.run_main m ρ
    · exact QBwdIdeal.Query.final5 m c (d c) (q c) (x c) (g c) (w c) (hA c) (hQ c) (hX c) (hG c) (hW c)
    · exact QBwdIdeal.Query.final6 m c (q c) (hQ c)
    · exact QBwdIdeal.Query.final7 m c (q c) (x c) (w c) (hQ c) (hX c) (hW c)
  · refine (θ_run _ _ _).mono (fun _ h => h) (QBwdRefIdeal.Query.run_real m' d q x g w (fun c n k => ?_) (fun c n k => ?_) (fun c n k => ?_) (fun c k => ?_) (fun c k l => ?_) ρ')
    · rw [(hagree c).1]; exact hA c n k
    · rw [(hagree c).2.1]; exact hQ c n k
    · rw [(hagree c).2.2.1]; exact hX c n k
    · rw [(hagree c).2.2.2.1]; exact hG c k
    · rw [(hagree c).2.2.2.2]; exact hW c k l

end Cert.Query

end
-- ==== Proof.FfnKern.lean ====
/- The channel mixer's gradient: what each grid point leaves, and the three result arrays after the run, over the reals. -/
module

public import proofs.«01_k».proof.Proof.Gen.FfnBwdIdeal.Frame
public import Idealize.ShloMosaic.Lib.Pipeline.ValueKit
public import Idealize.ShloMosaic.Lib.Pipeline.ReadBack
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.Ffn

open Cert.Rms

/-- What a row carries into the mixer's activation. -/
def pre (x g : Fin 1024 → ℝ) (w1 : Fin 1024 → Fin 4096 → ℝ) (j : Fin 4096) : ℝ := ∑ k, norm x g k * w1 k j

/-- The gradient before the activation, from that of the row and what the activation was given. -/
def da (d : Fin 1024 → ℝ) (a : Fin 4096 → ℝ) (w2 : Fin 4096 → Fin 1024 → ℝ) (j : Fin 4096) : ℝ := (∑ l, d l * w2 j l) * (2 * max (a j) 0)

/-- The gradient of the normed row from that before the activation. -/
def dn (e : Fin 4096 → ℝ) (w1 : Fin 1024 → Fin 4096 → ℝ) (k : Fin 1024) : ℝ := ∑ j, e j * w1 k j

/-- The gradient of the normed row the grid point works on, whole. -/
abbrev dnRow (d x : Fin 8192 → Fin 1024 → ℝ) (g : Fin 1024 → ℝ) (w1 : Fin 1024 → Fin 4096 → ℝ) (w2 : Fin 4096 → Fin 1024 → ℝ) (n : Fin 8192) : Fin 1024 → ℝ :=
  dn (da (d n) (pre (x n) g w1) w2) w1

theorem relu_coe (a : ℝ) : max (a : EReal) 0 = ((max a 0 : ℝ) : EReal) := (EReal.coe_strictMono.monotone.map_max (a := a) (b := 0)).symm

end Cert.Ffn

namespace Cert.FfnBwdIdeal.Ffn

open Cert.FfnBwdIdeal Cert.FfnBwdIdeal.Gen Cert.Rms Cert.Ffn Cert.Lift

section Payloads

variable (d x : Fin 256 → Fin 1024 → ℝ) (a : Fin 256 → Fin 4096 → ℝ) (g : Fin 1024 → ℝ) (w1 : Fin 1024 → Fin 4096 → ℝ) (w2 : Fin 4096 → Fin 1024 → ℝ)
variable {D X : FVec Ideal S256x1024 .f32} {A : FVec Ideal S256x4096 .f32} {G : FVec Ideal S1x1024 .f32} {W : FVec Ideal S1024x4096 .bf16} {U : FVec Ideal S4096x1024 .bf16}
variable (hD : ∀ p k, D (ix2 p k) = ((d p k : ℝ) : EReal)) (hX : ∀ p k, X (ix2 p k) = ((x p k : ℝ) : EReal)) (hA : ∀ p j, A (ix2 p j) = ((a p j : ℝ) : EReal))
  (hG : ∀ k, G (ix2 0 k) = ((g k : ℝ) : EReal)) (hW : ∀ k j, W (ix2 k j) = ((w1 k j : ℝ) : EReal)) (hU : ∀ j k, U (ix2 j k) = ((w2 j k : ℝ) : EReal))

include hD hX hA hG hW hU in
theorem di_pay (p : Fin 256) (k : Fin 1024) :
    k0_pay1 (F := Ideal) D X (k0_pay7 X) (k0_pay9 D U A G W) (ix2 p k) = ((d p k + dxRow (x p) g (dn (da (d p) (a p) w2) w1) k : ℝ) : EReal) := by
  pointwise [k0_pay1, k0_pay5, k0_pay7, k0_pay8, k0_pay9]
  simp only [hD, hX, hA, hG, hW, hU, c_1024, c_eps, c_zero, c_two, relu_coe, ← EReal.coe_mul, ← EReal.coe_add, ← EReal.coe_sub, sum, div_1024, rsqrt_ms, zero_add]
  rfl
include hD hA hU in
theorem da_pay (p : Fin 256) (j : Fin 4096) : k0_pay6 (F := Ideal) D U A (ix2 p j) = ((da (d p) (a p) w2 j : ℝ) : EReal) := by
  pointwise [k0_pay5, k0_pay6]
  simp only [hD, hA, hU, c_1024, c_eps, c_zero, c_two, relu_coe, ← EReal.coe_mul, ← EReal.coe_add, ← EReal.coe_sub, sum, div_1024, rsqrt_ms, zero_add]
  rfl
include hD hX hA hW hU in
theorem rows_pay (S : FVec Ideal S8x1024 .f32) (i : Fin 8) (k : Fin 1024) :
    k0_pay2 (F := Ideal) X (k0_pay7 X) (k0_pay8 D U A W) S (ix2 i k)
      = S (ix2 i k) + ((∑ b : Fin 32, scaleRow (x ⟨b * 8 + i, by omega⟩) (dn (da (d ⟨b * 8 + i, by omega⟩) (a ⟨b * 8 + i, by omega⟩) w2) w1) k : ℝ) : EReal) := by
  pointwise [k0_pay2, k0_pay5, k0_pay7, k0_pay8]
  simp only [hD, hX, hA, hW, hU, c_1024, c_eps, c_zero, c_two, relu_coe, ← EReal.coe_mul, ← EReal.coe_add, ← EReal.coe_sub, sum, div_1024, rsqrt_ms, zero_add]
  rfl
theorem zero_pay (i) : k0_pay4 (F := Ideal) i = ((0 : ℝ) : EReal) := by
  pointwise [k0_pay4, c_zero]
theorem fold_pay (S : FVec Ideal S8x1024 .f32) (k : Fin 1024) : k0_pay3 (F := Ideal) S (ix2 0 k) = ∑ i : Fin 8, S (ix2 i k) := by
  pointwise! [k0_pay3]

end Payloads

variable (m : (ℓ : Loc nD τ sig) → Buf (Elt Ideal) ℓ) (c : Dev nD)

abbrev bd (t : Fin cfg0.N) : Vec Ideal S256x1024 .f32 := iblk m c 0 t
abbrev bx (t : Fin cfg0.N) : Vec Ideal S256x1024 .f32 := iblk m c 1 t
abbrev bg (t : Fin cfg0.N) : Vec Ideal S1x1024 .f32 := iblk m c 2 t
abbrev bw (t : Fin cfg0.N) : Vec Ideal S1024x4096 .bf16 := iblk m c 3 t
abbrev bu (t : Fin cfg0.N) : Vec Ideal S4096x1024 .bf16 := iblk m c 4 t
abbrev ba (t : Fin cfg0.N) : Vec Ideal S256x4096 .f32 := iblk m c 5 t

/-- The block of the stream's gradient that point `t` writes. -/
def di (t : Fin cfg0.N) : Vec Ideal S256x1024 .f32 :=
  k0_pay1 (bd m c t) (bx m c t) (k0_pay7 (bx m c t)) (k0_pay9 (bd m c t) (bu m c t) (ba m c t) (bg m c t) (bw m c t))
/-- The eight partial rows of the scale's gradient after point `t`, from what they held before. -/
def rows (t : Fin cfg0.N) (s : Vec Ideal S8x1024 .f32) : Vec Ideal S8x1024 .f32 :=
  k0_pay2 (bx m c t) (k0_pay7 (bx m c t)) (k0_pay8 (bd m c t) (bu m c t) (ba m c t) (bw m c t)) s

theorem outs_A (t : Fin cfg0.N) (h0 : t.val % 32 = 0) (h1 : ¬t.val % 32 = 31) :
    (outsAt0 m c t.val t.isLt).1 = di m c t ∧ (outsAt0 m c t.val t.isLt).2.1 = k0_pay6 (bd m c t) (bu m c t) (ba m c t)
      ∧ (outsAt0 m c t.val t.isLt).2.2.2 = rows m c t (k0_pay4 (F := Ideal)) := by
  rw [outsAt0_A m c t h0 h1]; refine ⟨?_, ?_, ?_⟩ <;> (frame_out <;> rfl)
theorem outs_B (t : Fin cfg0.N) (h0 : ¬t.val % 32 = 0) (h1 : ¬t.val % 32 = 31) :
    (outsAt0 m c t.val t.isLt).1 = di m c t ∧ (outsAt0 m c t.val t.isLt).2.1 = k0_pay6 (bd m c t) (bu m c t) (ba m c t)
      ∧ (outsAt0 m c t.val t.isLt).2.2.2 = rows m c t (outsAt0 m c (t.val - 1) (by omega)).2.2.2 := by
  rw [outsAt0_B m c t h0 h1]; refine ⟨?_, ?_, ?_⟩
  · frame_out <;> rfl
  · frame_out <;> rfl
  · frame_out; simp only [read_unread_whole]; rfl
theorem outs_C (t : Fin cfg0.N) (h0 : ¬t.val % 32 = 0) (h1 : t.val % 32 = 31) :
    (outsAt0 m c t.val t.isLt).1 = di m c t ∧ (outsAt0 m c t.val t.isLt).2.1 = k0_pay6 (bd m c t) (bu m c t) (ba m c t)
      ∧ (outsAt0 m c t.val t.isLt).2.2.2 = rows m c t (outsAt0 m c (t.val - 1) (by omega)).2.2.2
      ∧ (outsAt0 m c t.val t.isLt).2.2.1 = k0_pay3 (rows m c t (outsAt0 m c (t.val - 1) (by omega)).2.2.2) := by
  rw [outsAt0_C m c t h0 h1]; refine ⟨?_, ?_, ?_, ?_⟩
  · frame_out <;> rfl
  · frame_out <;> rfl
  · frame_out; simp only [read_unread_whole]; rfl
  · frame_out; simp only [read_unread_whole]; rfl

theorem outs_all (t : Fin cfg0.N) : (outsAt0 m c t.val t.isLt).1 = di m c t ∧ (outsAt0 m c t.val t.isLt).2.1 = k0_pay6 (bd m c t) (bu m c t) (ba m c t) := by
  by_cases h0 : t.val % 32 = 0
  · exact ⟨(outs_A m c t h0 (by omega)).1, (outs_A m c t h0 (by omega)).2.1⟩
  · by_cases h1 : t.val % 32 = 31
    · exact ⟨(outs_C m c t h0 h1).1, (outs_C m c t h0 h1).2.1⟩
    · exact ⟨(outs_B m c t h0 h1).1, (outs_B m c t h0 h1).2.1⟩
theorem rows_step (t : Fin cfg0.N) (h0 : ¬t.val % 32 = 0) : (outsAt0 m c t.val t.isLt).2.2.2 = rows m c t (outsAt0 m c (t.val - 1) (by omega)).2.2.2 := by
  by_cases h1 : t.val % 32 = 31
  · exact (outs_C m c t h0 h1).2.2.1
  · exact (outs_B m c t h0 h1).2.2

variable (d x : Fin 8192 → Fin 1024 → ℝ) (g : Fin 1024 → ℝ) (w1 : Fin 1024 → Fin 4096 → ℝ) (w2 : Fin 4096 → Fin 1024 → ℝ)
variable (hD : ∀ n k, m ((c.tc : Thread nD τ).loc main_arg0) (ix2 n k) = ((d n k : ℝ) : EReal)) (hX : ∀ n k, m ((c.tc : Thread nD τ).loc main_arg1) (ix2 n k) = ((x n k : ℝ) : EReal))
  (hG : ∀ k, m ((c.tc : Thread nD τ).loc main_arg2) (ix1 k) = ((g k : ℝ) : EReal)) (hW : ∀ k j, m ((c.tc : Thread nD τ).loc main_arg3) (ix2 k j) = ((w1 k j : ℝ) : EReal)) (hU : ∀ j k, m ((c.tc : Thread nD τ).loc main_arg4) (ix2 j k) = ((w2 j k : ℝ) : EReal))

theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![0, 0] :=
  (by decide +kernel : ∀ t : Fin grid0.N, _)
theorem lt32 (t : Fin cfg0.N) : t.val < 32 := lt_of_lt_of_eq t.isLt N_0

/-- The rows a grid point works on. -/
def tile {M : ℕ} (v : Fin 8192 → Fin M → ℝ) (s : Fin cfg0.N) (p : Fin 256) : Fin M → ℝ := v ⟨256 * s.val + p, by have := lt32 s; omega⟩

include hD in
theorem bd_at (s : Fin cfg0.N) (p : Fin 256) (k : Fin 1024) : bd m c s (ix2 p k) = ((tile d s p k : ℝ) : EReal) := by
  refine Eq.trans ?_ (hD ⟨256 * s.val + p, by have := lt32 s; omega⟩ k)
  unfold bd; blk_simp [iblk, idx s]; entry_read; blk_ext [idx s]
include hX in
theorem bx_at (s : Fin cfg0.N) (p : Fin 256) (k : Fin 1024) : bx m c s (ix2 p k) = ((tile x s p k : ℝ) : EReal) := by
  refine Eq.trans ?_ (hX ⟨256 * s.val + p, by have := lt32 s; omega⟩ k)
  unfold bx; blk_simp [iblk, idx s]; entry_read; blk_ext [idx s]
include hG in
theorem bg_at (s : Fin cfg0.N) (k : Fin 1024) : bg m c s (ix2 0 k) = ((g k : ℝ) : EReal) := by
  refine Eq.trans ?_ (hG k)
  unfold bg; blk_simp [iblk, idx s]; entry_read; pointwise; blk_ext [idx s]
include hW in
theorem bw_at (s : Fin cfg0.N) (k : Fin 1024) (j : Fin 4096) : bw m c s (ix2 k j) = ((w1 k j : ℝ) : EReal) := by
  refine Eq.trans ?_ (hW k j)
  unfold bw; blk_simp [iblk, idx s]; entry_read; pointwise; blk_ext [idx s]
include hU in
theorem bu_at (s : Fin cfg0.N) (j : Fin 4096) (k : Fin 1024) : bu m c s (ix2 j k) = ((w2 j k : ℝ) : EReal) := by
  refine Eq.trans ?_ (hU j k)
  unfold bu; blk_simp [iblk, idx s]; entry_read; pointwise; blk_ext [idx s]
include hX hG hW in
theorem ba_at (s : Fin cfg0.N) (p : Fin 256) (j : Fin 4096) : ba m c s (ix2 p j) = ((tile (fun n => pre (x n) g w1) s p j : ℝ) : EReal) := by
  have e : (win0_5.blk s).view.emb (ix2 p j) = ix2 (⟨256 * s.val + p, by have := lt32 s; omega⟩ : Fin 8192) j := by blk_ext [idx s]
  unfold ba
  blk_simp [iblk, idx s]
  rw [e]
  entry_read
  clear e
  pointwise
  simp only [hX, hG, hW, c_1024, c_eps, c_zero, c_two, relu_coe, ← EReal.coe_mul, ← EReal.coe_add, ← EReal.coe_sub, sum, div_1024, rsqrt_ms, zero_add]
  rfl

include hD hX hG hW hU in
theorem rows_last (s : Fin cfg0.N) (h : s.val % 32 = 31) (i : Fin 8) (k : Fin 1024) :
    (outsAt0 m c s.val s.isLt).2.2.2 (ix2 i k)
      = ((∑ r : Fin 32, ∑ b : Fin 32, scaleRow (x ⟨256 * r.val + (b.val * 8 + i.val), by omega⟩) (dnRow d x g w1 w2 ⟨256 * r.val + (b.val * 8 + i.val), by omega⟩) k : ℝ) : EReal) := by
  have pay := fun r : Fin cfg0.N => rows_pay (tile d r) (tile x r) (tile (fun n => pre (x n) g w1) r) w1 w2 (bd_at m c d hD r) (bx_at m c x hX r) (ba_at m c x g w1 hX hG hW r) (bw_at m c w1 hW r) (bu_at m c w2 hU r)
  refine (Pipeline.eq_sum_fin_of_reset_step_apply_last (fun n hn (j : Fin 8 × Fin 1024) => ((outsAt0 m c n hn).2.2.2 (ix2 j.1 j.2) : EReal)) 32 (fun _ => 0)
    (fun r j => ((∑ b : Fin 32, scaleRow (tile x r ⟨b * 8 + j.1, by omega⟩) (dn (da (tile d r ⟨b * 8 + j.1, by omega⟩) (tile (fun n => pre (x n) g w1) r ⟨b * 8 + j.1, by omega⟩) w2) w1) j.2 : ℝ) : EReal))
    (fun r hr j => ?_) (fun r hr j => ?_) (le_of_eq N_0) s (by have := lt32 s; have hN : cfg0.N = 32 := N_0; omega) (i, k)).trans ?_
  · refine (congrFun (outs_A m c r hr (by omega)).2.2 _).trans ((pay r _ j.1 j.2).trans ?_)
    rw [zero_pay, EReal.coe_zero]
  · exact (congrFun (rows_step m c r hr) _).trans (pay r _ j.1 j.2)
  · rw [zero_add]
    exact Lift.sum (n := 32) _

include hD hX hG hW hU in
/-- The stream's gradient after the run. -/
theorem final6 : (dats m 0 c).arrAt 6 (cfgs 0).N = fun i : S8192x1024.Idx => ((d (i 0) (i 1) + dxRow (x (i 0)) g (dnRow d x g w1 w2 (i 0)) (i 1) : ℝ) : EReal) := by
  refine (dats m 0 c).arrAt_eq_of_covers 6 _ (by decide +kernel) fun s _ y => ?_
  blk_simp
  rw [after0_6, (outs_all m c s).1]
  idx_vars y
  refine (di_pay (tile d s) (tile x s) (tile (fun n => pre (x n) g w1) s) g w1 w2 (bd_at m c d hD s) (bx_at m c x hX s) (ba_at m c x g w1 hX hG hW s) (bg_at m c g hG s) (bw_at m c w1 hW s) (bu_at m c w2 hU s) y0 y1).trans ?_
  have e : ((View.whole main_v17_0).slice (win0_6.rect s)).emb (ix2 y0 y1) = ix2 (⟨256 * s.val + y0, by have := lt32 s; omega⟩ : Fin 8192) y1 := by
    blk_ext [idx s]
  rw [e]; rfl
include hD hX hG hW hU in
/-- The gradient before the activation after the run. -/
theorem final7 : (dats m 0 c).arrAt 7 (cfgs 0).N = fun i : S8192x4096.Idx => ((da (d (i 0)) (pre (x (i 0)) g w1) w2 (i 1) : ℝ) : EReal) := by
  refine (dats m 0 c).arrAt_eq_of_covers 7 _ (by decide +kernel) fun s _ y => ?_
  blk_simp
  rw [after0_7, (outs_all m c s).2]
  idx_vars y
  refine (da_pay (tile d s) (tile (fun n => pre (x n) g w1) s) w2 (bd_at m c d hD s) (ba_at m c x g w1 hX hG hW s) (bu_at m c w2 hU s) y0 y1).trans ?_
  have e : ((View.whole main_v17_1).slice (win0_7.rect s)).emb (ix2 y0 y1) = ix2 (⟨256 * s.val + y0, by have := lt32 s; omega⟩ : Fin 8192) y1 := by
    blk_ext [idx s]
  rw [e]; rfl
include hD hX hG hW hU in
/-- The scale's gradient after the run. -/
theorem final8 : (dats m 0 c).arrAt 8 (cfgs 0).N = fun i : S1x1024.Idx => ((∑ n, scaleRow (x n) (dnRow d x g w1 w2 n) (i 1) : ℝ) : EReal) := by
  refine (dats m 0 c).arrAt_eq_of_covers 8 _ (by decide +kernel) fun s hs y => ?_
  have h := (flush0_8 s).mp hs
  blk_simp
  rw [after0_8, (outs_C m c s (by omega) h).2.2.2, ← rows_step m c s (by omega)]
  idx_vars y
  have e : ((View.whole main_v17_2).slice (win0_8.rect s)).emb (ix2 y0 y1) = ix2 (0 : Fin 1) y1 := by
    blk_ext [idx s]
  rw [e, show ix2 y0 y1 = ix2 0 y1 from by blk_ext []]
  refine (fold_pay _ y1).trans ?_
  refine (Finset.sum_congr rfl fun i _ => rows_last m c d x g w1 w2 hD hX hG hW hU s h i y1).trans ?_
  rw [Lift.sum (n := 8)]
  exact congrArg _ (Lift.sum_tiles fun n => scaleRow (x n) (dnRow d x g w1 w2 n) y1)

end Cert.FfnBwdIdeal.Ffn

end
-- ==== Proof.FfnRef.lean ====
/- The derivative of the channel mixer's forward lines, over the reals. -/
module

public import proofs.«01_k».proof.Proof.Gen.FfnBwdRefIdeal.Run
public import proofs.«01_k».proof.Proof.FfnKern

@[expose] public section

set_option maxRecDepth 16384

noncomputable section

open Idealize.ShloMosaic Idealize.ShloMosaic.TcCoe Idealize.SL.Sem

namespace Cert.Ffn

/-- Where the activation is given nothing positive its derivative is zero already. -/
theorem gated (b a : ℝ) {_ : Decidable ((0 : EReal) < (a : EReal))} :
    (if (0 : EReal) < (a : EReal) then ((b * (2 * max a 0) : ℝ) : EReal) else 0) = ((b * (2 * max a 0) : ℝ) : EReal) := by
  split
  · rfl
  · next h => rw [max_eq_right (not_lt.mp fun h' => h (EReal.coe_pos.mpr h'))]; simp

end Cert.Ffn

namespace Cert.FfnBwdRefIdeal.Ffn

open Cert.FfnBwdRefIdeal Cert.FfnBwdRefIdeal.Gen Cert.FfnBwdRefIdeal.Value Lift Cert.Rms Cert.Ffn

variable (m : (ℓ : Loc nD τ sig) → Buf (Elt Ideal) ℓ) (c : Dev nD)
variable (d x : Fin 8192 → Fin 1024 → ℝ) (g : Fin 1024 → ℝ) (w1 : Fin 1024 → Fin 4096 → ℝ) (w2 : Fin 4096 → Fin 1024 → ℝ)
variable (hD : ∀ n k, m ((c.tc : Thread nD τ).loc main_arg0) (ix2 n k) = ((d n k : ℝ) : EReal)) (hX : ∀ n k, m ((c.tc : Thread nD τ).loc main_arg1) (ix2 n k) = ((x n k : ℝ) : EReal))
  (hG : ∀ k, m ((c.tc : Thread nD τ).loc main_arg2) (ix1 k) = ((g k : ℝ) : EReal)) (hW : ∀ k j, m ((c.tc : Thread nD τ).loc main_arg3) (ix2 k j) = ((w1 k j : ℝ) : EReal)) (hU : ∀ j k, m ((c.tc : Thread nD τ).loc main_arg4) (ix2 j k) = ((w2 j k : ℝ) : EReal))

include hD hX hG hW hU

theorem ref_dx (n : Fin 8192) (k : Fin 1024) : res_out0 m c (ix2 n k) = ((d n k + dxRow (x n) g (dnRow d x g w1 w2 n) k : ℝ) : EReal) := by
  pointwise [res_main_v54]
  simp only [Fin.sum_univ_one, hD, hX, hG, hW, hU, c_1024, c_eps, c_neg_half, c_zero, c_two, relu_coe, gated, ← EReal.coe_mul, ← EReal.coe_add, ← EReal.coe_sub, sum, div_1024, rsqrt_ms, div_ms, zero_add, add_zero]
  refine congrArg _ (Eq.trans ?_ (dxRow_of_parts (d n k) (x n) g (dnRow d x g w1 w2 n) k))
  simp only [dnRow, dn, da, pre, Cert.Rms.norm]

omit hD hX hG hW hU

/-- The reference's run over finite arguments, in the reals. -/
theorem run_real (d x : Dev nD → Fin 8192 → Fin 1024 → ℝ) (g : Dev nD → Fin 1024 → ℝ) (w1 : Dev nD → Fin 1024 → Fin 4096 → ℝ) (w2 : Dev nD → Fin 4096 → Fin 1024 → ℝ)
  (hD : ∀ (c : Dev nD) n k, m ((c.tc : Thread nD τ).loc main_arg0) (ix2 n k) = ((d c n k : ℝ) : EReal)) (hX : ∀ (c : Dev nD) n k, m ((c.tc : Thread nD τ).loc main_arg1) (ix2 n k) = ((x c n k : ℝ) : EReal))
  (hG : ∀ (c : Dev nD) k, m ((c.tc : Thread nD τ).loc main_arg2) (ix1 k) = ((g c k : ℝ) : EReal)) (hW : ∀ (c : Dev nD) k j, m ((c.tc : Thread nD τ).loc main_arg3) (ix2 k j) = ((w1 c k j : ℝ) : EReal)) (hU : ∀ (c : Dev nD) j k, m ((c.tc : Thread nD τ).loc main_arg4) (ix2 j k) = ((w2 c j k : ℝ) : EReal))
    (ρ : Dev nD → PrngReg) : θ_run defs (onTc (τ := τ) (main (F := Ideal))) ⟨m, fun _ => 0, ρ⟩ (fun r => ∀ c : Dev nD,
    r.2.mem ((c.tc : Thread nD τ).loc main_v54) = (fun i : S8192x1024.Idx => ((d c (i 0) (i 1) + dxRow (x c (i 0)) (g c) (dnRow (d c) (x c) (g c) (w1 c) (w2 c) (i 0)) (i 1) : ℝ) : EReal))
    ∧ r.2.mem ((c.tc : Thread nD τ).loc main_v55) = (fun i : S8192x4096.Idx => ((da (d c (i 0)) (pre (x c (i 0)) (g c) (w1 c)) (w2 c) (i 1) : ℝ) : EReal))
    ∧ r.2.mem ((c.tc : Thread nD τ).loc main_v56) = (fun i : S1x1024.Idx => ((∑ n, scaleRow (x c n) (dnRow (d c) (x c) (g c) (w1 c) (w2 c) n) (i 1) : ℝ) : EReal))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun _ h c => ⟨(h c).1.trans ?_, (h c).2.1.trans ?_, (h c).2.2.1.trans ?_, (h c).2.2.2⟩) (run m ρ)
  all_goals
    funext i
    idx_vars i
    clear h
  · exact ref_dx m c (d c) (x c) (g c) (w1 c) (w2 c) (hD c) (hX c) (hG c) (hW c) (hU c) i0 i1
  · pointwise []
    simp only [Fin.sum_univ_one, hD, hX, hG, hW, hU, c_1024, c_eps, c_neg_half, c_zero, c_two, relu_coe, gated, ← EReal.coe_mul, ← EReal.coe_add, ← EReal.coe_sub, sum, div_1024, rsqrt_ms, div_ms, zero_add, add_zero]
    simp only [da, pre, Cert.Rms.norm]
  · pointwise []
    simp only [Fin.sum_univ_one, hD, hX, hG, hW, hU, c_1024, c_eps, c_neg_half, c_zero, c_two, relu_coe, gated, ← EReal.coe_mul, ← EReal.coe_add, ← EReal.coe_sub, sum, div_1024, rsqrt_ms, div_ms, zero_add, add_zero]
    refine congrArg _ (Finset.sum_congr rfl fun n _ => Eq.trans ?_ (scaleRow_of_parts (x c n) (dnRow (d c) (x c) (g c) (w1 c) (w2 c) n) i1))
    simp only [dnRow, dn, da, pre, Cert.Rms.norm]

end Cert.FfnBwdRefIdeal.Ffn

end
-- ==== Proof.FfnClaim.lean ====
/- The channel mixer's gradient against differentiation of its forward lines: on finite arguments both leave the same arrays. -/
module

public import proofs.«01_k».proof.Defs
public import proofs.«01_k».proof.Proof.Gen.Pre_finite_ffn
public import proofs.«01_k».proof.Proof.Fin
public import proofs.«01_k».proof.Proof.FfnRef
public import Idealize.ShloMosaic.Lib.Claim

@[expose] public section

set_option maxRecDepth 16384

noncomputable section

open Idealize.ShloMosaic Idealize.ShloMosaic.TcCoe Idealize.SL.Sem

namespace Cert.Ffn

open Cert.Lift Cert.Rms

/-- The reference runs to the end, leaves its arguments alone and every semaphore at zero. -/
theorem frame : Cert.quiescent_FfnBwdRefIdeal := fun m ρ _ =>
  (θ_run _ _ _).mono (fun r h => ⟨fun c => (h c).2.2.2, sem_eq_zero_of_no_sems (by decide) r.2⟩) (Cert.FfnBwdRefIdeal.Value.run m ρ)

/-- Finite arguments are real arrays. -/
theorem reals (D X : FVec Ideal ⟨2, ![8192, 1024]⟩ .f32) (G : FVec Ideal ⟨1, ![1024]⟩ .f32) (W : FVec Ideal ⟨2, ![1024, 4096]⟩ .f32) (U : FVec Ideal ⟨2, ![4096, 1024]⟩ .f32)
    (h : Cert.Pre_finite_ffn.fn (F := Ideal) D X G W U = fun _ => 1#1) :
    ∃ (d x : Fin 8192 → Fin 1024 → ℝ) (g : Fin 1024 → ℝ) (w1 : Fin 1024 → Fin 4096 → ℝ) (w2 : Fin 4096 → Fin 1024 → ℝ),
      (∀ n k, D (ix2 n k) = ((d n k : ℝ) : EReal)) ∧ (∀ n k, X (ix2 n k) = ((x n k : ℝ) : EReal)) ∧ (∀ k, G (ix1 k) = ((g k : ℝ) : EReal))
        ∧ (∀ k j, W (ix2 k j) = ((w1 k j : ℝ) : EReal)) ∧ (∀ j k, U (ix2 j k) = ((w2 j k : ℝ) : EReal)) := by
  have h0 := congrFun h ix0
  dsimp only [Cert.Pre_finite_ffn.fn] at h0
  obtain ⟨h1, hU⟩ := IntOp.andi_eq_one.mp h0
  obtain ⟨h2, hW⟩ := IntOp.andi_eq_one.mp h1
  obtain ⟨h3, hG⟩ := IntOp.andi_eq_one.mp h2
  obtain ⟨hD, hX⟩ := IntOp.andi_eq_one.mp h3
  obtain ⟨d, hd⟩ := real_of_all _ _ _ _ _ hD
  obtain ⟨x, hx⟩ := real_of_all _ _ _ _ _ hX
  obtain ⟨g, hg⟩ := real_of_all _ _ _ _ _ hG
  obtain ⟨w, hw⟩ := real_of_all _ _ _ _ _ hW
  obtain ⟨u, hu⟩ := real_of_all _ _ _ _ _ hU
  exact ⟨fun n k => d (ix2 n k), fun n k => x (ix2 n k), fun k => g (ix1 k), fun k j => w (ix2 k j), fun j k => u (ix2 j k),
    fun n k => hd _, fun n k => hx _, fun k => hg _, fun k j => hw _, fun j k => hu _⟩

theorem algebraic : Cert.algebraic_FfnBwdIdeal_FfnBwdRefIdeal_pre_finite_ffn := by
  intro m ρ m' ρ' hpre hagree
  have hr := fun c => reals _ _ _ _ _ (hpre c)
  choose d x g w1 w2 hD hX hG hW hU using hr
  refine ⟨fun c => fun i : FfnBwdIdeal.S8192x1024.Idx => ((d c (i 0) (i 1) + dxRow (x c (i 0)) (g c) (dnRow (d c) (x c) (g c) (w1 c) (w2 c) (i 0)) (i 1) : ℝ) : EReal),
    fun c => fun i : FfnBwdIdeal.S8192x4096.Idx => ((da (d c (i 0)) (pre (x c (i 0)) (g c) (w1 c)) (w2 c) (i 1) : ℝ) : EReal),
    fun c => fun i : FfnBwdIdeal.S1x1024.Idx => ((∑ n, scaleRow (x c n) (dnRow (d c) (x c) (g c) (w1 c) (w2 c) n) (i 1) : ℝ) : EReal), ?_, ?_⟩
  · run_from Cert.FfnBwdIdeal.Gen.run_main m ρ
    · exact FfnBwdIdeal.Ffn.final6 m c (d c) (x c) (g c) (w1 c) (w2 c) (hD c) (hX c) (hG c) (hW c) (hU c)
    · exact FfnBwdIdeal.Ffn.final7 m c (d c) (x c) (g c) (w1 c) (w2 c) (hD c) (hX c) (hG c) (hW c) (hU c)
    · exact FfnBwdIdeal.Ffn.final8 m c (d c) (x c) (g c) (w1 c) (w2 c) (hD c) (hX c) (hG c) (hW c) (hU c)
  · refine (θ_run _ _ _).mono (fun _ h => h) (FfnBwdRefIdeal.Ffn.run_real m' d x g w1 w2 (fun c n k => ?_) (fun c n k => ?_) (fun c k => ?_) (fun c k j => ?_) (fun c j k => ?_) ρ')
    · rw [(hagree c).1]; exact hD c n k
    · rw [(hagree c).2.1]; exact hX c n k
    · rw [(hagree c).2.2.1]; exact hG c k
    · rw [(hagree c).2.2.2.1]; exact hW c k j
    · rw [(hagree c).2.2.2.2]; exact hU c j k

end Cert.Ffn

end
-- ==== Proof.PleKern.lean ====
/- The gated embedding's gradient: what each grid point leaves, and the four result arrays after the run, over the reals. -/
module

public import proofs.«01_k».proof.Proof.Gen.PleBwdIdeal.Frame
public import Idealize.ShloMosaic.Lib.Pipeline.ValueKit
public import Idealize.ShloMosaic.Lib.Pipeline.ReadBack
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.Ple

open Cert.Rms Cert.Lift

/-- The gate of one entry. -/
def gt (z : ℝ) : ℝ := 1 / (1 + Real.exp (-z))

/-- What a row carries into its gates. -/
def pre (x g : Fin 1024 → ℝ) (wg : Fin 1024 → Fin 1024 → ℝ) (j : Fin 1024) : ℝ := ∑ k, norm x g k * wg k j

/-- The gradient of what the gates let through. -/
def dp (d z : Fin 1024 → ℝ) (j : Fin 1024) : ℝ := d j * z j

/-- The gradient before the gates, from that of the row, the gates and the embedding. -/
def dz (d z : Fin 1024 → ℝ) (p : Fin 256 → ℝ) (wp : Fin 256 → Fin 1024 → ℝ) (j : Fin 1024) : ℝ := d j * (∑ e, p e * wp e j) * z j * (1 - z j)

/-- The gradient of the normed row from that before the gates. -/
def dn (e : Fin 1024 → ℝ) (wg : Fin 1024 → Fin 1024 → ℝ) (k : Fin 1024) : ℝ := ∑ j, e j * wg k j

/-- The gates of every row. -/
abbrev gates (x : Fin 8192 → Fin 1024 → ℝ) (g : Fin 1024 → ℝ) (wg : Fin 1024 → Fin 1024 → ℝ) (n : Fin 8192) (j : Fin 1024) : ℝ := gt (pre (x n) g wg j)

/-- The gradient of the normed row, whole. -/
abbrev dnRow (d x : Fin 8192 → Fin 1024 → ℝ) (g : Fin 1024 → ℝ) (wg : Fin 1024 → Fin 1024 → ℝ) (p : Fin 8192 → Fin 256 → ℝ) (wp : Fin 256 → Fin 1024 → ℝ) (n : Fin 8192) : Fin 1024 → ℝ :=
  dn (dz (d n) (gates x g wg n) (p n) wp) wg

theorem div_gate (z : ℝ) : Ideal.div 1 (1 + ((Real.exp (-z) : ℝ) : EReal)) = ((gt z : ℝ) : EReal) :=
  Lift.div 1 (by positivity)

theorem one_sub (z : ℝ) : (1 : EReal) - (z : EReal) = ((1 - z : ℝ) : EReal) := rfl

end Cert.Ple

namespace Cert.PleBwdIdeal.Ple

open Cert.PleBwdIdeal Cert.PleBwdIdeal.Gen Cert.Rms Cert.Ple Cert.Lift

section Payloads

variable (d x z : Fin 256 → Fin 1024 → ℝ) (g : Fin 1024 → ℝ) (wg : Fin 1024 → Fin 1024 → ℝ) (p : Fin 256 → Fin 256 → ℝ) (wp : Fin 256 → Fin 1024 → ℝ)
variable {D X Z : FVec Ideal S256x1024 .f32} {G : FVec Ideal S1x1024 .f32} {W : FVec Ideal S1024x1024 .bf16} {E : FVec Ideal S256x256 .f32} {U : FVec Ideal S256x1024 .bf16}
variable (hD : ∀ r k, D (ix2 r k) = ((d r k : ℝ) : EReal)) (hX : ∀ r k, X (ix2 r k) = ((x r k : ℝ) : EReal)) (hZ : ∀ r j, Z (ix2 r j) = ((z r j : ℝ) : EReal))
  (hG : ∀ k, G (ix2 0 k) = ((g k : ℝ) : EReal)) (hW : ∀ k j, W (ix2 k j) = ((wg k j : ℝ) : EReal)) (hE : ∀ r e, E (ix2 r e) = ((p r e : ℝ) : EReal)) (hU : ∀ e k, U (ix2 e k) = ((wp e k : ℝ) : EReal))

include hD hX hZ hG hW hE hU in
theorem di_pay (r : Fin 256) (k : Fin 1024) :
    k0_pay2 (F := Ideal) D X (k0_pay6 G) (k0_pay9 D Z E U) (k0_pay11 X) W (ix2 r k) = ((d r k + dxRow (x r) g (dn (dz (d r) (z r) (p r) wp) wg) k : ℝ) : EReal) := by
  pointwise [k0_pay1, k0_pay2, k0_pay6, k0_pay7, k0_pay9, k0_pay11]
  simp only [hD, hX, hZ, hG, hW, hE, hU, c_1024, c_eps, c_zero, c_one, one_sub, ← EReal.coe_mul, ← EReal.coe_add, ← EReal.coe_sub, sum, div_1024, rsqrt_ms, zero_add]
  rfl
include hD hZ hE hU in
theorem dz_pay (r : Fin 256) (j : Fin 1024) : k0_pay10 (F := Ideal) D Z E U (ix2 r j) = ((dz (d r) (z r) (p r) wp j : ℝ) : EReal) := by
  pointwise [k0_pay7, k0_pay9, k0_pay10]
  simp only [hD, hZ, hE, hU, c_1024, c_eps, c_zero, c_one, one_sub, ← EReal.coe_mul, ← EReal.coe_add, ← EReal.coe_sub, sum, div_1024, rsqrt_ms, zero_add]
  rfl
include hD hZ in
theorem dp_pay (r : Fin 256) (j : Fin 1024) : k0_pay8 (F := Ideal) D Z (ix2 r j) = ((dp (d r) (z r) j : ℝ) : EReal) := by
  pointwise [k0_pay7, k0_pay8]
  simp only [hD, hZ, ← EReal.coe_mul]
  rfl
include hD hX hZ hW hE hU in
theorem rows_pay (S : FVec Ideal S8x1024 .f32) (i : Fin 8) (k : Fin 1024) :
    k0_pay3 (F := Ideal) X (k0_pay9 D Z E U) (k0_pay11 X) W S (ix2 i k)
      = S (ix2 i k) + ((∑ b : Fin 32, scaleRow (x ⟨b * 8 + i, by omega⟩) (dn (dz (d ⟨b * 8 + i, by omega⟩) (z ⟨b * 8 + i, by omega⟩) (p ⟨b * 8 + i, by omega⟩) wp) wg) k : ℝ) : EReal) := by
  pointwise [k0_pay1, k0_pay3, k0_pay7, k0_pay9, k0_pay11]
  simp only [hD, hX, hZ, hW, hE, hU, c_1024, c_eps, c_zero, c_one, one_sub, ← EReal.coe_mul, ← EReal.coe_add, ← EReal.coe_sub, sum, div_1024, rsqrt_ms, zero_add]
  rfl
theorem zero_pay (i) : k0_pay5 (F := Ideal) i = ((0 : ℝ) : EReal) := by
  pointwise [k0_pay5, c_zero]
theorem fold_pay (S : FVec Ideal S8x1024 .f32) (k : Fin 1024) : k0_pay4 (F := Ideal) S (ix2 0 k) = ∑ i : Fin 8, S (ix2 i k) := by
  pointwise! [k0_pay4]

end Payloads

variable (m : (ℓ : Loc nD τ sig) → Buf (Elt Ideal) ℓ) (c : Dev nD)

abbrev bd (t : Fin cfg0.N) : Vec Ideal S256x1024 .f32 := iblk m c 0 t
abbrev bx (t : Fin cfg0.N) : Vec Ideal S256x1024 .f32 := iblk m c 1 t
abbrev bg (t : Fin cfg0.N) : Vec Ideal S1x1024 .f32 := iblk m c 2 t
abbrev bw (t : Fin cfg0.N) : Vec Ideal S1024x1024 .bf16 := iblk m c 3 t
abbrev bz (t : Fin cfg0.N) : Vec Ideal S256x1024 .f32 := iblk m c 4 t
abbrev bp (t : Fin cfg0.N) : Vec Ideal S256x256 .f32 := iblk m c 5 t
abbrev bu (t : Fin cfg0.N) : Vec Ideal S256x1024 .bf16 := iblk m c 6 t

/-- The block of the stream's gradient that point `t` writes. -/
def di (t : Fin cfg0.N) : Vec Ideal S256x1024 .f32 :=
  k0_pay2 (bd m c t) (bx m c t) (k0_pay6 (bg m c t)) (k0_pay9 (bd m c t) (bz m c t) (bp m c t) (bu m c t)) (k0_pay11 (bx m c t)) (bw m c t)
/-- The eight partial rows of the scale's gradient after point `t`, from what they held before. -/
def rows (t : Fin cfg0.N) (s : Vec Ideal S8x1024 .f32) : Vec Ideal S8x1024 .f32 :=
  k0_pay3 (bx m c t) (k0_pay9 (bd m c t) (bz m c t) (bp m c t) (bu m c t)) (k0_pay11 (bx m c t)) (bw m c t) s

theorem outs_A (t : Fin cfg0.N) (h0 : t.val % 32 = 0) (h1 : ¬t.val % 32 = 31) :
    (outsAt0 m c t.val t.isLt).1 = di m c t ∧ (outsAt0 m c t.val t.isLt).2.1 = k0_pay10 (bd m c t) (bz m c t) (bp m c t) (bu m c t)
      ∧ (outsAt0 m c t.val t.isLt).2.2.1 = k0_pay8 (bd m c t) (bz m c t)
      ∧ (outsAt0 m c t.val t.isLt).2.2.2.2 = rows m c t (k0_pay5 (F := Ideal)) := by
  rw [outsAt0_A m c t h0 h1]; refine ⟨?_, ?_, ?_, ?_⟩ <;> (frame_out <;> rfl)
theorem outs_B (t : Fin cfg0.N) (h0 : ¬t.val % 32 = 0) (h1 : ¬t.val % 32 = 31) :
    (outsAt0 m c t.val t.isLt).1 = di m c t ∧ (outsAt0 m c t.val t.isLt).2.1 = k0_pay10 (bd m c t) (bz m c t) (bp m c t) (bu m c t)
      ∧ (outsAt0 m c t.val t.isLt).2.2.1 = k0_pay8 (bd m c t) (bz m c t)
      ∧ (outsAt0 m c t.val t.isLt).2.2.2.2 = rows m c t (outsAt0 m c (t.val - 1) (by omega)).2.2.2.2 := by
  rw [outsAt0_B m c t h0 h1]; refine ⟨?_, ?_, ?_, ?_⟩
  · frame_out <;> rfl
  · frame_out <;> rfl
  · frame_out <;> rfl
  · frame_out; simp only [read_unread_whole]; rfl
theorem outs_C (t : Fin cfg0.N) (h0 : ¬t.val % 32 = 0) (h1 : t.val % 32 = 31) :
    (outsAt0 m c t.val t.isLt).1 = di m c t ∧ (outsAt0 m c t.val t.isLt).2.1 = k0_pay10 (bd m c t) (bz m c t) (bp m c t) (bu m c t)
      ∧ (outsAt0 m c t.val t.isLt).2.2.1 = k0_pay8 (bd m c t) (bz m c t)
      ∧ (outsAt0 m c t.val t.isLt).2.2.2.2 = rows m c t (outsAt0 m c (t.val - 1) (by omega)).2.2.2.2
      ∧ (outsAt0 m c t.val t.isLt).2.2.2.1 = k0_pay4 (rows m c t (outsAt0 m c (t.val - 1) (by omega)).2.2.2.2) := by
  rw [outsAt0_C m c t h0 h1]; refine ⟨?_, ?_, ?_, ?_, ?_⟩
  · frame_out <;> rfl
  · frame_out <;> rfl
  · frame_out <;> rfl
  · frame_out; simp only [read_unread_whole]; rfl
  · frame_out; simp only [read_unread_whole]; rfl

theorem outs_all (t : Fin cfg0.N) : (outsAt0 m c t.val t.isLt).1 = di m c t ∧ (outsAt0 m c t.val t.isLt).2.1 = k0_pay10 (bd m c t) (bz m c t) (bp m c t) (bu m c t)
      ∧ (outsAt0 m c t.val t.isLt).2.2.1 = k0_pay8 (bd m c t) (bz m c t) := by
  by_cases h0 : t.val % 32 = 0
  · exact ⟨(outs_A m c t h0 (by omega)).1, (outs_A m c t h0 (by omega)).2.1, (outs_A m c t h0 (by omega)).2.2.1⟩
  · by_cases h1 : t.val % 32 = 31
    · exact ⟨(outs_C m c t h0 h1).1, (outs_C m c t h0 h1).2.1, (outs_C m c t h0 h1).2.2.1⟩
    · exact ⟨(outs_B m c t h0 h1).1, (outs_B m c t h0 h1).2.1, (outs_B m c t h0 h1).2.2.1⟩
theorem rows_step (t : Fin cfg0.N) (h0 : ¬t.val % 32 = 0) : (outsAt0 m c t.val t.isLt).2.2.2.2 = rows m c t (outsAt0 m c (t.val - 1) (by omega)).2.2.2.2 := by
  by_cases h1 : t.val % 32 = 31
  · exact (outs_C m c t h0 h1).2.2.2.1
  · exact (outs_B m c t h0 h1).2.2.2

variable (d x : Fin 8192 → Fin 1024 → ℝ) (g : Fin 1024 → ℝ) (wg : Fin 1024 → Fin 1024 → ℝ) (p : Fin 8192 → Fin 256 → ℝ) (wp : Fin 256 → Fin 1024 → ℝ)
variable (hD : ∀ n k, m ((c.tc : Thread nD τ).loc main_arg0) (ix2 n k) = ((d n k : ℝ) : EReal)) (hX : ∀ n k, m ((c.tc : Thread nD τ).loc main_arg1) (ix2 n k) = ((x n k : ℝ) : EReal))
  (hG : ∀ k, m ((c.tc : Thread nD τ).loc main_arg2) (ix1 k) = ((g k : ℝ) : EReal)) (hW : ∀ k j, m ((c.tc : Thread nD τ).loc main_arg3) (ix2 k j) = ((wg k j : ℝ) : EReal))
  (hE : ∀ n e, m ((c.tc : Thread nD τ).loc main_arg4) (ix2 n e) = ((p n e : ℝ) : EReal)) (hU : ∀ e k, m ((c.tc : Thread nD τ).loc main_arg5) (ix2 e k) = ((wp e k : ℝ) : EReal))

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![0, 0] ∧ win0_7.index t = ![t.val, 0] ∧ win0_8.index t = ![t.val, 0] ∧ win0_9.index t = ![t.val, 0] ∧ win0_10.index t = ![0, 0] :=
  (by decide +kernel : ∀ t : Fin grid0.N, _)
theorem lt32 (t : Fin cfg0.N) : t.val < 32 := lt_of_lt_of_eq t.isLt N_0

/-- The rows a grid point works on. -/
def tile {M : ℕ} (v : Fin 8192 → Fin M → ℝ) (s : Fin cfg0.N) (r : Fin 256) : Fin M → ℝ := v ⟨256 * s.val + r, by have := lt32 s; omega⟩

include hD in
theorem bd_at (s : Fin cfg0.N) (r : Fin 256) (k : Fin 1024) : bd m c s (ix2 r k) = ((tile d s r k : ℝ) : EReal) := by
  refine Eq.trans ?_ (hD ⟨256 * s.val + r, by have := lt32 s; omega⟩ k)
  unfold bd; blk_simp [iblk, idx s]; entry_read; blk_ext [idx s]
include hX in
theorem bx_at (s : Fin cfg0.N) (r : Fin 256) (k : Fin 1024) : bx m c s (ix2 r k) = ((tile x s r k : ℝ) : EReal) := by
  refine Eq.trans ?_ (hX ⟨256 * s.val + r, by have := lt32 s; omega⟩ k)
  unfold bx; blk_simp [iblk, idx s]; entry_read; blk_ext [idx s]
include hG in
theorem bg_at (s : Fin cfg0.N) (k : Fin 1024) : bg m c s (ix2 0 k) = ((g k : ℝ) : EReal) := by
  refine Eq.trans ?_ (hG k)
  unfold bg; blk_simp [iblk, idx s]; entry_read; pointwise; blk_ext [idx s]
include hW in
theorem bw_at (s : Fin cfg0.N) (k j : Fin 1024) : bw m c s (ix2 k j) = ((wg k j : ℝ) : EReal) := by
  refine Eq.trans ?_ (hW k j)
  unfold bw; blk_simp [iblk, idx s]; entry_read; pointwise; blk_ext [idx s]
include hE in
theorem bp_at (s : Fin cfg0.N) (r : Fin 256) (e : Fin 256) : bp m c s (ix2 r e) = ((tile p s r e : ℝ) : EReal) := by
  refine Eq.trans ?_ (hE ⟨256 * s.val + r, by have := lt32 s; omega⟩ e)
  unfold bp; blk_simp [iblk, idx s]; entry_read; blk_ext [idx s]
include hU in
theorem bu_at (s : Fin cfg0.N) (e : Fin 256) (k : Fin 1024) : bu m c s (ix2 e k) = ((wp e k : ℝ) : EReal) := by
  refine Eq.trans ?_ (hU e k)
  unfold bu; blk_simp [iblk, idx s]; entry_read; pointwise; blk_ext [idx s]
include hX hG hW in
theorem bz_at (s : Fin cfg0.N) (r : Fin 256) (j : Fin 1024) : bz m c s (ix2 r j) = ((tile (gates x g wg) s r j : ℝ) : EReal) := by
  have e : (win0_4.blk s).view.emb (ix2 r j) = ix2 (⟨256 * s.val + r, by have := lt32 s; omega⟩ : Fin 8192) j := by blk_ext [idx s]
  unfold bz
  blk_simp [iblk, idx s]
  rw [e]
  entry_read
  clear e
  pointwise
  simp only [hX, hG, hW, ← EReal.coe_neg, Ideal.exp_coe, div_gate, c_1024, c_eps, c_zero, c_one, one_sub, ← EReal.coe_mul, ← EReal.coe_add, ← EReal.coe_sub, sum, div_1024, rsqrt_ms, zero_add]
  rfl

include hD hX hG hW hE hU in
theorem rows_last (s : Fin cfg0.N) (h : s.val % 32 = 31) (i : Fin 8) (k : Fin 1024) :
    (outsAt0 m c s.val s.isLt).2.2.2.2 (ix2 i k)
      = ((∑ r : Fin 32, ∑ b : Fin 32, scaleRow (x ⟨256 * r.val + (b.val * 8 + i.val), by omega⟩) (dnRow d x g wg p wp ⟨256 * r.val + (b.val * 8 + i.val), by omega⟩) k : ℝ) : EReal) := by
  have pay := fun r : Fin cfg0.N => rows_pay (tile d r) (tile x r) (tile (gates x g wg) r) wg (tile p r) wp (bd_at m c d hD r) (bx_at m c x hX r) (bz_at m c x g wg hX hG hW r) (bw_at m c wg hW r) (bp_at m c p hE r) (bu_at m c wp hU r)
  refine (Pipeline.eq_sum_fin_of_reset_step_apply_last (fun n hn (j : Fin 8 × Fin 1024) => ((outsAt0 m c n hn).2.2.2.2 (ix2 j.1 j.2) : EReal)) 32 (fun _ => 0)
    (fun r j => ((∑ b : Fin 32, scaleRow (tile x r ⟨b * 8 + j.1, by omega⟩) (dn (dz (tile d r ⟨b * 8 + j.1, by omega⟩) (tile (gates x g wg) r ⟨b * 8 + j.1, by omega⟩) (tile p r ⟨b * 8 + j.1, by omega⟩) wp) wg) j.2 : ℝ) : EReal))
    (fun r hr j => ?_) (fun r hr j => ?_) (le_of_eq N_0) s (by have := lt32 s; have hN : cfg0.N = 32 := N_0; omega) (i, k)).trans ?_
  · refine (congrFun (outs_A m c r hr (by omega)).2.2.2 _).trans ((pay r _ j.1 j.2).trans ?_)
    rw [zero_pay, EReal.coe_zero]
  · exact (congrFun (rows_step m c r hr) _).trans (pay r _ j.1 j.2)
  · rw [zero_add]
    exact Lift.sum (n := 32) _

include hD hX hG hW hE hU in
/-- The stream's gradient after the run. -/
theorem final7 : (dats m 0 c).arrAt 7 (cfgs 0).N = fun i : S8192x1024.Idx => ((d (i 0) (i 1) + dxRow (x (i 0)) g (dnRow d x g wg p wp (i 0)) (i 1) : ℝ) : EReal) := by
  refine (dats m 0 c).arrAt_eq_of_covers 7 _ (by decide +kernel) fun s _ y => ?_
  blk_simp
  rw [after0_7, (outs_all m c s).1]
  idx_vars y
  refine (di_pay (tile d s) (tile x s) (tile (gates x g wg) s) g wg (tile p s) wp (bd_at m c d hD s) (bx_at m c x hX s) (bz_at m c x g wg hX hG hW s) (bg_at m c g hG s) (bw_at m c wg hW s) (bp_at m c p hE s) (bu_at m c wp hU s) y0 y1).trans ?_
  have e : ((View.whole main_v23_0).slice (win0_7.rect s)).emb (ix2 y0 y1) = ix2 (⟨256 * s.val + y0, by have := lt32 s; omega⟩ : Fin 8192) y1 := by
    blk_ext [idx s]
  rw [e]; rfl
include hD hX hG hW hE hU in
/-- The gradient before the gates after the run. -/
theorem final8 : (dats m 0 c).arrAt 8 (cfgs 0).N = fun i : S8192x1024.Idx => ((dz (d (i 0)) (gates x g wg (i 0)) (p (i 0)) wp (i 1) : ℝ) : EReal) := by
  refine (dats m 0 c).arrAt_eq_of_covers 8 _ (by decide +kernel) fun s _ y => ?_
  blk_simp
  rw [after0_8, (outs_all m c s).2.1]
  idx_vars y
  refine (dz_pay (tile d s) (tile (gates x g wg) s) (tile p s) wp (bd_at m c d hD s) (bz_at m c x g wg hX hG hW s) (bp_at m c p hE s) (bu_at m c wp hU s) y0 y1).trans ?_
  have e : ((View.whole main_v23_1).slice (win0_8.rect s)).emb (ix2 y0 y1) = ix2 (⟨256 * s.val + y0, by have := lt32 s; omega⟩ : Fin 8192) y1 := by
    blk_ext [idx s]
  rw [e]; rfl
include hD hX hG hW in
/-- The embedding's gradient after the run. -/
theorem final9 : (dats m 0 c).arrAt 9 (cfgs 0).N = fun i : S8192x1024.Idx => ((dp (d (i 0)) (gates x g wg (i 0)) (i 1) : ℝ) : EReal) := by
  refine (dats m 0 c).arrAt_eq_of_covers 9 _ (by decide +kernel) fun s _ y => ?_
  blk_simp
  rw [after0_9, (outs_all m c s).2.2]
  idx_vars y
  refine (dp_pay (tile d s) (tile (gates x g wg) s) (bd_at m c d hD s) (bz_at m c x g wg hX hG hW s) y0 y1).trans ?_
  have e : ((View.whole main_v23_2).slice (win0_9.rect s)).emb (ix2 y0 y1) = ix2 (⟨256 * s.val + y0, by have := lt32 s; omega⟩ : Fin 8192) y1 := by
    blk_ext [idx s]
  rw [e]; rfl
include hD hX hG hW hE hU in
/-- The scale's gradient after the run. -/
theorem final10 : (dats m 0 c).arrAt 10 (cfgs 0).N = fun i : S1x1024.Idx => ((∑ n, scaleRow (x n) (dnRow d x g wg p wp n) (i 1) : ℝ) : EReal) := by
  refine (dats m 0 c).arrAt_eq_of_covers 10 _ (by decide +kernel) fun s hs y => ?_
  have h := (flush0_10 s).mp hs
  blk_simp
  rw [after0_10, (outs_C m c s (by omega) h).2.2.2.2, ← rows_step m c s (by omega)]
  idx_vars y
  have e : ((View.whole main_v23_3).slice (win0_10.rect s)).emb (ix2 y0 y1) = ix2 (0 : Fin 1) y1 := by
    blk_ext [idx s]
  rw [e, show ix2 y0 y1 = ix2 0 y1 from by blk_ext []]
  refine (fold_pay _ y1).trans ?_
  refine (Finset.sum_congr rfl fun i _ => rows_last m c d x g wg p wp hD hX hG hW hE hU s h i y1).trans ?_
  rw [Lift.sum (n := 8)]
  exact congrArg _ (Lift.sum_tiles fun n => scaleRow (x n) (dnRow d x g wg p wp n) y1)

end Cert.PleBwdIdeal.Ple

end
-- ==== Proof.PleRef.lean ====
/- The derivative of the gated embedding's forward lines, over the reals. -/
module

public import proofs.«01_k».proof.Proof.Gen.PleBwdRefIdeal.Run
public import proofs.«01_k».proof.Proof.PleKern

@[expose] public section

set_option maxRecDepth 16384

noncomputable section

open Idealize.ShloMosaic Idealize.ShloMosaic.TcCoe Idealize.SL.Sem

namespace Cert.PleBwdRefIdeal.Ple

open Cert.PleBwdRefIdeal Cert.PleBwdRefIdeal.Gen Cert.PleBwdRefIdeal.Value Lift Cert.Rms Cert.Ple

variable (m : (ℓ : Loc nD τ sig) → Buf (Elt Ideal) ℓ) (c : Dev nD)
variable (d x : Fin 8192 → Fin 1024 → ℝ) (g : Fin 1024 → ℝ) (wg : Fin 1024 → Fin 1024 → ℝ) (p : Fin 8192 → Fin 256 → ℝ) (wp : Fin 256 → Fin 1024 → ℝ)
variable (hD : ∀ n k, m ((c.tc : Thread nD τ).loc main_arg0) (ix2 n k) = ((d n k : ℝ) : EReal)) (hX : ∀ n k, m ((c.tc : Thread nD τ).loc main_arg1) (ix2 n k) = ((x n k : ℝ) : EReal))
  (hG : ∀ k, m ((c.tc : Thread nD τ).loc main_arg2) (ix1 k) = ((g k : ℝ) : EReal)) (hW : ∀ k j, m ((c.tc : Thread nD τ).loc main_arg3) (ix2 k j) = ((wg k j : ℝ) : EReal))
  (hE : ∀ n e, m ((c.tc : Thread nD τ).loc main_arg4) (ix2 n e) = ((p n e : ℝ) : EReal)) (hU : ∀ e k, m ((c.tc : Thread nD τ).loc main_arg5) (ix2 e k) = ((wp e k : ℝ) : EReal))

include hD hX hG hW hE hU

theorem ref_dx (n : Fin 8192) (k : Fin 1024) : res_out0 m c (ix2 n k) = ((d n k + dxRow (x n) g (dnRow d x g wg p wp n) k : ℝ) : EReal) := by
  pointwise [res_main_v57]
  simp only [Fin.sum_univ_one, hD, hX, hG, hW, hE, hU, c_1024, c_eps, c_neg_half, c_zero, c_one, one_sub, ← EReal.coe_neg, Ideal.exp_coe, div_gate, ← EReal.coe_mul, ← EReal.coe_add, ← EReal.coe_sub, sum, div_1024, rsqrt_ms, div_ms, zero_add, add_zero]
  refine congrArg _ (Eq.trans ?_ (dxRow_of_parts (d n k) (x n) g (dnRow d x g wg p wp n) k))
  simp only [dnRow, dn, dz, gates, pre, Cert.Rms.norm, ← mul_assoc]

omit hD hX hG hW hE hU

/-- The reference's run over finite arguments, in the reals. -/
theorem run_real (d x : Dev nD → Fin 8192 → Fin 1024 → ℝ) (g : Dev nD → Fin 1024 → ℝ) (wg : Dev nD → Fin 1024 → Fin 1024 → ℝ) (p : Dev nD → Fin 8192 → Fin 256 → ℝ) (wp : Dev nD → Fin 256 → Fin 1024 → ℝ)
  (hD : ∀ (c : Dev nD) n k, m ((c.tc : Thread nD τ).loc main_arg0) (ix2 n k) = ((d c n k : ℝ) : EReal)) (hX : ∀ (c : Dev nD) n k, m ((c.tc : Thread nD τ).loc main_arg1) (ix2 n k) = ((x c n k : ℝ) : EReal))
  (hG : ∀ (c : Dev nD) k, m ((c.tc : Thread nD τ).loc main_arg2) (ix1 k) = ((g c k : ℝ) : EReal)) (hW : ∀ (c : Dev nD) k j, m ((c.tc : Thread nD τ).loc main_arg3) (ix2 k j) = ((wg c k j : ℝ) : EReal))
  (hE : ∀ (c : Dev nD) n e, m ((c.tc : Thread nD τ).loc main_arg4) (ix2 n e) = ((p c n e : ℝ) : EReal)) (hU : ∀ (c : Dev nD) e k, m ((c.tc : Thread nD τ).loc main_arg5) (ix2 e k) = ((wp c e k : ℝ) : EReal))
    (ρ : Dev nD → PrngReg) : θ_run defs (onTc (τ := τ) (main (F := Ideal))) ⟨m, fun _ => 0, ρ⟩ (fun r => ∀ c : Dev nD,
    r.2.mem ((c.tc : Thread nD τ).loc main_v57) = (fun i : S8192x1024.Idx => ((d c (i 0) (i 1) + dxRow (x c (i 0)) (g c) (dnRow (d c) (x c) (g c) (wg c) (p c) (wp c) (i 0)) (i 1) : ℝ) : EReal))
    ∧ r.2.mem ((c.tc : Thread nD τ).loc main_v58) = (fun i : S8192x1024.Idx => ((dz (d c (i 0)) (gates (x c) (g c) (wg c) (i 0)) (p c (i 0)) (wp c) (i 1) : ℝ) : EReal))
    ∧ r.2.mem ((c.tc : Thread nD τ).loc main_v59) = (fun i : S8192x1024.Idx => ((dp (d c (i 0)) (gates (x c) (g c) (wg c) (i 0)) (i 1) : ℝ) : EReal))
    ∧ r.2.mem ((c.tc : Thread nD τ).loc main_v60) = (fun i : S1x1024.Idx => ((∑ n, scaleRow (x c n) (dnRow (d c) (x c) (g c) (wg c) (p c) (wp c) n) (i 1) : ℝ) : EReal))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  refine (θ_run defs _ _).mono (fun _ h c => ⟨(h c).1.trans ?_, (h c).2.1.trans ?_, (h c).2.2.1.trans ?_, (h c).2.2.2.1.trans ?_, (h c).2.2.2.2⟩) (run m ρ)
  all_goals
    funext i
    idx_vars i
    clear h
  · exact ref_dx m c (d c) (x c) (g c) (wg c) (p c) (wp c) (hD c) (hX c) (hG c) (hW c) (hE c) (hU c) i0 i1
  · pointwise []
    simp only [Fin.sum_univ_one, hD, hX, hG, hW, hE, hU, c_1024, c_eps, c_neg_half, c_zero, c_one, one_sub, ← EReal.coe_neg, Ideal.exp_coe, div_gate, ← EReal.coe_mul, ← EReal.coe_add, ← EReal.coe_sub, sum, div_1024, rsqrt_ms, div_ms, zero_add, add_zero]
    simp only [dz, gates, pre, Cert.Rms.norm, ← mul_assoc]
  · pointwise []
    simp only [Fin.sum_univ_one, hD, hX, hG, hW, hE, hU, c_1024, c_eps, c_neg_half, c_zero, c_one, one_sub, ← EReal.coe_neg, Ideal.exp_coe, div_gate, ← EReal.coe_mul, ← EReal.coe_add, ← EReal.coe_sub, sum, div_1024, rsqrt_ms, div_ms, zero_add, add_zero]
    simp only [dp, gates, pre, Cert.Rms.norm]
    exact congrArg _ (mul_comm _ _)
  · pointwise []
    simp only [Fin.sum_univ_one, hD, hX, hG, hW, hE, hU, c_1024, c_eps, c_neg_half, c_zero, c_one, one_sub, ← EReal.coe_neg, Ideal.exp_coe, div_gate, ← EReal.coe_mul, ← EReal.coe_add, ← EReal.coe_sub, sum, div_1024, rsqrt_ms, div_ms, zero_add, add_zero]
    refine congrArg _ (Finset.sum_congr rfl fun n _ => Eq.trans ?_ (scaleRow_of_parts (x c n) (dnRow (d c) (x c) (g c) (wg c) (p c) (wp c) n) i1))
    simp only [dnRow, dn, dz, gates, pre, Cert.Rms.norm, ← mul_assoc]

end Cert.PleBwdRefIdeal.Ple

end
-- ==== Proof.PleClaim.lean ====
/- The gated embedding's gradient against differentiation of its forward lines: on finite arguments both leave the same arrays. -/
module

public import proofs.«01_k».proof.Defs
public import proofs.«01_k».proof.Proof.Gen.Pre_finite_ple
public import proofs.«01_k».proof.Proof.Fin
public import proofs.«01_k».proof.Proof.PleRef
public import Idealize.ShloMosaic.Lib.Claim

@[expose] public section

set_option maxRecDepth 16384

noncomputable section

open Idealize.ShloMosaic Idealize.ShloMosaic.TcCoe Idealize.SL.Sem

namespace Cert.Ple

open Cert.Lift Cert.Rms

/-- The reference runs to the end, leaves its arguments alone and every semaphore at zero. -/
theorem frame : Cert.quiescent_PleBwdRefIdeal := fun m ρ _ =>
  (θ_run _ _ _).mono (fun r h => ⟨fun c => (h c).2.2.2.2, sem_eq_zero_of_no_sems (by decide) r.2⟩) (Cert.PleBwdRefIdeal.Value.run m ρ)

/-- Finite arguments are real arrays. -/
theorem reals (D X : FVec Ideal ⟨2, ![8192, 1024]⟩ .f32) (G : FVec Ideal ⟨1, ![1024]⟩ .f32) (W : FVec Ideal ⟨2, ![1024, 1024]⟩ .f32) (E : FVec Ideal ⟨2, ![8192, 256]⟩ .f32) (U : FVec Ideal ⟨2, ![256, 1024]⟩ .f32)
    (h : Cert.Pre_finite_ple.fn (F := Ideal) D X G W E U = fun _ => 1#1) :
    ∃ (d x : Fin 8192 → Fin 1024 → ℝ) (g : Fin 1024 → ℝ) (wg : Fin 1024 → Fin 1024 → ℝ) (p : Fin 8192 → Fin 256 → ℝ) (wp : Fin 256 → Fin 1024 → ℝ),
      (∀ n k, D (ix2 n k) = ((d n k : ℝ) : EReal)) ∧ (∀ n k, X (ix2 n k) = ((x n k : ℝ) : EReal)) ∧ (∀ k, G (ix1 k) = ((g k : ℝ) : EReal))
        ∧ (∀ k j, W (ix2 k j) = ((wg k j : ℝ) : EReal)) ∧ (∀ n e, E (ix2 n e) = ((p n e : ℝ) : EReal)) ∧ (∀ e k, U (ix2 e k) = ((wp e k : ℝ) : EReal)) := by
  have h0 := congrFun h ix0
  dsimp only [Cert.Pre_finite_ple.fn] at h0
  obtain ⟨h1, hU⟩ := IntOp.andi_eq_one.mp h0
  obtain ⟨h2, hE⟩ := IntOp.andi_eq_one.mp h1
  obtain ⟨h3, hW⟩ := IntOp.andi_eq_one.mp h2
  obtain ⟨h4, hG⟩ := IntOp.andi_eq_one.mp h3
  obtain ⟨hD, hX⟩ := IntOp.andi_eq_one.mp h4
  obtain ⟨d, hd⟩ := real_of_all _ _ _ _ _ hD
  obtain ⟨x, hx⟩ := real_of_all _ _ _ _ _ hX
  obtain ⟨g, hg⟩ := real_of_all _ _ _ _ _ hG
  obtain ⟨w, hw⟩ := real_of_all _ _ _ _ _ hW
  obtain ⟨p, hp⟩ := real_of_all _ _ _ _ _ hE
  obtain ⟨u, hu⟩ := real_of_all _ _ _ _ _ hU
  exact ⟨fun n k => d (ix2 n k), fun n k => x (ix2 n k), fun k => g (ix1 k), fun k j => w (ix2 k j), fun n e => p (ix2 n e), fun e k => u (ix2 e k),
    fun n k => hd _, fun n k => hx _, fun k => hg _, fun k j => hw _, fun n e => hp _, fun e k => hu _⟩

set_option maxHeartbeats 2000000 in
theorem algebraic : Cert.algebraic_PleBwdIdeal_PleBwdRefIdeal_pre_finite_ple := by
  intro m ρ m' ρ' hpre hagree
  have hr := fun c => reals _ _ _ _ _ _ (hpre c)
  choose d x g wg p wp hD hX hG hW hE hU using hr
  refine ⟨fun c => fun i : PleBwdIdeal.S8192x1024.Idx => ((d c (i 0) (i 1) + dxRow (x c (i 0)) (g c) (dnRow (d c) (x c) (g c) (wg c) (p c) (wp c) (i 0)) (i 1) : ℝ) : EReal),
    fun c => fun i : PleBwdIdeal.S8192x1024.Idx => ((dz (d c (i 0)) (gates (x c) (g c) (wg c) (i 0)) (p c (i 0)) (wp c) (i 1) : ℝ) : EReal),
    fun c => fun i : PleBwdIdeal.S8192x1024.Idx => ((dp (d c (i 0)) (gates (x c) (g c) (wg c) (i 0)) (i 1) : ℝ) : EReal),
    fun c => fun i : PleBwdIdeal.S1x1024.Idx => ((∑ n, scaleRow (x c n) (dnRow (d c) (x c) (g c) (wg c) (p c) (wp c) n) (i 1) : ℝ) : EReal), ?_, ?_⟩
  · run_from Cert.PleBwdIdeal.Gen.run_main m ρ
    · exact PleBwdIdeal.Ple.final7 m c (d c) (x c) (g c) (wg c) (p c) (wp c) (hD c) (hX c) (hG c) (hW c) (hE c) (hU c)
    · exact PleBwdIdeal.Ple.final8 m c (d c) (x c) (g c) (wg c) (p c) (wp c) (hD c) (hX c) (hG c) (hW c) (hE c) (hU c)
    · exact PleBwdIdeal.Ple.final9 m c (d c) (x c) (g c) (wg c) (hD c) (hX c) (hG c) (hW c)
    · exact PleBwdIdeal.Ple.final10 m c (d c) (x c) (g c) (wg c) (p c) (wp c) (hD c) (hX c) (hG c) (hW c) (hE c) (hU c)
  · refine (θ_run _ _ _).mono (fun _ h => h) (PleBwdRefIdeal.Ple.run_real m' d x g wg p wp (fun c n k => ?_) (fun c n k => ?_) (fun c k => ?_) (fun c k j => ?_) (fun c n e => ?_) (fun c e k => ?_) ρ')
    · rw [(hagree c).1]; exact hD c n k
    · rw [(hagree c).2.1]; exact hX c n k
    · rw [(hagree c).2.2.1]; exact hG c k
    · rw [(hagree c).2.2.2.1]; exact hW c k j
    · rw [(hagree c).2.2.2.2.1]; exact hE c n e
    · rw [(hagree c).2.2.2.2.2]; exact hU c e k

end Cert.Ple

end
-- ==== Proof.OutKern.lean ====
/- The output projection's gradient: what each grid point leaves, and the three result arrays after the run, over the reals. -/
module

public import proofs.«01_k».proof.Proof.Gen.OutBwdIdeal.Frame
public import Idealize.ShloMosaic.Lib.Pipeline.ValueKit
public import Idealize.ShloMosaic.Lib.Pipeline.ReadBack
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.Out

/-- The gradient of the attention's output from that of the projection's. -/
def back (d : Fin 1024 → ℝ) (w : Fin 1024 → Fin 1024 → ℝ) (k : Fin 1024) : ℝ := ∑ l, d l * w k l
/-- One head's inner product of that gradient with the output itself. -/
def delta (d : Fin 1024 → ℝ) (w : Fin 1024 → Fin 1024 → ℝ) (o : Fin 1024 → ℝ) (h : Fin 16) : ℝ :=
  ∑ e : Fin 64, back d w ⟨64 * h.val + e.val, by omega⟩ * o ⟨64 * h.val + e.val, by omega⟩

/-- Summing a row against one head's indicator sums the head's own lanes. -/
theorem pick (f : Fin 1024 → ℝ) (h : Fin 16) :
    ∑ j : Fin 1024, f j * (if j.val / 64 = h.val then 1 else 0) = ∑ e : Fin 64, f ⟨64 * h.val + e.val, by omega⟩ := by
  rw [← Cert.Lift.sum_runs (A := 16) (B := 64) (N := 1024) (by norm_num) fun j => f j * (if j.val / 64 = h.val then 1 else 0)]
  rw [Finset.sum_eq_single h]
  · refine Finset.sum_congr rfl fun e _ => ?_
    dsimp only
    rw [if_pos (by omega), mul_one]
  · intro b _ hb
    refine Finset.sum_eq_zero fun e _ => ?_
    dsimp only
    rw [if_neg (fun hh => hb (Fin.ext (by omega))), mul_zero]
  · exact fun hh => absurd (Finset.mem_univ h) hh

end Cert.Out

namespace Cert.OutBwdIdeal.Out

open Cert.OutBwdIdeal Cert.OutBwdIdeal.Gen Cert.Out Cert.Lift

section Payloads

/-- Lane `j` belongs to head `j / 64`. -/
theorem lane : ∀ j : Fin 1024,
    Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32) = BitVec.ofNat 32 (j.val / 64) := by
  decide +kernel
theorem same : ∀ a h : Fin 16, BitVec.setWidth 32 (IntOp.cmpi CmpIPredicate.eq (BitVec.ofNat 32 a.val) (BitVec.ofNat 32 h.val)) = if a.val = h.val then 1#32 else 0#32 := by
  decide +kernel
theorem seg (j : Fin 1024) (h : Fin 16) : k0_pay5 (F := Ideal) (ix2 j h) = (((if j.val / 64 = h.val then 1 else 0 : ℝ)) : EReal) := by
  pointwise [k0_pay5]
  rw [lane j, same ⟨j.val / 64, by omega⟩ h]
  dsimp only
  split
  · exact (congrArg (fun z : ℤ => ((z : ℝ) : EReal)) (by decide : (1#32).toInt = 1)).trans (by norm_num)
  · exact (congrArg (fun z : ℤ => ((z : ℝ) : EReal)) (by decide : (0#32).toInt = 0)).trans (by norm_num)

variable (d : Fin 256 → Fin 1024 → ℝ) (w : Fin 1024 → Fin 1024 → ℝ) (o : Fin 256 → Fin 1024 → ℝ)
variable {A O : FVec Ideal S256x1024 .f32} {W : FVec Ideal S1024x1024 .bf16}
variable (hA : ∀ p k, A (ix2 p k) = ((d p k : ℝ) : EReal)) (hW : ∀ k l, W (ix2 k l) = ((w k l : ℝ) : EReal)) (hO : ∀ p k, O (ix2 p k) = ((o p k : ℝ) : EReal))

include hA hW in
theorem do_pay (p : Fin 256) (k : Fin 1024) : k0_pay3 (F := Ideal) A W (ix2 p k) = ((back (d p) w k : ℝ) : EReal) := by
  pointwise [k0_pay3, k0_pay2]
  simp only [hA, hW, ← EReal.coe_mul, sum]
  rfl
include hA hW in
theorem doT_pay (p : Fin 256) (k : Fin 1024) : k0_pay4 (F := Ideal) A W (ix2 k p) = ((back (d p) w k : ℝ) : EReal) := by
  pointwise [k0_pay4, k0_pay2]
  simp only [hA, hW, ← EReal.coe_mul, sum]
  rfl
include hA hW hO in
theorem delta_pay (p : Fin 256) (h : Fin 16) : k0_pay1 (F := Ideal) k0_pay5 (k0_pay6 A W) O (ix2 p h) = ((delta (d p) w (o p) h : ℝ) : EReal) := by
  pointwise [k0_pay1, k0_pay6, k0_pay3, k0_pay2]
  simp only [hA, hW, hO, seg, ← EReal.coe_mul, ← EReal.coe_add, ← EReal.coe_sub, sum, sub_self, zero_mul, Finset.sum_const_zero, zero_add]
  exact congrArg _ (pick (fun j => back (d p) w j * o p j) h)

end Payloads

variable (m : (ℓ : Loc nD τ sig) → Buf (Elt Ideal) ℓ) (c : Dev nD)

abbrev ba (t : Fin cfg0.N) : Vec Ideal S256x1024 .f32 := iblk m c 0 t
abbrev bw (t : Fin cfg0.N) : Vec Ideal S1024x1024 .bf16 := iblk m c 1 t
abbrev bo (t : Fin cfg0.N) : Vec Ideal S256x1024 .f32 := iblk m c 2 t

theorem outs (t : Fin cfg0.N) : (dats m 0 c).after 3 t = k0_pay3 (ba m c t) (bw m c t) ∧ (dats m 0 c).after 4 t = k0_pay4 (ba m c t) (bw m c t)
    ∧ (dats m 0 c).after 5 t = k0_pay1 k0_pay5 (k0_pay6 (ba m c t) (bw m c t)) (bo m c t) := by
  rw [after0_3, after0_4, after0_5]; refine ⟨?_, ?_, ?_⟩
  · unfold out0_3; frame_out <;> rfl
  · unfold out0_4; frame_out <;> rfl
  · unfold out0_5; frame_out <;> rfl

variable (d : Fin 8192 → Fin 1024 → ℝ) (w : Fin 1024 → Fin 1024 → ℝ) (o : Fin 8192 → Fin 1024 → ℝ)
variable (hA : ∀ n k, m ((c.tc : Thread nD τ).loc main_arg0) (ix2 n k) = ((d n k : ℝ) : EReal)) (hW : ∀ k l, m ((c.tc : Thread nD τ).loc main_arg1) (ix2 k l) = ((w k l : ℝ) : EReal))
  (hO : ∀ n k, m ((c.tc : Thread nD τ).loc main_arg2) (ix2 n k) = ((o n k : ℝ) : EReal))

theorem idx : ∀ t : Fin cfg0.N, win0_0.index t = ![t.val, 0] ∧ win0_1.index t = ![0, 0] ∧ win0_2.index t = ![t.val, 0] ∧ win0_3.index t = ![t.val, 0] ∧ win0_4.index t = ![0, t.val] ∧ win0_5.index t = ![t.val, 0] :=
  (by decide +kernel : ∀ t : Fin grid0.N, _)
theorem lt32 (t : Fin cfg0.N) : t.val < 32 := lt_of_lt_of_eq t.isLt N_0

/-- The rows a grid point works on. -/
def tile (v : Fin 8192 → Fin 1024 → ℝ) (s : Fin cfg0.N) (p : Fin 256) : Fin 1024 → ℝ := v ⟨256 * s.val + p, by have := lt32 s; omega⟩

include hA in
theorem ba_at (s : Fin cfg0.N) (p : Fin 256) (k : Fin 1024) : ba m c s (ix2 p k) = ((tile d s p k : ℝ) : EReal) := by
  refine Eq.trans ?_ (hA ⟨256 * s.val + p, by have := lt32 s; omega⟩ k)
  unfold ba; blk_simp [iblk, idx s]; entry_read; blk_ext [idx s]
include hW in
theorem bw_at (s : Fin cfg0.N) (k l : Fin 1024) : bw m c s (ix2 k l) = ((w k l : ℝ) : EReal) := by
  refine Eq.trans ?_ (hW k l)
  unfold bw; blk_simp [iblk, idx s]; entry_read; pointwise; blk_ext [idx s]
include hO in
theorem bo_at (s : Fin cfg0.N) (p : Fin 256) (k : Fin 1024) : bo m c s (ix2 p k) = ((tile o s p k : ℝ) : EReal) := by
  refine Eq.trans ?_ (hO ⟨256 * s.val + p, by have := lt32 s; omega⟩ k)
  unfold bo; blk_simp [iblk, idx s]; entry_read; blk_ext [idx s]

include hA hW in
/-- The output's gradient after the run. -/
theorem final3 : (dats m 0 c).arrAt 3 (cfgs 0).N = fun i : S8192x1024.Idx => ((back (d (i 0)) w (i 1) : ℝ) : EReal) := by
  refine (dats m 0 c).arrAt_eq_of_covers 3 _ (by decide +kernel) fun s _ y => ?_
  blk_simp
  rw [(outs m c s).1]
  idx_vars y
  refine (do_pay (tile d s) w (ba_at m c d hA s) (bw_at m c w hW s) y0 y1).trans ?_
  have e : ((View.whole main_v1_0).slice (win0_3.rect s)).emb (ix2 y0 y1) = ix2 (⟨256 * s.val + y0, by have := lt32 s; omega⟩ : Fin 8192) y1 := by
    blk_ext [idx s]
  rw [e]; rfl
include hA hW in
/-- Its transpose after the run. -/
theorem final4 : (dats m 0 c).arrAt 4 (cfgs 0).N = fun i : S1024x8192.Idx => ((back (d (i 1)) w (i 0) : ℝ) : EReal) := by
  refine (dats m 0 c).arrAt_eq_of_covers 4 _ (by decide +kernel) fun s _ y => ?_
  blk_simp
  rw [(outs m c s).2.1]
  idx_vars y
  refine (doT_pay (tile d s) w (ba_at m c d hA s) (bw_at m c w hW s) y1 y0).trans ?_
  have e : ((View.whole main_v1_1).slice (win0_4.rect s)).emb (ix2 y0 y1) = ix2 y0 (⟨256 * s.val + y1, by have := lt32 s; omega⟩ : Fin 8192) := by
    blk_ext [idx s]
  rw [e]; rfl
include hA hW hO in
/-- The inner products after the run. -/
theorem final5 : (dats m 0 c).arrAt 5 (cfgs 0).N = fun i : S8192x16.Idx => ((delta (d (i 0)) w (o (i 0)) (i 1) : ℝ) : EReal) := by
  refine (dats m 0 c).arrAt_eq_of_covers 5 _ (by decide +kernel) fun s _ y => ?_
  blk_simp
  rw [(outs m c s).2.2]
  idx_vars y
  refine (delta_pay (tile d s) w (tile o s) (ba_at m c d hA s) (bw_at m c w hW s) (bo_at m c o hO s) y0 y1).trans ?_
  have e : ((View.whole main_v1_2).slice (win0_5.rect s)).emb (ix2 y0 y1) = ix2 (⟨256 * s.val + y0, by have := lt32 s; omega⟩ : Fin 8192) y1 := by
    blk_ext [idx s]
  rw [e]; rfl

end Cert.OutBwdIdeal.Out

end
-- ==== Proof.OutRef.lean ====
/- The derivative of the output projection's forward line, and the heads' inner products with it, over the reals. -/
module

public import proofs.«01_k».proof.Proof.Gen.OutBwdRefIdeal.Run
public import proofs.«01_k».proof.Proof.OutKern

@[expose] public section

set_option maxRecDepth 16384

noncomputable section

open Idealize.ShloMosaic Idealize.ShloMosaic.TcCoe Idealize.SL.Sem

namespace Cert.OutBwdRefIdeal.Out

open Cert.OutBwdRefIdeal Cert.OutBwdRefIdeal.Gen Cert.OutBwdRefIdeal.Value Cert.Lift Cert.Out

/-- The reference's run over finite arguments, in the reals. -/
theorem run_real (m : (ℓ : Loc nD τ sig) → Buf (Elt Ideal) ℓ) (d : Dev nD → Fin 8192 → Fin 1024 → ℝ) (w : Dev nD → Fin 1024 → Fin 1024 → ℝ) (o : Dev nD → Fin 8192 → Fin 1024 → ℝ)
    (hA : ∀ (c : Dev nD) n k, m ((c.tc : Thread nD τ).loc main_arg0) (ix2 n k) = ((d c n k : ℝ) : EReal)) (hW : ∀ (c : Dev nD) k l, m ((c.tc : Thread nD τ).loc main_arg1) (ix2 k l) = ((w c k l : ℝ) : EReal))
    (hO : ∀ (c : Dev nD) n k, m ((c.tc : Thread nD τ).loc main_arg2) (ix2 n k) = ((o c n k : ℝ) : EReal))
    (ρ : Dev nD → PrngReg) : θ_run defs (onTc (τ := τ) (main (F := Ideal))) ⟨m, fun _ => 0, ρ⟩ (fun r => ∀ c : Dev nD,
    r.2.mem ((c.tc : Thread nD τ).loc main_v5) = (fun i : S8192x1024.Idx => ((back (d c (i 0)) (w c) (i 1) : ℝ) : EReal))
    ∧ r.2.mem ((c.tc : Thread nD τ).loc main_v7) = (fun i : S1024x8192.Idx => ((back (d c (i 1)) (w c) (i 0) : ℝ) : EReal))
    ∧ r.2.mem ((c.tc : Thread nD τ).loc main_v4) = (fun i : S8192x16.Idx => ((delta (d c (i 0)) (w c) (o c (i 0)) (i 1) : ℝ) : EReal))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun _ h c => ⟨(h c).1.trans ?_, (h c).2.1.trans ?_, (h c).2.2.1.trans ?_, (h c).2.2.2⟩) (run m ρ)
  all_goals funext i; idx_vars i; clear h; pointwise []
  · simp only [hA, hW, ← EReal.coe_mul, sum]
    rfl
  · simp only [hA, hW, ← EReal.coe_mul, sum]
    rfl
  · simp only [hA, hW, hO, c_zero, ← EReal.coe_mul, ← EReal.coe_add, sum, zero_add]
    refine congrArg _ (Finset.sum_congr rfl fun e _ => ?_)
    rw [show (⟨i1.val * 64 + e.val, by omega⟩ : Fin 1024) = ⟨64 * i1.val + e.val, by omega⟩ from Fin.ext (by dsimp only; omega)]
    rfl

end Cert.OutBwdRefIdeal.Out

end
-- ==== Proof.OutClaim.lean ====
/- The output projection's gradient against differentiation of its forward line: on finite arguments both leave the same arrays. -/
module

public import proofs.«01_k».proof.Defs
public import proofs.«01_k».proof.Proof.Gen.Pre_finite_out
public import proofs.«01_k».proof.Proof.Gen.OutBwdIdeal.Value
public import proofs.«01_k».proof.Proof.Fin
public import proofs.«01_k».proof.Proof.OutRef
public import Idealize.ShloMosaic.Lib.Claim

@[expose] public section

set_option maxRecDepth 16384

noncomputable section

open Idealize.ShloMosaic Idealize.ShloMosaic.TcCoe Idealize.SL.Sem

namespace Cert.Out

open Cert.Lift

/-- The reference runs to the end, leaves its arguments alone and every semaphore at zero. -/
theorem frame : Cert.quiescent_OutBwdRefIdeal := fun m ρ _ =>
  (θ_run _ _ _).mono (fun r h => ⟨fun c => (h c).2.2.2, sem_eq_zero_of_no_sems (by decide) r.2⟩) (Cert.OutBwdRefIdeal.Value.run m ρ)

/-- Finite arguments are real arrays. -/
theorem reals (A : FVec Ideal ⟨2, ![8192, 1024]⟩ .f32) (W : FVec Ideal ⟨2, ![1024, 1024]⟩ .f32) (O : FVec Ideal ⟨2, ![8192, 1024]⟩ .f32)
    (h : Cert.Pre_finite_out.fn (F := Ideal) A W O = fun _ => 1#1) :
    ∃ (d : Fin 8192 → Fin 1024 → ℝ) (w : Fin 1024 → Fin 1024 → ℝ) (o : Fin 8192 → Fin 1024 → ℝ),
      (∀ n k, A (ix2 n k) = ((d n k : ℝ) : EReal)) ∧ (∀ k l, W (ix2 k l) = ((w k l : ℝ) : EReal)) ∧ (∀ n k, O (ix2 n k) = ((o n k : ℝ) : EReal)) := by
  have h0 := congrFun h ix0
  dsimp only [Cert.Pre_finite_out.fn] at h0
  obtain ⟨h1, hO⟩ := IntOp.andi_eq_one.mp h0
  obtain ⟨hA, hW⟩ := IntOp.andi_eq_one.mp h1
  obtain ⟨d, hd⟩ := real_of_all _ _ _ _ _ hA
  obtain ⟨w, hw⟩ := real_of_all _ _ _ _ _ hW
  obtain ⟨o, ho⟩ := real_of_all _ _ _ _ _ hO
  exact ⟨fun n k => d (ix2 n k), fun k l => w (ix2 k l), fun n k => o (ix2 n k), fun n k => hd _, fun k l => hw _, fun n k => ho _⟩

theorem algebraic : Cert.algebraic_OutBwdIdeal_OutBwdRefIdeal_pre_finite_out := by
  intro m ρ m' ρ' hpre hagree
  have hr := fun c => reals _ _ _ (hpre c)
  choose d w o hA hW hO using hr
  refine ⟨fun c => fun i : OutBwdIdeal.S8192x1024.Idx => ((back (d c (i 0)) (w c) (i 1) : ℝ) : EReal),
    fun c => fun i : OutBwdIdeal.S1024x8192.Idx => ((back (d c (i 1)) (w c) (i 0) : ℝ) : EReal),
    fun c => fun i : OutBwdIdeal.S8192x16.Idx => ((delta (d c (i 0)) (w c) (o c (i 0)) (i 1) : ℝ) : EReal), ?_, ?_⟩
  · run_from Cert.OutBwdIdeal.Value.run_blocks m ρ
    · exact OutBwdIdeal.Out.final3 m c (d c) (w c) (hA c) (hW c)
    · exact OutBwdIdeal.Out.final4 m c (d c) (w c) (hA c) (hW c)
    · exact OutBwdIdeal.Out.final5 m c (d c) (w c) (o c) (hA c) (hW c) (hO c)
  · refine (θ_run _ _ _).mono (fun _ h => h) (OutBwdRefIdeal.Out.run_real m' d w o (fun c n k => ?_) (fun c k l => ?_) (fun c n k => ?_) ρ')
    · rw [(hagree c).1]; exact hA c n k
    · rw [(hagree c).2.1]; exact hW c k l
    · rw [(hagree c).2.2]; exact hO c n k

end Cert.Out

end
-- ==== Proof.Fwd.lean ====
/- The forward lines of one row over the extended reals: the normed row, a product with a matrix, and what each block makes of them. -/
module

public import proofs.«01_k».proof.Proof.Lift

@[expose] public section

set_option maxRecDepth 16384

noncomputable section

open Idealize.ShloMosaic Idealize.ShloMosaic.TcCoe Idealize.SL.Sem

namespace Cert.Fwd

/-- The root-mean-square norm of a row, scaled. -/
def nrm (x g : Fin 1024 → EReal) (k : Fin 1024) : EReal :=
  x k * Ideal.rsqrt (Ideal.div (∑ j, x j * x j) (Ideal.ofBits .f32 0x44800000#32) + Ideal.ofBits .f32 0x358637BD#32) * g k
/-- A row times a matrix. -/
def proj {a b : ℕ} (v : Fin a → EReal) (w : Fin a → Fin b → EReal) (l : Fin b) : EReal := ∑ k, v k * w k l
/-- The scaled queries of a row. -/
def query (x g : Fin 1024 → EReal) (w : Fin 1024 → Fin 1024 → EReal) (l : Fin 1024) : EReal :=
  proj (nrm x g) w l * Ideal.ofBits .f32 0x3E000000#32
/-- The hidden entries of a row before the square. -/
def hidden (x g : Fin 1024 → EReal) (w : Fin 1024 → Fin 4096 → EReal) (j : Fin 4096) : EReal := proj (nrm x g) w j
/-- The squared rectified hidden entries. -/
def squared (x g : Fin 1024 → EReal) (w : Fin 1024 → Fin 4096 → EReal) (j : Fin 4096) : EReal := max (hidden x g w j) 0 * max (hidden x g w j) 0
/-- The row after the channel mixer. -/
def mixed (x g : Fin 1024 → EReal) (w : Fin 1024 → Fin 4096 → EReal) (u : Fin 4096 → Fin 1024 → EReal) (k : Fin 1024) : EReal :=
  x k + proj (squared x g w) u k
/-- The gates of a row. -/
def gates (x g : Fin 1024 → EReal) (w : Fin 1024 → Fin 1024 → EReal) (k : Fin 1024) : EReal := Ideal.logistic (proj (nrm x g) w k)
/-- The row after the gated embedding. -/
def gated (x g : Fin 1024 → EReal) (w : Fin 1024 → Fin 1024 → EReal) (p : Fin 256 → EReal) (u : Fin 256 → Fin 1024 → EReal) (k : Fin 1024) : EReal :=
  x k + gates x g w k * proj p u k

/-- Equal summands have equal sums. -/
theorem plus {a b c d : EReal} (h : a = b) (k : c = d) : a + c = b + d := h ▸ k ▸ rfl
/-- A matrix of each device under a name. -/
theorem rows {D A B : Type} (f : D → A → B → EReal) : ∃ v : D → A → B → EReal, ∀ c a b, f c a b = v c a b := ⟨f, fun _ _ _ => rfl⟩
/-- A vector of each device under a name. -/
theorem row {D A : Type} (f : D → A → EReal) : ∃ v : D → A → EReal, ∀ c a, f c a = v c a := ⟨f, fun _ _ => rfl⟩

end Cert.Fwd

end
-- ==== Proof.QueriesKern.lean ====
/- The queries: what each grid point leaves, and the result arrays after the run, over the extended reals. -/
module

public import proofs.«01_k».proof.Proof.Gen.QFwdIdeal.Frame
public import Idealize.ShloMosaic.Lib.Pipeline.ValueKit
public import proofs.«01_k».proof.Proof.Fwd

@[expose] public section

set_option maxRecDepth 16384

noncomputable section

open Idealize.ShloMosaic Idealize.ShloMosaic.TcCoe Idealize.SL.Sem
open Idealize.ShloMosaic.Pipeline (Dat)

namespace Cert.QFwdIdeal.Queries

open Cert.QFwdIdeal Cert.QFwdIdeal.Gen Cert.Fwd

section Payloads

variable (x : Fin 256 → Fin 1024 → EReal) (g : Fin 1024 → EReal) (w : Fin 1024 → Fin 1024 → EReal)
variable {X : FVec Ideal S256x1024 .f32} {G : FVec Ideal S1x1024 .f32} {W : FVec Ideal S1024x1024 .bf16}
variable (hX : ∀ a b, X (ix2 a b) = x a b) (hG : ∀ k, G (ix2 0 k) = g k) (hW : ∀ a b, W (ix2 a b) = w a b)

include hX hG in
theorem pay3 (r : Fin 256) (k : Fin 1024) : k0_pay2 (F := Ideal) X G (ix2 r k) = nrm (x r) g k := by
  pointwise [k0_pay1, k0_pay2, k0_pay3, k0_pay4, k0_pay5]
  simp only [hX, hG]
  rfl
include hX hG hW in
theorem pay4 (r : Fin 256) (k : Fin 1024) : k0_pay4 (F := Ideal) X G W (ix2 r k) = query (x r) g w k := by
  pointwise [k0_pay1, k0_pay2, k0_pay3, k0_pay4, k0_pay5]
  simp only [hX, hG, hW]
  rfl
include hX hG hW in
theorem pay5 (r : Fin 256) (k : Fin 1024) : k0_pay5 (F := Ideal) X G W (ix2 k r) = query (x r) g w k := by
  pointwise [k0_pay1, k0_pay2, k0_pay3, k0_pay4, k0_pay5]
  simp only [hX, hG, hW]
  rfl

end Payloads

variable (m : (ℓ : Loc nD τ sig) → Buf (Elt Ideal) ℓ) (c : Dev nD)

abbrev bx (t : Fin cfg0.N) : Vec Ideal S256x1024 .f32 := iblk m c 0 t
abbrev bg (t : Fin cfg0.N) : Vec Ideal S1x1024 .f32 := iblk m c 1 t
abbrev bw (t : Fin cfg0.N) : Vec Ideal S1024x1024 .bf16 := iblk m c 2 t

theorem outs (t : Fin cfg0.N) : (dats m 0 c).after 3 t = k0_pay2 (bx m c t) (bg m c t)
    ∧ (dats m 0 c).after 4 t = k0_pay4 (bx m c t) (bg m c t) (bw m c t)
    ∧ (dats m 0 c).after 5 t = k0_pay5 (bx m c t) (bg m c t) (bw m c t) := by
  rw [after0_3, after0_4, after0_5]; refine ⟨?_, ?_, ?_⟩
  · unfold out0_3; frame_out <;> rfl
  · unfold out0_4; frame_out <;> rfl
  · unfold out0_5; frame_out <;> rfl

variable (x : Fin 8192 → Fin 1024 → EReal) (g : Fin 1024 → EReal) (w : Fin 1024 → Fin 1024 → EReal)
variable (hX : ∀ a b, m ((c.tc : Thread nD τ).loc main_arg0) (ix2 a b) = x a b)
  (hG : ∀ k, m ((c.tc : Thread nD τ).loc main_arg1) (ix1 k) = g k)
  (hW : ∀ a b, m ((c.tc : Thread nD τ).loc main_arg2) (ix2 a b) = w a b)

theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![0, t.val] :=
  (by decide +kernel : ∀ t : Fin grid0.N, _)
theorem lt32 (t : Fin cfg0.N) : t.val < 32 := lt_of_lt_of_eq t.isLt N_0

/-- The rows a grid point works on. -/
def tile {b : ℕ} (v : Fin 8192 → Fin b → EReal) (s : Fin cfg0.N) (r : Fin 256) : Fin b → EReal := v ⟨256 * s.val + r, by have := lt32 s; omega⟩

include hX in
theorem bx_at (s : Fin cfg0.N) (r : Fin 256) (k : Fin 1024) : bx m c s (ix2 r k) = tile x s r k := by
  refine Eq.trans ?_ (hX ⟨256 * s.val + r, by have := lt32 s; omega⟩ k)
  unfold bx; blk_simp [iblk, idx s]; entry_read; blk_ext [idx s]
include hG in
theorem bg_at (s : Fin cfg0.N) (k : Fin 1024) : bg m c s (ix2 0 k) = g k := by
  refine Eq.trans ?_ (hG k)
  unfold bg; blk_simp [iblk, idx s]; entry_read; pointwise; blk_ext [idx s]
include hW in
theorem bw_at (s : Fin cfg0.N) (k : Fin 1024) (j : Fin 1024) : bw m c s (ix2 k j) = w k j := by
  refine Eq.trans ?_ (hW k j)
  unfold bw; blk_simp [iblk, idx s]; entry_read; pointwise; blk_ext [idx s]

include hX hG in
theorem final3 : (dats m 0 c).arrAt 3 (cfgs 0).N = fun i : S8192x1024.Idx => nrm (x (i 0)) g (i 1) := by
  refine (dats m 0 c).arrAt_eq_of_covers 3 _ (by decide +kernel) fun s _ y => ?_
  blk_simp
  rw [(outs m c s).1]
  idx_vars y
  refine (pay3 (tile x s) g (bx_at m c x hX s) (bg_at m c g hG s) y0 y1).trans ?_
  have e : ((View.whole main_v2_0).slice (win0_3.rect s)).emb (ix2 y0 y1) = ix2 (⟨256 * s.val + y0, by have := lt32 s; omega⟩ : Fin 8192) y1 := by
    blk_ext [idx s]
  rw [e]; rfl

include hX hG hW in
theorem final4 : (dats m 0 c).arrAt 4 (cfgs 0).N = fun i : S8192x1024.Idx => query (x (i 0)) g w (i 1) := by
  refine (dats m 0 c).arrAt_eq_of_covers 4 _ (by decide +kernel) fun s _ y => ?_
  blk_simp
  rw [(outs m c s).2.1]
  idx_vars y
  refine (pay4 (tile x s) g w (bx_at m c x hX s) (bg_at m c g hG s) (bw_at m c w hW s) y0 y1).trans ?_
  have e : ((View.whole main_v2_1).slice (win0_4.rect s)).emb (ix2 y0 y1) = ix2 (⟨256 * s.val + y0, by have := lt32 s; omega⟩ : Fin 8192) y1 := by
    blk_ext [idx s]
  rw [e]; rfl

include hX hG hW in
theorem final5 : (dats m 0 c).arrAt 5 (cfgs 0).N = fun i : S1024x8192.Idx => query (x (i 1)) g w (i 0) := by
  refine (dats m 0 c).arrAt_eq_of_covers 5 _ (by decide +kernel) fun s _ y => ?_
  blk_simp
  rw [(outs m c s).2.2]
  idx_vars y
  refine (pay5 (tile x s) g w (bx_at m c x hX s) (bg_at m c g hG s) (bw_at m c w hW s) y1 y0).trans ?_
  have e : ((View.whole main_v2_2).slice (win0_5.rect s)).emb (ix2 y0 y1) = ix2 y0 (⟨256 * s.val + y1, by have := lt32 s; omega⟩ : Fin 8192) := by
    blk_ext [idx s]
  rw [e]; rfl

end Cert.QFwdIdeal.Queries

end
-- ==== Proof.QueriesRef.lean ====
/- The reference's own run of the queries, over the extended reals. -/
module

public import proofs.«01_k».proof.Proof.Gen.QFwdRefIdeal.Run
public import proofs.«01_k».proof.Proof.Fwd

@[expose] public section

set_option maxRecDepth 16384

noncomputable section

open Idealize.ShloMosaic Idealize.ShloMosaic.TcCoe Idealize.SL.Sem

namespace Cert.QFwdRefIdeal.Queries

open Cert.QFwdRefIdeal Cert.QFwdRefIdeal.Gen Cert.QFwdRefIdeal.Value Cert.Lift Cert.Fwd

theorem run_rows (m : (ℓ : Loc nD τ sig) → Buf (Elt Ideal) ℓ) (x : Dev nD → Fin 8192 → Fin 1024 → EReal) (g : Dev nD → Fin 1024 → EReal) (w : Dev nD → Fin 1024 → Fin 1024 → EReal)
    (hX : ∀ (c : Dev nD) a b, m ((c.tc : Thread nD τ).loc main_arg0) (ix2 a b) = x c a b)
    (hG : ∀ (c : Dev nD) k, m ((c.tc : Thread nD τ).loc main_arg1) (ix1 k) = g c k)
    (hW : ∀ (c : Dev nD) a b, m ((c.tc : Thread nD τ).loc main_arg2) (ix2 a b) = w c a b)
    (ρ : Dev nD → PrngReg) : θ_run defs (onTc (τ := τ) (main (F := Ideal))) ⟨m, fun _ => 0, ρ⟩ (fun r => ∀ c : Dev nD,
    r.2.mem ((c.tc : Thread nD τ).loc main_v16) = (fun i : S8192x1024.Idx => nrm (x c (i 0)) (g c) (i 1))
    ∧ r.2.mem ((c.tc : Thread nD τ).loc main_v17) = (fun i : S8192x1024.Idx => query (x c (i 0)) (g c) (w c) (i 1))
    ∧ r.2.mem ((c.tc : Thread nD τ).loc main_v19) = (fun i : S1024x8192.Idx => query (x c (i 1)) (g c) (w c) (i 0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun _ h c => ⟨(h c).1.trans ?_, (h c).2.1.trans ?_, (h c).2.2.1.trans ?_, (h c).2.2.2⟩) (run m ρ)
  all_goals funext i; idx_vars i; clear h; pointwise []
  · simp only [hX, hG, c_zero, EReal.coe_zero, zero_add]
    rfl
  · simp only [hX, hG, hW, c_zero, EReal.coe_zero, zero_add]
    rfl
  · simp only [hX, hG, hW, c_zero, EReal.coe_zero, zero_add]
    rfl

end Cert.QFwdRefIdeal.Queries

end
-- ==== Proof.QueriesClaim.lean ====
/- The queries against its forward lines: both programs leave the same arrays. -/
module

public import proofs.«01_k».proof.Defs
public import proofs.«01_k».proof.Proof.Gen.QFwdIdeal.Value
public import proofs.«01_k».proof.Proof.QueriesKern
public import proofs.«01_k».proof.Proof.QueriesRef
public import Idealize.ShloMosaic.Lib.Claim

@[expose] public section

set_option maxRecDepth 16384

noncomputable section

open Idealize.ShloMosaic Idealize.ShloMosaic.TcCoe Idealize.SL.Sem

namespace Cert.Queries

open Cert.Fwd

/-- The reference runs to the end, leaves its arguments alone and every semaphore at zero. -/
theorem frame : Cert.quiescent_QFwdRefIdeal := fun m ρ _ =>
  (θ_run _ _ _).mono (fun r h => ⟨fun c => (h c).2.2.2, sem_eq_zero_of_no_sems (by decide) r.2⟩) (Cert.QFwdRefIdeal.Value.run m ρ)

theorem algebraic : Cert.algebraic_QFwdIdeal_QFwdRefIdeal := by
  intro m ρ m' ρ' _ hagree
  obtain ⟨x, hX⟩ := rows fun (c : Dev QFwdIdeal.nD) (a : Fin 8192) (b : Fin 1024) => (m ((c.tc : Thread QFwdIdeal.nD QFwdIdeal.τ).loc QFwdIdeal.main_arg0) (ix2 a b) : EReal)
  obtain ⟨g, hG⟩ := row fun (c : Dev QFwdIdeal.nD) (a : Fin 1024) => (m ((c.tc : Thread QFwdIdeal.nD QFwdIdeal.τ).loc QFwdIdeal.main_arg1) (ix1 a) : EReal)
  obtain ⟨w, hW⟩ := rows fun (c : Dev QFwdIdeal.nD) (a : Fin 1024) (b : Fin 1024) => (m ((c.tc : Thread QFwdIdeal.nD QFwdIdeal.τ).loc QFwdIdeal.main_arg2) (ix2 a b) : EReal)
  refine ⟨fun c => fun i : QFwdIdeal.S8192x1024.Idx => nrm (x c (i 0)) (g c) (i 1),
    fun c => fun i : QFwdIdeal.S8192x1024.Idx => query (x c (i 0)) (g c) (w c) (i 1),
    fun c => fun i : QFwdIdeal.S1024x8192.Idx => query (x c (i 1)) (g c) (w c) (i 0), ?_, ?_⟩
  · run_from Cert.QFwdIdeal.Value.run_blocks m ρ
    · exact QFwdIdeal.Queries.final3 m c (x c) (g c) (hX c) (hG c)
    · exact QFwdIdeal.Queries.final4 m c (x c) (g c) (w c) (hX c) (hG c) (hW c)
    · exact QFwdIdeal.Queries.final5 m c (x c) (g c) (w c) (hX c) (hG c) (hW c)
  · refine (θ_run _ _ _).mono (fun _ h => h) (QFwdRefIdeal.Queries.run_rows m' x g w (fun c a b => ?_) (fun c k => ?_) (fun c a b => ?_) ρ')
    · rw [(hagree c).1]; exact hX c a b
    · rw [(hagree c).2.1]; exact hG c k
    · rw [(hagree c).2.2]; exact hW c a b

end Cert.Queries

end
-- ==== Proof.MixerKern.lean ====
/- The channel mixer: what each grid point leaves, and the result arrays after the run, over the extended reals. -/
module

public import proofs.«01_k».proof.Proof.Gen.FfnFwdIdeal.Frame
public import Idealize.ShloMosaic.Lib.Pipeline.ValueKit
public import proofs.«01_k».proof.Proof.Fwd

@[expose] public section

set_option maxRecDepth 16384

noncomputable section

open Idealize.ShloMosaic Idealize.ShloMosaic.TcCoe Idealize.SL.Sem
open Idealize.ShloMosaic.Pipeline (Dat)

namespace Cert.FfnFwdIdeal.Mixer

open Cert.FfnFwdIdeal Cert.FfnFwdIdeal.Gen Cert.Fwd

section Payloads

variable (x : Fin 256 → Fin 1024 → EReal) (g : Fin 1024 → EReal) (w : Fin 1024 → Fin 4096 → EReal) (u : Fin 4096 → Fin 1024 → EReal)
variable {X : FVec Ideal S256x1024 .f32} {G : FVec Ideal S1x1024 .f32} {W : FVec Ideal S1024x4096 .bf16} {U : FVec Ideal S4096x1024 .bf16}
variable (hX : ∀ a b, X (ix2 a b) = x a b) (hG : ∀ k, G (ix2 0 k) = g k) (hW : ∀ a b, W (ix2 a b) = w a b) (hU : ∀ a b, U (ix2 a b) = u a b)

include hX hG hW hU in
theorem pay4 (r : Fin 256) (k : Fin 1024) : k0_pay6 (F := Ideal) X G W U (ix2 r k) = mixed (x r) g w u k := by
  pointwise [k0_pay1, k0_pay2, k0_pay3, k0_pay4, k0_pay5, k0_pay6]
  simp only [hX, hG, hW, hU]
  rfl
include hX hG in
theorem pay5 (r : Fin 256) (k : Fin 1024) : k0_pay2 (F := Ideal) X G (ix2 r k) = nrm (x r) g k := by
  pointwise [k0_pay1, k0_pay2, k0_pay3, k0_pay4, k0_pay5, k0_pay6]
  simp only [hX, hG]
  rfl
include hX hG hW in
theorem pay6 (r : Fin 256) (k : Fin 4096) : k0_pay3 (F := Ideal) X G W (ix2 r k) = hidden (x r) g w k := by
  pointwise [k0_pay1, k0_pay2, k0_pay3, k0_pay4, k0_pay5, k0_pay6]
  simp only [hX, hG, hW]
  rfl
include hX hG hW in
theorem pay7 (r : Fin 256) (k : Fin 4096) : k0_pay5 (F := Ideal) X G W (ix2 r k) = squared (x r) g w k := by
  pointwise [k0_pay1, k0_pay2, k0_pay3, k0_pay4, k0_pay5, k0_pay6]
  simp only [hX, hG, hW]
  rfl

end Payloads

variable (m : (ℓ : Loc nD τ sig) → Buf (Elt Ideal) ℓ) (c : Dev nD)

abbrev bx (t : Fin cfg0.N) : Vec Ideal S256x1024 .f32 := iblk m c 0 t
abbrev bg (t : Fin cfg0.N) : Vec Ideal S1x1024 .f32 := iblk m c 1 t
abbrev bw (t : Fin cfg0.N) : Vec Ideal S1024x4096 .bf16 := iblk m c 2 t
abbrev bu (t : Fin cfg0.N) : Vec Ideal S4096x1024 .bf16 := iblk m c 3 t

theorem outs (t : Fin cfg0.N) : (dats m 0 c).after 4 t = k0_pay6 (bx m c t) (bg m c t) (bw m c t) (bu m c t)
    ∧ (dats m 0 c).after 5 t = k0_pay2 (bx m c t) (bg m c t)
    ∧ (dats m 0 c).after 6 t = k0_pay3 (bx m c t) (bg m c t) (bw m c t)
    ∧ (dats m 0 c).after 7 t = k0_pay5 (bx m c t) (bg m c t) (bw m c t) := by
  rw [after0_4, after0_5, after0_6, after0_7]; refine ⟨?_, ?_, ?_, ?_⟩
  · unfold out0_4; frame_out <;> rfl
  · unfold out0_5; frame_out <;> rfl
  · unfold out0_6; frame_out <;> rfl
  · unfold out0_7; frame_out <;> rfl

variable (x : Fin 8192 → Fin 1024 → EReal) (g : Fin 1024 → EReal) (w : Fin 1024 → Fin 4096 → EReal) (u : Fin 4096 → Fin 1024 → EReal)
variable (hX : ∀ a b, m ((c.tc : Thread nD τ).loc main_arg0) (ix2 a b) = x a b)
  (hG : ∀ k, m ((c.tc : Thread nD τ).loc main_arg1) (ix1 k) = g k)
  (hW : ∀ a b, m ((c.tc : Thread nD τ).loc main_arg2) (ix2 a b) = w a b)
  (hU : ∀ a b, m ((c.tc : Thread nD τ).loc main_arg3) (ix2 a b) = u a b)

theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] :=
  (by decide +kernel : ∀ t : Fin grid0.N, _)
theorem lt32 (t : Fin cfg0.N) : t.val < 32 := lt_of_lt_of_eq t.isLt N_0

/-- The rows a grid point works on. -/
def tile {b : ℕ} (v : Fin 8192 → Fin b → EReal) (s : Fin cfg0.N) (r : Fin 256) : Fin b → EReal := v ⟨256 * s.val + r, by have := lt32 s; omega⟩

include hX in
theorem bx_at (s : Fin cfg0.N) (r : Fin 256) (k : Fin 1024) : bx m c s (ix2 r k) = tile x s r k := by
  refine Eq.trans ?_ (hX ⟨256 * s.val + r, by have := lt32 s; omega⟩ k)
  unfold bx; blk_simp [iblk, idx s]; entry_read; blk_ext [idx s]
include hG in
theorem bg_at (s : Fin cfg0.N) (k : Fin 1024) : bg m c s (ix2 0 k) = g k := by
  refine Eq.trans ?_ (hG k)
  unfold bg; blk_simp [iblk, idx s]; entry_read; pointwise; blk_ext [idx s]
include hW in
theorem bw_at (s : Fin cfg0.N) (k : Fin 1024) (j : Fin 4096) : bw m c s (ix2 k j) = w k j := by
  refine Eq.trans ?_ (hW k j)
  unfold bw; blk_simp [iblk, idx s]; entry_read; pointwise; blk_ext [idx s]
include hU in
theorem bu_at (s : Fin cfg0.N) (k : Fin 4096) (j : Fin 1024) : bu m c s (ix2 k j) = u k j := by
  refine Eq.trans ?_ (hU k j)
  unfold bu; blk_simp [iblk, idx s]; entry_read; pointwise; blk_ext [idx s]

include hX hG hW hU in
theorem final4 : (dats m 0 c).arrAt 4 (cfgs 0).N = fun i : S8192x1024.Idx => mixed (x (i 0)) g w u (i 1) := by
  refine (dats m 0 c).arrAt_eq_of_covers 4 _ (by decide +kernel) fun s _ y => ?_
  blk_simp
  rw [(outs m c s).1]
  idx_vars y
  refine (pay4 (tile x s) g w u (bx_at m c x hX s) (bg_at m c g hG s) (bw_at m c w hW s) (bu_at m c u hU s) y0 y1).trans ?_
  have e : ((View.whole main_v3_0).slice (win0_4.rect s)).emb (ix2 y0 y1) = ix2 (⟨256 * s.val + y0, by have := lt32 s; omega⟩ : Fin 8192) y1 := by
    blk_ext [idx s]
  rw [e]; rfl

include hX hG in
theorem final5 : (dats m 0 c).arrAt 5 (cfgs 0).N = fun i : S8192x1024.Idx => nrm (x (i 0)) g (i 1) := by
  refine (dats m 0 c).arrAt_eq_of_covers 5 _ (by decide +kernel) fun s _ y => ?_
  blk_simp
  rw [(outs m c s).2.1]
  idx_vars y
  refine (pay5 (tile x s) g (bx_at m c x hX s) (bg_at m c g hG s) y0 y1).trans ?_
  have e : ((View.whole main_v3_1).slice (win0_5.rect s)).emb (ix2 y0 y1) = ix2 (⟨256 * s.val + y0, by have := lt32 s; omega⟩ : Fin 8192) y1 := by
    blk_ext [idx s]
  rw [e]; rfl

include hX hG hW in
theorem final6 : (dats m 0 c).arrAt 6 (cfgs 0).N = fun i : S8192x4096.Idx => hidden (x (i 0)) g w (i 1) := by
  refine (dats m 0 c).arrAt_eq_of_covers 6 _ (by decide +kernel) fun s _ y => ?_
  blk_simp
  rw [(outs m c s).2.2.1]
  idx_vars y
  refine (pay6 (tile x s) g w (bx_at m c x hX s) (bg_at m c g hG s) (bw_at m c w hW s) y0 y1).trans ?_
  have e : ((View.whole main_v3_2).slice (win0_6.rect s)).emb (ix2 y0 y1) = ix2 (⟨256 * s.val + y0, by have := lt32 s; omega⟩ : Fin 8192) y1 := by
    blk_ext [idx s]
  rw [e]; rfl

include hX hG hW in
theorem final7 : (dats m 0 c).arrAt 7 (cfgs 0).N = fun i : S8192x4096.Idx => squared (x (i 0)) g w (i 1) := by
  refine (dats m 0 c).arrAt_eq_of_covers 7 _ (by decide +kernel) fun s _ y => ?_
  blk_simp
  rw [(outs m c s).2.2.2]
  idx_vars y
  refine (pay7 (tile x s) g w (bx_at m c x hX s) (bg_at m c g hG s) (bw_at m c w hW s) y0 y1).trans ?_
  have e : ((View.whole main_v3_3).slice (win0_7.rect s)).emb (ix2 y0 y1) = ix2 (⟨256 * s.val + y0, by have := lt32 s; omega⟩ : Fin 8192) y1 := by
    blk_ext [idx s]
  rw [e]; rfl

end Cert.FfnFwdIdeal.Mixer

end
-- ==== Proof.MixerRef.lean ====
/- The reference's own run of the channel mixer, over the extended reals. -/
module

public import proofs.«01_k».proof.Proof.Gen.FfnFwdRefIdeal.Run
public import proofs.«01_k».proof.Proof.Fwd

@[expose] public section

set_option maxRecDepth 16384

noncomputable section

open Idealize.ShloMosaic Idealize.ShloMosaic.TcCoe Idealize.SL.Sem

namespace Cert.FfnFwdRefIdeal.Mixer

open Cert.FfnFwdRefIdeal Cert.FfnFwdRefIdeal.Gen Cert.FfnFwdRefIdeal.Value Cert.Lift Cert.Fwd

theorem run_rows (m : (ℓ : Loc nD τ sig) → Buf (Elt Ideal) ℓ) (x : Dev nD → Fin 8192 → Fin 1024 → EReal) (g : Dev nD → Fin 1024 → EReal) (w : Dev nD → Fin 1024 → Fin 4096 → EReal) (u : Dev nD → Fin 4096 → Fin 1024 → EReal)
    (hX : ∀ (c : Dev nD) a b, m ((c.tc : Thread nD τ).loc main_arg0) (ix2 a b) = x c a b)
    (hG : ∀ (c : Dev nD) k, m ((c.tc : Thread nD τ).loc main_arg1) (ix1 k) = g c k)
    (hW : ∀ (c : Dev nD) a b, m ((c.tc : Thread nD τ).loc main_arg2) (ix2 a b) = w c a b)
    (hU : ∀ (c : Dev nD) a b, m ((c.tc : Thread nD τ).loc main_arg3) (ix2 a b) = u c a b)
    (ρ : Dev nD → PrngReg) : θ_run defs (onTc (τ := τ) (main (F := Ideal))) ⟨m, fun _ => 0, ρ⟩ (fun r => ∀ c : Dev nD,
    r.2.mem ((c.tc : Thread nD τ).loc main_v17) = (fun i : S8192x1024.Idx => mixed (x c (i 0)) (g c) (w c) (u c) (i 1))
    ∧ r.2.mem ((c.tc : Thread nD τ).loc main_v18) = (fun i : S8192x1024.Idx => nrm (x c (i 0)) (g c) (i 1))
    ∧ r.2.mem ((c.tc : Thread nD τ).loc main_v13) = (fun i : S8192x4096.Idx => hidden (x c (i 0)) (g c) (w c) (i 1))
    ∧ r.2.mem ((c.tc : Thread nD τ).loc main_v19) = (fun i : S8192x4096.Idx => squared (x c (i 0)) (g c) (w c) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono (fun _ h c => ⟨(h c).1.trans ?_, (h c).2.1.trans ?_, (h c).2.2.1.trans ?_, (h c).2.2.2.1.trans ?_, (h c).2.2.2.2⟩) (run m ρ)
  all_goals funext i; idx_vars i; clear h; pointwise []
  · simp only [hX, hG, hW, hU, c_zero, EReal.coe_zero, zero_add]
    rfl
  · simp only [hX, hG, c_zero, EReal.coe_zero, zero_add]
    rfl
  · simp only [hX, hG, hW, c_zero, EReal.coe_zero, zero_add]
    rfl
  · simp only [hX, hG, hW, c_zero, EReal.coe_zero, zero_add]
    rfl

end Cert.FfnFwdRefIdeal.Mixer

end
-- ==== Proof.MixerClaim.lean ====
/- The channel mixer against its forward lines: both programs leave the same arrays. -/
module

public import proofs.«01_k».proof.Defs
public import proofs.«01_k».proof.Proof.Gen.FfnFwdIdeal.Value
public import proofs.«01_k».proof.Proof.MixerKern
public import proofs.«01_k».proof.Proof.MixerRef
public import Idealize.ShloMosaic.Lib.Claim

@[expose] public section

set_option maxRecDepth 16384

noncomputable section

open Idealize.ShloMosaic Idealize.ShloMosaic.TcCoe Idealize.SL.Sem

namespace Cert.Mixer

open Cert.Fwd

/-- The reference runs to the end, leaves its arguments alone and every semaphore at zero. -/
theorem frame : Cert.quiescent_FfnFwdRefIdeal := fun m ρ _ =>
  (θ_run _ _ _).mono (fun r h => ⟨fun c => (h c).2.2.2.2, sem_eq_zero_of_no_sems (by decide) r.2⟩) (Cert.FfnFwdRefIdeal.Value.run m ρ)

theorem algebraic : Cert.algebraic_FfnFwdIdeal_FfnFwdRefIdeal := by
  intro m ρ m' ρ' _ hagree
  obtain ⟨x, hX⟩ := rows fun (c : Dev FfnFwdIdeal.nD) (a : Fin 8192) (b : Fin 1024) => (m ((c.tc : Thread FfnFwdIdeal.nD FfnFwdIdeal.τ).loc FfnFwdIdeal.main_arg0) (ix2 a b) : EReal)
  obtain ⟨g, hG⟩ := row fun (c : Dev FfnFwdIdeal.nD) (a : Fin 1024) => (m ((c.tc : Thread FfnFwdIdeal.nD FfnFwdIdeal.τ).loc FfnFwdIdeal.main_arg1) (ix1 a) : EReal)
  obtain ⟨w, hW⟩ := rows fun (c : Dev FfnFwdIdeal.nD) (a : Fin 1024) (b : Fin 4096) => (m ((c.tc : Thread FfnFwdIdeal.nD FfnFwdIdeal.τ).loc FfnFwdIdeal.main_arg2) (ix2 a b) : EReal)
  obtain ⟨u, hU⟩ := rows fun (c : Dev FfnFwdIdeal.nD) (a : Fin 4096) (b : Fin 1024) => (m ((c.tc : Thread FfnFwdIdeal.nD FfnFwdIdeal.τ).loc FfnFwdIdeal.main_arg3) (ix2 a b) : EReal)
  refine ⟨fun c => fun i : FfnFwdIdeal.S8192x1024.Idx => mixed (x c (i 0)) (g c) (w c) (u c) (i 1),
    fun c => fun i : FfnFwdIdeal.S8192x1024.Idx => nrm (x c (i 0)) (g c) (i 1),
    fun c => fun i : FfnFwdIdeal.S8192x4096.Idx => hidden (x c (i 0)) (g c) (w c) (i 1),
    fun c => fun i : FfnFwdIdeal.S8192x4096.Idx => squared (x c (i 0)) (g c) (w c) (i 1), ?_, ?_⟩
  · run_from Cert.FfnFwdIdeal.Value.run_blocks m ρ
    · exact FfnFwdIdeal.Mixer.final4 m c (x c) (g c) (w c) (u c) (hX c) (hG c) (hW c) (hU c)
    · exact FfnFwdIdeal.Mixer.final5 m c (x c) (g c) (hX c) (hG c)
    · exact FfnFwdIdeal.Mixer.final6 m c (x c) (g c) (w c) (hX c) (hG c) (hW c)
    · exact FfnFwdIdeal.Mixer.final7 m c (x c) (g c) (w c) (hX c) (hG c) (hW c)
  · refine (θ_run _ _ _).mono (fun _ h => h) (FfnFwdRefIdeal.Mixer.run_rows m' x g w u (fun c a b => ?_) (fun c k => ?_) (fun c a b => ?_) (fun c a b => ?_) ρ')
    · rw [(hagree c).1]; exact hX c a b
    · rw [(hagree c).2.1]; exact hG c k
    · rw [(hagree c).2.2.1]; exact hW c a b
    · rw [(hagree c).2.2.2]; exact hU c a b

end Cert.Mixer

end
-- ==== Proof.GatedKern.lean ====
/- The gated embedding: what each grid point leaves, and the result arrays after the run, over the extended reals. -/
module

public import proofs.«01_k».proof.Proof.Gen.PleFwdIdeal.Frame
public import Idealize.ShloMosaic.Lib.Pipeline.ValueKit
public import proofs.«01_k».proof.Proof.Fwd

@[expose] public section

set_option maxRecDepth 16384

noncomputable section

open Idealize.ShloMosaic Idealize.ShloMosaic.TcCoe Idealize.SL.Sem
open Idealize.ShloMosaic.Pipeline (Dat)

namespace Cert.PleFwdIdeal.Gated

open Cert.PleFwdIdeal Cert.PleFwdIdeal.Gen Cert.Fwd

section Payloads

variable (x : Fin 256 → Fin 1024 → EReal) (g : Fin 1024 → EReal) (w : Fin 1024 → Fin 1024 → EReal) (p : Fin 256 → Fin 256 → EReal) (u : Fin 256 → Fin 1024 → EReal)
variable {X : FVec Ideal S256x1024 .f32} {G : FVec Ideal S1x1024 .f32} {W : FVec Ideal S1024x1024 .bf16} {P : FVec Ideal S256x256 .f32} {U : FVec Ideal S256x1024 .bf16}
variable (hX : ∀ a b, X (ix2 a b) = x a b) (hG : ∀ k, G (ix2 0 k) = g k) (hW : ∀ a b, W (ix2 a b) = w a b) (hP : ∀ a b, P (ix2 a b) = p a b) (hU : ∀ a b, U (ix2 a b) = u a b)

include hX hG hW hP hU in
theorem pay5 (r : Fin 256) (k : Fin 1024) : k0_pay4 (F := Ideal) X G W P U (ix2 r k) = gated (x r) g w (p r) u k := by
  pointwise [k0_pay1, k0_pay2, k0_pay3, k0_pay4]
  simp only [hX, hG, hW, hP, hU]
  rfl
include hX hG in
theorem pay6 (r : Fin 256) (k : Fin 1024) : k0_pay2 (F := Ideal) X G (ix2 r k) = nrm (x r) g k := by
  pointwise [k0_pay1, k0_pay2, k0_pay3, k0_pay4]
  simp only [hX, hG]
  rfl
include hX hG hW in
theorem pay7 (r : Fin 256) (k : Fin 1024) : k0_pay3 (F := Ideal) X G W (ix2 r k) = gates (x r) g w k := by
  pointwise [k0_pay1, k0_pay2, k0_pay3, k0_pay4]
  simp only [hX, hG, hW]
  rfl

end Payloads

variable (m : (ℓ : Loc nD τ sig) → Buf (Elt Ideal) ℓ) (c : Dev nD)

abbrev bx (t : Fin cfg0.N) : Vec Ideal S256x1024 .f32 := iblk m c 0 t
abbrev bg (t : Fin cfg0.N) : Vec Ideal S1x1024 .f32 := iblk m c 1 t
abbrev bw (t : Fin cfg0.N) : Vec Ideal S1024x1024 .bf16 := iblk m c 2 t
abbrev bp (t : Fin cfg0.N) : Vec Ideal S256x256 .f32 := iblk m c 3 t
abbrev bu (t : Fin cfg0.N) : Vec Ideal S256x1024 .bf16 := iblk m c 4 t

theorem outs (t : Fin cfg0.N) : (dats m 0 c).after 5 t = k0_pay4 (bx m c t) (bg m c t) (bw m c t) (bp m c t) (bu m c t)
    ∧ (dats m 0 c).after 6 t = k0_pay2 (bx m c t) (bg m c t)
    ∧ (dats m 0 c).after 7 t = k0_pay3 (bx m c t) (bg m c t) (bw m c t) := by
  rw [after0_5, after0_6, after0_7]; refine ⟨?_, ?_, ?_⟩
  · unfold out0_5; frame_out <;> rfl
  · unfold out0_6; frame_out <;> rfl
  · unfold out0_7; frame_out <;> rfl

variable (x : Fin 8192 → Fin 1024 → EReal) (g : Fin 1024 → EReal) (w : Fin 1024 → Fin 1024 → EReal) (p : Fin 8192 → Fin 256 → EReal) (u : Fin 256 → Fin 1024 → EReal)
variable (hX : ∀ a b, m ((c.tc : Thread nD τ).loc main_arg0) (ix2 a b) = x a b)
  (hG : ∀ k, m ((c.tc : Thread nD τ).loc main_arg1) (ix1 k) = g k)
  (hW : ∀ a b, m ((c.tc : Thread nD τ).loc main_arg2) (ix2 a b) = w a b)
  (hP : ∀ a b, m ((c.tc : Thread nD τ).loc main_arg3) (ix2 a b) = p a b)
  (hU : ∀ a b, m ((c.tc : Thread nD τ).loc main_arg4) (ix2 a b) = u a b)

theorem idx : ∀ t : Fin cfg0.N, win0_0.index t = ![t.val, 0] ∧ win0_1.index t = ![0, 0] ∧ win0_2.index t = ![0, 0] ∧ win0_3.index t = ![t.val, 0] ∧ win0_4.index t = ![0, 0] ∧ win0_5.index t = ![t.val, 0] ∧ win0_6.index t = ![t.val, 0] ∧ win0_7.index t = ![t.val, 0] :=
  (by decide +kernel : ∀ t : Fin grid0.N, _)
theorem lt32 (t : Fin cfg0.N) : t.val < 32 := lt_of_lt_of_eq t.isLt N_0

/-- The rows a grid point works on. -/
def tile {b : ℕ} (v : Fin 8192 → Fin b → EReal) (s : Fin cfg0.N) (r : Fin 256) : Fin b → EReal := v ⟨256 * s.val + r, by have := lt32 s; omega⟩

include hX in
theorem bx_at (s : Fin cfg0.N) (r : Fin 256) (k : Fin 1024) : bx m c s (ix2 r k) = tile x s r k := by
  refine Eq.trans ?_ (hX ⟨256 * s.val + r, by have := lt32 s; omega⟩ k)
  unfold bx; blk_simp [iblk, idx s]; entry_read; blk_ext [idx s]
include hG in
theorem bg_at (s : Fin cfg0.N) (k : Fin 1024) : bg m c s (ix2 0 k) = g k := by
  refine Eq.trans ?_ (hG k)
  unfold bg; blk_simp [iblk, idx s]; entry_read; pointwise; blk_ext [idx s]
include hW in
theorem bw_at (s : Fin cfg0.N) (k : Fin 1024) (j : Fin 1024) : bw m c s (ix2 k j) = w k j := by
  refine Eq.trans ?_ (hW k j)
  unfold bw; blk_simp [iblk, idx s]; entry_read; pointwise; blk_ext [idx s]
include hP in
theorem bp_at (s : Fin cfg0.N) (r : Fin 256) (k : Fin 256) : bp m c s (ix2 r k) = tile p s r k := by
  refine Eq.trans ?_ (hP ⟨256 * s.val + r, by have := lt32 s; omega⟩ k)
  unfold bp; blk_simp [iblk, idx s]; entry_read; blk_ext [idx s]
include hU in
theorem bu_at (s : Fin cfg0.N) (k : Fin 256) (j : Fin 1024) : bu m c s (ix2 k j) = u k j := by
  refine Eq.trans ?_ (hU k j)
  unfold bu; blk_simp [iblk, idx s]; entry_read; pointwise; blk_ext [idx s]

include hX hG hW hP hU in
theorem final5 : (dats m 0 c).arrAt 5 (cfgs 0).N = fun i : S8192x1024.Idx => gated (x (i 0)) g w (p (i 0)) u (i 1) := by
  refine (dats m 0 c).arrAt_eq_of_covers 5 _ (by decide +kernel) fun s _ y => ?_
  blk_simp
  rw [(outs m c s).1]
  idx_vars y
  refine (pay5 (tile x s) g w (tile p s) u (bx_at m c x hX s) (bg_at m c g hG s) (bw_at m c w hW s) (bp_at m c p hP s) (bu_at m c u hU s) y0 y1).trans ?_
  have e : ((View.whole main_v3_0).slice (win0_5.rect s)).emb (ix2 y0 y1) = ix2 (⟨256 * s.val + y0, by have := lt32 s; omega⟩ : Fin 8192) y1 := by
    blk_ext [idx s]
  rw [e]; rfl

include hX hG in
theorem final6 : (dats m 0 c).arrAt 6 (cfgs 0).N = fun i : S8192x1024.Idx => nrm (x (i 0)) g (i 1) := by
  refine (dats m 0 c).arrAt_eq_of_covers 6 _ (by decide +kernel) fun s _ y => ?_
  blk_simp
  rw [(outs m c s).2.1]
  idx_vars y
  refine (pay6 (tile x s) g (bx_at m c x hX s) (bg_at m c g hG s) y0 y1).trans ?_
  have e : ((View.whole main_v3_1).slice (win0_6.rect s)).emb (ix2 y0 y1) = ix2 (⟨256 * s.val + y0, by have := lt32 s; omega⟩ : Fin 8192) y1 := by
    blk_ext [idx s]
  rw [e]; rfl

include hX hG hW in
theorem final7 : (dats m 0 c).arrAt 7 (cfgs 0).N = fun i : S8192x1024.Idx => gates (x (i 0)) g w (i 1) := by
  refine (dats m 0 c).arrAt_eq_of_covers 7 _ (by decide +kernel) fun s _ y => ?_
  blk_simp
  rw [(outs m c s).2.2]
  idx_vars y
  refine (pay7 (tile x s) g w (bx_at m c x hX s) (bg_at m c g hG s) (bw_at m c w hW s) y0 y1).trans ?_
  have e : ((View.whole main_v3_2).slice (win0_7.rect s)).emb (ix2 y0 y1) = ix2 (⟨256 * s.val + y0, by have := lt32 s; omega⟩ : Fin 8192) y1 := by
    blk_ext [idx s]
  rw [e]; rfl

end Cert.PleFwdIdeal.Gated

end
-- ==== Proof.GatedRef.lean ====
/- The reference's own run of the gated embedding, over the extended reals. -/
module

public import proofs.«01_k».proof.Proof.Gen.PleFwdRefIdeal.Run
public import proofs.«01_k».proof.Proof.Fwd

@[expose] public section

set_option maxRecDepth 16384

noncomputable section

open Idealize.ShloMosaic Idealize.ShloMosaic.TcCoe Idealize.SL.Sem

namespace Cert.PleFwdRefIdeal.Gated

open Cert.PleFwdRefIdeal Cert.PleFwdRefIdeal.Gen Cert.PleFwdRefIdeal.Value Cert.Lift Cert.Fwd

theorem run_rows (m : (ℓ : Loc nD τ sig) → Buf (Elt Ideal) ℓ) (x : Dev nD → Fin 8192 → Fin 1024 → EReal) (g : Dev nD → Fin 1024 → EReal) (w : Dev nD → Fin 1024 → Fin 1024 → EReal) (p : Dev nD → Fin 8192 → Fin 256 → EReal) (u : Dev nD → Fin 256 → Fin 1024 → EReal)
    (hX : ∀ (c : Dev nD) a b, m ((c.tc : Thread nD τ).loc main_arg0) (ix2 a b) = x c a b)
    (hG : ∀ (c : Dev nD) k, m ((c.tc : Thread nD τ).loc main_arg1) (ix1 k) = g c k)
    (hW : ∀ (c : Dev nD) a b, m ((c.tc : Thread nD τ).loc main_arg2) (ix2 a b) = w c a b)
    (hP : ∀ (c : Dev nD) a b, m ((c.tc : Thread nD τ).loc main_arg3) (ix2 a b) = p c a b)
    (hU : ∀ (c : Dev nD) a b, m ((c.tc : Thread nD τ).loc main_arg4) (ix2 a b) = u c a b)
    (ρ : Dev nD → PrngReg) : θ_run defs (onTc (τ := τ) (main (F := Ideal))) ⟨m, fun _ => 0, ρ⟩ (fun r => ∀ c : Dev nD,
    r.2.mem ((c.tc : Thread nD τ).loc main_v22) = (fun i : S8192x1024.Idx => gated (x c (i 0)) (g c) (w c) (p c (i 0)) (u c) (i 1))
    ∧ r.2.mem ((c.tc : Thread nD τ).loc main_v23) = (fun i : S8192x1024.Idx => nrm (x c (i 0)) (g c) (i 1))
    ∧ r.2.mem ((c.tc : Thread nD τ).loc main_v19) = (fun i : S8192x1024.Idx => gates (x c (i 0)) (g c) (w c) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun _ h c => ⟨(h c).1.trans ?_, (h c).2.1.trans ?_, (h c).2.2.1.trans ?_, (h c).2.2.2⟩) (run m ρ)
  all_goals funext i; idx_vars i; clear h; pointwise []
  · simp only [hX, hG, hW, hP, hU, c_zero, EReal.coe_zero, zero_add]
    rfl
  · simp only [hX, hG, c_zero, EReal.coe_zero, zero_add]
    rfl
  · simp only [hX, hG, hW, c_zero, EReal.coe_zero, zero_add]
    rfl

end Cert.PleFwdRefIdeal.Gated

end
-- ==== Proof.GatedClaim.lean ====
/- The gated embedding against its forward lines: both programs leave the same arrays. -/
module

public import proofs.«01_k».proof.Defs
public import proofs.«01_k».proof.Proof.Gen.PleFwdIdeal.Value
public import proofs.«01_k».proof.Proof.GatedKern
public import proofs.«01_k».proof.Proof.GatedRef
public import Idealize.ShloMosaic.Lib.Claim

@[expose] public section

set_option maxRecDepth 16384

noncomputable section

open Idealize.ShloMosaic Idealize.ShloMosaic.TcCoe Idealize.SL.Sem

namespace Cert.Gated

open Cert.Fwd

/-- The reference runs to the end, leaves its arguments alone and every semaphore at zero. -/
theorem frame : Cert.quiescent_PleFwdRefIdeal := fun m ρ _ =>
  (θ_run _ _ _).mono (fun r h => ⟨fun c => (h c).2.2.2, sem_eq_zero_of_no_sems (by decide) r.2⟩) (Cert.PleFwdRefIdeal.Value.run m ρ)

theorem algebraic : Cert.algebraic_PleFwdIdeal_PleFwdRefIdeal := by
  intro m ρ m' ρ' _ hagree
  obtain ⟨x, hX⟩ := rows fun (c : Dev PleFwdIdeal.nD) (a : Fin 8192) (b : Fin 1024) => (m ((c.tc : Thread PleFwdIdeal.nD PleFwdIdeal.τ).loc PleFwdIdeal.main_arg0) (ix2 a b) : EReal)
  obtain ⟨g, hG⟩ := row fun (c : Dev PleFwdIdeal.nD) (a : Fin 1024) => (m ((c.tc : Thread PleFwdIdeal.nD PleFwdIdeal.τ).loc PleFwdIdeal.main_arg1) (ix1 a) : EReal)
  obtain ⟨w, hW⟩ := rows fun (c : Dev PleFwdIdeal.nD) (a : Fin 1024) (b : Fin 1024) => (m ((c.tc : Thread PleFwdIdeal.nD PleFwdIdeal.τ).loc PleFwdIdeal.main_arg2) (ix2 a b) : EReal)
  obtain ⟨p, hP⟩ := rows fun (c : Dev PleFwdIdeal.nD) (a : Fin 8192) (b : Fin 256) => (m ((c.tc : Thread PleFwdIdeal.nD PleFwdIdeal.τ).loc PleFwdIdeal.main_arg3) (ix2 a b) : EReal)
  obtain ⟨u, hU⟩ := rows fun (c : Dev PleFwdIdeal.nD) (a : Fin 256) (b : Fin 1024) => (m ((c.tc : Thread PleFwdIdeal.nD PleFwdIdeal.τ).loc PleFwdIdeal.main_arg4) (ix2 a b) : EReal)
  refine ⟨fun c => fun i : PleFwdIdeal.S8192x1024.Idx => gated (x c (i 0)) (g c) (w c) (p c (i 0)) (u c) (i 1),
    fun c => fun i : PleFwdIdeal.S8192x1024.Idx => nrm (x c (i 0)) (g c) (i 1),
    fun c => fun i : PleFwdIdeal.S8192x1024.Idx => gates (x c (i 0)) (g c) (w c) (i 1), ?_, ?_⟩
  · run_from Cert.PleFwdIdeal.Value.run_blocks m ρ
    · exact PleFwdIdeal.Gated.final5 m c (x c) (g c) (w c) (p c) (u c) (hX c) (hG c) (hW c) (hP c) (hU c)
    · exact PleFwdIdeal.Gated.final6 m c (x c) (g c) (hX c) (hG c)
    · exact PleFwdIdeal.Gated.final7 m c (x c) (g c) (w c) (hX c) (hG c) (hW c)
  · refine (θ_run _ _ _).mono (fun _ h => h) (PleFwdRefIdeal.Gated.run_rows m' x g w p u (fun c a b => ?_) (fun c k => ?_) (fun c a b => ?_) (fun c a b => ?_) (fun c a b => ?_) ρ')
    · rw [(hagree c).1]; exact hX c a b
    · rw [(hagree c).2.1]; exact hG c k
    · rw [(hagree c).2.2.1]; exact hW c a b
    · rw [(hagree c).2.2.2.1]; exact hP c a b
    · rw [(hagree c).2.2.2.2]; exact hU c a b

end Cert.Gated

end
-- ==== Proof.CacheSum.lean ====
/- Running sums of the log forget gates: a column summed up to a row, on the host and in tiles of 256 rows. -/
module

public import proofs.«01_k».proof.Proof.Fwd
public import Idealize.ShloMosaic.Lib.Routing.OpsOne

@[expose] public section

set_option maxRecDepth 16384

noncomputable section

open Idealize.ShloMosaic Idealize.ShloMosaic.Routing
open Finset (range)

namespace Cert.Cache

open Cert.Lift Cert.Fwd

/-- The columns of the stacked matrix that make the keys, the values and the forget gates. -/
def keyCols (w : Fin 1024 → Fin 2064 → EReal) (k l : Fin 1024) : EReal := w k ⟨l.val, by omega⟩
def valCols (w : Fin 1024 → Fin 2064 → EReal) (k l : Fin 1024) : EReal := w k ⟨1024 + l.val, by omega⟩
def gateCols (w : Fin 1024 → Fin 2064 → EReal) (k : Fin 1024) (j : Fin 16) : EReal := w k ⟨2048 + j.val, by omega⟩
/-- The forget gates' logits of a row. -/
def logit (x g : Fin 1024 → EReal) (w : Fin 1024 → Fin 2064 → EReal) (b : Fin 16 → EReal) (j : Fin 16) : EReal :=
  proj (nrm x g) (gateCols w) j + b j

/-- The log of the logistic function, as the kernel computes it. -/
def decay (y : ℝ) : ℝ := min y 0 - Real.log (1 + Real.exp (0 - max y (-y)))
/-- The log forget gates of a column summed over the first `n` rows. -/
def total (f : ℕ → ℝ) (n : ℕ) : ℝ := ∑ i ∈ range n, decay (f i)

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm
theorem log1p_exp (y : ℝ) : Ideal.log1p (Ideal.exp (y : EReal)) = ((Real.log (1 + Real.exp y) : ℝ) : EReal) := by
  have h : 0 < 1 + Real.exp y := by positivity
  rw [Ideal.exp_coe]
  unfold Ideal.log1p
  rw [← EReal.coe_one, ← EReal.coe_add, Ideal.log_coe, if_neg (not_le.mpr h)]

/-- The same through the reference's lines: minus the log of one plus the exponential of minus the logit. -/
theorem decay_neg (y : ℝ) : -(max (-y) 0 + Real.log (1 + Real.exp (-max (-y) (- -y)))) = decay y := by
  unfold decay
  rw [neg_neg, max_comm (-y) y, zero_sub]
  have h : min y 0 = -max (-y) 0 := by rw [← neg_zero (G := ℝ), max_neg_neg, neg_neg, neg_zero]
  rw [h]; ring

/-- Adding the terms of a list one after the other. -/
theorem fold_add {α : Type*} (g : α → EReal) (l : List α) (a : EReal) : l.foldl (fun r n => r + g n) a = a + (l.map g).sum := by
  induction l generalizing a with
  | nil => simp
  | cons b l ih => rw [List.foldl_cons, ih, List.map_cons, List.sum_cons, add_assoc]

/-- A window of the whole height that ends at row `j` takes in the rows up to `j`. -/
theorem shifted (X : ℕ → EReal) (Q j : ℕ) (hj : j ≤ Q) : ∑ n ∈ range (Q + 1), (if Q ≤ j + n then X (j + n - Q) else 0) = ∑ i ∈ range (j + 1), X i := by
  rw [← Finset.sum_filter]
  refine Finset.sum_nbij' (fun n => j + n - Q) (fun i => i + Q - j) ?_ ?_ ?_ ?_ ?_
  all_goals intro a ha; simp only [Finset.mem_filter, Finset.mem_range] at ha ⊢
  all_goals omega

/-- The host's running sum down a column. -/
theorem running {R Q C : ℕ} (hR : Q + 1 = R) (x : (shape2 R C).Idx → EReal) (X : ℕ → ℕ → EReal) (hx : ∀ i k, x (ix2 i k) = X i.val k.val)
    (h : (shape2 R C).ReduceWindows (![R, 1] : Fin 2 → ℕ) ![1, 1] ![Q, 0] ![0, 0] (shape2 R C)) (j : Fin R) (k : Fin C) :
    Ideal.hostReduceWindowAdd ![R, 1] ![1, 1] ![Q, 0] ![0, 0] h x 0 (ix2 j k) = ∑ i ∈ range (j.val + 1), X i k.val := by
  subst hR
  unfold Ideal.hostReduceWindowAdd Host.reduceWindow
  dsimp only
  rw [fold_add, zero_add, ← Fin.sum_univ_def, ← shifted (fun i => X i k.val) Q j.val (by omega), ← Fin.sum_univ_eq_sum_range]
  refine Fintype.sum_equiv (finCongr (numel_col (Q + 1))) _ _ fun n => ?_
  have hn : n.val < Q + 1 := (finCongr (numel_col (Q + 1)) n).isLt
  have p0 : ((shape2 (Q + 1) 1).rowMajor.symm n 0).val = n.val := by rw [symm_col]; rfl
  have p1 : ((shape2 (Q + 1) 1).rowMajor.symm n 1).val = 0 := by rw [symm_col]; rfl
  show _ = if Q ≤ j.val + n.val then X (j.val + n.val - Q) k.val else 0
  by_cases hq : Q ≤ j.val + n.val
  · rw [if_pos hq]
    refine (dif_pos fun a => ?_).trans ?_
    · match a with
      | ⟨0, _⟩ => exact ⟨by show Q ≤ j.val * 1 + ((shape2 (Q + 1) 1).rowMajor.symm n 0).val; rw [p0]; omega, by show j.val * 1 + ((shape2 (Q + 1) 1).rowMajor.symm n 0).val - Q < Q + 1; rw [p0]; omega⟩
      | ⟨1, _⟩ => exact ⟨Nat.zero_le _, by show k.val * 1 + ((shape2 (Q + 1) 1).rowMajor.symm n 1).val - 0 < C; rw [p1]; omega⟩
    · refine (congrArg x (funext fun a => Fin.ext ?_)).trans (hx ⟨j.val + n.val - Q, by omega⟩ k)
      match a with
      | ⟨0, _⟩ => show j.val * 1 + ((shape2 (Q + 1) 1).rowMajor.symm n 0).val - Q = j.val + n.val - Q; rw [p0, mul_one]
      | ⟨1, _⟩ => show k.val * 1 + ((shape2 (Q + 1) 1).rowMajor.symm n 1).val - 0 = k.val; rw [p1]; omega
  · rw [if_neg hq]
    refine dif_neg fun hin => hq ?_
    have h0 : Q ≤ j.val * 1 + ((shape2 (Q + 1) 1).rowMajor.symm n 0).val := (hin 0).1
    rw [p0] at h0; omega

/-- The zero-one word of a comparison of two row numbers. -/
theorem below : ∀ p q : Fin 256, BitVec.setWidth 32 (IntOp.cmpi CmpIPredicate.sge (BitVec.ofNat 32 p.val) (BitVec.ofNat 32 q.val)) = if q.val ≤ p.val then 1#32 else 0#32 := by
  have v : ∀ a : Fin 256, (BitVec.ofNat 32 a.val).toInt = (a.val : ℤ) := by decide +kernel
  intro p q
  show BitVec.setWidth 32 (BitVec.ofBool ((BitVec.ofNat 32 q.val).sle (BitVec.ofNat 32 p.val))) = _
  rw [BitVec.sle, v, v]
  by_cases h : q.val ≤ p.val
  · rw [if_pos h, decide_eq_true (Int.ofNat_le.mpr h)]; rfl
  · rw [if_neg h, decide_eq_false fun g => h (Int.ofNat_le.mp g)]; rfl

/-- A row of the zero-one triangle picks the rows up to its own. -/
theorem triangle (l : ℕ → ℝ) (p : Fin 256) : ∑ q : Fin 256, (if q.val ≤ p.val then 1 else 0 : ℝ) * l q.val = ∑ i ∈ range (p.val + 1), l i := by
  rw [Fin.sum_univ_eq_sum_range (fun i => (if i ≤ p.val then 1 else 0 : ℝ) * l i) 256]
  simp only [ite_mul, one_mul, zero_mul]
  rw [← Finset.sum_filter]
  refine Finset.sum_congr (Finset.ext fun i => ?_) fun _ _ => rfl
  simp only [Finset.mem_filter, Finset.mem_range]; omega

/-- What a tile adds to the running sum. -/
theorem total_add (f : ℕ → ℝ) (a n : ℕ) : ∑ i ∈ range n, decay (f (a + i)) + total f a = total f (a + n) := by
  unfold total; rw [Finset.sum_range_add, add_comm]

/-- On finite arguments the logits are finite. -/
theorem logit_real (x g : Fin 1024 → ℝ) (w : Fin 1024 → Fin 2064 → ℝ) (b : Fin 16 → ℝ) (j : Fin 16) :
    ∃ r : ℝ, logit (fun k => ((x k : ℝ) : EReal)) (fun k => ((g k : ℝ) : EReal)) (fun k l => ((w k l : ℝ) : EReal)) (fun k => ((b k : ℝ) : EReal)) j = (r : EReal) := by
  refine ⟨∑ k, x k * rr x * g k * w k ⟨2048 + j.val, by omega⟩ + b j, ?_⟩
  unfold logit proj nrm gateCols
  simp only [c_1024, c_eps, ← EReal.coe_mul, sum, div_1024, ← EReal.coe_add, rsqrt_ms]

end Cert.Cache

end
-- ==== Proof.CacheKern.lean ====
/- The shared keys, values and forget gates: what each grid point leaves, and the result arrays after the run, over the extended reals. -/
module

public import proofs.«01_k».proof.Proof.Gen.KvFwdIdeal.Frame
public import Idealize.ShloMosaic.Lib.Pipeline.ValueKit
public import Idealize.ShloMosaic.Lib.Pipeline.ReadBack
public import proofs.«01_k».proof.Proof.CacheSum

@[expose] public section

set_option maxRecDepth 16384

noncomputable section

open Idealize.ShloMosaic Idealize.ShloMosaic.TcCoe Idealize.SL.Sem
open Idealize.ShloMosaic.Pipeline (Dat)
open Finset (range)

namespace Cert.KvFwdIdeal.Cache

open Cert.KvFwdIdeal Cert.KvFwdIdeal.Gen Cert.Fwd Cert.Cache Cert.Lift

section Payloads

variable (x : Fin 256 → Fin 1024 → EReal) (g : Fin 1024 → EReal) (w : Fin 1024 → Fin 1024 → EReal) (u : Fin 1024 → Fin 16 → EReal) (b : Fin 16 → EReal)
variable {X : FVec Ideal S256x1024 .f32} {G : FVec Ideal S1x1024 .f32} {W : FVec Ideal S1024x1024 .bf16} {U : FVec Ideal S1024x16 .bf16} {B : FVec Ideal S1x16 .f32}
variable (hX : ∀ p k, X (ix2 p k) = x p k) (hG : ∀ k, G (ix2 0 k) = g k) (hW : ∀ k l, W (ix2 k l) = w k l) (hU : ∀ k j, U (ix2 k j) = u k j) (hB : ∀ j, B (ix2 0 j) = b j)

include hX hG in
theorem n_pay (p : Fin 256) (k : Fin 1024) : k0_pay3 (F := Ideal) X G (ix2 p k) = nrm (x p) g k := by
  pointwise [k0_pay3]
  simp only [hX, hG]
  rfl
include hX hG in
theorem norm_pay (p : Fin 256) (k : Fin 1024) : k0_pay4 (F := Ideal) X G (ix2 p k) = nrm (x p) g k := by
  pointwise [k0_pay4]
  exact n_pay x g hX hG p k
include hX hG hW in
theorem prod_pay (p : Fin 256) (l : Fin 1024) : k0_pay5 (F := Ideal) X G W (ix2 p l) = proj (nrm (x p) g) w l := by
  pointwise [k0_pay5]
  simp only [n_pay x g hX hG, hW]
  rfl
include hX hG hW in
theorem k_pay (p : Fin 256) (l : Fin 1024) : k0_pay6 (F := Ideal) X G W (ix2 p l) = proj (nrm (x p) g) w l := by
  pointwise [k0_pay6]
  exact prod_pay x g w hX hG hW p l
include hX hG hW in
theorem kT_pay (p : Fin 256) (l : Fin 1024) : k0_pay7 (F := Ideal) X G W (ix2 l p) = proj (nrm (x p) g) w l := by
  pointwise [k0_pay7]
  exact prod_pay x g w hX hG hW p l
include hX hG hW in
theorem vT_pay (p : Fin 256) (l : Fin 1024) : k0_pay9 (F := Ideal) (k0_pay8 X G W) (ix2 l p) = proj (nrm (x p) g) w l := by
  pointwise [k0_pay9, k0_pay8]
  simp only [n_pay x g hX hG, hW]
  rfl
include hX hG hU hB in
theorem fl_pay (p : Fin 256) (j : Fin 16) : k0_pay10 (F := Ideal) (k0_pay3 X G) U B (ix2 p j) = proj (nrm (x p) g) u j + b j := by
  pointwise [k0_pay10]
  simp only [n_pay x g hX hG, hU, hB]
  rfl
/-- The tile's running sums, from the sum the tile before left. -/
theorem c_pay {N : FVec Ideal S256x1024 .f32} (f : Fin 16 → ℕ → ℝ) (s : Fin 16 → ℝ) {S : FVec Ideal S1x16 .f32}
    (hF : ∀ (p : Fin 256) (j : Fin 16), k0_pay10 (F := Ideal) N U B (ix2 p j) = ((f j p.val : ℝ) : EReal)) (hS : ∀ j, S (ix2 0 j) = ((s j : ℝ) : EReal)) (p : Fin 256) (j : Fin 16) :
    k0_pay11 (F := Ideal) N U B S (ix2 p j) = ((∑ i ∈ range (p.val + 1), decay (f j i) + s j : ℝ) : EReal) := by
  have tri : ∀ q : Fin 256, (FloatOps.sitofp .f32 (if q.val ≤ p.val then 1#32 else 0#32) : Ideal .f32) = ((if q.val ≤ p.val then 1 else 0 : ℝ) : EReal) := fun q => by
    split
    · exact (congrArg (fun z : ℤ => ((z : ℝ) : EReal)) (by decide : (1#32).toInt = 1)).trans (by norm_num)
    · exact (congrArg (fun z : ℤ => ((z : ℝ) : EReal)) (by decide : (0#32).toInt = 0)).trans (by norm_num)
  have dec : ∀ q : Fin 256, min ((f j q.val : ℝ) : EReal) 0 - Ideal.log1p (Ideal.exp (0 - (FloatOps.absf ((f j q.val : ℝ) : EReal) : Ideal .f32))) = ((decay (f j q.val) : ℝ) : EReal) := fun q => by
    show min ((f j q.val : ℝ) : EReal) ((0 : ℝ) : EReal) - Ideal.log1p (Ideal.exp (((0 : ℝ) : EReal) - max ((f j q.val : ℝ) : EReal) (-((f j q.val : ℝ) : EReal)))) = _
    rw [← EReal.coe_neg, coe_max, coe_min, ← EReal.coe_sub, log1p_exp, ← EReal.coe_sub]; rfl
  pointwise [k0_pay11]
  simp only [hF, hS, below, c_zero, dec, tri, ← EReal.coe_sub, ← EReal.coe_mul, sum, ← EReal.coe_add, sub_self, mul_zero, Finset.sum_const_zero, zero_add]
  rw [triangle fun i => decay (f j i)]
theorem zero_pay (j : Fin 16) : k0_pay2 (F := Ideal) (ix2 0 j) = ((0 : ℝ) : EReal) := by
  pointwise [k0_pay2, c_zero]
theorem last_pay (C : FVec Ideal S256x16 .f32) (j : Fin 16) : k0_pay1 (F := Ideal) C (ix2 0 j) = C (ix2 255 j) := by
  pointwise [k0_pay1]

end Payloads

variable (m : (ℓ : Loc nD τ sig) → Buf (Elt Ideal) ℓ) (c : Dev nD)

abbrev bx (t : Fin cfg0.N) : Vec Ideal S256x1024 .f32 := iblk m c 0 t
abbrev bg (t : Fin cfg0.N) : Vec Ideal S1x1024 .f32 := iblk m c 1 t
abbrev bk (t : Fin cfg0.N) : Vec Ideal S1024x1024 .bf16 := iblk m c 2 t
abbrev bv (t : Fin cfg0.N) : Vec Ideal S1024x1024 .bf16 := iblk m c 3 t
abbrev bu (t : Fin cfg0.N) : Vec Ideal S1024x16 .bf16 := iblk m c 4 t
abbrev bb (t : Fin cfg0.N) : Vec Ideal S1x16 .f32 := iblk m c 5 t

/-- The block of running sums that point `t` writes, from the sums `s` carried to it. -/
def sums (t : Fin cfg0.N) (s : Vec Ideal S1x16 .f32) : Vec Ideal S256x16 .f32 := k0_pay11 (k0_pay3 (bx m c t) (bg m c t)) (bu m c t) (bb m c t) s

/-- The five results that carry nothing from point to point. -/
def Still (t : Fin cfg0.N) : Prop :=
  (outsAt0 m c t.val t.isLt).1 = k0_pay6 (bx m c t) (bg m c t) (bk m c t)
    ∧ (outsAt0 m c t.val t.isLt).2.1 = k0_pay7 (bx m c t) (bg m c t) (bk m c t)
    ∧ (outsAt0 m c t.val t.isLt).2.2.1 = k0_pay9 (k0_pay8 (bx m c t) (bg m c t) (bv m c t))
    ∧ (outsAt0 m c t.val t.isLt).2.2.2.1 = k0_pay4 (bx m c t) (bg m c t)
    ∧ (outsAt0 m c t.val t.isLt).2.2.2.2.1 = k0_pay10 (k0_pay3 (bx m c t) (bg m c t)) (bu m c t) (bb m c t)

theorem still (t : Fin cfg0.N) : Still m c t := by
  unfold Still
  by_cases h0 : t.val % 32 = 0
  · rw [outsAt0_A m c t h0]; refine ⟨?_, ?_, ?_, ?_, ?_⟩ <;> (frame_out <;> rfl)
  · rw [outsAt0_B m c t h0]; refine ⟨?_, ?_, ?_, ?_, ?_⟩ <;> (frame_out <;> rfl)
theorem outs_A (t : Fin cfg0.N) (h0 : t.val % 32 = 0) : (outsAt0 m c t.val t.isLt).2.2.2.2.2.1 = sums m c t (k0_pay2 (F := Ideal))
    ∧ (outsAt0 m c t.val t.isLt).2.2.2.2.2.2 = k0_pay1 (F := Ideal) (sums m c t (k0_pay2 (F := Ideal))) := by
  rw [outsAt0_A m c t h0]; refine ⟨?_, ?_⟩
  · frame_out <;> rfl
  · frame_out <;> rfl
theorem outs_B (t : Fin cfg0.N) (h0 : ¬t.val % 32 = 0) : (outsAt0 m c t.val t.isLt).2.2.2.2.2.1 = sums m c t (outsAt0 m c (t.val - 1) (by omega)).2.2.2.2.2.2
    ∧ (outsAt0 m c t.val t.isLt).2.2.2.2.2.2 = k0_pay1 (F := Ideal) (sums m c t (outsAt0 m c (t.val - 1) (by omega)).2.2.2.2.2.2) := by
  rw [outsAt0_B m c t h0]; refine ⟨?_, ?_⟩
  · frame_out; simp only [read_unread_whole]; rfl
  · frame_out; simp only [read_unread_whole]; rfl

variable (x : Fin 8192 → Fin 1024 → EReal) (g : Fin 1024 → EReal) (w : Fin 1024 → Fin 2064 → EReal) (b : Fin 16 → EReal)
variable (hX : ∀ n k, m ((c.tc : Thread nD τ).loc main_arg0) (ix2 n k) = x n k) (hG : ∀ k, m ((c.tc : Thread nD τ).loc main_arg1) (ix1 k) = g k)
  (hW : ∀ k l, m ((c.tc : Thread nD τ).loc main_arg2) (ix2 k l) = w k l) (hB : ∀ j, m ((c.tc : Thread nD τ).loc main_arg3) (ix1 j) = b j)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0]
    ∧ win0_6.index t = ![t.val, 0] ∧ win0_7.index t = ![0, t.val] ∧ win0_8.index t = ![0, t.val] ∧ win0_9.index t = ![t.val, 0] ∧ win0_10.index t = ![t.val, 0] ∧ win0_11.index t = ![t.val, 0] :=
  (by decide +kernel : ∀ t : Fin grid0.N, _)
theorem lt32 (t : Fin cfg0.N) : t.val < 32 := lt_of_lt_of_eq t.isLt N_0

/-- The rows a grid point works on. -/
def tile (v : Fin 8192 → Fin 1024 → EReal) (s : Fin cfg0.N) (p : Fin 256) : Fin 1024 → EReal := v ⟨256 * s.val + p, by have := lt32 s; omega⟩

include hX in
theorem bx_at (s : Fin cfg0.N) (p : Fin 256) (k : Fin 1024) : bx m c s (ix2 p k) = tile x s p k := by
  refine Eq.trans ?_ (hX ⟨256 * s.val + p, by have := lt32 s; omega⟩ k)
  unfold bx; blk_simp [iblk, idx s]; entry_read; blk_ext [idx s]
include hG in
theorem bg_at (s : Fin cfg0.N) (k : Fin 1024) : bg m c s (ix2 0 k) = g k := by
  refine Eq.trans ?_ (hG k)
  unfold bg; blk_simp [iblk, idx s]; entry_read; pointwise; blk_ext [idx s]
include hW in
theorem bk_at (s : Fin cfg0.N) (k l : Fin 1024) : bk m c s (ix2 k l) = keyCols w k l := by
  refine Eq.trans ?_ (hW k ⟨l.val, by omega⟩)
  unfold bk; blk_simp [iblk, idx s]; entry_read; pointwise; blk_ext [idx s]
include hW in
theorem bv_at (s : Fin cfg0.N) (k l : Fin 1024) : bv m c s (ix2 k l) = valCols w k l := by
  refine Eq.trans ?_ (hW k ⟨1024 + l.val, by omega⟩)
  unfold bv; blk_simp [iblk, idx s]; entry_read; pointwise; blk_ext [idx s]
include hW in
theorem bu_at (s : Fin cfg0.N) (k : Fin 1024) (j : Fin 16) : bu m c s (ix2 k j) = gateCols w k j := by
  refine Eq.trans ?_ (hW k ⟨2048 + j.val, by omega⟩)
  unfold bu; blk_simp [iblk, idx s]; entry_read; pointwise; blk_ext [idx s]
include hB in
theorem bb_at (s : Fin cfg0.N) (j : Fin 16) : bb m c s (ix2 0 j) = b j := by
  refine Eq.trans ?_ (hB j)
  unfold bb; blk_simp [iblk, idx s]; entry_read; pointwise; blk_ext [idx s]

include hX hG hW in
/-- The keys after the run. -/
theorem final6 : (dats m 0 c).arrAt 6 (cfgs 0).N = fun i : S8192x1024.Idx => proj (nrm (x (i 0)) g) (keyCols w) (i 1) := by
  refine (dats m 0 c).arrAt_eq_of_covers 6 _ (by decide +kernel) fun s _ y => ?_
  blk_simp
  rw [after0_6, (still m c s).1]
  idx_vars y
  refine (k_pay (tile x s) g (keyCols w) (bx_at m c x hX s) (bg_at m c g hG s) (bk_at m c w hW s) y0 y1).trans ?_
  have e : ((View.whole main_v6_0).slice (win0_6.rect s)).emb (ix2 y0 y1) = ix2 (⟨256 * s.val + y0, by have := lt32 s; omega⟩ : Fin 8192) y1 := by
    blk_ext [idx s]
  rw [e]; rfl
include hX hG hW in
/-- The keys' transpose after the run. -/
theorem final7 : (dats m 0 c).arrAt 7 (cfgs 0).N = fun i : S1024x8192.Idx => proj (nrm (x (i 1)) g) (keyCols w) (i 0) := by
  refine (dats m 0 c).arrAt_eq_of_covers 7 _ (by decide +kernel) fun s _ y => ?_
  blk_simp
  rw [after0_7, (still m c s).2.1]
  idx_vars y
  refine (kT_pay (tile x s) g (keyCols w) (bx_at m c x hX s) (bg_at m c g hG s) (bk_at m c w hW s) y1 y0).trans ?_
  have e : ((View.whole main_v6_1).slice (win0_7.rect s)).emb (ix2 y0 y1) = ix2 y0 (⟨256 * s.val + y1, by have := lt32 s; omega⟩ : Fin 8192) := by
    blk_ext [idx s]
  rw [e]; rfl
include hX hG hW in
/-- The values' transpose after the run. -/
theorem final8 : (dats m 0 c).arrAt 8 (cfgs 0).N = fun i : S1024x8192.Idx => proj (nrm (x (i 1)) g) (valCols w) (i 0) := by
  refine (dats m 0 c).arrAt_eq_of_covers 8 _ (by decide +kernel) fun s _ y => ?_
  blk_simp
  rw [after0_8, (still m c s).2.2.1]
  idx_vars y
  refine (vT_pay (tile x s) g (valCols w) (bx_at m c x hX s) (bg_at m c g hG s) (bv_at m c w hW s) y1 y0).trans ?_
  have e : ((View.whole main_v6_2).slice (win0_8.rect s)).emb (ix2 y0 y1) = ix2 y0 (⟨256 * s.val + y1, by have := lt32 s; omega⟩ : Fin 8192) := by
    blk_ext [idx s]
  rw [e]; rfl
include hX hG in
/-- The normed rows after the run. -/
theorem final9 : (dats m 0 c).arrAt 9 (cfgs 0).N = fun i : S8192x1024.Idx => nrm (x (i 0)) g (i 1) := by
  refine (dats m 0 c).arrAt_eq_of_covers 9 _ (by decide +kernel) fun s _ y => ?_
  blk_simp
  rw [after0_9, (still m c s).2.2.2.1]
  idx_vars y
  refine (norm_pay (tile x s) g (bx_at m c x hX s) (bg_at m c g hG s) y0 y1).trans ?_
  have e : ((View.whole main_v6_3).slice (win0_9.rect s)).emb (ix2 y0 y1) = ix2 (⟨256 * s.val + y0, by have := lt32 s; omega⟩ : Fin 8192) y1 := by
    blk_ext [idx s]
  rw [e]; rfl
include hX hG hW hB in
/-- The forget gates' logits after the run. -/
theorem final10 : (dats m 0 c).arrAt 10 (cfgs 0).N = fun i : S8192x16.Idx => logit (x (i 0)) g w b (i 1) := by
  refine (dats m 0 c).arrAt_eq_of_covers 10 _ (by decide +kernel) fun s _ y => ?_
  blk_simp
  rw [after0_10, (still m c s).2.2.2.2]
  idx_vars y
  refine (fl_pay (tile x s) g (gateCols w) b (bx_at m c x hX s) (bg_at m c g hG s) (bu_at m c w hW s) (bb_at m c b hB s) y0 y1).trans ?_
  have e : ((View.whole main_v6_4).slice (win0_10.rect s)).emb (ix2 y0 y1) = ix2 (⟨256 * s.val + y0, by have := lt32 s; omega⟩ : Fin 8192) y1 := by
    blk_ext [idx s]
  rw [e]; rfl

variable (f : Fin 16 → ℕ → ℝ) (hF : ∀ (n : Fin 8192) j, logit (x n) g w b j = ((f j n.val : ℝ) : EReal))

include hX hG hW hB hF in
theorem sums_at (s : Fin cfg0.N) {S : Vec Ideal S1x16 .f32} (hS : ∀ j, S (ix2 0 j) = ((total (f j) (256 * s.val) : ℝ) : EReal)) (p : Fin 256) (j : Fin 16) :
    sums m c s S (ix2 p j) = ((total (f j) (256 * s.val + (p.val + 1)) : ℝ) : EReal) := by
  refine (c_pay (fun j i => f j (256 * s.val + i)) (fun j => total (f j) (256 * s.val)) (fun p j => ?_) hS p j).trans ?_
  · exact (fl_pay (tile x s) g (gateCols w) b (bx_at m c x hX s) (bg_at m c g hG s) (bu_at m c w hW s) (bb_at m c b hB s) p j).trans
      (hF ⟨256 * s.val + p, by have := lt32 s; omega⟩ j)
  · exact congrArg _ (total_add (f j) _ _)

include hX hG hW hB hF in
/-- What point `t` writes and carries on: the sums up to its rows. -/
theorem carried (t : ℕ) (ht : t < cfg0.N) :
    (∀ (p : Fin 256) (j : Fin 16), (outsAt0 m c t ht).2.2.2.2.2.1 (ix2 p j) = ((total (f j) (256 * t + (p.val + 1)) : ℝ) : EReal))
    ∧ ∀ j : Fin 16, (outsAt0 m c t ht).2.2.2.2.2.2 (ix2 0 j) = ((total (f j) (256 * (t + 1)) : ℝ) : EReal) := by
  have hN : cfg0.N = 32 := N_0
  induction t with
  | zero =>
    have h := outs_A m c ⟨0, ht⟩ rfl
    have hs := sums_at m c x g w b hX hG hW hB f hF ⟨0, ht⟩ (S := k0_pay2 (F := Ideal)) fun j => (zero_pay j).trans (by simp [total])
    exact ⟨fun p j => (congrFun h.1 _).trans (hs p j), fun j => (congrFun h.2 _).trans ((last_pay _ j).trans (hs 255 j))⟩
  | succ t ih =>
    have h := outs_B m c ⟨t + 1, ht⟩ (by show ¬(t + 1) % 32 = 0; omega)
    have hs := sums_at m c x g w b hX hG hW hB f hF ⟨t + 1, ht⟩ (S := (outsAt0 m c t (by omega)).2.2.2.2.2.2) fun j => (ih (by omega)).2 j
    exact ⟨fun p j => (congrFun h.1 _).trans (hs p j), fun j => (congrFun h.2 _).trans ((last_pay _ j).trans (hs 255 j))⟩

include hX hG hW hB hF in
/-- The running sums of the log forget gates after the run. -/
theorem final11 : (dats m 0 c).arrAt 11 (cfgs 0).N = fun i : S8192x16.Idx => ((total (f (i 1)) ((i 0).val + 1) : ℝ) : EReal) := by
  refine (dats m 0 c).arrAt_eq_of_covers 11 _ (by decide +kernel) fun s _ y => ?_
  blk_simp
  rw [after0_11]
  idx_vars y
  refine ((carried m c x g w b hX hG hW hB f hF s.val s.isLt).1 y0 y1).trans ?_
  have e : ((View.whole main_v6_5).slice (win0_11.rect s)).emb (ix2 y0 y1) = ix2 (⟨256 * s.val + y0, by have := lt32 s; omega⟩ : Fin 8192) y1 := by
    blk_ext [idx s]
  have i0 : win0_11.index s 0 = s.val := by rw [(idx s).2.2.2.2.2.2.2.2.2.2.2]; rfl
  rw [e, i0, show s.val * 256 + y0.val + 1 = 256 * s.val + (y0.val + 1) from by omega]; rfl

end Cert.KvFwdIdeal.Cache

end
-- ==== Proof.CacheRef.lean ====
/- The reference's own run of the shared keys, values and forget gates, over the extended reals. -/
module

public import proofs.«01_k».proof.Proof.Gen.KvFwdRefIdeal.Run
public import proofs.«01_k».proof.Proof.CacheSum

@[expose] public section

set_option maxRecDepth 16384

noncomputable section

open Idealize.ShloMosaic Idealize.ShloMosaic.TcCoe Idealize.SL.Sem

namespace Cert.KvFwdRefIdeal.Cache

open Cert.KvFwdRefIdeal Cert.KvFwdRefIdeal.Gen Cert.KvFwdRefIdeal.Value Cert.Lift Cert.Fwd Cert.Cache

/-- The running sums of an array of the gates' shape. -/
theorem column (y : FVec Ideal S8192x16 .f32) (Y : ℕ → ℕ → EReal) (hy : ∀ i k, y (ix2 i k) = Y i.val k.val) (h hu) (j : Fin 8192) (k : Fin 16) :
    Host.reduceWindowAdd ![8192, 1] ![1, 1] ![8191, 0] ![0, 0] y (constant (F := Ideal) S_ .f32 0x00000000#32) h hu (ix2 j k) = ∑ i ∈ Finset.range (j.val + 1), Y i k.val := by
  unfold Host.reduceWindowAdd
  rw [Ideal.hostReduceWindowAdd_def, show constant (F := Ideal) S_ .f32 0x00000000#32 (Shape.Idx.first hu) = (0 : EReal) from c_zero.trans EReal.coe_zero]
  exact running (by norm_num) y Y hy h j k

/-- What the reference leaves in its six results, its arguments unchanged. -/
theorem run_rows (m : (ℓ : Loc nD τ sig) → Buf (Elt Ideal) ℓ) (x : Dev nD → Fin 8192 → Fin 1024 → EReal) (g : Dev nD → Fin 1024 → EReal) (w : Dev nD → Fin 1024 → Fin 2064 → EReal) (b : Dev nD → Fin 16 → EReal)
    (hX : ∀ (c : Dev nD) n k, m ((c.tc : Thread nD τ).loc main_arg0) (ix2 n k) = x c n k)
    (hG : ∀ (c : Dev nD) k, m ((c.tc : Thread nD τ).loc main_arg1) (ix1 k) = g c k)
    (hW : ∀ (c : Dev nD) k l, m ((c.tc : Thread nD τ).loc main_arg2) (ix2 k l) = w c k l)
    (hB : ∀ (c : Dev nD) j, m ((c.tc : Thread nD τ).loc main_arg3) (ix1 j) = b c j)
    (f : Dev nD → Fin 16 → ℕ → ℝ) (hF : ∀ (c : Dev nD) (n : Fin 8192) j, logit (x c n) (g c) (w c) (b c) j = ((f c j n.val : ℝ) : EReal))
    (ρ : Dev nD → PrngReg) : θ_run defs (onTc (τ := τ) (main (F := Ideal))) ⟨m, fun _ => 0, ρ⟩ (fun r => ∀ c : Dev nD,
    r.2.mem ((c.tc : Thread nD τ).loc main_v22) = (fun i : S8192x1024.Idx => proj (nrm (x c (i 0)) (g c)) (keyCols (w c)) (i 1))
    ∧ r.2.mem ((c.tc : Thread nD τ).loc main_v24) = (fun i : S1024x8192.Idx => proj (nrm (x c (i 1)) (g c)) (keyCols (w c)) (i 0))
    ∧ r.2.mem ((c.tc : Thread nD τ).loc main_v26) = (fun i : S1024x8192.Idx => proj (nrm (x c (i 1)) (g c)) (valCols (w c)) (i 0))
    ∧ r.2.mem ((c.tc : Thread nD τ).loc main_v27) = (fun i : S8192x1024.Idx => nrm (x c (i 0)) (g c) (i 1))
    ∧ r.2.mem ((c.tc : Thread nD τ).loc main_v19) = (fun i : S8192x16.Idx => logit (x c (i 0)) (g c) (w c) (b c) (i 1))
    ∧ r.2.mem ((c.tc : Thread nD τ).loc main_v21) = (fun i : S8192x16.Idx => ((total (f c (i 1)) ((i 0).val + 1) : ℝ) : EReal))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (run m ρ)
  all_goals funext i; idx_vars i; clear h
  · pointwise []
    simp only [hX, hG, hW, c_zero, EReal.coe_zero, zero_add]
    rfl
  · pointwise []
    simp only [hX, hG, hW, c_zero, EReal.coe_zero, zero_add]
    rfl
  · pointwise []
    simp only [hX, hG, hW, c_zero, EReal.coe_zero, zero_add]
    rfl
  · pointwise []
    simp only [hX, hG, c_zero, EReal.coe_zero, zero_add]
    rfl
  · pointwise []
    simp only [hX, hG, hW, hB, c_zero, EReal.coe_zero, zero_add]
    rfl
  · unfold res_main_v21
    refine (column _ (fun n j => ((decay (if h : j < 16 then f c ⟨j, h⟩ n else 0) : ℝ) : EReal)) (fun n j => ?_) _ _ i0 i1).trans ?_
    · pointwise []
      simp only [hX, hG, hW, hB, c_zero, EReal.coe_zero, zero_add]
      have l := hF c n j
      unfold logit proj nrm gateCols at l
      simp only [l, ne_eq, not_true_eq_false, if_false, dif_pos j.isLt]
      show -(max (-((f c j n.val : ℝ) : EReal)) ((0 : ℝ) : EReal) + Ideal.log1p (Ideal.exp (-max (-((f c j n.val : ℝ) : EReal)) (- -((f c j n.val : ℝ) : EReal))))) = _
      rw [← EReal.coe_neg, ← EReal.coe_neg, coe_max, coe_max, ← EReal.coe_neg, log1p_exp, ← EReal.coe_add, ← EReal.coe_neg, decay_neg]
    · simp only [dif_pos i1.isLt]
      rw [Finset.sum_range fun i => ((decay (f c i1 i) : ℝ) : EReal), Lift.sum fun i : Fin (i0.val + 1) => decay (f c i1 i.val), ← Finset.sum_range fun i => decay (f c i1 i)]
      rfl

end Cert.KvFwdRefIdeal.Cache

end
-- ==== Proof.CacheClaim.lean ====
/- The shared keys, values and forget gates against the forward lines: on finite arguments both programs leave the same arrays. -/
module

public import proofs.«01_k».proof.Defs
public import proofs.«01_k».proof.Proof.Gen.Pre_finite_cache
public import proofs.«01_k».proof.Proof.Gen.KvFwdIdeal.Value
public import proofs.«01_k».proof.Proof.Fin
public import proofs.«01_k».proof.Proof.CacheKern
public import proofs.«01_k».proof.Proof.CacheRef
public import Idealize.ShloMosaic.Lib.Claim

@[expose] public section

set_option maxRecDepth 16384

noncomputable section

open Idealize.ShloMosaic Idealize.ShloMosaic.TcCoe Idealize.SL.Sem

namespace Cert.Cache

open Cert.Lift Cert.Fwd

/-- The reference runs to the end, leaves its arguments alone and every semaphore at zero. -/
theorem frame : Cert.quiescent_KvFwdRefIdeal := fun m ρ _ =>
  (θ_run _ _ _).mono (fun r h => ⟨fun c => (h c).2.2.2.2.2.2, sem_eq_zero_of_no_sems (by decide) r.2⟩) (Cert.KvFwdRefIdeal.Value.run m ρ)

/-- On finite arguments the rows, the scale, the matrix and the biases are real, and so are the logits they make. -/
theorem reals (X : FVec Ideal ⟨2, ![8192, 1024]⟩ .f32) (G : FVec Ideal ⟨1, ![1024]⟩ .f32) (W : FVec Ideal ⟨2, ![1024, 2064]⟩ .f32) (B : FVec Ideal ⟨1, ![16]⟩ .f32)
    (h : Cert.Pre_finite_cache.fn (F := Ideal) X G W B = fun _ => 1#1) :
    ∃ f : Fin 16 → ℕ → ℝ, ∀ (n : Fin 8192) j,
      logit (fun k => X (ix2 n k)) (fun k => G (ix1 k)) (fun k l => W (ix2 k l)) (fun i => B (ix1 i)) j = ((f j n.val : ℝ) : EReal) := by
  have h0 := congrFun h ix0
  dsimp only [Cert.Pre_finite_cache.fn] at h0
  obtain ⟨h1, hB⟩ := IntOp.andi_eq_one.mp h0
  obtain ⟨h2, hW⟩ := IntOp.andi_eq_one.mp h1
  obtain ⟨hX, hG⟩ := IntOp.andi_eq_one.mp h2
  obtain ⟨x, hx⟩ := real_of_all _ _ _ _ _ hX
  obtain ⟨g, hg⟩ := real_of_all _ _ _ _ _ hG
  obtain ⟨w, hw⟩ := real_of_all _ _ _ _ _ hW
  obtain ⟨b, hb⟩ := real_of_all _ _ _ _ _ hB
  have hl := fun (n : Fin 8192) j => logit_real (fun k => x (ix2 n k)) (fun k => g (ix1 k)) (fun k l => w (ix2 k l)) (fun i => b (ix1 i)) j
  choose l hl using hl
  refine ⟨fun j n => if h : n < 8192 then l ⟨n, h⟩ j else 0, fun n j => ?_⟩
  simp only [hx, hg, hw, hb, dif_pos n.isLt]
  exact hl n j

theorem algebraic : Cert.algebraic_KvFwdIdeal_KvFwdRefIdeal_pre_finite_cache := by
  intro m ρ m' ρ' hpre hagree
  have hr := fun c => reals _ _ _ _ (hpre c)
  choose f hF using hr
  obtain ⟨x, hX⟩ : ∃ v : Dev KvFwdIdeal.nD → Fin 8192 → Fin 1024 → EReal, ∀ (c : Dev KvFwdIdeal.nD) n k, m ((c.tc : Thread KvFwdIdeal.nD KvFwdIdeal.τ).loc KvFwdIdeal.main_arg0) (ix2 n k) = v c n k := ⟨_, fun _ _ _ => rfl⟩
  obtain ⟨g, hG⟩ : ∃ v : Dev KvFwdIdeal.nD → Fin 1024 → EReal, ∀ (c : Dev KvFwdIdeal.nD) k, m ((c.tc : Thread KvFwdIdeal.nD KvFwdIdeal.τ).loc KvFwdIdeal.main_arg1) (ix1 k) = v c k := ⟨_, fun _ _ => rfl⟩
  obtain ⟨w, hW⟩ : ∃ v : Dev KvFwdIdeal.nD → Fin 1024 → Fin 2064 → EReal, ∀ (c : Dev KvFwdIdeal.nD) k l, m ((c.tc : Thread KvFwdIdeal.nD KvFwdIdeal.τ).loc KvFwdIdeal.main_arg2) (ix2 k l) = v c k l := ⟨_, fun _ _ _ => rfl⟩
  obtain ⟨b, hB⟩ : ∃ v : Dev KvFwdIdeal.nD → Fin 16 → EReal, ∀ (c : Dev KvFwdIdeal.nD) j, m ((c.tc : Thread KvFwdIdeal.nD KvFwdIdeal.τ).loc KvFwdIdeal.main_arg3) (ix1 j) = v c j := ⟨_, fun _ _ => rfl⟩
  have hL : ∀ (c : Dev KvFwdIdeal.nD) (n : Fin 8192) j, logit (x c n) (g c) (w c) (b c) j = ((f c j n.val : ℝ) : EReal) := fun c n j => by
    refine Eq.trans ?_ (hF c n j)
    simp only [hX, hG, hW, hB]
  refine ⟨fun c => fun i : KvFwdIdeal.S8192x1024.Idx => proj (nrm (x c (i 0)) (g c)) (keyCols (w c)) (i 1),
    fun c => fun i : KvFwdIdeal.S1024x8192.Idx => proj (nrm (x c (i 1)) (g c)) (keyCols (w c)) (i 0),
    fun c => fun i : KvFwdIdeal.S1024x8192.Idx => proj (nrm (x c (i 1)) (g c)) (valCols (w c)) (i 0),
    fun c => fun i : KvFwdIdeal.S8192x1024.Idx => nrm (x c (i 0)) (g c) (i 1),
    fun c => fun i : KvFwdIdeal.S8192x16.Idx => logit (x c (i 0)) (g c) (w c) (b c) (i 1),
    fun c => fun i : KvFwdIdeal.S8192x16.Idx => ((total (f c (i 1)) ((i 0).val + 1) : ℝ) : EReal), ?_, ?_⟩
  · run_from Cert.KvFwdIdeal.Value.run_blocks m ρ
    · exact KvFwdIdeal.Cache.final6 m c (x c) (g c) (w c) (hX c) (hG c) (hW c)
    · exact KvFwdIdeal.Cache.final7 m c (x c) (g c) (w c) (hX c) (hG c) (hW c)
    · exact KvFwdIdeal.Cache.final8 m c (x c) (g c) (w c) (hX c) (hG c) (hW c)
    · exact KvFwdIdeal.Cache.final9 m c (x c) (g c) (hX c) (hG c)
    · exact KvFwdIdeal.Cache.final10 m c (x c) (g c) (w c) (b c) (hX c) (hG c) (hW c) (hB c)
    · exact KvFwdIdeal.Cache.final11 m c (x c) (g c) (w c) (b c) (hX c) (hG c) (hW c) (hB c) (f c) (hL c)
  · refine (θ_run _ _ _).mono (fun _ h => h) (KvFwdRefIdeal.Cache.run_rows m' x g w b (fun c n k => ?_) (fun c k => ?_) (fun c k l => ?_) (fun c j => ?_) f hL ρ')
    · rw [(hagree c).1]; exact hX c n k
    · rw [(hagree c).2.1]; exact hG c k
    · rw [(hagree c).2.2.1]; exact hW c k l
    · rw [(hagree c).2.2.2]; exact hB c j

end Cert.Cache

end
-- ==== Proof.CausalRow.lean ====
/- The causal convolution of one row over the extended reals: the gated entries, the sum over the shifted rows, the norm after it. -/
module

public import proofs.«01_k».proof.Proof.Fwd

@[expose] public section

set_option maxRecDepth 16384

noncomputable section

open Idealize.ShloMosaic Idealize.ShloMosaic.TcCoe Idealize.SL.Sem
open Finset (range)

namespace Cert.Causal

open Cert.Fwd

/-- The two halves of a row before the gate. -/
def pre (x g : Fin 1024 → EReal) (w : Fin 1024 → Fin 2048 → EReal) (b : Fin 2048 → EReal) (l : Fin 2048) : EReal := proj (nrm x g) w l + b l
/-- The first half times the sigmoid of the second. -/
def glu (u : Fin 2048 → EReal) (k : Fin 1024) : EReal := u ⟨k.val, by omega⟩ * Ideal.logistic (u ⟨1024 + k.val, by omega⟩)
/-- The rows behind 32 rows of zeros. -/
def behind (v : Fin 8192 → Fin 1024 → EReal) (p : ℕ) (k : Fin 1024) : EReal := if h : 32 ≤ p ∧ p < 8224 then v ⟨p - 32, by omega⟩ k else 0
/-- The convolution: the bias and one product for each of the 31 taps. -/
def conv (v : Fin 8192 → Fin 1024 → EReal) (w : ℕ → Fin 1024 → EReal) (b : Fin 1024 → EReal) (n : Fin 8192) (k : Fin 1024) : EReal :=
  b k + ∑ j ∈ range 31, w j k * behind v (n.val + j + 2) k
/-- A row less its mean. -/
def off (z : Fin 1024 → EReal) (k : Fin 1024) : EReal := z k - Ideal.div (∑ j, z j) (Ideal.ofBits .f32 0x44800000#32)
/-- The layer norm of a row. -/
def layer (z g b : Fin 1024 → EReal) (k : Fin 1024) : EReal :=
  off z k * Ideal.rsqrt (Ideal.div (∑ j, off z j * off z j) (Ideal.ofBits .f32 0x44800000#32) + Ideal.ofBits .f32 0x358637BD#32) * g k + b k
/-- A row times its own sigmoid, after the layer norm. -/
def swish (z g b : Fin 1024 → EReal) (k : Fin 1024) : EReal := layer z g b k * Ideal.logistic (layer z g b k)

/-- The 31 products in the order the kernel adds them. -/
theorem taps (c : EReal) (f : ℕ → EReal) : c + f 0 + f 8 + f 16 + f 24 + f 1 + f 9 + f 17 + f 25 + f 2 + f 10 + f 18 + f 26 + f 3 + f 11 + f 19 + f 27 + f 4 + f 12 + f 20 + f 28 + f 5 + f 13 + f 21 + f 29 + f 6 + f 14 + f 22 + f 30 + f 7 + f 15 + f 23 = c + ∑ j ∈ range 31, f j := by
  simp only [Finset.sum_range_succ, Finset.sum_range_zero]
  abel

end Cert.Causal

end
-- ==== Proof.CausalKern.lean ====
/- The causal convolution: what each grid point leaves, over the extended reals. -/
module

public import proofs.«01_k».proof.Proof.Gen.ConvFwdIdeal.Frame
public import Idealize.ShloMosaic.Lib.Pipeline.ValueKit
public import Idealize.ShloMosaic.Lib.Pipeline.ReadBack
public import Idealize.ShloMosaic.Lib.VecWindow
public import proofs.«01_k».proof.Proof.CausalRow

@[expose] public section

set_option maxRecDepth 16384

noncomputable section

open Idealize.ShloMosaic Idealize.ShloMosaic.TcCoe Idealize.SL.Sem
open Idealize.ShloMosaic.Pipeline (Dat)
open Finset (range)

namespace Cert.ConvFwdIdeal.Causal

open Cert.ConvFwdIdeal Cert.ConvFwdIdeal.Gen Cert.Fwd Cert.Causal

section Payloads

variable (x : Fin 256 → Fin 1024 → EReal) (g : Fin 1024 → EReal) (w : Fin 1024 → Fin 2048 → EReal) (b : Fin 2048 → EReal)
variable {X : FVec Ideal S256x1024 .f32} {G : FVec Ideal S1x1024 .f32} {W : FVec Ideal S1024x2048 .bf16} {B : FVec Ideal S1x2048 .f32}
variable (hX : ∀ p k, X (ix2 p k) = x p k) (hG : ∀ k, G (ix2 0 k) = g k) (hW : ∀ k l, W (ix2 k l) = w k l) (hB : ∀ l, B (ix2 0 l) = b l)

include hX hG in
theorem pay4 (r : Fin 256) (k : Fin 1024) : k0_pay4 (F := Ideal) X G (ix2 r k) = nrm (x r) g k := by
  pointwise [k0_pay3, k0_pay4]
  simp only [hX, hG]
  rfl
include hX hG hW hB in
theorem pay5 (r : Fin 256) (l : Fin 2048) : k0_pay5 (F := Ideal) X G W B (ix2 r l) = pre (x r) g w b l := by
  pointwise [k0_pay3, k0_pay5]
  simp only [hX, hG, hW, hB]
  rfl
include hX hG hW hB in
theorem pay6 (r : Fin 256) (k : Fin 1024) : k0_pay6 (F := Ideal) X G W B (ix2 r k) = glu (pre (x r) g w b) k := by
  pointwise [k0_pay3, k0_pay5, k0_pay6]
  simp only [hX, hG, hW, hB]
  rfl

theorem pay20 (S : ℕ → Fin 1024 → EReal) (wd : ℕ → Fin 1024 → EReal) (bd : Fin 1024 → EReal) (r : Fin 256) (k : Fin 1024)
    {B V0 V1 V2 V3 V4 V5 V6 V7 V8 V9 V10 V11 V12 V13 V14 V15 V16 V17 V18 V19 V20 V21 V22 V23 V24 V25 V26 V27 V28 V29 V30 : Vec Ideal S1x1024 .f32}
    {W0 W1 W2 W3 W4 W5 W6 W7 W8 W9 W10 W11 W12 W13 W14 W15 W16 W17 W18 W19 W20 W21 W22 W23 W24 W25 W26 W27 W28 W29 W30 : Vec Ideal S256x1024 .f32}
    (hB : B (ix2 0 k) = bd k)
    (hV0 : V0 (ix2 0 k) = wd 0 k) (hW0 : W0 (ix2 r k) = S (r.val + 0 + 2) k)
    (hV8 : V8 (ix2 0 k) = wd 8 k) (hW8 : W8 (ix2 r k) = S (r.val + 8 + 2) k)
    (hV16 : V16 (ix2 0 k) = wd 16 k) (hW16 : W16 (ix2 r k) = S (r.val + 16 + 2) k)
    (hV24 : V24 (ix2 0 k) = wd 24 k) (hW24 : W24 (ix2 r k) = S (r.val + 24 + 2) k)
    (hV1 : V1 (ix2 0 k) = wd 1 k) (hW1 : W1 (ix2 r k) = S (r.val + 1 + 2) k)
    (hV9 : V9 (ix2 0 k) = wd 9 k) (hW9 : W9 (ix2 r k) = S (r.val + 9 + 2) k)
    (hV17 : V17 (ix2 0 k) = wd 17 k) (hW17 : W17 (ix2 r k) = S (r.val + 17 + 2) k)
    (hV25 : V25 (ix2 0 k) = wd 25 k) (hW25 : W25 (ix2 r k) = S (r.val + 25 + 2) k)
    (hV2 : V2 (ix2 0 k) = wd 2 k) (hW2 : W2 (ix2 r k) = S (r.val + 2 + 2) k)
    (hV10 : V10 (ix2 0 k) = wd 10 k) (hW10 : W10 (ix2 r k) = S (r.val + 10 + 2) k)
    (hV18 : V18 (ix2 0 k) = wd 18 k) (hW18 : W18 (ix2 r k) = S (r.val + 18 + 2) k)
    (hV26 : V26 (ix2 0 k) = wd 26 k) (hW26 : W26 (ix2 r k) = S (r.val + 26 + 2) k)
    (hV3 : V3 (ix2 0 k) = wd 3 k) (hW3 : W3 (ix2 r k) = S (r.val + 3 + 2) k)
    (hV11 : V11 (ix2 0 k) = wd 11 k) (hW11 : W11 (ix2 r k) = S (r.val + 11 + 2) k)
    (hV19 : V19 (ix2 0 k) = wd 19 k) (hW19 : W19 (ix2 r k) = S (r.val + 19 + 2) k)
    (hV27 : V27 (ix2 0 k) = wd 27 k) (hW27 : W27 (ix2 r k) = S (r.val + 27 + 2) k)
    (hV4 : V4 (ix2 0 k) = wd 4 k) (hW4 : W4 (ix2 r k) = S (r.val + 4 + 2) k)
    (hV12 : V12 (ix2 0 k) = wd 12 k) (hW12 : W12 (ix2 r k) = S (r.val + 12 + 2) k)
    (hV20 : V20 (ix2 0 k) = wd 20 k) (hW20 : W20 (ix2 r k) = S (r.val + 20 + 2) k)
    (hV28 : V28 (ix2 0 k) = wd 28 k) (hW28 : W28 (ix2 r k) = S (r.val + 28 + 2) k)
    (hV5 : V5 (ix2 0 k) = wd 5 k) (hW5 : W5 (ix2 r k) = S (r.val + 5 + 2) k)
    (hV13 : V13 (ix2 0 k) = wd 13 k) (hW13 : W13 (ix2 r k) = S (r.val + 13 + 2) k)
    (hV21 : V21 (ix2 0 k) = wd 21 k) (hW21 : W21 (ix2 r k) = S (r.val + 21 + 2) k)
    (hV29 : V29 (ix2 0 k) = wd 29 k) (hW29 : W29 (ix2 r k) = S (r.val + 29 + 2) k)
    (hV6 : V6 (ix2 0 k) = wd 6 k) (hW6 : W6 (ix2 r k) = S (r.val + 6 + 2) k)
    (hV14 : V14 (ix2 0 k) = wd 14 k) (hW14 : W14 (ix2 r k) = S (r.val + 14 + 2) k)
    (hV22 : V22 (ix2 0 k) = wd 22 k) (hW22 : W22 (ix2 r k) = S (r.val + 22 + 2) k)
    (hV30 : V30 (ix2 0 k) = wd 30 k) (hW30 : W30 (ix2 r k) = S (r.val + 30 + 2) k)
    (hV7 : V7 (ix2 0 k) = wd 7 k) (hW7 : W7 (ix2 r k) = S (r.val + 7 + 2) k)
    (hV15 : V15 (ix2 0 k) = wd 15 k) (hW15 : W15 (ix2 r k) = S (r.val + 15 + 2) k)
    (hV23 : V23 (ix2 0 k) = wd 23 k) (hW23 : W23 (ix2 r k) = S (r.val + 23 + 2) k) :
    k0_pay20 (F := Ideal) (k0_pay18 (F := Ideal) (k0_pay15 (F := Ideal) (k0_pay13 (F := Ideal) (k0_pay11 (F := Ideal) (k0_pay8 (F := Ideal) B V0 W0 V8 W8 V16 W16 V24 W24) V1 W1 V9 W9 V17 W17 V25 W25 V2 W2) V10 W10 V18 W18 V26 W26 V3 W3 V11 W11 V19 W19) V27 W27 V4 W4 V12 W12 V20 W20 V28 W28) V5 W5 V13 W13 V21 W21 V29 W29 V6 W6) V14 W14 V22 W22 V30 W30 V7 W7 V15 W15 V23 W23 (ix2 r k)
      = bd k + ∑ j ∈ range 31, wd j k * S (r.val + j + 2) k := by
  pointwise [k0_pay8, k0_pay11, k0_pay13, k0_pay15, k0_pay18, k0_pay20]
  simp only [hB, hV0, hW0, hV8, hW8, hV16, hW16, hV24, hW24, hV1, hW1, hV9, hW9, hV17, hW17, hV25, hW25, hV2, hW2, hV10, hW10, hV18, hW18, hV26, hW26, hV3, hW3, hV11, hW11, hV19, hW19, hV27, hW27, hV4, hW4, hV12, hW12, hV20, hW20, hV28, hW28, hV5, hW5, hV13, hW13, hV21, hW21, hV29, hW29, hV6, hW6, hV14, hW14, hV22, hW22, hV30, hW30, hV7, hW7, hV15, hW15, hV23, hW23]
  exact taps (bd k) fun j => wd j k * S (r.val + j + 2) k

variable (z : Fin 256 → Fin 1024 → EReal) (lg lb c : Fin 1024 → EReal) (u : Fin 1024 → Fin 1024 → EReal)
variable {Z : FVec Ideal S256x1024 .f32} {Lg Lb C : FVec Ideal S1x1024 .f32} {U : FVec Ideal S1024x1024 .bf16}
variable (hZ : ∀ p k, Z (ix2 p k) = z p k) (hLg : ∀ k, Lg (ix2 0 k) = lg k) (hLb : ∀ k, Lb (ix2 0 k) = lb k) (hU : ∀ k l, U (ix2 k l) = u k l) (hC : ∀ k, C (ix2 0 k) = c k)

include hZ hLg hLb in
theorem pay23 (r : Fin 256) (k : Fin 1024) : k0_pay23 (F := Ideal) Z Lg Lb (ix2 r k) = swish (z r) lg lb k := by
  pointwise [k0_pay22, k0_pay23]
  simp only [hZ, hLg, hLb]
  rfl
include hX hZ hLg hLb hU hC in
theorem pay1 (r : Fin 256) (k : Fin 1024) : k0_pay1 (F := Ideal) (k0_pay24 X Z Lg Lb U) C (ix2 r k) = x r k + proj (swish (z r) lg lb) u k + c k := by
  pointwise [k0_pay22, k0_pay24, k0_pay1]
  simp only [hX, hZ, hLg, hLb, hU, hC]
  rfl

theorem copies (X : Vec Ideal S280x1024 .f32) : k0_pay7 X = X ∧ k0_pay9 X = X ∧ k0_pay10 X = X ∧ k0_pay12 X = X ∧ k0_pay14 X = X ∧ k0_pay16 X = X ∧ k0_pay17 X = X := by
  refine ⟨?_, ?_, ?_, ?_, ?_, ?_, ?_⟩ <;> (funext i; idx_vars i; pointwise [k0_pay7, k0_pay9, k0_pay10, k0_pay12, k0_pay14, k0_pay16, k0_pay17]; try rfl)
theorem copy19 (X : Vec Ideal S272x1024 .f32) : k0_pay19 X = X := by
  funext i; idx_vars i; pointwise [k0_pay19]; try rfl
theorem copy21 (X : Vec Ideal S32x1024 .f32) : k0_pay21 X = X := by
  funext i; idx_vars i; pointwise [k0_pay21]; try rfl

end Payloads

section Windows

variable (S : ℕ → Fin 1024 → EReal)

/-- A window of a matrix whose rows are known. -/
theorem ld_rows {n o : ℕ} {X : Vec Ideal S288x1024 .f32} (hX : ∀ (q : Fin 288) k, X (ix2 q k) = S q.val k)
    (inb : ∀ a, (![o, 0] : Fin 2 → ℕ) a + (![n, 1024] : Fin 2 → ℕ) a ≤ S288x1024.size a) (r : Fin n) (k : Fin 1024) :
    View.ld X (Rect.unit (s := S288x1024) ![o, 0] ![n, 1024] inb) (ix2 r k) = S (o + r.val) k := by
  have h : o + n ≤ 288 := inb 0
  refine Eq.trans (congrArg X ?_) (hX ⟨o + r.val, by omega⟩ k)
  funext a; apply Fin.ext; fin_cases a
  · show o + 1 * r.val = o + r.val; omega
  · show 0 + 1 * k.val = k.val; omega

/-- One row of the taps. -/
theorem ld_tap {o : ℕ} {X : Vec Ideal S31x1024 .f32} (hX : ∀ (q : Fin 31) k, X (ix2 q k) = S q.val k)
    (inb : ∀ a, (![o, 0] : Fin 2 → ℕ) a + (![1, 1024] : Fin 2 → ℕ) a ≤ S31x1024.size a) (k : Fin 1024) :
    View.ld X (Rect.unit (s := S31x1024) ![o, 0] ![1, 1024] inb) (ix2 0 k) = S o k := by
  have h : o + 1 ≤ 31 := inb 0
  refine Eq.trans (congrArg X ?_) (hX ⟨o, by omega⟩ k)
  funext a; apply Fin.ext; fin_cases a
  · rfl
  · show 0 + 1 * k.val = k.val; omega

/-- A window of the newest copy, itself a window of the rows. -/
theorem copy_rows {n b o i : ℕ} {X : Vec Ideal S288x1024 .f32} (hX : ∀ (q : Fin 288) k, X (ix2 q k) = S q.val k)
    (inb : ∀ a, (![b, 0] : Fin 2 → ℕ) a + (![n, 1024] : Fin 2 → ℕ) a ≤ S288x1024.size a)
    (inb0 : ∀ a, (![0, 0] : Fin 2 → ℕ) a + (![n, 1024] : Fin 2 → ℕ) a ≤ S288x1024.size a)
    (inbo : ∀ a, (![o, 0] : Fin 2 → ℕ) a + (![256, 1024] : Fin 2 → ℕ) a ≤ S288x1024.size a)
    (L : List (View.Piece (Elt Ideal) S288x1024 .f32)) (ho : o + 256 ≤ n) (hi : i + 2 = b + o) (r : Fin 256) (k : Fin 1024) :
    (View.whole cc0_scratch1).readCov (⟨Rect.unit (s := S288x1024) ![0, 0] ![n, 1024] inb0, View.ld X (Rect.unit (s := S288x1024) ![b, 0] ![n, 1024] inb)⟩ :: L)
      (Rect.unit (s := S288x1024) ![o, 0] ![256, 1024] inbo).toLoadRect (ix2 r k) = S (r.val + i + 2) k := by
  have h : n ≤ 288 := by simpa using inb0 0
  have e : (Rect.unit (s := S288x1024) ![o, 0] ![256, 1024] inbo).toLoadRect.idx (ix2 r k) = ix2 (⟨o + r.val, by omega⟩ : Fin 288) k := by
    funext a; apply Fin.ext; fin_cases a
    · show o + 1 * r.val = o + r.val; omega
    · show 0 + 1 * k.val = k.val; omega
  rw [View.readCov_eq_canon']
  show View.canon _ ((Rect.unit (s := S288x1024) ![o, 0] ![256, 1024] inbo).toLoadRect.idx (ix2 r k)) = _
  rw [e, ← View.read_writes_junk_eq_canon (View.whole cc0_scratch1)]
  refine (View.read_writes_cons_unit_of_mem _ _ inb0 _ L _ (ix2 (⟨o + r.val, by omega⟩ : Fin n) k) rfl (fun x => ?_)).trans ((ld_rows S hX inb _ k).trans ?_)
  · fin_cases x
    · show o + r.val = 0 + (o + r.val); omega
    · show k.val = 0 + k.val; omega
  · exact congrArg (fun p => S p k) (by show b + (o + r.val) = r.val + i + 2; omega)

theorem cov_ld (L : List (View.Piece (Elt Ideal) S288x1024 .f32)) (r : Rect S288x1024) :
    (View.whole cc0_scratch0).readCov L r.toLoadRect = View.ld ((View.whole cc0_scratch0).read (Elt Ideal) ((View.whole cc0_scratch0).writes (Elt Ideal) (View.whole cc0_scratch0).junk L)) r := rfl

/-- The staged rows: the carried ones first, the grid point's own behind them. -/
theorem staged {f : (View.whole cc0_scratch0).ty.Contents (Elt Ideal)} {L : List (View.Piece (Elt Ideal) S288x1024 .f32)} {P : Vec Ideal S256x1024 .f32}
    (hP : ∀ (r : Fin 256) k, P (ix2 r k) = S (32 + r.val) k)
    (hL : ∀ (q : Fin 32) k, (View.whole cc0_scratch0).read (Elt Ideal) ((View.whole cc0_scratch0).writes (Elt Ideal) f L) (ix2 (⟨q.val, by omega⟩ : Fin 288) k) = S q.val k)
    (inb : ∀ a, (![32, 0] : Fin 2 → ℕ) a + (![256, 1024] : Fin 2 → ℕ) a ≤ S288x1024.size a) (q : Fin 288) (k : Fin 1024) :
    (View.whole cc0_scratch0).read (Elt Ideal) ((View.whole cc0_scratch0).writes (Elt Ideal) f (⟨Rect.unit (s := S288x1024) ![32, 0] ![256, 1024] inb, P⟩ :: L)) (ix2 q k) = S q.val k := by
  by_cases h : q.val < 32
  · exact (View.read_writes_cons_unit_of_not_mem _ f inb P L (ix2 q k) rfl (0 : Fin 2) (by show q.val < 32 ∨ _; omega)).trans (hL ⟨q.val, h⟩ k)
  · refine (View.read_writes_cons_unit_of_mem _ f inb P L (ix2 q k) (ix2 (⟨q.val - 32, by omega⟩ : Fin 256) k) rfl (fun x => ?_)).trans ((hP _ k).trans ?_)
    · fin_cases x
      · show q.val = 32 + (q.val - 32); omega
      · show k.val = 0 + k.val; omega
    · exact congrArg (fun p => S p k) (by show 32 + (q.val - 32) = q.val; omega)

/-- The carried rows before the first grid point of a sequence. -/
theorem zeros (hS : ∀ q < 32, ∀ k, S q k = 0) {f : (View.whole cc0_scratch0).ty.Contents (Elt Ideal)}
    (inb : ∀ a, (![0, 0] : Fin 2 → ℕ) a + (![32, 1024] : Fin 2 → ℕ) a ≤ S288x1024.size a) (q : Fin 32) (k : Fin 1024) :
    (View.whole cc0_scratch0).read (Elt Ideal) ((View.whole cc0_scratch0).writes (Elt Ideal) f [⟨Rect.unit (s := S288x1024) ![0, 0] ![32, 1024] inb, k0_pay2 (F := Ideal)⟩]) (ix2 (⟨q.val, by omega⟩ : Fin 288) k) = S q.val k := by
  refine (View.read_writes_cons_unit_of_mem _ f inb _ [] _ (ix2 q k) rfl (fun x => ?_)).trans ?_
  · fin_cases x
    · show q.val = 0 + q.val; omega
    · show k.val = 0 + k.val; omega
  · rw [hS q.val q.isLt k]
    pointwise [k0_pay2]

/-- The newest rows of the stage. -/
theorem newest (L : List (View.Piece (Elt Ideal) S288x1024 .f32)) (P : Vec Ideal S32x1024 .f32)
    (inb : ∀ a, (![0, 0] : Fin 2 → ℕ) a + (![32, 1024] : Fin 2 → ℕ) a ≤ S288x1024.size a) (q : Fin 32) (k : Fin 1024) :
    View.canon ((⟨Rect.unit (s := S288x1024) ![0, 0] ![32, 1024] inb, P⟩ : View.Piece (Elt Ideal) S288x1024 .f32) :: L) (ix2 (⟨q.val, by omega⟩ : Fin 288) k) = P (ix2 q k) := by
  rw [← View.read_writes_junk_eq_canon (View.whole cc0_scratch0)]
  refine (View.read_writes_cons_unit_of_mem (View.whole cc0_scratch0) _ inb P L (ix2 (⟨q.val, by omega⟩ : Fin 288) k) (ix2 q k) rfl (fun x => ?_)).trans rfl
  fin_cases x
  · show q.val = 0 + q.val; omega
  · show k.val = 0 + k.val; omega

/-- The last rows of the stage are the last of the grid point's own. -/
theorem last {f : (View.whole cc0_scratch0).ty.Contents (Elt Ideal)} {L : List (View.Piece (Elt Ideal) S288x1024 .f32)} {P : Vec Ideal S256x1024 .f32}
    (hP : ∀ (r : Fin 256) k, P (ix2 r k) = S (32 + r.val) k)
    (inb : ∀ a, (![32, 0] : Fin 2 → ℕ) a + (![256, 1024] : Fin 2 → ℕ) a ≤ S288x1024.size a)
    (inb' : ∀ a, (![256, 0] : Fin 2 → ℕ) a + (![32, 1024] : Fin 2 → ℕ) a ≤ S288x1024.size a) (q : Fin 32) (k : Fin 1024) :
    View.ld ((View.whole cc0_scratch0).read (Elt Ideal) ((View.whole cc0_scratch0).writes (Elt Ideal) f (⟨Rect.unit (s := S288x1024) ![32, 0] ![256, 1024] inb, P⟩ :: L)))
      (Rect.unit (s := S288x1024) ![256, 0] ![32, 1024] inb') (ix2 q k) = S (256 + q.val) k := by
  have e : (Rect.unit (s := S288x1024) ![256, 0] ![32, 1024] inb').idx (ix2 q k) = ix2 (⟨256 + q.val, by omega⟩ : Fin 288) k := by
    funext a; apply Fin.ext; fin_cases a
    · show 256 + 1 * q.val = 256 + q.val; omega
    · show 0 + 1 * k.val = k.val; omega
  refine (congrArg _ e).trans ((View.read_writes_cons_unit_of_mem _ f inb P L _ (ix2 (⟨224 + q.val, by omega⟩ : Fin 256) k) rfl (fun x => ?_)).trans ((hP _ k).trans ?_))
  · fin_cases x
    · show 256 + q.val = 32 + (224 + q.val); omega
    · show k.val = 0 + k.val; omega
  · exact congrArg (fun p => S p k) (by show 32 + (224 + q.val) = 256 + q.val; omega)

end Windows

end Cert.ConvFwdIdeal.Causal

end
-- ==== Proof.CausalFinal.lean ====
/- The causal convolution: the rows carried from grid point to grid point, and the result arrays after the run, over the extended reals. -/
module

public import proofs.«01_k».proof.Proof.CausalKern

@[expose] public section

set_option maxRecDepth 16384

noncomputable section

open Idealize.ShloMosaic Idealize.ShloMosaic.TcCoe Idealize.SL.Sem
open Idealize.ShloMosaic.Pipeline (Dat)
open Finset (range)

namespace Cert.ConvFwdIdeal.Causal

open Cert.ConvFwdIdeal Cert.ConvFwdIdeal.Gen Cert.Fwd Cert.Causal

variable (m : (ℓ : Loc nD τ sig) → Buf (Elt Ideal) ℓ) (c : Dev nD)

abbrev bx (t : Fin cfg0.N) : Vec Ideal S256x1024 .f32 := iblk m c 0 t
abbrev bg (t : Fin cfg0.N) : Vec Ideal S1x1024 .f32 := iblk m c 1 t
abbrev bw (t : Fin cfg0.N) : Vec Ideal S1024x2048 .bf16 := iblk m c 2 t
abbrev bb (t : Fin cfg0.N) : Vec Ideal S1x2048 .f32 := iblk m c 3 t
abbrev bt (t : Fin cfg0.N) : Vec Ideal S31x1024 .f32 := iblk m c 4 t
abbrev bd (t : Fin cfg0.N) : Vec Ideal S1x1024 .f32 := iblk m c 5 t
abbrev bl (t : Fin cfg0.N) : Vec Ideal S1x1024 .f32 := iblk m c 6 t
abbrev bm (t : Fin cfg0.N) : Vec Ideal S1x1024 .f32 := iblk m c 7 t
abbrev bu (t : Fin cfg0.N) : Vec Ideal S1024x1024 .bf16 := iblk m c 8 t
abbrev bc (t : Fin cfg0.N) : Vec Ideal S1x1024 .f32 := iblk m c 9 t

/-- What a grid point leaves, but for the convolution and the carried rows. -/
theorem still (t : Fin cfg0.N) : (outsAt0 m c t.val t.isLt).2.1 = k0_pay4 (bx m c t) (bg m c t)
    ∧ (outsAt0 m c t.val t.isLt).2.2.1 = k0_pay5 (bx m c t) (bg m c t) (bw m c t) (bb m c t)
    ∧ (outsAt0 m c t.val t.isLt).2.2.2.2.1 = k0_pay23 (outsAt0 m c t.val t.isLt).2.2.2.1 (bl m c t) (bm m c t)
    ∧ (outsAt0 m c t.val t.isLt).1 = k0_pay1 (k0_pay24 (bx m c t) (outsAt0 m c t.val t.isLt).2.2.2.1 (bl m c t) (bm m c t) (bu m c t)) (bc m c t) := by
  by_cases h0 : t.val % 32 = 0
  · rw [outsAt0_A m c t h0]; refine ⟨?_, ?_, ?_, ?_⟩ <;> (frame_out <;> rfl)
  · rw [outsAt0_B m c t h0]; refine ⟨?_, ?_, ?_, ?_⟩ <;> (frame_out <;> rfl)

section Rows

variable (S T : ℕ → Fin 1024 → EReal) (b : Fin 1024 → EReal) (t : Fin cfg0.N)
variable (hP : ∀ (r : Fin 256) k, k0_pay6 (bx m c t) (bg m c t) (bw m c t) (bb m c t) (ix2 r k) = S (32 + r.val) k)
  (hT : ∀ (q : Fin 31) k, bt m c t (ix2 q k) = T q.val k) (hb : ∀ k, bd m c t (ix2 0 k) = b k)

set_option maxHeartbeats 2000000 in
include hP hT hb in
theorem conv_A (h0 : t.val % 32 = 0) (hS : ∀ q < 32, ∀ k, S q k = 0) (r : Fin 256) (k : Fin 1024) :
    (outsAt0 m c t.val t.isLt).2.2.2.1 (ix2 r k) = b k + ∑ j ∈ range 31, T j k * S (r.val + j + 2) k := by
  rw [outsAt0_A m c t h0]
  dsimp only
  unfold out0_A_13
  frame_out
  simp only [cov_ld, copies, copy19]
  generalize hXe : View.read (Elt Ideal) (View.whole cc0_scratch0) _ = X
  have hX : ∀ (q : Fin 288) k, X (ix2 q k) = S q.val k := by
    subst hXe
    exact staged S hP (zeros S hS _) _
  refine pay20 S T b r k (hb k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact ld_tap (o := 0) T hT _ k
  · exact copy_rows (n := 280) (b := 2) (o := 0) (i := 0) S hX _ _ _ _ (by decide) rfl r k
  · exact ld_tap (o := 8) T hT _ k
  · exact copy_rows (n := 280) (b := 2) (o := 8) (i := 8) S hX _ _ _ _ (by decide) rfl r k
  · exact ld_tap (o := 16) T hT _ k
  · exact copy_rows (n := 280) (b := 2) (o := 16) (i := 16) S hX _ _ _ _ (by decide) rfl r k
  · exact ld_tap (o := 24) T hT _ k
  · exact copy_rows (n := 280) (b := 2) (o := 24) (i := 24) S hX _ _ _ _ (by decide) rfl r k
  · exact ld_tap (o := 1) T hT _ k
  · exact copy_rows (n := 280) (b := 3) (o := 0) (i := 1) S hX _ _ _ _ (by decide) rfl r k
  · exact ld_tap (o := 9) T hT _ k
  · exact copy_rows (n := 280) (b := 3) (o := 8) (i := 9) S hX _ _ _ _ (by decide) rfl r k
  · exact ld_tap (o := 17) T hT _ k
  · exact copy_rows (n := 280) (b := 3) (o := 16) (i := 17) S hX _ _ _ _ (by decide) rfl r k
  · exact ld_tap (o := 25) T hT _ k
  · exact copy_rows (n := 280) (b := 3) (o := 24) (i := 25) S hX _ _ _ _ (by decide) rfl r k
  · exact ld_tap (o := 2) T hT _ k
  · exact copy_rows (n := 280) (b := 4) (o := 0) (i := 2) S hX _ _ _ _ (by decide) rfl r k
  · exact ld_tap (o := 10) T hT _ k
  · exact copy_rows (n := 280) (b := 4) (o := 8) (i := 10) S hX _ _ _ _ (by decide) rfl r k
  · exact ld_tap (o := 18) T hT _ k
  · exact copy_rows (n := 280) (b := 4) (o := 16) (i := 18) S hX _ _ _ _ (by decide) rfl r k
  · exact ld_tap (o := 26) T hT _ k
  · exact copy_rows (n := 280) (b := 4) (o := 24) (i := 26) S hX _ _ _ _ (by decide) rfl r k
  · exact ld_tap (o := 3) T hT _ k
  · exact copy_rows (n := 280) (b := 5) (o := 0) (i := 3) S hX _ _ _ _ (by decide) rfl r k
  · exact ld_tap (o := 11) T hT _ k
  · exact copy_rows (n := 280) (b := 5) (o := 8) (i := 11) S hX _ _ _ _ (by decide) rfl r k
  · exact ld_tap (o := 19) T hT _ k
  · exact copy_rows (n := 280) (b := 5) (o := 16) (i := 19) S hX _ _ _ _ (by decide) rfl r k
  · exact ld_tap (o := 27) T hT _ k
  · exact copy_rows (n := 280) (b := 5) (o := 24) (i := 27) S hX _ _ _ _ (by decide) rfl r k
  · exact ld_tap (o := 4) T hT _ k
  · exact copy_rows (n := 280) (b := 6) (o := 0) (i := 4) S hX _ _ _ _ (by decide) rfl r k
  · exact ld_tap (o := 12) T hT _ k
  · exact copy_rows (n := 280) (b := 6) (o := 8) (i := 12) S hX _ _ _ _ (by decide) rfl r k
  · exact ld_tap (o := 20) T hT _ k
  · exact copy_rows (n := 280) (b := 6) (o := 16) (i := 20) S hX _ _ _ _ (by decide) rfl r k
  · exact ld_tap (o := 28) T hT _ k
  · exact copy_rows (n := 280) (b := 6) (o := 24) (i := 28) S hX _ _ _ _ (by decide) rfl r k
  · exact ld_tap (o := 5) T hT _ k
  · exact copy_rows (n := 280) (b := 7) (o := 0) (i := 5) S hX _ _ _ _ (by decide) rfl r k
  · exact ld_tap (o := 13) T hT _ k
  · exact copy_rows (n := 280) (b := 7) (o := 8) (i := 13) S hX _ _ _ _ (by decide) rfl r k
  · exact ld_tap (o := 21) T hT _ k
  · exact copy_rows (n := 280) (b := 7) (o := 16) (i := 21) S hX _ _ _ _ (by decide) rfl r k
  · exact ld_tap (o := 29) T hT _ k
  · exact copy_rows (n := 280) (b := 7) (o := 24) (i := 29) S hX _ _ _ _ (by decide) rfl r k
  · exact ld_tap (o := 6) T hT _ k
  · exact copy_rows (n := 280) (b := 8) (o := 0) (i := 6) S hX _ _ _ _ (by decide) rfl r k
  · exact ld_tap (o := 14) T hT _ k
  · exact copy_rows (n := 280) (b := 8) (o := 8) (i := 14) S hX _ _ _ _ (by decide) rfl r k
  · exact ld_tap (o := 22) T hT _ k
  · exact copy_rows (n := 280) (b := 8) (o := 16) (i := 22) S hX _ _ _ _ (by decide) rfl r k
  · exact ld_tap (o := 30) T hT _ k
  · exact copy_rows (n := 280) (b := 8) (o := 24) (i := 30) S hX _ _ _ _ (by decide) rfl r k
  · exact ld_tap (o := 7) T hT _ k
  · exact copy_rows (n := 272) (b := 9) (o := 0) (i := 7) S hX _ _ _ _ (by decide) rfl r k
  · exact ld_tap (o := 15) T hT _ k
  · exact copy_rows (n := 272) (b := 9) (o := 8) (i := 15) S hX _ _ _ _ (by decide) rfl r k
  · exact ld_tap (o := 23) T hT _ k
  · exact copy_rows (n := 272) (b := 9) (o := 16) (i := 23) S hX _ _ _ _ (by decide) rfl r k
set_option maxHeartbeats 2000000 in
include hP hT hb in
theorem conv_B (h0 : ¬t.val % 32 = 0) (hS : ∀ (q : Fin 32) k, (outsAt0 m c (t.val - 1) (by omega)).2.2.2.2.2 (ix2 (⟨q.val, by omega⟩ : Fin 288) k) = S q.val k) (r : Fin 256) (k : Fin 1024) :
    (outsAt0 m c t.val t.isLt).2.2.2.1 (ix2 r k) = b k + ∑ j ∈ range 31, T j k * S (r.val + j + 2) k := by
  rw [outsAt0_B m c t h0]
  dsimp only
  unfold out0_B_13
  frame_out
  simp only [copies, copy19]
  generalize hXe : View.read (Elt Ideal) (View.whole cc0_scratch0) _ = X
  have hX : ∀ (q : Fin 288) k, X (ix2 q k) = S q.val k := by
    subst hXe
    refine staged S hP (fun q k => ?_) _
    simp only [View.writes_nil, read_unread_whole]
    exact hS q k
  refine pay20 S T b r k (hb k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact ld_tap (o := 0) T hT _ k
  · exact copy_rows (n := 280) (b := 2) (o := 0) (i := 0) S hX _ _ _ _ (by decide) rfl r k
  · exact ld_tap (o := 8) T hT _ k
  · exact copy_rows (n := 280) (b := 2) (o := 8) (i := 8) S hX _ _ _ _ (by decide) rfl r k
  · exact ld_tap (o := 16) T hT _ k
  · exact copy_rows (n := 280) (b := 2) (o := 16) (i := 16) S hX _ _ _ _ (by decide) rfl r k
  · exact ld_tap (o := 24) T hT _ k
  · exact copy_rows (n := 280) (b := 2) (o := 24) (i := 24) S hX _ _ _ _ (by decide) rfl r k
  · exact ld_tap (o := 1) T hT _ k
  · exact copy_rows (n := 280) (b := 3) (o := 0) (i := 1) S hX _ _ _ _ (by decide) rfl r k
  · exact ld_tap (o := 9) T hT _ k
  · exact copy_rows (n := 280) (b := 3) (o := 8) (i := 9) S hX _ _ _ _ (by decide) rfl r k
  · exact ld_tap (o := 17) T hT _ k
  · exact copy_rows (n := 280) (b := 3) (o := 16) (i := 17) S hX _ _ _ _ (by decide) rfl r k
  · exact ld_tap (o := 25) T hT _ k
  · exact copy_rows (n := 280) (b := 3) (o := 24) (i := 25) S hX _ _ _ _ (by decide) rfl r k
  · exact ld_tap (o := 2) T hT _ k
  · exact copy_rows (n := 280) (b := 4) (o := 0) (i := 2) S hX _ _ _ _ (by decide) rfl r k
  · exact ld_tap (o := 10) T hT _ k
  · exact copy_rows (n := 280) (b := 4) (o := 8) (i := 10) S hX _ _ _ _ (by decide) rfl r k
  · exact ld_tap (o := 18) T hT _ k
  · exact copy_rows (n := 280) (b := 4) (o := 16) (i := 18) S hX _ _ _ _ (by decide) rfl r k
  · exact ld_tap (o := 26) T hT _ k
  · exact copy_rows (n := 280) (b := 4) (o := 24) (i := 26) S hX _ _ _ _ (by decide) rfl r k
  · exact ld_tap (o := 3) T hT _ k
  · exact copy_rows (n := 280) (b := 5) (o := 0) (i := 3) S hX _ _ _ _ (by decide) rfl r k
  · exact ld_tap (o := 11) T hT _ k
  · exact copy_rows (n := 280) (b := 5) (o := 8) (i := 11) S hX _ _ _ _ (by decide) rfl r k
  · exact ld_tap (o := 19) T hT _ k
  · exact copy_rows (n := 280) (b := 5) (o := 16) (i := 19) S hX _ _ _ _ (by decide) rfl r k
  · exact ld_tap (o := 27) T hT _ k
  · exact copy_rows (n := 280) (b := 5) (o := 24) (i := 27) S hX _ _ _ _ (by decide) rfl r k
  · exact ld_tap (o := 4) T hT _ k
  · exact copy_rows (n := 280) (b := 6) (o := 0) (i := 4) S hX _ _ _ _ (by decide) rfl r k
  · exact ld_tap (o := 12) T hT _ k
  · exact copy_rows (n := 280) (b := 6) (o := 8) (i := 12) S hX _ _ _ _ (by decide) rfl r k
  · exact ld_tap (o := 20) T hT _ k
  · exact copy_rows (n := 280) (b := 6) (o := 16) (i := 20) S hX _ _ _ _ (by decide) rfl r k
  · exact ld_tap (o := 28) T hT _ k
  · exact copy_rows (n := 280) (b := 6) (o := 24) (i := 28) S hX _ _ _ _ (by decide) rfl r k
  · exact ld_tap (o := 5) T hT _ k
  · exact copy_rows (n := 280) (b := 7) (o := 0) (i := 5) S hX _ _ _ _ (by decide) rfl r k
  · exact ld_tap (o := 13) T hT _ k
  · exact copy_rows (n := 280) (b := 7) (o := 8) (i := 13) S hX _ _ _ _ (by decide) rfl r k
  · exact ld_tap (o := 21) T hT _ k
  · exact copy_rows (n := 280) (b := 7) (o := 16) (i := 21) S hX _ _ _ _ (by decide) rfl r k
  · exact ld_tap (o := 29) T hT _ k
  · exact copy_rows (n := 280) (b := 7) (o := 24) (i := 29) S hX _ _ _ _ (by decide) rfl r k
  · exact ld_tap (o := 6) T hT _ k
  · exact copy_rows (n := 280) (b := 8) (o := 0) (i := 6) S hX _ _ _ _ (by decide) rfl r k
  · exact ld_tap (o := 14) T hT _ k
  · exact copy_rows (n := 280) (b := 8) (o := 8) (i := 14) S hX _ _ _ _ (by decide) rfl r k
  · exact ld_tap (o := 22) T hT _ k
  · exact copy_rows (n := 280) (b := 8) (o := 16) (i := 22) S hX _ _ _ _ (by decide) rfl r k
  · exact ld_tap (o := 30) T hT _ k
  · exact copy_rows (n := 280) (b := 8) (o := 24) (i := 30) S hX _ _ _ _ (by decide) rfl r k
  · exact ld_tap (o := 7) T hT _ k
  · exact copy_rows (n := 272) (b := 9) (o := 0) (i := 7) S hX _ _ _ _ (by decide) rfl r k
  · exact ld_tap (o := 15) T hT _ k
  · exact copy_rows (n := 272) (b := 9) (o := 8) (i := 15) S hX _ _ _ _ (by decide) rfl r k
  · exact ld_tap (o := 23) T hT _ k
  · exact copy_rows (n := 272) (b := 9) (o := 16) (i := 23) S hX _ _ _ _ (by decide) rfl r k
include hP in
theorem carry (q : Fin 32) (k : Fin 1024) :
    (outsAt0 m c t.val t.isLt).2.2.2.2.2 (ix2 (⟨q.val, by omega⟩ : Fin 288) k) = S (256 + q.val) k := by
  by_cases h0 : t.val % 32 = 0
  · rw [outsAt0_A m c t h0]
    dsimp only
    unfold sout0_A_0
    frame_out
    simp only [cov_ld, copy21]
    exact (newest _ _ _ q k).trans (last S hP _ _ q k)
  · rw [outsAt0_B m c t h0]
    dsimp only
    unfold sout0_B_0
    frame_out
    simp only [cov_ld, copy21]
    exact (newest _ _ _ q k).trans (last S hP _ _ q k)

end Rows

variable (x : Fin 8192 → Fin 1024 → EReal) (g : Fin 1024 → EReal) (w : Fin 1024 → Fin 2048 → EReal) (b : Fin 2048 → EReal)
  (T : ℕ → Fin 1024 → EReal) (d lg lb : Fin 1024 → EReal) (u : Fin 1024 → Fin 1024 → EReal) (e : Fin 1024 → EReal)
variable (hX : ∀ n k, m ((c.tc : Thread nD τ).loc main_arg0) (ix2 n k) = x n k) (hG : ∀ k, m ((c.tc : Thread nD τ).loc main_arg1) (ix1 k) = g k)
  (hW : ∀ k l, m ((c.tc : Thread nD τ).loc main_arg2) (ix2 k l) = w k l) (hB : ∀ l, m ((c.tc : Thread nD τ).loc main_arg3) (ix1 l) = b l)
  (hT : ∀ (j : Fin 31) k, m ((c.tc : Thread nD τ).loc main_arg4) (ix2 j k) = T j.val k) (hD : ∀ k, m ((c.tc : Thread nD τ).loc main_arg5) (ix1 k) = d k)
  (hLg : ∀ k, m ((c.tc : Thread nD τ).loc main_arg6) (ix1 k) = lg k) (hLb : ∀ k, m ((c.tc : Thread nD τ).loc main_arg7) (ix1 k) = lb k)
  (hU : ∀ k l, m ((c.tc : Thread nD τ).loc main_arg8) (ix2 k l) = u k l) (hE : ∀ k, m ((c.tc : Thread nD τ).loc main_arg9) (ix1 k) = e k)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)
theorem lt32 (t : Fin cfg0.N) : t.val < 32 := lt_of_lt_of_eq t.isLt N_0
/-- The whole row a row of a grid point's tile is. -/
def whole (s : Fin cfg0.N) (r : Fin 256) : Fin 8192 := ⟨256 * s.val + r, by have := lt32 s; omega⟩

include hX in
theorem bx_at (s : Fin cfg0.N) (r : Fin 256) (k : Fin 1024) : bx m c s (ix2 r k) = x (whole s r) k := by
  refine Eq.trans ?_ (hX (whole s r) k)
  unfold bx; blk_simp [iblk, idx s]; entry_read; blk_ext [idx s, whole]
include hG in
theorem bg_at (s : Fin cfg0.N) (k : Fin 1024) : bg m c s (ix2 0 k) = g k := by
  refine Eq.trans ?_ (hG k)
  unfold bg; blk_simp [iblk, idx s]; entry_read; pointwise; blk_ext [idx s]
include hW in
theorem bw_at (s : Fin cfg0.N) (k : Fin 1024) (l : Fin 2048) : bw m c s (ix2 k l) = w k l := by
  refine Eq.trans ?_ (hW k l)
  unfold bw; blk_simp [iblk, idx s]; entry_read; pointwise; blk_ext [idx s]
include hB in
theorem bb_at (s : Fin cfg0.N) (k : Fin 2048) : bb m c s (ix2 0 k) = b k := by
  refine Eq.trans ?_ (hB k)
  unfold bb; blk_simp [iblk, idx s]; entry_read; pointwise; blk_ext [idx s]
include hT in
theorem bt_at (s : Fin cfg0.N) (k : Fin 31) (l : Fin 1024) : bt m c s (ix2 k l) = T k.val l := by
  refine Eq.trans ?_ (hT k l)
  unfold bt; blk_simp [iblk, idx s]; entry_read; blk_ext [idx s]
include hD in
theorem bd_at (s : Fin cfg0.N) (k : Fin 1024) : bd m c s (ix2 0 k) = d k := by
  refine Eq.trans ?_ (hD k)
  unfold bd; blk_simp [iblk, idx s]; entry_read; pointwise; blk_ext [idx s]
include hLg in
theorem bl_at (s : Fin cfg0.N) (k : Fin 1024) : bl m c s (ix2 0 k) = lg k := by
  refine Eq.trans ?_ (hLg k)
  unfold bl; blk_simp [iblk, idx s]; entry_read; pointwise; blk_ext [idx s]
include hLb in
theorem bm_at (s : Fin cfg0.N) (k : Fin 1024) : bm m c s (ix2 0 k) = lb k := by
  refine Eq.trans ?_ (hLb k)
  unfold bm; blk_simp [iblk, idx s]; entry_read; pointwise; blk_ext [idx s]
include hU in
theorem bu_at (s : Fin cfg0.N) (k : Fin 1024) (l : Fin 1024) : bu m c s (ix2 k l) = u k l := by
  refine Eq.trans ?_ (hU k l)
  unfold bu; blk_simp [iblk, idx s]; entry_read; pointwise; blk_ext [idx s]
include hE in
theorem bc_at (s : Fin cfg0.N) (k : Fin 1024) : bc m c s (ix2 0 k) = e k := by
  refine Eq.trans ?_ (hE k)
  unfold bc; blk_simp [iblk, idx s]; entry_read; pointwise; blk_ext [idx s]

/-- The gated rows. -/
def rows (x : Fin 8192 → Fin 1024 → EReal) (g : Fin 1024 → EReal) (w : Fin 1024 → Fin 2048 → EReal) (b : Fin 2048 → EReal) (n : Fin 8192) : Fin 1024 → EReal := glu (pre (x n) g w b)

include hX hG hW hB in
theorem own (s : Fin cfg0.N) (r : Fin 256) (k : Fin 1024) :
    k0_pay6 (bx m c s) (bg m c s) (bw m c s) (bb m c s) (ix2 r k) = behind (rows x g w b) (256 * s.val + (32 + r.val)) k := by
  have := lt32 s
  rw [pay6 (fun r => x (whole s r)) g w b (bx_at m c x hX s) (bg_at m c g hG s) (bw_at m c w hW s) (bb_at m c b hB s) r k, behind, dif_pos (by omega)]
  exact congrArg (fun n => rows x g w b n k) (Fin.ext (by show 256 * s.val + r.val = 256 * s.val + (32 + r.val) - 32; omega))

include hX hG hW hB hT hD in
theorem conv_at (s : Fin cfg0.N) (r : Fin 256) (k : Fin 1024) : (outsAt0 m c s.val s.isLt).2.2.2.1 (ix2 r k) = conv (rows x g w b) T d (whole s r) k := by
  have hs := lt32 s
  have e : d k + ∑ j ∈ range 31, T j k * behind (rows x g w b) (256 * s.val + (r.val + j + 2)) k = conv (rows x g w b) T d (whole s r) k := by
    unfold conv whole
    refine congrArg (d k + ·) (Finset.sum_congr rfl fun j _ => congrArg (fun p => T j k * behind (rows x g w b) p k) ?_)
    show 256 * s.val + (r.val + j + 2) = 256 * s.val + r.val + j + 2
    omega
  rw [← e]
  by_cases h0 : s.val % 32 = 0
  · refine conv_A m c (fun p => behind (rows x g w b) (256 * s.val + p)) T d s (own m c x g w b hX hG hW hB s) (bt_at m c T hT s) (bd_at m c d hD s) h0 (fun q hq k => ?_) r k
    exact dif_neg (by omega)
  · refine conv_B m c (fun p => behind (rows x g w b) (256 * s.val + p)) T d s (own m c x g w b hX hG hW hB s) (bt_at m c T hT s) (bd_at m c d hD s) h0 (fun q k => ?_) r k
    refine (carry m c (fun p => behind (rows x g w b) (256 * (s.val - 1) + p)) ⟨s.val - 1, by have := s.isLt; omega⟩ (own m c x g w b hX hG hW hB ⟨s.val - 1, by have := s.isLt; omega⟩) q k).trans ?_
    exact congrArg (fun p => behind (rows x g w b) p k) (by show 256 * (s.val - 1) + (256 + q.val) = 256 * s.val + q.val; omega)

include hX hG in
theorem final11 : (dats m 0 c).arrAt 11 (cfgs 0).N = fun i : S8192x1024.Idx => nrm (x (i 0)) g (i 1) := by
  refine (dats m 0 c).arrAt_eq_of_covers 11 _ (by decide +kernel) fun s _ y => ?_
  blk_simp
  rw [after0_11, (still m c s).1]
  idx_vars y
  refine (pay4 (fun r => x (whole s r)) g (bx_at m c x hX s) (bg_at m c g hG s) y0 y1).trans ?_
  have e : ((View.whole main_v8_1).slice (win0_11.rect s)).emb (ix2 y0 y1) = ix2 (whole s y0) y1 := by
    blk_ext [idx s, whole]
  rw [e]; rfl

include hX hG hW hB in
theorem final12 : (dats m 0 c).arrAt 12 (cfgs 0).N = fun i : S8192x2048.Idx => pre (x (i 0)) g w b (i 1) := by
  refine (dats m 0 c).arrAt_eq_of_covers 12 _ (by decide +kernel) fun s _ y => ?_
  blk_simp
  rw [after0_12, (still m c s).2.1]
  idx_vars y
  refine (pay5 (fun r => x (whole s r)) g w b (bx_at m c x hX s) (bg_at m c g hG s) (bw_at m c w hW s) (bb_at m c b hB s) y0 y1).trans ?_
  have e : ((View.whole main_v8_2).slice (win0_12.rect s)).emb (ix2 y0 y1) = ix2 (whole s y0) y1 := by
    blk_ext [idx s, whole]
  rw [e]; rfl

include hX hG hW hB hT hD in
theorem final13 : (dats m 0 c).arrAt 13 (cfgs 0).N = fun i : S8192x1024.Idx => conv (rows x g w b) T d (i 0) (i 1) := by
  refine (dats m 0 c).arrAt_eq_of_covers 13 _ (by decide +kernel) fun s _ y => ?_
  blk_simp
  rw [after0_13]
  idx_vars y
  refine (conv_at m c x g w b T d hX hG hW hB hT hD s y0 y1).trans ?_
  have e : ((View.whole main_v8_3).slice (win0_13.rect s)).emb (ix2 y0 y1) = ix2 (whole s y0) y1 := by
    blk_ext [idx s, whole]
  rw [e]; rfl

include hX hG hW hB hT hD hLg hLb in
theorem final14 : (dats m 0 c).arrAt 14 (cfgs 0).N = fun i : S8192x1024.Idx => swish (conv (rows x g w b) T d (i 0)) lg lb (i 1) := by
  refine (dats m 0 c).arrAt_eq_of_covers 14 _ (by decide +kernel) fun s _ y => ?_
  blk_simp
  rw [after0_14, (still m c s).2.2.1]
  idx_vars y
  refine (pay23 (fun r => conv (rows x g w b) T d (whole s r)) lg lb (conv_at m c x g w b T d hX hG hW hB hT hD s) (bl_at m c lg hLg s) (bm_at m c lb hLb s) y0 y1).trans ?_
  have e : ((View.whole main_v8_4).slice (win0_14.rect s)).emb (ix2 y0 y1) = ix2 (whole s y0) y1 := by
    blk_ext [idx s, whole]
  rw [e]; rfl

include hX hG hW hB hT hD hLg hLb hU hE in
theorem final10 : (dats m 0 c).arrAt 10 (cfgs 0).N = fun i : S8192x1024.Idx => x (i 0) (i 1) + proj (swish (conv (rows x g w b) T d (i 0)) lg lb) u (i 1) + e (i 1) := by
  refine (dats m 0 c).arrAt_eq_of_covers 10 _ (by decide +kernel) fun s _ y => ?_
  blk_simp
  rw [after0_10, (still m c s).2.2.2]
  idx_vars y
  refine (pay1 (fun r => x (whole s r)) (bx_at m c x hX s) (fun r => conv (rows x g w b) T d (whole s r)) lg lb e u (conv_at m c x g w b T d hX hG hW hB hT hD s) (bl_at m c lg hLg s) (bm_at m c lb hLb s) (bu_at m c u hU s) (bc_at m c e hE s) y0 y1).trans ?_
  have e : ((View.whole main_v8_0).slice (win0_10.rect s)).emb (ix2 y0 y1) = ix2 (whole s y0) y1 := by
    blk_ext [idx s, whole]
  rw [e]; rfl

end Cert.ConvFwdIdeal.Causal

end
-- ==== Proof.CausalRef.lean ====
/- The reference's own run of the causal convolution, over the extended reals. -/
module

public import proofs.«01_k».proof.Proof.Gen.ConvFwdRefIdeal.Run
public import proofs.«01_k».proof.Proof.CausalRow

@[expose] public section

set_option maxRecDepth 16384

noncomputable section

open Idealize.ShloMosaic Idealize.ShloMosaic.TcCoe Idealize.SL.Sem
open Finset (range)

namespace Cert.ConvFwdRefIdeal.Causal

open Cert.ConvFwdRefIdeal Cert.ConvFwdRefIdeal.Gen Cert.ConvFwdRefIdeal.Value Cert.Lift Cert.Fwd Cert.Causal

section Values

variable {V : Valuation τ sig (Elt Ideal)}
variable (x : Fin 8192 → Fin 1024 → EReal) (g : Fin 1024 → EReal) (w : Fin 1024 → Fin 2048 → EReal) (b : Fin 2048 → EReal)
  (T : ℕ → Fin 1024 → EReal) (d lg lb : Fin 1024 → EReal) (u : Fin 1024 → Fin 1024 → EReal) (e : Fin 1024 → EReal)
variable (hX : ∀ n k, V (Proc.devRef .tc main_arg0) (ix2 n k) = x n k) (hG : ∀ k, V (Proc.devRef .tc main_arg1) (ix1 k) = g k)
  (hW : ∀ k l, V (Proc.devRef .tc main_arg2) (ix2 k l) = w k l) (hB : ∀ l, V (Proc.devRef .tc main_arg3) (ix1 l) = b l)
  (hT : ∀ (j : Fin 31) k, V (Proc.devRef .tc main_arg4) (ix2 j k) = T j.val k) (hD : ∀ k, V (Proc.devRef .tc main_arg5) (ix1 k) = d k)
  (hLg : ∀ k, V (Proc.devRef .tc main_arg6) (ix1 k) = lg k) (hLb : ∀ k, V (Proc.devRef .tc main_arg7) (ix1 k) = lb k)
  (hU : ∀ k l, V (Proc.devRef .tc main_arg8) (ix2 k l) = u k l) (hE : ∀ k, V (Proc.devRef .tc main_arg9) (ix1 k) = e k)

include hX hG in
theorem v12 (n : Fin 8192) (k : Fin 1024) : res_main_v12 V (ix2 n k) = nrm (x n) g k := by
  pointwise [res_main_v12]
  simp only [hX, hG, c_zero, EReal.coe_zero, zero_add]
  rfl
include hX hG hW hB in
theorem v16 (n : Fin 8192) (l : Fin 2048) : res_main_v16 V (ix2 n l) = pre (x n) g w b l := by
  pointwise [res_main_v16]
  simp only [v12 x g hX hG, hW, hB, c_zero, EReal.coe_zero, zero_add]
  rfl
include hX hG hW hB in
theorem v27 (p : Fin 8222) (k : Fin 1024) : res_main_v27 V (ix2 p k) = behind (fun n => glu (pre (x n) g w b)) (p.val + 2) k := by
  pointwise [res_main_v27]
  unfold behind
  by_cases h : p.val < 30
  · rw [dif_pos h, dif_neg (by omega)]
  · have h' := p.isLt
    rw [dif_neg h, dif_pos (by omega), v16 x g w b hX hG hW hB, v16 x g w b hX hG hW hB]
    have e : (⟨p.val - 30, by omega⟩ : Fin 8192) = ⟨p.val + 2 - 32, by omega⟩ := Fin.ext (by show p.val - 30 = p.val + 2 - 32; omega)
    rw [e]
    rfl

/-- One tap's product at a row. -/
def term (x : Fin 8192 → Fin 1024 → EReal) (g : Fin 1024 → EReal) (w : Fin 1024 → Fin 2048 → EReal) (b : Fin 2048 → EReal) (T : ℕ → Fin 1024 → EReal) (n : Fin 8192) (k : Fin 1024) (j : ℕ) : EReal :=
  T j k * behind (fun n => glu (pre (x n) g w b)) (n.val + j + 2) k

include hX hG hW hB hT in
theorem tap (n : Fin 8192) (k : Fin 1024) (j : Fin 31) (h : j.val + n.val < 8222) :
    @HMul.hMul EReal EReal EReal _ (res_main_v27 V (ix2 (⟨j.val + n.val, h⟩ : Fin 8222) k)) (V (Proc.devRef .tc main_arg4) (ix2 j k)) = term x g w b T n k j.val := by
  rw [v27 x g w b hX hG hW hB, hT]
  exact (mul_comm _ _).trans (congrArg (fun p => T j.val k * behind (fun n => glu (pre (x n) g w b)) p k) (by show j.val + n.val + 2 = n.val + j.val + 2; omega))
include hX hG hW hB hT in
theorem tap0 (n : Fin 8192) (k : Fin 1024) :
    @HMul.hMul EReal EReal EReal _ (res_main_v27 V (ix2 (⟨n.val, by omega⟩ : Fin 8222) k)) (V (Proc.devRef .tc main_arg4) (ix2 0 k)) = term x g w b T n k 0 := by
  rw [v27 x g w b hX hG hW hB, hT]
  exact mul_comm _ _

/-- The products in the order of the taps. -/
theorem first (f : ℕ → EReal) : ∑ j ∈ range 11, f j = f 0 + f 1 + f 2 + f 3 + f 4 + f 5 + f 6 + f 7 + f 8 + f 9 + f 10 := by simp only [Finset.sum_range_succ, Finset.sum_range_zero, zero_add]
theorem second (f : ℕ → EReal) : ∑ j ∈ range 22, f j = ∑ j ∈ range 11, f j + f 11 + f 12 + f 13 + f 14 + f 15 + f 16 + f 17 + f 18 + f 19 + f 20 + f 21 := by simp only [Finset.sum_range_succ]
theorem third (f : ℕ → EReal) : ∑ j ∈ range 31, f j = ∑ j ∈ range 22, f j + f 22 + f 23 + f 24 + f 25 + f 26 + f 27 + f 28 + f 29 + f 30 := by simp only [Finset.sum_range_succ]

include hX hG hW hB hT in
theorem v105 (n : Fin 8192) (k : Fin 1024) : res_main_v105 V (ix2 n k) = ∑ j ∈ range 11, term x g w b T n k j := by
  rw [first]
  pointwise [res_main_v105]
  exact (plus (plus (plus (plus (plus (plus (plus (plus (plus (plus (tap0 x g w b T hX hG hW hB hT n k) (tap x g w b T hX hG hW hB hT n k 1 _)) (tap x g w b T hX hG hW hB hT n k 2 _)) (tap x g w b T hX hG hW hB hT n k 3 _)) (tap x g w b T hX hG hW hB hT n k 4 _)) (tap x g w b T hX hG hW hB hT n k 5 _)) (tap x g w b T hX hG hW hB hT n k 6 _)) (tap x g w b T hX hG hW hB hT n k 7 _)) (tap x g w b T hX hG hW hB hT n k 8 _)) (tap x g w b T hX hG hW hB hT n k 9 _)) (tap x g w b T hX hG hW hB hT n k 10 _))
include hX hG hW hB hT in
theorem v182 (n : Fin 8192) (k : Fin 1024) : res_main_v182 V (ix2 n k) = ∑ j ∈ range 22, term x g w b T n k j := by
  rw [second]
  pointwise [res_main_v182]
  exact (plus (plus (plus (plus (plus (plus (plus (plus (plus (plus (plus (v105 x g w b T hX hG hW hB hT n k) (tap x g w b T hX hG hW hB hT n k 11 _)) (tap x g w b T hX hG hW hB hT n k 12 _)) (tap x g w b T hX hG hW hB hT n k 13 _)) (tap x g w b T hX hG hW hB hT n k 14 _)) (tap x g w b T hX hG hW hB hT n k 15 _)) (tap x g w b T hX hG hW hB hT n k 16 _)) (tap x g w b T hX hG hW hB hT n k 17 _)) (tap x g w b T hX hG hW hB hT n k 18 _)) (tap x g w b T hX hG hW hB hT n k 19 _)) (tap x g w b T hX hG hW hB hT n k 20 _)) (tap x g w b T hX hG hW hB hT n k 21 _))
include hX hG hW hB hT hD in
theorem v248 (n : Fin 8192) (k : Fin 1024) : res_main_v248 V (ix2 n k) = conv (fun n => glu (pre (x n) g w b)) T d n k := by
  unfold conv
  refine Eq.trans ?_ (congrArg (d k + ·) (third (term x g w b T n k)).symm)
  pointwise [res_main_v248]
  exact (plus (plus (plus (plus (plus (plus (plus (plus (plus (plus (v182 x g w b T hX hG hW hB hT n k) (tap x g w b T hX hG hW hB hT n k 22 _)) (tap x g w b T hX hG hW hB hT n k 23 _)) (tap x g w b T hX hG hW hB hT n k 24 _)) (tap x g w b T hX hG hW hB hT n k 25 _)) (tap x g w b T hX hG hW hB hT n k 26 _)) (tap x g w b T hX hG hW hB hT n k 27 _)) (tap x g w b T hX hG hW hB hT n k 28 _)) (tap x g w b T hX hG hW hB hT n k 29 _)) (tap x g w b T hX hG hW hB hT n k 30 _)) (hD k)).trans (add_comm (G := EReal) _ _)

variable (z : Fin 8192 → Fin 1024 → EReal) (hZ : ∀ n k, res_main_v248 V (ix2 n k) = z n k)

include hZ in
theorem v254 (n : Fin 8192) (k : Fin 1024) : res_main_v254 V (ix2 n k) = off (z n) k := by
  pointwise [res_main_v254]
  simp only [hZ]
  rfl
include hZ hLg hLb in
theorem v270 (n : Fin 8192) (k : Fin 1024) : res_main_v270 V (ix2 n k) = layer (z n) lg lb k := by
  pointwise [res_main_v270]
  simp only [v254 z hZ, hLg, hLb]
  rfl
include hZ hLg hLb in
theorem v271 (n : Fin 8192) (k : Fin 1024) : res_main_v271 V (ix2 n k) = swish (z n) lg lb k := by
  pointwise [res_main_v271]
  simp only [v270 lg lb hLg hLb z hZ]
  rfl

end Values

theorem run_rows (m : (ℓ : Loc nD τ sig) → Buf (Elt Ideal) ℓ) (x : Dev nD → Fin 8192 → Fin 1024 → EReal) (g : Dev nD → Fin 1024 → EReal) (w : Dev nD → Fin 1024 → Fin 2048 → EReal) (b : Dev nD → Fin 2048 → EReal)
    (T : Dev nD → ℕ → Fin 1024 → EReal) (d lg lb : Dev nD → Fin 1024 → EReal) (u : Dev nD → Fin 1024 → Fin 1024 → EReal) (e : Dev nD → Fin 1024 → EReal)
    (hX : ∀ (c : Dev nD) p q, m ((c.tc : Thread nD τ).loc main_arg0) (ix2 p q) = x c p q)
    (hG : ∀ (c : Dev nD) p, m ((c.tc : Thread nD τ).loc main_arg1) (ix1 p) = g c p)
    (hW : ∀ (c : Dev nD) p q, m ((c.tc : Thread nD τ).loc main_arg2) (ix2 p q) = w c p q)
    (hB : ∀ (c : Dev nD) p, m ((c.tc : Thread nD τ).loc main_arg3) (ix1 p) = b c p)
    (hT : ∀ (c : Dev nD) (j : Fin 31) k, m ((c.tc : Thread nD τ).loc main_arg4) (ix2 j k) = T c j.val k)
    (hD : ∀ (c : Dev nD) p, m ((c.tc : Thread nD τ).loc main_arg5) (ix1 p) = d c p)
    (hLg : ∀ (c : Dev nD) p, m ((c.tc : Thread nD τ).loc main_arg6) (ix1 p) = lg c p)
    (hLb : ∀ (c : Dev nD) p, m ((c.tc : Thread nD τ).loc main_arg7) (ix1 p) = lb c p)
    (hU : ∀ (c : Dev nD) p q, m ((c.tc : Thread nD τ).loc main_arg8) (ix2 p q) = u c p q)
    (hE : ∀ (c : Dev nD) p, m ((c.tc : Thread nD τ).loc main_arg9) (ix1 p) = e c p)
    (ρ : Dev nD → PrngReg) : θ_run defs (onTc (τ := τ) (main (F := Ideal))) ⟨m, fun _ => 0, ρ⟩ (fun r => ∀ c : Dev nD,
    r.2.mem ((c.tc : Thread nD τ).loc main_v276) = (fun i : S8192x1024.Idx => x c (i 0) (i 1) + proj (swish (conv (fun n => glu (pre (x c n) (g c) (w c) (b c))) (T c) (d c) (i 0)) (lg c) (lb c)) (u c) (i 1) + e c (i 1))
    ∧ r.2.mem ((c.tc : Thread nD τ).loc main_v277) = (fun i : S8192x1024.Idx => nrm (x c (i 0)) (g c) (i 1))
    ∧ r.2.mem ((c.tc : Thread nD τ).loc main_v16) = (fun i : S8192x2048.Idx => pre (x c (i 0)) (g c) (w c) (b c) (i 1))
    ∧ r.2.mem ((c.tc : Thread nD τ).loc main_v248) = (fun i : S8192x1024.Idx => conv (fun n => glu (pre (x c n) (g c) (w c) (b c))) (T c) (d c) (i 0) (i 1))
    ∧ r.2.mem ((c.tc : Thread nD τ).loc main_v278) = (fun i : S8192x1024.Idx => swish (conv (fun n => glu (pre (x c n) (g c) (w c) (b c))) (T c) (d c) (i 0)) (lg c) (lb c) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2⟩) (run m ρ)
  all_goals funext i; idx_vars i; clear h
  · have hz := v248 (V := StableHlo.launchContents m c) (x c) (g c) (w c) (b c) (T c) (d c) (hX c) (hG c) (hW c) (hB c) (hT c) (hD c)
    have hs := v271 (V := StableHlo.launchContents m c) (lg c) (lb c) (hLg c) (hLb c) _ hz
    have hu : ∀ k l, StableHlo.launchContents m c (Proc.devRef .tc main_arg8) (ix2 k l) = u c k l := hU c
    have he : ∀ k, StableHlo.launchContents m c (Proc.devRef .tc main_arg9) (ix1 k) = e c k := hE c
    have hx : ∀ n k, StableHlo.launchContents m c (Proc.devRef .tc main_arg0) (ix2 n k) = x c n k := hX c
    pointwise []
    simp only [hx, hs, hu, he]
    exact (add_assoc _ _ _).symm
  · exact v12 (V := StableHlo.launchContents m c) (x c) (g c) (hX c) (hG c) i0 i1
  · exact v16 (V := StableHlo.launchContents m c) (x c) (g c) (w c) (b c) (hX c) (hG c) (hW c) (hB c) i0 i1
  · exact v248 (V := StableHlo.launchContents m c) (x c) (g c) (w c) (b c) (T c) (d c) (hX c) (hG c) (hW c) (hB c) (hT c) (hD c) i0 i1
  · exact v271 (V := StableHlo.launchContents m c) (lg c) (lb c) (hLg c) (hLb c) _ (v248 (V := StableHlo.launchContents m c) (x c) (g c) (w c) (b c) (T c) (d c) (hX c) (hG c) (hW c) (hB c) (hT c) (hD c)) i0 i1

end Cert.ConvFwdRefIdeal.Causal

end
-- ==== Proof.CausalClaim.lean ====
/- The causal convolution against its forward lines: both programs leave the same arrays. -/
module

public import proofs.«01_k».proof.Defs
public import proofs.«01_k».proof.Proof.Gen.ConvFwdIdeal.Value
public import proofs.«01_k».proof.Proof.CausalFinal
public import proofs.«01_k».proof.Proof.CausalRef
public import Idealize.ShloMosaic.Lib.Claim

@[expose] public section

set_option maxRecDepth 16384

noncomputable section

open Idealize.ShloMosaic Idealize.ShloMosaic.TcCoe Idealize.SL.Sem

namespace Cert.Causal

open Cert.Fwd ConvFwdIdeal

/-- The reference runs to the end, leaves its arguments alone and every semaphore at zero. -/
theorem frame : Cert.quiescent_ConvFwdRefIdeal := fun m ρ _ =>
  (θ_run _ _ _).mono (fun r h => ⟨fun c => (h c).2.2.2.2.2, sem_eq_zero_of_no_sems (by decide) r.2⟩) (Cert.ConvFwdRefIdeal.Value.run m ρ)

set_option maxHeartbeats 2000000 in
theorem algebraic : Cert.algebraic_ConvFwdIdeal_ConvFwdRefIdeal := by
  intro m ρ m' ρ' _ hagree
  obtain ⟨x, hX⟩ := rows fun (c : Dev nD) (a : Fin 8192) (b : Fin 1024) => (m ((c.tc : Thread nD τ).loc main_arg0) (ix2 a b) : EReal)
  obtain ⟨g, hG⟩ := row fun (c : Dev nD) (a : Fin 1024) => (m ((c.tc : Thread nD τ).loc main_arg1) (ix1 a) : EReal)
  obtain ⟨w, hW⟩ := rows fun (c : Dev nD) (a : Fin 1024) (b : Fin 2048) => (m ((c.tc : Thread nD τ).loc main_arg2) (ix2 a b) : EReal)
  obtain ⟨b, hB⟩ := row fun (c : Dev nD) (a : Fin 2048) => (m ((c.tc : Thread nD τ).loc main_arg3) (ix1 a) : EReal)
  obtain ⟨T, hT⟩ : ∃ v : Dev nD → ℕ → Fin 1024 → EReal, ∀ (c : Dev nD) (j : Fin 31) k, m ((c.tc : Thread nD τ).loc main_arg4) (ix2 j k) = v c j.val k := ⟨fun c j k => if h : j < 31 then m ((c.tc : Thread nD τ).loc main_arg4) (ix2 (⟨j, h⟩ : Fin 31) k) else 0, fun c j k => by simp only [dif_pos j.isLt, Fin.eta]⟩
  obtain ⟨d, hD⟩ := row fun (c : Dev nD) (a : Fin 1024) => (m ((c.tc : Thread nD τ).loc main_arg5) (ix1 a) : EReal)
  obtain ⟨lg, hLg⟩ := row fun (c : Dev nD) (a : Fin 1024) => (m ((c.tc : Thread nD τ).loc main_arg6) (ix1 a) : EReal)
  obtain ⟨lb, hLb⟩ := row fun (c : Dev nD) (a : Fin 1024) => (m ((c.tc : Thread nD τ).loc main_arg7) (ix1 a) : EReal)
  obtain ⟨u, hU⟩ := rows fun (c : Dev nD) (a : Fin 1024) (b : Fin 1024) => (m ((c.tc : Thread nD τ).loc main_arg8) (ix2 a b) : EReal)
  obtain ⟨e, hE⟩ := row fun (c : Dev nD) (a : Fin 1024) => (m ((c.tc : Thread nD τ).loc main_arg9) (ix1 a) : EReal)
  refine ⟨fun c => fun i : S8192x1024.Idx => x c (i 0) (i 1) + proj (swish (conv (fun n => glu (pre (x c n) (g c) (w c) (b c))) (T c) (d c) (i 0)) (lg c) (lb c)) (u c) (i 1) + e c (i 1),
    fun c => fun i : S8192x1024.Idx => nrm (x c (i 0)) (g c) (i 1),
    fun c => fun i : S8192x2048.Idx => pre (x c (i 0)) (g c) (w c) (b c) (i 1),
    fun c => fun i : S8192x1024.Idx => conv (fun n => glu (pre (x c n) (g c) (w c) (b c))) (T c) (d c) (i 0) (i 1),
    fun c => fun i : S8192x1024.Idx => swish (conv (fun n => glu (pre (x c n) (g c) (w c) (b c))) (T c) (d c) (i 0)) (lg c) (lb c) (i 1), ?_, ?_⟩
  · run_from Cert.ConvFwdIdeal.Value.run_blocks m ρ
    · exact Causal.final10 m c (x c) (g c) (w c) (b c) (T c) (d c) (lg c) (lb c) (u c) (e c) (hX c) (hG c) (hW c) (hB c) (hT c) (hD c) (hLg c) (hLb c) (hU c) (hE c)
    · exact Causal.final11 m c (x c) (g c) (hX c) (hG c)
    · exact Causal.final12 m c (x c) (g c) (w c) (b c) (hX c) (hG c) (hW c) (hB c)
    · exact Causal.final13 m c (x c) (g c) (w c) (b c) (T c) (d c) (hX c) (hG c) (hW c) (hB c) (hT c) (hD c)
    · exact Causal.final14 m c (x c) (g c) (w c) (b c) (T c) (d c) (lg c) (lb c) (hX c) (hG c) (hW c) (hB c) (hT c) (hD c) (hLg c) (hLb c)
  · refine (θ_run _ _ _).mono (fun _ h => h) (ConvFwdRefIdeal.Causal.run_rows m' x g w b T d lg lb u e (fun c p q => ?_) (fun c p => ?_) (fun c p q => ?_) (fun c p => ?_) (fun c p q => ?_) (fun c p => ?_) (fun c p => ?_) (fun c p => ?_) (fun c p q => ?_) (fun c p => ?_) ρ')
    · rw [(hagree c).1]; exact hX c p q
    · rw [(hagree c).2.1]; exact hG c p
    · rw [(hagree c).2.2.1]; exact hW c p q
    · rw [(hagree c).2.2.2.1]; exact hB c p
    · rw [(hagree c).2.2.2.2.1]; exact hT c p q
    · rw [(hagree c).2.2.2.2.2.1]; exact hD c p
    · rw [(hagree c).2.2.2.2.2.2.1]; exact hLg c p
    · rw [(hagree c).2.2.2.2.2.2.2.1]; exact hLb c p
    · rw [(hagree c).2.2.2.2.2.2.2.2.1]; exact hU c p q
    · rw [(hagree c).2.2.2.2.2.2.2.2.2]; exact hE c p

end Cert.Causal

end
-- ==== Proof.ProjectKern.lean ====
/- The output projection: what each grid point leaves, and the result array after the run, over the extended reals. -/
module

public import proofs.«01_k».proof.Proof.Gen.OutFwdIdeal.Frame
public import Idealize.ShloMosaic.Lib.Pipeline.ValueKit
public import proofs.«01_k».proof.Proof.Fwd

@[expose] public section

set_option maxRecDepth 16384

noncomputable section

open Idealize.ShloMosaic Idealize.ShloMosaic.TcCoe Idealize.SL.Sem
open Idealize.ShloMosaic.Pipeline (Dat)

namespace Cert.OutFwdIdeal.Project

open Cert.OutFwdIdeal Cert.OutFwdIdeal.Gen Cert.Fwd

theorem pay (x o : Fin 256 → Fin 1024 → EReal) (w : Fin 1024 → Fin 1024 → EReal)
    {X : FVec Ideal S256x1024 .f32} {O : FVec Ideal S256x1024 .bf16} {W : FVec Ideal S1024x1024 .bf16}
    (hX : ∀ a b, X (ix2 a b) = x a b) (hO : ∀ a b, O (ix2 a b) = o a b) (hW : ∀ a b, W (ix2 a b) = w a b)
    (r : Fin 256) (k : Fin 1024) : k0_pay1 (F := Ideal) X O W (ix2 r k) = x r k + proj (o r) w k := by
  pointwise [k0_pay1]
  simp only [hX, hO, hW]
  rfl

variable (m : (ℓ : Loc nD τ sig) → Buf (Elt Ideal) ℓ) (c : Dev nD)

theorem outs (t : Fin cfg0.N) : (dats m 0 c).after 3 t = k0_pay1 (iblk m c 0 t) (iblk m c 1 t) (iblk m c 2 t) := by
  rw [after0_3]; unfold out0_3; frame_out <;> rfl

variable (x o : Fin 8192 → Fin 1024 → EReal) (w : Fin 1024 → Fin 1024 → EReal)
variable (hX : ∀ a b, m ((c.tc : Thread nD τ).loc main_arg0) (ix2 a b) = x a b)
  (hO : ∀ a b, m ((c.tc : Thread nD τ).loc main_arg1) (ix2 a b) = o a b)
  (hW : ∀ a b, m ((c.tc : Thread nD τ).loc main_arg2) (ix2 a b) = w a b)

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The whole row a row of a grid point's tile is. -/
def whole (s : Fin cfg0.N) (r : Fin 256) : Fin 8192 := ⟨256 * s.val + r, by have := lt_of_lt_of_eq s.isLt N_0; omega⟩

include hX in
theorem bx_at (s : Fin cfg0.N) (r : Fin 256) (k : Fin 1024) : (iblk m c 0 s : Vec Ideal S256x1024 .f32) (ix2 r k) = x (whole s r) k := by
  refine Eq.trans ?_ (hX (whole s r) k)
  blk_simp [iblk, idx s]; entry_read; blk_ext [idx s, whole]
include hO in
theorem bo_at (s : Fin cfg0.N) (r : Fin 256) (k : Fin 1024) : (iblk m c 1 s : Vec Ideal S256x1024 .bf16) (ix2 r k) = o (whole s r) k := by
  refine Eq.trans ?_ (hO (whole s r) k)
  blk_simp [iblk, idx s]; entry_read; pointwise; blk_ext [idx s, whole]
include hW in
theorem bw_at (s : Fin cfg0.N) (k j : Fin 1024) : (iblk m c 2 s : Vec Ideal S1024x1024 .bf16) (ix2 k j) = w k j := by
  refine Eq.trans ?_ (hW k j)
  blk_simp [iblk, idx s]; entry_read; pointwise; blk_ext [idx s]

include hX hO hW in
theorem final : (dats m 0 c).arrAt 3 (cfgs 0).N = fun i : S8192x1024.Idx => x (i 0) (i 1) + proj (o (i 0)) w (i 1) := by
  refine (dats m 0 c).arrAt_eq_of_covers 3 _ (by decide +kernel) fun s _ y => ?_
  blk_simp
  rw [outs m c s]
  idx_vars y
  refine (pay (fun r => x (whole s r)) (fun r => o (whole s r)) w (bx_at m c x hX s) (bo_at m c o hO s) (bw_at m c w hW s) y0 y1).trans ?_
  have e : ((View.whole main_v2).slice (win0_3.rect s)).emb (ix2 y0 y1) = ix2 (whole s y0) y1 := by
    blk_ext [idx s, whole]
  rw [e]; rfl

end Cert.OutFwdIdeal.Project

end
-- ==== Proof.ProjectRef.lean ====
/- The reference's own run of the output projection, over the extended reals. -/
module

public import proofs.«01_k».proof.Proof.Gen.OutFwdRefIdeal.Run
public import proofs.«01_k».proof.Proof.Fwd

@[expose] public section

set_option maxRecDepth 16384

noncomputable section

open Idealize.ShloMosaic Idealize.ShloMosaic.TcCoe Idealize.SL.Sem

namespace Cert.OutFwdRefIdeal.Project

open Cert.OutFwdRefIdeal Cert.OutFwdRefIdeal.Gen Cert.OutFwdRefIdeal.Value Cert.Lift Cert.Fwd

theorem run_rows (m : (ℓ : Loc nD τ sig) → Buf (Elt Ideal) ℓ) (x o : Dev nD → Fin 8192 → Fin 1024 → EReal) (w : Dev nD → Fin 1024 → Fin 1024 → EReal)
    (hX : ∀ (c : Dev nD) a b, m ((c.tc : Thread nD τ).loc main_arg0) (ix2 a b) = x c a b)
    (hO : ∀ (c : Dev nD) a b, m ((c.tc : Thread nD τ).loc main_arg1) (ix2 a b) = o c a b)
    (hW : ∀ (c : Dev nD) a b, m ((c.tc : Thread nD τ).loc main_arg2) (ix2 a b) = w c a b)
    (ρ : Dev nD → PrngReg) : θ_run defs (onTc (τ := τ) (main (F := Ideal))) ⟨m, fun _ => 0, ρ⟩ (fun r => ∀ c : Dev nD,
    r.2.mem ((c.tc : Thread nD τ).loc main_v1) = (fun i : S8192x1024.Idx => x c (i 0) (i 1) + proj (o c (i 0)) (w c) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun _ h c => ⟨(h c).1.trans ?_, (h c).2⟩) (run m ρ)
  funext i; idx_vars i; clear h; pointwise []
  simp only [hX, hO, hW, c_zero, EReal.coe_zero, zero_add]
  rfl

end Cert.OutFwdRefIdeal.Project

end
-- ==== Proof.ProjectClaim.lean ====
/- The output projection against its forward line: both programs leave the same array. -/
module

public import proofs.«01_k».proof.Defs
public import proofs.«01_k».proof.Proof.Gen.OutFwdIdeal.Value
public import proofs.«01_k».proof.Proof.ProjectKern
public import proofs.«01_k».proof.Proof.ProjectRef
public import Idealize.ShloMosaic.Lib.Claim

@[expose] public section

set_option maxRecDepth 16384

noncomputable section

open Idealize.ShloMosaic Idealize.ShloMosaic.TcCoe Idealize.SL.Sem

namespace Cert.Project

open Cert.Fwd OutFwdIdeal

/-- The reference runs to the end, leaves its arguments alone and every semaphore at zero. -/
theorem frame : Cert.quiescent_OutFwdRefIdeal := fun m ρ _ =>
  (θ_run _ _ _).mono (fun r h => ⟨fun c => (h c).2, sem_eq_zero_of_no_sems (by decide) r.2⟩) (Cert.OutFwdRefIdeal.Value.run m ρ)

theorem algebraic : Cert.algebraic_OutFwdIdeal_OutFwdRefIdeal := by
  intro m ρ m' ρ' _ hagree
  obtain ⟨x, hX⟩ := rows fun (c : Dev nD) (a : Fin 8192) (b : Fin 1024) => (m ((c.tc : Thread nD τ).loc main_arg0) (ix2 a b) : EReal)
  obtain ⟨o, hO⟩ := rows fun (c : Dev nD) (a : Fin 8192) (b : Fin 1024) => (m ((c.tc : Thread nD τ).loc main_arg1) (ix2 a b) : EReal)
  obtain ⟨w, hW⟩ := rows fun (c : Dev nD) (a : Fin 1024) (b : Fin 1024) => (m ((c.tc : Thread nD τ).loc main_arg2) (ix2 a b) : EReal)
  refine ⟨fun c => fun i : S8192x1024.Idx => x c (i 0) (i 1) + proj (o c (i 0)) (w c) (i 1), ?_, ?_⟩
  · run_from Cert.OutFwdIdeal.Value.run_blocks m ρ
    exact Project.final m c (x c) (o c) (w c) (hX c) (hO c) (hW c)
  · refine (θ_run _ _ _).mono (fun _ h => h) (OutFwdRefIdeal.Project.run_rows m' x o w (fun c a b => ?_) (fun c a b => ?_) (fun c a b => ?_) ρ')
    · rw [(hagree c).1]; exact hX c a b
    · rw [(hagree c).2.1]; exact hO c a b
    · rw [(hagree c).2.2]; exact hW c a b

end Cert.Project

end
-- ==== Proof.WeightSum.lean ====
/- The gradient of a weight matrix: one array's columns against another's, summed over all rows, and over the runs of rows a grid takes. -/
module

public import proofs.«01_k».proof.Proof.Fwd

@[expose] public section

set_option maxRecDepth 16384

noncomputable section

open Idealize.ShloMosaic Idealize.ShloMosaic.TcCoe Idealize.SL.Sem

namespace Cert.Weight

/-- The sum over the rows of one array's column times another's. -/
def outer {M N : ℕ} (a : Fin 8192 → Fin M → EReal) (b : Fin 8192 → Fin N → EReal) (p : Fin M) (q : Fin N) : EReal := ∑ n, a n p * b n q

/-- The same over one of the four runs of rows. -/
def part {M N : ℕ} (a : Fin 8192 → Fin M → EReal) (b : Fin 8192 → Fin N → EReal) (j : Fin 4) (p : Fin M) (q : Fin N) : EReal :=
  ∑ r : Fin 2048, a ⟨2048 * j.val + r.val, by omega⟩ p * b ⟨2048 * j.val + r.val, by omega⟩ q

theorem parts {M N : ℕ} (a : Fin 8192 → Fin M → EReal) (b : Fin 8192 → Fin N → EReal) (p : Fin M) (q : Fin N) :
    part a b 0 p q + part a b 1 p q + part a b 2 p q + part a b 3 p q = outer a b p q := by
  rw [← Fin.sum_univ_four fun j => part a b j p q]
  exact Lift.sum_runs (A := 4) (B := 2048) rfl fun n => a n p * b n q

/-- The gates of a row, the logistic function written out. -/
def opened (x g : Fin 1024 → EReal) (w : Fin 1024 → Fin 1024 → EReal) (k : Fin 1024) : EReal :=
  Ideal.div 1 (1 + Ideal.exp (-Fwd.proj (Fwd.nrm x g) w k))
/-- The gradient before the gates. -/
def slope (d x : Fin 8192 → Fin 1024 → EReal) (g : Fin 1024 → EReal) (w : Fin 1024 → Fin 1024 → EReal) (p : Fin 8192 → Fin 256 → EReal) (u : Fin 256 → Fin 1024 → EReal) (n : Fin 8192) (k : Fin 1024) : EReal :=
  d n k * Fwd.proj (p n) u k * opened (x n) g w k * (1 - opened (x n) g w k)

end Cert.Weight

end
-- ==== Proof.OutWeight.lean ====
/- The weight gradient of the output projection over the extended reals: the kernel's run, the run of the derivative of the forward line, the same array. -/
module

public import proofs.«01_k».proof.Defs
public import proofs.«01_k».proof.Proof.Gen.OutGradIdeal.Value
public import proofs.«01_k».proof.Proof.Gen.OutGradRefIdeal.Run
public import proofs.«01_k».proof.Proof.WeightSum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.OutGradIdeal.OutWeight

open Cert.OutGradIdeal Cert.OutGradIdeal.Gen Cert.OutGradIdeal.Value Cert.Fwd Cert.Weight Cert.Lift

theorem pay (a b : Fin 2048 → Fin 1024 → EReal) {A : FVec Ideal S2048x1024 .bf16} {B : FVec Ideal S2048x1024 .f32} (C : FVec Ideal S1024x1024 .f32)
    (hA : ∀ r k, A (ix2 r k) = a r k) (hB : ∀ r k, B (ix2 r k) = b r k) (p q : Fin 1024) :
    k0_pay2 (F := Ideal) A B C (ix2 p q) = C (ix2 p q) + ∑ r, a r p * b r q := by
  pointwise [k0_pay2]
  simp only [hA, hB]
theorem zero (p q : Fin 1024) : k0_pay1 (F := Ideal) (ix2 p q) = (0 : EReal) := by
  pointwise [k0_pay1]

variable (m : (ℓ : Loc nD τ sig) → Buf (Elt Ideal) ℓ) (c : Dev nD)
variable (d : Fin 8192 → Fin 1024 → EReal) (o : Fin 8192 → Fin 1024 → EReal)
variable (hD : ∀ a b, m ((c.tc : Thread nD τ).loc main_arg0) (ix2 a b) = d a b)
  (hO : ∀ a b, m ((c.tc : Thread nD τ).loc main_arg2) (ix2 a b) = o a b)

theorem idx : ∀ t : Fin cfg0.N, win0_0.index t = ![t.val % 4, t.val / 4] ∧ win0_1.index t = ![t.val % 4, 0] ∧ t.val < 4 :=
  (by decide +kernel : ∀ t : Fin grid0.N, _)

include hO in
theorem ba_at (s : Fin cfg0.N) (R : ℕ) (j : Fin 4) (hs : s.val = 4 * R + j.val) (r : Fin 2048) (p : Fin 1024) :
    (iblk m c 0 s : Vec Ideal S2048x1024 .bf16) (ix2 r p) = o ⟨2048 * j.val + r.val, by omega⟩ (⟨1024 * R + p.val, by have := (idx s).2.2; omega⟩ : Fin 1024) := by
  have e : s.val % 4 = j.val ∧ s.val / 4 = R := by omega
  refine Eq.trans ?_ (hO _ _)
  blk_simp [iblk, idx s, e]; entry_read; pointwise; blk_ext [idx s, e]
include hD in
theorem bb_at (s : Fin cfg0.N) (R : ℕ) (j : Fin 4) (hs : s.val = 4 * R + j.val) (r : Fin 2048) (q : Fin 1024) :
    (iblk m c 1 s : Vec Ideal S2048x1024 .f32) (ix2 r q) = d ⟨2048 * j.val + r.val, by omega⟩ q := by
  have e : s.val % 4 = j.val ∧ s.val / 4 = R := by omega
  refine Eq.trans ?_ (hD _ _)
  blk_simp [iblk, idx s, e]; entry_read; blk_ext [idx s, e]

include hD hO in
theorem step_at (n : ℕ) (h : n < cfg0.N) (R : ℕ) (j : Fin 4) (hn : n = 4 * R + j.val) (C : Vec Ideal S1024x1024 .f32) (p q : Fin 1024) :
    k0_pay2 (iblk m c 0 ⟨n, h⟩) (iblk m c 1 ⟨n, h⟩) C (ix2 p q)
      = C (ix2 p q) + part o d j (⟨1024 * R + p.val, by have := (idx ⟨n, h⟩).2.2; dsimp only at this; omega⟩ : Fin 1024) q :=
  pay _ _ C (fun r k => ba_at m c o hO ⟨n, h⟩ R j hn r k) (fun r k => bb_at m c d hD ⟨n, h⟩ R j hn r k) p q

include hD hO in
theorem final : G2 m c = fun i : S1024x1024.Idx => outer o d (i 0) (i 1) := by
  funext i
  idx_vars i
  have hr : run2Of (ix2 i0 i1) = i0.val / 1024 := by
    show 1 * (i0.val / 1024 - 0) + 1 * (i1.val / 1024 - 0) = i0.val / 1024
    omega
  have hl : loc2Of (ix2 i0 i1) = ix2 (⟨i0.val % 1024, Nat.mod_lt _ (by decide)⟩ : Fin 1024) i1 := by
    funext a
    apply Fin.ext
    match a with
    | ⟨0, _⟩ => rfl
    | ⟨1, _⟩ => show i1.val % 1024 = i1.val; omega
  have hN : cfg0.N = 4 := N_0
  unfold G2
  rw [dif_pos (by rw [hr]; omega), hl]
  have hi : (⟨1024 * run2Of (ix2 i0 i1) + i0.val % 1024, by rw [hr]; omega⟩ : Fin 1024) = i0 := Fin.ext (by show 1024 * run2Of (ix2 i0 i1) + i0.val % 1024 = i0.val; rw [hr]; omega)
  have st := step_at m c d o hD hO
  refine Eq.trans ?_ (parts o d i0 i1)
  refine (st _ _ (run2Of (ix2 i0 i1)) 3 rfl _ _ _).trans ?_
  refine plus ((st _ _ (run2Of (ix2 i0 i1)) 2 rfl _ _ _).trans ?_) (by rw [hi])
  refine plus ((st _ _ (run2Of (ix2 i0 i1)) 1 rfl _ _ _).trans ?_) (by rw [hi])
  refine plus ((st _ _ (run2Of (ix2 i0 i1)) 0 rfl _ _ _).trans ?_) (by rw [hi])
  rw [zero, zero_add, hi]

end Cert.OutGradIdeal.OutWeight

namespace Cert.OutWeight

open Cert.Lift Cert.Fwd Cert.Weight OutGradIdeal

/-- The reference runs to the end, leaves its arguments alone and every semaphore at zero. -/
theorem frame : Cert.quiescent_OutGradRefIdeal := fun m ρ _ =>
  (θ_run _ _ _).mono (fun r h => ⟨fun c => (h c).2, sem_eq_zero_of_no_sems (by decide) r.2⟩) (Cert.OutGradRefIdeal.Value.run m ρ)

theorem algebraic : Cert.algebraic_OutGradIdeal_OutGradRefIdeal := by
  intro m ρ m' ρ' _ hagree
  obtain ⟨d, hD⟩ := rows fun (c : Dev nD) (a : Fin 8192) (b : Fin 1024) => (m ((c.tc : Thread nD τ).loc main_arg0) (ix2 a b) : EReal)
  obtain ⟨o, hO⟩ := rows fun (c : Dev nD) (a : Fin 8192) (b : Fin 1024) => (m ((c.tc : Thread nD τ).loc main_arg2) (ix2 a b) : EReal)
  refine ⟨fun c => fun i : S1024x1024.Idx => outer (o c) (d c) (i 0) (i 1), ?_, ?_⟩
  · run_from Cert.OutGradIdeal.Value.run m ρ
    exact OutWeight.final m c (d c) (o c) (hD c) (hO c)
  · refine (θ_run _ _ _).mono (fun _ h c => ⟨(h c).1.trans ?_, (h c).2⟩) (Cert.OutGradRefIdeal.Value.run m' ρ')
    funext i; idx_vars i; clear h; pointwise []
    obtain ⟨e0, e1, e2⟩ := hagree c
    simp only [e0, e1, e2, hD, hO, c_zero, EReal.coe_zero, zero_add]
    exact Finset.sum_congr rfl fun n _ => mul_comm _ _

end Cert.OutWeight

end
-- ==== Proof.QueriesWeight.lean ====
/- The weight gradient of the queries over the extended reals: the kernel's run, the run of the derivative of the forward line, the same array. -/
module

public import proofs.«01_k».proof.Defs
public import proofs.«01_k».proof.Proof.Gen.QGradIdeal.Value
public import proofs.«01_k».proof.Proof.Gen.QGradRefIdeal.Run
public import proofs.«01_k».proof.Proof.WeightSum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.QGradIdeal.QueriesWeight

open Cert.QGradIdeal Cert.QGradIdeal.Gen Cert.QGradIdeal.Value Cert.Fwd Cert.Weight Cert.Lift

theorem pay (a b : Fin 2048 → Fin 1024 → EReal) {A : FVec Ideal S2048x1024 .bf16} {B : FVec Ideal S2048x1024 .bf16} (C : FVec Ideal S1024x1024 .f32)
    (hA : ∀ r k, A (ix2 r k) = a r k) (hB : ∀ r k, B (ix2 r k) = b r k) (p q : Fin 1024) :
    k0_pay2 (F := Ideal) A B C (ix2 p q) = C (ix2 p q) + ∑ r, a r p * b r q := by
  pointwise [k0_pay2]
  simp only [hA, hB]
theorem zero (p q : Fin 1024) : k0_pay1 (F := Ideal) (ix2 p q) = (0 : EReal) := by
  pointwise [k0_pay1]

variable (m : (ℓ : Loc nD τ sig) → Buf (Elt Ideal) ℓ) (c : Dev nD)
variable (y : Fin 8192 → Fin 1024 → EReal) (x : Fin 8192 → Fin 1024 → EReal) (g : Fin 1024 → EReal)
variable (hY : ∀ a b, m ((c.tc : Thread nD τ).loc main_arg0) (ix2 a b) = y a b)
  (hX : ∀ a b, m ((c.tc : Thread nD τ).loc main_arg1) (ix2 a b) = x a b)
  (hG : ∀ a, m ((c.tc : Thread nD τ).loc main_arg2) (ix1 a) = g a)

theorem idx : ∀ t : Fin cfg0.N, win0_0.index t = ![t.val % 4, t.val / 4] ∧ win0_1.index t = ![t.val % 4, 0] ∧ t.val < 4 :=
  (by decide +kernel : ∀ t : Fin grid0.N, _)

include hX hG in
theorem ba_at (s : Fin cfg0.N) (R : ℕ) (j : Fin 4) (hs : s.val = 4 * R + j.val) (r : Fin 2048) (p : Fin 1024) :
    (iblk m c 0 s : Vec Ideal S2048x1024 .bf16) (ix2 r p) = (fun n => nrm (x n) g) ⟨2048 * j.val + r.val, by omega⟩ (⟨1024 * R + p.val, by have := (idx s).2.2; omega⟩ : Fin 1024) := by
  have e : s.val % 4 = j.val ∧ s.val / 4 = R := by omega
  have f : (win0_0.blk s).view.emb (ix2 r p) = ix2 (⟨2048 * j.val + r.val, by omega⟩ : Fin 8192) (⟨1024 * R + p.val, by have := (idx s).2.2; omega⟩ : Fin 1024) := by blk_ext [idx s, e]
  blk_simp [iblk]
  rw [f]
  entry_read
  clear f
  pointwise
  simp only [hX, hG, c_zero, EReal.coe_zero, zero_add]
  rfl
include hY in
theorem bb_at (s : Fin cfg0.N) (R : ℕ) (j : Fin 4) (hs : s.val = 4 * R + j.val) (r : Fin 2048) (q : Fin 1024) :
    (iblk m c 1 s : Vec Ideal S2048x1024 .bf16) (ix2 r q) = (fun n k => y n k * Ideal.ofBits .f32 0x3E000000#32) ⟨2048 * j.val + r.val, by omega⟩ q := by
  have e : s.val % 4 = j.val ∧ s.val / 4 = R := by omega
  have f : (win0_1.blk s).view.emb (ix2 r q) = ix2 (⟨2048 * j.val + r.val, by omega⟩ : Fin 8192) q := by blk_ext [idx s, e]
  blk_simp [iblk]
  rw [f]
  entry_read
  clear f
  pointwise
  simp only [hY]

include hY hX hG in
theorem step_at (n : ℕ) (h : n < cfg0.N) (R : ℕ) (j : Fin 4) (hn : n = 4 * R + j.val) (C : Vec Ideal S1024x1024 .f32) (p q : Fin 1024) :
    k0_pay2 (iblk m c 0 ⟨n, h⟩) (iblk m c 1 ⟨n, h⟩) C (ix2 p q)
      = C (ix2 p q) + part (fun n => nrm (x n) g) (fun n k => y n k * Ideal.ofBits .f32 0x3E000000#32) j (⟨1024 * R + p.val, by have := (idx ⟨n, h⟩).2.2; dsimp only at this; omega⟩ : Fin 1024) q :=
  pay _ _ C (fun r k => ba_at m c x g hX hG ⟨n, h⟩ R j hn r k) (fun r k => bb_at m c y hY ⟨n, h⟩ R j hn r k) p q

include hY hX hG in
theorem final : G2 m c = fun i : S1024x1024.Idx => outer (fun n => nrm (x n) g) (fun n k => y n k * Ideal.ofBits .f32 0x3E000000#32) (i 0) (i 1) := by
  funext i
  idx_vars i
  have hr : run2Of (ix2 i0 i1) = i0.val / 1024 := by
    show 1 * (i0.val / 1024 - 0) + 1 * (i1.val / 1024 - 0) = i0.val / 1024
    omega
  have hl : loc2Of (ix2 i0 i1) = ix2 (⟨i0.val % 1024, Nat.mod_lt _ (by decide)⟩ : Fin 1024) i1 := by
    funext a
    apply Fin.ext
    match a with
    | ⟨0, _⟩ => rfl
    | ⟨1, _⟩ => show i1.val % 1024 = i1.val; omega
  have hN : cfg0.N = 4 := N_0
  unfold G2
  rw [dif_pos (by rw [hr]; omega), hl]
  have hi : (⟨1024 * run2Of (ix2 i0 i1) + i0.val % 1024, by rw [hr]; omega⟩ : Fin 1024) = i0 := Fin.ext (by show 1024 * run2Of (ix2 i0 i1) + i0.val % 1024 = i0.val; rw [hr]; omega)
  have st := step_at m c y x g hY hX hG
  refine Eq.trans ?_ (parts (fun n => nrm (x n) g) (fun n k => y n k * Ideal.ofBits .f32 0x3E000000#32) i0 i1)
  refine (st _ _ (run2Of (ix2 i0 i1)) 3 rfl _ _ _).trans ?_
  refine plus ((st _ _ (run2Of (ix2 i0 i1)) 2 rfl _ _ _).trans ?_) (by rw [hi])
  refine plus ((st _ _ (run2Of (ix2 i0 i1)) 1 rfl _ _ _).trans ?_) (by rw [hi])
  refine plus ((st _ _ (run2Of (ix2 i0 i1)) 0 rfl _ _ _).trans ?_) (by rw [hi])
  rw [zero, zero_add, hi]

end Cert.QGradIdeal.QueriesWeight

namespace Cert.QueriesWeight

open Cert.Lift Cert.Fwd Cert.Weight QGradIdeal

/-- The reference runs to the end, leaves its arguments alone and every semaphore at zero. -/
theorem frame : Cert.quiescent_QGradRefIdeal := fun m ρ _ =>
  (θ_run _ _ _).mono (fun r h => ⟨fun c => (h c).2, sem_eq_zero_of_no_sems (by decide) r.2⟩) (Cert.QGradRefIdeal.Value.run m ρ)

theorem algebraic : Cert.algebraic_QGradIdeal_QGradRefIdeal := by
  intro m ρ m' ρ' _ hagree
  obtain ⟨y, hY⟩ := rows fun (c : Dev nD) (a : Fin 8192) (b : Fin 1024) => (m ((c.tc : Thread nD τ).loc main_arg0) (ix2 a b) : EReal)
  obtain ⟨x, hX⟩ := rows fun (c : Dev nD) (a : Fin 8192) (b : Fin 1024) => (m ((c.tc : Thread nD τ).loc main_arg1) (ix2 a b) : EReal)
  obtain ⟨g, hG⟩ := row fun (c : Dev nD) (a : Fin 1024) => (m ((c.tc : Thread nD τ).loc main_arg2) (ix1 a) : EReal)
  refine ⟨fun c => fun i : S1024x1024.Idx => outer (fun n => nrm (x c n) (g c)) (fun n k => y c n k * Ideal.ofBits .f32 0x3E000000#32) (i 0) (i 1), ?_, ?_⟩
  · run_from Cert.QGradIdeal.Value.run m ρ
    exact QueriesWeight.final m c (y c) (x c) (g c) (hY c) (hX c) (hG c)
  · refine (θ_run _ _ _).mono (fun _ h c => ⟨(h c).1.trans ?_, (h c).2⟩) (Cert.QGradRefIdeal.Value.run m' ρ')
    funext i; idx_vars i; clear h; pointwise []
    obtain ⟨e0, e1, e2, e3⟩ := hagree c
    simp only [e0, e1, e2, e3, hY, hX, hG, c_zero, EReal.coe_zero, zero_add]
    exact Finset.sum_congr rfl fun n _ => mul_comm _ _

end Cert.QueriesWeight

end
-- ==== Proof.MixerWeight.lean ====
/- The weight gradient of the channel mixer's second matrix over the extended reals: the kernel's run, the run of the derivative of the forward line, the same array. -/
module

public import proofs.«01_k».proof.Defs
public import proofs.«01_k».proof.Proof.Gen.W2GradIdeal.Value
public import proofs.«01_k».proof.Proof.Gen.W2GradRefIdeal.Run
public import proofs.«01_k».proof.Proof.WeightSum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.W2GradIdeal.MixerWeight

open Cert.W2GradIdeal Cert.W2GradIdeal.Gen Cert.W2GradIdeal.Value Cert.Fwd Cert.Weight Cert.Lift

theorem pay (a b : Fin 2048 → Fin 1024 → EReal) {A : FVec Ideal S2048x1024 .bf16} {B : FVec Ideal S2048x1024 .f32} (C : FVec Ideal S1024x1024 .f32)
    (hA : ∀ r k, A (ix2 r k) = a r k) (hB : ∀ r k, B (ix2 r k) = b r k) (p q : Fin 1024) :
    k0_pay2 (F := Ideal) A B C (ix2 p q) = C (ix2 p q) + ∑ r, a r p * b r q := by
  pointwise [k0_pay2]
  simp only [hA, hB]
theorem zero (p q : Fin 1024) : k0_pay1 (F := Ideal) (ix2 p q) = (0 : EReal) := by
  pointwise [k0_pay1]

variable (m : (ℓ : Loc nD τ sig) → Buf (Elt Ideal) ℓ) (c : Dev nD)
variable (d : Fin 8192 → Fin 1024 → EReal) (x : Fin 8192 → Fin 1024 → EReal) (g : Fin 1024 → EReal) (w : Fin 1024 → Fin 4096 → EReal)
variable (hD : ∀ a b, m ((c.tc : Thread nD τ).loc main_arg0) (ix2 a b) = d a b)
  (hX : ∀ a b, m ((c.tc : Thread nD τ).loc main_arg1) (ix2 a b) = x a b)
  (hG : ∀ a, m ((c.tc : Thread nD τ).loc main_arg2) (ix1 a) = g a)
  (hW : ∀ a b, m ((c.tc : Thread nD τ).loc main_arg3) (ix2 a b) = w a b)

theorem idx : ∀ t : Fin cfg0.N, win0_0.index t = ![t.val % 4, t.val / 4] ∧ win0_1.index t = ![t.val % 4, 0] ∧ t.val < 16 :=
  (by decide +kernel : ∀ t : Fin grid0.N, _)

include hX hG hW in
theorem ba_at (s : Fin cfg0.N) (R : ℕ) (j : Fin 4) (hs : s.val = 4 * R + j.val) (r : Fin 2048) (p : Fin 1024) :
    (iblk m c 0 s : Vec Ideal S2048x1024 .bf16) (ix2 r p) = (fun n => squared (x n) g w) ⟨2048 * j.val + r.val, by omega⟩ (⟨1024 * R + p.val, by have := (idx s).2.2; omega⟩ : Fin 4096) := by
  have e : s.val % 4 = j.val ∧ s.val / 4 = R := by omega
  have f : (win0_0.blk s).view.emb (ix2 r p) = ix2 (⟨2048 * j.val + r.val, by omega⟩ : Fin 8192) (⟨1024 * R + p.val, by have := (idx s).2.2; omega⟩ : Fin 4096) := by blk_ext [idx s, e]
  blk_simp [iblk]
  rw [f]
  unfold V
  simp only [hostOps0, hostOps0_1, hostOps0_2, List.flatten_cons, List.flatten_nil, List.append_nil, List.cons_append, List.nil_append]
  entry_read
  simp only [StableHlo.TRef.toBuf, StableHlo.TRef.ofBuf, cast_cast, cast_eq]
  clear f
  pointwise
  simp only [hX, hG, hW, c_zero, EReal.coe_zero, zero_add]
  rfl
include hD in
theorem bb_at (s : Fin cfg0.N) (R : ℕ) (j : Fin 4) (hs : s.val = 4 * R + j.val) (r : Fin 2048) (q : Fin 1024) :
    (iblk m c 1 s : Vec Ideal S2048x1024 .f32) (ix2 r q) = d ⟨2048 * j.val + r.val, by omega⟩ q := by
  have e : s.val % 4 = j.val ∧ s.val / 4 = R := by omega
  refine Eq.trans ?_ (hD _ _)
  blk_simp [iblk, idx s, e]; entry_read; blk_ext [idx s, e]

include hD hX hG hW in
theorem step_at (n : ℕ) (h : n < cfg0.N) (R : ℕ) (j : Fin 4) (hn : n = 4 * R + j.val) (C : Vec Ideal S1024x1024 .f32) (p q : Fin 1024) :
    k0_pay2 (iblk m c 0 ⟨n, h⟩) (iblk m c 1 ⟨n, h⟩) C (ix2 p q)
      = C (ix2 p q) + part (fun n => squared (x n) g w) d j (⟨1024 * R + p.val, by have := (idx ⟨n, h⟩).2.2; dsimp only at this; omega⟩ : Fin 4096) q :=
  pay _ _ C (fun r k => ba_at m c x g w hX hG hW ⟨n, h⟩ R j hn r k) (fun r k => bb_at m c d hD ⟨n, h⟩ R j hn r k) p q

include hD hX hG hW in
theorem final : G2 m c = fun i : S4096x1024.Idx => outer (fun n => squared (x n) g w) d (i 0) (i 1) := by
  funext i
  idx_vars i
  have hr : run2Of (ix2 i0 i1) = i0.val / 1024 := by
    show 1 * (i0.val / 1024 - 0) + 1 * (i1.val / 1024 - 0) = i0.val / 1024
    omega
  have hl : loc2Of (ix2 i0 i1) = ix2 (⟨i0.val % 1024, Nat.mod_lt _ (by decide)⟩ : Fin 1024) i1 := by
    funext a
    apply Fin.ext
    match a with
    | ⟨0, _⟩ => rfl
    | ⟨1, _⟩ => show i1.val % 1024 = i1.val; omega
  have hN : cfg0.N = 16 := N_0
  unfold G2
  rw [dif_pos (by rw [hr]; omega), hl]
  have hi : (⟨1024 * run2Of (ix2 i0 i1) + i0.val % 1024, by rw [hr]; omega⟩ : Fin 4096) = i0 := Fin.ext (by show 1024 * run2Of (ix2 i0 i1) + i0.val % 1024 = i0.val; rw [hr]; omega)
  have st := step_at m c d x g w hD hX hG hW
  refine Eq.trans ?_ (parts (fun n => squared (x n) g w) d i0 i1)
  refine (st _ _ (run2Of (ix2 i0 i1)) 3 rfl _ _ _).trans ?_
  refine plus ((st _ _ (run2Of (ix2 i0 i1)) 2 rfl _ _ _).trans ?_) (by rw [hi])
  refine plus ((st _ _ (run2Of (ix2 i0 i1)) 1 rfl _ _ _).trans ?_) (by rw [hi])
  refine plus ((st _ _ (run2Of (ix2 i0 i1)) 0 rfl _ _ _).trans ?_) (by rw [hi])
  rw [zero, zero_add, hi]

end Cert.W2GradIdeal.MixerWeight

namespace Cert.MixerWeight

open Cert.Lift Cert.Fwd Cert.Weight W2GradIdeal

/-- The reference runs to the end, leaves its arguments alone and every semaphore at zero. -/
theorem frame : Cert.quiescent_W2GradRefIdeal := fun m ρ _ =>
  (θ_run _ _ _).mono (fun r h => ⟨fun c => (h c).2, sem_eq_zero_of_no_sems (by decide) r.2⟩) (Cert.W2GradRefIdeal.Value.run m ρ)

theorem algebraic : Cert.algebraic_W2GradIdeal_W2GradRefIdeal := by
  intro m ρ m' ρ' _ hagree
  obtain ⟨d, hD⟩ := rows fun (c : Dev nD) (a : Fin 8192) (b : Fin 1024) => (m ((c.tc : Thread nD τ).loc main_arg0) (ix2 a b) : EReal)
  obtain ⟨x, hX⟩ := rows fun (c : Dev nD) (a : Fin 8192) (b : Fin 1024) => (m ((c.tc : Thread nD τ).loc main_arg1) (ix2 a b) : EReal)
  obtain ⟨g, hG⟩ := row fun (c : Dev nD) (a : Fin 1024) => (m ((c.tc : Thread nD τ).loc main_arg2) (ix1 a) : EReal)
  obtain ⟨w, hW⟩ := rows fun (c : Dev nD) (a : Fin 1024) (b : Fin 4096) => (m ((c.tc : Thread nD τ).loc main_arg3) (ix2 a b) : EReal)
  refine ⟨fun c => fun i : S4096x1024.Idx => outer (fun n => squared (x c n) (g c) (w c)) (d c) (i 0) (i 1), ?_, ?_⟩
  · run_from Cert.W2GradIdeal.Value.run m ρ
    exact MixerWeight.final m c (d c) (x c) (g c) (w c) (hD c) (hX c) (hG c) (hW c)
  · refine (θ_run _ _ _).mono (fun _ h c => ⟨(h c).1.trans ?_, (h c).2⟩) (Cert.W2GradRefIdeal.Value.run m' ρ')
    funext i; idx_vars i; clear h; pointwise []
    obtain ⟨e0, e1, e2, e3, e4⟩ := hagree c
    simp only [e0, e1, e2, e3, e4, hD, hX, hG, hW, c_zero, EReal.coe_zero, zero_add]
    exact Finset.sum_congr rfl fun n _ => mul_comm _ _

end Cert.MixerWeight

end
-- ==== Proof.CacheWeight.lean ====
/- The weight gradient of the shared keys over the extended reals: the kernel's run, the run of the derivative of the forward line, the same array. -/
module

public import proofs.«01_k».proof.Defs
public import proofs.«01_k».proof.Proof.Gen.CacheGradIdeal.Value
public import proofs.«01_k».proof.Proof.Gen.CacheGradRefIdeal.Run
public import proofs.«01_k».proof.Proof.WeightSum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.CacheGradIdeal.CacheWeight

open Cert.CacheGradIdeal Cert.CacheGradIdeal.Gen Cert.CacheGradIdeal.Value Cert.Fwd Cert.Weight Cert.Lift

theorem pay (a : Fin 2048 → Fin 1024 → EReal) (b : Fin 2048 → Fin 1024 → EReal) {A : FVec Ideal S2048x1024 .bf16} {B : FVec Ideal S2048x1024 .bf16} (C : FVec Ideal S1024x1024 .f32)
    (hA : ∀ r k, A (ix2 r k) = a r k) (hB : ∀ r k, B (ix2 r k) = b r k) (p : Fin 1024) (q : Fin 1024) :
    k0_pay2 (F := Ideal) A B C (ix2 p q) = C (ix2 p q) + ∑ r, a r p * b r q := by
  pointwise [k0_pay2]
  simp only [hA, hB]
theorem zero (p : Fin 1024) (q : Fin 1024) : k0_pay1 (F := Ideal) (ix2 p q) = (0 : EReal) := by
  pointwise [k0_pay1]

variable (m : (ℓ : Loc nD τ sig) → Buf (Elt Ideal) ℓ) (c : Dev nD)
variable (y : Fin 8192 → Fin 1024 → EReal) (x : Fin 8192 → Fin 1024 → EReal) (g : Fin 1024 → EReal)
variable (hY : ∀ a b, m ((c.tc : Thread nD τ).loc main_arg0) (ix2 a b) = y a b)
  (hX : ∀ a b, m ((c.tc : Thread nD τ).loc main_arg1) (ix2 a b) = x a b)
  (hG : ∀ a, m ((c.tc : Thread nD τ).loc main_arg2) (ix1 a) = g a)

theorem idx : ∀ t : Fin cfg0.N, win0_0.index t = ![t.val % 4, t.val / 4] ∧ win0_1.index t = ![t.val % 4, 0] ∧ t.val < 4 :=
  (by decide +kernel : ∀ t : Fin grid0.N, _)

include hX hG in
theorem ba_at (s : Fin cfg0.N) (R : ℕ) (j : Fin 4) (hs : s.val = 4 * R + j.val) (r : Fin 2048) (p : Fin 1024) :
    (iblk m c 0 s : Vec Ideal S2048x1024 .bf16) (ix2 r p) = (fun n => nrm (x n) g) ⟨2048 * j.val + r.val, by omega⟩ (⟨1024 * R + p.val, by have := (idx s).2.2; omega⟩ : Fin 1024) := by
  have e : s.val % 4 = j.val ∧ s.val / 4 = R := by omega
  have f : (win0_0.blk s).view.emb (ix2 r p) = ix2 (⟨2048 * j.val + r.val, by omega⟩ : Fin 8192) (⟨1024 * R + p.val, by have := (idx s).2.2; omega⟩ : Fin 1024) := by blk_ext [idx s, e]
  blk_simp [iblk]
  rw [f]
  entry_read
  clear f
  pointwise
  simp only [hX, hG, c_zero, EReal.coe_zero, zero_add]
  rfl
include hY in
theorem bb_at (s : Fin cfg0.N) (R : ℕ) (j : Fin 4) (hs : s.val = 4 * R + j.val) (r : Fin 2048) (q : Fin 1024) :
    (iblk m c 1 s : Vec Ideal S2048x1024 .bf16) (ix2 r q) = y ⟨2048 * j.val + r.val, by omega⟩ q := by
  have e : s.val % 4 = j.val ∧ s.val / 4 = R := by omega
  have f : (win0_1.blk s).view.emb (ix2 r q) = ix2 (⟨2048 * j.val + r.val, by omega⟩ : Fin 8192) q := by blk_ext [idx s, e]
  blk_simp [iblk]
  rw [f]
  entry_read
  clear f
  pointwise
  simp only [hY]

include hY hX hG in
theorem step_at (n : ℕ) (h : n < cfg0.N) (R : ℕ) (j : Fin 4) (hn : n = 4 * R + j.val) (C : Vec Ideal S1024x1024 .f32) (p : Fin 1024) (q : Fin 1024) :
    k0_pay2 (iblk m c 0 ⟨n, h⟩) (iblk m c 1 ⟨n, h⟩) C (ix2 p q)
      = C (ix2 p q) + part (fun n => nrm (x n) g) y j (⟨1024 * R + p.val, by have := (idx ⟨n, h⟩).2.2; dsimp only at this; omega⟩ : Fin 1024) q :=
  pay _ _ C (fun r k => ba_at m c x g hX hG ⟨n, h⟩ R j hn r k) (fun r k => bb_at m c y hY ⟨n, h⟩ R j hn r k) p q

include hY hX hG in
theorem final : G2 m c = fun i : S1024x1024.Idx => outer (fun n => nrm (x n) g) y (i 0) (i 1) := by
  funext i
  idx_vars i
  have hr : run2Of (ix2 i0 i1) = i0.val / 1024 := by
    show 1 * (i0.val / 1024 - 0) + 1 * (i1.val / 1024 - 0) = i0.val / 1024
    omega
  have hl : loc2Of (ix2 i0 i1) = ix2 (⟨i0.val % 1024, Nat.mod_lt _ (by decide)⟩ : Fin 1024) i1 := by
    funext a
    apply Fin.ext
    match a with
    | ⟨0, _⟩ => rfl
    | ⟨1, _⟩ => show i1.val % 1024 = i1.val; omega
  have hN : cfg0.N = 4 := N_0
  unfold G2
  rw [dif_pos (by rw [hr]; omega), hl]
  have hi : (⟨1024 * run2Of (ix2 i0 i1) + i0.val % 1024, by rw [hr]; omega⟩ : Fin 1024) = i0 := Fin.ext (by show 1024 * run2Of (ix2 i0 i1) + i0.val % 1024 = i0.val; rw [hr]; omega)
  have st := step_at m c y x g hY hX hG
  refine Eq.trans ?_ (parts (fun n => nrm (x n) g) y i0 i1)
  refine (st _ _ (run2Of (ix2 i0 i1)) 3 rfl _ _ _).trans ?_
  refine plus ((st _ _ (run2Of (ix2 i0 i1)) 2 rfl _ _ _).trans ?_) (by rw [hi])
  refine plus ((st _ _ (run2Of (ix2 i0 i1)) 1 rfl _ _ _).trans ?_) (by rw [hi])
  refine plus ((st _ _ (run2Of (ix2 i0 i1)) 0 rfl _ _ _).trans ?_) (by rw [hi])
  rw [zero, zero_add, hi]

end Cert.CacheGradIdeal.CacheWeight

namespace Cert.CacheWeight

open Cert.Lift Cert.Fwd Cert.Weight CacheGradIdeal

/-- The reference runs to the end, leaves its arguments alone and every semaphore at zero. -/
theorem frame : Cert.quiescent_CacheGradRefIdeal := fun m ρ _ =>
  (θ_run _ _ _).mono (fun r h => ⟨fun c => (h c).2, sem_eq_zero_of_no_sems (by decide) r.2⟩) (Cert.CacheGradRefIdeal.Value.run m ρ)

theorem algebraic : Cert.algebraic_CacheGradIdeal_CacheGradRefIdeal := by
  intro m ρ m' ρ' _ hagree
  obtain ⟨y, hY⟩ := rows fun (c : Dev nD) (a : Fin 8192) (b : Fin 1024) => (m ((c.tc : Thread nD τ).loc main_arg0) (ix2 a b) : EReal)
  obtain ⟨x, hX⟩ := rows fun (c : Dev nD) (a : Fin 8192) (b : Fin 1024) => (m ((c.tc : Thread nD τ).loc main_arg1) (ix2 a b) : EReal)
  obtain ⟨g, hG⟩ := row fun (c : Dev nD) (a : Fin 1024) => (m ((c.tc : Thread nD τ).loc main_arg2) (ix1 a) : EReal)
  refine ⟨fun c => fun i : S1024x1024.Idx => outer (fun n => nrm (x c n) (g c)) (y c) (i 0) (i 1), ?_, ?_⟩
  · run_from Cert.CacheGradIdeal.Value.run m ρ
    exact CacheWeight.final m c (y c) (x c) (g c) (hY c) (hX c) (hG c)
  · refine (θ_run _ _ _).mono (fun _ h c => ⟨(h c).1.trans ?_, (h c).2⟩) (Cert.CacheGradRefIdeal.Value.run m' ρ')
    funext i; idx_vars i; clear h; pointwise []
    obtain ⟨e0, e1, e2, e3⟩ := hagree c
    simp only [e0, e1, e2, e3, hY, hX, hG, c_zero, EReal.coe_zero, zero_add]
    exact Finset.sum_congr rfl fun n _ => mul_comm _ _

end Cert.CacheWeight

end
-- ==== Proof.ForgetWeight.lean ====
/- The weight gradient of the forget gates over the extended reals: the kernel's run, the run of the derivative of the forward line, the same array. -/
module

public import proofs.«01_k».proof.Defs
public import proofs.«01_k».proof.Proof.Gen.ForgetGradIdeal.Value
public import proofs.«01_k».proof.Proof.Gen.ForgetGradRefIdeal.Run
public import proofs.«01_k».proof.Proof.WeightSum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ForgetGradIdeal.ForgetWeight

open Cert.ForgetGradIdeal Cert.ForgetGradIdeal.Gen Cert.ForgetGradIdeal.Value Cert.Fwd Cert.Weight Cert.Lift

theorem pay (a : Fin 2048 → Fin 1024 → EReal) (b : Fin 2048 → Fin 16 → EReal) {A : FVec Ideal S2048x1024 .bf16} {B : FVec Ideal S2048x16 .f32} (C : FVec Ideal S1024x16 .f32)
    (hA : ∀ r k, A (ix2 r k) = a r k) (hB : ∀ r k, B (ix2 r k) = b r k) (p : Fin 1024) (q : Fin 16) :
    k0_pay2 (F := Ideal) A B C (ix2 p q) = C (ix2 p q) + ∑ r, a r p * b r q := by
  pointwise [k0_pay2]
  simp only [hA, hB]
theorem zero (p : Fin 1024) (q : Fin 16) : k0_pay1 (F := Ideal) (ix2 p q) = (0 : EReal) := by
  pointwise [k0_pay1]

variable (m : (ℓ : Loc nD τ sig) → Buf (Elt Ideal) ℓ) (c : Dev nD)
variable (d : Fin 8192 → Fin 16 → EReal) (x : Fin 8192 → Fin 1024 → EReal) (g : Fin 1024 → EReal)
variable (hD : ∀ a b, m ((c.tc : Thread nD τ).loc main_arg0) (ix2 a b) = d a b)
  (hX : ∀ a b, m ((c.tc : Thread nD τ).loc main_arg1) (ix2 a b) = x a b)
  (hG : ∀ a, m ((c.tc : Thread nD τ).loc main_arg2) (ix1 a) = g a)

theorem idx : ∀ t : Fin cfg0.N, win0_0.index t = ![t.val % 4, t.val / 4] ∧ win0_1.index t = ![t.val % 4, 0] ∧ t.val < 4 :=
  (by decide +kernel : ∀ t : Fin grid0.N, _)

include hX hG in
theorem ba_at (s : Fin cfg0.N) (R : ℕ) (j : Fin 4) (hs : s.val = 4 * R + j.val) (r : Fin 2048) (p : Fin 1024) :
    (iblk m c 0 s : Vec Ideal S2048x1024 .bf16) (ix2 r p) = (fun n => nrm (x n) g) ⟨2048 * j.val + r.val, by omega⟩ (⟨1024 * R + p.val, by have := (idx s).2.2; omega⟩ : Fin 1024) := by
  have e : s.val % 4 = j.val ∧ s.val / 4 = R := by omega
  have f : (win0_0.blk s).view.emb (ix2 r p) = ix2 (⟨2048 * j.val + r.val, by omega⟩ : Fin 8192) (⟨1024 * R + p.val, by have := (idx s).2.2; omega⟩ : Fin 1024) := by blk_ext [idx s, e]
  blk_simp [iblk]
  rw [f]
  entry_read
  clear f
  pointwise
  simp only [hX, hG, c_zero, EReal.coe_zero, zero_add]
  rfl
include hD in
theorem bb_at (s : Fin cfg0.N) (R : ℕ) (j : Fin 4) (hs : s.val = 4 * R + j.val) (r : Fin 2048) (q : Fin 16) :
    (iblk m c 1 s : Vec Ideal S2048x16 .f32) (ix2 r q) = d ⟨2048 * j.val + r.val, by omega⟩ q := by
  have e : s.val % 4 = j.val ∧ s.val / 4 = R := by omega
  refine Eq.trans ?_ (hD _ _)
  blk_simp [iblk, idx s, e]; entry_read; blk_ext [idx s, e]

include hD hX hG in
theorem step_at (n : ℕ) (h : n < cfg0.N) (R : ℕ) (j : Fin 4) (hn : n = 4 * R + j.val) (C : Vec Ideal S1024x16 .f32) (p : Fin 1024) (q : Fin 16) :
    k0_pay2 (iblk m c 0 ⟨n, h⟩) (iblk m c 1 ⟨n, h⟩) C (ix2 p q)
      = C (ix2 p q) + part (fun n => nrm (x n) g) d j (⟨1024 * R + p.val, by have := (idx ⟨n, h⟩).2.2; dsimp only at this; omega⟩ : Fin 1024) q :=
  pay _ _ C (fun r k => ba_at m c x g hX hG ⟨n, h⟩ R j hn r k) (fun r k => bb_at m c d hD ⟨n, h⟩ R j hn r k) p q

include hD hX hG in
theorem final : G2 m c = fun i : S1024x16.Idx => outer (fun n => nrm (x n) g) d (i 0) (i 1) := by
  funext i
  idx_vars i
  have hr : run2Of (ix2 i0 i1) = i0.val / 1024 := by
    show 1 * (i0.val / 1024 - 0) + 1 * (i1.val / 16 - 0) = i0.val / 1024
    omega
  have hl : loc2Of (ix2 i0 i1) = ix2 (⟨i0.val % 1024, Nat.mod_lt _ (by decide)⟩ : Fin 1024) i1 := by
    funext a
    apply Fin.ext
    match a with
    | ⟨0, _⟩ => rfl
    | ⟨1, _⟩ => show i1.val % 16 = i1.val; omega
  have hN : cfg0.N = 4 := N_0
  unfold G2
  rw [dif_pos (by rw [hr]; omega), hl]
  have hi : (⟨1024 * run2Of (ix2 i0 i1) + i0.val % 1024, by rw [hr]; omega⟩ : Fin 1024) = i0 := Fin.ext (by show 1024 * run2Of (ix2 i0 i1) + i0.val % 1024 = i0.val; rw [hr]; omega)
  have st := step_at m c d x g hD hX hG
  refine Eq.trans ?_ (parts (fun n => nrm (x n) g) d i0 i1)
  refine (st _ _ (run2Of (ix2 i0 i1)) 3 rfl _ _ _).trans ?_
  refine plus ((st _ _ (run2Of (ix2 i0 i1)) 2 rfl _ _ _).trans ?_) (by rw [hi])
  refine plus ((st _ _ (run2Of (ix2 i0 i1)) 1 rfl _ _ _).trans ?_) (by rw [hi])
  refine plus ((st _ _ (run2Of (ix2 i0 i1)) 0 rfl _ _ _).trans ?_) (by rw [hi])
  rw [zero, zero_add, hi]

end Cert.ForgetGradIdeal.ForgetWeight

namespace Cert.ForgetWeight

open Cert.Lift Cert.Fwd Cert.Weight ForgetGradIdeal

/-- The reference runs to the end, leaves its arguments alone and every semaphore at zero. -/
theorem frame : Cert.quiescent_ForgetGradRefIdeal := fun m ρ _ =>
  (θ_run _ _ _).mono (fun r h => ⟨fun c => (h c).2, sem_eq_zero_of_no_sems (by decide) r.2⟩) (Cert.ForgetGradRefIdeal.Value.run m ρ)

theorem algebraic : Cert.algebraic_ForgetGradIdeal_ForgetGradRefIdeal := by
  intro m ρ m' ρ' _ hagree
  obtain ⟨d, hD⟩ := rows fun (c : Dev nD) (a : Fin 8192) (b : Fin 16) => (m ((c.tc : Thread nD τ).loc main_arg0) (ix2 a b) : EReal)
  obtain ⟨x, hX⟩ := rows fun (c : Dev nD) (a : Fin 8192) (b : Fin 1024) => (m ((c.tc : Thread nD τ).loc main_arg1) (ix2 a b) : EReal)
  obtain ⟨g, hG⟩ := row fun (c : Dev nD) (a : Fin 1024) => (m ((c.tc : Thread nD τ).loc main_arg2) (ix1 a) : EReal)
  refine ⟨fun c => fun i : S1024x16.Idx => outer (fun n => nrm (x c n) (g c)) (d c) (i 0) (i 1), ?_, ?_⟩
  · run_from Cert.ForgetGradIdeal.Value.run m ρ
    exact ForgetWeight.final m c (d c) (x c) (g c) (hD c) (hX c) (hG c)
  · refine (θ_run _ _ _).mono (fun _ h c => ⟨(h c).1.trans ?_, (h c).2⟩) (Cert.ForgetGradRefIdeal.Value.run m' ρ')
    funext i; idx_vars i; clear h; pointwise []
    obtain ⟨e0, e1, e2, e3⟩ := hagree c
    simp only [e0, e1, e2, e3, hD, hX, hG, c_zero, EReal.coe_zero, zero_add]
    exact Finset.sum_congr rfl fun n _ => mul_comm _ _

end Cert.ForgetWeight

end
-- ==== Proof.GateWeight.lean ====
/- The weight gradient of the embedding's gate over the extended reals: the kernel's run, the run of the derivative of the forward line, the same array. -/
module

public import proofs.«01_k».proof.Defs
public import proofs.«01_k».proof.Proof.Gen.GateGradIdeal.Value
public import proofs.«01_k».proof.Proof.Gen.GateGradRefIdeal.Run
public import proofs.«01_k».proof.Proof.WeightSum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.GateGradIdeal.GateWeight

open Cert.GateGradIdeal Cert.GateGradIdeal.Gen Cert.GateGradIdeal.Value Cert.Fwd Cert.Weight Cert.Lift

theorem pay (a : Fin 2048 → Fin 1024 → EReal) (b : Fin 2048 → Fin 1024 → EReal) {A : FVec Ideal S2048x1024 .bf16} {B : FVec Ideal S2048x1024 .bf16} (C : FVec Ideal S1024x1024 .f32)
    (hA : ∀ r k, A (ix2 r k) = a r k) (hB : ∀ r k, B (ix2 r k) = b r k) (p : Fin 1024) (q : Fin 1024) :
    k0_pay2 (F := Ideal) A B C (ix2 p q) = C (ix2 p q) + ∑ r, a r p * b r q := by
  pointwise [k0_pay2]
  simp only [hA, hB]
theorem zero (p : Fin 1024) (q : Fin 1024) : k0_pay1 (F := Ideal) (ix2 p q) = (0 : EReal) := by
  pointwise [k0_pay1]

variable (m : (ℓ : Loc nD τ sig) → Buf (Elt Ideal) ℓ) (c : Dev nD)
variable (y : Fin 8192 → Fin 1024 → EReal) (x : Fin 8192 → Fin 1024 → EReal) (g : Fin 1024 → EReal) (w : Fin 1024 → Fin 1024 → EReal) (v : Fin 8192 → Fin 256 → EReal) (u : Fin 256 → Fin 1024 → EReal)
variable (hY : ∀ a b, m ((c.tc : Thread nD τ).loc main_arg0) (ix2 a b) = y a b)
  (hX : ∀ a b, m ((c.tc : Thread nD τ).loc main_arg1) (ix2 a b) = x a b)
  (hG : ∀ a, m ((c.tc : Thread nD τ).loc main_arg2) (ix1 a) = g a)
  (hW : ∀ a b, m ((c.tc : Thread nD τ).loc main_arg3) (ix2 a b) = w a b)
  (hV : ∀ a b, m ((c.tc : Thread nD τ).loc main_arg4) (ix2 a b) = v a b)
  (hU : ∀ a b, m ((c.tc : Thread nD τ).loc main_arg5) (ix2 a b) = u a b)

theorem idx : ∀ t : Fin cfg0.N, win0_0.index t = ![t.val % 4, t.val / 4] ∧ win0_1.index t = ![t.val % 4, 0] ∧ t.val < 4 :=
  (by decide +kernel : ∀ t : Fin grid0.N, _)

include hX hG in
theorem ba_at (s : Fin cfg0.N) (R : ℕ) (j : Fin 4) (hs : s.val = 4 * R + j.val) (r : Fin 2048) (p : Fin 1024) :
    (iblk m c 0 s : Vec Ideal S2048x1024 .bf16) (ix2 r p) = (fun n => nrm (x n) g) ⟨2048 * j.val + r.val, by omega⟩ (⟨1024 * R + p.val, by have := (idx s).2.2; omega⟩ : Fin 1024) := by
  have e : s.val % 4 = j.val ∧ s.val / 4 = R := by omega
  have f : (win0_0.blk s).view.emb (ix2 r p) = ix2 (⟨2048 * j.val + r.val, by omega⟩ : Fin 8192) (⟨1024 * R + p.val, by have := (idx s).2.2; omega⟩ : Fin 1024) := by blk_ext [idx s, e]
  blk_simp [iblk]
  rw [f]
  entry_read
  clear f
  pointwise
  simp only [hX, hG, c_zero, EReal.coe_zero, zero_add]
  rfl
include hY hX hG hW hV hU in
theorem bb_at (s : Fin cfg0.N) (R : ℕ) (j : Fin 4) (hs : s.val = 4 * R + j.val) (r : Fin 2048) (q : Fin 1024) :
    (iblk m c 1 s : Vec Ideal S2048x1024 .bf16) (ix2 r q) = (slope y x g w v u) ⟨2048 * j.val + r.val, by omega⟩ q := by
  have e : s.val % 4 = j.val ∧ s.val / 4 = R := by omega
  have f : (win0_1.blk s).view.emb (ix2 r q) = ix2 (⟨2048 * j.val + r.val, by omega⟩ : Fin 8192) q := by blk_ext [idx s, e]
  blk_simp [iblk]
  rw [f]
  entry_read
  clear f
  pointwise
  simp only [hY, hX, hG, hW, hV, hU, c_zero, EReal.coe_zero, zero_add]
  rfl

include hY hX hG hW hV hU in
theorem step_at (n : ℕ) (h : n < cfg0.N) (R : ℕ) (j : Fin 4) (hn : n = 4 * R + j.val) (C : Vec Ideal S1024x1024 .f32) (p : Fin 1024) (q : Fin 1024) :
    k0_pay2 (iblk m c 0 ⟨n, h⟩) (iblk m c 1 ⟨n, h⟩) C (ix2 p q)
      = C (ix2 p q) + part (fun n => nrm (x n) g) (slope y x g w v u) j (⟨1024 * R + p.val, by have := (idx ⟨n, h⟩).2.2; dsimp only at this; omega⟩ : Fin 1024) q :=
  pay _ _ C (fun r k => ba_at m c x g hX hG ⟨n, h⟩ R j hn r k) (fun r k => bb_at m c y x g w v u hY hX hG hW hV hU ⟨n, h⟩ R j hn r k) p q

include hY hX hG hW hV hU in
theorem final : G2 m c = fun i : S1024x1024.Idx => outer (fun n => nrm (x n) g) (slope y x g w v u) (i 0) (i 1) := by
  funext i
  idx_vars i
  have hr : run2Of (ix2 i0 i1) = i0.val / 1024 := by
    show 1 * (i0.val / 1024 - 0) + 1 * (i1.val / 1024 - 0) = i0.val / 1024
    omega
  have hl : loc2Of (ix2 i0 i1) = ix2 (⟨i0.val % 1024, Nat.mod_lt _ (by decide)⟩ : Fin 1024) i1 := by
    funext a
    apply Fin.ext
    match a with
    | ⟨0, _⟩ => rfl
    | ⟨1, _⟩ => show i1.val % 1024 = i1.val; omega
  have hN : cfg0.N = 4 := N_0
  unfold G2
  rw [dif_pos (by rw [hr]; omega), hl]
  have hi : (⟨1024 * run2Of (ix2 i0 i1) + i0.val % 1024, by rw [hr]; omega⟩ : Fin 1024) = i0 := Fin.ext (by show 1024 * run2Of (ix2 i0 i1) + i0.val % 1024 = i0.val; rw [hr]; omega)
  have st := step_at m c y x g w v u hY hX hG hW hV hU
  refine Eq.trans ?_ (parts (fun n => nrm (x n) g) (slope y x g w v u) i0 i1)
  refine (st _ _ (run2Of (ix2 i0 i1)) 3 rfl _ _ _).trans ?_
  refine plus ((st _ _ (run2Of (ix2 i0 i1)) 2 rfl _ _ _).trans ?_) (by rw [hi])
  refine plus ((st _ _ (run2Of (ix2 i0 i1)) 1 rfl _ _ _).trans ?_) (by rw [hi])
  refine plus ((st _ _ (run2Of (ix2 i0 i1)) 0 rfl _ _ _).trans ?_) (by rw [hi])
  rw [zero, zero_add, hi]

end Cert.GateGradIdeal.GateWeight

namespace Cert.GateWeight

open Cert.Lift Cert.Fwd Cert.Weight GateGradIdeal

/-- The reference runs to the end, leaves its arguments alone and every semaphore at zero. -/
theorem frame : Cert.quiescent_GateGradRefIdeal := fun m ρ _ =>
  (θ_run _ _ _).mono (fun r h => ⟨fun c => (h c).2, sem_eq_zero_of_no_sems (by decide) r.2⟩) (Cert.GateGradRefIdeal.Value.run m ρ)

theorem algebraic : Cert.algebraic_GateGradIdeal_GateGradRefIdeal := by
  intro m ρ m' ρ' _ hagree
  obtain ⟨y, hY⟩ := rows fun (c : Dev nD) (a : Fin 8192) (b : Fin 1024) => (m ((c.tc : Thread nD τ).loc main_arg0) (ix2 a b) : EReal)
  obtain ⟨x, hX⟩ := rows fun (c : Dev nD) (a : Fin 8192) (b : Fin 1024) => (m ((c.tc : Thread nD τ).loc main_arg1) (ix2 a b) : EReal)
  obtain ⟨g, hG⟩ := row fun (c : Dev nD) (a : Fin 1024) => (m ((c.tc : Thread nD τ).loc main_arg2) (ix1 a) : EReal)
  obtain ⟨w, hW⟩ := rows fun (c : Dev nD) (a : Fin 1024) (b : Fin 1024) => (m ((c.tc : Thread nD τ).loc main_arg3) (ix2 a b) : EReal)
  obtain ⟨v, hV⟩ := rows fun (c : Dev nD) (a : Fin 8192) (b : Fin 256) => (m ((c.tc : Thread nD τ).loc main_arg4) (ix2 a b) : EReal)
  obtain ⟨u, hU⟩ := rows fun (c : Dev nD) (a : Fin 256) (b : Fin 1024) => (m ((c.tc : Thread nD τ).loc main_arg5) (ix2 a b) : EReal)
  refine ⟨fun c => fun i : S1024x1024.Idx => outer (fun n => nrm (x c n) (g c)) (slope (y c) (x c) (g c) (w c) (v c) (u c)) (i 0) (i 1), ?_, ?_⟩
  · run_from Cert.GateGradIdeal.Value.run m ρ
    exact GateWeight.final m c (y c) (x c) (g c) (w c) (v c) (u c) (hY c) (hX c) (hG c) (hW c) (hV c) (hU c)
  · refine (θ_run _ _ _).mono (fun _ h c => ⟨(h c).1.trans ?_, (h c).2⟩) (Cert.GateGradRefIdeal.Value.run m' ρ')
    funext i; idx_vars i; clear h; pointwise []
    obtain ⟨e0, e1, e2, e3, e4, e5⟩ := hagree c
    simp only [e0, e1, e2, e3, e4, e5, hY, hX, hG, hW, hV, hU, c_zero, EReal.coe_zero, zero_add]
    exact Finset.sum_congr rfl fun n _ => (mul_comm _ _).trans (congrArg (nrm (x c n) (g c) i0 * ·) (mul_assoc (G := EReal) _ _ _).symm)

end Cert.GateWeight

end
-- ==== Proof.ShardSum.lean ====
/- Shards of columns: what a block of several shards holds after its stores, one shard each, and what a load of one shard reads. -/
module

public import proofs.«01_k».proof.Proof.WeightSum
public import Idealize.ShloMosaic.Lib.Pipeline.ValueKit

@[expose] public section

set_option maxRecDepth 16384

noncomputable section

open Idealize.ShloMosaic Idealize.ShloMosaic.TcCoe Idealize.SL.Sem

namespace Cert.Shard

variable {D M W : ℕ} {d : ℕ}

theorem at_idx (inb : ∀ a, (![d, 0, 0] : Fin 3 → ℕ) a + (![1, M, W] : Fin 3 → ℕ) a ≤ (⟨3, ![D, M, W]⟩ : Shape).size a) (p : Fin M) (q : Fin W) :
    (Rect.unit (s := ⟨3, ![D, M, W]⟩) ![d, 0, 0] ![1, M, W] inb).idx (ix3 (0 : Fin 1) p q) = ix3 (⟨d, by simpa using inb 0⟩ : Fin D) p q := by
  funext a; apply Fin.ext; fin_cases a
  · show d + 1 * 0 = d; omega
  · show 0 + 1 * p.val = p.val; omega
  · show 0 + 1 * q.val = q.val; omega

theorem load (X : Vec Ideal ⟨3, ![D, M, W]⟩ .f32)
    (inb : ∀ a, (![d, 0, 0] : Fin 3 → ℕ) a + (![1, M, W] : Fin 3 → ℕ) a ≤ (⟨3, ![D, M, W]⟩ : Shape).size a) (p : Fin M) (q : Fin W) :
    View.ld (Val := Elt Ideal) X (Rect.unit (s := ⟨3, ![D, M, W]⟩) ![d, 0, 0] ![1, M, W] inb) (ix3 (0 : Fin 1) p q) = X (ix3 (⟨d, by simpa using inb 0⟩ : Fin D) p q) :=
  congrArg X (at_idx inb p q)

theorem reload {sig : RefSig} {κ : Kind} {sp : Space} (v : View sig κ sp ⟨3, ![D, M, W]⟩ .f32) (L : List (View.Piece (Elt Ideal) ⟨3, ![D, M, W]⟩ .f32))
    (inb : ∀ a, (![d, 0, 0] : Fin 3 → ℕ) a + (![1, M, W] : Fin 3 → ℕ) a ≤ (⟨3, ![D, M, W]⟩ : Shape).size a) (p : Fin M) (q : Fin W) :
    v.readCov L (Rect.unit (s := ⟨3, ![D, M, W]⟩) ![d, 0, 0] ![1, M, W] inb).toLoadRect (ix3 (0 : Fin 1) p q) = View.canon L (ix3 (⟨d, by simpa using inb 0⟩ : Fin D) p q) := by
  rw [View.readCov_eq_canon']
  exact congrArg (View.canon L) (at_idx inb p q)

theorem store (L : List (View.Piece (Elt Ideal) ⟨3, ![D, M, W]⟩ .f32))
    (inb : ∀ a, (![d, 0, 0] : Fin 3 → ℕ) a + (![1, M, W] : Fin 3 → ℕ) a ≤ (⟨3, ![D, M, W]⟩ : Shape).size a) (w : Vec Ideal ⟨3, ![1, M, W]⟩ .f32) (i : Fin D) (p : Fin M) (q : Fin W) :
    View.canon ((⟨Rect.unit (s := ⟨3, ![D, M, W]⟩) ![d, 0, 0] ![1, M, W] inb, w⟩ : View.Piece (Elt Ideal) ⟨3, ![D, M, W]⟩ .f32) :: L) (ix3 i p q)
      = if i.val = d then w (ix3 (0 : Fin 1) p q) else View.canon L (ix3 i p q) := by
  split
  · rename_i h
    have e : ix3 i p q = (Rect.unit (s := ⟨3, ![D, M, W]⟩) ![d, 0, 0] ![1, M, W] inb).emb (ix3 (0 : Fin 1) p q) :=
      Eq.trans (by rw [show i = ⟨d, by simpa using inb 0⟩ from Fin.ext h]) (at_idx inb p q).symm
    rw [e]; exact View.canon_cons_emb (Rect.unit (s := ⟨3, ![D, M, W]⟩) ![d, 0, 0] ![1, M, W] inb) w L _
  · rename_i h
    refine View.canon_cons_of_not_mem _ L fun hm => h ?_
    have hm : ix3 i p q ∈ (Rect.unit (s := ⟨3, ![D, M, W]⟩) ![d, 0, 0] ![1, M, W] inb).set := hm
    rw [Rect.mem_set_unit] at hm
    have := hm (0 : Fin 3)
    have h1 : d ≤ i.val := this.1
    have h2 : i.val < d + 1 := this.2
    omega

theorem whole (L : List (View.Piece (Elt Ideal) ⟨3, ![D, M, W]⟩ .f32))
    (inb : ∀ a, (![0, 0, 0] : Fin 3 → ℕ) a + (![D, M, W] : Fin 3 → ℕ) a ≤ (⟨3, ![D, M, W]⟩ : Shape).size a) (w : Vec Ideal ⟨3, ![D, M, W]⟩ .f32) :
    View.canon ((⟨Rect.unit (s := ⟨3, ![D, M, W]⟩) ![0, 0, 0] ![D, M, W] inb, w⟩ : View.Piece (Elt Ideal) ⟨3, ![D, M, W]⟩ .f32) :: L) = w :=
  View.canon_cons_unit_lit (S := ⟨3, ![D, M, W]⟩) inb w L fun a => by fin_cases a <;> rfl

/-- The summed products of two arrays' columns, the second's in eight shards. -/
def cols {M N W : ℕ} (h : N = 8 * W) (a : Fin 8192 → Fin M → EReal) (b : Fin 8192 → Fin N → EReal) (i : Fin 8) (p : Fin M) (q : Fin W) : EReal :=
  Weight.outer a b p ⟨i.val * W + q.val, by have := Nat.mul_le_mul_right W (Nat.le_of_lt_succ i.isLt); have := q.isLt; omega⟩

end Cert.Shard

end
-- ==== Proof.MixerShards.lean ====
/- The weight gradient of the channel mixer's first matrix over the extended reals, in shards of columns: the kernel's run, the run of the derivative of the forward line, the same array. -/
module

public import proofs.«01_k».proof.Defs
public import proofs.«01_k».proof.Proof.Gen.W1GradIdeal.Value
public import proofs.«01_k».proof.Proof.Gen.W1GradRefIdeal.Run
public import proofs.«01_k».proof.Proof.ShardSum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.W1GradIdeal.MixerShards

open Cert.W1GradIdeal Cert.W1GradIdeal.Gen Cert.W1GradIdeal.Value Cert.Fwd Cert.Weight Cert.Lift

theorem pay (a : Fin 2048 → Fin 1024 → EReal) (b : Fin 2048 → Fin 1024 → EReal) {A : FVec Ideal S2048x1024 .bf16} {B : FVec Ideal S2048x1024 .bf16}
    (hA : ∀ r k, A (ix2 r k) = a r k) (hB : ∀ r k, B (ix2 r k) = b r k) (C : Vec Ideal S1x1024x512 .f32) (p : Fin 1024) (q : Fin 512) :
    k0_pay3 (F := Ideal) A B C (ix3 0 p q) = C (ix3 0 p q) + ∑ r, a r p * b r (⟨q.val, by omega⟩ : Fin 1024)
      ∧ k0_pay4 (F := Ideal) A B C (ix3 0 p q) = C (ix3 0 p q) + ∑ r, a r p * b r (⟨512 + q.val, by omega⟩ : Fin 1024) := by
  refine ⟨?_, ?_⟩ <;> pointwise [k0_pay3, k0_pay4, k0_pay2] <;> simp only [hA, hB]
theorem zero (e : Fin 2) (p : Fin 1024) (q : Fin 512) : k0_pay1 (F := Ideal) (ix3 e p q) = (0 : EReal) := by
  pointwise [k0_pay1]

variable (m : (ℓ : Loc nD τ sig) → Buf (Elt Ideal) ℓ) (c : Dev nD)

section Steps
variable (t : Fin cfg0.N) (a : Fin 2048 → Fin 1024 → EReal) (b : Fin 2048 → Fin 1024 → EReal)
  (hA : ∀ r k, (iblk m c 0 t : Vec Ideal S2048x1024 .bf16) (ix2 r k) = a r k) (hB : ∀ r k, (iblk m c 1 t : Vec Ideal S2048x1024 .bf16) (ix2 r k) = b r k)

include hA hB in
theorem outs_A (h0 : t.val % 4 = 0) (e : Fin 2) (p : Fin 1024) (q : Fin 512) :
    outsAt0 m c t.val t.isLt (ix3 e p q) = ∑ r, a r p * b r (⟨512 * e.val + q.val, by omega⟩ : Fin 1024) := by
  rw [outsAt0_A m c t h0]
  frame_out
  fin_cases e <;> simp [Shard.store, Shard.reload, Shard.whole, pay a b hA hB, zero]
include hA hB in
theorem outs_B (h0 : ¬t.val % 4 = 0) (e : Fin 2) (p : Fin 1024) (q : Fin 512) :
    outsAt0 m c t.val t.isLt (ix3 e p q) = outsAt0 m c (t.val - 1) (by omega) (ix3 e p q) + ∑ r, a r p * b r (⟨512 * e.val + q.val, by omega⟩ : Fin 1024) := by
  rw [outsAt0_B m c t h0]
  frame_out
  have l := fun d inb => Shard.load (d := d) (outsAt0 m c (t.val - 1) (by omega)) inb p q
  fin_cases e <;> simp [Shard.store, l, pay a b hA hB]
end Steps

variable (y : Fin 8192 → Fin 4096 → EReal) (x : Fin 8192 → Fin 1024 → EReal) (g : Fin 1024 → EReal)
variable (hY : ∀ a b, m ((c.tc : Thread nD τ).loc main_arg0) (ix2 a b) = y a b)
  (hX : ∀ a b, m ((c.tc : Thread nD τ).loc main_arg1) (ix2 a b) = x a b)
  (hG : ∀ a, m ((c.tc : Thread nD τ).loc main_arg2) (ix1 a) = g a)

theorem idx : ∀ t : Fin cfg0.N, win0_0.index t = ![t.val % 4, 0] ∧ win0_1.index t = ![t.val % 4, t.val / 4] ∧ win0_2.index t = ![t.val / 4, 0, 0] ∧ t.val < 16 :=
  (by decide +kernel : ∀ t : Fin grid0.N, _)

include hX hG in
theorem ba_at (s : Fin cfg0.N) (R : ℕ) (j : Fin 4) (hs : s.val = 4 * R + j.val) (r : Fin 2048) (p : Fin 1024) :
    (iblk m c 0 s : Vec Ideal S2048x1024 .bf16) (ix2 r p) = (fun n => nrm (x n) g) ⟨2048 * j.val + r.val, by omega⟩ p := by
  have e : s.val % 4 = j.val ∧ s.val / 4 = R := by omega
  have f : (win0_0.blk s).view.emb (ix2 r p) = ix2 (⟨2048 * j.val + r.val, by omega⟩ : Fin 8192) p := by blk_ext [idx s, e]
  blk_simp [iblk]
  rw [f]
  entry_read
  clear f
  pointwise
  simp only [hX, hG, c_zero, EReal.coe_zero, zero_add]
  rfl
include hY in
theorem bb_at (s : Fin cfg0.N) (R : ℕ) (j : Fin 4) (hs : s.val = 4 * R + j.val) (r : Fin 2048) (q : Fin 1024) :
    (iblk m c 1 s : Vec Ideal S2048x1024 .bf16) (ix2 r q) = (y) ⟨2048 * j.val + r.val, by omega⟩ (⟨1024 * R + q.val, by have := (idx s).2.2.2; omega⟩ : Fin 4096) := by
  have e : s.val % 4 = j.val ∧ s.val / 4 = R := by omega
  have f : (win0_1.blk s).view.emb (ix2 r q) = ix2 (⟨2048 * j.val + r.val, by omega⟩ : Fin 8192) (⟨1024 * R + q.val, by have := (idx s).2.2.2; omega⟩ : Fin 4096) := by blk_ext [idx s, e]
  blk_simp [iblk]
  rw [f]
  entry_read
  clear f
  pointwise
  simp only [hY]

include hY hX hG in
theorem last (R : ℕ) (h : 4 * R + 3 < cfg0.N) (hN : cfg0.N = 16) (e : Fin 2) (p : Fin 1024) (q : Fin 512) :
    outsAt0 m c (4 * R + 3) h (ix3 e p q) = outer (fun n => nrm (x n) g) (y) p ⟨1024 * R + (512 * e.val + q.val), by omega⟩ := by
  have A := fun j (s : Fin cfg0.N) hs => ba_at m c x g hX hG s R j hs
  have B := fun j (s : Fin cfg0.N) hs => bb_at m c y hY s R j hs
  refine Eq.trans ?_ (parts (fun n => nrm (x n) g) (y) p _)
  refine (outs_B m c ⟨4 * R + 3, h⟩ _ _ (A 3 _ rfl) (B 3 _ rfl) (by dsimp only; omega) e p q).trans (congrArg (· + _) ?_)
  refine (outs_B m c ⟨4 * R + 2, by omega⟩ _ _ (A 2 _ rfl) (B 2 _ rfl) (by dsimp only; omega) e p q).trans (congrArg (· + _) ?_)
  refine (outs_B m c ⟨4 * R + 1, by omega⟩ _ _ (A 1 _ rfl) (B 1 _ rfl) (by dsimp only; omega) e p q).trans (congrArg (· + _) ?_)
  exact outs_A m c ⟨4 * R, by omega⟩ _ _ (A 0 _ rfl) (B 0 _ rfl) (by dsimp only; omega) e p q

include hY hX hG in
theorem final : (dats m 0 c).arrAt 2 (cfgs 0).N = fun i : S8x1024x512.Idx => Shard.cols (by decide) (fun n => nrm (x n) g) (y) (i 0) (i 1) (i 2) := by
  refine (dats m 0 c).arrAt_eq_of_covers 2 _ (by decide +kernel) fun s hs y => ?_
  have h := (flush0_2 s).mp hs
  have h4 : s.val = 4 * (s.val / 4) + 3 := by omega
  have hN : cfg0.N = 16 := N_0
  have lt := (idx s).2.2.2
  blk_simp
  rw [after0_2]
  idx_vars y
  have e : ((View.whole main_v15).slice (win0_2.rect s)).emb (ix3 y0 y1 y2) = ix3 (⟨2 * (s.val / 4) + y0.val, by omega⟩ : Fin 8) y1 y2 := by
    blk_ext [idx s]
  rw [e]
  have k : ∀ n (hn : n < cfg0.N), n = 4 * (s.val / 4) + 3 → outsAt0 m c n hn (ix3 y0 y1 y2) = outer (fun n => nrm (x n) g) (y) y1 ⟨1024 * (s.val / 4) + (512 * y0.val + y2.val), by omega⟩ := by
    intro n hn e
    subst e
    exact last m c y x g hY hX hG _ hn hN y0 y1 y2
  refine (k s.val s.isLt h4).trans (congrArg (outer _ _ y1) (Fin.ext ?_))
  show 1024 * (s.val / 4) + (512 * y0.val + y2.val) = (2 * (s.val / 4) + y0.val) * 512 + y2.val
  omega

end Cert.W1GradIdeal.MixerShards

namespace Cert.MixerShards

open Cert.Fwd Cert.Weight Cert.Lift W1GradIdeal

/-- The reference runs to the end, leaves its arguments alone and every semaphore at zero. -/
theorem frame : Cert.quiescent_W1GradRefIdeal := fun m ρ _ =>
  (θ_run _ _ _).mono (fun r h => ⟨fun c => (h c).2, sem_eq_zero_of_no_sems (by decide) r.2⟩) (Cert.W1GradRefIdeal.Value.run m ρ)

theorem algebraic : Cert.algebraic_W1GradIdeal_W1GradRefIdeal := by
  intro m ρ m' ρ' _ hagree
  obtain ⟨y, hY⟩ := rows fun (c : Dev nD) (a : Fin 8192) (b : Fin 4096) => (m ((c.tc : Thread nD τ).loc main_arg0) (ix2 a b) : EReal)
  obtain ⟨x, hX⟩ := rows fun (c : Dev nD) (a : Fin 8192) (b : Fin 1024) => (m ((c.tc : Thread nD τ).loc main_arg1) (ix2 a b) : EReal)
  obtain ⟨g, hG⟩ := row fun (c : Dev nD) (a : Fin 1024) => (m ((c.tc : Thread nD τ).loc main_arg2) (ix1 a) : EReal)
  refine ⟨fun c => fun i : S8x1024x512.Idx => Shard.cols (by decide) (fun n => nrm (x c n) (g c)) (y c) (i 0) (i 1) (i 2), ?_, ?_⟩
  · run_from Cert.W1GradIdeal.Value.run_blocks m ρ
    exact W1GradIdeal.MixerShards.final m c (y c) (x c) (g c) (hY c) (hX c) (hG c)
  · refine (θ_run _ _ _).mono (fun _ h c => ⟨(h c).1.trans ?_, (h c).2⟩) (Cert.W1GradRefIdeal.Value.run m' ρ')
    funext i; idx_vars i; clear h; pointwise []
    obtain ⟨e0, e1, e2, e3⟩ := hagree c
    simp only [e0, e1, e2, e3, hY, hX, hG, c_zero, EReal.coe_zero, zero_add]
    exact Finset.sum_congr rfl fun n _ => mul_comm _ _

end Cert.MixerShards

end
-- ==== Proof.ConvShards.lean ====
/- The weight gradient of the first pointwise product around the convolution over the extended reals, in shards of columns: the kernel's run, the run of the derivative of the forward line, the same array. -/
module

public import proofs.«01_k».proof.Defs
public import proofs.«01_k».proof.Proof.Gen.ConvGradIdeal.Value
public import proofs.«01_k».proof.Proof.Gen.ConvGradRefIdeal.Run
public import proofs.«01_k».proof.Proof.ShardSum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ConvGradIdeal.ConvShards

open Cert.ConvGradIdeal Cert.ConvGradIdeal.Gen Cert.ConvGradIdeal.Value Cert.Fwd Cert.Weight Cert.Lift

theorem pay (a : Fin 2048 → Fin 1024 → EReal) (b : Fin 2048 → Fin 1024 → EReal) {A : FVec Ideal S2048x1024 .bf16} {B : FVec Ideal S2048x1024 .bf16}
    (hA : ∀ r k, A (ix2 r k) = a r k) (hB : ∀ r k, B (ix2 r k) = b r k) (C : Vec Ideal S1x1024x256 .f32) (p : Fin 1024) (q : Fin 256) :
    k0_pay4 (F := Ideal) A B C (ix3 0 p q) = C (ix3 0 p q) + ∑ r, a r p * b r (⟨q.val, by omega⟩ : Fin 1024)
      ∧ k0_pay5 (F := Ideal) A B C (ix3 0 p q) = C (ix3 0 p q) + ∑ r, a r p * b r (⟨256 + q.val, by omega⟩ : Fin 1024)
      ∧ k0_pay6 (F := Ideal) A B C (ix3 0 p q) = C (ix3 0 p q) + ∑ r, a r p * b r (⟨512 + q.val, by omega⟩ : Fin 1024)
      ∧ k0_pay1 (F := Ideal) (k0_pay3 A B) C (ix3 0 p q) = C (ix3 0 p q) + ∑ r, a r p * b r (⟨768 + q.val, by omega⟩ : Fin 1024) := by
  refine ⟨?_, ?_, ?_, ?_⟩ <;> pointwise [k0_pay4, k0_pay5, k0_pay6, k0_pay1, k0_pay3] <;> simp only [hA, hB]
theorem zero (e : Fin 4) (p : Fin 1024) (q : Fin 256) : k0_pay2 (F := Ideal) (ix3 e p q) = (0 : EReal) := by
  pointwise [k0_pay2]

variable (m : (ℓ : Loc nD τ sig) → Buf (Elt Ideal) ℓ) (c : Dev nD)

section Steps
variable (t : Fin cfg0.N) (a : Fin 2048 → Fin 1024 → EReal) (b : Fin 2048 → Fin 1024 → EReal)
  (hA : ∀ r k, (iblk m c 0 t : Vec Ideal S2048x1024 .bf16) (ix2 r k) = a r k) (hB : ∀ r k, (iblk m c 1 t : Vec Ideal S2048x1024 .bf16) (ix2 r k) = b r k)

include hA hB in
theorem outs_A (h0 : t.val % 4 = 0) (e : Fin 4) (p : Fin 1024) (q : Fin 256) :
    outsAt0 m c t.val t.isLt (ix3 e p q) = ∑ r, a r p * b r (⟨256 * e.val + q.val, by omega⟩ : Fin 1024) := by
  rw [outsAt0_A m c t h0]
  frame_out
  fin_cases e <;> simp [Shard.store, Shard.reload, Shard.whole, pay a b hA hB, zero]
include hA hB in
theorem outs_B (h0 : ¬t.val % 4 = 0) (e : Fin 4) (p : Fin 1024) (q : Fin 256) :
    outsAt0 m c t.val t.isLt (ix3 e p q) = outsAt0 m c (t.val - 1) (by omega) (ix3 e p q) + ∑ r, a r p * b r (⟨256 * e.val + q.val, by omega⟩ : Fin 1024) := by
  rw [outsAt0_B m c t h0]
  frame_out
  have l := fun d inb => Shard.load (d := d) (outsAt0 m c (t.val - 1) (by omega)) inb p q
  fin_cases e <;> simp [Shard.store, l, pay a b hA hB]
end Steps

variable (y : Fin 8192 → Fin 2048 → EReal) (x : Fin 8192 → Fin 1024 → EReal) (g : Fin 1024 → EReal)
variable (hY : ∀ a b, m ((c.tc : Thread nD τ).loc main_arg0) (ix2 a b) = y a b)
  (hX : ∀ a b, m ((c.tc : Thread nD τ).loc main_arg1) (ix2 a b) = x a b)
  (hG : ∀ a, m ((c.tc : Thread nD τ).loc main_arg2) (ix1 a) = g a)

theorem idx : ∀ t : Fin cfg0.N, win0_0.index t = ![t.val % 4, 0] ∧ win0_1.index t = ![t.val % 4, t.val / 4] ∧ win0_2.index t = ![t.val / 4, 0, 0] ∧ t.val < 8 :=
  (by decide +kernel : ∀ t : Fin grid0.N, _)

include hX hG in
theorem ba_at (s : Fin cfg0.N) (R : ℕ) (j : Fin 4) (hs : s.val = 4 * R + j.val) (r : Fin 2048) (p : Fin 1024) :
    (iblk m c 0 s : Vec Ideal S2048x1024 .bf16) (ix2 r p) = (fun n => nrm (x n) g) ⟨2048 * j.val + r.val, by omega⟩ p := by
  have e : s.val % 4 = j.val ∧ s.val / 4 = R := by omega
  have f : (win0_0.blk s).view.emb (ix2 r p) = ix2 (⟨2048 * j.val + r.val, by omega⟩ : Fin 8192) p := by blk_ext [idx s, e]
  blk_simp [iblk]
  rw [f]
  entry_read
  clear f
  pointwise
  simp only [hX, hG, c_zero, EReal.coe_zero, zero_add]
  rfl
include hY in
theorem bb_at (s : Fin cfg0.N) (R : ℕ) (j : Fin 4) (hs : s.val = 4 * R + j.val) (r : Fin 2048) (q : Fin 1024) :
    (iblk m c 1 s : Vec Ideal S2048x1024 .bf16) (ix2 r q) = (y) ⟨2048 * j.val + r.val, by omega⟩ (⟨1024 * R + q.val, by have := (idx s).2.2.2; omega⟩ : Fin 2048) := by
  have e : s.val % 4 = j.val ∧ s.val / 4 = R := by omega
  have f : (win0_1.blk s).view.emb (ix2 r q) = ix2 (⟨2048 * j.val + r.val, by omega⟩ : Fin 8192) (⟨1024 * R + q.val, by have := (idx s).2.2.2; omega⟩ : Fin 2048) := by blk_ext [idx s, e]
  blk_simp [iblk]
  rw [f]
  entry_read
  clear f
  pointwise
  simp only [hY]

include hY hX hG in
theorem last (R : ℕ) (h : 4 * R + 3 < cfg0.N) (hN : cfg0.N = 8) (e : Fin 4) (p : Fin 1024) (q : Fin 256) :
    outsAt0 m c (4 * R + 3) h (ix3 e p q) = outer (fun n => nrm (x n) g) (y) p ⟨1024 * R + (256 * e.val + q.val), by omega⟩ := by
  have A := fun j (s : Fin cfg0.N) hs => ba_at m c x g hX hG s R j hs
  have B := fun j (s : Fin cfg0.N) hs => bb_at m c y hY s R j hs
  refine Eq.trans ?_ (parts (fun n => nrm (x n) g) (y) p _)
  refine (outs_B m c ⟨4 * R + 3, h⟩ _ _ (A 3 _ rfl) (B 3 _ rfl) (by dsimp only; omega) e p q).trans (congrArg (· + _) ?_)
  refine (outs_B m c ⟨4 * R + 2, by omega⟩ _ _ (A 2 _ rfl) (B 2 _ rfl) (by dsimp only; omega) e p q).trans (congrArg (· + _) ?_)
  refine (outs_B m c ⟨4 * R + 1, by omega⟩ _ _ (A 1 _ rfl) (B 1 _ rfl) (by dsimp only; omega) e p q).trans (congrArg (· + _) ?_)
  exact outs_A m c ⟨4 * R, by omega⟩ _ _ (A 0 _ rfl) (B 0 _ rfl) (by dsimp only; omega) e p q

include hY hX hG in
theorem final : (dats m 0 c).arrAt 2 (cfgs 0).N = fun i : S8x1024x256.Idx => Shard.cols (by decide) (fun n => nrm (x n) g) (y) (i 0) (i 1) (i 2) := by
  refine (dats m 0 c).arrAt_eq_of_covers 2 _ (by decide +kernel) fun s hs y => ?_
  have h := (flush0_2 s).mp hs
  have h4 : s.val = 4 * (s.val / 4) + 3 := by omega
  have hN : cfg0.N = 8 := N_0
  have lt := (idx s).2.2.2
  blk_simp
  rw [after0_2]
  idx_vars y
  have e : ((View.whole main_v15).slice (win0_2.rect s)).emb (ix3 y0 y1 y2) = ix3 (⟨4 * (s.val / 4) + y0.val, by omega⟩ : Fin 8) y1 y2 := by
    blk_ext [idx s]
  rw [e]
  have k : ∀ n (hn : n < cfg0.N), n = 4 * (s.val / 4) + 3 → outsAt0 m c n hn (ix3 y0 y1 y2) = outer (fun n => nrm (x n) g) (y) y1 ⟨1024 * (s.val / 4) + (256 * y0.val + y2.val), by omega⟩ := by
    intro n hn e
    subst e
    exact last m c y x g hY hX hG _ hn hN y0 y1 y2
  refine (k s.val s.isLt h4).trans (congrArg (outer _ _ y1) (Fin.ext ?_))
  show 1024 * (s.val / 4) + (256 * y0.val + y2.val) = (4 * (s.val / 4) + y0.val) * 256 + y2.val
  omega

end Cert.ConvGradIdeal.ConvShards

namespace Cert.ConvShards

open Cert.Fwd Cert.Weight Cert.Lift ConvGradIdeal

/-- The reference runs to the end, leaves its arguments alone and every semaphore at zero. -/
theorem frame : Cert.quiescent_ConvGradRefIdeal := fun m ρ _ =>
  (θ_run _ _ _).mono (fun r h => ⟨fun c => (h c).2, sem_eq_zero_of_no_sems (by decide) r.2⟩) (Cert.ConvGradRefIdeal.Value.run m ρ)

theorem algebraic : Cert.algebraic_ConvGradIdeal_ConvGradRefIdeal := by
  intro m ρ m' ρ' _ hagree
  obtain ⟨y, hY⟩ := rows fun (c : Dev nD) (a : Fin 8192) (b : Fin 2048) => (m ((c.tc : Thread nD τ).loc main_arg0) (ix2 a b) : EReal)
  obtain ⟨x, hX⟩ := rows fun (c : Dev nD) (a : Fin 8192) (b : Fin 1024) => (m ((c.tc : Thread nD τ).loc main_arg1) (ix2 a b) : EReal)
  obtain ⟨g, hG⟩ := row fun (c : Dev nD) (a : Fin 1024) => (m ((c.tc : Thread nD τ).loc main_arg2) (ix1 a) : EReal)
  refine ⟨fun c => fun i : S8x1024x256.Idx => Shard.cols (by decide) (fun n => nrm (x c n) (g c)) (y c) (i 0) (i 1) (i 2), ?_, ?_⟩
  · run_from Cert.ConvGradIdeal.Value.run_blocks m ρ
    exact ConvGradIdeal.ConvShards.final m c (y c) (x c) (g c) (hY c) (hX c) (hG c)
  · refine (θ_run _ _ _).mono (fun _ h c => ⟨(h c).1.trans ?_, (h c).2⟩) (Cert.ConvGradRefIdeal.Value.run m' ρ')
    funext i; idx_vars i; clear h; pointwise []
    obtain ⟨e0, e1, e2, e3, e4⟩ := hagree c
    simp only [e0, e1, e2, e3, e4, hY, hX, hG, c_zero, EReal.coe_zero, zero_add]
    exact Finset.sum_congr rfl fun n _ => mul_comm _ _

end Cert.ConvShards

end
-- ==== Proof.ProjShards.lean ====
/- The weight gradient of the per-layer embedding's projection over the extended reals, in shards of columns: the kernel's run, the run of the derivative of the forward line, the same array. -/
module

public import proofs.«01_k».proof.Defs
public import proofs.«01_k».proof.Proof.Gen.ProjGradIdeal.Value
public import proofs.«01_k».proof.Proof.Gen.ProjGradRefIdeal.Run
public import proofs.«01_k».proof.Proof.ShardSum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ProjGradIdeal.ProjShards

open Cert.ProjGradIdeal Cert.ProjGradIdeal.Gen Cert.ProjGradIdeal.Value Cert.Fwd Cert.Weight Cert.Lift

theorem pay (a : Fin 2048 → Fin 256 → EReal) (b : Fin 2048 → Fin 1024 → EReal) {A : FVec Ideal S2048x256 .f32} {B : FVec Ideal S2048x1024 .bf16}
    (hA : ∀ r k, A (ix2 r k) = a r k) (hB : ∀ r k, B (ix2 r k) = b r k) (C : Vec Ideal S1x256x128 .f32) (p : Fin 256) (q : Fin 128) :
    k0_pay4 (F := Ideal) A B C (ix3 0 p q) = C (ix3 0 p q) + ∑ r, a r p * b r (⟨q.val, by omega⟩ : Fin 1024)
      ∧ k0_pay5 (F := Ideal) A B C (ix3 0 p q) = C (ix3 0 p q) + ∑ r, a r p * b r (⟨128 + q.val, by omega⟩ : Fin 1024)
      ∧ k0_pay6 (F := Ideal) A B C (ix3 0 p q) = C (ix3 0 p q) + ∑ r, a r p * b r (⟨256 + q.val, by omega⟩ : Fin 1024)
      ∧ k0_pay7 (F := Ideal) (k0_pay3 A B) C (ix3 0 p q) = C (ix3 0 p q) + ∑ r, a r p * b r (⟨384 + q.val, by omega⟩ : Fin 1024)
      ∧ k0_pay8 (F := Ideal) (k0_pay3 A B) C (ix3 0 p q) = C (ix3 0 p q) + ∑ r, a r p * b r (⟨512 + q.val, by omega⟩ : Fin 1024)
      ∧ k0_pay9 (F := Ideal) (k0_pay3 A B) C (ix3 0 p q) = C (ix3 0 p q) + ∑ r, a r p * b r (⟨640 + q.val, by omega⟩ : Fin 1024)
      ∧ k0_pay10 (F := Ideal) (k0_pay3 A B) C (ix3 0 p q) = C (ix3 0 p q) + ∑ r, a r p * b r (⟨768 + q.val, by omega⟩ : Fin 1024)
      ∧ k0_pay1 (F := Ideal) (k0_pay3 A B) C (ix3 0 p q) = C (ix3 0 p q) + ∑ r, a r p * b r (⟨896 + q.val, by omega⟩ : Fin 1024) := by
  refine ⟨?_, ?_, ?_, ?_, ?_, ?_, ?_, ?_⟩ <;> pointwise [k0_pay4, k0_pay5, k0_pay6, k0_pay7, k0_pay8, k0_pay9, k0_pay10, k0_pay1, k0_pay3] <;> simp only [hA, hB]
theorem zero (e : Fin 8) (p : Fin 256) (q : Fin 128) : k0_pay2 (F := Ideal) (ix3 e p q) = (0 : EReal) := by
  pointwise [k0_pay2]

variable (m : (ℓ : Loc nD τ sig) → Buf (Elt Ideal) ℓ) (c : Dev nD)

section Steps
variable (t : Fin cfg0.N) (a : Fin 2048 → Fin 256 → EReal) (b : Fin 2048 → Fin 1024 → EReal)
  (hA : ∀ r k, (iblk m c 0 t : Vec Ideal S2048x256 .f32) (ix2 r k) = a r k) (hB : ∀ r k, (iblk m c 1 t : Vec Ideal S2048x1024 .bf16) (ix2 r k) = b r k)

include hA hB in
theorem outs_A (h0 : t.val % 4 = 0) (e : Fin 8) (p : Fin 256) (q : Fin 128) :
    outsAt0 m c t.val t.isLt (ix3 e p q) = ∑ r, a r p * b r (⟨128 * e.val + q.val, by omega⟩ : Fin 1024) := by
  rw [outsAt0_A m c t h0]
  frame_out
  fin_cases e <;> simp [Shard.store, Shard.reload, Shard.whole, pay a b hA hB, zero]
include hA hB in
theorem outs_B (h0 : ¬t.val % 4 = 0) (e : Fin 8) (p : Fin 256) (q : Fin 128) :
    outsAt0 m c t.val t.isLt (ix3 e p q) = outsAt0 m c (t.val - 1) (by omega) (ix3 e p q) + ∑ r, a r p * b r (⟨128 * e.val + q.val, by omega⟩ : Fin 1024) := by
  rw [outsAt0_B m c t h0]
  frame_out
  have l := fun d inb => Shard.load (d := d) (outsAt0 m c (t.val - 1) (by omega)) inb p q
  fin_cases e <;> simp [Shard.store, l, pay a b hA hB]
end Steps

variable (y : Fin 8192 → Fin 1024 → EReal) (x : Fin 8192 → Fin 1024 → EReal) (g : Fin 1024 → EReal) (w : Fin 1024 → Fin 1024 → EReal) (v : Fin 8192 → Fin 256 → EReal)
variable (hY : ∀ a b, m ((c.tc : Thread nD τ).loc main_arg0) (ix2 a b) = y a b)
  (hX : ∀ a b, m ((c.tc : Thread nD τ).loc main_arg1) (ix2 a b) = x a b)
  (hG : ∀ a, m ((c.tc : Thread nD τ).loc main_arg2) (ix1 a) = g a)
  (hW : ∀ a b, m ((c.tc : Thread nD τ).loc main_arg3) (ix2 a b) = w a b)
  (hV : ∀ a b, m ((c.tc : Thread nD τ).loc main_arg4) (ix2 a b) = v a b)

theorem idx : ∀ t : Fin cfg0.N, win0_0.index t = ![t.val % 4, 0] ∧ win0_1.index t = ![t.val % 4, t.val / 4] ∧ win0_2.index t = ![t.val / 4, 0, 0] ∧ t.val < 4 :=
  (by decide +kernel : ∀ t : Fin grid0.N, _)

include hV in
theorem ba_at (s : Fin cfg0.N) (R : ℕ) (j : Fin 4) (hs : s.val = 4 * R + j.val) (r : Fin 2048) (p : Fin 256) :
    (iblk m c 0 s : Vec Ideal S2048x256 .f32) (ix2 r p) = (v) ⟨2048 * j.val + r.val, by omega⟩ p := by
  have e : s.val % 4 = j.val ∧ s.val / 4 = R := by omega
  have f : (win0_0.blk s).view.emb (ix2 r p) = ix2 (⟨2048 * j.val + r.val, by omega⟩ : Fin 8192) p := by blk_ext [idx s, e]
  blk_simp [iblk]
  rw [f]
  entry_read
  clear f
  exact hV _ _
include hY hX hG hW in
theorem bb_at (s : Fin cfg0.N) (R : ℕ) (j : Fin 4) (hs : s.val = 4 * R + j.val) (r : Fin 2048) (q : Fin 1024) :
    (iblk m c 1 s : Vec Ideal S2048x1024 .bf16) (ix2 r q) = (fun n k => y n k * opened (x n) g w k) ⟨2048 * j.val + r.val, by omega⟩ (⟨1024 * R + q.val, by have := (idx s).2.2.2; omega⟩ : Fin 1024) := by
  have e : s.val % 4 = j.val ∧ s.val / 4 = R := by omega
  have f : (win0_1.blk s).view.emb (ix2 r q) = ix2 (⟨2048 * j.val + r.val, by omega⟩ : Fin 8192) (⟨1024 * R + q.val, by have := (idx s).2.2.2; omega⟩ : Fin 1024) := by blk_ext [idx s, e]
  blk_simp [iblk]
  rw [f]
  entry_read
  clear f
  pointwise
  simp only [hY, hX, hG, hW, c_zero, EReal.coe_zero, zero_add]
  rfl

include hY hX hG hW hV in
theorem last (R : ℕ) (h : 4 * R + 3 < cfg0.N) (hN : cfg0.N = 4) (e : Fin 8) (p : Fin 256) (q : Fin 128) :
    outsAt0 m c (4 * R + 3) h (ix3 e p q) = outer (v) (fun n k => y n k * opened (x n) g w k) p ⟨1024 * R + (128 * e.val + q.val), by omega⟩ := by
  have A := fun j (s : Fin cfg0.N) hs => ba_at m c v hV s R j hs
  have B := fun j (s : Fin cfg0.N) hs => bb_at m c y x g w hY hX hG hW s R j hs
  refine Eq.trans ?_ (parts (v) (fun n k => y n k * opened (x n) g w k) p _)
  refine (outs_B m c ⟨4 * R + 3, h⟩ _ _ (A 3 _ rfl) (B 3 _ rfl) (by dsimp only; omega) e p q).trans (congrArg (· + _) ?_)
  refine (outs_B m c ⟨4 * R + 2, by omega⟩ _ _ (A 2 _ rfl) (B 2 _ rfl) (by dsimp only; omega) e p q).trans (congrArg (· + _) ?_)
  refine (outs_B m c ⟨4 * R + 1, by omega⟩ _ _ (A 1 _ rfl) (B 1 _ rfl) (by dsimp only; omega) e p q).trans (congrArg (· + _) ?_)
  exact outs_A m c ⟨4 * R, by omega⟩ _ _ (A 0 _ rfl) (B 0 _ rfl) (by dsimp only; omega) e p q

include hY hX hG hW hV in
theorem final : (dats m 0 c).arrAt 2 (cfgs 0).N = fun i : S8x256x128.Idx => Shard.cols (by decide) (v) (fun n k => y n k * opened (x n) g w k) (i 0) (i 1) (i 2) := by
  refine (dats m 0 c).arrAt_eq_of_covers 2 _ (by decide +kernel) fun s hs y => ?_
  have h := (flush0_2 s).mp hs
  have h4 : s.val = 4 * (s.val / 4) + 3 := by omega
  have hN : cfg0.N = 4 := N_0
  have lt := (idx s).2.2.2
  blk_simp
  rw [after0_2]
  idx_vars y
  have e : ((View.whole main_v22).slice (win0_2.rect s)).emb (ix3 y0 y1 y2) = ix3 (⟨8 * (s.val / 4) + y0.val, by omega⟩ : Fin 8) y1 y2 := by
    blk_ext [idx s]
  rw [e]
  have k : ∀ n (hn : n < cfg0.N), n = 4 * (s.val / 4) + 3 → outsAt0 m c n hn (ix3 y0 y1 y2) = outer (v) (fun n k => y n k * opened (x n) g w k) y1 ⟨1024 * (s.val / 4) + (128 * y0.val + y2.val), by omega⟩ := by
    intro n hn e
    subst e
    exact last m c y x g w v hY hX hG hW hV _ hn hN y0 y1 y2
  refine (k s.val s.isLt h4).trans (congrArg (outer _ _ y1) (Fin.ext ?_))
  show 1024 * (s.val / 4) + (128 * y0.val + y2.val) = (8 * (s.val / 4) + y0.val) * 128 + y2.val
  omega

end Cert.ProjGradIdeal.ProjShards

namespace Cert.ProjShards

open Cert.Fwd Cert.Weight Cert.Lift ProjGradIdeal

/-- The reference runs to the end, leaves its arguments alone and every semaphore at zero. -/
theorem frame : Cert.quiescent_ProjGradRefIdeal := fun m ρ _ =>
  (θ_run _ _ _).mono (fun r h => ⟨fun c => (h c).2, sem_eq_zero_of_no_sems (by decide) r.2⟩) (Cert.ProjGradRefIdeal.Value.run m ρ)

theorem algebraic : Cert.algebraic_ProjGradIdeal_ProjGradRefIdeal := by
  intro m ρ m' ρ' _ hagree
  obtain ⟨y, hY⟩ := rows fun (c : Dev nD) (a : Fin 8192) (b : Fin 1024) => (m ((c.tc : Thread nD τ).loc main_arg0) (ix2 a b) : EReal)
  obtain ⟨x, hX⟩ := rows fun (c : Dev nD) (a : Fin 8192) (b : Fin 1024) => (m ((c.tc : Thread nD τ).loc main_arg1) (ix2 a b) : EReal)
  obtain ⟨g, hG⟩ := row fun (c : Dev nD) (a : Fin 1024) => (m ((c.tc : Thread nD τ).loc main_arg2) (ix1 a) : EReal)
  obtain ⟨w, hW⟩ := rows fun (c : Dev nD) (a : Fin 1024) (b : Fin 1024) => (m ((c.tc : Thread nD τ).loc main_arg3) (ix2 a b) : EReal)
  obtain ⟨v, hV⟩ := rows fun (c : Dev nD) (a : Fin 8192) (b : Fin 256) => (m ((c.tc : Thread nD τ).loc main_arg4) (ix2 a b) : EReal)
  refine ⟨fun c => fun i : S8x256x128.Idx => Shard.cols (by decide) (v c) (fun n k => y c n k * opened (x c n) (g c) (w c) k) (i 0) (i 1) (i 2), ?_, ?_⟩
  · run_from Cert.ProjGradIdeal.Value.run_blocks m ρ
    exact ProjGradIdeal.ProjShards.final m c (y c) (x c) (g c) (w c) (v c) (hY c) (hX c) (hG c) (hW c) (hV c)
  · refine (θ_run _ _ _).mono (fun _ h c => ⟨(h c).1.trans ?_, (h c).2⟩) (Cert.ProjGradRefIdeal.Value.run m' ρ')
    funext i; idx_vars i; clear h; pointwise []
    obtain ⟨e0, e1, e2, e3, e4, e5⟩ := hagree c
    simp only [e0, e1, e2, e3, e4, e5, hY, hX, hG, hW, hV, c_zero, EReal.coe_zero, zero_add]
    exact Finset.sum_congr rfl fun n _ => (mul_comm (G := EReal) _ _).trans (congrArg (v c n i1 * ·) (mul_comm (G := EReal) _ _))

end Cert.ProjShards

end
-- ==== Proof.lean ====
module

public import proofs.«01_k».proof.Defs
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadRefIdeal
public import proofs.«01_k».proof.Proof.Gen.Pre_finite_loss
public import proofs.«01_k».proof.Proof.Gen.LossHeadIdeal.Value
public import proofs.«01_k».proof.Proof.Gen.LossHeadRefIdeal.Run
public import proofs.«01_k».proof.Proof.Gen.FlashBwd
public import proofs.«01_k».proof.Proof.Gen.FlashBwd.Loops
public import proofs.«01_k».proof.Proof.Gen.FlashBwd.Frame
public import proofs.«01_k».proof.Proof.Gen.FlashBwdIdeal
public import proofs.«01_k».proof.Proof.Gen.FlashBwdIdeal.Loops
public import proofs.«01_k».proof.Proof.Gen.FlashBwdIdeal.Frame
public import proofs.«01_k».proof.Proof.Gen.FlashBwdRefIdeal
public import proofs.«01_k».proof.Proof.Gen.Pre_finite_flash
public import proofs.«01_k».proof.Proof.Gen.FlashBwdRefIdeal.Run
public import proofs.«01_k».proof.Proof.LossClaim
public import proofs.«01_k».proof.Proof.FusedFrame
public import proofs.«01_k».proof.Proof.FlashClaim
public import proofs.«01_k».proof.Proof.Gen.QBwd
public import proofs.«01_k».proof.Proof.Gen.QBwd.Frame
public import proofs.«01_k».proof.Proof.Gen.QBwdIdeal
public import proofs.«01_k».proof.Proof.Gen.QBwdIdeal.Frame
public import proofs.«01_k».proof.Proof.Gen.QBwdRefIdeal
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnBwdRefIdeal
public import proofs.«01_k».proof.Proof.Gen.PleBwd
public import proofs.«01_k».proof.Proof.Gen.PleBwd.Frame
public import proofs.«01_k».proof.Proof.Gen.PleBwdIdeal
public import proofs.«01_k».proof.Proof.Gen.PleBwdIdeal.Frame
public import proofs.«01_k».proof.Proof.Gen.PleBwdRefIdeal
public import proofs.«01_k».proof.Proof.Gen.Pre_finite_q
public import proofs.«01_k».proof.Proof.Gen.Pre_finite_ffn
public import proofs.«01_k».proof.Proof.Gen.Pre_finite_ple
public import proofs.«01_k».proof.Proof.Gen.QBwdIdeal.Value
public import proofs.«01_k».proof.Proof.Gen.FfnBwdIdeal.Value
public import proofs.«01_k».proof.Proof.Gen.PleBwdIdeal.Value
public import proofs.«01_k».proof.Proof.Gen.QBwdRefIdeal.Run
public import proofs.«01_k».proof.Proof.Gen.FfnBwdRefIdeal.Run
public import proofs.«01_k».proof.Proof.Gen.PleBwdRefIdeal.Run
public import proofs.«01_k».proof.Proof.QClaim
public import proofs.«01_k».proof.Proof.FfnClaim
public import proofs.«01_k».proof.Proof.PleClaim
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Frame
public import proofs.«01_k».proof.Proof.Gen.OutBwdRefIdeal
public import proofs.«01_k».proof.Proof.Gen.Pre_finite_out
public import proofs.«01_k».proof.Proof.Gen.OutBwdIdeal.Value
public import proofs.«01_k».proof.Proof.Gen.OutBwdRefIdeal.Run
public import proofs.«01_k».proof.Proof.Gen.QFwd
public import proofs.«01_k».proof.Proof.Gen.QFwd.Frame
public import proofs.«01_k».proof.Proof.Gen.QFwdIdeal
public import proofs.«01_k».proof.Proof.Gen.QFwdIdeal.Frame
public import proofs.«01_k».proof.Proof.Gen.QFwdRefIdeal
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdRefIdeal
public import proofs.«01_k».proof.Proof.Gen.PleFwd
public import proofs.«01_k».proof.Proof.Gen.PleFwd.Frame
public import proofs.«01_k».proof.Proof.Gen.PleFwdIdeal
public import proofs.«01_k».proof.Proof.Gen.PleFwdIdeal.Frame
public import proofs.«01_k».proof.Proof.Gen.PleFwdRefIdeal
public import proofs.«01_k».proof.Proof.Gen.QFwdIdeal.Value
public import proofs.«01_k».proof.Proof.Gen.FfnFwdIdeal.Value
public import proofs.«01_k».proof.Proof.Gen.PleFwdIdeal.Value
public import proofs.«01_k».proof.Proof.Gen.QFwdRefIdeal.Run
public import proofs.«01_k».proof.Proof.Gen.FfnFwdRefIdeal.Run
public import proofs.«01_k».proof.Proof.Gen.PleFwdRefIdeal.Run
public import proofs.«01_k».proof.Proof.OutClaim
public import proofs.«01_k».proof.Proof.QueriesClaim
public import proofs.«01_k».proof.Proof.MixerClaim
public import proofs.«01_k».proof.Proof.GatedClaim
public import proofs.«01_k».proof.Proof.Gen.KvFwd
public import proofs.«01_k».proof.Proof.Gen.KvFwd.Frame
public import proofs.«01_k».proof.Proof.Gen.KvFwdIdeal
public import proofs.«01_k».proof.Proof.Gen.KvFwdIdeal.Frame
public import proofs.«01_k».proof.Proof.Gen.KvFwdRefIdeal
public import proofs.«01_k».proof.Proof.Gen.Pre_finite_cache
public import proofs.«01_k».proof.Proof.Gen.KvFwdIdeal.Value
public import proofs.«01_k».proof.Proof.Gen.KvFwdRefIdeal.Run
public import proofs.«01_k».proof.Proof.CacheClaim
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdRefIdeal
public import proofs.«01_k».proof.Proof.Gen.ConvFwdIdeal.Value
public import proofs.«01_k».proof.Proof.Gen.ConvFwdRefIdeal.Run
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Frame
public import proofs.«01_k».proof.Proof.Gen.OutFwdRefIdeal
public import proofs.«01_k».proof.Proof.Gen.OutFwdIdeal.Value
public import proofs.«01_k».proof.Proof.Gen.OutFwdRefIdeal.Run
public import proofs.«01_k».proof.Proof.CausalClaim
public import proofs.«01_k».proof.Proof.ProjectClaim
public import proofs.«01_k».proof.Proof.Gen.OutGrad.Frame
public import proofs.«01_k».proof.Proof.Gen.OutGradIdeal.Value
public import proofs.«01_k».proof.Proof.Gen.OutGradRefIdeal.Run
public import proofs.«01_k».proof.Proof.OutWeight
public import proofs.«01_k».proof.Proof.Gen.QGrad.Frame
public import proofs.«01_k».proof.Proof.Gen.QGradIdeal.Value
public import proofs.«01_k».proof.Proof.Gen.QGradRefIdeal.Run
public import proofs.«01_k».proof.Proof.QueriesWeight
public import proofs.«01_k».proof.Proof.Gen.W2Grad.Frame
public import proofs.«01_k».proof.Proof.Gen.W2GradIdeal.Value
public import proofs.«01_k».proof.Proof.Gen.W2GradRefIdeal.Run
public import proofs.«01_k».proof.Proof.MixerWeight
public import proofs.«01_k».proof.Proof.Gen.CacheGrad.Frame
public import proofs.«01_k».proof.Proof.Gen.CacheGradIdeal.Value
public import proofs.«01_k».proof.Proof.Gen.CacheGradRefIdeal.Run
public import proofs.«01_k».proof.Proof.CacheWeight
public import proofs.«01_k».proof.Proof.Gen.ForgetGrad.Frame
public import proofs.«01_k».proof.Proof.Gen.ForgetGradIdeal.Value
public import proofs.«01_k».proof.Proof.Gen.ForgetGradRefIdeal.Run
public import proofs.«01_k».proof.Proof.ForgetWeight
public import proofs.«01_k».proof.Proof.Gen.GateGrad.Frame
public import proofs.«01_k».proof.Proof.Gen.GateGradIdeal.Value
public import proofs.«01_k».proof.Proof.Gen.GateGradRefIdeal.Run
public import proofs.«01_k».proof.Proof.GateWeight
public import proofs.«01_k».proof.Proof.Gen.W1Grad.Frame
public import proofs.«01_k».proof.Proof.Gen.W1GradIdeal.Value
public import proofs.«01_k».proof.Proof.Gen.W1GradRefIdeal.Run
public import proofs.«01_k».proof.Proof.MixerShards
public import proofs.«01_k».proof.Proof.Gen.ConvGrad.Frame
public import proofs.«01_k».proof.Proof.Gen.ConvGradIdeal.Value
public import proofs.«01_k».proof.Proof.Gen.ConvGradRefIdeal.Run
public import proofs.«01_k».proof.Proof.ConvShards
public import proofs.«01_k».proof.Proof.Gen.ProjGrad.Frame
public import proofs.«01_k».proof.Proof.Gen.ProjGradIdeal.Value
public import proofs.«01_k».proof.Proof.Gen.ProjGradRefIdeal.Run
public import proofs.«01_k».proof.Proof.ProjShards
public import Idealize.ShloMosaic.Adequacy
public import Idealize.ShloMosaic.Init

@[expose] public section

noncomputable section

namespace Cert.Proof

open Idealize.ShloMosaic Idealize.SL.Sem

theorem claim : Cert.Claim := ⟨Cert.LossHead.Gen.facts, Cert.LossHeadIdeal.Gen.facts, Cert.LossHeadRefIdeal.Gen.facts,
  Cert.FlashBwd.Gen.facts, Cert.FlashBwdIdeal.Gen.facts, Cert.FlashBwdRefIdeal.Gen.facts, Cert.QBwd.Gen.facts, Cert.QBwdIdeal.Gen.facts, Cert.QBwdRefIdeal.Gen.facts,
  Cert.FfnBwd.Gen.facts, Cert.FfnBwdIdeal.Gen.facts, Cert.FfnBwdRefIdeal.Gen.facts,
  Cert.PleBwd.Gen.facts, Cert.PleBwdIdeal.Gen.facts, Cert.PleBwdRefIdeal.Gen.facts,
  Cert.OutBwd.Gen.facts, Cert.OutBwdIdeal.Gen.facts, Cert.OutBwdRefIdeal.Gen.facts,
  Cert.QFwd.Gen.facts, Cert.QFwdIdeal.Gen.facts, Cert.QFwdRefIdeal.Gen.facts,
  Cert.FfnFwd.Gen.facts, Cert.FfnFwdIdeal.Gen.facts, Cert.FfnFwdRefIdeal.Gen.facts,
  Cert.PleFwd.Gen.facts, Cert.PleFwdIdeal.Gen.facts, Cert.PleFwdRefIdeal.Gen.facts,
  Cert.KvFwd.Gen.facts, Cert.KvFwdIdeal.Gen.facts, Cert.KvFwdRefIdeal.Gen.facts,
  Cert.ConvFwd.Gen.facts, Cert.ConvFwdIdeal.Gen.facts, Cert.ConvFwdRefIdeal.Gen.facts,
  Cert.OutFwd.Gen.facts, Cert.OutFwdIdeal.Gen.facts, Cert.OutFwdRefIdeal.Gen.facts,
  Cert.OutGrad.Gen.facts, Cert.OutGradIdeal.Gen.facts, Cert.OutGradRefIdeal.Gen.facts,
  Cert.QGrad.Gen.facts, Cert.QGradIdeal.Gen.facts, Cert.QGradRefIdeal.Gen.facts,
  Cert.W2Grad.Gen.facts, Cert.W2GradIdeal.Gen.facts, Cert.W2GradRefIdeal.Gen.facts,
  Cert.CacheGrad.Gen.facts, Cert.CacheGradIdeal.Gen.facts, Cert.CacheGradRefIdeal.Gen.facts,
  Cert.ForgetGrad.Gen.facts, Cert.ForgetGradIdeal.Gen.facts, Cert.ForgetGradRefIdeal.Gen.facts,
  Cert.GateGrad.Gen.facts, Cert.GateGradIdeal.Gen.facts, Cert.GateGradRefIdeal.Gen.facts,
  Cert.W1Grad.Gen.facts, Cert.W1GradIdeal.Gen.facts, Cert.W1GradRefIdeal.Gen.facts,
  Cert.ConvGrad.Gen.facts, Cert.ConvGradIdeal.Gen.facts, Cert.ConvGradRefIdeal.Gen.facts,
  Cert.ProjGrad.Gen.facts, Cert.ProjGradIdeal.Gen.facts, Cert.ProjGradRefIdeal.Gen.facts,
  Cert.Pre_finite_loss.Gen.facts, Cert.Pre_finite_flash.Gen.facts, Cert.Pre_finite_q.Gen.facts, Cert.Pre_finite_ffn.Gen.facts, Cert.Pre_finite_ple.Gen.facts, Cert.Pre_finite_out.Gen.facts, Cert.Pre_finite_cache.Gen.facts,
  fun m ρ _ => Cert.LossHead.Gen.frame m ρ,
  fun m ρ _ => Cert.LossHeadIdeal.Gen.frame m ρ,
  fun m ρ _ => Cert.LossHeadIdeal.Gen.frame m ρ,
  fun m ρ _ => Cert.Loss.frame m ρ trivial,
  fun m ρ _ => Cert.Loss.frame m ρ trivial,
  fun m ρ _ => Cert.FlashBwd.Flash.frame m ρ,
  fun m ρ _ => Cert.FlashBwdIdeal.Flash.frame m ρ,
  fun m ρ _ => Cert.FlashBwdIdeal.Flash.frame m ρ,
  fun m ρ _ => Cert.Flash.refFrame m ρ trivial,
  fun m ρ _ => Cert.Flash.refFrame m ρ trivial,
  fun m ρ _ => Cert.QBwd.Gen.frame m ρ,
  fun m ρ _ => Cert.QBwdIdeal.Gen.frame m ρ,
  fun m ρ _ => Cert.QBwdIdeal.Gen.frame m ρ,
  fun m ρ _ => Cert.Query.frame m ρ trivial,
  fun m ρ _ => Cert.Query.frame m ρ trivial,
  fun m ρ _ => Cert.FfnBwd.Gen.frame m ρ,
  fun m ρ _ => Cert.FfnBwdIdeal.Gen.frame m ρ,
  fun m ρ _ => Cert.FfnBwdIdeal.Gen.frame m ρ,
  fun m ρ _ => Cert.Ffn.frame m ρ trivial,
  fun m ρ _ => Cert.Ffn.frame m ρ trivial,
  fun m ρ _ => Cert.PleBwd.Gen.frame m ρ,
  fun m ρ _ => Cert.PleBwdIdeal.Gen.frame m ρ,
  fun m ρ _ => Cert.PleBwdIdeal.Gen.frame m ρ,
  fun m ρ _ => Cert.Ple.frame m ρ trivial,
  fun m ρ _ => Cert.Ple.frame m ρ trivial,
  fun m ρ _ => Cert.OutBwd.Gen.frame m ρ,
  fun m ρ _ => Cert.OutBwdIdeal.Gen.frame m ρ,
  fun m ρ _ => Cert.OutBwdIdeal.Gen.frame m ρ,
  fun m ρ _ => Cert.Out.frame m ρ trivial,
  fun m ρ _ => Cert.Out.frame m ρ trivial,
  fun m ρ _ => Cert.QFwd.Gen.frame m ρ,
  fun m ρ _ => Cert.QFwdIdeal.Gen.frame m ρ,
  Cert.Queries.frame,
  fun m ρ _ => Cert.FfnFwd.Gen.frame m ρ,
  fun m ρ _ => Cert.FfnFwdIdeal.Gen.frame m ρ,
  Cert.Mixer.frame,
  fun m ρ _ => Cert.PleFwd.Gen.frame m ρ,
  fun m ρ _ => Cert.PleFwdIdeal.Gen.frame m ρ,
  Cert.Gated.frame,
  fun m ρ _ => Cert.KvFwd.Gen.frame m ρ,
  fun m ρ _ => Cert.KvFwdIdeal.Gen.frame m ρ,
  fun m ρ _ => Cert.KvFwdIdeal.Gen.frame m ρ,
  fun m ρ _ => Cert.Cache.frame m ρ trivial,
  fun m ρ _ => Cert.Cache.frame m ρ trivial,
  fun m ρ _ => Cert.ConvFwd.Gen.frame m ρ,
  fun m ρ _ => Cert.ConvFwdIdeal.Gen.frame m ρ,
  Cert.Causal.frame,
  fun m ρ _ => Cert.OutFwd.Gen.frame m ρ,
  fun m ρ _ => Cert.OutFwdIdeal.Gen.frame m ρ,
  Cert.Project.frame,
  fun m ρ _ => Cert.OutGrad.Gen.frame m ρ,
  fun m ρ _ => Cert.OutGradIdeal.Gen.frame m ρ,
  Cert.OutWeight.frame,
  fun m ρ _ => Cert.QGrad.Gen.frame m ρ,
  fun m ρ _ => Cert.QGradIdeal.Gen.frame m ρ,
  Cert.QueriesWeight.frame,
  fun m ρ _ => Cert.W2Grad.Gen.frame m ρ,
  fun m ρ _ => Cert.W2GradIdeal.Gen.frame m ρ,
  Cert.MixerWeight.frame,
  fun m ρ _ => Cert.CacheGrad.Gen.frame m ρ,
  fun m ρ _ => Cert.CacheGradIdeal.Gen.frame m ρ,
  Cert.CacheWeight.frame,
  fun m ρ _ => Cert.ForgetGrad.Gen.frame m ρ,
  fun m ρ _ => Cert.ForgetGradIdeal.Gen.frame m ρ,
  Cert.ForgetWeight.frame,
  fun m ρ _ => Cert.GateGrad.Gen.frame m ρ,
  fun m ρ _ => Cert.GateGradIdeal.Gen.frame m ρ,
  Cert.GateWeight.frame,
  fun m ρ _ => Cert.W1Grad.Gen.frame m ρ,
  fun m ρ _ => Cert.W1GradIdeal.Gen.frame m ρ,
  Cert.MixerShards.frame,
  fun m ρ _ => Cert.ConvGrad.Gen.frame m ρ,
  fun m ρ _ => Cert.ConvGradIdeal.Gen.frame m ρ,
  Cert.ConvShards.frame,
  fun m ρ _ => Cert.ProjGrad.Gen.frame m ρ,
  fun m ρ _ => Cert.ProjGradIdeal.Gen.frame m ρ,
  Cert.ProjShards.frame,
  trivial,
  Cert.Loss.algebraic,
  Cert.Flash.preserves,
  Cert.Flash.algebraic,
  trivial,
  Cert.Query.algebraic,
  trivial,
  Cert.Ffn.algebraic,
  trivial,
  Cert.Ple.algebraic,
  trivial,
  Cert.Out.algebraic,
  trivial,
  Cert.Queries.algebraic,
  trivial,
  Cert.Mixer.algebraic,
  trivial,
  Cert.Gated.algebraic,
  trivial,
  Cert.Cache.algebraic,
  trivial,
  Cert.Causal.algebraic,
  trivial,
  Cert.Project.algebraic,
  trivial,
  Cert.OutWeight.algebraic,
  trivial,
  Cert.QueriesWeight.algebraic,
  trivial,
  Cert.MixerWeight.algebraic,
  trivial,
  Cert.CacheWeight.algebraic,
  trivial,
  Cert.ForgetWeight.algebraic,
  trivial,
  Cert.GateWeight.algebraic,
  trivial,
  Cert.MixerShards.algebraic,
  trivial,
  Cert.ConvShards.algebraic,
  trivial,
  Cert.ProjShards.algebraic⟩

end Cert.Proof

end
